-- ==== Defs.lean ====
def Pre_Kernel (m : (ℓ : Loc Cert.Kernel.nD Cert.Kernel.τ Cert.Kernel.sig) → Buf (Elt Bits) ℓ) : Prop :=
  True

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal [hPre_finite_fwd : Cert.Pre_finite_fwd.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_finite_fwd.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7))) = (fun _ => 1#1)

def Pre_FfnFwdIdeal_none (m : (ℓ : Loc Cert.FfnFwdIdeal.nD Cert.FfnFwdIdeal.τ Cert.FfnFwdIdeal.sig) → Buf (Elt Ideal) ℓ) : Prop :=
  True

def Pre_FfnFwdRefIdeal [hPre_finite_fwd : Cert.Pre_finite_fwd.Facts] (m : (ℓ : Loc Cert.FfnFwdRefIdeal.nD Cert.FfnFwdRefIdeal.τ Cert.FfnFwdRefIdeal.sig) → Buf (Elt Ideal) ℓ) : Prop :=
  ∀ c : Dev Cert.FfnFwdRefIdeal.nD,
    (Cert.Pre_finite_fwd.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6)) (m ((c.tc : Thread Cert.FfnFwdRefIdeal.nD Cert.FfnFwdRefIdeal.τ).loc Cert.FfnFwdRefIdeal.main_arg7))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6)
      ∧ r.2.mem ((c.tc : Thread Cert.FfnFwd.nD Cert.FfnFwd.τ).loc Cert.FfnFwd.main_arg7) = m ((c.tc : Thread Cert.FfnFwd.nD Cert.FfnFwd.τ).loc Cert.FfnFwd.main_arg7))
      ∧ r.2.sem = fun _ => 0)

def quiescent_FfnFwdIdeal [hFfnFwdIdeal : Cert.FfnFwdIdeal.Facts] [hPre_finite_fwd : Cert.Pre_finite_fwd.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
      ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7))
      ∧ r.2.sem = fun _ => 0)

def quiescent_FfnFwdIdeal_pre_none [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_none m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
      ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7))
      ∧ r.2.sem = fun _ => 0)

def quiescent_FfnFwdRefIdeal [hFfnFwdRefIdeal : Cert.FfnFwdRefIdeal.Facts] [hPre_finite_fwd : Cert.Pre_finite_fwd.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6)
      ∧ r.2.mem ((c.tc : Thread Cert.FfnFwdRefIdeal.nD Cert.FfnFwdRefIdeal.τ).loc Cert.FfnFwdRefIdeal.main_arg7) = m ((c.tc : Thread Cert.FfnFwdRefIdeal.nD Cert.FfnFwdRefIdeal.τ).loc Cert.FfnFwdRefIdeal.main_arg7))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)) (v4 : (c : Dev Cert.KernelIdeal.nD) → Buf (Elt Ideal) ((c.tc : Thread Cert.KernelIdeal.nD Cert.KernelIdeal.τ).loc Cert.KernelIdeal.main_v18_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_v18_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v15)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v15) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v18) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v15)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v15) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v18) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] [hPre_finite_fwd : Cert.Pre_finite_fwd.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)
      ∧ m' ((c.tc : Thread Cert.FfnFwdRefIdeal.nD Cert.FfnFwdRefIdeal.τ).loc Cert.FfnFwdRefIdeal.main_arg7) = m ((c.tc : Thread Cert.FfnFwdIdeal.nD Cert.FfnFwdIdeal.τ).loc Cert.FfnFwdIdeal.main_arg7)) →
    ∃ (v0 : (c : Dev Cert.FfnFwdIdeal.nD) → Buf (Elt Ideal) ((c.tc : Thread Cert.FfnFwdIdeal.nD Cert.FfnFwdIdeal.τ).loc Cert.FfnFwdIdeal.main_v4_0)) (v1 : (c : Dev Cert.FfnFwdIdeal.nD) → Buf (Elt Ideal) ((c.tc : Thread Cert.FfnFwdIdeal.nD Cert.FfnFwdIdeal.τ).loc Cert.FfnFwdIdeal.main_v4_1)) (v2 : (c : Dev Cert.FfnFwdIdeal.nD) → Buf (Elt Ideal) ((c.tc : Thread Cert.FfnFwdIdeal.nD Cert.FfnFwdIdeal.τ).loc Cert.FfnFwdIdeal.main_v4_2)) (v3 : (c : Dev Cert.FfnFwdIdeal.nD) → Buf (Elt Ideal) ((c.tc : Thread Cert.FfnFwdIdeal.nD Cert.FfnFwdIdeal.τ).loc Cert.FfnFwdIdeal.main_v4_3)) (v4 : (c : Dev Cert.FfnFwdIdeal.nD) → Buf (Elt Ideal) ((c.tc : Thread Cert.FfnFwdIdeal.nD Cert.FfnFwdIdeal.τ).loc Cert.FfnFwdIdeal.main_v4_4)) (v5 : (c : Dev Cert.FfnFwdIdeal.nD) → Buf (Elt Ideal) ((c.tc : Thread Cert.FfnFwdIdeal.nD Cert.FfnFwdIdeal.τ).loc Cert.FfnFwdIdeal.main_v4_5)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v4_0) = v0 c
          ∧ r.2.mem ((c.tc : Thread Cert.FfnFwdIdeal.nD Cert.FfnFwdIdeal.τ).loc Cert.FfnFwdIdeal.main_v4_1) = v1 c
          ∧ r.2.mem ((c.tc : Thread Cert.FfnFwdIdeal.nD Cert.FfnFwdIdeal.τ).loc Cert.FfnFwdIdeal.main_v4_2) = v2 c
          ∧ r.2.mem ((c.tc : Thread Cert.FfnFwdIdeal.nD Cert.FfnFwdIdeal.τ).loc Cert.FfnFwdIdeal.main_v4_3) = v3 c
          ∧ r.2.mem ((c.tc : Thread Cert.FfnFwdIdeal.nD Cert.FfnFwdIdeal.τ).loc Cert.FfnFwdIdeal.main_v4_4) = v4 c
          ∧ r.2.mem ((c.tc : Thread Cert.FfnFwdIdeal.nD Cert.FfnFwdIdeal.τ).loc Cert.FfnFwdIdeal.main_v4_5) = v5 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
          ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v116) = v0 c
          ∧ r.2.mem ((c.tc : Thread Cert.FfnFwdRefIdeal.nD Cert.FfnFwdRefIdeal.τ).loc Cert.FfnFwdRefIdeal.main_v117) = v1 c
          ∧ r.2.mem ((c.tc : Thread Cert.FfnFwdRefIdeal.nD Cert.FfnFwdRefIdeal.τ).loc Cert.FfnFwdRefIdeal.main_v119) = v2 c
          ∧ r.2.mem ((c.tc : Thread Cert.FfnFwdRefIdeal.nD Cert.FfnFwdRefIdeal.τ).loc Cert.FfnFwdRefIdeal.main_v93) = v3 c
          ∧ r.2.mem ((c.tc : Thread Cert.FfnFwdRefIdeal.nD Cert.FfnFwdRefIdeal.τ).loc Cert.FfnFwdRefIdeal.main_v114) = v4 c
          ∧ r.2.mem ((c.tc : Thread Cert.FfnFwdRefIdeal.nD Cert.FfnFwdRefIdeal.τ).loc Cert.FfnFwdRefIdeal.main_v77) = v5 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6)
          ∧ r.2.mem ((c.tc : Thread Cert.FfnFwdRefIdeal.nD Cert.FfnFwdRefIdeal.τ).loc Cert.FfnFwdRefIdeal.main_arg7) = m' ((c.tc : Thread Cert.FfnFwdRefIdeal.nD Cert.FfnFwdRefIdeal.τ).loc Cert.FfnFwdRefIdeal.main_arg7))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_arg1) = v0 c
          ∧ r.2.mem ((c.tc : Thread Cert.AdamInRefIdeal.nD Cert.AdamInRefIdeal.τ).loc Cert.AdamInRefIdeal.main_v23) = v1 c
          ∧ r.2.mem ((c.tc : Thread Cert.AdamInRefIdeal.nD Cert.AdamInRefIdeal.τ).loc Cert.AdamInRefIdeal.main_v4) = v2 c
          ∧ r.2.mem ((c.tc : Thread Cert.AdamInRefIdeal.nD Cert.AdamInRefIdeal.τ).loc Cert.AdamInRefIdeal.main_v10) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_arg1) = v0 c
          ∧ r.2.mem ((c.tc : Thread Cert.AdamOutRefIdeal.nD Cert.AdamOutRefIdeal.τ).loc Cert.AdamOutRefIdeal.main_v23) = v1 c
          ∧ r.2.mem ((c.tc : Thread Cert.AdamOutRefIdeal.nD Cert.AdamOutRefIdeal.τ).loc Cert.AdamOutRefIdeal.main_v4) = v2 c
          ∧ r.2.mem ((c.tc : Thread Cert.AdamOutRefIdeal.nD Cert.AdamOutRefIdeal.τ).loc Cert.AdamOutRefIdeal.main_v10) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_arg1) = v0 c
          ∧ r.2.mem ((c.tc : Thread Cert.AdamUpRefIdeal.nD Cert.AdamUpRefIdeal.τ).loc Cert.AdamUpRefIdeal.main_v23) = v1 c
          ∧ r.2.mem ((c.tc : Thread Cert.AdamUpRefIdeal.nD Cert.AdamUpRefIdeal.τ).loc Cert.AdamUpRefIdeal.main_v4) = v2 c
          ∧ r.2.mem ((c.tc : Thread Cert.AdamUpRefIdeal.nD Cert.AdamUpRefIdeal.τ).loc Cert.AdamUpRefIdeal.main_v10) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_arg1) = v0 c
          ∧ r.2.mem ((c.tc : Thread Cert.AdamDownRefIdeal.nD Cert.AdamDownRefIdeal.τ).loc Cert.AdamDownRefIdeal.main_v23) = v1 c
          ∧ r.2.mem ((c.tc : Thread Cert.AdamDownRefIdeal.nD Cert.AdamDownRefIdeal.τ).loc Cert.AdamDownRefIdeal.main_v4) = v2 c
          ∧ r.2.mem ((c.tc : Thread Cert.AdamDownRefIdeal.nD Cert.AdamDownRefIdeal.τ).loc Cert.AdamDownRefIdeal.main_v10) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)) (v4 : (c : Dev Cert.AdamSmallIdeal.nD) → Buf (Elt Ideal) ((c.tc : Thread Cert.AdamSmallIdeal.nD Cert.AdamSmallIdeal.τ).loc Cert.AdamSmallIdeal.main_v0_4)) (v5 : (c : Dev Cert.AdamSmallIdeal.nD) → Buf (Elt Ideal) ((c.tc : Thread Cert.AdamSmallIdeal.nD Cert.AdamSmallIdeal.τ).loc Cert.AdamSmallIdeal.main_v0_5)) (v6 : (c : Dev Cert.AdamSmallIdeal.nD) → Buf (Elt Ideal) ((c.tc : Thread Cert.AdamSmallIdeal.nD Cert.AdamSmallIdeal.τ).loc Cert.AdamSmallIdeal.main_v0_6)) (v7 : (c : Dev Cert.AdamSmallIdeal.nD) → Buf (Elt Ideal) ((c.tc : Thread Cert.AdamSmallIdeal.nD Cert.AdamSmallIdeal.τ).loc Cert.AdamSmallIdeal.main_v0_7)) (v8 : (c : Dev Cert.AdamSmallIdeal.nD) → Buf (Elt Ideal) ((c.tc : Thread Cert.AdamSmallIdeal.nD Cert.AdamSmallIdeal.τ).loc Cert.AdamSmallIdeal.main_v0_8)) (v9 : (c : Dev Cert.AdamSmallIdeal.nD) → Buf (Elt Ideal) ((c.tc : Thread Cert.AdamSmallIdeal.nD Cert.AdamSmallIdeal.τ).loc Cert.AdamSmallIdeal.main_v0_9)) (v10 : (c : Dev Cert.AdamSmallIdeal.nD) → Buf (Elt Ideal) ((c.tc : Thread Cert.AdamSmallIdeal.nD Cert.AdamSmallIdeal.τ).loc Cert.AdamSmallIdeal.main_v0_10)) (v11 : (c : Dev Cert.AdamSmallIdeal.nD) → Buf (Elt Ideal) ((c.tc : Thread Cert.AdamSmallIdeal.nD Cert.AdamSmallIdeal.τ).loc Cert.AdamSmallIdeal.main_v0_11)) (v12 : (c : Dev Cert.AdamSmallIdeal.nD) → Buf (Elt Ideal) ((c.tc : Thread Cert.AdamSmallIdeal.nD Cert.AdamSmallIdeal.τ).loc Cert.AdamSmallIdeal.main_v0_12)) (v13 : (c : Dev Cert.AdamSmallIdeal.nD) → Buf (Elt Ideal) ((c.tc : Thread Cert.AdamSmallIdeal.nD Cert.AdamSmallIdeal.τ).loc Cert.AdamSmallIdeal.main_v0_13)) (v14 : (c : Dev Cert.AdamSmallIdeal.nD) → Buf (Elt Ideal) ((c.tc : Thread Cert.AdamSmallIdeal.nD Cert.AdamSmallIdeal.τ).loc Cert.AdamSmallIdeal.main_v0_14)) (v15 : (c : Dev Cert.AdamSmallIdeal.nD) → Buf (Elt Ideal) ((c.tc : Thread Cert.AdamSmallIdeal.nD Cert.AdamSmallIdeal.τ).loc Cert.AdamSmallIdeal.main_v0_15)) (v16 : (c : Dev Cert.AdamSmallIdeal.nD) → Buf (Elt Ideal) ((c.tc : Thread Cert.AdamSmallIdeal.nD Cert.AdamSmallIdeal.τ).loc Cert.AdamSmallIdeal.main_v0_16)) (v17 : (c : Dev Cert.AdamSmallIdeal.nD) → Buf (Elt Ideal) ((c.tc : Thread Cert.AdamSmallIdeal.nD Cert.AdamSmallIdeal.τ).loc Cert.AdamSmallIdeal.main_v0_17)) (v18 : (c : Dev Cert.AdamSmallIdeal.nD) → Buf (Elt Ideal) ((c.tc : Thread Cert.AdamSmallIdeal.nD Cert.AdamSmallIdeal.τ).loc Cert.AdamSmallIdeal.main_v0_18)) (v19 : (c : Dev Cert.AdamSmallIdeal.nD) → Buf (Elt Ideal) ((c.tc : Thread Cert.AdamSmallIdeal.nD Cert.AdamSmallIdeal.τ).loc Cert.AdamSmallIdeal.main_v0_19)) (v20 : (c : Dev Cert.AdamSmallIdeal.nD) → Buf (Elt Ideal) ((c.tc : Thread Cert.AdamSmallIdeal.nD Cert.AdamSmallIdeal.τ).loc Cert.AdamSmallIdeal.main_v0_20)) (v21 : (c : Dev Cert.AdamSmallIdeal.nD) → Buf (Elt Ideal) ((c.tc : Thread Cert.AdamSmallIdeal.nD Cert.AdamSmallIdeal.τ).loc Cert.AdamSmallIdeal.main_v0_21)) (v22 : (c : Dev Cert.AdamSmallIdeal.nD) → Buf (Elt Ideal) ((c.tc : Thread Cert.AdamSmallIdeal.nD Cert.AdamSmallIdeal.τ).loc Cert.AdamSmallIdeal.main_v0_22)) (v23 : (c : Dev Cert.AdamSmallIdeal.nD) → Buf (Elt Ideal) ((c.tc : Thread Cert.AdamSmallIdeal.nD Cert.AdamSmallIdeal.τ).loc Cert.AdamSmallIdeal.main_v0_23)) (v24 : (c : Dev Cert.AdamSmallIdeal.nD) → Buf (Elt Ideal) ((c.tc : Thread Cert.AdamSmallIdeal.nD Cert.AdamSmallIdeal.τ).loc Cert.AdamSmallIdeal.main_v0_24)) (v25 : (c : Dev Cert.AdamSmallIdeal.nD) → Buf (Elt Ideal) ((c.tc : Thread Cert.AdamSmallIdeal.nD Cert.AdamSmallIdeal.τ).loc Cert.AdamSmallIdeal.main_v0_25)) (v26 : (c : Dev Cert.AdamSmallIdeal.nD) → Buf (Elt Ideal) ((c.tc : Thread Cert.AdamSmallIdeal.nD Cert.AdamSmallIdeal.τ).loc Cert.AdamSmallIdeal.main_v0_26)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_v0_4) = v4 c
          ∧ r.2.mem ((c.tc : Thread Cert.AdamSmallIdeal.nD Cert.AdamSmallIdeal.τ).loc Cert.AdamSmallIdeal.main_v0_5) = v5 c
          ∧ r.2.mem ((c.tc : Thread Cert.AdamSmallIdeal.nD Cert.AdamSmallIdeal.τ).loc Cert.AdamSmallIdeal.main_v0_6) = v6 c
          ∧ r.2.mem ((c.tc : Thread Cert.AdamSmallIdeal.nD Cert.AdamSmallIdeal.τ).loc Cert.AdamSmallIdeal.main_v0_7) = v7 c
          ∧ r.2.mem ((c.tc : Thread Cert.AdamSmallIdeal.nD Cert.AdamSmallIdeal.τ).loc Cert.AdamSmallIdeal.main_v0_8) = v8 c
          ∧ r.2.mem ((c.tc : Thread Cert.AdamSmallIdeal.nD Cert.AdamSmallIdeal.τ).loc Cert.AdamSmallIdeal.main_v0_9) = v9 c
          ∧ r.2.mem ((c.tc : Thread Cert.AdamSmallIdeal.nD Cert.AdamSmallIdeal.τ).loc Cert.AdamSmallIdeal.main_v0_10) = v10 c
          ∧ r.2.mem ((c.tc : Thread Cert.AdamSmallIdeal.nD Cert.AdamSmallIdeal.τ).loc Cert.AdamSmallIdeal.main_v0_11) = v11 c
          ∧ r.2.mem ((c.tc : Thread Cert.AdamSmallIdeal.nD Cert.AdamSmallIdeal.τ).loc Cert.AdamSmallIdeal.main_v0_12) = v12 c
          ∧ r.2.mem ((c.tc : Thread Cert.AdamSmallIdeal.nD Cert.AdamSmallIdeal.τ).loc Cert.AdamSmallIdeal.main_v0_13) = v13 c
          ∧ r.2.mem ((c.tc : Thread Cert.AdamSmallIdeal.nD Cert.AdamSmallIdeal.τ).loc Cert.AdamSmallIdeal.main_v0_14) = v14 c
          ∧ r.2.mem ((c.tc : Thread Cert.AdamSmallIdeal.nD Cert.AdamSmallIdeal.τ).loc Cert.AdamSmallIdeal.main_v0_15) = v15 c
          ∧ r.2.mem ((c.tc : Thread Cert.AdamSmallIdeal.nD Cert.AdamSmallIdeal.τ).loc Cert.AdamSmallIdeal.main_v0_16) = v16 c
          ∧ r.2.mem ((c.tc : Thread Cert.AdamSmallIdeal.nD Cert.AdamSmallIdeal.τ).loc Cert.AdamSmallIdeal.main_v0_17) = v17 c
          ∧ r.2.mem ((c.tc : Thread Cert.AdamSmallIdeal.nD Cert.AdamSmallIdeal.τ).loc Cert.AdamSmallIdeal.main_v0_18) = v18 c
          ∧ r.2.mem ((c.tc : Thread Cert.AdamSmallIdeal.nD Cert.AdamSmallIdeal.τ).loc Cert.AdamSmallIdeal.main_v0_19) = v19 c
          ∧ r.2.mem ((c.tc : Thread Cert.AdamSmallIdeal.nD Cert.AdamSmallIdeal.τ).loc Cert.AdamSmallIdeal.main_v0_20) = v20 c
          ∧ r.2.mem ((c.tc : Thread Cert.AdamSmallIdeal.nD Cert.AdamSmallIdeal.τ).loc Cert.AdamSmallIdeal.main_v0_21) = v21 c
          ∧ r.2.mem ((c.tc : Thread Cert.AdamSmallIdeal.nD Cert.AdamSmallIdeal.τ).loc Cert.AdamSmallIdeal.main_v0_22) = v22 c
          ∧ r.2.mem ((c.tc : Thread Cert.AdamSmallIdeal.nD Cert.AdamSmallIdeal.τ).loc Cert.AdamSmallIdeal.main_v0_23) = v23 c
          ∧ r.2.mem ((c.tc : Thread Cert.AdamSmallIdeal.nD Cert.AdamSmallIdeal.τ).loc Cert.AdamSmallIdeal.main_v0_24) = v24 c
          ∧ r.2.mem ((c.tc : Thread Cert.AdamSmallIdeal.nD Cert.AdamSmallIdeal.τ).loc Cert.AdamSmallIdeal.main_v0_25) = v25 c
          ∧ r.2.mem ((c.tc : Thread Cert.AdamSmallIdeal.nD Cert.AdamSmallIdeal.τ).loc Cert.AdamSmallIdeal.main_v0_26) = v26 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_v47) = v3 c
          ∧ r.2.mem ((c.tc : Thread Cert.AdamSmallRefIdeal.nD Cert.AdamSmallRefIdeal.τ).loc Cert.AdamSmallRefIdeal.main_v28) = v4 c
          ∧ r.2.mem ((c.tc : Thread Cert.AdamSmallRefIdeal.nD Cert.AdamSmallRefIdeal.τ).loc Cert.AdamSmallRefIdeal.main_v34) = v5 c
          ∧ r.2.mem ((c.tc : Thread Cert.AdamSmallRefIdeal.nD Cert.AdamSmallRefIdeal.τ).loc Cert.AdamSmallRefIdeal.main_v71) = v6 c
          ∧ r.2.mem ((c.tc : Thread Cert.AdamSmallRefIdeal.nD Cert.AdamSmallRefIdeal.τ).loc Cert.AdamSmallRefIdeal.main_v52) = v7 c
          ∧ r.2.mem ((c.tc : Thread Cert.AdamSmallRefIdeal.nD Cert.AdamSmallRefIdeal.τ).loc Cert.AdamSmallRefIdeal.main_v58) = v8 c
          ∧ r.2.mem ((c.tc : Thread Cert.AdamSmallRefIdeal.nD Cert.AdamSmallRefIdeal.τ).loc Cert.AdamSmallRefIdeal.main_v95) = v9 c
          ∧ r.2.mem ((c.tc : Thread Cert.AdamSmallRefIdeal.nD Cert.AdamSmallRefIdeal.τ).loc Cert.AdamSmallRefIdeal.main_v76) = v10 c
          ∧ r.2.mem ((c.tc : Thread Cert.AdamSmallRefIdeal.nD Cert.AdamSmallRefIdeal.τ).loc Cert.AdamSmallRefIdeal.main_v82) = v11 c
          ∧ r.2.mem ((c.tc : Thread Cert.AdamSmallRefIdeal.nD Cert.AdamSmallRefIdeal.τ).loc Cert.AdamSmallRefIdeal.main_v119) = v12 c
          ∧ r.2.mem ((c.tc : Thread Cert.AdamSmallRefIdeal.nD Cert.AdamSmallRefIdeal.τ).loc Cert.AdamSmallRefIdeal.main_v100) = v13 c
          ∧ r.2.mem ((c.tc : Thread Cert.AdamSmallRefIdeal.nD Cert.AdamSmallRefIdeal.τ).loc Cert.AdamSmallRefIdeal.main_v106) = v14 c
          ∧ r.2.mem ((c.tc : Thread Cert.AdamSmallRefIdeal.nD Cert.AdamSmallRefIdeal.τ).loc Cert.AdamSmallRefIdeal.main_v143) = v15 c
          ∧ r.2.mem ((c.tc : Thread Cert.AdamSmallRefIdeal.nD Cert.AdamSmallRefIdeal.τ).loc Cert.AdamSmallRefIdeal.main_v124) = v16 c
          ∧ r.2.mem ((c.tc : Thread Cert.AdamSmallRefIdeal.nD Cert.AdamSmallRefIdeal.τ).loc Cert.AdamSmallRefIdeal.main_v130) = v17 c
          ∧ r.2.mem ((c.tc : Thread Cert.AdamSmallRefIdeal.nD Cert.AdamSmallRefIdeal.τ).loc Cert.AdamSmallRefIdeal.main_v167) = v18 c
          ∧ r.2.mem ((c.tc : Thread Cert.AdamSmallRefIdeal.nD Cert.AdamSmallRefIdeal.τ).loc Cert.AdamSmallRefIdeal.main_v148) = v19 c
          ∧ r.2.mem ((c.tc : Thread Cert.AdamSmallRefIdeal.nD Cert.AdamSmallRefIdeal.τ).loc Cert.AdamSmallRefIdeal.main_v154) = v20 c
          ∧ r.2.mem ((c.tc : Thread Cert.AdamSmallRefIdeal.nD Cert.AdamSmallRefIdeal.τ).loc Cert.AdamSmallRefIdeal.main_v191) = v21 c
          ∧ r.2.mem ((c.tc : Thread Cert.AdamSmallRefIdeal.nD Cert.AdamSmallRefIdeal.τ).loc Cert.AdamSmallRefIdeal.main_v172) = v22 c
          ∧ r.2.mem ((c.tc : Thread Cert.AdamSmallRefIdeal.nD Cert.AdamSmallRefIdeal.τ).loc Cert.AdamSmallRefIdeal.main_v178) = v23 c
          ∧ r.2.mem ((c.tc : Thread Cert.AdamSmallRefIdeal.nD Cert.AdamSmallRefIdeal.τ).loc Cert.AdamSmallRefIdeal.main_v215) = v24 c
          ∧ r.2.mem ((c.tc : Thread Cert.AdamSmallRefIdeal.nD Cert.AdamSmallRefIdeal.τ).loc Cert.AdamSmallRefIdeal.main_v196) = v25 c
          ∧ r.2.mem ((c.tc : Thread Cert.AdamSmallRefIdeal.nD Cert.AdamSmallRefIdeal.τ).loc Cert.AdamSmallRefIdeal.main_v202) = v26 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35))

def Claim : Prop :=
  ∃ (hKernel : Cert.Kernel.Facts) (hKernelIdeal : Cert.KernelIdeal.Facts) (hReferenceIdeal : Cert.ReferenceIdeal.Facts) (hDwIn : Cert.DwIn.Facts) (hDwInIdeal : Cert.DwInIdeal.Facts) (hDwInRefIdeal : Cert.DwInRefIdeal.Facts) (hDwUp : Cert.DwUp.Facts) (hDwUpIdeal : Cert.DwUpIdeal.Facts) (hDwUpRefIdeal : Cert.DwUpRefIdeal.Facts) (hFfnFwd : Cert.FfnFwd.Facts) (hFfnFwdIdeal : Cert.FfnFwdIdeal.Facts) (hFfnFwdRefIdeal : Cert.FfnFwdRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hPre_finite : Cert.Pre_finite.Facts) (hPre_finite_fwd : Cert.Pre_finite_fwd.Facts),
    quiescent_Kernel (hKernel := hKernel)
    ∧ quiescent_KernelIdeal (hKernelIdeal := hKernelIdeal) (hPre_finite := hPre_finite)
    ∧ quiescent_KernelIdeal_pre_none (hKernelIdeal := hKernelIdeal)
    ∧ quiescent_ReferenceIdeal (hReferenceIdeal := hReferenceIdeal) (hPre_finite := hPre_finite)
    ∧ quiescent_DwIn (hDwIn := hDwIn)
    ∧ quiescent_DwInIdeal (hDwInIdeal := hDwInIdeal)
    ∧ quiescent_DwInRefIdeal (hDwInRefIdeal := hDwInRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_FfnFwd (hFfnFwd := hFfnFwd)
    ∧ quiescent_FfnFwdIdeal (hFfnFwdIdeal := hFfnFwdIdeal) (hPre_finite_fwd := hPre_finite_fwd)
    ∧ quiescent_FfnFwdIdeal_pre_none (hFfnFwdIdeal := hFfnFwdIdeal)
    ∧ quiescent_FfnFwdRefIdeal (hFfnFwdRefIdeal := hFfnFwdRefIdeal) (hPre_finite_fwd := hPre_finite_fwd)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal (hKernelIdeal := hKernelIdeal) (hReferenceIdeal := hReferenceIdeal) (hPre_finite := hPre_finite)
    ∧ preserves_DwIn_DwInIdeal
    ∧ algebraic_DwInIdeal_DwInRefIdeal (hDwInIdeal := hDwInIdeal) (hDwInRefIdeal := hDwInRefIdeal)
    ∧ preserves_DwUp_DwUpIdeal
    ∧ algebraic_DwUpIdeal_DwUpRefIdeal (hDwUpIdeal := hDwUpIdeal) (hDwUpRefIdeal := hDwUpRefIdeal)
    ∧ preserves_FfnFwd_FfnFwdIdeal
    ∧ algebraic_FfnFwdIdeal_FfnFwdRefIdeal (hFfnFwdIdeal := hFfnFwdIdeal) (hFfnFwdRefIdeal := hFfnFwdRefIdeal) (hPre_finite_fwd := hPre_finite_fwd)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite.lean ====
abbrev S8448x1024 : Shape := ⟨2, ![8448, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S3x2816 : S_.BroadcastsInDim S3x2816 (![] : Fin 0 → Fin S3x2816.rank)
  reducesTo_S3x2816_S_d0_1 : S3x2816.ReducesTo [0, 1] S_
  bcast_S_S1x2816 : S_.BroadcastsInDim S1x2816 (![] : Fin 0 → Fin S1x2816.rank)
  reducesTo_S1x2816_S_d0_1 : S1x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S3x2816 .f32) (main_arg5 : FVec F S1x2816 .f32) (main_arg6 : FVec F S2816x1024 .f32) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S3x2816 .f32 := Host.absf main_arg4
  let main_cst_6 : FVec F S_ .f32 := constant S_ .f32 0x7F800000#32
  let main_v20 : FVec F S3x2816 .f32 := broadcastInDim S3x2816 ![] bcast_S_S3x2816 main_cst_6
  let main_v21 : IVec S3x2816 1 := cmpf .olt main_v19 main_v20
  let main_c_7 : IVec S_ 1 := constantI S_ 1 1#1
  let main_v22 : IVec S_ 1 := (fun x v => Host.reduce IntOp.andi x v reducesTo_S3x2816_S_d0_1 h_S_) main_v21 main_c_7
  let main_v23 : IVec S_ 1 := andi main_v18 main_v22
  let main_v24 : FVec F S1x2816 .f32 := Host.absf main_arg5
  let main_cst_8 : FVec F S_ .f32 := constant S_ .f32 0x7F800000#32
  let main_v25 : FVec F S1x2816 .f32 := broadcastInDim S1x2816 ![] bcast_S_S1x2816 main_cst_8
  let main_v26 : IVec S1x2816 1 := cmpf .olt main_v24 main_v25
  let main_c_9 : IVec S_ 1 := constantI S_ 1 1#1
  let main_v27 : IVec S_ 1 := (fun x v => Host.reduce IntOp.andi x v reducesTo_S1x2816_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  main_v33

def fn {F : FTy → Type} [FloatOps F] (main_arg0 : FVec F S8448x1024 .f32) (main_arg1 : FVec F S8448x1024 .f32) (main_arg2 : FVec F S1x1024 .f32) (main_arg3 : FVec F S1024x5632 .f32) (main_arg4 : FVec F S3x2816 .f32) (main_arg5 : FVec F S1x2816 .f32) (main_arg6 : FVec F S2816x1024 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_v4 : FVec F S8448x1024 .f32 := Host.absf main_arg1
  let main_cst_0 : FVec F S_ .f32 := constant S_ .f32 0x7F800000#32
  let main_v5 : FVec F S8448x1024 .f32 := broadcastInDim S8448x1024 ![] bcast_S_S8448x1024 main_cst_0
  let main_v6 : IVec S8448x1024 1 := cmpf .olt main_v4 main_v5
  let main_c_1 : IVec S_ 1 := constantI S_ 1 1#1
  let main_v7 : IVec S_ 1 := (fun x v => Host.reduce IntOp.andi x v reducesTo_S8448x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x5632 .f32 := Host.absf main_arg3
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg4 main_arg5 main_arg6 main_v13 main_v16
-- ==== Pre_finite_fwd.lean ====
abbrev S8448x1024 : Shape := ⟨2, ![8448, 1024]⟩
abbrev S8192x1024 : Shape := ⟨2, ![8192, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S3x2816 : S_.BroadcastsInDim S3x2816 (![] : Fin 0 → Fin S3x2816.rank)
  reducesTo_S3x2816_S_d0_1 : S3x2816.ReducesTo [0, 1] S_
  bcast_S_S1x2816 : S_.BroadcastsInDim S1x2816 (![] : Fin 0 → Fin S1x2816.rank)
  reducesTo_S1x2816_S_d0_1 : S1x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S1x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  main_v38

def fn_part1 {F : FTy → Type} [FloatOps F] (main_arg4 : FVec F S3x2816 .f32) (main_arg5 : FVec F S1x2816 .f32) (main_arg6 : FVec F S2816x1024 .f32) (main_arg7 : FVec F S1x1024 .f32) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S3x2816 .f32 := Host.absf main_arg4
  let main_cst_6 : FVec F S_ .f32 := constant S_ .f32 0x7F800000#32
  let main_v20 : FVec F S3x2816 .f32 := broadcastInDim S3x2816 ![] bcast_S_S3x2816 main_cst_6
  let main_v21 : IVec S3x2816 1 := cmpf .olt main_v19 main_v20
  let main_c_7 : IVec S_ 1 := constantI S_ 1 1#1
  let main_v22 : IVec S_ 1 := (fun x v => Host.reduce IntOp.andi x v reducesTo_S3x2816_S_d0_1 h_S_) main_v21 main_c_7
  let main_v23 : IVec S_ 1 := andi main_v18 main_v22
  let main_v24 : FVec F S1x2816 .f32 := Host.absf main_arg5
  let main_cst_8 : FVec F S_ .f32 := constant S_ .f32 0x7F800000#32
  let main_v25 : FVec F S1x2816 .f32 := broadcastInDim S1x2816 ![] bcast_S_S1x2816 main_cst_8
  let main_v26 : IVec S1x2816 1 := cmpf .olt main_v24 main_v25
  let main_c_9 : IVec S_ 1 := constantI S_ 1 1#1
  let main_v27 : IVec S_ 1 := (fun x v => Host.reduce IntOp.andi x v reducesTo_S1x2816_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  fn_part2 (F := F) main_arg7 main_v33

def fn {F : FTy → Type} [FloatOps F] (main_arg0 : FVec F S8448x1024 .f32) (main_arg1 : FVec F S8192x1024 .f32) (main_arg2 : FVec F S1x1024 .f32) (main_arg3 : FVec F S1024x5632 .f32) (main_arg4 : FVec F S3x2816 .f32) (main_arg5 : FVec F S1x2816 .f32) (main_arg6 : FVec F S2816x1024 .f32) (main_arg7 : FVec F S1x1024 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x5632 .f32 := Host.absf main_arg3
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg4 main_arg5 main_arg6 main_arg7 main_v13 main_v16
-- ==== Kernel.lean ====
abbrev S8448x1024 : Shape := ⟨2, ![8448, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩
abbrev S8448 : Shape := ⟨1, ![8448]⟩
abbrev S8448x1 : Shape := ⟨2, ![8448, 1]⟩
abbrev S8448x5632 : Shape := ⟨2, ![8448, 5632]⟩
abbrev S1024x2x2816 : Shape := ⟨3, ![1024, 2, 2816]⟩
abbrev S2x1024x2816 : Shape := ⟨3, ![2, 1024, 2816]⟩
abbrev S256x1024 : Shape := ⟨2, ![256, 1024]⟩
abbrev S256x5632 : Shape := ⟨2, ![256, 5632]⟩
abbrev S16x2816 : Shape := ⟨2, ![16, 2816]⟩
abbrev S2x256x2816 : Shape := ⟨3, ![2, 256, 2816]⟩
abbrev S2x256x5632 : Shape := ⟨3, ![2, 256, 5632]⟩
abbrev S8x2816 : Shape := ⟨2, ![8, 2816]⟩
abbrev S1x256x5632 : Shape := ⟨3, ![1, 256, 5632]⟩
abbrev S256x2816 : Shape := ⟨2, ![256, 2816]⟩
abbrev S1x256x2816 : Shape := ⟨3, ![1, 256, 2816]⟩
abbrev S64x2816 : Shape := ⟨2, ![64, 2816]⟩
abbrev S72x2816 : Shape := ⟨2, ![72, 2816]⟩
abbrev S1x64x2816 : Shape := ⟨3, ![1, 64, 2816]⟩
abbrev S2816 : Shape := ⟨1, ![2816]⟩
abbrev S768x1024 : Shape := ⟨2, ![768, 1024]⟩
abbrev S256x768 : Shape := ⟨2, ![256, 768]⟩
abbrev S1x256x768 : Shape := ⟨3, ![1, 256, 768]⟩
abbrev S1x1024x2816 : Shape := ⟨3, ![1, 1024, 2816]⟩
abbrev S1024x2816 : Shape := ⟨2, ![1024, 2816]⟩
abbrev S512x1024 : Shape := ⟨2, ![512, 1024]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩
abbrev S1024 : Shape := ⟨1, ![1024]⟩

abbrev nBuf : Space → Nat
  | .hbm => 33
  | .vmem => 28
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1x1024, .f32⟩
  | .hbm, ⟨3, _⟩ => ⟨S1024x5632, .f32⟩
  | .hbm, ⟨4, _⟩ => ⟨S3x2816, .f32⟩
  | .hbm, ⟨5, _⟩ => ⟨S1x2816, .f32⟩
  | .hbm, ⟨6, _⟩ => ⟨S2816x1024, .f32⟩
  | .hbm, ⟨7, _⟩ => ⟨S8448x1024, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x5632, .f32⟩
  | .hbm, ⟨23, _⟩ => ⟨S8448x5632, .bf16⟩
  | .hbm, ⟨24, _⟩ => ⟨S1024x2x2816, .f32⟩
  | .hbm, ⟨25, _⟩ => ⟨S2x1024x2816, .f32⟩
  | .hbm, ⟨26, _⟩ => ⟨S2x1024x2816, .bf16⟩
  | .hbm, ⟨27, _⟩ => ⟨S2816x1024, .bf16⟩
  | .hbm, ⟨28, _⟩ => ⟨S8448x5632, .bf16⟩
  | .hbm, ⟨29, _⟩ => ⟨S8448x1024, .f32⟩
  | .hbm, ⟨30, _⟩ => ⟨S3x2816, .f32⟩
  | .hbm, ⟨31, _⟩ => ⟨S1x2816, .f32⟩
  | .hbm, ⟨32, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .bf16⟩
  | .local _ .vmem, ⟨5, _⟩ => ⟨S256x5632, .bf16⟩
  | .local _ .vmem, ⟨6, _⟩ => ⟨S16x2816, .bf16⟩
  | .local _ .vmem, ⟨7, _⟩ => ⟨S16x2816, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S2x1024x2816, .bf16⟩
  | .local _ .vmem, ⟨12, _⟩ => ⟨S3x2816, .f32⟩
  | .local _ .vmem, ⟨13, _⟩ => ⟨S1x2816, .f32⟩
  | .local _ .vmem, ⟨14, _⟩ => ⟨S2816x1024, .bf16⟩
  | .local _ .vmem, ⟨15, _⟩ => ⟨S256x5632, .bf16⟩
  | .local _ .vmem, ⟨16, _⟩ => ⟨S256x5632, .bf16⟩
  | .local _ .vmem, ⟨17, _⟩ => ⟨S256x1024, .f32⟩
  | .local _ .vmem, ⟨18, _⟩ => ⟨S256x1024, .f32⟩
  | .local _ .vmem, ⟨19, _⟩ => ⟨S3x2816, .f32⟩
  | .local _ .vmem, ⟨20, _⟩ => ⟨S1x2816, .f32⟩
  | .local _ .vmem, ⟨21, _⟩ => ⟨S1x1024, .f32⟩
  | .local _ .vmem, ⟨22, _⟩ => ⟨S2x256x2816, .f32⟩
  | .local _ .vmem, ⟨23, _⟩ => ⟨S2x256x5632, .bf16⟩
  | .local _ .vmem, ⟨24, _⟩ => ⟨S8x2816, .f32⟩
  | .local _ .vmem, ⟨25, _⟩ => ⟨S8x2816, .f32⟩
  | .local _ .vmem, ⟨26, _⟩ => ⟨S1x2816, .f32⟩
  | .local _ .vmem, ⟨27, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev main_v18_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![34], ![false]⟩

def k0_cond2 (i : grid0.Coords) : BitVec 1 :=
  let arg0 : BitVec 32 := BitVec.ofNat 32 (i 0).val
  let c33_i32 : BitVec 32 := 33#32
  let v5 : BitVec 1 := Scalar.cmpi .slt arg0 c33_i32
  let v6 : BitVec 32 := Scalar.extui v5
  let c0_i32_1 : BitVec 32 := 0#32
  let v7 : BitVec 1 := Scalar.cmpi .ne v6 c0_i32_1
  v7

def k0_off1 (i : grid0.Coords) : Fin 3 → Nat :=
  let arg0 : BitVec 32 := BitVec.ofNat 32 (i 0).val
  let c2_i32 : BitVec 32 := 2#32
  let v0 : BitVec 32 := Scalar.remsi arg0 c2_i32
  let v58 : Index := Scalar.indexCast v0
  let c192_22 : Index := 192#32
  let c0_23 : Index := 0#32
  ![v58.toNat, 192, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v94 : Index := Scalar.indexCast v0
  let c192_34 : Index := 192#32
  let c0_35 : Index := 0#32
  ![v94.toNat, 192, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let v98 : Index := Scalar.indexCast v0
  let c192_36 : Index := 192#32
  let c2816_37 : Index := 2816#32
  ![v98.toNat, 192, 2816]
def k0_off4 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v136 : Index := Scalar.indexCast v1
  let c0_61 : Index := 0#32
  let c0_62 : Index := 0#32
  ![v136.toNat, 0, 0]
def k0_off5 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v140 : Index := Scalar.indexCast v1
  let c0_63 : Index := 0#32
  let c0_64 : Index := 0#32
  ![v140.toNat, 0, 0]
def k0_off6 (i : grid0.Coords) : Fin 3 → Nat :=
  let arg0 : BitVec 32 := BitVec.ofNat 32 (i 0).val
  let c2_i32 : BitVec 32 := 2#32
  let v0 : BitVec 32 := Scalar.remsi arg0 c2_i32
  let v180 : Index := Scalar.indexCast v0
  let c128_80 : Index := 128#32
  let c0_81 : Index := 0#32
  ![v180.toNat, 128, 0]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v216 : Index := Scalar.indexCast v0
  let c128_94 : Index := 128#32
  let c0_95 : Index := 0#32
  ![v216.toNat, 128, 0]
def k0_off8 (i : grid0.Coords) : Fin 3 → Nat :=
  let arg0 : BitVec 32 := BitVec.ofNat 32 (i 0).val
  let c2_i32 : BitVec 32 := 2#32
  let v0 : BitVec 32 := Scalar.remsi arg0 c2_i32
  let v220 : Index := Scalar.indexCast v0
  let c128_96 : Index := 128#32
  let c2816_97 : Index := 2816#32
  ![v220.toNat, 128, 2816]
def k0_off9 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v258 : Index := Scalar.indexCast v1
  let c0_120 : Index := 0#32
  let c768_121 : Index := 768#32
  ![v258.toNat, 0, 768]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v296 : Index := Scalar.indexCast v0
  let c64_133 : Index := 64#32
  let c0_134 : Index := 0#32
  ![v296.toNat, 64, 0]
def k0_off11 (i : grid0.Coords) : Fin 3 → Nat :=
  let arg0 : BitVec 32 := BitVec.ofNat 32 (i 0).val
  let c2_i32 : BitVec 32 := 2#32
  let v0 : BitVec 32 := Scalar.remsi arg0 c2_i32
  let v332 : Index := Scalar.indexCast v0
  let c64_147 : Index := 64#32
  let c0_148 : Index := 0#32
  ![v332.toNat, 64, 0]
def k0_off12 (i : grid0.Coords) : Fin 3 → Nat :=
  let arg0 : BitVec 32 := BitVec.ofNat 32 (i 0).val
  let c2_i32 : BitVec 32 := 2#32
  let v0 : BitVec 32 := Scalar.remsi arg0 c2_i32
  let v336 : Index := Scalar.indexCast v0
  let c64_149 : Index := 64#32
  let c2816_150 : Index := 2816#32
  ![v336.toNat, 64, 2816]
def k0_off13 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v374 : Index := Scalar.indexCast v1
  let c0_173 : Index := 0#32
  let c1536_174 : Index := 1536#32
  ![v374.toNat, 0, 1536]
def k0_off14 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v378 : Index := Scalar.indexCast v1
  let c0_175 : Index := 0#32
  let c2816_176 : Index := 2816#32
  ![v378.toNat, 0, 2816]
def k0_off15 (i : grid0.Coords) : Fin 3 → Nat :=
  let arg0 : BitVec 32 := BitVec.ofNat 32 (i 0).val
  let c2_i32 : BitVec 32 := 2#32
  let v0 : BitVec 32 := Scalar.remsi arg0 c2_i32
  let v415 : Index := Scalar.indexCast v0
  let c0_192 : Index := 0#32
  let c0_193 : Index := 0#32
  ![v415.toNat, 0, 0]
def k0_off16 (i : grid0.Coords) : Fin 3 → Nat :=
  let arg0 : BitVec 32 := BitVec.ofNat 32 (i 0).val
  let c2_i32 : BitVec 32 := 2#32
  let v0 : BitVec 32 := Scalar.remsi arg0 c2_i32
  let v451 : Index := Scalar.indexCast v0
  let c0_206 : Index := 0#32
  let c0_207 : Index := 0#32
  ![v451.toNat, 0, 0]
def k0_off17 (i : grid0.Coords) : Fin 3 → Nat :=
  let arg0 : BitVec 32 := BitVec.ofNat 32 (i 0).val
  let c2_i32 : BitVec 32 := 2#32
  let v0 : BitVec 32 := Scalar.remsi arg0 c2_i32
  let v455 : Index := Scalar.indexCast v0
  let c0_208 : Index := 0#32
  let c2816_209 : Index := 2816#32
  ![v455.toNat, 0, 2816]
def k0_off18 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v493 : Index := Scalar.indexCast v1
  let c0_232 : Index := 0#32
  let c2304_233 : Index := 2304#32
  ![v493.toNat, 0, 2304]
def k0_cond3 (i : grid0.Coords) : BitVec 1 :=
  let arg0 : BitVec 32 := BitVec.ofNat 32 (i 0).val
  let c33_i32_2 : BitVec 32 := 33#32
  let v8 : BitVec 1 := Scalar.cmpi .eq arg0 c33_i32_2
  let v9 : BitVec 32 := Scalar.extui v8
  let c0_i32_3 : BitVec 32 := 0#32
  let v10 : BitVec 1 := Scalar.cmpi .ne v9 c0_i32_3
  v10

def k0_off19 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v11 : Index := Scalar.indexCast v1
  let c0 : Index := 0#32
  let c0_4 : Index := 0#32
  ![v11.toNat, 0, 0]
def k0_off20 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v17 : Index := Scalar.indexCast v1
  let c0_8 : Index := 0#32
  let c2816 : Index := 2816#32
  ![v17.toNat, 0, 2816]
def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c33_i32 : BitVec 32 := 33#32
  let v0 : BitVec 32 := Scalar.subi c33_i32 arg0
  let c32_i32 : BitVec 32 := 32#32
  let v1 : BitVec 32 := Scalar.minsi v0 c32_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let v1 : BitVec 32 := Scalar.maxsi v0 c0_i32
  let c16_i32 : BitVec 32 := 16#32
  let v2 : BitVec 32 := Scalar.muli v1 c16_i32
  let c1_i32 : BitVec 32 := 1#32
  let v3 : BitVec 32 := Scalar.subi v2 c1_i32
  let c0_i32_0 : BitVec 32 := 0#32
  let v4 : BitVec 32 := Scalar.maxsi v3 c0_i32_0
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let c33_i32 : BitVec 32 := 33#32
  let v0 : BitVec 32 := Scalar.subi c33_i32 arg0
  let c32_i32 : BitVec 32 := 32#32
  let v1 : BitVec 32 := Scalar.minsi v0 c32_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c33_i32 : BitVec 32 := 33#32
  let v0 : BitVec 32 := Scalar.subi c33_i32 arg0
  let c32_i32 : BitVec 32 := 32#32
  let v1 : BitVec 32 := Scalar.minsi v0 c32_i32
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S8448x1024 : Shape := ⟨2, ![8448, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩
abbrev S8448 : Shape := ⟨1, ![8448]⟩
abbrev S8448x1 : Shape := ⟨2, ![8448, 1]⟩
abbrev S8448x5632 : Shape := ⟨2, ![8448, 5632]⟩
abbrev S8448x2816 : Shape := ⟨2, ![8448, 2816]⟩
abbrev S2x2816 : Shape := ⟨2, ![2, 2816]⟩
abbrev S8450x2816 : Shape := ⟨2, ![8450, 2816]⟩
abbrev S2816 : Shape := ⟨1, ![2816]⟩
abbrev S1024 : Shape := ⟨1, ![1024]⟩

abbrev nBuf : Space → Nat
  | .hbm => 159
  | .vmem => 0
  | .smem => 0
  | _ => 0

abbrev hbmTy0_0 (i : Nat) : BufTy := match i % 128 with
  | 0 => ⟨S8448x1024, .f32⟩
  | 1 => ⟨S8448x1024, .f32⟩
  | 2 => ⟨S1x1024, .f32⟩
  | 3 => ⟨S1024x5632, .f32⟩
  | 4 => ⟨S3x2816, .f32⟩
  | 5 => ⟨S1x2816, .f32⟩
  | 6 => ⟨S2816x1024, .f32⟩
  | 7 => ⟨S8448x1024, .f32⟩
  | 8 => ⟨S_, .f32⟩
  | 9 => ⟨S8448, .f32⟩
  | 10 => ⟨S8448x1, .f32⟩
  | 11 => ⟨S_, .f32⟩
  | 12 => ⟨S8448x1, .f32⟩
  | 13 => ⟨S8448x1, .f32⟩
  | 14 => ⟨S_, .f32⟩
  | 15 => ⟨S8448x1, .f32⟩
  | 16 => ⟨S8448x1, .f32⟩
  | 17 => ⟨S8448x1, .f32⟩
  | 18 => ⟨S8448x1, .f32⟩
  | 19 => ⟨S_, .f32⟩
  | 20 => ⟨S8448x1, .f32⟩
  | 21 => ⟨S8448x1, .f32⟩
  | 22 => ⟨S8448x1024, .f32⟩
  | 23 => ⟨S8448x1024, .f32⟩
  | 24 => ⟨S8448x1024, .f32⟩
  | 25 => ⟨S8448x1024, .f32⟩
  | 26 => ⟨S8448x5632, .f32⟩
  | 27 => ⟨S8448x2816, .f32⟩
  | 28 => ⟨S8448x2816, .f32⟩
  | 29 => ⟨S_, .f32⟩
  | 30 => ⟨S2x2816, .f32⟩
  | 31 => ⟨S8450x2816, .f32⟩
  | 32 => ⟨S_, .f32⟩
  | 33 => ⟨S2x2816, .f32⟩
  | 34 => ⟨S1x2816, .f32⟩
  | 35 => ⟨S2816, .f32⟩
  | 36 => ⟨S8448x2816, .f32⟩
  | 37 => ⟨S1x2816, .f32⟩
  | 38 => ⟨S8448x2816, .f32⟩
  | 39 => ⟨S8448x2816, .f32⟩
  | 40 => ⟨S1x2816, .f32⟩
  | 41 => ⟨S2816, .f32⟩
  | 42 => ⟨S8448x2816, .f32⟩
  | 43 => ⟨S1x2816, .f32⟩
  | 44 => ⟨S8448x2816, .f32⟩
  | 45 => ⟨S8448x2816, .f32⟩
  | 46 => ⟨S8448x2816, .f32⟩
  | 47 => ⟨S1x2816, .f32⟩
  | 48 => ⟨S2816, .f32⟩
  | 49 => ⟨S8448x2816, .f32⟩
  | 50 => ⟨S1x2816, .f32⟩
  | 51 => ⟨S8448x2816, .f32⟩
  | 52 => ⟨S8448x2816, .f32⟩
  | 53 => ⟨S8448x2816, .f32⟩
  | 54 => ⟨S8448x2816, .f32⟩
  | 55 => ⟨S8448x2816, .f32⟩
  | 56 => ⟨S8448x2816, .f32⟩
  | 57 => ⟨S8448x2816, .f32⟩
  | 58 => ⟨S_, .f32⟩
  | 59 => ⟨S8448x2816, .f32⟩
  | 60 => ⟨S8448x2816, .f32⟩
  | 61 => ⟨S_, .f32⟩
  | 62 => ⟨S8448x2816, .f32⟩
  | 63 => ⟨S8448x2816, .f32⟩
  | 64 => ⟨S_, .f32⟩
  | 65 => ⟨S8448x2816, .f32⟩
  | 66 => ⟨S8448x2816, .f32⟩
  | 67 => ⟨S8448x2816, .f32⟩
  | 68 => ⟨S8448x2816, .f32⟩
  | 69 => ⟨S8448x2816, .f32⟩
  | 70 => ⟨S8448x1024, .f32⟩
  | 71 => ⟨S8448x1024, .f32⟩
  | 72 => ⟨S8448x1024, .f32⟩
  | 73 => ⟨S8448x2816, .f32⟩
  | 74 => ⟨S8448x2816, .f32⟩
  | 75 => ⟨S8448x2816, .f32⟩
  | 76 => ⟨S8448x2816, .f32⟩
  | 77 => ⟨S8448x2816, .f32⟩
  | 78 => ⟨S8448x2816, .f32⟩
  | 79 => ⟨S8448x2816, .f32⟩
  | 80 => ⟨S_, .f32⟩
  | 81 => ⟨S2816, .f32⟩
  | 82 => ⟨S1x2816, .f32⟩
  | 83 => ⟨S8448x2816, .f32⟩
  | 84 => ⟨S8448x2816, .f32⟩
  | 85 => ⟨S8448x2816, .f32⟩
  | 86 => ⟨S_, .f32⟩
  | 87 => ⟨S2816, .f32⟩
  | 88 => ⟨S1x2816, .f32⟩
  | 89 => ⟨S_, .f32⟩
  | 90 => ⟨S2816, .f32⟩
  | 91 => ⟨S_, .f32⟩
  | 92 => ⟨S8450x2816, .f32⟩
  | 93 => ⟨S1x2816, .f32⟩
  | 94 => ⟨S_, .f32⟩
  | 95 => ⟨S3x2816, .f32⟩
  | 96 => ⟨S8448x2816, .f32⟩
  | 97 => ⟨S8448x2816, .f32⟩
  | 98 => ⟨S8448x2816, .f32⟩
  | 99 => ⟨S_, .f32⟩
  | 100 => ⟨S2816, .f32⟩
  | 101 => ⟨S1x2816, .f32⟩
  | 102 => ⟨S_, .f32⟩
  | 103 => ⟨S2816, .f32⟩
  | 104 => ⟨S_, .f32⟩
  | 105 => ⟨S8450x2816, .f32⟩
  | 106 => ⟨S8450x2816, .f32⟩
  | 107 => ⟨S1x2816, .f32⟩
  | 108 => ⟨S_, .f32⟩
  | 109 => ⟨S3x2816, .f32⟩
  | 110 => ⟨S3x2816, .f32⟩
  | 111 => ⟨S8448x2816, .f32⟩
  | 112 => ⟨S8448x2816, .f32⟩
  | 113 => ⟨S8448x2816, .f32⟩
  | 114 => ⟨S_, .f32⟩
  | 115 => ⟨S2816, .f32⟩
  | 116 => ⟨S1x2816, .f32⟩
  | 117 => ⟨S_, .f32⟩
  | 118 => ⟨S2816, .f32⟩
  | 119 => ⟨S_, .f32⟩
  | 120 => ⟨S8450x2816, .f32⟩
  | 121 => ⟨S8450x2816, .f32⟩
  | 122 => ⟨S1x2816, .f32⟩
  | 123 => ⟨S_, .f32⟩
  | 124 => ⟨S3x2816, .f32⟩
  | 125 => ⟨S3x2816, .f32⟩
  | 126 => ⟨S2x2816, .f32⟩
  | 127 => ⟨S8448x2816, .f32⟩
  | _ => ⟨S8448x1024, .f32⟩

abbrev hbmTy0_1 (i : Nat) : BufTy := match i % 128 with
  | 0 => ⟨S_, .f32⟩
  | 1 => ⟨S8448x5632, .f32⟩
  | 2 => ⟨S_, .f32⟩
  | 3 => ⟨S8448x5632, .f32⟩
  | 4 => ⟨S8448x5632, .f32⟩
  | 5 => ⟨S8448x1024, .f32⟩
  | 6 => ⟨S8448x1024, .f32⟩
  | 7 => ⟨S_, .f32⟩
  | 8 => ⟨S1024, .f32⟩
  | 9 => ⟨S1x1024, .f32⟩
  | 10 => ⟨S8448x1024, .f32⟩
  | 11 => ⟨S8448x1024, .f32⟩
  | 12 => ⟨S8448x1024, .f32⟩
  | 13 => ⟨S_, .f32⟩
  | 14 => ⟨S8448, .f32⟩
  | 15 => ⟨S8448x1, .f32⟩
  | 16 => ⟨S8448x1024, .f32⟩
  | 17 => ⟨S8448x1024, .f32⟩
  | 18 => ⟨S8448x1, .f32⟩
  | 19 => ⟨S_, .f32⟩
  | 20 => ⟨S8448x1, .f32⟩
  | 21 => ⟨S8448x1, .f32⟩
  | 22 => ⟨S_, .f32⟩
  | 23 => ⟨S8448, .f32⟩
  | 24 => ⟨S8448x1024, .f32⟩
  | 25 => ⟨S8448x1024, .f32⟩
  | 26 => ⟨S8448x1024, .f32⟩
  | 27 => ⟨S8448x1024, .f32⟩
  | 28 => ⟨S8448x1024, .f32⟩
  | 29 => ⟨S8448x5632, .bf16⟩
  | 30 => ⟨S8448x1024, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_v43_2 : Ref sig .tc := ⟨.hbm, 63, rfl⟩
abbrev main_call0_cst_1 : Ref sig .tc := ⟨.hbm, 64, rfl⟩
abbrev main_call0_v6 : Ref sig .tc := ⟨.hbm, 65, rfl⟩
abbrev main_call0_v7 : Ref sig .tc := ⟨.hbm, 66, rfl⟩
abbrev main_v43_1 : Ref sig .tc := ⟨.hbm, 67, rfl⟩
abbrev main_v43_0 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v51 : Ref sig .tc := ⟨.hbm, 79, rfl⟩
abbrev main_cst_5 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_6 : Ref sig .tc := ⟨.hbm, 86, rfl⟩
abbrev main_v57 : Ref sig .tc := ⟨.hbm, 87, rfl⟩
abbrev main_v58 : Ref sig .tc := ⟨.hbm, 88, rfl⟩
abbrev main_cst_7 : Ref sig .tc := ⟨.hbm, 89, rfl⟩
abbrev main_v59 : Ref sig .tc := ⟨.hbm, 90, rfl⟩
abbrev main_cst_8 : Ref sig .tc := ⟨.hbm, 91, rfl⟩
abbrev main_v60 : Ref sig .tc := ⟨.hbm, 92, rfl⟩
abbrev main_v61 : Ref sig .tc := ⟨.hbm, 93, rfl⟩
abbrev main_cst_9 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_10 : Ref sig .tc := ⟨.hbm, 99, rfl⟩
abbrev main_v66 : Ref sig .tc := ⟨.hbm, 100, rfl⟩
abbrev main_v67 : Ref sig .tc := ⟨.hbm, 101, rfl⟩
abbrev main_cst_11 : Ref sig .tc := ⟨.hbm, 102, rfl⟩
abbrev main_v68 : Ref sig .tc := ⟨.hbm, 103, rfl⟩
abbrev main_cst_12 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_13 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_14 : Ref sig .tc := ⟨.hbm, 114, rfl⟩
abbrev main_v77 : Ref sig .tc := ⟨.hbm, 115, rfl⟩
abbrev main_v78 : Ref sig .tc := ⟨.hbm, 116, rfl⟩
abbrev main_cst_15 : Ref sig .tc := ⟨.hbm, 117, rfl⟩
abbrev main_v79 : Ref sig .tc := ⟨.hbm, 118, rfl⟩
abbrev main_cst_16 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_17 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_18 : Ref sig .tc := ⟨.hbm, 128, rfl⟩
abbrev main_v87 : Ref sig .tc := ⟨.hbm, 129, rfl⟩
abbrev main_cst_19 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_20 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_21 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_22 : Ref sig .tc := ⟨.hbm, 147, rfl⟩
abbrev main_v102 : Ref sig .tc := ⟨.hbm, 148, rfl⟩
abbrev main_v103 : Ref sig .tc := ⟨.hbm, 149, rfl⟩
abbrev main_cst_23 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩

abbrev nD : Nat := 1
abbrev τ : Topo := Topo.v7x

variable {F : FTy → Type} [FloatOps F]
-- ==== DwIn.lean ====
abbrev S8448x1024 : Shape := ⟨2, ![8448, 1024]⟩
abbrev S1x1024 : Shape := ⟨2, ![1, 1024]⟩
abbrev S8448x9216 : Shape := ⟨2, ![8448, 9216]⟩
abbrev S_ : Shape := ⟨0, ![]⟩
abbrev S8448 : Shape := ⟨1, ![8448]⟩
abbrev S8448x1 : Shape := ⟨2, ![8448, 1]⟩
abbrev S1024x8448 : Shape := ⟨2, ![1024, 8448]⟩
abbrev S4x1024x2304 : Shape := ⟨3, ![4, 1024, 2304]⟩
abbrev S1024x2816 : Shape := ⟨2, ![1024, 2816]⟩
abbrev S2816x2304 : Shape := ⟨2, ![2816, 2304]⟩
abbrev S1x1024x2304 : Shape := ⟨3, ![1, 1024, 2304]⟩
abbrev S1024x2304 : Shape := ⟨2, ![1024, 2304]⟩

abbrev nBuf : Space → Nat
  | .hbm => 22
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8448x9216, .f32⟩
  | .hbm, ⟨3, _⟩ => ⟨S8448x1024, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x1024, .bf16⟩
  | .hbm, ⟨19, _⟩ => ⟨S1024x8448, .bf16⟩
  | .hbm, ⟨20, _⟩ => ⟨S8448x9216, .bf16⟩
  | .hbm, ⟨21, _⟩ => ⟨S4x1024x2304, .bf16⟩
  | .local _ .vmem, ⟨0, _⟩ => ⟨S1024x2816, .bf16⟩
  | .local _ .vmem, ⟨1, _⟩ => ⟨S1024x2816, .bf16⟩
  | .local _ .vmem, ⟨2, _⟩ => ⟨S2816x2304, .bf16⟩
  | .local _ .vmem, ⟨3, _⟩ => ⟨S2816x2304, .bf16⟩
  | .local _ .vmem, ⟨4, _⟩ => ⟨S1x1024x2304, .bf16⟩
  | .local _ .vmem, ⟨5, _⟩ => ⟨S1x1024x2304, .bf16⟩
  | .local _ .vmem, ⟨6, _⟩ => ⟨S1x1024x2304, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v14 : BitVec 1 := Scalar.cmpi .eq arg1 c2_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2816x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInRefIdeal.lean ====
abbrev S8448x1024 : Shape := ⟨2, ![8448, 1024]⟩
abbrev S1x1024 : Shape := ⟨2, ![1, 1024]⟩
abbrev S8448x9216 : Shape := ⟨2, ![8448, 9216]⟩
abbrev S_ : Shape := ⟨0, ![]⟩
abbrev S8448 : Shape := ⟨1, ![8448]⟩
abbrev S8448x1 : Shape := ⟨2, ![8448, 1]⟩
abbrev S1024x9216 : Shape := ⟨2, ![1024, 9216]⟩
abbrev S9216x1024 : Shape := ⟨2, ![9216, 1024]⟩
abbrev S1024x4x2304 : Shape := ⟨3, ![1024, 4, 2304]⟩
abbrev S4x1024x2304 : Shape := ⟨3, ![4, 1024, 2304]⟩

abbrev nBuf : Space → Nat
  | .hbm => 26
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8448x9216, .f32⟩
  | .hbm, ⟨3, _⟩ => ⟨S8448x1024, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S1024x9216, .f32⟩
  | .hbm, ⟨20, _⟩ => ⟨S8448x9216, .f32⟩
  | .hbm, ⟨21, _⟩ => ⟨S9216x1024, .f32⟩
  | .hbm, ⟨22, _⟩ => ⟨S1024x9216, .f32⟩
  | .hbm, ⟨23, _⟩ => ⟨S1024x4x2304, .f32⟩
  | .hbm, ⟨24, _⟩ => ⟨S4x1024x2304, .f32⟩
  | .hbm, ⟨25, _⟩ => ⟨S4x1024x2304, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== DwUp.lean ====
abbrev S8448x1024 : Shape := ⟨2, ![8448, 1024]⟩
abbrev S1x1024 : Shape := ⟨2, ![1, 1024]⟩
abbrev S8448x5632 : Shape := ⟨2, ![8448, 5632]⟩
abbrev S_ : Shape := ⟨0, ![]⟩
abbrev S8448 : Shape := ⟨1, ![8448]⟩
abbrev S8448x1 : Shape := ⟨2, ![8448, 1]⟩
abbrev S1024x8448 : Shape := ⟨2, ![1024, 8448]⟩
abbrev S4x1024x1408 : Shape := ⟨3, ![4, 1024, 1408]⟩
abbrev S1024x1408 : Shape := ⟨2, ![1024, 1408]⟩
abbrev S1408x2816 : Shape := ⟨2, ![1408, 2816]⟩
abbrev S2x1024x1408 : Shape := ⟨3, ![2, 1024, 1408]⟩
abbrev S1024x2816 : Shape := ⟨2, ![1024, 2816]⟩
abbrev S1x1024x1408 : Shape := ⟨3, ![1, 1024, 1408]⟩

abbrev nBuf : Space → Nat
  | .hbm => 22
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8448x5632, .f32⟩
  | .hbm, ⟨3, _⟩ => ⟨S8448x1024, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x1024, .bf16⟩
  | .hbm, ⟨19, _⟩ => ⟨S1024x8448, .bf16⟩
  | .hbm, ⟨20, _⟩ => ⟨S8448x5632, .bf16⟩
  | .hbm, ⟨21, _⟩ => ⟨S4x1024x1408, .bf16⟩
  | .local _ .vmem, ⟨0, _⟩ => ⟨S1024x1408, .bf16⟩
  | .local _ .vmem, ⟨1, _⟩ => ⟨S1024x1408, .bf16⟩
  | .local _ .vmem, ⟨2, _⟩ => ⟨S1408x2816, .bf16⟩
  | .local _ .vmem, ⟨3, _⟩ => ⟨S1408x2816, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S2x1024x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def k0_cond2 (i : grid0.Coords) : BitVec 1 :=
  let arg1 : BitVec 32 := BitVec.ofNat 32 (i 1).val
  let c5_i32 : BitVec 32 := 5#32
  let v22 : BitVec 1 := Scalar.cmpi .eq arg1 c5_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwUpRefIdeal.lean ====
abbrev S8448x1024 : Shape := ⟨2, ![8448, 1024]⟩
abbrev S1x1024 : Shape := ⟨2, ![1, 1024]⟩
abbrev S8448x5632 : Shape := ⟨2, ![8448, 5632]⟩
abbrev S_ : Shape := ⟨0, ![]⟩
abbrev S8448 : Shape := ⟨1, ![8448]⟩
abbrev S8448x1 : Shape := ⟨2, ![8448, 1]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 26
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8448x5632, .f32⟩
  | .hbm, ⟨3, _⟩ => ⟨S8448x1024, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S1024x5632, .f32⟩
  | .hbm, ⟨20, _⟩ => ⟨S8448x5632, .f32⟩
  | .hbm, ⟨21, _⟩ => ⟨S5632x1024, .f32⟩
  | .hbm, ⟨22, _⟩ => ⟨S1024x5632, .f32⟩
  | .hbm, ⟨23, _⟩ => ⟨S1024x4x1408, .f32⟩
  | .hbm, ⟨24, _⟩ => ⟨S4x1024x1408, .f32⟩
  | .hbm, ⟨25, _⟩ => ⟨S4x1024x1408, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== FfnFwd.lean ====
abbrev S8448x1024 : Shape := ⟨2, ![8448, 1024]⟩
abbrev S8192x1024 : Shape := ⟨2, ![8192, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S1024x2x2816 : Shape := ⟨3, ![1024, 2, 2816]⟩
abbrev S2x1024x2816 : Shape := ⟨3, ![2, 1024, 2816]⟩
abbrev S1024x8448 : Shape := ⟨2, ![1024, 8448]⟩
abbrev S8448x5632 : Shape := ⟨2, ![8448, 5632]⟩
abbrev S2816x8448 : Shape := ⟨2, ![2816, 8448]⟩
abbrev S256x1024 : Shape := ⟨2, ![256, 1024]⟩
abbrev S1024x256 : Shape := ⟨2, ![1024, 256]⟩
abbrev S256x5632 : Shape := ⟨2, ![256, 5632]⟩
abbrev S2816x256 : Shape := ⟨2, ![2816, 256]⟩
abbrev S256x2816 : Shape := ⟨2, ![256, 2816]⟩
abbrev S8x2816 : Shape := ⟨2, ![8, 2816]⟩
abbrev S256 : Shape := ⟨1, ![256]⟩
abbrev S256x1 : Shape := ⟨2, ![256, 1]⟩
abbrev S1x1024x2816 : Shape := ⟨3, ![1, 1024, 2816]⟩
abbrev S1024x2816 : Shape := ⟨2, ![1024, 2816]⟩
abbrev S64x2816 : Shape := ⟨2, ![64, 2816]⟩
abbrev S72x2816 : Shape := ⟨2, ![72, 2816]⟩
abbrev S1024 : Shape := ⟨1, ![1024]⟩

abbrev nBuf : Space → Nat
  | .hbm => 18
  | .vmem => 23
  | .smem => 0
  | _ => 0

abbrev bufTy : (tb : Table) → Fin (tcTables nBuf tb) → BufTy
  | .hbm, ⟨0, _⟩ => ⟨S8448x1024, .f32⟩
  | .hbm, ⟨1, _⟩ => ⟨S8192x1024, .f32⟩
  | .hbm, ⟨2, _⟩ => ⟨S1x1024, .f32⟩
  | .hbm, ⟨3, _⟩ => ⟨S1024x5632, .f32⟩
  | .hbm, ⟨4, _⟩ => ⟨S3x2816, .f32⟩
  | .hbm, ⟨5, _⟩ => ⟨S1x2816, .f32⟩
  | .hbm, ⟨6, _⟩ => ⟨S2816x1024, .f32⟩
  | .hbm, ⟨7, _⟩ => ⟨S1x1024, .f32⟩
  | .hbm, ⟨8, _⟩ => ⟨S1024x2x2816, .f32⟩
  | .hbm, ⟨9, _⟩ => ⟨S2x1024x2816, .f32⟩
  | .hbm, ⟨10, _⟩ => ⟨S2x1024x2816, .bf16⟩
  | .hbm, ⟨11, _⟩ => ⟨S2816x1024, .bf16⟩
  | .hbm, ⟨12, _⟩ => ⟨S1024x8448, .bf16⟩
  | .hbm, ⟨13, _⟩ => ⟨S8448x5632, .bf16⟩
  | .hbm, ⟨14, _⟩ => ⟨S2816x8448, .bf16⟩
  | .hbm, ⟨15, _⟩ => ⟨S8448x1024, .f32⟩
  | .hbm, ⟨16, _⟩ => ⟨S1x1024, .f32⟩
  | .hbm, ⟨17, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2x1024x2816, .bf16⟩
  | .local _ .vmem, ⟨6, _⟩ => ⟨S3x2816, .f32⟩
  | .local _ .vmem, ⟨7, _⟩ => ⟨S1x2816, .f32⟩
  | .local _ .vmem, ⟨8, _⟩ => ⟨S2816x1024, .bf16⟩
  | .local _ .vmem, ⟨9, _⟩ => ⟨S1x1024, .f32⟩
  | .local _ .vmem, ⟨10, _⟩ => ⟨S1024x256, .bf16⟩
  | .local _ .vmem, ⟨11, _⟩ => ⟨S1024x256, .bf16⟩
  | .local _ .vmem, ⟨12, _⟩ => ⟨S256x5632, .bf16⟩
  | .local _ .vmem, ⟨13, _⟩ => ⟨S256x5632, .bf16⟩
  | .local _ .vmem, ⟨14, _⟩ => ⟨S2816x256, .bf16⟩
  | .local _ .vmem, ⟨15, _⟩ => ⟨S2816x256, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | .local _ .vmem, ⟨20, _⟩ => ⟨S256x5632, .f32⟩
  | .local _ .vmem, ⟨21, _⟩ => ⟨S256x2816, .f32⟩
  | .local _ .vmem, ⟨22, _⟩ => ⟨S8x2816, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![33], ![false]⟩

def k0_mult1 : BitVec 32 :=
  let c0_i32_27 : BitVec 32 := 0#32
  let c64_i32 : BitVec 32 := 64#32
  let v40 : BitVec 32 := Scalar.muli c0_i32_27 c64_i32
  v40
def k0_off1 (c0_i32_27 : BitVec 32) : Fin 2 → Nat :=
  let c64_i32 : BitVec 32 := 64#32
  let v40 : BitVec 32 := Scalar.muli c0_i32_27 c64_i32
  let v41 : BitVec 32 := v40
  let v42 : Index := Scalar.indexCast v41
  let c0_28 : Index := 0#32
  ![v42.toNat, 0]
def k0_off2 (c0_i32_27 : BitVec 32) : Fin 2 → Nat :=
  let c64_i32 : BitVec 32 := 64#32
  let v40 : BitVec 32 := Scalar.muli c0_i32_27 c64_i32
  let v41 : BitVec 32 := v40
  let v44 : Index := Scalar.indexCast v41
  let c2816_29 : Index := 2816#32
  ![v44.toNat, 2816]
def k0_off3 (c0_i32_27 : BitVec 32) : Fin 2 → Nat :=
  let c64_i32 : BitVec 32 := 64#32
  let v40 : BitVec 32 := Scalar.muli c0_i32_27 c64_i32
  let v41 : BitVec 32 := v40
  let v77 : Index := Scalar.indexCast v41
  let c0_39 : Index := 0#32
  ![v77.toNat, 0]
def k0_mult2 : BitVec 32 :=
  let c1_i32_40 : BitVec 32 := 1#32
  let c64_i32_41 : BitVec 32 := 64#32
  let v81 : BitVec 32 := Scalar.muli c1_i32_40 c64_i32_41
  v81
def k0_mult3 : BitVec 32 :=
  let c2_i32_56 : BitVec 32 := 2#32
  let c64_i32_57 : BitVec 32 := 64#32
  let v122 : BitVec 32 := Scalar.muli c2_i32_56 c64_i32_57
  v122
def k0_mult4 : BitVec 32 :=
  let c3_i32 : BitVec 32 := 3#32
  let c64_i32_72 : BitVec 32 := 64#32
  let v163 : BitVec 32 := Scalar.muli c3_i32 c64_i32_72
  v163
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2816x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnFwdRefIdeal.lean ====
abbrev S8448x1024 : Shape := ⟨2, ![8448, 1024]⟩
abbrev S8192x1024 : Shape := ⟨2, ![8192, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩
abbrev S8448 : Shape := ⟨1, ![8448]⟩
abbrev S8448x1 : Shape := ⟨2, ![8448, 1]⟩
abbrev S8448x5632 : Shape := ⟨2, ![8448, 5632]⟩
abbrev S8448x2816 : Shape := ⟨2, ![8448, 2816]⟩
abbrev S2x2816 : Shape := ⟨2, ![2, 2816]⟩
abbrev S8450x2816 : Shape := ⟨2, ![8450, 2816]⟩
abbrev S2816 : Shape := ⟨1, ![2816]⟩
abbrev S8192 : Shape := ⟨1, ![8192]⟩
abbrev S1024 : Shape := ⟨1, ![1024]⟩
abbrev S1024x8448 : Shape := ⟨2, ![1024, 8448]⟩
abbrev S2816x8448 : Shape := ⟨2, ![2816, 8448]⟩

abbrev nBuf : Space → Nat
  | .hbm => 163
  | .vmem => 0
  | .smem => 0
  | _ => 0

abbrev hbmTy0_0 (i : Nat) : BufTy := match i % 128 with
  | 0 => ⟨S8448x1024, .f32⟩
  | 1 => ⟨S8192x1024, .f32⟩
  | 2 => ⟨S1x1024, .f32⟩
  | 3 => ⟨S1024x5632, .f32⟩
  | 4 => ⟨S3x2816, .f32⟩
  | 5 => ⟨S1x2816, .f32⟩
  | 6 => ⟨S2816x1024, .f32⟩
  | 7 => ⟨S1x1024, .f32⟩
  | 8 => ⟨S8448x1024, .f32⟩
  | 9 => ⟨S_, .f32⟩
  | 10 => ⟨S8448, .f32⟩
  | 11 => ⟨S8448x1, .f32⟩
  | 12 => ⟨S_, .f32⟩
  | 13 => ⟨S8448x1, .f32⟩
  | 14 => ⟨S8448x1, .f32⟩
  | 15 => ⟨S_, .f32⟩
  | 16 => ⟨S8448x1, .f32⟩
  | 17 => ⟨S8448x1, .f32⟩
  | 18 => ⟨S8448x1, .f32⟩
  | 19 => ⟨S8448x1024, .f32⟩
  | 20 => ⟨S8448x1024, .f32⟩
  | 21 => ⟨S8448x1024, .f32⟩
  | 22 => ⟨S8448x1024, .f32⟩
  | 23 => ⟨S8448x5632, .f32⟩
  | 24 => ⟨S8448x2816, .f32⟩
  | 25 => ⟨S_, .f32⟩
  | 26 => ⟨S2x2816, .f32⟩
  | 27 => ⟨S8450x2816, .f32⟩
  | 28 => ⟨S1x2816, .f32⟩
  | 29 => ⟨S2816, .f32⟩
  | 30 => ⟨S8448x2816, .f32⟩
  | 31 => ⟨S1x2816, .f32⟩
  | 32 => ⟨S8448x2816, .f32⟩
  | 33 => ⟨S8448x2816, .f32⟩
  | 34 => ⟨S1x2816, .f32⟩
  | 35 => ⟨S2816, .f32⟩
  | 36 => ⟨S8448x2816, .f32⟩
  | 37 => ⟨S1x2816, .f32⟩
  | 38 => ⟨S8448x2816, .f32⟩
  | 39 => ⟨S8448x2816, .f32⟩
  | 40 => ⟨S8448x2816, .f32⟩
  | 41 => ⟨S1x2816, .f32⟩
  | 42 => ⟨S2816, .f32⟩
  | 43 => ⟨S8448x2816, .f32⟩
  | 44 => ⟨S1x2816, .f32⟩
  | 45 => ⟨S8448x2816, .f32⟩
  | 46 => ⟨S8448x2816, .f32⟩
  | 47 => ⟨S8448x2816, .f32⟩
  | 48 => ⟨S8448x2816, .f32⟩
  | 49 => ⟨S8448x2816, .f32⟩
  | 50 => ⟨S8448x2816, .f32⟩
  | 51 => ⟨S8448x2816, .f32⟩
  | 52 => ⟨S_, .f32⟩
  | 53 => ⟨S8448x2816, .f32⟩
  | 54 => ⟨S8448x2816, .f32⟩
  | 55 => ⟨S_, .f32⟩
  | 56 => ⟨S8448x2816, .f32⟩
  | 57 => ⟨S8448x2816, .f32⟩
  | 58 => ⟨S8448x2816, .f32⟩
  | 59 => ⟨S8448x2816, .f32⟩
  | 60 => ⟨S8448x2816, .f32⟩
  | 61 => ⟨S8448x1024, .f32⟩
  | 62 => ⟨S8448x1024, .f32⟩
  | 63 => ⟨S8448x1024, .f32⟩
  | 64 => ⟨S_, .f32⟩
  | 65 => ⟨S8448, .f32⟩
  | 66 => ⟨S8448x1, .f32⟩
  | 67 => ⟨S_, .f32⟩
  | 68 => ⟨S8448x1, .f32⟩
  | 69 => ⟨S8448x1, .f32⟩
  | 70 => ⟨S_, .f32⟩
  | 71 => ⟨S8448x1, .f32⟩
  | 72 => ⟨S8448x1, .f32⟩
  | 73 => ⟨S8448x1, .f32⟩
  | 74 => ⟨S8448x1, .f32⟩
  | 75 => ⟨S_, .f32⟩
  | 76 => ⟨S8448x1, .f32⟩
  | 77 => ⟨S8448x1, .f32⟩
  | 78 => ⟨S8448x1024, .f32⟩
  | 79 => ⟨S8448x1024, .f32⟩
  | 80 => ⟨S8448x1024, .f32⟩
  | 81 => ⟨S8448x1024, .f32⟩
  | 82 => ⟨S8192x1024, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | 88 => ⟨S_, .f32⟩
  | 89 => ⟨S8192, .f32⟩
  | 90 => ⟨S_, .f32⟩
  | 91 => ⟨S8192, .f32⟩
  | 92 => ⟨S8192, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S8192, .f32⟩
  | 101 => ⟨S_, .f32⟩
  | 102 => ⟨S8192, .f32⟩
  | 103 => ⟨S8192, .f32⟩
  | 104 => ⟨S8192x1024, .f32⟩
  | 105 => ⟨S8192x1024, .f32⟩
  | 106 => ⟨S_, .f32⟩
  | 107 => ⟨S8448x1024, .f32⟩
  | 108 => ⟨S8448x1024, .f32⟩
  | 109 => ⟨S_, .f32⟩
  | 110 => ⟨S1024, .f32⟩
  | 111 => ⟨S1x1024, .f32⟩
  | 112 => ⟨S8448x1024, .f32⟩
  | 113 => ⟨S8448x1024, .f32⟩
  | 114 => ⟨S8448x1024, .f32⟩
  | 115 => ⟨S_, .f32⟩
  | 116 => ⟨S8448, .f32⟩
  | 117 => ⟨S8448x1, .f32⟩
  | 118 => ⟨S8448x1024, .f32⟩
  | 119 => ⟨S8448x1024, .f32⟩
  | 120 => ⟨S8448x1, .f32⟩
  | 121 => ⟨S_, .f32⟩
  | 122 => ⟨S8448x1, .f32⟩
  | 123 => ⟨S8448x1, .f32⟩
  | 124 => ⟨S_, .f32⟩
  | 125 => ⟨S8448, .f32⟩
  | 126 => ⟨S8448x1024, .f32⟩
  | 127 => ⟨S8448x1024, .f32⟩
  | _ => ⟨S8448x1024, .f32⟩

abbrev hbmTy0_1 (i : Nat) : BufTy := match i % 128 with
  | 0 => ⟨S8448x1024, .f32⟩
  | 1 => ⟨S8448x1024, .f32⟩
  | 2 => ⟨S8448x1024, .f32⟩
  | 3 => ⟨S8448x1024, .f32⟩
  | 4 => ⟨S_, .f32⟩
  | 5 => ⟨S8448, .f32⟩
  | 6 => ⟨S8448x1, .f32⟩
  | 7 => ⟨S_, .f32⟩
  | 8 => ⟨S8448x1, .f32⟩
  | 9 => ⟨S8448x1, .f32⟩
  | 10 => ⟨S_, .f32⟩
  | 11 => ⟨S8448x1, .f32⟩
  | 12 => ⟨S8448x1, .f32⟩
  | 13 => ⟨S8448x1, .f32⟩
  | 14 => ⟨S8448x1024, .f32⟩
  | 15 => ⟨S8448x1024, .f32⟩
  | 16 => ⟨S8448x1024, .f32⟩
  | 17 => ⟨S8448x1024, .f32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S1024, .f32⟩
  | 26 => ⟨S1x1024, .f32⟩
  | 27 => ⟨S_, .f32⟩
  | 28 => ⟨S1x1024, .f32⟩
  | 29 => ⟨S1x1024, .f32⟩
  | 30 => ⟨S1024x8448, .f32⟩
  | 31 => ⟨S1024x8448, .bf16⟩
  | 32 => ⟨S8448x5632, .bf16⟩
  | 33 => ⟨S2816x8448, .f32⟩
  | 34 => ⟨S2816x8448, .bf16⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_3 : Ref sig .tc := ⟨.hbm, 64, rfl⟩
abbrev main_v44 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_cst_5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_7 : Ref sig .tc := ⟨.hbm, 85, rfl⟩
abbrev main_v61 : Ref sig .tc := ⟨.hbm, 86, rfl⟩
abbrev main_v62 : Ref sig .tc := ⟨.hbm, 87, rfl⟩
abbrev main_cst_8 : Ref sig .tc := ⟨.hbm, 88, rfl⟩
abbrev main_v63 : Ref sig .tc := ⟨.hbm, 89, rfl⟩
abbrev main_cst_9 : Ref sig .tc := ⟨.hbm, 90, rfl⟩
abbrev main_v64 : Ref sig .tc := ⟨.hbm, 91, rfl⟩
abbrev main_v65 : Ref sig .tc := ⟨.hbm, 92, rfl⟩
abbrev main_cst_10 : Ref sig .tc := ⟨.hbm, 93, rfl⟩
abbrev main_v66 : Ref sig .tc := ⟨.hbm, 94, rfl⟩
abbrev main_cst_11 : Ref sig .tc := ⟨.hbm, 95, rfl⟩
abbrev main_v67 : Ref sig .tc := ⟨.hbm, 96, rfl⟩
abbrev main_cst_12 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_cst_16 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_18 : Ref sig .tc := ⟨.hbm, 121, rfl⟩
abbrev main_v86 : Ref sig .tc := ⟨.hbm, 122, rfl⟩
abbrev main_v87 : Ref sig .tc := ⟨.hbm, 123, rfl⟩
abbrev main_cst_19 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_20 : Ref sig .tc := ⟨.hbm, 132, rfl⟩
abbrev main_v95 : Ref sig .tc := ⟨.hbm, 133, rfl⟩
abbrev main_v96 : Ref sig .tc := ⟨.hbm, 134, rfl⟩
abbrev main_cst_21 : Ref sig .tc := ⟨.hbm, 135, rfl⟩
abbrev main_v97 : Ref sig .tc := ⟨.hbm, 136, rfl⟩
abbrev main_v98 : Ref sig .tc := ⟨.hbm, 137, rfl⟩
abbrev main_cst_22 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_23 : Ref sig .tc := ⟨.hbm, 149, rfl⟩
abbrev main_v109 : Ref sig .tc := ⟨.hbm, 150, rfl⟩
abbrev main_v110 : Ref sig .tc := ⟨.hbm, 151, rfl⟩
abbrev main_cst_24 : Ref sig .tc := ⟨.hbm, 152, rfl⟩
abbrev main_v111 : Ref sig .tc := ⟨.hbm, 153, rfl⟩
abbrev main_v112 : Ref sig .tc := ⟨.hbm, 154, rfl⟩
abbrev main_cst_25 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩

abbrev nD : Nat := 1
abbrev τ : Topo := Topo.v7x

variable {F : FTy → Type} [FloatOps F]
-- ==== AdamIn.lean ====
abbrev S1024x2304 : Shape := ⟨2, ![1024, 2304]⟩
abbrev S256x2304 : Shape := ⟨2, ![256, 2304]⟩

abbrev nBuf : Space → Nat
  | .hbm => 8
  | .vmem => 16
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S1024x2304, .f32⟩
  | .hbm, ⟨5, _⟩ => ⟨S1024x2304, .f32⟩
  | .hbm, ⟨6, _⟩ => ⟨S1024x2304, .f32⟩
  | .hbm, ⟨7, _⟩ => ⟨S1024x2304, .f32⟩
  | .local _ .vmem, ⟨0, _⟩ => ⟨S256x2304, .f32⟩
  | .local _ .vmem, ⟨1, _⟩ => ⟨S256x2304, .f32⟩
  | .local _ .vmem, ⟨2, _⟩ => ⟨S256x2304, .f32⟩
  | .local _ .vmem, ⟨3, _⟩ => ⟨S256x2304, .f32⟩
  | .local _ .vmem, ⟨4, _⟩ => ⟨S256x2304, .f32⟩
  | .local _ .vmem, ⟨5, _⟩ => ⟨S256x2304, .f32⟩
  | .local _ .vmem, ⟨6, _⟩ => ⟨S256x2304, .f32⟩
  | .local _ .vmem, ⟨7, _⟩ => ⟨S256x2304, .f32⟩
  | .local _ .vmem, ⟨8, _⟩ => ⟨S256x2304, .f32⟩
  | .local _ .vmem, ⟨9, _⟩ => ⟨S256x2304, .f32⟩
  | .local _ .vmem, ⟨10, _⟩ => ⟨S256x2304, .f32⟩
  | .local _ .vmem, ⟨11, _⟩ => ⟨S256x2304, .f32⟩
  | .local _ .vmem, ⟨12, _⟩ => ⟨S256x2304, .f32⟩
  | .local _ .vmem, ⟨13, _⟩ => ⟨S256x2304, .f32⟩
  | .local _ .vmem, ⟨14, _⟩ => ⟨S256x2304, .f32⟩
  | .local _ .vmem, ⟨15, _⟩ => ⟨S256x2304, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S1024x2304 : Shape := ⟨2, ![1024, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S_, .f32⟩
  | .hbm, ⟨5, _⟩ => ⟨S1024x2304, .f32⟩
  | .hbm, ⟨6, _⟩ => ⟨S1024x2304, .f32⟩
  | .hbm, ⟨7, _⟩ => ⟨S_, .f32⟩
  | .hbm, ⟨8, _⟩ => ⟨S1024x2304, .f32⟩
  | .hbm, ⟨9, _⟩ => ⟨S1024x2304, .f32⟩
  | .hbm, ⟨10, _⟩ => ⟨S1024x2304, .f32⟩
  | .hbm, ⟨11, _⟩ => ⟨S_, .f32⟩
  | .hbm, ⟨12, _⟩ => ⟨S1024x2304, .f32⟩
  | .hbm, ⟨13, _⟩ => ⟨S1024x2304, .f32⟩
  | .hbm, ⟨14, _⟩ => ⟨S1024x2304, .f32⟩
  | .hbm, ⟨15, _⟩ => ⟨S_, .f32⟩
  | .hbm, ⟨16, _⟩ => ⟨S1024x2304, .f32⟩
  | .hbm, ⟨17, _⟩ => ⟨S1024x2304, .f32⟩
  | .hbm, ⟨18, _⟩ => ⟨S1024x2304, .f32⟩
  | .hbm, ⟨19, _⟩ => ⟨S_, .f32⟩
  | .hbm, ⟨20, _⟩ => ⟨S1024x2304, .f32⟩
  | .hbm, ⟨21, _⟩ => ⟨S1024x2304, .f32⟩
  | .hbm, ⟨22, _⟩ => ⟨S_, .f32⟩
  | .hbm, ⟨23, _⟩ => ⟨S1024x2304, .f32⟩
  | .hbm, ⟨24, _⟩ => ⟨S1024x2304, .f32⟩
  | .hbm, ⟨25, _⟩ => ⟨S1024x2304, .f32⟩
  | .hbm, ⟨26, _⟩ => ⟨S_, .f32⟩
  | .hbm, ⟨27, _⟩ => ⟨S1024x2304, .f32⟩
  | .hbm, ⟨28, _⟩ => ⟨S1024x2304, .f32⟩
  | .hbm, ⟨29, _⟩ => ⟨S1024x2304, .f32⟩
  | .hbm, ⟨30, _⟩ => ⟨S_, .f32⟩
  | .hbm, ⟨31, _⟩ => ⟨S1024x2304, .f32⟩
  | .hbm, ⟨32, _⟩ => ⟨S1024x2304, .f32⟩
  | .hbm, ⟨33, _⟩ => ⟨S1024x2304, .f32⟩
  | .hbm, ⟨34, _⟩ => ⟨S_, .f32⟩
  | .hbm, ⟨35, _⟩ => ⟨S1024x2304, .f32⟩
  | .hbm, ⟨36, _⟩ => ⟨S1024x2304, .f32⟩
  | _, _ => ⟨S1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S1024x1408 : Shape := ⟨2, ![1024, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S704x1024 : Shape := ⟨2, ![704, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S16x256 : Shape := ⟨2, ![16, 256]⟩
abbrev S2x1024 : Shape := ⟨2, ![2, 1024]⟩
abbrev S1x1024 : Shape := ⟨2, ![1, 1024]⟩
abbrev S1x128 : Shape := ⟨2, ![1, 128]⟩
abbrev S3x256 : Shape := ⟨2, ![3, 256]⟩
abbrev S3x704 : Shape := ⟨2, ![3, 704]⟩
abbrev S1x2816 : Shape := ⟨2, ![1, 2816]⟩

abbrev nBuf : Space → Nat
  | .hbm => 63
  | .vmem => 63
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S3x256, .f32⟩
  | .hbm, ⟨17, _⟩ => ⟨S3x256, .f32⟩
  | .hbm, ⟨18, _⟩ => ⟨S3x256, .f32⟩
  | .hbm, ⟨19, _⟩ => ⟨S3x256, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S3x704, .f32⟩
  | .hbm, ⟨25, _⟩ => ⟨S3x704, .f32⟩
  | .hbm, ⟨26, _⟩ => ⟨S3x704, .f32⟩
  | .hbm, ⟨27, _⟩ => ⟨S3x704, .f32⟩
  | .hbm, ⟨28, _⟩ => ⟨S1x2816, .f32⟩
  | .hbm, ⟨29, _⟩ => ⟨S1x2816, .f32⟩
  | .hbm, ⟨30, _⟩ => ⟨S1x2816, .f32⟩
  | .hbm, ⟨31, _⟩ => ⟨S1x2816, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S16x256, .f32⟩
  | .hbm, ⟨37, _⟩ => ⟨S16x256, .f32⟩
  | .hbm, ⟨38, _⟩ => ⟨S16x256, .f32⟩
  | .hbm, ⟨39, _⟩ => ⟨S2x1024, .f32⟩
  | .hbm, ⟨40, _⟩ => ⟨S2x1024, .f32⟩
  | .hbm, ⟨41, _⟩ => ⟨S2x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S3x256, .f32⟩
  | .hbm, ⟨49, _⟩ => ⟨S3x256, .f32⟩
  | .hbm, ⟨50, _⟩ => ⟨S3x256, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S3x704, .f32⟩
  | .hbm, ⟨55, _⟩ => ⟨S3x704, .f32⟩
  | .hbm, ⟨56, _⟩ => ⟨S3x704, .f32⟩
  | .hbm, ⟨57, _⟩ => ⟨S1x2816, .f32⟩
  | .hbm, ⟨58, _⟩ => ⟨S1x2816, .f32⟩
  | .hbm, ⟨59, _⟩ => ⟨S1x2816, .f32⟩
  | .hbm, ⟨60, _⟩ => ⟨S1x1024, .f32⟩
  | .hbm, ⟨61, _⟩ => ⟨S1x1024, .f32⟩
  | .hbm, ⟨62, _⟩ => ⟨S1x1024, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S3x256, .f32⟩
  | .local _ .vmem, ⟨17, _⟩ => ⟨S3x256, .f32⟩
  | .local _ .vmem, ⟨18, _⟩ => ⟨S3x256, .f32⟩
  | .local _ .vmem, ⟨19, _⟩ => ⟨S3x256, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S3x704, .f32⟩
  | .local _ .vmem, ⟨25, _⟩ => ⟨S3x704, .f32⟩
  | .local _ .vmem, ⟨26, _⟩ => ⟨S3x704, .f32⟩
  | .local _ .vmem, ⟨27, _⟩ => ⟨S3x704, .f32⟩
  | .local _ .vmem, ⟨28, _⟩ => ⟨S1x2816, .f32⟩
  | .local _ .vmem, ⟨29, _⟩ => ⟨S1x2816, .f32⟩
  | .local _ .vmem, ⟨30, _⟩ => ⟨S1x2816, .f32⟩
  | .local _ .vmem, ⟨31, _⟩ => ⟨S1x2816, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S16x256, .f32⟩
  | .local _ .vmem, ⟨37, _⟩ => ⟨S16x256, .f32⟩
  | .local _ .vmem, ⟨38, _⟩ => ⟨S16x256, .f32⟩
  | .local _ .vmem, ⟨39, _⟩ => ⟨S2x1024, .f32⟩
  | .local _ .vmem, ⟨40, _⟩ => ⟨S2x1024, .f32⟩
  | .local _ .vmem, ⟨41, _⟩ => ⟨S2x1024, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S3x256, .f32⟩
  | .local _ .vmem, ⟨49, _⟩ => ⟨S3x256, .f32⟩
  | .local _ .vmem, ⟨50, _⟩ => ⟨S3x256, .f32⟩
  | .local _ .vmem, ⟨51, _⟩ => ⟨S1x1024, .f32⟩
  | .local _ .vmem, ⟨52, _⟩ => ⟨S1x1024, .f32⟩
  | .local _ .vmem, ⟨53, _⟩ => ⟨S1x1024, .f32⟩
  | .local _ .vmem, ⟨54, _⟩ => ⟨S3x704, .f32⟩
  | .local _ .vmem, ⟨55, _⟩ => ⟨S3x704, .f32⟩
  | .local _ .vmem, ⟨56, _⟩ => ⟨S3x704, .f32⟩
  | .local _ .vmem, ⟨57, _⟩ => ⟨S1x2816, .f32⟩
  | .local _ .vmem, ⟨58, _⟩ => ⟨S1x2816, .f32⟩
  | .local _ .vmem, ⟨59, _⟩ => ⟨S1x2816, .f32⟩
  | .local _ .vmem, ⟨60, _⟩ => ⟨S1x1024, .f32⟩
  | .local _ .vmem, ⟨61, _⟩ => ⟨S1x1024, .f32⟩
  | .local _ .vmem, ⟨62, _⟩ => ⟨S1x1024, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0_0 : Ref sig .tc := ⟨.hbm, 36, rfl⟩
abbrev main_v0_1 : Ref sig .tc := ⟨.hbm, 37, rfl⟩
abbrev main_v0_2 : Ref sig .tc := ⟨.hbm, 38, rfl⟩
abbrev main_v0_3 : Ref sig .tc := ⟨.hbm, 39, rfl⟩
abbrev main_v0_4 : Ref sig .tc := ⟨.hbm, 40, rfl⟩
abbrev main_v0_5 : Ref sig .tc := ⟨.hbm, 41, rfl⟩
abbrev main_v0_6 : Ref sig .tc := ⟨.hbm, 42, rfl⟩
abbrev main_v0_7 : Ref sig .tc := ⟨.hbm, 43, rfl⟩
abbrev main_v0_8 : Ref sig .tc := ⟨.hbm, 44, rfl⟩
abbrev main_v0_9 : Ref sig .tc := ⟨.hbm, 45, rfl⟩
abbrev main_v0_10 : Ref sig .tc := ⟨.hbm, 46, rfl⟩
abbrev main_v0_11 : Ref sig .tc := ⟨.hbm, 47, rfl⟩
abbrev main_v0_12 : Ref sig .tc := ⟨.hbm, 48, rfl⟩
abbrev main_v0_13 : Ref sig .tc := ⟨.hbm, 49, rfl⟩
abbrev main_v0_14 : Ref sig .tc := ⟨.hbm, 50, rfl⟩
abbrev main_v0_15 : Ref sig .tc := ⟨.hbm, 51, rfl⟩
abbrev main_v0_16 : Ref sig .tc := ⟨.hbm, 52, rfl⟩
abbrev main_v0_17 : Ref sig .tc := ⟨.hbm, 53, rfl⟩
abbrev main_v0_18 : Ref sig .tc := ⟨.hbm, 54, rfl⟩
abbrev main_v0_19 : Ref sig .tc := ⟨.hbm, 55, rfl⟩
abbrev main_v0_20 : Ref sig .tc := ⟨.hbm, 56, rfl⟩
abbrev main_v0_21 : Ref sig .tc := ⟨.hbm, 57, rfl⟩
abbrev main_v0_22 : Ref sig .tc := ⟨.hbm, 58, rfl⟩
abbrev main_v0_23 : Ref sig .tc := ⟨.hbm, 59, rfl⟩
abbrev main_v0_24 : Ref sig .tc := ⟨.hbm, 60, rfl⟩
abbrev main_v0_25 : Ref sig .tc := ⟨.hbm, 61, rfl⟩
abbrev main_v0_26 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62

abbrev nD : Nat := 1
abbrev τ : Topo := Topo.v7x

variable {F : FTy → Type} [FloatOps F]

abbrev grid0 : Pipeline.Grid := .none

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S3x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S3x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S3x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S3x704 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S3x704 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S3x704 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S3x704 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x2816 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x2816 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x2816 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x2816 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S16x256 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S16x256 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S16x256 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S2x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S2x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S2x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x128 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x128 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x128 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S3x256 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S3x256 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S3x256 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S3x704 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S3x704 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S3x704 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x2816 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x2816 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x2816 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))
-- ==== AdamSmallRefIdeal.lean ====
abbrev S16x256 : Shape := ⟨2, ![16, 256]⟩
abbrev S2x1024 : Shape := ⟨2, ![2, 1024]⟩
abbrev S1x1024 : Shape := ⟨2, ![1, 1024]⟩
abbrev S1x128 : Shape := ⟨2, ![1, 128]⟩
abbrev S3x256 : Shape := ⟨2, ![3, 256]⟩
abbrev S3x704 : Shape := ⟨2, ![3, 704]⟩
abbrev S1x2816 : Shape := ⟨2, ![1, 2816]⟩
abbrev S_ : Shape := ⟨0, ![]⟩

abbrev nBuf : Space → Nat
  | .hbm => 333
  | .vmem => 0
  | .smem => 0
  | _ => 0

abbrev hbmTy0_0 (i : Nat) : BufTy := match i % 128 with
  | 0 => ⟨S16x256, .f32⟩
  | 1 => ⟨S16x256, .f32⟩
  | 2 => ⟨S16x256, .f32⟩
  | 3 => ⟨S16x256, .f32⟩
  | 4 => ⟨S2x1024, .f32⟩
  | 5 => ⟨S2x1024, .f32⟩
  | 6 => ⟨S2x1024, .f32⟩
  | 7 => ⟨S2x1024, .f32⟩
  | 8 => ⟨S1x1024, .f32⟩
  | 9 => ⟨S1x1024, .f32⟩
  | 10 => ⟨S1x1024, .f32⟩
  | 11 => ⟨S1x1024, .f32⟩
  | 12 => ⟨S1x128, .f32⟩
  | 13 => ⟨S1x128, .f32⟩
  | 14 => ⟨S1x128, .f32⟩
  | 15 => ⟨S1x128, .f32⟩
  | 16 => ⟨S3x256, .f32⟩
  | 17 => ⟨S3x256, .f32⟩
  | 18 => ⟨S3x256, .f32⟩
  | 19 => ⟨S3x256, .f32⟩
  | 20 => ⟨S1x1024, .f32⟩
  | 21 => ⟨S1x1024, .f32⟩
  | 22 => ⟨S1x1024, .f32⟩
  | 23 => ⟨S1x1024, .f32⟩
  | 24 => ⟨S3x704, .f32⟩
  | 25 => ⟨S3x704, .f32⟩
  | 26 => ⟨S3x704, .f32⟩
  | 27 => ⟨S3x704, .f32⟩
  | 28 => ⟨S1x2816, .f32⟩
  | 29 => ⟨S1x2816, .f32⟩
  | 30 => ⟨S1x2816, .f32⟩
  | 31 => ⟨S1x2816, .f32⟩
  | 32 => ⟨S1x1024, .f32⟩
  | 33 => ⟨S1x1024, .f32⟩
  | 34 => ⟨S1x1024, .f32⟩
  | 35 => ⟨S1x1024, .f32⟩
  | 36 => ⟨S_, .f32⟩
  | 37 => ⟨S16x256, .f32⟩
  | 38 => ⟨S16x256, .f32⟩
  | 39 => ⟨S_, .f32⟩
  | 40 => ⟨S16x256, .f32⟩
  | 41 => ⟨S16x256, .f32⟩
  | 42 => ⟨S16x256, .f32⟩
  | 43 => ⟨S_, .f32⟩
  | 44 => ⟨S16x256, .f32⟩
  | 45 => ⟨S16x256, .f32⟩
  | 46 => ⟨S16x256, .f32⟩
  | 47 => ⟨S_, .f32⟩
  | 48 => ⟨S16x256, .f32⟩
  | 49 => ⟨S16x256, .f32⟩
  | 50 => ⟨S16x256, .f32⟩
  | 51 => ⟨S_, .f32⟩
  | 52 => ⟨S16x256, .f32⟩
  | 53 => ⟨S16x256, .f32⟩
  | 54 => ⟨S_, .f32⟩
  | 55 => ⟨S16x256, .f32⟩
  | 56 => ⟨S16x256, .f32⟩
  | 57 => ⟨S16x256, .f32⟩
  | 58 => ⟨S_, .f32⟩
  | 59 => ⟨S16x256, .f32⟩
  | 60 => ⟨S16x256, .f32⟩
  | 61 => ⟨S16x256, .f32⟩
  | 62 => ⟨S_, .f32⟩
  | 63 => ⟨S16x256, .f32⟩
  | 64 => ⟨S16x256, .f32⟩
  | 65 => ⟨S16x256, .f32⟩
  | 66 => ⟨S_, .f32⟩
  | 67 => ⟨S16x256, .f32⟩
  | 68 => ⟨S16x256, .f32⟩
  | 69 => ⟨S_, .f32⟩
  | 70 => ⟨S2x1024, .f32⟩
  | 71 => ⟨S2x1024, .f32⟩
  | 72 => ⟨S_, .f32⟩
  | 73 => ⟨S2x1024, .f32⟩
  | 74 => ⟨S2x1024, .f32⟩
  | 75 => ⟨S2x1024, .f32⟩
  | 76 => ⟨S_, .f32⟩
  | 77 => ⟨S2x1024, .f32⟩
  | 78 => ⟨S2x1024, .f32⟩
  | 79 => ⟨S2x1024, .f32⟩
  | 80 => ⟨S_, .f32⟩
  | 81 => ⟨S2x1024, .f32⟩
  | 82 => ⟨S2x1024, .f32⟩
  | 83 => ⟨S2x1024, .f32⟩
  | 84 => ⟨S_, .f32⟩
  | 85 => ⟨S2x1024, .f32⟩
  | 86 => ⟨S2x1024, .f32⟩
  | 87 => ⟨S_, .f32⟩
  | 88 => ⟨S2x1024, .f32⟩
  | 89 => ⟨S2x1024, .f32⟩
  | 90 => ⟨S2x1024, .f32⟩
  | 91 => ⟨S_, .f32⟩
  | 92 => ⟨S2x1024, .f32⟩
  | 93 => ⟨S2x1024, .f32⟩
  | 94 => ⟨S2x1024, .f32⟩
  | 95 => ⟨S_, .f32⟩
  | 96 => ⟨S2x1024, .f32⟩
  | 97 => ⟨S2x1024, .f32⟩
  | 98 => ⟨S2x1024, .f32⟩
  | 99 => ⟨S_, .f32⟩
  | 100 => ⟨S2x1024, .f32⟩
  | 101 => ⟨S2x1024, .f32⟩
  | 102 => ⟨S_, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S16x256, .f32⟩

abbrev hbmTy0_1 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S_, .f32⟩
  | 8 => ⟨S1x128, .f32⟩
  | 9 => ⟨S1x128, .f32⟩
  | 10 => ⟨S_, .f32⟩
  | 11 => ⟨S1x128, .f32⟩
  | 12 => ⟨S1x128, .f32⟩
  | 13 => ⟨S1x128, .f32⟩
  | 14 => ⟨S_, .f32⟩
  | 15 => ⟨S1x128, .f32⟩
  | 16 => ⟨S1x128, .f32⟩
  | 17 => ⟨S1x128, .f32⟩
  | 18 => ⟨S_, .f32⟩
  | 19 => ⟨S1x128, .f32⟩
  | 20 => ⟨S1x128, .f32⟩
  | 21 => ⟨S1x128, .f32⟩
  | 22 => ⟨S_, .f32⟩
  | 23 => ⟨S1x128, .f32⟩
  | 24 => ⟨S1x128, .f32⟩
  | 25 => ⟨S_, .f32⟩
  | 26 => ⟨S1x128, .f32⟩
  | 27 => ⟨S1x128, .f32⟩
  | 28 => ⟨S1x128, .f32⟩
  | 29 => ⟨S_, .f32⟩
  | 30 => ⟨S1x128, .f32⟩
  | 31 => ⟨S1x128, .f32⟩
  | 32 => ⟨S1x128, .f32⟩
  | 33 => ⟨S_, .f32⟩
  | 34 => ⟨S1x128, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S_, .f32⟩
  | 41 => ⟨S3x256, .f32⟩
  | 42 => ⟨S3x256, .f32⟩
  | 43 => ⟨S_, .f32⟩
  | 44 => ⟨S3x256, .f32⟩
  | 45 => ⟨S3x256, .f32⟩
  | 46 => ⟨S3x256, .f32⟩
  | 47 => ⟨S_, .f32⟩
  | 48 => ⟨S3x256, .f32⟩
  | 49 => ⟨S3x256, .f32⟩
  | 50 => ⟨S3x256, .f32⟩
  | 51 => ⟨S_, .f32⟩
  | 52 => ⟨S3x256, .f32⟩
  | 53 => ⟨S3x256, .f32⟩
  | 54 => ⟨S3x256, .f32⟩
  | 55 => ⟨S_, .f32⟩
  | 56 => ⟨S3x256, .f32⟩
  | 57 => ⟨S3x256, .f32⟩
  | 58 => ⟨S_, .f32⟩
  | 59 => ⟨S3x256, .f32⟩
  | 60 => ⟨S3x256, .f32⟩
  | 61 => ⟨S3x256, .f32⟩
  | 62 => ⟨S_, .f32⟩
  | 63 => ⟨S3x256, .f32⟩
  | 64 => ⟨S3x256, .f32⟩
  | 65 => ⟨S3x256, .f32⟩
  | 66 => ⟨S_, .f32⟩
  | 67 => ⟨S3x256, .f32⟩
  | 68 => ⟨S3x256, .f32⟩
  | 69 => ⟨S3x256, .f32⟩
  | 70 => ⟨S_, .f32⟩
  | 71 => ⟨S3x256, .f32⟩
  | 72 => ⟨S3x256, .f32⟩
  | 73 => ⟨S_, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S_, .f32⟩
  | 107 => ⟨S3x704, .f32⟩
  | 108 => ⟨S3x704, .f32⟩
  | 109 => ⟨S_, .f32⟩
  | 110 => ⟨S3x704, .f32⟩
  | 111 => ⟨S3x704, .f32⟩
  | 112 => ⟨S3x704, .f32⟩
  | 113 => ⟨S_, .f32⟩
  | 114 => ⟨S3x704, .f32⟩
  | 115 => ⟨S3x704, .f32⟩
  | 116 => ⟨S3x704, .f32⟩
  | 117 => ⟨S_, .f32⟩
  | 118 => ⟨S3x704, .f32⟩
  | 119 => ⟨S3x704, .f32⟩
  | 120 => ⟨S3x704, .f32⟩
  | 121 => ⟨S_, .f32⟩
  | 122 => ⟨S3x704, .f32⟩
  | 123 => ⟨S3x704, .f32⟩
  | 124 => ⟨S_, .f32⟩
  | 125 => ⟨S3x704, .f32⟩
  | 126 => ⟨S3x704, .f32⟩
  | 127 => ⟨S3x704, .f32⟩
  | _ => ⟨S16x256, .f32⟩

abbrev hbmTy0_2 (i : Nat) : BufTy := match i % 128 with
  | 0 => ⟨S_, .f32⟩
  | 1 => ⟨S3x704, .f32⟩
  | 2 => ⟨S3x704, .f32⟩
  | 3 => ⟨S3x704, .f32⟩
  | 4 => ⟨S_, .f32⟩
  | 5 => ⟨S3x704, .f32⟩
  | 6 => ⟨S3x704, .f32⟩
  | 7 => ⟨S3x704, .f32⟩
  | 8 => ⟨S_, .f32⟩
  | 9 => ⟨S3x704, .f32⟩
  | 10 => ⟨S3x704, .f32⟩
  | 11 => ⟨S_, .f32⟩
  | 12 => ⟨S1x2816, .f32⟩
  | 13 => ⟨S1x2816, .f32⟩
  | 14 => ⟨S_, .f32⟩
  | 15 => ⟨S1x2816, .f32⟩
  | 16 => ⟨S1x2816, .f32⟩
  | 17 => ⟨S1x2816, .f32⟩
  | 18 => ⟨S_, .f32⟩
  | 19 => ⟨S1x2816, .f32⟩
  | 20 => ⟨S1x2816, .f32⟩
  | 21 => ⟨S1x2816, .f32⟩
  | 22 => ⟨S_, .f32⟩
  | 23 => ⟨S1x2816, .f32⟩
  | 24 => ⟨S1x2816, .f32⟩
  | 25 => ⟨S1x2816, .f32⟩
  | 26 => ⟨S_, .f32⟩
  | 27 => ⟨S1x2816, .f32⟩
  | 28 => ⟨S1x2816, .f32⟩
  | 29 => ⟨S_, .f32⟩
  | 30 => ⟨S1x2816, .f32⟩
  | 31 => ⟨S1x2816, .f32⟩
  | 32 => ⟨S1x2816, .f32⟩
  | 33 => ⟨S_, .f32⟩
  | 34 => ⟨S1x2816, .f32⟩
  | 35 => ⟨S1x2816, .f32⟩
  | 36 => ⟨S1x2816, .f32⟩
  | 37 => ⟨S_, .f32⟩
  | 38 => ⟨S1x2816, .f32⟩
  | 39 => ⟨S1x2816, .f32⟩
  | 40 => ⟨S1x2816, .f32⟩
  | 41 => ⟨S_, .f32⟩
  | 42 => ⟨S1x2816, .f32⟩
  | 43 => ⟨S1x2816, .f32⟩
  | 44 => ⟨S_, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | _ => ⟨S16x256, .f32⟩

abbrev hbmTy (i : Nat) : BufTy := match i / 128 with
  | 0 => hbmTy0_0 i
  | 1 => hbmTy0_1 i
  | 2 => hbmTy0_2 i
  | _ => ⟨S16x256, .f32⟩

abbrev bufTy : (tb : Table) → Fin (tcTables nBuf tb) → BufTy
  | .hbm, ⟨i, _⟩ => hbmTy i
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩

abbrev nD : Nat := 1
abbrev τ : Topo := Topo.v7x

variable {F : FTy → Type} [FloatOps F]
-- ==== Proof.Ffn.Base.lean ====
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! The three conditionals of the body, in closed form over the 34 grid points. -/

/-- The first conditional's condition: the grid's first point. -/
abbrev cond0 (i : grid0.Coords) : Prop := (Scalar.cmpi .ne (Scalar.extui (Scalar.cmpi .eq (BitVec.ofNat 32 (i 0).val) 0#32)) 0#32) = 1#1

theorem coords0 (t : Fin cfg0.N) : (grid0.coords t 0).val = t.val := by
  have e : (grid0.coords t 0).val = t.val / 1 % 34 := Pipeline.Grid.coords_val t 0 (by decide) rfl
  have : t.val < 34 := Nat.lt_of_lt_of_eq t.isLt N_0
  omega

theorem hcond0 (t : Fin cfg0.N) : cond0 (grid0.coords t) ↔ t.val = 0 := by
  have ht : t.val < 34 := Nat.lt_of_lt_of_eq t.isLt N_0
  simp only [cond0, coords0]
  word_cmp

/-- The second conditional (a tile is processed): every point but the last. -/
theorem hcond1 (t : Fin cfg0.N) : k0_cond2 (grid0.coords t) = 1#1 ↔ t.val < 33 := by
  have ht : t.val < 34 := Nat.lt_of_lt_of_eq t.isLt N_0
  simp only [k0_cond2, coords0]
  word_cmp

/-- The third conditional (the last norm and the small results): the last point. -/
theorem hcond2 (t : Fin cfg0.N) : k0_cond3 (grid0.coords t) = 1#1 ↔ t.val = 33 := by
  have ht : t.val < 34 := Nat.lt_of_lt_of_eq t.isLt N_0
  simp only [k0_cond3, coords0]
  word_cmp

/-- A whole memref owned at `x` is held raw at the contents that read `x`. -/
theorem raw_of_owns (c : Thread nD τ) {sp : Space} {sh : Shape} {e : EltTy} (M : Memref sig c.2.kind sp sh e) (h : M.IsWhole)
    (x : sh.Idx → Elt F e) : (owns c M fullShare x : sProp 𝕄) ⊢ (M.view.loc c ↦[M.view.set]{fullShare} h.unread x) := by
  unfold owns
  iintro ⟨%f, %hf, H⟩
  obtain rfl := h.eq_unread hf
  iexact H

/-- A memref held raw is owned at what it reads. -/
theorem owns_of_raw (c : Thread nD τ) {sp : Space} {sh : Shape} {e : EltTy} (M : Memref sig c.2.kind sp sh e) (f : M.view.ty.Contents (Elt F)) :
    (M.view.loc c ↦[M.view.set]{fullShare} f) ⊢ (owns c M fullShare (View.read (Elt F) M.view f) : sProp 𝕄) := by
  unfold owns
  iintro H
  iexists _; isplitr; · ipureintro; rfl
  iexact H

/-- The same, for contents stated to read `x`. -/
theorem owns_of_unread (c : Thread nD τ) {sp : Space} {sh : Shape} {e : EltTy} (M : Memref sig c.2.kind sp sh e) (h : M.IsWhole)
    (x : sh.Idx → Elt F e) : (M.view.loc c ↦[M.view.set]{fullShare} h.unread x) ⊢ (owns c M fullShare x : sProp 𝕄) := by
  unfold owns
  iintro H
  iexists _; isplitr; · ipureintro; exact h.read_unread x
  iexact H

end Cert.KernelIdeal.Ffn

end
-- ==== Proof.Ffn.RunA.lean ====
module

public import proofs.«01_k».proof.Proof.Ffn.Base

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 0 in
/-- The body at the first point: the scratch is reset, the first tile's upstream product made, and the last tile processed. The stores into each output and scratch buffer are found by running it; they do not
    depend on what the output buffers held. -/
noncomputable def runA (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S16x2816 .bf16) (harg4 : arg4.IsWhole) (arg5 : Memref sig .tc .vmem S256x1024 .f32) (harg5 : arg5.IsWhole) (arg6 : Memref sig .tc .vmem S1x1024 .f32) (harg6 : arg6.IsWhole) (arg7 : Memref sig .tc .vmem S2x1024x2816 .bf16) (harg7 : arg7.IsWhole) (arg8 : Memref sig .tc .vmem S3x2816 .f32) (harg8 : arg8.IsWhole) (arg9 : Memref sig .tc .vmem S1x2816 .f32) (harg9 : arg9.IsWhole) (arg10 : Memref sig .tc .vmem S2816x1024 .bf16) (harg10 : arg10.IsWhole) (arg11 : Memref sig .tc .vmem S256x5632 .bf16) (harg11 : arg11.IsWhole) (arg12 : Memref sig .tc .vmem S256x1024 .f32) (harg12 : arg12.IsWhole) (arg13 : Memref sig .tc .vmem S3x2816 .f32) (harg13 : arg13.IsWhole) (arg14 : Memref sig .tc .vmem S1x2816 .f32) (harg14 : arg14.IsWhole) (arg15 : Memref sig .tc .vmem S1x1024 .f32) (harg15 : arg15.IsWhole) (arg16 : Memref sig .tc .vmem S2x256x2816 .f32) (harg16 : arg16.IsWhole) (arg17 : Memref sig .tc .vmem S2x256x5632 .bf16) (harg17 : arg17.IsWhole) (arg18 : Memref sig .tc .vmem S8x2816 .f32) (harg18 : arg18.IsWhole) (arg19 : Memref sig .tc .vmem S8x2816 .f32) (harg19 : arg19.IsWhole) (arg20 : Memref sig .tc .vmem S1x2816 .f32) (harg20 : arg20.IsWhole) (arg21 : Memref sig .tc .vmem S1x1024 .f32) (harg21 : arg21.IsWhole)
    (hc0 : cond0 i) (hc1 : k0_cond2 i = 1#1) (hc2 : ¬k0_cond3 i = 1#1)
    (x1 : Vec F S256x1024 .f32) (x2 : Vec F S256x1024 .f32) (x3 : Vec F S256x5632 .bf16) (x4 : Vec F S16x2816 .bf16) (x5 : Vec F S256x1024 .f32) (x6 : Vec F S1x1024 .f32) (x7 : Vec F S2x1024x2816 .bf16) (x8 : Vec F S3x2816 .f32) (x9 : Vec F S1x2816 .f32) (x10 : Vec F S2816x1024 .bf16) (x16 : Vec F S2x256x2816 .f32) (x17 : Vec F S2x256x5632 .bf16) (x18 : Vec F S8x2816 .f32) (x19 : Vec F S8x2816 .f32) (x20 : Vec F S1x2816 .f32) (x21 : Vec F S1x1024 .f32) :
    Σ' (L11 : List (View.Piece (Elt F) S256x5632 .bf16)) (L12 : List (View.Piece (Elt F) S256x1024 .f32)) (L16 : List (View.Piece (Elt F) S2x256x2816 .f32)) (L17 : List (View.Piece (Elt F) S2x256x5632 .bf16)) (L18 : List (View.Piece (Elt F) S8x2816 .f32)) (L19 : List (View.Piece (Elt F) S8x2816 .f32)) (L20 : List (View.Piece (Elt F) S1x2816 .f32)), { L21 : List (View.Piece (Elt F) S1x1024 .f32) //
      ∀ (x11 : Vec F S256x5632 .bf16) (x12 : Vec F S256x1024 .f32) (x13 : Vec F S3x2816 .f32) (x14 : Vec F S1x2816 .f32) (x15 : Vec F S1x1024 .f32) (E : Set ℕ) (K : PUnit → sProp 𝕄),
        iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11) ∗ (arg12.view.loc (c : Thread nD τ) ↦[arg12.view.set]{fullShare} harg12.unread x12) ∗ (arg13.view.loc (c : Thread nD τ) ↦[arg13.view.set]{fullShare} harg13.unread x13) ∗ (arg14.view.loc (c : Thread nD τ) ↦[arg14.view.set]{fullShare} harg14.unread x14) ∗ (arg15.view.loc (c : Thread nD τ) ↦[arg15.view.set]{fullShare} harg15.unread x15) ∗ (arg16.view.loc (c : Thread nD τ) ↦[arg16.view.set]{fullShare} harg16.unread x16) ∗ (arg17.view.loc (c : Thread nD τ) ↦[arg17.view.set]{fullShare} harg17.unread x17) ∗ (arg18.view.loc (c : Thread nD τ) ↦[arg18.view.set]{fullShare} harg18.unread x18) ∗ (arg19.view.loc (c : Thread nD τ) ↦[arg19.view.set]{fullShare} harg19.unread x19) ∗ (arg20.view.loc (c : Thread nD τ) ↦[arg20.view.set]{fullShare} harg20.unread x20) ∗ (arg21.view.loc (c : Thread nD τ) ↦[arg21.view.set]{fullShare} harg21.unread x21)
          ∗ (iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12) ∗ (arg13.view.loc (c : Thread nD τ) ↦[arg13.view.set]{fullShare} harg13.unread x13) ∗ (arg14.view.loc (c : Thread nD τ) ↦[arg14.view.set]{fullShare} harg14.unread x14) ∗ (arg15.view.loc (c : Thread nD τ) ↦[arg15.view.set]{fullShare} harg15.unread x15) ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21)) -∗ K ⟨⟩))
        ⊢ wp frame (wpE (defs₀ (F := F)) Variants.none c none) E (cc0_ffn_block_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, fun x11 x12 x13 x14 x15 E K => ?run⟩
  case run =>
    simp only [cc0_ffn_block_bwd_eq_skeleton]; unfold cc0_ffn_block_bwd_skel
    iintro ⟨H1, H2, H3, H4, H5, H6, H7, H8, H9, H10, H11, H12, H13, H14, H15, H16, H17, H18, H19, H20, H21, Hk⟩
    sl_exec (disch := first | sl_exact hc0 | sl_exact hc1 | sl_exact hc2)
    sl_step
    iapply Hk
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    · iexact H21

end Cert.KernelIdeal.Ffn

end
-- ==== Proof.Ffn.RunB.lean ====
module

public import proofs.«01_k».proof.Proof.Ffn.Base

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 0 in
/-- The body at a point that is neither the first nor the last: one tile is processed. The stores into each output and scratch buffer are found by running it; they do not
    depend on what the output buffers held. -/
noncomputable def runB (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S16x2816 .bf16) (harg4 : arg4.IsWhole) (arg5 : Memref sig .tc .vmem S256x1024 .f32) (harg5 : arg5.IsWhole) (arg6 : Memref sig .tc .vmem S1x1024 .f32) (harg6 : arg6.IsWhole) (arg7 : Memref sig .tc .vmem S2x1024x2816 .bf16) (harg7 : arg7.IsWhole) (arg8 : Memref sig .tc .vmem S3x2816 .f32) (harg8 : arg8.IsWhole) (arg9 : Memref sig .tc .vmem S1x2816 .f32) (harg9 : arg9.IsWhole) (arg10 : Memref sig .tc .vmem S2816x1024 .bf16) (harg10 : arg10.IsWhole) (arg11 : Memref sig .tc .vmem S256x5632 .bf16) (harg11 : arg11.IsWhole) (arg12 : Memref sig .tc .vmem S256x1024 .f32) (harg12 : arg12.IsWhole) (arg13 : Memref sig .tc .vmem S3x2816 .f32) (harg13 : arg13.IsWhole) (arg14 : Memref sig .tc .vmem S1x2816 .f32) (harg14 : arg14.IsWhole) (arg15 : Memref sig .tc .vmem S1x1024 .f32) (harg15 : arg15.IsWhole) (arg16 : Memref sig .tc .vmem S2x256x2816 .f32) (harg16 : arg16.IsWhole) (arg17 : Memref sig .tc .vmem S2x256x5632 .bf16) (harg17 : arg17.IsWhole) (arg18 : Memref sig .tc .vmem S8x2816 .f32) (harg18 : arg18.IsWhole) (arg19 : Memref sig .tc .vmem S8x2816 .f32) (harg19 : arg19.IsWhole) (arg20 : Memref sig .tc .vmem S1x2816 .f32) (harg20 : arg20.IsWhole) (arg21 : Memref sig .tc .vmem S1x1024 .f32) (harg21 : arg21.IsWhole)
    (hc0 : ¬cond0 i) (hc1 : k0_cond2 i = 1#1) (hc2 : ¬k0_cond3 i = 1#1)
    (x1 : Vec F S256x1024 .f32) (x2 : Vec F S256x1024 .f32) (x3 : Vec F S256x5632 .bf16) (x4 : Vec F S16x2816 .bf16) (x5 : Vec F S256x1024 .f32) (x6 : Vec F S1x1024 .f32) (x7 : Vec F S2x1024x2816 .bf16) (x8 : Vec F S3x2816 .f32) (x9 : Vec F S1x2816 .f32) (x10 : Vec F S2816x1024 .bf16) (x16 : Vec F S2x256x2816 .f32) (x17 : Vec F S2x256x5632 .bf16) (x18 : Vec F S8x2816 .f32) (x19 : Vec F S8x2816 .f32) (x20 : Vec F S1x2816 .f32) (x21 : Vec F S1x1024 .f32) :
    Σ' (L11 : List (View.Piece (Elt F) S256x5632 .bf16)) (L12 : List (View.Piece (Elt F) S256x1024 .f32)) (L16 : List (View.Piece (Elt F) S2x256x2816 .f32)) (L17 : List (View.Piece (Elt F) S2x256x5632 .bf16)) (L18 : List (View.Piece (Elt F) S8x2816 .f32)) (L19 : List (View.Piece (Elt F) S8x2816 .f32)) (L20 : List (View.Piece (Elt F) S1x2816 .f32)), { L21 : List (View.Piece (Elt F) S1x1024 .f32) //
      ∀ (x11 : Vec F S256x5632 .bf16) (x12 : Vec F S256x1024 .f32) (x13 : Vec F S3x2816 .f32) (x14 : Vec F S1x2816 .f32) (x15 : Vec F S1x1024 .f32) (E : Set ℕ) (K : PUnit → sProp 𝕄),
        iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11) ∗ (arg12.view.loc (c : Thread nD τ) ↦[arg12.view.set]{fullShare} harg12.unread x12) ∗ (arg13.view.loc (c : Thread nD τ) ↦[arg13.view.set]{fullShare} harg13.unread x13) ∗ (arg14.view.loc (c : Thread nD τ) ↦[arg14.view.set]{fullShare} harg14.unread x14) ∗ (arg15.view.loc (c : Thread nD τ) ↦[arg15.view.set]{fullShare} harg15.unread x15) ∗ (arg16.view.loc (c : Thread nD τ) ↦[arg16.view.set]{fullShare} harg16.unread x16) ∗ (arg17.view.loc (c : Thread nD τ) ↦[arg17.view.set]{fullShare} harg17.unread x17) ∗ (arg18.view.loc (c : Thread nD τ) ↦[arg18.view.set]{fullShare} harg18.unread x18) ∗ (arg19.view.loc (c : Thread nD τ) ↦[arg19.view.set]{fullShare} harg19.unread x19) ∗ (arg20.view.loc (c : Thread nD τ) ↦[arg20.view.set]{fullShare} harg20.unread x20) ∗ (arg21.view.loc (c : Thread nD τ) ↦[arg21.view.set]{fullShare} harg21.unread x21)
          ∗ (iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12) ∗ (arg13.view.loc (c : Thread nD τ) ↦[arg13.view.set]{fullShare} harg13.unread x13) ∗ (arg14.view.loc (c : Thread nD τ) ↦[arg14.view.set]{fullShare} harg14.unread x14) ∗ (arg15.view.loc (c : Thread nD τ) ↦[arg15.view.set]{fullShare} harg15.unread x15) ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21)) -∗ K ⟨⟩))
        ⊢ wp frame (wpE (defs₀ (F := F)) Variants.none c none) E (cc0_ffn_block_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, fun x11 x12 x13 x14 x15 E K => ?run⟩
  case run =>
    simp only [cc0_ffn_block_bwd_eq_skeleton]; unfold cc0_ffn_block_bwd_skel
    iintro ⟨H1, H2, H3, H4, H5, H6, H7, H8, H9, H10, H11, H12, H13, H14, H15, H16, H17, H18, H19, H20, H21, Hk⟩
    sl_exec (disch := first | sl_exact hc0 | sl_exact hc1 | sl_exact hc2)
    sl_step
    iapply Hk
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    · iexact H21

end Cert.KernelIdeal.Ffn

end
-- ==== Proof.Ffn.RunC.lean ====
module

public import proofs.«01_k».proof.Proof.Ffn.Base

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 0 in
/-- The body at the last point: the first tile's norm, and the three small results. The stores into each output and scratch buffer are found by running it; they do not
    depend on what the output buffers held. -/
noncomputable def runC (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S16x2816 .bf16) (harg4 : arg4.IsWhole) (arg5 : Memref sig .tc .vmem S256x1024 .f32) (harg5 : arg5.IsWhole) (arg6 : Memref sig .tc .vmem S1x1024 .f32) (harg6 : arg6.IsWhole) (arg7 : Memref sig .tc .vmem S2x1024x2816 .bf16) (harg7 : arg7.IsWhole) (arg8 : Memref sig .tc .vmem S3x2816 .f32) (harg8 : arg8.IsWhole) (arg9 : Memref sig .tc .vmem S1x2816 .f32) (harg9 : arg9.IsWhole) (arg10 : Memref sig .tc .vmem S2816x1024 .bf16) (harg10 : arg10.IsWhole) (arg11 : Memref sig .tc .vmem S256x5632 .bf16) (harg11 : arg11.IsWhole) (arg12 : Memref sig .tc .vmem S256x1024 .f32) (harg12 : arg12.IsWhole) (arg13 : Memref sig .tc .vmem S3x2816 .f32) (harg13 : arg13.IsWhole) (arg14 : Memref sig .tc .vmem S1x2816 .f32) (harg14 : arg14.IsWhole) (arg15 : Memref sig .tc .vmem S1x1024 .f32) (harg15 : arg15.IsWhole) (arg16 : Memref sig .tc .vmem S2x256x2816 .f32) (harg16 : arg16.IsWhole) (arg17 : Memref sig .tc .vmem S2x256x5632 .bf16) (harg17 : arg17.IsWhole) (arg18 : Memref sig .tc .vmem S8x2816 .f32) (harg18 : arg18.IsWhole) (arg19 : Memref sig .tc .vmem S8x2816 .f32) (harg19 : arg19.IsWhole) (arg20 : Memref sig .tc .vmem S1x2816 .f32) (harg20 : arg20.IsWhole) (arg21 : Memref sig .tc .vmem S1x1024 .f32) (harg21 : arg21.IsWhole)
    (hc0 : ¬cond0 i) (hc1 : ¬k0_cond2 i = 1#1) (hc2 : k0_cond3 i = 1#1)
    (x1 : Vec F S256x1024 .f32) (x2 : Vec F S256x1024 .f32) (x3 : Vec F S256x5632 .bf16) (x4 : Vec F S16x2816 .bf16) (x5 : Vec F S256x1024 .f32) (x6 : Vec F S1x1024 .f32) (x7 : Vec F S2x1024x2816 .bf16) (x8 : Vec F S3x2816 .f32) (x9 : Vec F S1x2816 .f32) (x10 : Vec F S2816x1024 .bf16) (x16 : Vec F S2x256x2816 .f32) (x17 : Vec F S2x256x5632 .bf16) (x18 : Vec F S8x2816 .f32) (x19 : Vec F S8x2816 .f32) (x20 : Vec F S1x2816 .f32) (x21 : Vec F S1x1024 .f32) :
    Σ' (L12 : List (View.Piece (Elt F) S256x1024 .f32)) (L13 : List (View.Piece (Elt F) S3x2816 .f32)) (L14 : List (View.Piece (Elt F) S1x2816 .f32)) (L15 : List (View.Piece (Elt F) S1x1024 .f32)), { L21 : List (View.Piece (Elt F) S1x1024 .f32) //
      ∀ (x11 : Vec F S256x5632 .bf16) (x12 : Vec F S256x1024 .f32) (x13 : Vec F S3x2816 .f32) (x14 : Vec F S1x2816 .f32) (x15 : Vec F S1x1024 .f32) (E : Set ℕ) (K : PUnit → sProp 𝕄),
        iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11) ∗ (arg12.view.loc (c : Thread nD τ) ↦[arg12.view.set]{fullShare} harg12.unread x12) ∗ (arg13.view.loc (c : Thread nD τ) ↦[arg13.view.set]{fullShare} harg13.unread x13) ∗ (arg14.view.loc (c : Thread nD τ) ↦[arg14.view.set]{fullShare} harg14.unread x14) ∗ (arg15.view.loc (c : Thread nD τ) ↦[arg15.view.set]{fullShare} harg15.unread x15) ∗ (arg16.view.loc (c : Thread nD τ) ↦[arg16.view.set]{fullShare} harg16.unread x16) ∗ (arg17.view.loc (c : Thread nD τ) ↦[arg17.view.set]{fullShare} harg17.unread x17) ∗ (arg18.view.loc (c : Thread nD τ) ↦[arg18.view.set]{fullShare} harg18.unread x18) ∗ (arg19.view.loc (c : Thread nD τ) ↦[arg19.view.set]{fullShare} harg19.unread x19) ∗ (arg20.view.loc (c : Thread nD τ) ↦[arg20.view.set]{fullShare} harg20.unread x20) ∗ (arg21.view.loc (c : Thread nD τ) ↦[arg21.view.set]{fullShare} harg21.unread x21)
          ∗ (iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11) ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15) ∗ (arg16.view.loc (c : Thread nD τ) ↦[arg16.view.set]{fullShare} harg16.unread x16) ∗ (arg17.view.loc (c : Thread nD τ) ↦[arg17.view.set]{fullShare} harg17.unread x17) ∗ (arg18.view.loc (c : Thread nD τ) ↦[arg18.view.set]{fullShare} harg18.unread x18) ∗ (arg19.view.loc (c : Thread nD τ) ↦[arg19.view.set]{fullShare} harg19.unread x19) ∗ (arg20.view.loc (c : Thread nD τ) ↦[arg20.view.set]{fullShare} harg20.unread x20) ∗ (arg21.view.loc (c : Thread nD τ) ↦[arg21.view.set]{fullShare} arg21.view.writes (Elt F) (harg21.unread x21) L21)) -∗ K ⟨⟩))
        ⊢ wp frame (wpE (defs₀ (F := F)) Variants.none c none) E (cc0_ffn_block_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, fun x11 x12 x13 x14 x15 E K => ?run⟩
  case run =>
    simp only [cc0_ffn_block_bwd_eq_skeleton]; unfold cc0_ffn_block_bwd_skel
    iintro ⟨H1, H2, H3, H4, H5, H6, H7, H8, H9, H10, H11, H12, H13, H14, H15, H16, H17, H18, H19, H20, H21, Hk⟩
    sl_exec (disch := first | sl_exact hc0 | sl_exact hc1 | sl_exact hc2)
    sl_step
    iapply Hk
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    · iexact H21

end Cert.KernelIdeal.Ffn

end
-- ==== Proof.Ffn.State.lean ====
module

public import proofs.«01_k».proof.Proof.Ffn.RunA
public import proofs.«01_k».proof.Proof.Ffn.RunB
public import proofs.«01_k».proof.Proof.Ffn.RunC

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What the six scratch buffers and the five outputs hold, point by point, from whatever the scratch held at launch. -/

/-- The contents of the six scratch buffers. -/
structure Scr (F : FTy → Type) [FloatOps F] where
  dgg : Vec F S2x256x2816 .f32
  dup : Vec F S2x256x5632 .bf16
  carry : Vec F S8x2816 .f32
  accW : Vec F S8x2816 .f32
  accB : Vec F S1x2816 .f32
  accN : Vec F S1x1024 .f32

/-! Each window's current staging memref at point `t`, and the scratch memrefs. -/

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x5632 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x2816 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x1024x2816 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S3x2816 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x2816 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2816x1024 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x5632 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x1024 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S3x2816 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x2816 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x1024 .f32 := win0_14.stage (cfg0.slots t 14)
abbrev hs14 (t : Fin cfg0.N) : (ms14 t).IsWhole := hstage0_14 ((cfg0.slots t 14).cast nbuf0_14)
abbrev sc0 : Memref sig .tc .vmem S2x256x2816 .f32 := Memref.whole cc0_scratch0
abbrev hsc0 : (sc0).IsWhole := Memref.isWhole_whole _
abbrev sc1 : Memref sig .tc .vmem S2x256x5632 .bf16 := Memref.whole cc0_scratch1
abbrev hsc1 : (sc1).IsWhole := Memref.isWhole_whole _
abbrev sc2 : Memref sig .tc .vmem S8x2816 .f32 := Memref.whole cc0_scratch2
abbrev hsc2 : (sc2).IsWhole := Memref.isWhole_whole _
abbrev sc3 : Memref sig .tc .vmem S8x2816 .f32 := Memref.whole cc0_scratch3
abbrev hsc3 : (sc3).IsWhole := Memref.isWhole_whole _
abbrev sc4 : Memref sig .tc .vmem S1x2816 .f32 := Memref.whole cc0_scratch4
abbrev hsc4 : (sc4).IsWhole := Memref.isWhole_whole _
abbrev sc5 : Memref sig .tc .vmem S1x1024 .f32 := Memref.whole cc0_scratch5
abbrev hsc5 : (sc5).IsWhole := Memref.isWhole_whole _

/-- The run of case A at point `t`, on the blocks of the point and the scratch contents `g`. -/
def atA (c : Dev nD) (t : Fin cfg0.N) (h0 : t.val = 0) (g : Scr F) :=
  runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 hsc0 sc1 hsc1 sc2 hsc2 sc3 hsc3 sc4 hsc4 sc5 hsc5 ((hcond0 t).mpr h0) ((hcond1 t).mpr (by omega)) (fun h => by have := (hcond2 t).mp h; omega) (iblk m c 0 t) (iblk m c 1 t) (iblk m c 2 t) (iblk m c 3 t) (iblk m c 4 t) (iblk m c 5 t) (iblk m c 6 t) (iblk m c 7 t) (iblk m c 8 t) (iblk m c 9 t) g.dgg g.dup g.carry g.accW g.accB g.accN

/-- The run of case B at point `t`, on the blocks of the point and the scratch contents `g`. -/
def atB (c : Dev nD) (t : Fin cfg0.N) (h0 : ¬t.val = 0) (h1 : t.val < 33) (g : Scr F) :=
  runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 hsc0 sc1 hsc1 sc2 hsc2 sc3 hsc3 sc4 hsc4 sc5 hsc5 (fun h => h0 ((hcond0 t).mp h)) ((hcond1 t).mpr h1) (fun h => by have := (hcond2 t).mp h; omega) (iblk m c 0 t) (iblk m c 1 t) (iblk m c 2 t) (iblk m c 3 t) (iblk m c 4 t) (iblk m c 5 t) (iblk m c 6 t) (iblk m c 7 t) (iblk m c 8 t) (iblk m c 9 t) g.dgg g.dup g.carry g.accW g.accB g.accN

/-- The run of case C at point `t`, on the blocks of the point and the scratch contents `g`. -/
def atC (c : Dev nD) (t : Fin cfg0.N) (h1 : ¬t.val < 33) (g : Scr F) :=
  runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 hsc0 sc1 hsc1 sc2 hsc2 sc3 hsc3 sc4 hsc4 sc5 hsc5 (fun h => by have := (hcond0 t).mp h; omega) (fun h => h1 ((hcond1 t).mp h)) ((hcond2 t).mpr (by have := Nat.lt_of_lt_of_eq t.isLt N_0; omega)) (iblk m c 0 t) (iblk m c 1 t) (iblk m c 2 t) (iblk m c 3 t) (iblk m c 4 t) (iblk m c 5 t) (iblk m c 6 t) (iblk m c 7 t) (iblk m c 8 t) (iblk m c 9 t) g.dgg g.dup g.carry g.accW g.accB g.accN

/-- The scratch after case A. -/
def stepA (c : Dev nD) (t : Fin cfg0.N) (h0 : t.val = 0) (g : Scr F) : Scr F where
  dgg := View.read (Elt F) (sc0).view ((sc0).view.writes (Elt F) ((hsc0).unread g.dgg) (atA m c t h0 g).2.2.1)
  dup := View.read (Elt F) (sc1).view ((sc1).view.writes (Elt F) ((hsc1).unread g.dup) (atA m c t h0 g).2.2.2.1)
  carry := View.read (Elt F) (sc2).view ((sc2).view.writes (Elt F) ((hsc2).unread g.carry) (atA m c t h0 g).2.2.2.2.1)
  accW := View.read (Elt F) (sc3).view ((sc3).view.writes (Elt F) ((hsc3).unread g.accW) (atA m c t h0 g).2.2.2.2.2.1)
  accB := View.read (Elt F) (sc4).view ((sc4).view.writes (Elt F) ((hsc4).unread g.accB) (atA m c t h0 g).2.2.2.2.2.2.1)
  accN := View.read (Elt F) (sc5).view ((sc5).view.writes (Elt F) ((hsc5).unread g.accN) (atA m c t h0 g).2.2.2.2.2.2.2.val)

/-- The scratch after case B. -/
def stepB (c : Dev nD) (t : Fin cfg0.N) (h0 : ¬t.val = 0) (h1 : t.val < 33) (g : Scr F) : Scr F where
  dgg := View.read (Elt F) (sc0).view ((sc0).view.writes (Elt F) ((hsc0).unread g.dgg) (atB m c t h0 h1 g).2.2.1)
  dup := View.read (Elt F) (sc1).view ((sc1).view.writes (Elt F) ((hsc1).unread g.dup) (atB m c t h0 h1 g).2.2.2.1)
  carry := View.read (Elt F) (sc2).view ((sc2).view.writes (Elt F) ((hsc2).unread g.carry) (atB m c t h0 h1 g).2.2.2.2.1)
  accW := View.read (Elt F) (sc3).view ((sc3).view.writes (Elt F) ((hsc3).unread g.accW) (atB m c t h0 h1 g).2.2.2.2.2.1)
  accB := View.read (Elt F) (sc4).view ((sc4).view.writes (Elt F) ((hsc4).unread g.accB) (atB m c t h0 h1 g).2.2.2.2.2.2.1)
  accN := View.read (Elt F) (sc5).view ((sc5).view.writes (Elt F) ((hsc5).unread g.accN) (atB m c t h0 h1 g).2.2.2.2.2.2.2.val)

/-- The scratch after case C. -/
def stepC (c : Dev nD) (t : Fin cfg0.N) (h1 : ¬t.val < 33) (g : Scr F) : Scr F where
  dgg := g.dgg
  dup := g.dup
  carry := g.carry
  accW := g.accW
  accB := g.accB
  accN := View.read (Elt F) (sc5).view ((sc5).view.writes (Elt F) ((hsc5).unread g.accN) (atC m c t h1 g).2.2.2.2.val)

/-- The scratch after point `t`, from the contents `g` before it. -/
def step (c : Dev nD) (t : Fin cfg0.N) (g : Scr F) : Scr F :=
  if h0 : t.val = 0 then stepA m c t h0 g else if h1 : t.val < 33 then stepB m c t h0 h1 g else stepC m c t h1 g

/-- The scratch before point `n`, from the contents `g` at launch. -/
def state (c : Dev nD) (g : Scr F) : ℕ → Scr F
  | 0 => g
  | n + 1 => if h : n < cfg0.N then step m c ⟨n, h⟩ (state c g n) else state c g n

theorem state_succ (c : Dev nD) (g : Scr F) (t : Fin cfg0.N) : state m c g (t.val + 1) = step m c t (state m c g t.val) := by
  show (if h : t.val < cfg0.N then step m c ⟨t.val, h⟩ (state m c g t.val) else state m c g t.val) = _
  rw [dif_pos t.isLt]

/-- What window 10's buffer holds after point `t`, from the scratch `g` before it and what the buffer held (`Y`). -/
def out10 (c : Dev nD) (t : Fin cfg0.N) (g : Scr F) (Y : Vec F S256x5632 .bf16) : Vec F S256x5632 .bf16 :=
  if h0 : t.val = 0 then View.read (Elt F) (ms10 t).view ((ms10 t).view.writes (Elt F) ((hs10 t).unread Y) (atA m c t h0 g).1) else if h1 : t.val < 33 then View.read (Elt F) (ms10 t).view ((ms10 t).view.writes (Elt F) ((hs10 t).unread Y) (atB m c t h0 h1 g).1) else Y

/-- What window 11's buffer holds after point `t`, from the scratch `g` before it and what the buffer held (`Y`). -/
def out11 (c : Dev nD) (t : Fin cfg0.N) (g : Scr F) (Y : Vec F S256x1024 .f32) : Vec F S256x1024 .f32 :=
  if h0 : t.val = 0 then View.read (Elt F) (ms11 t).view ((ms11 t).view.writes (Elt F) ((hs11 t).unread Y) (atA m c t h0 g).2.1) else if h1 : t.val < 33 then View.read (Elt F) (ms11 t).view ((ms11 t).view.writes (Elt F) ((hs11 t).unread Y) (atB m c t h0 h1 g).2.1) else View.read (Elt F) (ms11 t).view ((ms11 t).view.writes (Elt F) ((hs11 t).unread Y) (atC m c t h1 g).1)

/-- What window 12's buffer holds after point `t`, from the scratch `g` before it and what the buffer held (`Y`). -/
def out12 (c : Dev nD) (t : Fin cfg0.N) (g : Scr F) (Y : Vec F S3x2816 .f32) : Vec F S3x2816 .f32 :=
  if h0 : t.val = 0 then Y else if h1 : t.val < 33 then Y else View.read (Elt F) (ms12 t).view ((ms12 t).view.writes (Elt F) ((hs12 t).unread Y) (atC m c t h1 g).2.1)

/-- What window 13's buffer holds after point `t`, from the scratch `g` before it and what the buffer held (`Y`). -/
def out13 (c : Dev nD) (t : Fin cfg0.N) (g : Scr F) (Y : Vec F S1x2816 .f32) : Vec F S1x2816 .f32 :=
  if h0 : t.val = 0 then Y else if h1 : t.val < 33 then Y else View.read (Elt F) (ms13 t).view ((ms13 t).view.writes (Elt F) ((hs13 t).unread Y) (atC m c t h1 g).2.2.1)

/-- What window 14's buffer holds after point `t`, from the scratch `g` before it and what the buffer held (`Y`). -/
def out14 (c : Dev nD) (t : Fin cfg0.N) (g : Scr F) (Y : Vec F S1x1024 .f32) : Vec F S1x1024 .f32 :=
  if h0 : t.val = 0 then Y else if h1 : t.val < 33 then Y else View.read (Elt F) (ms14 t).view ((ms14 t).view.writes (Elt F) ((hs14 t).unread Y) (atC m c t h1 g).2.2.2.1)

/-- What the body is handed at point `t`: its blocks, the outputs' buffers, the scratch. -/
def handed (c : Dev nD) (t : Fin cfg0.N) (g : Scr F) (Y10 : Vec F S256x5632 .bf16) (Y11 : Vec F S256x1024 .f32) (Y12 : Vec F S3x2816 .f32) (Y13 : Vec F S1x2816 .f32) (Y14 : Vec F S1x1024 .f32) : sProp 𝕄 :=
  iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare Y10 ∗ owns (c : Thread nD τ) (ms11 t) fullShare Y11 ∗ owns (c : Thread nD τ) (ms12 t) fullShare Y12 ∗ owns (c : Thread nD τ) (ms13 t) fullShare Y13 ∗ owns (c : Thread nD τ) (ms14 t) fullShare Y14 ∗ owns (c : Thread nD τ) (sc0) fullShare g.dgg ∗ owns (c : Thread nD τ) (sc1) fullShare g.dup ∗ owns (c : Thread nD τ) (sc2) fullShare g.carry ∗ owns (c : Thread nD τ) (sc3) fullShare g.accW ∗ owns (c : Thread nD τ) (sc4) fullShare g.accB ∗ owns (c : Thread nD τ) (sc5) fullShare g.accN)

/-- What it hands back. -/
def returned (c : Dev nD) (t : Fin cfg0.N) (g : Scr F) (Y10 : Vec F S256x5632 .bf16) (Y11 : Vec F S256x1024 .f32) (Y12 : Vec F S3x2816 .f32) (Y13 : Vec F S1x2816 .f32) (Y14 : Vec F S1x1024 .f32) : sProp 𝕄 :=
  iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (out10 m c t g Y10) ∗ owns (c : Thread nD τ) (ms11 t) fullShare (out11 m c t g Y11) ∗ owns (c : Thread nD τ) (ms12 t) fullShare (out12 m c t g Y12) ∗ owns (c : Thread nD τ) (ms13 t) fullShare (out13 m c t g Y13) ∗ owns (c : Thread nD τ) (ms14 t) fullShare (out14 m c t g Y14) ∗ owns (c : Thread nD τ) (sc0) fullShare (step m c t g).dgg ∗ owns (c : Thread nD τ) (sc1) fullShare (step m c t g).dup ∗ owns (c : Thread nD τ) (sc2) fullShare (step m c t g).carry ∗ owns (c : Thread nD τ) (sc3) fullShare (step m c t g).accW ∗ owns (c : Thread nD τ) (sc4) fullShare (step m c t g).accB ∗ owns (c : Thread nD τ) (sc5) fullShare (step m c t g).accN)

set_option maxHeartbeats 4000000 in
theorem soundA (c : Dev nD) (t : Fin cfg0.N) (h0 : t.val = 0) (g : Scr F) (Y10 : Vec F S256x5632 .bf16) (Y11 : Vec F S256x1024 .f32) (Y12 : Vec F S3x2816 .f32) (Y13 : Vec F S1x2816 .f32) (Y14 : Vec F S1x1024 .f32) :
    handed m c t g Y10 Y11 Y12 Y13 Y14 ⊢ wp frame (wpE (defs₀ (F := F)) Variants.none c none) Set.univ (bodyAt0 t) (fun _ => returned m c t g Y10 Y11 Y12 Y13 Y14) := by
  unfold handed returned bodyAt0
  rw [show step m c t g = stepA m c t h0 g from dif_pos h0]
  simp only [out10, out11, out12, out13, out14, dif_pos h0, stepA]
  iintro ⟨H1, H2, H3, H4, H5, H6, H7, H8, H9, H10, H11, H12, H13, H14, H15, H16, H17, H18, H19, H20, H21⟩
  iapply ((atA m c t h0 g).2.2.2.2.2.2.2.property Y10 Y11 Y12 Y13 Y14 Set.univ _)
  isplitl [H1]; · iapply (raw_of_owns (c : Thread nD τ) _ (hs0 t) _) $$ H1
  isplitl [H2]; · iapply (raw_of_owns (c : Thread nD τ) _ (hs1 t) _) $$ H2
  isplitl [H3]; · iapply (raw_of_owns (c : Thread nD τ) _ (hs2 t) _) $$ H3
  isplitl [H4]; · iapply (raw_of_owns (c : Thread nD τ) _ (hs3 t) _) $$ H4
  isplitl [H5]; · iapply (raw_of_owns (c : Thread nD τ) _ (hs4 t) _) $$ H5
  isplitl [H6]; · iapply (raw_of_owns (c : Thread nD τ) _ (hs5 t) _) $$ H6
  isplitl [H7]; · iapply (raw_of_owns (c : Thread nD τ) _ (hs6 t) _) $$ H7
  isplitl [H8]; · iapply (raw_of_owns (c : Thread nD τ) _ (hs7 t) _) $$ H8
  isplitl [H9]; · iapply (raw_of_owns (c : Thread nD τ) _ (hs8 t) _) $$ H9
  isplitl [H10]; · iapply (raw_of_owns (c : Thread nD τ) _ (hs9 t) _) $$ H10
  isplitl [H11]; · iapply (raw_of_owns (c : Thread nD τ) _ (hs10 t) _) $$ H11
  isplitl [H12]; · iapply (raw_of_owns (c : Thread nD τ) _ (hs11 t) _) $$ H12
  isplitl [H13]; · iapply (raw_of_owns (c : Thread nD τ) _ (hs12 t) _) $$ H13
  isplitl [H14]; · iapply (raw_of_owns (c : Thread nD τ) _ (hs13 t) _) $$ H14
  isplitl [H15]; · iapply (raw_of_owns (c : Thread nD τ) _ (hs14 t) _) $$ H15
  isplitl [H16]; · iapply (raw_of_owns (c : Thread nD τ) _ (hsc0) _) $$ H16
  isplitl [H17]; · iapply (raw_of_owns (c : Thread nD τ) _ (hsc1) _) $$ H17
  isplitl [H18]; · iapply (raw_of_owns (c : Thread nD τ) _ (hsc2) _) $$ H18
  isplitl [H19]; · iapply (raw_of_owns (c : Thread nD τ) _ (hsc3) _) $$ H19
  isplitl [H20]; · iapply (raw_of_owns (c : Thread nD τ) _ (hsc4) _) $$ H20
  isplitl [H21]; · iapply (raw_of_owns (c : Thread nD τ) _ (hsc5) _) $$ H21
  iintro ⟨H1, H2, H3, H4, H5, H6, H7, H8, H9, H10, H11, H12, H13, H14, H15, H16, H17, H18, H19, H20, H21⟩
  isplitl [H1]; · iapply (owns_of_unread (c : Thread nD τ) (ms0 t) (hs0 t) _) $$ H1
  isplitl [H2]; · iapply (owns_of_unread (c : Thread nD τ) (ms1 t) (hs1 t) _) $$ H2
  isplitl [H3]; · iapply (owns_of_unread (c : Thread nD τ) (ms2 t) (hs2 t) _) $$ H3
  isplitl [H4]; · iapply (owns_of_unread (c : Thread nD τ) (ms3 t) (hs3 t) _) $$ H4
  isplitl [H5]; · iapply (owns_of_unread (c : Thread nD τ) (ms4 t) (hs4 t) _) $$ H5
  isplitl [H6]; · iapply (owns_of_unread (c : Thread nD τ) (ms5 t) (hs5 t) _) $$ H6
  isplitl [H7]; · iapply (owns_of_unread (c : Thread nD τ) (ms6 t) (hs6 t) _) $$ H7
  isplitl [H8]; · iapply (owns_of_unread (c : Thread nD τ) (ms7 t) (hs7 t) _) $$ H8
  isplitl [H9]; · iapply (owns_of_unread (c : Thread nD τ) (ms8 t) (hs8 t) _) $$ H9
  isplitl [H10]; · iapply (owns_of_unread (c : Thread nD τ) (ms9 t) (hs9 t) _) $$ H10
  isplitl [H11]; · iapply (owns_of_raw (c : Thread nD τ) (ms10 t) _) $$ H11
  isplitl [H12]; · iapply (owns_of_raw (c : Thread nD τ) (ms11 t) _) $$ H12
  isplitl [H13]; · iapply (owns_of_unread (c : Thread nD τ) (ms12 t) (hs12 t) _) $$ H13
  isplitl [H14]; · iapply (owns_of_unread (c : Thread nD τ) (ms13 t) (hs13 t) _) $$ H14
  isplitl [H15]; · iapply (owns_of_unread (c : Thread nD τ) (ms14 t) (hs14 t) _) $$ H15
  isplitl [H16]; · iapply (owns_of_raw (c : Thread nD τ) (sc0) _) $$ H16
  isplitl [H17]; · iapply (owns_of_raw (c : Thread nD τ) (sc1) _) $$ H17
  isplitl [H18]; · iapply (owns_of_raw (c : Thread nD τ) (sc2) _) $$ H18
  isplitl [H19]; · iapply (owns_of_raw (c : Thread nD τ) (sc3) _) $$ H19
  isplitl [H20]; · iapply (owns_of_raw (c : Thread nD τ) (sc4) _) $$ H20
  iapply (owns_of_raw (c : Thread nD τ) (sc5) _) $$ H21

set_option maxHeartbeats 4000000 in
theorem soundB (c : Dev nD) (t : Fin cfg0.N) (h0 : ¬t.val = 0) (h1 : t.val < 33) (g : Scr F) (Y10 : Vec F S256x5632 .bf16) (Y11 : Vec F S256x1024 .f32) (Y12 : Vec F S3x2816 .f32) (Y13 : Vec F S1x2816 .f32) (Y14 : Vec F S1x1024 .f32) :
    handed m c t g Y10 Y11 Y12 Y13 Y14 ⊢ wp frame (wpE (defs₀ (F := F)) Variants.none c none) Set.univ (bodyAt0 t) (fun _ => returned m c t g Y10 Y11 Y12 Y13 Y14) := by
  unfold handed returned bodyAt0
  rw [show step m c t g = stepB m c t h0 h1 g from (dif_neg h0).trans (dif_pos h1)]
  simp only [out10, out11, out12, out13, out14, dif_neg h0, dif_pos h1, stepB]
  iintro ⟨H1, H2, H3, H4, H5, H6, H7, H8, H9, H10, H11, H12, H13, H14, H15, H16, H17, H18, H19, H20, H21⟩
  iapply ((atB m c t h0 h1 g).2.2.2.2.2.2.2.property Y10 Y11 Y12 Y13 Y14 Set.univ _)
  isplitl [H1]; · iapply (raw_of_owns (c : Thread nD τ) _ (hs0 t) _) $$ H1
  isplitl [H2]; · iapply (raw_of_owns (c : Thread nD τ) _ (hs1 t) _) $$ H2
  isplitl [H3]; · iapply (raw_of_owns (c : Thread nD τ) _ (hs2 t) _) $$ H3
  isplitl [H4]; · iapply (raw_of_owns (c : Thread nD τ) _ (hs3 t) _) $$ H4
  isplitl [H5]; · iapply (raw_of_owns (c : Thread nD τ) _ (hs4 t) _) $$ H5
  isplitl [H6]; · iapply (raw_of_owns (c : Thread nD τ) _ (hs5 t) _) $$ H6
  isplitl [H7]; · iapply (raw_of_owns (c : Thread nD τ) _ (hs6 t) _) $$ H7
  isplitl [H8]; · iapply (raw_of_owns (c : Thread nD τ) _ (hs7 t) _) $$ H8
  isplitl [H9]; · iapply (raw_of_owns (c : Thread nD τ) _ (hs8 t) _) $$ H9
  isplitl [H10]; · iapply (raw_of_owns (c : Thread nD τ) _ (hs9 t) _) $$ H10
  isplitl [H11]; · iapply (raw_of_owns (c : Thread nD τ) _ (hs10 t) _) $$ H11
  isplitl [H12]; · iapply (raw_of_owns (c : Thread nD τ) _ (hs11 t) _) $$ H12
  isplitl [H13]; · iapply (raw_of_owns (c : Thread nD τ) _ (hs12 t) _) $$ H13
  isplitl [H14]; · iapply (raw_of_owns (c : Thread nD τ) _ (hs13 t) _) $$ H14
  isplitl [H15]; · iapply (raw_of_owns (c : Thread nD τ) _ (hs14 t) _) $$ H15
  isplitl [H16]; · iapply (raw_of_owns (c : Thread nD τ) _ (hsc0) _) $$ H16
  isplitl [H17]; · iapply (raw_of_owns (c : Thread nD τ) _ (hsc1) _) $$ H17
  isplitl [H18]; · iapply (raw_of_owns (c : Thread nD τ) _ (hsc2) _) $$ H18
  isplitl [H19]; · iapply (raw_of_owns (c : Thread nD τ) _ (hsc3) _) $$ H19
  isplitl [H20]; · iapply (raw_of_owns (c : Thread nD τ) _ (hsc4) _) $$ H20
  isplitl [H21]; · iapply (raw_of_owns (c : Thread nD τ) _ (hsc5) _) $$ H21
  iintro ⟨H1, H2, H3, H4, H5, H6, H7, H8, H9, H10, H11, H12, H13, H14, H15, H16, H17, H18, H19, H20, H21⟩
  isplitl [H1]; · iapply (owns_of_unread (c : Thread nD τ) (ms0 t) (hs0 t) _) $$ H1
  isplitl [H2]; · iapply (owns_of_unread (c : Thread nD τ) (ms1 t) (hs1 t) _) $$ H2
  isplitl [H3]; · iapply (owns_of_unread (c : Thread nD τ) (ms2 t) (hs2 t) _) $$ H3
  isplitl [H4]; · iapply (owns_of_unread (c : Thread nD τ) (ms3 t) (hs3 t) _) $$ H4
  isplitl [H5]; · iapply (owns_of_unread (c : Thread nD τ) (ms4 t) (hs4 t) _) $$ H5
  isplitl [H6]; · iapply (owns_of_unread (c : Thread nD τ) (ms5 t) (hs5 t) _) $$ H6
  isplitl [H7]; · iapply (owns_of_unread (c : Thread nD τ) (ms6 t) (hs6 t) _) $$ H7
  isplitl [H8]; · iapply (owns_of_unread (c : Thread nD τ) (ms7 t) (hs7 t) _) $$ H8
  isplitl [H9]; · iapply (owns_of_unread (c : Thread nD τ) (ms8 t) (hs8 t) _) $$ H9
  isplitl [H10]; · iapply (owns_of_unread (c : Thread nD τ) (ms9 t) (hs9 t) _) $$ H10
  isplitl [H11]; · iapply (owns_of_raw (c : Thread nD τ) (ms10 t) _) $$ H11
  isplitl [H12]; · iapply (owns_of_raw (c : Thread nD τ) (ms11 t) _) $$ H12
  isplitl [H13]; · iapply (owns_of_unread (c : Thread nD τ) (ms12 t) (hs12 t) _) $$ H13
  isplitl [H14]; · iapply (owns_of_unread (c : Thread nD τ) (ms13 t) (hs13 t) _) $$ H14
  isplitl [H15]; · iapply (owns_of_unread (c : Thread nD τ) (ms14 t) (hs14 t) _) $$ H15
  isplitl [H16]; · iapply (owns_of_raw (c : Thread nD τ) (sc0) _) $$ H16
  isplitl [H17]; · iapply (owns_of_raw (c : Thread nD τ) (sc1) _) $$ H17
  isplitl [H18]; · iapply (owns_of_raw (c : Thread nD τ) (sc2) _) $$ H18
  isplitl [H19]; · iapply (owns_of_raw (c : Thread nD τ) (sc3) _) $$ H19
  isplitl [H20]; · iapply (owns_of_raw (c : Thread nD τ) (sc4) _) $$ H20
  iapply (owns_of_raw (c : Thread nD τ) (sc5) _) $$ H21

set_option maxHeartbeats 4000000 in
theorem soundC (c : Dev nD) (t : Fin cfg0.N) (h1 : ¬t.val < 33) (g : Scr F) (Y10 : Vec F S256x5632 .bf16) (Y11 : Vec F S256x1024 .f32) (Y12 : Vec F S3x2816 .f32) (Y13 : Vec F S1x2816 .f32) (Y14 : Vec F S1x1024 .f32) :
    handed m c t g Y10 Y11 Y12 Y13 Y14 ⊢ wp frame (wpE (defs₀ (F := F)) Variants.none c none) Set.univ (bodyAt0 t) (fun _ => returned m c t g Y10 Y11 Y12 Y13 Y14) := by
  unfold handed returned bodyAt0
  have h0 : ¬t.val = 0 := by omega
  rw [show step m c t g = stepC m c t h1 g from (dif_neg h0).trans (dif_neg h1)]
  simp only [out10, out11, out12, out13, out14, dif_neg h0, dif_neg h1, stepC]
  iintro ⟨H1, H2, H3, H4, H5, H6, H7, H8, H9, H10, H11, H12, H13, H14, H15, H16, H17, H18, H19, H20, H21⟩
  iapply ((atC m c t h1 g).2.2.2.2.property Y10 Y11 Y12 Y13 Y14 Set.univ _)
  isplitl [H1]; · iapply (raw_of_owns (c : Thread nD τ) _ (hs0 t) _) $$ H1
  isplitl [H2]; · iapply (raw_of_owns (c : Thread nD τ) _ (hs1 t) _) $$ H2
  isplitl [H3]; · iapply (raw_of_owns (c : Thread nD τ) _ (hs2 t) _) $$ H3
  isplitl [H4]; · iapply (raw_of_owns (c : Thread nD τ) _ (hs3 t) _) $$ H4
  isplitl [H5]; · iapply (raw_of_owns (c : Thread nD τ) _ (hs4 t) _) $$ H5
  isplitl [H6]; · iapply (raw_of_owns (c : Thread nD τ) _ (hs5 t) _) $$ H6
  isplitl [H7]; · iapply (raw_of_owns (c : Thread nD τ) _ (hs6 t) _) $$ H7
  isplitl [H8]; · iapply (raw_of_owns (c : Thread nD τ) _ (hs7 t) _) $$ H8
  isplitl [H9]; · iapply (raw_of_owns (c : Thread nD τ) _ (hs8 t) _) $$ H9
  isplitl [H10]; · iapply (raw_of_owns (c : Thread nD τ) _ (hs9 t) _) $$ H10
  isplitl [H11]; · iapply (raw_of_owns (c : Thread nD τ) _ (hs10 t) _) $$ H11
  isplitl [H12]; · iapply (raw_of_owns (c : Thread nD τ) _ (hs11 t) _) $$ H12
  isplitl [H13]; · iapply (raw_of_owns (c : Thread nD τ) _ (hs12 t) _) $$ H13
  isplitl [H14]; · iapply (raw_of_owns (c : Thread nD τ) _ (hs13 t) _) $$ H14
  isplitl [H15]; · iapply (raw_of_owns (c : Thread nD τ) _ (hs14 t) _) $$ H15
  isplitl [H16]; · iapply (raw_of_owns (c : Thread nD τ) _ (hsc0) _) $$ H16
  isplitl [H17]; · iapply (raw_of_owns (c : Thread nD τ) _ (hsc1) _) $$ H17
  isplitl [H18]; · iapply (raw_of_owns (c : Thread nD τ) _ (hsc2) _) $$ H18
  isplitl [H19]; · iapply (raw_of_owns (c : Thread nD τ) _ (hsc3) _) $$ H19
  isplitl [H20]; · iapply (raw_of_owns (c : Thread nD τ) _ (hsc4) _) $$ H20
  isplitl [H21]; · iapply (raw_of_owns (c : Thread nD τ) _ (hsc5) _) $$ H21
  iintro ⟨H1, H2, H3, H4, H5, H6, H7, H8, H9, H10, H11, H12, H13, H14, H15, H16, H17, H18, H19, H20, H21⟩
  isplitl [H1]; · iapply (owns_of_unread (c : Thread nD τ) (ms0 t) (hs0 t) _) $$ H1
  isplitl [H2]; · iapply (owns_of_unread (c : Thread nD τ) (ms1 t) (hs1 t) _) $$ H2
  isplitl [H3]; · iapply (owns_of_unread (c : Thread nD τ) (ms2 t) (hs2 t) _) $$ H3
  isplitl [H4]; · iapply (owns_of_unread (c : Thread nD τ) (ms3 t) (hs3 t) _) $$ H4
  isplitl [H5]; · iapply (owns_of_unread (c : Thread nD τ) (ms4 t) (hs4 t) _) $$ H5
  isplitl [H6]; · iapply (owns_of_unread (c : Thread nD τ) (ms5 t) (hs5 t) _) $$ H6
  isplitl [H7]; · iapply (owns_of_unread (c : Thread nD τ) (ms6 t) (hs6 t) _) $$ H7
  isplitl [H8]; · iapply (owns_of_unread (c : Thread nD τ) (ms7 t) (hs7 t) _) $$ H8
  isplitl [H9]; · iapply (owns_of_unread (c : Thread nD τ) (ms8 t) (hs8 t) _) $$ H9
  isplitl [H10]; · iapply (owns_of_unread (c : Thread nD τ) (ms9 t) (hs9 t) _) $$ H10
  isplitl [H11]; · iapply (owns_of_unread (c : Thread nD τ) (ms10 t) (hs10 t) _) $$ H11
  isplitl [H12]; · iapply (owns_of_raw (c : Thread nD τ) (ms11 t) _) $$ H12
  isplitl [H13]; · iapply (owns_of_raw (c : Thread nD τ) (ms12 t) _) $$ H13
  isplitl [H14]; · iapply (owns_of_raw (c : Thread nD τ) (ms13 t) _) $$ H14
  isplitl [H15]; · iapply (owns_of_raw (c : Thread nD τ) (ms14 t) _) $$ H15
  isplitl [H16]; · iapply (owns_of_unread (c : Thread nD τ) (sc0) (hsc0) _) $$ H16
  isplitl [H17]; · iapply (owns_of_unread (c : Thread nD τ) (sc1) (hsc1) _) $$ H17
  isplitl [H18]; · iapply (owns_of_unread (c : Thread nD τ) (sc2) (hsc2) _) $$ H18
  isplitl [H19]; · iapply (owns_of_unread (c : Thread nD τ) (sc3) (hsc3) _) $$ H19
  isplitl [H20]; · iapply (owns_of_unread (c : Thread nD τ) (sc4) (hsc4) _) $$ H20
  iapply (owns_of_raw (c : Thread nD τ) (sc5) _) $$ H21

/-- The body at any point. -/
theorem sound (c : Dev nD) (t : Fin cfg0.N) (g : Scr F) (Y10 : Vec F S256x5632 .bf16) (Y11 : Vec F S256x1024 .f32) (Y12 : Vec F S3x2816 .f32) (Y13 : Vec F S1x2816 .f32) (Y14 : Vec F S1x1024 .f32) :
    handed m c t g Y10 Y11 Y12 Y13 Y14 ⊢ wp frame (wpE (defs₀ (F := F)) Variants.none c none) Set.univ (bodyAt0 t) (fun _ => returned m c t g Y10 Y11 Y12 Y13 Y14) := by
  by_cases h0 : t.val = 0
  · exact soundA m c t h0 g Y10 Y11 Y12 Y13 Y14
  · by_cases h1 : t.val < 33
    · exact soundB m c t h0 h1 g Y10 Y11 Y12 Y13 Y14
    · exact soundC m c t h1 g Y10 Y11 Y12 Y13 Y14

end Cert.KernelIdeal.Ffn

end
-- ==== Proof.Ffn.Run.lean ====
module

public import proofs.«01_k».proof.Proof.Ffn.State

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The launch: what every point may leave, stated as a relation because the scratch starts at contents nothing names. -/

/-- The six scratch buffers at `g`. -/
def scratchAt (c : Dev nD) (g : Scr F) : sProp 𝕄 :=
  iprop(owns (c : Thread nD τ) sc0 fullShare g.dgg ∗ owns (c : Thread nD τ) sc1 fullShare g.dup ∗ owns (c : Thread nD τ) sc2 fullShare g.carry ∗ owns (c : Thread nD τ) sc3 fullShare g.accW ∗ owns (c : Thread nD τ) sc4 fullShare g.accB ∗ owns (c : Thread nD τ) sc5 fullShare g.accN)

/-- Before point `n`: the scratch at the state reached from some contents at launch, and the generator register. -/
def inv (c : Dev nD) (n : ℕ) : sProp 𝕄 :=
  iprop((∃ g : Scr F, scratchAt c (state m c g n)) ∗ (∃ r, prngReg c r))

/-- The proof data: an input's buffer is left as found; an output's holds what the point computes from the state reached from some
    launch contents. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => ∃ g : Scr F, X = out10 m c t (state m c g t.val) Y
    | ⟨11, _⟩ => fun Y X => ∃ g : Scr F, X = out11 m c t (state m c g t.val) Y
    | ⟨12, _⟩ => fun Y X => ∃ g : Scr F, X = out12 m c t (state m c g t.val) Y
    | ⟨13, _⟩ => fun Y X => ∃ g : Scr F, X = out13 m c t (state m c g t.val) Y
    | ⟨14, _⟩ => fun Y X => ∃ g : Scr F, X = out14 m c t (state m c g t.val) Y
  Φ t := inv m c t.val
  q w := Pipeline.shareOf spec0 w
  owed _ := 0

theorem A_eq (c : Dev nD) (w : Fin cfg0.W) : (rdat m c).A w = V m c (Pipeline.arrRef spec0 w) := by dsimp only [rdat]

theorem finds0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rw [A_eq]; try rfl
theorem finds1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rw [A_eq]; try rfl
theorem finds2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rw [A_eq]; try rfl
theorem finds3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rw [A_eq]; try rfl
theorem finds4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold RDat.fetched RDat.blockOf iblk; rw [A_eq]; try rfl
theorem finds5 (c : Dev nD) (t : Fin cfg0.N) (Y) (h : (rdat m c).Finds 5 t Y) : Y = iblk m c 5 t := by
  obtain ⟨d, rfl⟩ := (rdat m c).finds_in_eq_fetched 5 rfl (fun _ _ _ => rfl) (fun _ _ _ h => h) t Y h
  unfold RDat.fetched RDat.blockOf iblk; rw [A_eq]; try rfl
theorem finds6 (c : Dev nD) (t : Fin cfg0.N) (Y) (h : (rdat m c).Finds 6 t Y) : Y = iblk m c 6 t := by
  obtain ⟨d, rfl⟩ := (rdat m c).finds_in_eq_fetched 6 rfl (fun _ _ _ => rfl) (fun _ _ _ h => h) t Y h
  unfold RDat.fetched RDat.blockOf iblk; rw [A_eq]; try rfl
theorem finds7 (c : Dev nD) (t : Fin cfg0.N) (Y) (h : (rdat m c).Finds 7 t Y) : Y = iblk m c 7 t := by
  obtain ⟨d, rfl⟩ := (rdat m c).finds_in_eq_fetched 7 rfl (fun _ _ _ => rfl) (fun _ _ _ h => h) t Y h
  unfold RDat.fetched RDat.blockOf iblk; rw [A_eq]; try rfl
theorem finds8 (c : Dev nD) (t : Fin cfg0.N) (Y) (h : (rdat m c).Finds 8 t Y) : Y = iblk m c 8 t := by
  obtain ⟨d, rfl⟩ := (rdat m c).finds_in_eq_fetched 8 rfl (fun _ _ _ => rfl) (fun _ _ _ h => h) t Y h
  unfold RDat.fetched RDat.blockOf iblk; rw [A_eq]; try rfl
theorem finds9 (c : Dev nD) (t : Fin cfg0.N) (Y) (h : (rdat m c).Finds 9 t Y) : Y = iblk m c 9 t := by
  obtain ⟨d, rfl⟩ := (rdat m c).finds_in_eq_fetched 9 rfl (fun _ _ _ => rfl) (fun _ _ _ h => h) t Y h
  unfold RDat.fetched RDat.blockOf iblk; rw [A_eq]; try rfl

theorem inv_of (c : Dev nD) (g : Scr F) (n : ℕ) : iprop(scratchAt c (state m c g n) ∗ (∃ r, prngReg c r)) ⊢ inv m c n := by
  unfold inv
  iintro ⟨H, Hr⟩
  isplitl [H]
  · iexists g; iexact H
  iexact Hr

/-- The body table's row at point `t` is the body as the points name it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : (rdat (F := F) m c).BodyObligation (defs₀ (F := F)) Variants.none () Set.univ := by
  intro t Y hY
  rw [bigSep_W0, bigSep_W0, defs₀_row]
  rw [show (rdat m c).owesAt () t.succ = (rdat m c).owesAt () t.castSucc from rfl]
  rw [show (rdat m c).Φ t.succ = inv m c (t.val + 1) from rfl, show (rdat m c).Φ t.castSucc = iprop((∃ g : Scr F, scratchAt c (state m c g t.val)) ∗ (∃ r, prngReg c r)) from rfl]
  have e0 := finds0 m c t _ (hY 0)
  have e1 := finds1 m c t _ (hY 1)
  have e2 := finds2 m c t _ (hY 2)
  have e3 := finds3 m c t _ (hY 3)
  have e4 := finds4 m c t _ (hY 4)
  have e5 := finds5 m c t _ (hY 5)
  have e6 := finds6 m c t _ (hY 6)
  have e7 := finds7 m c t _ (hY 7)
  have e8 := finds8 m c t _ (hY 8)
  have e9 := finds9 m c t _ (hY 9)
  rw [e0, e1, e2, e3, e4, e5, e6, e7, e8, e9]
  iintro ⟨⟨⟨%g, Hs⟩, Hr⟩, Ho, H0, H1, H2, H3, H4, H5, H6, H7, H8, H9, H10, H11, H12, H13, H14⟩
  ihave HP := (show iprop(scratchAt c (state m c g t.val) ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (Y 10) ∗ owns (c : Thread nD τ) (ms11 t) fullShare (Y 11) ∗ owns (c : Thread nD τ) (ms12 t) fullShare (Y 12) ∗ owns (c : Thread nD τ) (ms13 t) fullShare (Y 13) ∗ owns (c : Thread nD τ) (ms14 t) fullShare (Y 14))
      ⊢ handed m c t (state m c g t.val) (Y 10) (Y 11) (Y 12) (Y 13) (Y 14) from by
    unfold handed scratchAt
    iintro ⟨⟨S0, S1, S2, S3, S4, S5⟩, H0, H1, H2, H3, H4, H5, H6, H7, H8, H9, H10, H11, H12, H13, H14⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S0]; · iexact S0
    isplitl [S1]; · iexact S1
    isplitl [S2]; · iexact S2
    isplitl [S3]; · iexact S3
    isplitl [S4]; · iexact S4
    iexact S5) $$ [Hs H0 H1 H2 H3 H4 H5 H6 H7 H8 H9 H10 H11 H12 H13 H14]
  · isplitl [Hs]; · iexact Hs
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iapply (wp_wand_r Idealize.ShloMosaic.frame (wpE (defs₀ (F := F)) Variants.none (c : Thread nD τ) none) Set.univ)
  isplitl [HP]
  · iapply (sound m c t (state m c g t.val) (Y 10) (Y 11) (Y 12) (Y 13) (Y 14)) $$ HP
  iintro %_ HR
  unfold returned
  rw [← state_succ]
  icases HR with ⟨H0, H1, H2, H3, H4, H5, H6, H7, H8, H9, H10, H11, H12, H13, H14, S0, S1, S2, S3, S4, S5⟩
  isplitl [S0 S1 S2 S3 S4 S5 Hr]
  · iapply (inv_of m c g (t.val + 1))
    isplitl [S0 S1 S2 S3 S4 S5]
    · unfold scratchAt
      isplitl [S0]; · iexact S0
      isplitl [S1]; · iexact S1
      isplitl [S2]; · iexact S2
      isplitl [S3]; · iexact S3
      isplitl [S4]; · iexact S4
      iexact S5
    iexact Hr
  isplitl [Ho]; · iexact Ho
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact ⟨g, rfl⟩
  isplitl [H11]
  · iexists _; isplitr; swap; · iexact H11
    ipureintro; exact ⟨g, rfl⟩
  isplitl [H12]
  · iexists _; isplitr; swap; · iexact H12
    ipureintro; exact ⟨g, rfl⟩
  isplitl [H13]
  · iexists _; isplitr; swap; · iexact H13
    ipureintro; exact ⟨g, rfl⟩
  iexists _; isplitr; swap; · iexact H14
  ipureintro; exact ⟨g, rfl⟩

theorem phiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

theorem hin (c : Dev nD) : Pipeline.ΦA spec0 c ⊢ (rdat m c).Φ 0 := by
  rw [phiA_eq, show (rdat m c).Φ 0 = inv m c 0 from rfl]
  unfold inv
  iintro ⟨⟨⟨%d0, S0⟩, ⟨%d1, S1⟩, ⟨%d2, S2⟩, ⟨%d3, S3⟩, ⟨%d4, S4⟩, ⟨%d5, S5⟩⟩, Hr⟩
  isplitr [Hr]
  · iexists (⟨d0, d1, d2, d3, d4, d5⟩ : Scr F)
    unfold scratchAt state
    isplitl [S0]; · iexact S0
    isplitl [S1]; · iexact S1
    isplitl [S2]; · iexact S2
    isplitl [S3]; · iexact S3
    isplitl [S4]; · iexact S4
    iexact S5
  iexact Hr

theorem hout (c : Dev nD) : (rdat m c).Φ (Fin.last cfg0.N) ⊢ Pipeline.ΦA spec0 c := by
  rw [phiA_eq, show (rdat m c).Φ (Fin.last cfg0.N) = inv m c cfg0.N from rfl]
  unfold inv scratchAt
  iintro ⟨⟨%g, ⟨S0, S1, S2, S3, S4, S5⟩⟩, Hr⟩
  isplitr [Hr]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hr

set_option backward.isDefEq.respectTransparency.types false in
/-- The launch, over any values: every execution ends, with the arrays at what the relation allows and every counter at zero. -/
theorem run_main : θ_run defs (onTc (τ := τ) (main (F := F))) (s₀ m ρ)
    (fun r => RDat.FramePost cfg0 (fun c => rdat m c) (V m) r ∧ r.2.sem = fun _ => 0) :=
  Pipeline.RDat.θ_run_frame_track_shared (Q' := _) cfgs (0 : Fin 1) launch₀0 defs₀ Variants.none (fun c => rdat m c) m ρ main
    (hbody := fun c => body_obligation m c) (hq := fun _ _ _ => rfl)
    (howed := fun _ _ => rfl) (V := V m) (hmain := hmain m Variants.none) (hA := A_eq m) (hin := hin m) (hout := hout m)

/-- The arguments of device `c` are in memory `μ` as in `m`. -/
abbrev Kept (μ : (ℓ : Loc nD τ sig) → Buf (Elt F) ℓ) (c : Dev nD) : Prop :=
  μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)
      ∧ μ ((c.tc : Thread nD τ).loc main_arg6) = m ((c.tc : Thread nD τ).loc main_arg6)

/-- The launch leaves the arguments as they were. -/
theorem kept (r : PUnit × MemSt nD τ sig (Elt F)) (h : RDat.FramePost cfg0 (fun c => rdat m c) (V m) r) (c : Dev nD) : Kept m r.2.mem c :=
  ⟨(h.arr_in c 1 rfl).trans ((A_eq m c 1).trans (V_main_arg0 m c)),
    (h.arr_in c 4 rfl).trans ((A_eq m c 4).trans (V_main_arg1 m c)),
    (h.arr_in c 5 rfl).trans ((A_eq m c 5).trans (V_main_arg2 m c)),
    ((h c).2 main_arg3 (Pipeline.mem_restRefs_of main_arg3 (by decide) (by decide))).trans (V_main_arg3 m c),
    (h.arr_in c 7 rfl).trans ((A_eq m c 7).trans (V_main_arg4 m c)),
    (h.arr_in c 8 rfl).trans ((A_eq m c 8).trans (V_main_arg5 m c)),
    ((h c).2 main_arg6 (Pipeline.mem_restRefs_of main_arg6 (by decide) (by decide))).trans (V_main_arg6 m c)⟩

/-- The frame over any values: the arguments end as they began, and no counter is left raised. -/
theorem frame_any : θ_run defs (onTc (τ := τ) (main (F := F))) ⟨m, fun _ => 0, ρ⟩ (fun r => (∀ c : Dev nD, Kept m r.2.mem c) ∧ r.2.sem = fun _ => 0) :=
  (θ_run defs _ _).mono (fun r h => ⟨kept m r h.1, h.2⟩) (run_main m ρ)

end Cert.KernelIdeal.Ffn

end
-- ==== Proof.Ffn.Twin.lean ====
module

public import proofs.«01_k».proof.Defs
public import proofs.«01_k».proof.Proof.Ffn.Run
public import proofs.«01_k».proof.Proof.Gen.Kernel

/-! The program and its idealized reading have the same text, so their definitions are equal and the frame of the first is
    that of the second at machine floats. -/

@[expose] public section

noncomputable section

namespace Cert.KernelIdeal.Ffn

open Idealize.ShloMosaic Idealize.SL.Sem

theorem body_eq : Cert.Kernel.cc0_ffn_block_bwd (F := Bits) = Cert.KernelIdeal.cc0_ffn_block_bwd (F := Bits) := rfl

set_option maxHeartbeats 4000000 in
theorem defs0_eq : Cert.Kernel.defs₀ (F := Bits) = Cert.KernelIdeal.defs₀ (F := Bits) := by
  unfold Cert.Kernel.defs₀ Cert.KernelIdeal.defs₀
  rw [body_eq]
  refine congrArg Defs.onTc ?_
  funext l a
  match l, a with
  | ⟨0, _⟩, (t, s) => rfl

theorem defs_eq : Cert.Kernel.defs (F := Bits) = Cert.KernelIdeal.defs (F := Bits) := by
  unfold Cert.Kernel.defs Cert.KernelIdeal.defs
  exact congrArg (Pipeline.defs Cert.KernelIdeal.pcfgs) defs0_eq

set_option maxHeartbeats 4000000 in
/-- The frame of the program at machine floats. -/
theorem frame_kernel : Cert.quiescent_Kernel := by
  intro m ρ _
  have h := frame_any (F := Bits) m ρ
  rw [← defs_eq] at h
  exact h

end Cert.KernelIdeal.Ffn

end
-- ==== Proof.Ffn.Chunk.lean ====
module

public import proofs.«01_k».proof.Proof.Gen.KernelIdeal.Skeleton
public import Idealize.ShloMosaic.Lib.Pipeline.Value
public import Idealize.ShloMosaic.Lib.Tactic
public import Idealize.ShloMosaic.Lib.ValueIdx
public import Idealize.ShloMosaic.Lib.IdealHost
public import Idealize.ShloMosaic.Lib.Pointwise

/-! One chunk of 64 rows of the gate's backward, as a function of what it loads, and its elements over the reals. -/

@[expose] public section

noncomputable section

namespace Cert.KernelIdeal.Ffn

open Idealize.ShloMosaic Idealize.ShloMosaic.TcCoe Idealize.SL.Sem
open Cert.KernelIdeal Cert.KernelIdeal.Gen

section Generic

variable {F : FTy → Type} [FloatOps F]

/-- The rows one above: the eight rows before the chunk, then the chunk, moved down by one. -/
def am1 (A : FVec F S64x2816 .f32) (P : FVec F S8x2816 .f32) : FVec F S64x2816 .f32 :=
  extractStridedSlice S64x2816 ![8, 0]
    (dynamicRotate 0 1#32 none (concatenate S72x2816 0 [⟨S8x2816, P⟩, ⟨S64x2816, A⟩] concatenates_S8x2816_S64x2816_S72x2816_d0)
      rotates_S72x2816_d0) slices_S72x2816_o8_0_S64x2816

/-- The rows two above. -/
def am2 (A : FVec F S64x2816 .f32) (P : FVec F S8x2816 .f32) : FVec F S64x2816 .f32 := k0_pay38 A P

/-- The gradient at the activation's input, of a chunk. -/
def cda (w0 w1 w2 cb : Vec F S1x2816 .f32) (A V : FVec F S64x2816 .f32) (P : FVec F S8x2816 .f32) (D : Vec F S1x64x2816 .f32) :
    FVec F S64x2816 .f32 := k0_pay42 w0 w1 w2 A V P (am1 A P) cb D

/-- The gradient at the gated half, of a chunk. -/
def cdv (w0 w1 w2 cb : Vec F S1x2816 .f32) (A : FVec F S64x2816 .f32) (P : FVec F S8x2816 .f32) (D : Vec F S1x64x2816 .f32) :
    FVec F S64x2816 .bf16 := k0_pay43 w0 w1 w2 A P (am1 A P) cb D

/-- The gradient at the gate half, of a chunk whose next eight rows' gradient is `K`. -/
def cdp (w0 w1 w2 cb : Vec F S1x2816 .f32) (A V : FVec F S64x2816 .f32) (P : FVec F S8x2816 .f32) (D : Vec F S1x64x2816 .f32)
    (K : Vec F S8x2816 .f32) : FVec F S64x2816 .bf16 :=
  k0_pay46 w0 (k0_pay44 w0 w1 w2 A V P (am1 A P) cb D K) (k0_pay45 w0 w1 w2 A V P (am1 A P) cb D K)

/-- One row of the tap gradients' sums, or the bias gradient's. -/
def cacc (x y : FVec F S64x2816 .f32) (g : Vec F S1x2816 .f32) : FVec F S1x2816 .f32 := k0_pay53 x y g

end Generic

/-- The convolution of three rows. -/
def gConv (w0 w1 w2 b e0 e1 e2 : EReal) : EReal := w0 * e0 + w1 * e1 + w2 * e2 + b

/-- The logistic, as the kernel spells it. -/
def gSig (x : EReal) : EReal :=
  Ideal.ofBits FTy.f32 1056964608#32 * Ideal.tanh (Ideal.ofBits FTy.f32 1056964608#32 * x) + Ideal.ofBits FTy.f32 1056964608#32

/-- The activation's gradient. -/
def gDa (d v x : EReal) : EReal :=
  d * v * (gSig x * (Ideal.ofBits FTy.f32 1065353216#32 + x * (Ideal.ofBits FTy.f32 1065353216#32 - gSig x)))

/-- The gated half's gradient. -/
def gDv (d x : EReal) : EReal := d * (x * gSig x)

theorem am1_apply (A : FVec Ideal S64x2816 .f32) (P : FVec Ideal S8x2816 .f32) (E : ℕ → EReal) (r : Fin 64) (j : Fin 2816)
    (hP : ∀ q : Fin 8, P (ix2 q j) = E q.val) (hA : ∀ q : Fin 64, A (ix2 q j) = E (8 + q.val)) :
    am1 A P (ix2 r j) = E (7 + r.val) := by
  have hr := r.isLt
  unfold am1
  pointwise
  have e : (8 + r.val + 72 - 1) % 72 = 7 + r.val := by omega
  split
  · rw [hP]; show E ((8 + r.val + 72 - 1) % 72) = _; rw [e]
  · rw [hA]; show E (8 + ((8 + r.val + 72 - 1) % 72 - 8)) = _; congr 1; omega

theorem am2_apply (A : FVec Ideal S64x2816 .f32) (P : FVec Ideal S8x2816 .f32) (E : ℕ → EReal) (r : Fin 64) (j : Fin 2816)
    (hP : ∀ q : Fin 8, P (ix2 q j) = E q.val) (hA : ∀ q : Fin 64, A (ix2 q j) = E (8 + q.val)) :
    am2 A P (ix2 r j) = E (6 + r.val) := by
  have hr := r.isLt
  unfold am2 k0_pay38
  pointwise
  have e : (8 + r.val + 72 - 2) % 72 = 6 + r.val := by omega
  split
  · rw [hP]; show E ((8 + r.val + 72 - 2) % 72) = _; rw [e]
  · rw [hA]; show E (8 + ((8 + r.val + 72 - 2) % 72 - 8)) = _; congr 1; omega

section Chunk

variable (w0 w1 w2 cb : Vec Ideal S1x2816 .f32) (A V : FVec Ideal S64x2816 .f32) (P : FVec Ideal S8x2816 .f32)
  (D : Vec Ideal S1x64x2816 .f32) (K : Vec Ideal S8x2816 .f32)

theorem pay39_apply (S : FVec Ideal S64x2816 .f32) (r : Fin 64) (j : Fin 2816) :
    k0_pay39 w0 w1 w2 A P S cb (ix2 r j)
      = gConv (w0 (ix2 0 j)) (w1 (ix2 0 j)) (w2 (ix2 0 j)) (cb (ix2 0 j)) (am2 A P (ix2 r j)) (S (ix2 r j)) (A (ix2 r j)) := by
  unfold k0_pay39 gConv am2
  pointwise

theorem pay40_apply (S : FVec Ideal S64x2816 .f32) (r : Fin 64) (j : Fin 2816) :
    k0_pay40 w0 w1 w2 A P S cb (ix2 r j) = gSig (k0_pay39 w0 w1 w2 A P S cb (ix2 r j)) := by
  unfold k0_pay40 gSig
  pointwise

theorem cda_eq (r : Fin 64) (j : Fin 2816) :
    cda w0 w1 w2 cb A V P D (ix2 r j)
      = gDa (D (ix3 0 r j)) (V (ix2 r j)) (k0_pay39 w0 w1 w2 A P (am1 A P) cb (ix2 r j)) := by
  unfold cda k0_pay42 gDa k0_pay41
  pointwise
  rw [pay40_apply]

theorem cdv_eq (r : Fin 64) (j : Fin 2816) :
    cdv w0 w1 w2 cb A P D (ix2 r j) = gDv (D (ix3 0 r j)) (k0_pay39 w0 w1 w2 A P (am1 A P) cb (ix2 r j)) := by
  unfold cdv k0_pay43 gDv k0_pay41
  pointwise
  rw [pay40_apply]

theorem cdp_apply (G : ℕ → EReal) (r : Fin 64) (j : Fin 2816)
    (hG : ∀ q : Fin 64, cda w0 w1 w2 cb A V P D (ix2 q j) = G q.val) (hK : ∀ q : Fin 8, K (ix2 q j) = G (64 + q.val)) :
    cdp w0 w1 w2 cb A V P D K (ix2 r j)
      = w2 (ix2 0 j) * G r.val + w1 (ix2 0 j) * G (r.val + 1) + w0 (ix2 0 j) * G (r.val + 2) := by
  have hr := r.isLt
  unfold cdp k0_pay46 k0_pay44 k0_pay45
  pointwise
  have key : ∀ n : ℕ, ∀ h : n < 72,
      (if h' : n < 64 then k0_pay42 w0 w1 w2 A V P (am1 A P) cb D (ix2 ⟨n, h'⟩ j) else K (ix2 ⟨n - 64, by omega⟩ j)) = G n := by
    intro n h
    split
    · exact hG _
    · rw [hK]; show G (64 + (n - 64)) = _; congr 1; omega
  have e1 : (r.val + 72 - 71) % 72 = r.val + 1 := by omega
  have e2 : (r.val + 72 - 70) % 72 = r.val + 2 := by omega
  exact congrArg₂ (· + ·) (congrArg₂ (· + ·) (congrArg (w2 (ix2 0 j) * ·) (hG r))
    (congrArg (w1 (ix2 0 j) * ·) ((key _ (by omega)).trans (congrArg G e1))))
    (congrArg (w0 (ix2 0 j) * ·) ((key _ (by omega)).trans (congrArg G e2)))

theorem cacc_apply (x y : FVec Ideal S64x2816 .f32) (g : Vec Ideal S1x2816 .f32) (j : Fin 2816) :
    cacc x y g (ix2 0 j) = g (ix2 0 j) + ∑ r : Fin 64, y (ix2 r j) * x (ix2 r j) := by
  unfold cacc k0_pay53
  pointwise

theorem pay54_apply (y : FVec Ideal S64x2816 .f32) (g : Vec Ideal S1x2816 .f32) (j : Fin 2816) :
    k0_pay54 y g (ix2 0 j) = g (ix2 0 j) + ∑ r : Fin 64, y (ix2 r j) := by
  unfold k0_pay54
  pointwise

theorem pay47_apply (y : FVec Ideal S64x2816 .f32) (q : Fin 8) (j : Fin 2816) :
    k0_pay47 y (ix2 q j) = y (ix2 ⟨q.val, by omega⟩ j) := by
  unfold k0_pay47
  pointwise

end Chunk

theorem pay48_apply (w0 : Vec Ideal S1x2816 .f32) (x : FVec Ideal S64x2816 .f32) (y : FVec Ideal S72x2816 .f32) (r : Fin 64) (j : Fin 2816) :
    k0_pay48 w0 x y (ix3 0 r j) = k0_pay46 w0 x y (ix2 r j) := by
  unfold k0_pay48
  pointwise

theorem pay49_apply (x : FVec Ideal S64x2816 .bf16) (r : Fin 64) (j : Fin 2816) :
    k0_pay49 x (ix3 0 r j) = x (ix2 r j) := by
  unfold k0_pay49
  pointwise

theorem pay34_apply (x : Vec Ideal S64x2816 .bf16) (r : Fin 64) (j : Fin 2816) : k0_pay34 x (ix2 r j) = x (ix2 r j) := by
  unfold k0_pay34
  pointwise

theorem pay36_apply (x : Vec Ideal S16x2816 .bf16) (q : Fin 8) (j : Fin 2816) (q' : Fin 16) (hq : q'.val = 8 + q.val) :
    k0_pay36 x (ix2 q j) = x (ix2 q' j) := by
  have e : q' = ⟨8 + q.val, by omega⟩ := Fin.ext hq
  rw [e]
  unfold k0_pay36
  pointwise

theorem pay6_apply (x : Vec Ideal S256x1024 .f32) (w : Vec Ideal S2816x1024 .bf16) (r : Fin 256) (j : Fin 2816) :
    k0_pay6 x w (ix3 0 r j) = ∑ d : Fin 1024, x (ix2 r d) * w (ix2 j d) := by
  unfold k0_pay6
  pointwise

theorem pay11_apply (x : Vec Ideal S256x1024 .f32) (r : Fin 256) (j : Fin 1024) : k0_pay11 x (ix2 r j) = x (ix2 r j) := by
  unfold k0_pay11
  pointwise

theorem pay55_apply (x : FVec Ideal S256x1024 .bf16) (w : Vec Ideal S768x1024 .bf16) (r : Fin 256) (j : Fin 768) :
    k0_pay55 x w (ix3 0 r j) = ∑ d : Fin 1024, x (ix2 r d) * w (ix2 j d) := by
  unfold k0_pay55
  pointwise

theorem pay97_apply (x : FVec Ideal S256x1024 .bf16) (w : Vec Ideal S512x1024 .bf16) (r : Fin 256) (j : Fin 512) :
    k0_pay97 x w (ix3 0 r j) = ∑ d : Fin 1024, x (ix2 r d) * w (ix2 j d) := by
  unfold k0_pay97
  pointwise

theorem pay33_apply (x : Vec Ideal S1x256x2816 .bf16) (w : Vec Ideal S1x1024x2816 .bf16) (r : Fin 256) (d : Fin 1024) :
    k0_pay33 x w (ix2 r d) = ∑ k : Fin 2816, x (ix3 0 r k) * w (ix3 0 d k) := by
  unfold k0_pay33
  pointwise

theorem pay79_apply (a : FVec Ideal S256x1024 .f32) (x : Vec Ideal S1x256x2816 .bf16) (w : Vec Ideal S1x1024x2816 .bf16) (r : Fin 256) (d : Fin 1024) :
    k0_pay79 a x w (ix2 r d) = a (ix2 r d) + ∑ k : Fin 2816, x (ix3 0 r k) * w (ix3 0 d k) := by
  unfold k0_pay79
  pointwise

/-- The reciprocal root mean square of a row. -/
def gR (x : Fin 1024 → EReal) : EReal :=
  Ideal.rsqrt (Ideal.div (∑ d, x d * x d) (Ideal.ofBits FTy.f32 1149239296#32) + Ideal.ofBits FTy.f32 897988541#32)

/-- The norm's backward on a row. -/
def gH (u x c w : Fin 1024 → EReal) (d : Fin 1024) : EReal :=
  c d + gR x * (u d * w d - x d * gR x * Ideal.div (∑ e, u e * w e * (x e * gR x)) (Ideal.ofBits FTy.f32 1149239296#32))

theorem pay99_apply (x : Vec Ideal S256x1024 .f32) (r : Fin 256) (d : Fin 1024) :
    k0_pay99 x (ix2 r d) = x (ix2 r d) * gR (fun e => x (ix2 r e)) := by
  unfold k0_pay99 k0_pay98 gR
  pointwise

theorem pay98_apply (x : Vec Ideal S256x1024 .f32) (r : Fin 256) :
    k0_pay98 x (ix2 r 0) = gR (fun e => x (ix2 r e)) := by
  unfold k0_pay98 gR
  pointwise

theorem pay100_apply (u : FVec Ideal S256x1024 .f32) (x c : Vec Ideal S256x1024 .f32) (w : Vec Ideal S1x1024 .f32) (r : Fin 256) (d : Fin 1024) :
    k0_pay100 u x c w (ix2 r d)
      = gH (fun e => u (ix2 r e)) (fun e => x (ix2 r e)) (fun e => c (ix2 r e)) (fun e => w (ix2 0 e)) d := by
  unfold k0_pay100 gH
  pointwise
  simp only [pay99_apply, pay98_apply]

theorem pay101_one (u : FVec Ideal S256x1024 .f32) (x : Vec Ideal S256x1024 .f32) (g : Vec Ideal S1x1024 .f32) (d : Fin 1024) :
    k0_pay101 u 1#1 x g (ix2 0 d) = g (ix2 0 d) + ∑ r : Fin 256, u (ix2 r d) * (x (ix2 r d) * gR (fun e => x (ix2 r e))) := by
  unfold k0_pay101
  pointwise
  simp only [pay99_apply]

theorem pay101_zero (u : FVec Ideal S256x1024 .f32) (x : Vec Ideal S256x1024 .f32) (g : Vec Ideal S1x1024 .f32) (d : Fin 1024) :
    k0_pay101 u 0#1 x g (ix2 0 d) = g (ix2 0 d) := by
  unfold k0_pay101
  pointwise

theorem pay7_apply (x : FVec Ideal S1x1024 .f32) (i : S1x1024.Idx) : k0_pay7 x i = x i := by
  unfold k0_pay7
  pointwise

end Cert.KernelIdeal.Ffn

end
-- ==== Proof.Dw.Canon.lean ====
module

public import Idealize.ShloMosaic.Lib.Pipeline.Value
public import Idealize.ShloMosaic.Lib.Tactic
public import Idealize.ShloMosaic.Lib.Pointwise.Index

/-! Reading a list of stored boxes, newest first, at an element: the newest box that holds it gives its payload, a box
    that lies beside it is passed over. -/

@[expose] public section

noncomputable section

namespace Cert.Canon

open Idealize.ShloMosaic

variable {S : Shape} {e : EltTy} {Val : EltTy → Type} [∀ e, Nonempty (Val e)]

/-- The newest box holds the element. -/
theorem canon_hit {off size : Fin S.rank → Nat} (inb : ∀ a, off a + size a ≤ S.size a)
    (w : (Rect.unit off size inb).shape.Idx → Val e) (L : List (View.Piece Val S e)) (y : S.Idx)
    (x : (Rect.unit off size inb).shape.Idx) (hx : ∀ a, (y a).val = off a + (x a).val) :
    View.canon ((⟨Rect.unit off size inb, w⟩ : View.Piece Val S e) :: L) y = w x := by
  have hy : (Rect.unit off size inb).emb x = y := by
    funext a
    apply Fin.ext
    show off a + 1 * (x a).val = (y a).val
    rw [hx a, Nat.one_mul]
  rw [← hy]
  exact View.canon_cons_emb _ _ _ _

/-- The newest box lies beside the element along axis `a`. -/
theorem canon_skip {off size : Fin S.rank → Nat} (inb : ∀ a, off a + size a ≤ S.size a)
    (w : (Rect.unit off size inb).shape.Idx → Val e) (L : List (View.Piece Val S e)) (y : S.Idx) (a : Fin S.rank)
    (h : (y a).val < off a ∨ off a + size a ≤ (y a).val) :
    View.canon ((⟨Rect.unit off size inb, w⟩ : View.Piece Val S e) :: L) y = View.canon L y := by
  refine View.canon_cons_of_not_mem _ _ ?_
  rw [Rect.mem_set_unit]
  intro hm
  have h1 := (hm a).1
  have h2 := (hm a).2
  omega

/-- A load of a box of what the boxes left is their contents there. -/
theorem readCov_at {sig : RefSig} {κ : Kind} {sp : Space} (v : View sig κ sp S e) (L : List (View.Piece Val S e))
    {off size : Fin S.rank → Nat} (inb : ∀ a, off a + size a ≤ S.size a)
    (x : (Rect.unit off size inb).shape.Idx) (y : S.Idx) (hx : ∀ a, (y a).val = off a + (x a).val) :
    v.readCov L (Rect.unit off size inb).toLoadRect x = View.canon L y := by
  rw [View.readCov_eq_canon']
  show View.canon L ((Rect.unit off size inb).toLoadRect.idx x) = _
  congr 1
  funext a
  apply Fin.ext
  show off a + 1 * (x a).val = (y a).val
  rw [hx a, Nat.one_mul]

/-- A load of a box of contents is the contents there. -/
theorem ld_at (X : S.Idx → Val e) {off size : Fin S.rank → Nat} (inb : ∀ a, off a + size a ≤ S.size a)
    (x : (Rect.unit off size inb).shape.Idx) (y : S.Idx) (hx : ∀ a, (y a).val = off a + (x a).val) :
    View.ld X (Rect.unit off size inb) x = X y := by
  show X ((Rect.unit off size inb).idx x) = _
  congr 1
  funext a
  apply Fin.ext
  show off a + 1 * (x a).val = (y a).val
  rw [hx a, Nat.one_mul]

end Cert.Canon

end
-- ==== Proof.Ffn.Tile.lean ====
module

public import proofs.«01_k».proof.Proof.Ffn.Chunk
public import proofs.«01_k».proof.Proof.Dw.Canon

/-! One tile of 256 rows of the gate's backward: its four chunks as functions of the blocks, of the ring of the gate's
    gradient and of the carried rows, and their elements over the reals by the row of the tile. -/

@[expose] public section

noncomputable section

namespace Cert.KernelIdeal.Ffn

open Idealize.ShloMosaic Idealize.ShloMosaic.TcCoe Idealize.SL.Sem
open Cert.KernelIdeal Cert.KernelIdeal.Gen

/-- What a tile is computed from: the projected rows, the sixteen rows before them, the taps, the bias, the point as a
    word, the ring's slot, the ring, and the eight carried rows. -/
structure Tin (F : FTy → Type) [FloatOps F] where
  x3 : Vec F S256x5632 .bf16
  x4 : Vec F S16x2816 .bf16
  x8 : Vec F S3x2816 .f32
  x9 : Vec F S1x2816 .f32
  tw : BitVec 32
  slot : Fin 2
  ring : Vec F S2x256x2816 .f32
  carry : Vec F S8x2816 .f32

section Generic

variable {F : FTy → Type} [FloatOps F] (p : Tin F)

def Tin.w0 : Vec F S1x2816 .f32 := View.ld p.x8 (Rect.unit ![0, 0] S1x2816.size inb_S3x2816_S1x2816_0_0)
def Tin.w1 : Vec F S1x2816 .f32 := View.ld p.x8 (Rect.unit ![1, 0] S1x2816.size inb_S3x2816_S1x2816_1_0)
def Tin.w2 : Vec F S1x2816 .f32 := View.ld p.x8 (Rect.unit ![2, 0] S1x2816.size inb_S3x2816_S1x2816_2_0)
def Tin.cb : Vec F S1x2816 .f32 := View.ld p.x9 (Rect.unit ![0, 0] S1x2816.size inb_S1x2816_S1x2816_0_0)
/-- Chunk `c`'s rows of the ring's current slot. -/
def chD (s : Fin 2) (c : Fin 4) (ring : Vec F S2x256x2816 .f32) : Vec F S1x64x2816 .f32 :=
  fun y => ring (ix3 (n0 := 2) (n1 := 256) (n2 := 2816) s ⟨64 * c.val + (y 1).val, by have : (y 1).val < 64 := (y 1).isLt; omega⟩ (y 2))
/-- The eight rows before the tile. -/
def Tin.pb : FVec F S8x2816 .f32 := k0_pay10 p.tw (View.ld p.x4 (Rect.unit ![0, 0] S16x2816.size inb_S16x2816_S16x2816_0_0))

def Tin.a0 : FVec F S64x2816 .f32 := k0_pay34 (View.ld p.x3 (Rect.unit ![0, 0] S64x2816.size inb_S256x5632_S64x2816_0_0))
def Tin.v0 : FVec F S64x2816 .f32 := k0_pay34 (View.ld p.x3 (Rect.unit ![0, 2816] S64x2816.size inb_S256x5632_S64x2816_0_2816))
def Tin.p0 : FVec F S8x2816 .f32 := p.pb
def Tin.da0 : FVec F S64x2816 .f32 := cda p.w0 p.w1 p.w2 p.cb p.a0 p.v0 p.p0 (chD p.slot 0 p.ring)
def Tin.dv0 : FVec F S64x2816 .bf16 := cdv p.w0 p.w1 p.w2 p.cb p.a0 p.p0 (chD p.slot 0 p.ring)

def Tin.a1 : FVec F S64x2816 .f32 := k0_pay34 (View.ld p.x3 (Rect.unit ![64, 0] S64x2816.size inb_S256x5632_S64x2816_64_0))
def Tin.v1 : FVec F S64x2816 .f32 := k0_pay34 (View.ld p.x3 (Rect.unit ![64, 2816] S64x2816.size inb_S256x5632_S64x2816_64_2816))
def Tin.p1 : FVec F S8x2816 .f32 := k0_pay36 (View.ld p.x3 (Rect.unit ![48, 0] S16x2816.size inb_S256x5632_S16x2816_48_0))
def Tin.da1 : FVec F S64x2816 .f32 := cda p.w0 p.w1 p.w2 p.cb p.a1 p.v1 p.p1 (chD p.slot 1 p.ring)
def Tin.dv1 : FVec F S64x2816 .bf16 := cdv p.w0 p.w1 p.w2 p.cb p.a1 p.p1 (chD p.slot 1 p.ring)

def Tin.a2 : FVec F S64x2816 .f32 := k0_pay34 (View.ld p.x3 (Rect.unit ![128, 0] S64x2816.size inb_S256x5632_S64x2816_128_0))
def Tin.v2 : FVec F S64x2816 .f32 := k0_pay34 (View.ld p.x3 (Rect.unit ![128, 2816] S64x2816.size inb_S256x5632_S64x2816_128_2816))
def Tin.p2 : FVec F S8x2816 .f32 := k0_pay36 (View.ld p.x3 (Rect.unit ![112, 0] S16x2816.size inb_S256x5632_S16x2816_112_0))
def Tin.da2 : FVec F S64x2816 .f32 := cda p.w0 p.w1 p.w2 p.cb p.a2 p.v2 p.p2 (chD p.slot 2 p.ring)
def Tin.dv2 : FVec F S64x2816 .bf16 := cdv p.w0 p.w1 p.w2 p.cb p.a2 p.p2 (chD p.slot 2 p.ring)

def Tin.a3 : FVec F S64x2816 .f32 := k0_pay34 (View.ld p.x3 (Rect.unit ![192, 0] S64x2816.size inb_S256x5632_S64x2816_192_0))
def Tin.v3 : FVec F S64x2816 .f32 := k0_pay34 (View.ld p.x3 (Rect.unit ![192, 2816] S64x2816.size inb_S256x5632_S64x2816_192_2816))
def Tin.p3 : FVec F S8x2816 .f32 := k0_pay36 (View.ld p.x3 (Rect.unit ![176, 0] S16x2816.size inb_S256x5632_S16x2816_176_0))
def Tin.da3 : FVec F S64x2816 .f32 := cda p.w0 p.w1 p.w2 p.cb p.a3 p.v3 p.p3 (chD p.slot 3 p.ring)
def Tin.dv3 : FVec F S64x2816 .bf16 := cdv p.w0 p.w1 p.w2 p.cb p.a3 p.p3 (chD p.slot 3 p.ring)

def Tin.k0 : Vec F S8x2816 .f32 := k0_pay47 (Tin.da1 p)
def Tin.dp0 : FVec F S64x2816 .bf16 := cdp p.w0 p.w1 p.w2 p.cb p.a0 p.v0 p.p0 (chD p.slot 0 p.ring) p.k0
def Tin.k1 : Vec F S8x2816 .f32 := k0_pay47 (Tin.da2 p)
def Tin.dp1 : FVec F S64x2816 .bf16 := cdp p.w0 p.w1 p.w2 p.cb p.a1 p.v1 p.p1 (chD p.slot 1 p.ring) p.k1
def Tin.k2 : Vec F S8x2816 .f32 := k0_pay47 (Tin.da3 p)
def Tin.dp2 : FVec F S64x2816 .bf16 := cdp p.w0 p.w1 p.w2 p.cb p.a2 p.v2 p.p2 (chD p.slot 2 p.ring) p.k2
def Tin.k3 : Vec F S8x2816 .f32 := p.carry
def Tin.dp3 : FVec F S64x2816 .bf16 := cdp p.w0 p.w1 p.w2 p.cb p.a3 p.v3 p.p3 (chD p.slot 3 p.ring) p.k3

end Generic

section Reals

variable (p : Tin Ideal)

/-- The gate's input at row `ρ - 8` of the tile; the rows before the tile are the first eight. -/
def Tin.gE (ρ : ℕ) (j : Fin 2816) : EReal :=
  if h : ρ < 8 then p.pb (ix2 ⟨ρ, h⟩ j) else if h : ρ - 8 < 256 then p.x3 (ix2 (n0 := 256) (n1 := 5632) ⟨ρ - 8, h⟩ ⟨j.val, by omega⟩) else 0

def Tin.gV (R : ℕ) (j : Fin 2816) : EReal := if h : R < 256 then p.x3 (ix2 (n0 := 256) (n1 := 5632) ⟨R, h⟩ ⟨2816 + j.val, by omega⟩) else 0
def Tin.gD (R : ℕ) (j : Fin 2816) : EReal := if h : R < 256 then p.ring (ix3 p.slot ⟨R, h⟩ j) else 0
def Tin.gC (R : ℕ) (j : Fin 2816) : EReal :=
  gConv (p.x8 (ix2 0 j)) (p.x8 (ix2 1 j)) (p.x8 (ix2 2 j)) (p.x9 (ix2 0 j)) (p.gE (R + 6) j) (p.gE (R + 7) j) (p.gE (R + 8) j)
def Tin.gA (R : ℕ) (j : Fin 2816) : EReal := gDa (p.gD R j) (p.gV R j) (p.gC R j)
def Tin.gAE (R : ℕ) (j : Fin 2816) : EReal :=
  if R < 256 then p.gA R j else if h : R - 256 < 8 then p.carry (ix2 ⟨R - 256, h⟩ j) else 0
def Tin.gP (R : ℕ) (j : Fin 2816) : EReal :=
  p.x8 (ix2 2 j) * p.gAE R j + p.x8 (ix2 1 j) * p.gAE (R + 1) j + p.x8 (ix2 0 j) * p.gAE (R + 2) j
def Tin.gW (R : ℕ) (j : Fin 2816) : EReal := gDv (p.gD R j) (p.gC R j)

theorem w_apply (k : ℕ) (hk : k < 3) (inb) (j : Fin 2816) :
    View.ld p.x8 (Rect.unit ![k, 0] S1x2816.size inb) (ix2 0 j) = p.x8 (ix2 ⟨k, hk⟩ j) :=
  Cert.Canon.ld_at (S := S3x2816) (off := ![k, 0]) (size := S1x2816.size) p.x8 inb (ix2 (n0 := 1) (n1 := 2816) 0 j) (ix2 ⟨k, hk⟩ j) fun a => by
    match a with
    | ⟨0, _⟩ => show k = k + 0; omega
    | ⟨1, _⟩ => show j.val = 0 + j.val; omega

theorem Tin.w0_apply (j : Fin 2816) : p.w0 (ix2 0 j) = p.x8 (ix2 0 j) := w_apply p 0 (by omega) _ j
theorem Tin.w1_apply (j : Fin 2816) : p.w1 (ix2 0 j) = p.x8 (ix2 1 j) := w_apply p 1 (by omega) _ j
theorem Tin.w2_apply (j : Fin 2816) : p.w2 (ix2 0 j) = p.x8 (ix2 2 j) := w_apply p 2 (by omega) _ j
theorem Tin.cb_apply (j : Fin 2816) : p.cb (ix2 0 j) = p.x9 (ix2 0 j) :=
  Cert.Canon.ld_at (S := S1x2816) (off := ![0, 0]) (size := S1x2816.size) p.x9 inb_S1x2816_S1x2816_0_0 (ix2 (n0 := 1) (n1 := 2816) 0 j) (ix2 0 j) fun a => by
    match a with
    | ⟨0, _⟩ => rfl
    | ⟨1, _⟩ => show j.val = 0 + j.val; omega

/-- A chunk's rows of the gate half are the tile's. -/
theorem chA_apply (o : ℕ) (ho : o + 64 ≤ 256) (inb) (q : Fin 64) (j : Fin 2816) :
    k0_pay34 (View.ld p.x3 (Rect.unit ![o, 0] S64x2816.size inb)) (ix2 q j) = p.gE (8 + (o + q.val)) j := by
  rw [pay34_apply]
  refine (Cert.Canon.ld_at (S := S256x5632) (off := ![o, 0]) (size := S64x2816.size) p.x3 inb (ix2 (n0 := 64) (n1 := 2816) q j)
    (ix2 (n0 := 256) (n1 := 5632) ⟨8 + (o + q.val) - 8, by omega⟩ ⟨j.val, by omega⟩) fun a => ?_).trans ?_
  · match a with
    | ⟨0, _⟩ => show 8 + (o + q.val) - 8 = o + q.val; omega
    | ⟨1, _⟩ => show j.val = 0 + j.val; omega
  · unfold Tin.gE
    rw [dif_neg (by omega), dif_pos (by omega)]

theorem chV_apply (o : ℕ) (ho : o + 64 ≤ 256) (inb) (q : Fin 64) (j : Fin 2816) :
    k0_pay34 (View.ld p.x3 (Rect.unit ![o, 2816] S64x2816.size inb)) (ix2 q j) = p.gV (o + q.val) j := by
  rw [pay34_apply]
  refine (Cert.Canon.ld_at (S := S256x5632) (off := ![o, 2816]) (size := S64x2816.size) p.x3 inb (ix2 (n0 := 64) (n1 := 2816) q j)
    (ix2 (n0 := 256) (n1 := 5632) ⟨o + q.val, by omega⟩ ⟨2816 + j.val, by omega⟩) fun a => ?_).trans ?_
  · match a with
    | ⟨0, _⟩ => rfl
    | ⟨1, _⟩ => rfl
  · unfold Tin.gV
    rw [dif_pos (by omega)]

theorem chP_apply (o : ℕ) (ho : o + 16 ≤ 256) (inb) (q : Fin 8) (j : Fin 2816) :
    k0_pay36 (View.ld p.x3 (Rect.unit ![o, 0] S16x2816.size inb)) (ix2 q j) = p.gE (o + 16 + q.val) j := by
  rw [pay36_apply _ _ _ ⟨8 + q.val, by omega⟩ rfl]
  refine (Cert.Canon.ld_at (S := S256x5632) (off := ![o, 0]) (size := S16x2816.size) p.x3 inb (ix2 (n0 := 16) (n1 := 2816) ⟨8 + q.val, by omega⟩ j)
    (ix2 (n0 := 256) (n1 := 5632) ⟨o + 16 + q.val - 8, by omega⟩ ⟨j.val, by omega⟩) fun a => ?_).trans ?_
  · match a with
    | ⟨0, _⟩ => show o + 16 + q.val - 8 = o + (8 + q.val); omega
    | ⟨1, _⟩ => show j.val = 0 + j.val; omega
  · unfold Tin.gE
    rw [dif_neg (by omega), dif_pos (by omega)]

theorem chP0_apply (q : Fin 8) (j : Fin 2816) : p.p0 (ix2 q j) = p.gE q.val j := by
  unfold Tin.gE
  rw [dif_pos q.isLt]
  rfl

theorem chD_apply (c : Fin 4) (q : Fin 64) (j : Fin 2816) : chD p.slot c p.ring (ix3 0 q j) = p.gD (64 * c.val + q.val) j := by
  unfold Tin.gD
  rw [dif_pos (by omega)]
  rfl

/-- The convolution of a chunk's row. -/
theorem chunk_conv (o : ℕ) (A : FVec Ideal S64x2816 .f32) (P : FVec Ideal S8x2816 .f32)
    (hA : ∀ (q : Fin 64) (j : Fin 2816), A (ix2 q j) = p.gE (8 + (o + q.val)) j)
    (hP : ∀ (q : Fin 8) (j : Fin 2816), P (ix2 q j) = p.gE (o + q.val) j) (r : Fin 64) (j : Fin 2816) :
    k0_pay39 p.w0 p.w1 p.w2 A P (am1 A P) p.cb (ix2 r j) = p.gC (o + r.val) j := by
  rw [pay39_apply, p.w0_apply, p.w1_apply, p.w2_apply, p.cb_apply,
    am1_apply A P (fun n => p.gE (o + n) j) r j (fun q => hP q j) (fun q => by rw [hA]; congr 1; omega),
    am2_apply A P (fun n => p.gE (o + n) j) r j (fun q => hP q j) (fun q => by rw [hA]; congr 1; omega), hA]
  unfold Tin.gC
  congr 1
  · show p.gE (o + (6 + r.val)) j = _; congr 1; omega
  · show p.gE (o + (7 + r.val)) j = _; congr 1; omega
  · congr 1; omega

theorem Tin.a0_apply (q : Fin 64) (j : Fin 2816) : p.a0 (ix2 q j) = p.gE (8 + (0 + q.val)) j := chA_apply p 0 (by omega) _ q j
theorem Tin.v0_apply (q : Fin 64) (j : Fin 2816) : p.v0 (ix2 q j) = p.gV (0 + q.val) j := chV_apply p 0 (by omega) _ q j
theorem Tin.p0_apply (q : Fin 8) (j : Fin 2816) : p.p0 (ix2 q j) = p.gE (0 + q.val) j := by rw [chP0_apply, Nat.zero_add]
theorem Tin.d0_apply (q : Fin 64) (j : Fin 2816) : chD p.slot 0 p.ring (ix3 0 q j) = p.gD (0 + q.val) j := chD_apply p 0 q j
theorem Tin.am10_apply (r : Fin 64) (j : Fin 2816) : am1 p.a0 p.p0 (ix2 r j) = p.gE (0 + r.val + 7) j := by
  rw [am1_apply _ _ (fun n => p.gE (0 + n) j) r j (fun q => p.p0_apply q j) (fun q => by rw [p.a0_apply]; congr 1; omega)]
  show p.gE (0 + (7 + r.val)) j = _
  congr 1; omega
theorem Tin.am20_apply (r : Fin 64) (j : Fin 2816) : am2 p.a0 p.p0 (ix2 r j) = p.gE (0 + r.val + 6) j := by
  rw [am2_apply _ _ (fun n => p.gE (0 + n) j) r j (fun q => p.p0_apply q j) (fun q => by rw [p.a0_apply]; congr 1; omega)]
  show p.gE (0 + (6 + r.val)) j = _
  congr 1; omega
theorem Tin.da0_apply (r : Fin 64) (j : Fin 2816) : p.da0 (ix2 r j) = p.gA (0 + r.val) j := by
  unfold Tin.da0
  rw [cda_eq, p.d0_apply, p.v0_apply, chunk_conv p 0 _ _ p.a0_apply p.p0_apply]
  rfl
theorem Tin.dv0_apply (r : Fin 64) (j : Fin 2816) : p.dv0 (ix2 r j) = p.gW (0 + r.val) j := by
  unfold Tin.dv0
  rw [cdv_eq, p.d0_apply, chunk_conv p 0 _ _ p.a0_apply p.p0_apply]
  rfl

theorem Tin.a1_apply (q : Fin 64) (j : Fin 2816) : p.a1 (ix2 q j) = p.gE (8 + (64 + q.val)) j := chA_apply p 64 (by omega) _ q j
theorem Tin.v1_apply (q : Fin 64) (j : Fin 2816) : p.v1 (ix2 q j) = p.gV (64 + q.val) j := chV_apply p 64 (by omega) _ q j
theorem Tin.p1_apply (q : Fin 8) (j : Fin 2816) : p.p1 (ix2 q j) = p.gE (64 + q.val) j := chP_apply p 48 (by omega) _ q j
theorem Tin.d1_apply (q : Fin 64) (j : Fin 2816) : chD p.slot 1 p.ring (ix3 0 q j) = p.gD (64 + q.val) j := chD_apply p 1 q j
theorem Tin.am11_apply (r : Fin 64) (j : Fin 2816) : am1 p.a1 p.p1 (ix2 r j) = p.gE (64 + r.val + 7) j := by
  rw [am1_apply _ _ (fun n => p.gE (64 + n) j) r j (fun q => p.p1_apply q j) (fun q => by rw [p.a1_apply]; congr 1; omega)]
  show p.gE (64 + (7 + r.val)) j = _
  congr 1; omega
theorem Tin.am21_apply (r : Fin 64) (j : Fin 2816) : am2 p.a1 p.p1 (ix2 r j) = p.gE (64 + r.val + 6) j := by
  rw [am2_apply _ _ (fun n => p.gE (64 + n) j) r j (fun q => p.p1_apply q j) (fun q => by rw [p.a1_apply]; congr 1; omega)]
  show p.gE (64 + (6 + r.val)) j = _
  congr 1; omega
theorem Tin.da1_apply (r : Fin 64) (j : Fin 2816) : p.da1 (ix2 r j) = p.gA (64 + r.val) j := by
  unfold Tin.da1
  rw [cda_eq, p.d1_apply, p.v1_apply, chunk_conv p 64 _ _ p.a1_apply p.p1_apply]
  rfl
theorem Tin.dv1_apply (r : Fin 64) (j : Fin 2816) : p.dv1 (ix2 r j) = p.gW (64 + r.val) j := by
  unfold Tin.dv1
  rw [cdv_eq, p.d1_apply, chunk_conv p 64 _ _ p.a1_apply p.p1_apply]
  rfl

theorem Tin.a2_apply (q : Fin 64) (j : Fin 2816) : p.a2 (ix2 q j) = p.gE (8 + (128 + q.val)) j := chA_apply p 128 (by omega) _ q j
theorem Tin.v2_apply (q : Fin 64) (j : Fin 2816) : p.v2 (ix2 q j) = p.gV (128 + q.val) j := chV_apply p 128 (by omega) _ q j
theorem Tin.p2_apply (q : Fin 8) (j : Fin 2816) : p.p2 (ix2 q j) = p.gE (128 + q.val) j := chP_apply p 112 (by omega) _ q j
theorem Tin.d2_apply (q : Fin 64) (j : Fin 2816) : chD p.slot 2 p.ring (ix3 0 q j) = p.gD (128 + q.val) j := chD_apply p 2 q j
theorem Tin.am12_apply (r : Fin 64) (j : Fin 2816) : am1 p.a2 p.p2 (ix2 r j) = p.gE (128 + r.val + 7) j := by
  rw [am1_apply _ _ (fun n => p.gE (128 + n) j) r j (fun q => p.p2_apply q j) (fun q => by rw [p.a2_apply]; congr 1; omega)]
  show p.gE (128 + (7 + r.val)) j = _
  congr 1; omega
theorem Tin.am22_apply (r : Fin 64) (j : Fin 2816) : am2 p.a2 p.p2 (ix2 r j) = p.gE (128 + r.val + 6) j := by
  rw [am2_apply _ _ (fun n => p.gE (128 + n) j) r j (fun q => p.p2_apply q j) (fun q => by rw [p.a2_apply]; congr 1; omega)]
  show p.gE (128 + (6 + r.val)) j = _
  congr 1; omega
theorem Tin.da2_apply (r : Fin 64) (j : Fin 2816) : p.da2 (ix2 r j) = p.gA (128 + r.val) j := by
  unfold Tin.da2
  rw [cda_eq, p.d2_apply, p.v2_apply, chunk_conv p 128 _ _ p.a2_apply p.p2_apply]
  rfl
theorem Tin.dv2_apply (r : Fin 64) (j : Fin 2816) : p.dv2 (ix2 r j) = p.gW (128 + r.val) j := by
  unfold Tin.dv2
  rw [cdv_eq, p.d2_apply, chunk_conv p 128 _ _ p.a2_apply p.p2_apply]
  rfl

theorem Tin.a3_apply (q : Fin 64) (j : Fin 2816) : p.a3 (ix2 q j) = p.gE (8 + (192 + q.val)) j := chA_apply p 192 (by omega) _ q j
theorem Tin.v3_apply (q : Fin 64) (j : Fin 2816) : p.v3 (ix2 q j) = p.gV (192 + q.val) j := chV_apply p 192 (by omega) _ q j
theorem Tin.p3_apply (q : Fin 8) (j : Fin 2816) : p.p3 (ix2 q j) = p.gE (192 + q.val) j := chP_apply p 176 (by omega) _ q j
theorem Tin.d3_apply (q : Fin 64) (j : Fin 2816) : chD p.slot 3 p.ring (ix3 0 q j) = p.gD (192 + q.val) j := chD_apply p 3 q j
theorem Tin.am13_apply (r : Fin 64) (j : Fin 2816) : am1 p.a3 p.p3 (ix2 r j) = p.gE (192 + r.val + 7) j := by
  rw [am1_apply _ _ (fun n => p.gE (192 + n) j) r j (fun q => p.p3_apply q j) (fun q => by rw [p.a3_apply]; congr 1; omega)]
  show p.gE (192 + (7 + r.val)) j = _
  congr 1; omega
theorem Tin.am23_apply (r : Fin 64) (j : Fin 2816) : am2 p.a3 p.p3 (ix2 r j) = p.gE (192 + r.val + 6) j := by
  rw [am2_apply _ _ (fun n => p.gE (192 + n) j) r j (fun q => p.p3_apply q j) (fun q => by rw [p.a3_apply]; congr 1; omega)]
  show p.gE (192 + (6 + r.val)) j = _
  congr 1; omega
theorem Tin.da3_apply (r : Fin 64) (j : Fin 2816) : p.da3 (ix2 r j) = p.gA (192 + r.val) j := by
  unfold Tin.da3
  rw [cda_eq, p.d3_apply, p.v3_apply, chunk_conv p 192 _ _ p.a3_apply p.p3_apply]
  rfl
theorem Tin.dv3_apply (r : Fin 64) (j : Fin 2816) : p.dv3 (ix2 r j) = p.gW (192 + r.val) j := by
  unfold Tin.dv3
  rw [cdv_eq, p.d3_apply, chunk_conv p 192 _ _ p.a3_apply p.p3_apply]
  rfl

theorem Tin.k0_apply (q : Fin 8) (j : Fin 2816) : p.k0 (ix2 q j) = p.gAE (64 + q.val) j := by
  unfold Tin.k0 Tin.gAE
  rw [if_pos (by omega), pay47_apply, p.da1_apply]
theorem Tin.dp0_apply (r : Fin 64) (j : Fin 2816) : p.dp0 (ix2 r j) = p.gP (0 + r.val) j := by
  unfold Tin.dp0
  rw [cdp_apply _ _ _ _ _ _ _ _ _ (fun n => p.gAE (0 + n) j) r j
    (fun q => by
      show p.da0 (ix2 q j) = _
      rw [p.da0_apply]
      unfold Tin.gAE
      rw [if_pos (by omega)])
    (fun q => by
      rw [p.k0_apply]
      show p.gAE _ j = p.gAE (0 + (64 + q.val)) j
      congr 1; omega),
    p.w0_apply, p.w1_apply, p.w2_apply]
  rfl

theorem Tin.k1_apply (q : Fin 8) (j : Fin 2816) : p.k1 (ix2 q j) = p.gAE (128 + q.val) j := by
  unfold Tin.k1 Tin.gAE
  rw [if_pos (by omega), pay47_apply, p.da2_apply]
theorem Tin.dp1_apply (r : Fin 64) (j : Fin 2816) : p.dp1 (ix2 r j) = p.gP (64 + r.val) j := by
  unfold Tin.dp1
  rw [cdp_apply _ _ _ _ _ _ _ _ _ (fun n => p.gAE (64 + n) j) r j
    (fun q => by
      show p.da1 (ix2 q j) = _
      rw [p.da1_apply]
      unfold Tin.gAE
      rw [if_pos (by omega)])
    (fun q => by
      rw [p.k1_apply]
      show p.gAE _ j = p.gAE (64 + (64 + q.val)) j
      congr 1; omega),
    p.w0_apply, p.w1_apply, p.w2_apply]
  rfl

theorem Tin.k2_apply (q : Fin 8) (j : Fin 2816) : p.k2 (ix2 q j) = p.gAE (192 + q.val) j := by
  unfold Tin.k2 Tin.gAE
  rw [if_pos (by omega), pay47_apply, p.da3_apply]
theorem Tin.dp2_apply (r : Fin 64) (j : Fin 2816) : p.dp2 (ix2 r j) = p.gP (128 + r.val) j := by
  unfold Tin.dp2
  rw [cdp_apply _ _ _ _ _ _ _ _ _ (fun n => p.gAE (128 + n) j) r j
    (fun q => by
      show p.da2 (ix2 q j) = _
      rw [p.da2_apply]
      unfold Tin.gAE
      rw [if_pos (by omega)])
    (fun q => by
      rw [p.k2_apply]
      show p.gAE _ j = p.gAE (128 + (64 + q.val)) j
      congr 1; omega),
    p.w0_apply, p.w1_apply, p.w2_apply]
  rfl

theorem Tin.k3_apply (q : Fin 8) (j : Fin 2816) : p.k3 (ix2 q j) = p.gAE (256 + q.val) j := by
  unfold Tin.gAE
  rw [if_neg (by omega), dif_pos (by omega)]
  show p.carry _ = _
  congr 2
  apply Fin.ext
  show q.val = 256 + q.val - 256
  omega
theorem Tin.dp3_apply (r : Fin 64) (j : Fin 2816) : p.dp3 (ix2 r j) = p.gP (192 + r.val) j := by
  unfold Tin.dp3
  rw [cdp_apply _ _ _ _ _ _ _ _ _ (fun n => p.gAE (192 + n) j) r j
    (fun q => by
      show p.da3 (ix2 q j) = _
      rw [p.da3_apply]
      unfold Tin.gAE
      rw [if_pos (by omega)])
    (fun q => by
      rw [p.k3_apply]
      show p.gAE _ j = p.gAE (192 + (64 + q.val)) j
      congr 1; omega),
    p.w0_apply, p.w1_apply, p.w2_apply]
  rfl

end Reals

end Cert.KernelIdeal.Ffn

end
-- ==== Proof.Ffn.Read.lean ====
module

public import proofs.«01_k».proof.Proof.Ffn.State
public import proofs.«01_k».proof.Proof.Ffn.Tile
public import Idealize.ShloMosaic.Lib.WritesUnit

/-! Reading the stores of a point: the rings' offsets in closed form, and loads from the rings past stores beside them. -/

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic Idealize.SL.Sem

variable {F : FTy → Type} [FloatOps F]

/-- The ring slot of a point, and the other one. -/
def slotOf (t : Fin cfg0.N) : Fin 2 := ⟨t.val % 2, by omega⟩
def otherOf (t : Fin cfg0.N) : Fin 2 := ⟨1 - t.val % 2, by omega⟩

theorem o1 (t : Fin cfg0.N) : k0_off1 (grid0.coords t) = ![t.val % 2, 192, 0] := by revert t; decide +kernel
theorem o2 (t : Fin cfg0.N) : k0_off2 (grid0.coords t) = ![t.val % 2, 192, 0] := by revert t; decide +kernel
theorem o3 (t : Fin cfg0.N) : k0_off3 (grid0.coords t) = ![t.val % 2, 192, 2816] := by revert t; decide +kernel
theorem o4 (t : Fin cfg0.N) : k0_off4 (grid0.coords t) = ![1 - t.val % 2, 0, 0] := by revert t; decide +kernel
theorem o5 (t : Fin cfg0.N) : k0_off5 (grid0.coords t) = ![1 - t.val % 2, 0, 0] := by revert t; decide +kernel
theorem o6 (t : Fin cfg0.N) : k0_off6 (grid0.coords t) = ![t.val % 2, 128, 0] := by revert t; decide +kernel
theorem o7 (t : Fin cfg0.N) : k0_off7 (grid0.coords t) = ![t.val % 2, 128, 0] := by revert t; decide +kernel
theorem o8 (t : Fin cfg0.N) : k0_off8 (grid0.coords t) = ![t.val % 2, 128, 2816] := by revert t; decide +kernel
theorem o9 (t : Fin cfg0.N) : k0_off9 (grid0.coords t) = ![1 - t.val % 2, 0, 768] := by revert t; decide +kernel
theorem o10 (t : Fin cfg0.N) : k0_off10 (grid0.coords t) = ![t.val % 2, 64, 0] := by revert t; decide +kernel
theorem o11 (t : Fin cfg0.N) : k0_off11 (grid0.coords t) = ![t.val % 2, 64, 0] := by revert t; decide +kernel
theorem o12 (t : Fin cfg0.N) : k0_off12 (grid0.coords t) = ![t.val % 2, 64, 2816] := by revert t; decide +kernel
theorem o13 (t : Fin cfg0.N) : k0_off13 (grid0.coords t) = ![1 - t.val % 2, 0, 1536] := by revert t; decide +kernel
theorem o14 (t : Fin cfg0.N) : k0_off14 (grid0.coords t) = ![1 - t.val % 2, 0, 2816] := by revert t; decide +kernel
theorem o15 (t : Fin cfg0.N) : k0_off15 (grid0.coords t) = ![t.val % 2, 0, 0] := by revert t; decide +kernel
theorem o16 (t : Fin cfg0.N) : k0_off16 (grid0.coords t) = ![t.val % 2, 0, 0] := by revert t; decide +kernel
theorem o17 (t : Fin cfg0.N) : k0_off17 (grid0.coords t) = ![t.val % 2, 0, 2816] := by revert t; decide +kernel
theorem o18 (t : Fin cfg0.N) : k0_off18 (grid0.coords t) = ![1 - t.val % 2, 0, 2304] := by revert t; decide +kernel
theorem o19 (t : Fin cfg0.N) : k0_off19 (grid0.coords t) = ![1 - t.val % 2, 0, 0] := by revert t; decide +kernel
theorem o20 (t : Fin cfg0.N) : k0_off20 (grid0.coords t) = ![1 - t.val % 2, 0, 2816] := by revert t; decide +kernel

/-- A load of a chunk's rows from a slot of the gate's ring. -/
theorem ring_read {sig : RefSig} {κ : Kind} {sp : Space} (v : View sig κ sp S2x256x2816 .f32) (f : v.ty.Contents (Elt F)) (Rg : Vec F S2x256x2816 .f32) (s : Fin 2) (c : Fin 4)
    {off : Fin 3 → ℕ} (inb : ∀ a, off a + S1x64x2816.size a ≤ S2x256x2816.size a) (hoff : off = ![s.val, 64 * c.val, 0])
    (h : ∀ y : S2x256x2816.Idx, (y 0).val = s.val → v.read (Elt F) f y = Rg y) :
    v.readAt (Elt F) (Rect.unit (s := S2x256x2816) off S1x64x2816.size inb).toLoadRect f = chD s c Rg := by
  subst hoff
  rw [View.readAt_eq_ld]
  funext y
  have hy1 : (y 1).val < 64 := (y 1).isLt
  have hy0 : (y 0).val < 1 := (y 0).isLt
  refine (Cert.Canon.ld_at (S := S2x256x2816) (off := ![s.val, 64 * c.val, 0]) (size := S1x64x2816.size) _ inb y
    (ix3 (n0 := 2) (n1 := 256) (n2 := 2816) s ⟨64 * c.val + (y 1).val, by omega⟩ (y 2)) fun a => ?_).trans (h _ rfl)
  match a with
  | ⟨0, _⟩ => show s.val = s.val + (y 0).val; omega
  | ⟨1, _⟩ => rfl
  | ⟨2, _⟩ => show (y 2).val = 0 + (y 2).val; omega

/-- Half `b` of slot `s` of the ring of the projection's gradient. -/
def duH (s b : Fin 2) (ring : Vec F S2x256x5632 .bf16) : Vec F S1x256x2816 .bf16 :=
  fun y => ring (ix3 (n0 := 2) (n1 := 256) (n2 := 5632) s (y 1) ⟨2816 * b.val + (y 2).val, by have : (y 2).val < 2816 := (y 2).isLt; omega⟩)

/-- A load of a half of a slot of the ring of the projection's gradient. -/
theorem dup_read {sig : RefSig} {κ : Kind} {sp : Space} (v : View sig κ sp S2x256x5632 .bf16) (f : v.ty.Contents (Elt F)) (Rg : Vec F S2x256x5632 .bf16) (s b : Fin 2)
    {off : Fin 3 → ℕ} (inb : ∀ a, off a + S1x256x2816.size a ≤ S2x256x5632.size a) (hoff : off = ![s.val, 0, 2816 * b.val])
    (h : ∀ y : S2x256x5632.Idx, (y 0).val = s.val → v.read (Elt F) f y = Rg y) :
    v.readAt (Elt F) (Rect.unit (s := S2x256x5632) off S1x256x2816.size inb).toLoadRect f = duH s b Rg := by
  subst hoff
  rw [View.readAt_eq_ld]
  funext y
  have hy2 : (y 2).val < 2816 := (y 2).isLt
  have hy0 : (y 0).val < 1 := (y 0).isLt
  refine (Cert.Canon.ld_at (S := S2x256x5632) (off := ![s.val, 0, 2816 * b.val]) (size := S1x256x2816.size) _ inb y
    (ix3 (n0 := 2) (n1 := 256) (n2 := 5632) s (y 1) ⟨2816 * b.val + (y 2).val, by omega⟩) fun a => ?_).trans (h _ rfl)
  match a with
  | ⟨0, _⟩ => show s.val = s.val + (y 0).val; omega
  | ⟨1, _⟩ => show (y 1).val = 0 + (y 1).val; omega
  | ⟨2, _⟩ => rfl

/-- What a load gets of a newest box it meets exactly, and of one it lies beside. -/
theorem cov_hit {sig : RefSig} {κ : Kind} {sp : Space} {S : Shape} {e : EltTy} (v : View sig κ sp S e) {off size : Fin S.rank → ℕ}
    (inb : ∀ a, off a + size a ≤ S.size a) (w : (Rect.unit off size inb).shape.Idx → Elt F e) (L : List (View.Piece (Elt F) S e)) :
    v.readCov ((⟨Rect.unit off size inb, w⟩ : View.Piece (Elt F) S e) :: L) (Rect.unit off size inb).toLoadRect = w := by
  funext x
  rw [View.readCov_eq_canon']
  exact View.canon_cons_emb _ _ _ _

theorem cov_skip {sig : RefSig} {κ : Kind} {sp : Space} {S : Shape} {e : EltTy} (v : View sig κ sp S e) {off size off' size' : Fin S.rank → ℕ}
    (inb : ∀ a, off a + size a ≤ S.size a) (inb' : ∀ a, off' a + size' a ≤ S.size a)
    (w : (Rect.unit off size inb).shape.Idx → Elt F e) (L : List (View.Piece (Elt F) S e)) (a : Fin S.rank)
    (h : off' a + size' a ≤ off a ∨ off a + size a ≤ off' a) :
    v.readCov ((⟨Rect.unit off size inb, w⟩ : View.Piece (Elt F) S e) :: L) (Rect.unit off' size' inb').toLoadRect
      = v.readCov L (Rect.unit off' size' inb').toLoadRect := by
  funext x
  rw [View.readCov_eq_canon', View.readCov_eq_canon']
  refine Cert.Canon.canon_skip inb w L _ a ?_
  have hx := (x a).isLt
  have hx' : (x a).val < size' a := hx
  show off' a + 1 * (x a).val < off a ∨ off a + size a ≤ off' a + 1 * (x a).val
  omega

/-- The gate's ring, the projection's ring after the first point's resets. -/
def resetRing (x2 : Vec F S256x1024 .f32) (x10 : Vec F S2816x1024 .bf16) (x16 : Vec F S2x256x2816 .f32) : Vec F S2x256x2816 .f32 :=
  fun y => if (y 0).val = 0 then k0_pay6 (View.ld x2 (Rect.unit ![0, 0] S256x1024.size inb_S256x1024_S256x1024_0_0)) (View.ld x10 (Rect.unit ![0, 0] S2816x1024.size inb_S2816x1024_S2816x1024_0_0)) (ix3 (n0 := 1) (n1 := 256) (n2 := 2816) 0 (y 1) (y 2)) else x16 y

def resetDup (x17 : Vec F S2x256x5632 .bf16) : Vec F S2x256x5632 .bf16 :=
  fun y => if (y 0).val = 1 then k0_pay5 (ix3 (n0 := 1) (n1 := 256) (n2 := 5632) 0 (y 1) (y 2)) else x17 y

end Cert.KernelIdeal.Ffn

end
-- ==== Proof.Ffn.ChunksA.lean ====
module

public import proofs.«01_k».proof.Proof.Ffn.Read

/-! What the run of a point of kind A stores, in terms of the tile's chunks. -/

@[expose] public section

set_option maxRecDepth 16384

noncomputable section

namespace Cert.KernelIdeal.Ffn.A

open Cert.KernelIdeal Cert.KernelIdeal.Gen Cert.KernelIdeal.Ffn
open Idealize.ShloMosaic Idealize.ShloMosaic.TcCoe Idealize.ShloMosaic.Tactic Idealize.SL.Sem

variable {F : FTy → Type} [FloatOps F]
variable (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S16x2816 .bf16) (harg4 : arg4.IsWhole) (arg5 : Memref sig .tc .vmem S256x1024 .f32) (harg5 : arg5.IsWhole) (arg6 : Memref sig .tc .vmem S1x1024 .f32) (harg6 : arg6.IsWhole) (arg7 : Memref sig .tc .vmem S2x1024x2816 .bf16) (harg7 : arg7.IsWhole) (arg8 : Memref sig .tc .vmem S3x2816 .f32) (harg8 : arg8.IsWhole) (arg9 : Memref sig .tc .vmem S1x2816 .f32) (harg9 : arg9.IsWhole) (arg10 : Memref sig .tc .vmem S2816x1024 .bf16) (harg10 : arg10.IsWhole) (arg11 : Memref sig .tc .vmem S256x5632 .bf16) (harg11 : arg11.IsWhole) (arg12 : Memref sig .tc .vmem S256x1024 .f32) (harg12 : arg12.IsWhole) (arg13 : Memref sig .tc .vmem S3x2816 .f32) (harg13 : arg13.IsWhole) (arg14 : Memref sig .tc .vmem S1x2816 .f32) (harg14 : arg14.IsWhole) (arg15 : Memref sig .tc .vmem S1x1024 .f32) (harg15 : arg15.IsWhole) (arg16 : Memref sig .tc .vmem S2x256x2816 .f32) (harg16 : arg16.IsWhole) (arg17 : Memref sig .tc .vmem S2x256x5632 .bf16) (harg17 : arg17.IsWhole) (arg18 : Memref sig .tc .vmem S8x2816 .f32) (harg18 : arg18.IsWhole) (arg19 : Memref sig .tc .vmem S8x2816 .f32) (harg19 : arg19.IsWhole) (arg20 : Memref sig .tc .vmem S1x2816 .f32) (harg20 : arg20.IsWhole) (arg21 : Memref sig .tc .vmem S1x1024 .f32) (harg21 : arg21.IsWhole)
variable (t : Fin cfg0.N) (hc1 : k0_cond2 (grid0.coords t) = 1#1)
variable (x1 : Vec F S256x1024 .f32) (x2 : Vec F S256x1024 .f32) (x3 : Vec F S256x5632 .bf16) (x4 : Vec F S16x2816 .bf16) (x5 : Vec F S256x1024 .f32) (x6 : Vec F S1x1024 .f32) (x7 : Vec F S2x1024x2816 .bf16) (x8 : Vec F S3x2816 .f32) (x9 : Vec F S1x2816 .f32) (x10 : Vec F S2816x1024 .bf16) (x16 : Vec F S2x256x2816 .f32) (x17 : Vec F S2x256x5632 .bf16) (x18 : Vec F S8x2816 .f32) (x19 : Vec F S8x2816 .f32) (x20 : Vec F S1x2816 .f32) (x21 : Vec F S1x1024 .f32)

/-- What the tile is computed from. -/
def tin (x2 : Vec F S256x1024 .f32) (x3 : Vec F S256x5632 .bf16) (x4 : Vec F S16x2816 .bf16) (x8 : Vec F S3x2816 .f32) (x9 : Vec F S1x2816 .f32) (x10 : Vec F S2816x1024 .bf16) (x16 : Vec F S2x256x2816 .f32) : Tin F :=
  ⟨x3, x4, x8, x9, BitVec.ofNat 32 (grid0.coords t 0).val, slotOf t, (resetRing x2 x10 x16), k0_pay1⟩

theorem ring3 (ht : t.val = 0) : arg16.view.readAt (Elt F) (Rect.unit (s := S2x256x2816) (k0_off1 (grid0.coords t)) S1x64x2816.size (k0_off1_inb (grid0.coords t) hc1)).toLoadRect (arg16.view.writes (Elt F) (harg16.unread x16) (runA.sl.H16_1 arg2 harg2 arg10 harg10 x2 x10)) = chD (slotOf t) 3 (resetRing x2 x10 x16) := by
  refine ring_read arg16.view _ (resetRing x2 x10 x16) (slotOf t) 3 _ (o1 t) ?_
  intro y hy
  have hs : (y 0).val = t.val % 2 := hy
  refine (View.read_writes_cons_unit_of_mem (s := S2x256x2816) arg16.view _ (off := ![0, 0, 0]) (off' := ![0, 0, 0]) (size := S1x256x2816.size) inb_S2x256x2816_S1x256x2816_0_0_0 _ _ y (ix3 (n0 := 1) (n1 := 256) (n2 := 2816) 0 (y 1) (y 2)) rfl (fun a => ?_)).trans ?_
  · match a with
    | ⟨0, _⟩ => show (y 0).val = 0 + 0; omega
    | ⟨1, _⟩ => show (y 1).val = 0 + (y 1).val; omega
    | ⟨2, _⟩ => show (y 2).val = 0 + (y 2).val; omega
  · unfold resetRing
    rw [if_pos (by omega)]
    simp only [View.readAt_eq_ld, harg2.read_unread, harg10.read_unread]

theorem ring2 (ht : t.val = 0) : arg16.view.readAt (Elt F) (Rect.unit (s := S2x256x2816) (k0_off6 (grid0.coords t)) S1x64x2816.size (k0_off6_inb (grid0.coords t) hc1)).toLoadRect (arg16.view.writes (Elt F) (harg16.unread x16) (runA.sl.H16_2 (grid0.coords t) arg1 harg1 arg2 harg2 arg10 harg10 hc1 x1 x2 x10)) = chD (slotOf t) 2 (resetRing x2 x10 x16) := by
  refine ring_read arg16.view _ (resetRing x2 x10 x16) (slotOf t) 2 _ (o6 t) ?_
  intro y hy
  have hs : (y 0).val = t.val % 2 := hy
  refine (View.read_writes_cons_unit_of_not_mem (s := S2x256x2816) arg16.view _ (off := k0_off4 (grid0.coords t)) (off' := ![1 - t.val % 2, 0, 0]) (size := S1x256x768.size) (k0_off4_inb (grid0.coords t) hc1) _ _ y (o4 t) (0 : Fin 3) (by show (y 0).val < 1 - t.val % 2 ∨ 1 - t.val % 2 + 1 ≤ (y 0).val; omega)).trans ?_
  refine (View.read_writes_cons_unit_of_mem (s := S2x256x2816) arg16.view _ (off := ![0, 0, 0]) (off' := ![0, 0, 0]) (size := S1x256x2816.size) inb_S2x256x2816_S1x256x2816_0_0_0 _ _ y (ix3 (n0 := 1) (n1 := 256) (n2 := 2816) 0 (y 1) (y 2)) rfl (fun a => ?_)).trans ?_
  · match a with
    | ⟨0, _⟩ => show (y 0).val = 0 + 0; omega
    | ⟨1, _⟩ => show (y 1).val = 0 + (y 1).val; omega
    | ⟨2, _⟩ => show (y 2).val = 0 + (y 2).val; omega
  · unfold resetRing
    rw [if_pos (by omega)]
    simp only [View.readAt_eq_ld, harg2.read_unread, harg10.read_unread]

theorem ring1 (ht : t.val = 0) : arg16.view.readAt (Elt F) (Rect.unit (s := S2x256x2816) (k0_off10 (grid0.coords t)) S1x64x2816.size (k0_off10_inb (grid0.coords t) hc1)).toLoadRect (arg16.view.writes (Elt F) (harg16.unread x16) (runA.sl.H16_3 (grid0.coords t) arg1 harg1 arg2 harg2 arg10 harg10 hc1 x1 x2 x10)) = chD (slotOf t) 1 (resetRing x2 x10 x16) := by
  refine ring_read arg16.view _ (resetRing x2 x10 x16) (slotOf t) 1 _ (o10 t) ?_
  intro y hy
  have hs : (y 0).val = t.val % 2 := hy
  refine (View.read_writes_cons_unit_of_not_mem (s := S2x256x2816) arg16.view _ (off := k0_off9 (grid0.coords t)) (off' := ![1 - t.val % 2, 0, 768]) (size := S1x256x768.size) (k0_off9_inb (grid0.coords t) hc1) _ _ y (o9 t) (0 : Fin 3) (by show (y 0).val < 1 - t.val % 2 ∨ 1 - t.val % 2 + 1 ≤ (y 0).val; omega)).trans ?_
  refine (View.read_writes_cons_unit_of_not_mem (s := S2x256x2816) arg16.view _ (off := k0_off4 (grid0.coords t)) (off' := ![1 - t.val % 2, 0, 0]) (size := S1x256x768.size) (k0_off4_inb (grid0.coords t) hc1) _ _ y (o4 t) (0 : Fin 3) (by show (y 0).val < 1 - t.val % 2 ∨ 1 - t.val % 2 + 1 ≤ (y 0).val; omega)).trans ?_
  refine (View.read_writes_cons_unit_of_mem (s := S2x256x2816) arg16.view _ (off := ![0, 0, 0]) (off' := ![0, 0, 0]) (size := S1x256x2816.size) inb_S2x256x2816_S1x256x2816_0_0_0 _ _ y (ix3 (n0 := 1) (n1 := 256) (n2 := 2816) 0 (y 1) (y 2)) rfl (fun a => ?_)).trans ?_
  · match a with
    | ⟨0, _⟩ => show (y 0).val = 0 + 0; omega
    | ⟨1, _⟩ => show (y 1).val = 0 + (y 1).val; omega
    | ⟨2, _⟩ => show (y 2).val = 0 + (y 2).val; omega
  · unfold resetRing
    rw [if_pos (by omega)]
    simp only [View.readAt_eq_ld, harg2.read_unread, harg10.read_unread]

theorem ring0 (ht : t.val = 0) : arg16.view.readAt (Elt F) (Rect.unit (s := S2x256x2816) (k0_off15 (grid0.coords t)) S1x64x2816.size (k0_off15_inb (grid0.coords t) hc1)).toLoadRect (arg16.view.writes (Elt F) (harg16.unread x16) (runA.sl.H16_4 (grid0.coords t) arg1 harg1 arg2 harg2 arg10 harg10 hc1 x1 x2 x10)) = chD (slotOf t) 0 (resetRing x2 x10 x16) := by
  refine ring_read arg16.view _ (resetRing x2 x10 x16) (slotOf t) 0 _ (o15 t) ?_
  intro y hy
  have hs : (y 0).val = t.val % 2 := hy
  refine (View.read_writes_cons_unit_of_not_mem (s := S2x256x2816) arg16.view _ (off := k0_off13 (grid0.coords t)) (off' := ![1 - t.val % 2, 0, 1536]) (size := S1x256x768.size) (k0_off13_inb (grid0.coords t) hc1) _ _ y (o13 t) (0 : Fin 3) (by show (y 0).val < 1 - t.val % 2 ∨ 1 - t.val % 2 + 1 ≤ (y 0).val; omega)).trans ?_
  refine (View.read_writes_cons_unit_of_not_mem (s := S2x256x2816) arg16.view _ (off := k0_off9 (grid0.coords t)) (off' := ![1 - t.val % 2, 0, 768]) (size := S1x256x768.size) (k0_off9_inb (grid0.coords t) hc1) _ _ y (o9 t) (0 : Fin 3) (by show (y 0).val < 1 - t.val % 2 ∨ 1 - t.val % 2 + 1 ≤ (y 0).val; omega)).trans ?_
  refine (View.read_writes_cons_unit_of_not_mem (s := S2x256x2816) arg16.view _ (off := k0_off4 (grid0.coords t)) (off' := ![1 - t.val % 2, 0, 0]) (size := S1x256x768.size) (k0_off4_inb (grid0.coords t) hc1) _ _ y (o4 t) (0 : Fin 3) (by show (y 0).val < 1 - t.val % 2 ∨ 1 - t.val % 2 + 1 ≤ (y 0).val; omega)).trans ?_
  refine (View.read_writes_cons_unit_of_mem (s := S2x256x2816) arg16.view _ (off := ![0, 0, 0]) (off' := ![0, 0, 0]) (size := S1x256x2816.size) inb_S2x256x2816_S1x256x2816_0_0_0 _ _ y (ix3 (n0 := 1) (n1 := 256) (n2 := 2816) 0 (y 1) (y 2)) rfl (fun a => ?_)).trans ?_
  · match a with
    | ⟨0, _⟩ => show (y 0).val = 0 + 0; omega
    | ⟨1, _⟩ => show (y 1).val = 0 + (y 1).val; omega
    | ⟨2, _⟩ => show (y 2).val = 0 + (y 2).val; omega
  · unfold resetRing
    rw [if_pos (by omega)]
    simp only [View.readAt_eq_ld, harg2.read_unread, harg10.read_unread]

theorem w0_eq (ht : t.val = 0) : (runA.sl.r arg8 harg8 x8) = (tin t x2 x3 x4 x8 x9 x10 x16).w0 := by
  unfold runA.sl.r
  simp only [View.readAt_eq_ld, Memref.IsWhole.read_unread]
  rfl

theorem w1_eq (ht : t.val = 0) : (runA.sl.r_1 arg8 harg8 x8) = (tin t x2 x3 x4 x8 x9 x10 x16).w1 := by
  unfold runA.sl.r_1
  simp only [View.readAt_eq_ld, Memref.IsWhole.read_unread]
  rfl

theorem w2_eq (ht : t.val = 0) : (runA.sl.r_2 arg8 harg8 x8) = (tin t x2 x3 x4 x8 x9 x10 x16).w2 := by
  unfold runA.sl.r_2
  simp only [View.readAt_eq_ld, Memref.IsWhole.read_unread]
  rfl

theorem pb_eq (ht : t.val = 0) : (runA.sl.r_3 (grid0.coords t) arg4 harg4 x4) = (tin t x2 x3 x4 x8 x9 x10 x16).pb := by
  unfold runA.sl.r_3
  simp only [View.readAt_eq_ld, Memref.IsWhole.read_unread]
  rfl

theorem a3_eq (ht : t.val = 0) : (runA.sl.r_5 arg3 harg3 x3) = (tin t x2 x3 x4 x8 x9 x10 x16).a3 := by
  unfold runA.sl.r_5
  simp only [View.readAt_eq_ld, Memref.IsWhole.read_unread]
  rfl

theorem m3_eq (ht : t.val = 0) : (runA.sl.r_7 arg3 harg3 x3) = am1 (tin t x2 x3 x4 x8 x9 x10 x16).a3 (tin t x2 x3 x4 x8 x9 x10 x16).p3 := by
  unfold runA.sl.r_7
  simp only [View.readAt_eq_ld, Memref.IsWhole.read_unread]
  rfl

theorem n3_eq (ht : t.val = 0) : (runA.sl.r_8 arg3 harg3 x3) = am2 (tin t x2 x3 x4 x8 x9 x10 x16).a3 (tin t x2 x3 x4 x8 x9 x10 x16).p3 := by
  unfold runA.sl.r_8
  simp only [View.readAt_eq_ld, Memref.IsWhole.read_unread]
  rfl

theorem da3_eq (ht : t.val = 0) : (runA.sl.r_10 (grid0.coords t) arg2 harg2 arg3 harg3 arg8 harg8 arg9 harg9 arg10 harg10 arg16 harg16 hc1 x2 x3 x8 x9 x10 x16) = (tin t x2 x3 x4 x8 x9 x10 x16).da3 := by
  unfold runA.sl.r_10 runA.sl.r_6 runA.sl.r_9
  rw [ring3 (hc1 := hc1) (ht := ht)]
  simp only [View.readAt_eq_ld, Memref.IsWhole.read_unread]
  rfl

theorem dv3_eq (ht : t.val = 0) : (runA.sl.r_11 (grid0.coords t) arg2 harg2 arg3 harg3 arg8 harg8 arg9 harg9 arg10 harg10 arg16 harg16 hc1 x2 x3 x8 x9 x10 x16) = (tin t x2 x3 x4 x8 x9 x10 x16).dv3 := by
  unfold runA.sl.r_11 runA.sl.r_9
  rw [ring3 (hc1 := hc1) (ht := ht)]
  simp only [View.readAt_eq_ld, Memref.IsWhole.read_unread]
  rfl

theorem k3_eq : (runA.sl.v72 (F := F) arg18) = (k0_pay1 : FVec F S8x2816 .f32) := by
  unfold runA.sl.v72 runA.sl.H18_1
  exact cov_hit _ _ _ _

theorem dp3_eq (ht : t.val = 0) : (runA.sl.r_12 (grid0.coords t) arg2 harg2 arg3 harg3 arg8 harg8 arg9 harg9 arg10 harg10 arg16 harg16 arg18 hc1 x2 x3 x8 x9 x10 x16) = (tin t x2 x3 x4 x8 x9 x10 x16).dp3 := by
  unfold runA.sl.r_12 runA.sl.r_6 runA.sl.r_9 runA.sl.r runA.sl.r_1 runA.sl.r_2
  rw [ring3 (hc1 := hc1) (ht := ht)]
  rw [k3_eq]
  simp only [View.readAt_eq_ld, Memref.IsWhole.read_unread]
  rfl

theorem a2_eq (ht : t.val = 0) : (runA.sl.r_15 arg3 harg3 x3) = (tin t x2 x3 x4 x8 x9 x10 x16).a2 := by
  unfold runA.sl.r_15
  simp only [View.readAt_eq_ld, Memref.IsWhole.read_unread]
  rfl

theorem m2_eq (ht : t.val = 0) : (runA.sl.r_18 arg3 harg3 x3) = am1 (tin t x2 x3 x4 x8 x9 x10 x16).a2 (tin t x2 x3 x4 x8 x9 x10 x16).p2 := by
  unfold runA.sl.r_18
  simp only [View.readAt_eq_ld, Memref.IsWhole.read_unread]
  rfl

theorem n2_eq (ht : t.val = 0) : (runA.sl.r_19 arg3 harg3 x3) = am2 (tin t x2 x3 x4 x8 x9 x10 x16).a2 (tin t x2 x3 x4 x8 x9 x10 x16).p2 := by
  unfold runA.sl.r_19 runA.sl.r_15 runA.sl.r_17
  simp only [View.readAt_eq_ld, Memref.IsWhole.read_unread]
  rfl

theorem da2_eq (ht : t.val = 0) : (runA.sl.r_20 (grid0.coords t) arg1 harg1 arg2 harg2 arg3 harg3 arg8 harg8 arg9 harg9 arg10 harg10 arg16 harg16 hc1 x1 x2 x3 x8 x9 x10 x16) = (tin t x2 x3 x4 x8 x9 x10 x16).da2 := by
  unfold runA.sl.r_20 runA.sl.r runA.sl.r_1 runA.sl.r_2 runA.sl.r_15 runA.sl.r_16 runA.sl.r_17 runA.sl.r_18
  rw [ring2 (hc1 := hc1) (ht := ht)]
  simp only [View.readAt_eq_ld, Memref.IsWhole.read_unread]
  rfl

theorem dv2_eq (ht : t.val = 0) : (runA.sl.r_21 (grid0.coords t) arg1 harg1 arg2 harg2 arg3 harg3 arg8 harg8 arg9 harg9 arg10 harg10 arg16 harg16 hc1 x1 x2 x3 x8 x9 x10 x16) = (tin t x2 x3 x4 x8 x9 x10 x16).dv2 := by
  unfold runA.sl.r_21 runA.sl.r runA.sl.r_1 runA.sl.r_2 runA.sl.r_15 runA.sl.r_17 runA.sl.r_18
  rw [ring2 (hc1 := hc1) (ht := ht)]
  simp only [View.readAt_eq_ld, Memref.IsWhole.read_unread]
  rfl

theorem k2_eq (ht : t.val = 0) : (runA.sl.v194 (grid0.coords t) arg2 harg2 arg3 harg3 arg8 harg8 arg9 harg9 arg10 harg10 arg16 harg16 arg18 hc1 x2 x3 x8 x9 x10 x16) = (tin t x2 x3 x4 x8 x9 x10 x16).k2 := by
  unfold runA.sl.v194 runA.sl.H18_2
  refine (cov_hit _ _ _ _).trans ?_
  rw [ring3 (hc1 := hc1) (ht := ht)]
  unfold runA.sl.r_6 runA.sl.r_9
  simp only [View.readAt_eq_ld, Memref.IsWhole.read_unread]
  rfl

theorem dp2_eq (ht : t.val = 0) : k0_pay46 (runA.sl.r arg8 harg8 x8) (runA.sl.r_22 (grid0.coords t) arg1 harg1 arg2 harg2 arg3 harg3 arg8 harg8 arg9 harg9 arg10 harg10 arg16 harg16 arg18 hc1 x1 x2 x3 x8 x9 x10 x16) (runA.sl.r_23 (grid0.coords t) arg1 harg1 arg2 harg2 arg3 harg3 arg8 harg8 arg9 harg9 arg10 harg10 arg16 harg16 arg18 hc1 x1 x2 x3 x8 x9 x10 x16) = (tin t x2 x3 x4 x8 x9 x10 x16).dp2 := by
  unfold runA.sl.r_22 runA.sl.r_23
  rw [ring2 (hc1 := hc1) (ht := ht)]
  rw [k2_eq (hc1 := hc1) (ht := ht)]
  unfold runA.sl.r runA.sl.r_1 runA.sl.r_2 runA.sl.r_15 runA.sl.r_16 runA.sl.r_17 runA.sl.r_18
  simp only [View.readAt_eq_ld, Memref.IsWhole.read_unread]
  rfl

theorem a1_eq (ht : t.val = 0) : (runA.sl.r_25 arg3 harg3 x3) = (tin t x2 x3 x4 x8 x9 x10 x16).a1 := by
  unfold runA.sl.r_25
  simp only [View.readAt_eq_ld, Memref.IsWhole.read_unread]
  rfl

theorem m1_eq (ht : t.val = 0) : (runA.sl.r_29 arg3 harg3 x3) = am1 (tin t x2 x3 x4 x8 x9 x10 x16).a1 (tin t x2 x3 x4 x8 x9 x10 x16).p1 := by
  unfold runA.sl.r_29 runA.sl.r_28
  simp only [View.readAt_eq_ld, Memref.IsWhole.read_unread]
  rfl

theorem n1_eq (ht : t.val = 0) : (runA.sl.r_30 arg3 harg3 x3) = am2 (tin t x2 x3 x4 x8 x9 x10 x16).a1 (tin t x2 x3 x4 x8 x9 x10 x16).p1 := by
  unfold runA.sl.r_30 runA.sl.r_25 runA.sl.r_27
  simp only [View.readAt_eq_ld, Memref.IsWhole.read_unread]
  rfl

theorem da1_eq (ht : t.val = 0) : (runA.sl.r_31 (grid0.coords t) arg1 harg1 arg2 harg2 arg3 harg3 arg8 harg8 arg9 harg9 arg10 harg10 arg16 harg16 hc1 x1 x2 x3 x8 x9 x10 x16) = (tin t x2 x3 x4 x8 x9 x10 x16).da1 := by
  unfold runA.sl.r_31 runA.sl.r runA.sl.r_1 runA.sl.r_2 runA.sl.r_25 runA.sl.r_26 runA.sl.r_27 runA.sl.r_28
  rw [ring1 (hc1 := hc1) (ht := ht)]
  simp only [View.readAt_eq_ld, Memref.IsWhole.read_unread]
  rfl

theorem dv1_eq (ht : t.val = 0) : (runA.sl.r_32 (grid0.coords t) arg1 harg1 arg2 harg2 arg3 harg3 arg8 harg8 arg9 harg9 arg10 harg10 arg16 harg16 hc1 x1 x2 x3 x8 x9 x10 x16) = (tin t x2 x3 x4 x8 x9 x10 x16).dv1 := by
  unfold runA.sl.r_32 runA.sl.r runA.sl.r_1 runA.sl.r_2 runA.sl.r_25 runA.sl.r_27 runA.sl.r_28
  rw [ring1 (hc1 := hc1) (ht := ht)]
  simp only [View.readAt_eq_ld, Memref.IsWhole.read_unread]
  rfl

theorem k1_eq (ht : t.val = 0) : (runA.sl.v310 (grid0.coords t) arg1 harg1 arg2 harg2 arg3 harg3 arg8 harg8 arg9 harg9 arg10 harg10 arg16 harg16 arg18 hc1 x1 x2 x3 x8 x9 x10 x16) = (tin t x2 x3 x4 x8 x9 x10 x16).k1 := by
  unfold runA.sl.v310 runA.sl.H18_3
  refine (cov_hit _ _ _ _).trans ?_
  rw [da2_eq (hc1 := hc1) (ht := ht)]
  rfl

theorem dp1_eq (ht : t.val = 0) : k0_pay69 (runA.sl.r arg8 harg8 x8) (runA.sl.r_33 (grid0.coords t) arg1 harg1 arg2 harg2 arg3 harg3 arg8 harg8 arg9 harg9 arg10 harg10 arg16 harg16 arg18 hc1 x1 x2 x3 x8 x9 x10 x16) (runA.sl.r_34 (grid0.coords t) arg1 harg1 arg2 harg2 arg3 harg3 arg8 harg8 arg9 harg9 arg10 harg10 arg16 harg16 arg18 hc1 x1 x2 x3 x8 x9 x10 x16) = (tin t x2 x3 x4 x8 x9 x10 x16).dp1 := by
  unfold runA.sl.r_33 runA.sl.r_34
  rw [ring1 (hc1 := hc1) (ht := ht)]
  rw [k1_eq (hc1 := hc1) (ht := ht)]
  unfold runA.sl.r runA.sl.r_1 runA.sl.r_2 runA.sl.r_25 runA.sl.r_26 runA.sl.r_27 runA.sl.r_28
  simp only [View.readAt_eq_ld, Memref.IsWhole.read_unread]
  rfl

theorem a0_eq (ht : t.val = 0) : (runA.sl.r_38 arg3 harg3 x3) = (tin t x2 x3 x4 x8 x9 x10 x16).a0 := by
  unfold runA.sl.r_38 runA.sl.r_37
  simp only [View.readAt_eq_ld, Memref.IsWhole.read_unread]
  rfl

theorem m0_eq (ht : t.val = 0) : (runA.sl.r_39 (grid0.coords t) arg3 harg3 arg4 harg4 x3 x4) = am1 (tin t x2 x3 x4 x8 x9 x10 x16).a0 (tin t x2 x3 x4 x8 x9 x10 x16).p0 := by
  unfold runA.sl.r_39 runA.sl.r_3 runA.sl.r_37
  simp only [View.readAt_eq_ld, Memref.IsWhole.read_unread]
  rfl

theorem n0_eq (ht : t.val = 0) : (runA.sl.r_40 (grid0.coords t) arg3 harg3 arg4 harg4 x3 x4) = am2 (tin t x2 x3 x4 x8 x9 x10 x16).a0 (tin t x2 x3 x4 x8 x9 x10 x16).p0 := by
  unfold runA.sl.r_40 runA.sl.r_3 runA.sl.r_37
  simp only [View.readAt_eq_ld, Memref.IsWhole.read_unread]
  rfl

theorem da0_eq (ht : t.val = 0) : (runA.sl.r_41 (grid0.coords t) arg1 harg1 arg2 harg2 arg3 harg3 arg4 harg4 arg8 harg8 arg9 harg9 arg10 harg10 arg16 harg16 hc1 x1 x2 x3 x4 x8 x9 x10 x16) = (tin t x2 x3 x4 x8 x9 x10 x16).da0 := by
  unfold runA.sl.r_41 runA.sl.r runA.sl.r_1 runA.sl.r_2 runA.sl.r_3 runA.sl.r_37
  rw [ring0 (hc1 := hc1) (ht := ht)]
  simp only [View.readAt_eq_ld, Memref.IsWhole.read_unread]
  rfl

theorem dv0_eq (ht : t.val = 0) : (runA.sl.r_42 (grid0.coords t) arg1 harg1 arg2 harg2 arg3 harg3 arg4 harg4 arg8 harg8 arg9 harg9 arg10 harg10 arg16 harg16 hc1 x1 x2 x3 x4 x8 x9 x10 x16) = (tin t x2 x3 x4 x8 x9 x10 x16).dv0 := by
  unfold runA.sl.r_42 runA.sl.r runA.sl.r_1 runA.sl.r_2 runA.sl.r_3 runA.sl.r_37
  rw [ring0 (hc1 := hc1) (ht := ht)]
  simp only [View.readAt_eq_ld, Memref.IsWhole.read_unread]
  rfl

theorem k0_eq (ht : t.val = 0) : (runA.sl.v429 (grid0.coords t) arg1 harg1 arg2 harg2 arg3 harg3 arg8 harg8 arg9 harg9 arg10 harg10 arg16 harg16 arg18 hc1 x1 x2 x3 x8 x9 x10 x16) = (tin t x2 x3 x4 x8 x9 x10 x16).k0 := by
  unfold runA.sl.v429 runA.sl.H18_4
  refine (cov_hit _ _ _ _).trans ?_
  rw [da1_eq (hc1 := hc1) (ht := ht)]
  rfl

theorem dp0_eq (ht : t.val = 0) : k0_pay89 (runA.sl.r arg8 harg8 x8) (runA.sl.r_1 arg8 harg8 x8) (runA.sl.r_41 (grid0.coords t) arg1 harg1 arg2 harg2 arg3 harg3 arg4 harg4 arg8 harg8 arg9 harg9 arg10 harg10 arg16 harg16 hc1 x1 x2 x3 x4 x8 x9 x10 x16) (runA.sl.v429 (grid0.coords t) arg1 harg1 arg2 harg2 arg3 harg3 arg8 harg8 arg9 harg9 arg10 harg10 arg16 harg16 arg18 hc1 x1 x2 x3 x8 x9 x10 x16) (runA.sl.r_43 arg8 harg8 x8) = (tin t x2 x3 x4 x8 x9 x10 x16).dp0 := by
  rw [k0_eq (hc1 := hc1) (ht := ht), da0_eq (hc1 := hc1) (ht := ht)]
  unfold runA.sl.r_43 runA.sl.r runA.sl.r_1 runA.sl.r_2
  simp only [View.readAt_eq_ld, Memref.IsWhole.read_unread]
  rfl

end Cert.KernelIdeal.Ffn.A

end
-- ==== Proof.Ffn.Cells.lean ====
module

public import proofs.«01_k».proof.Proof.Ffn.Read

/-! Reading stored boxes of the scratch buffers and of the gradient's output at an element. -/

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic Idealize.SL.Sem

section Rows
variable {F : FTy → Type} [FloatOps F]

/-- Row `k` of the convolution's accumulator. -/
def rowOf (k : Fin 8) (X : Vec F S8x2816 .f32) : Vec F S1x2816 .f32 := fun y => X (ix2 (n0 := 8) (n1 := 2816) k (y 1))

theorem ld_row (X : Vec F S8x2816 .f32) {k : Fin 8} (inb : ∀ a, (![k.val, 0] : Fin 2 → ℕ) a + S1x2816.size a ≤ S8x2816.size a) :
    View.ld X (Rect.unit ![k.val, 0] S1x2816.size inb) = rowOf k X := by
  funext y
  have hy0 : (y 0).val < 1 := (y 0).isLt
  refine Cert.Canon.ld_at (S := S8x2816) (off := ![k.val, 0]) (size := S1x2816.size) _ inb y (ix2 (n0 := 8) (n1 := 2816) k (y 1)) fun a => ?_
  match a with
  | ⟨0, _⟩ => show k.val = k.val + (y 0).val; omega
  | ⟨1, _⟩ => show (y 1).val = 0 + (y 1).val; omega

theorem whole_row {sig : RefSig} {κ : Kind} {sp : Space} (v : View sig κ sp S8x2816 .f32) (X : Vec F S8x2816 .f32) {k : Fin 8}
    (inb : ∀ a, (![k.val, 0] : Fin 2 → ℕ) a + S1x2816.size a ≤ S8x2816.size a) :
    v.readCov [(⟨Rect.unit ![0, 0] S8x2816.size inb_S8x2816_S8x2816_0_0, X⟩ : View.Piece (Elt F) S8x2816 .f32)] (Rect.unit (s := S8x2816) ![k.val, 0] S1x2816.size inb).toLoadRect
      = rowOf k X := by
  funext y
  have hy0 : (y 0).val < 1 := (y 0).isLt
  refine (Cert.Canon.readCov_at (S := S8x2816) (off := ![k.val, 0]) (size := S1x2816.size) v _ inb y (ix2 (n0 := 8) (n1 := 2816) k (y 1)) fun a => ?_).trans
    (Cert.Canon.canon_hit (S := S8x2816) (off := ![0, 0]) (size := S8x2816.size) inb_S8x2816_S8x2816_0_0 X _ _ (ix2 (n0 := 8) (n1 := 2816) k (y 1)) fun a => ?_)
  · match a with
    | ⟨0, _⟩ => show k.val = k.val + (y 0).val; omega
    | ⟨1, _⟩ => show (y 1).val = 0 + (y 1).val; omega
  · match a with
    | ⟨0, _⟩ => show k.val = 0 + k.val; omega
    | ⟨1, _⟩ => show (y 1).val = 0 + (y 1).val; omega

end Rows

section Agree
variable {sig : RefSig} {κ : Kind} {sp : Space} {e : EltTy} {Val : EltTy → Type}

/-- An element of slot `s` of a ring reads `g` when each stored box of the slot that holds it has `g` there. -/
theorem agree3 {d0 d1 d2 n1 n2 : ℕ} (v : View sig κ sp ⟨3, ![d0, d1, d2]⟩ e) (f : v.ty.Contents Val) {off : Fin 3 → ℕ} {a b c : ℕ}
    (inb : ∀ x, off x + (![1, n1, n2] : Fin 3 → ℕ) x ≤ (⟨3, ![d0, d1, d2]⟩ : Shape).size x)
    (w : (Rect.unit (s := ⟨3, ![d0, d1, d2]⟩) off ![1, n1, n2] inb).shape.Idx → Val e) (L : List (View.Piece Val ⟨3, ![d0, d1, d2]⟩ e))
    (s : Fin d0) (r : Fin d1) (q : Fin d2) (g : Val e) (heq : off = ![a, b, c]) (hs : s.val = a)
    (hw : ∀ (x1 : Fin n1) (x2 : Fin n2), r.val = b + x1.val → q.val = c + x2.val → w (ix3 (0 : Fin 1) x1 x2) = g)
    (hn : ¬((b ≤ r.val ∧ r.val < b + n1) ∧ (c ≤ q.val ∧ q.val < c + n2)) → v.read Val (v.writes Val f L) (ix3 s r q) = g) :
    v.read Val (v.writes Val f ((⟨Rect.unit off ![1, n1, n2] inb, w⟩ : View.Piece Val ⟨3, ![d0, d1, d2]⟩ e) :: L)) (ix3 s r q) = g := by
  by_cases h : (b ≤ r.val ∧ r.val < b + n1) ∧ (c ≤ q.val ∧ q.val < c + n2)
  · obtain ⟨⟨h1, h2⟩, h3, h4⟩ := h
    refine (View.read_writes_cons_unit_of_mem (s := ⟨3, ![d0, d1, d2]⟩) v f (off := off) (off' := ![a, b, c]) (size := ![1, n1, n2]) inb w L (ix3 s r q)
      (ix3 (n0 := 1) (n1 := n1) (n2 := n2) 0 ⟨r.val - b, by omega⟩ ⟨q.val - c, by omega⟩) heq fun x => ?_).trans
      (hw ⟨r.val - b, by omega⟩ ⟨q.val - c, by omega⟩ ?_ ?_)
    · match x with
      | ⟨0, _⟩ => show s.val = a + 0; omega
      | ⟨1, _⟩ => show r.val = b + (r.val - b); omega
      | ⟨2, _⟩ => show q.val = c + (q.val - c); omega
    · show r.val = b + (r.val - b); omega
    · show q.val = c + (q.val - c); omega
  · refine (?_ : _ = v.read Val (v.writes Val f L) (ix3 s r q)).trans (hn h)
    by_cases h1 : b ≤ r.val ∧ r.val < b + n1
    · refine View.read_writes_cons_unit_of_not_mem (s := ⟨3, ![d0, d1, d2]⟩) v f (off := off) (off' := ![a, b, c]) (size := ![1, n1, n2]) inb w L (ix3 s r q) heq (2 : Fin 3) ?_
      show q.val < c ∨ c + n2 ≤ q.val
      omega
    · refine View.read_writes_cons_unit_of_not_mem (s := ⟨3, ![d0, d1, d2]⟩) v f (off := off) (off' := ![a, b, c]) (size := ![1, n1, n2]) inb w L (ix3 s r q) heq (1 : Fin 3) ?_
      show r.val < b ∨ b + n1 ≤ r.val
      omega

/-- The same for a matrix. -/
theorem agree2 {d0 d1 n0 n1 : ℕ} (v : View sig κ sp ⟨2, ![d0, d1]⟩ e) (f : v.ty.Contents Val) (b c : ℕ)
    (inb : ∀ x, (![b, c] : Fin 2 → ℕ) x + (![n0, n1] : Fin 2 → ℕ) x ≤ (⟨2, ![d0, d1]⟩ : Shape).size x)
    (w : (Rect.unit (s := ⟨2, ![d0, d1]⟩) ![b, c] ![n0, n1] inb).shape.Idx → Val e) (L : List (View.Piece Val ⟨2, ![d0, d1]⟩ e))
    (r : Fin d0) (q : Fin d1) (g : Val e)
    (hw : ∀ (x1 : Fin n0) (x2 : Fin n1), r.val = b + x1.val → q.val = c + x2.val → w (ix2 x1 x2) = g)
    (hn : ¬((b ≤ r.val ∧ r.val < b + n0) ∧ (c ≤ q.val ∧ q.val < c + n1)) → v.read Val (v.writes Val f L) (ix2 r q) = g) :
    v.read Val (v.writes Val f ((⟨Rect.unit ![b, c] ![n0, n1] inb, w⟩ : View.Piece Val ⟨2, ![d0, d1]⟩ e) :: L)) (ix2 r q) = g := by
  by_cases h : (b ≤ r.val ∧ r.val < b + n0) ∧ (c ≤ q.val ∧ q.val < c + n1)
  · obtain ⟨⟨h1, h2⟩, h3, h4⟩ := h
    refine (View.read_writes_cons_unit_of_mem (s := ⟨2, ![d0, d1]⟩) v f (off := ![b, c]) (off' := ![b, c]) (size := ![n0, n1]) inb w L (ix2 r q)
      (ix2 (n0 := n0) (n1 := n1) ⟨r.val - b, by omega⟩ ⟨q.val - c, by omega⟩) rfl fun x => ?_).trans
      (hw ⟨r.val - b, by omega⟩ ⟨q.val - c, by omega⟩ ?_ ?_)
    · match x with
      | ⟨0, _⟩ => show r.val = b + (r.val - b); omega
      | ⟨1, _⟩ => show q.val = c + (q.val - c); omega
    · show r.val = b + (r.val - b); omega
    · show q.val = c + (q.val - c); omega
  · refine (?_ : _ = v.read Val (v.writes Val f L) (ix2 r q)).trans (hn h)
    by_cases h1 : b ≤ r.val ∧ r.val < b + n0
    · refine View.read_writes_cons_unit_of_not_mem (s := ⟨2, ![d0, d1]⟩) v f (off := ![b, c]) (off' := ![b, c]) (size := ![n0, n1]) inb w L (ix2 r q) rfl (1 : Fin 2) ?_
      show q.val < c ∨ c + n1 ≤ q.val
      omega
    · refine View.read_writes_cons_unit_of_not_mem (s := ⟨2, ![d0, d1]⟩) v f (off := ![b, c]) (off' := ![b, c]) (size := ![n0, n1]) inb w L (ix2 r q) rfl (0 : Fin 2) ?_
      show r.val < b ∨ b + n0 ≤ r.val
      omega

end Agree

end Cert.KernelIdeal.Ffn

end
-- ==== Proof.Ffn.RowsA.lean ====
module

public import proofs.«01_k».proof.Proof.Ffn.ChunksA
public import proofs.«01_k».proof.Proof.Ffn.Cells

/-! The rows of the convolution's accumulators as a point of kind A adds to them, and the two products of the projection's gradient. -/

@[expose] public section

set_option maxRecDepth 16384

noncomputable section

namespace Cert.KernelIdeal.Ffn.A

open Cert.KernelIdeal Cert.KernelIdeal.Gen Cert.KernelIdeal.Ffn
open Idealize.ShloMosaic Idealize.ShloMosaic.TcCoe Idealize.ShloMosaic.Tactic Idealize.SL.Sem

variable {F : FTy → Type} [FloatOps F]
variable (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S16x2816 .bf16) (harg4 : arg4.IsWhole) (arg5 : Memref sig .tc .vmem S256x1024 .f32) (harg5 : arg5.IsWhole) (arg6 : Memref sig .tc .vmem S1x1024 .f32) (harg6 : arg6.IsWhole) (arg7 : Memref sig .tc .vmem S2x1024x2816 .bf16) (harg7 : arg7.IsWhole) (arg8 : Memref sig .tc .vmem S3x2816 .f32) (harg8 : arg8.IsWhole) (arg9 : Memref sig .tc .vmem S1x2816 .f32) (harg9 : arg9.IsWhole) (arg10 : Memref sig .tc .vmem S2816x1024 .bf16) (harg10 : arg10.IsWhole) (arg11 : Memref sig .tc .vmem S256x5632 .bf16) (harg11 : arg11.IsWhole) (arg12 : Memref sig .tc .vmem S256x1024 .f32) (harg12 : arg12.IsWhole) (arg13 : Memref sig .tc .vmem S3x2816 .f32) (harg13 : arg13.IsWhole) (arg14 : Memref sig .tc .vmem S1x2816 .f32) (harg14 : arg14.IsWhole) (arg15 : Memref sig .tc .vmem S1x1024 .f32) (harg15 : arg15.IsWhole) (arg16 : Memref sig .tc .vmem S2x256x2816 .f32) (harg16 : arg16.IsWhole) (arg17 : Memref sig .tc .vmem S2x256x5632 .bf16) (harg17 : arg17.IsWhole) (arg18 : Memref sig .tc .vmem S8x2816 .f32) (harg18 : arg18.IsWhole) (arg19 : Memref sig .tc .vmem S8x2816 .f32) (harg19 : arg19.IsWhole) (arg20 : Memref sig .tc .vmem S1x2816 .f32) (harg20 : arg20.IsWhole) (arg21 : Memref sig .tc .vmem S1x1024 .f32) (harg21 : arg21.IsWhole)
variable (t : Fin cfg0.N) (hc1 : k0_cond2 (grid0.coords t) = 1#1)
variable (x1 : Vec F S256x1024 .f32) (x2 : Vec F S256x1024 .f32) (x3 : Vec F S256x5632 .bf16) (x4 : Vec F S16x2816 .bf16) (x5 : Vec F S256x1024 .f32) (x6 : Vec F S1x1024 .f32) (x7 : Vec F S2x1024x2816 .bf16) (x8 : Vec F S3x2816 .f32) (x9 : Vec F S1x2816 .f32) (x10 : Vec F S2816x1024 .bf16) (x16 : Vec F S2x256x2816 .f32) (x17 : Vec F S2x256x5632 .bf16) (x18 : Vec F S8x2816 .f32) (x19 : Vec F S8x2816 .f32) (x20 : Vec F S1x2816 .f32) (x21 : Vec F S1x1024 .f32)

theorem b0_eq : (runA.sl.v102 (F := F) arg19) = rowOf 0 k0_pay2 := by
  unfold runA.sl.v102 runA.sl.H19_1
  exact whole_row arg19.view _ (k := 0) inb_S8x2816_S1x2816_0_0

theorem b1_eq : (runA.sl.v110 (grid0.coords t) arg2 harg2 arg3 harg3 arg8 harg8 arg9 harg9 arg10 harg10 arg16 harg16 arg19 hc1 x2 x3 x8 x9 x10 x16) = rowOf 1 k0_pay2 := by
  unfold runA.sl.v110 runA.sl.H19_2 runA.sl.H19_1
  refine (cov_skip (S := S8x2816) (off := ![0, 0]) (size := S1x2816.size) (off' := ![1, 0]) (size' := S1x2816.size) arg19.view inb_S8x2816_S1x2816_0_0 inb_S8x2816_S1x2816_1_0 _ _ (0 : Fin 2) (by show (1 : ℕ) + 1 ≤ 0 ∨ (0 : ℕ) + 1 ≤ 1; omega)).trans ?_
  exact whole_row arg19.view _ (k := 1) inb_S8x2816_S1x2816_1_0

theorem b2_eq : (runA.sl.v118 (grid0.coords t) arg2 harg2 arg3 harg3 arg8 harg8 arg9 harg9 arg10 harg10 arg16 harg16 arg19 hc1 x2 x3 x8 x9 x10 x16) = rowOf 2 k0_pay2 := by
  unfold runA.sl.v118 runA.sl.H19_3 runA.sl.H19_2 runA.sl.H19_1
  refine (cov_skip (S := S8x2816) (off := ![1, 0]) (size := S1x2816.size) (off' := ![2, 0]) (size' := S1x2816.size) arg19.view inb_S8x2816_S1x2816_1_0 inb_S8x2816_S1x2816_2_0 _ _ (0 : Fin 2) (by show (2 : ℕ) + 1 ≤ 1 ∨ (1 : ℕ) + 1 ≤ 2; omega)).trans ?_
  refine (cov_skip (S := S8x2816) (off := ![0, 0]) (size := S1x2816.size) (off' := ![2, 0]) (size' := S1x2816.size) arg19.view inb_S8x2816_S1x2816_0_0 inb_S8x2816_S1x2816_2_0 _ _ (0 : Fin 2) (by show (2 : ℕ) + 1 ≤ 0 ∨ (0 : ℕ) + 1 ≤ 2; omega)).trans ?_
  exact whole_row arg19.view _ (k := 2) inb_S8x2816_S1x2816_2_0

theorem s02_eq (ht : t.val = 0) : (runA.sl.v224 (grid0.coords t) arg2 harg2 arg3 harg3 arg8 harg8 arg9 harg9 arg10 harg10 arg16 harg16 arg19 hc1 x2 x3 x8 x9 x10 x16) = cacc (am2 (tin t x2 x3 x4 x8 x9 x10 x16).a3 (tin t x2 x3 x4 x8 x9 x10 x16).p3) (tin t x2 x3 x4 x8 x9 x10 x16).da3 (rowOf 0 k0_pay2) := by
  unfold runA.sl.v224 runA.sl.H19_4 runA.sl.H19_3 runA.sl.H19_2
  refine (cov_skip (S := S8x2816) (off := ![2, 0]) (size := S1x2816.size) (off' := ![0, 0]) (size' := S1x2816.size) arg19.view inb_S8x2816_S1x2816_2_0 inb_S8x2816_S1x2816_0_0 _ _ (0 : Fin 2) (by show (0 : ℕ) + 1 ≤ 2 ∨ (2 : ℕ) + 1 ≤ 0; omega)).trans ?_
  refine (cov_skip (S := S8x2816) (off := ![1, 0]) (size := S1x2816.size) (off' := ![0, 0]) (size' := S1x2816.size) arg19.view inb_S8x2816_S1x2816_1_0 inb_S8x2816_S1x2816_0_0 _ _ (0 : Fin 2) (by show (0 : ℕ) + 1 ≤ 1 ∨ (1 : ℕ) + 1 ≤ 0; omega)).trans ?_
  refine (cov_hit (S := S8x2816) (off := ![0, 0]) (size := S1x2816.size) arg19.view inb_S8x2816_S1x2816_0_0 _ _).trans ?_
  rw [b0_eq, n3_eq (ht := ht), da3_eq (hc1 := hc1) (ht := ht)]
  rfl

theorem s12_eq (ht : t.val = 0) : (runA.sl.v232 (grid0.coords t) arg1 harg1 arg2 harg2 arg3 harg3 arg8 harg8 arg9 harg9 arg10 harg10 arg16 harg16 arg19 hc1 x1 x2 x3 x8 x9 x10 x16) = cacc (am1 (tin t x2 x3 x4 x8 x9 x10 x16).a3 (tin t x2 x3 x4 x8 x9 x10 x16).p3) (tin t x2 x3 x4 x8 x9 x10 x16).da3 (rowOf 1 k0_pay2) := by
  unfold runA.sl.v232 runA.sl.H19_5 runA.sl.H19_4 runA.sl.H19_3
  refine (cov_skip (S := S8x2816) (off := ![0, 0]) (size := S1x2816.size) (off' := ![1, 0]) (size' := S1x2816.size) arg19.view inb_S8x2816_S1x2816_0_0 inb_S8x2816_S1x2816_1_0 _ _ (0 : Fin 2) (by show (1 : ℕ) + 1 ≤ 0 ∨ (0 : ℕ) + 1 ≤ 1; omega)).trans ?_
  refine (cov_skip (S := S8x2816) (off := ![2, 0]) (size := S1x2816.size) (off' := ![1, 0]) (size' := S1x2816.size) arg19.view inb_S8x2816_S1x2816_2_0 inb_S8x2816_S1x2816_1_0 _ _ (0 : Fin 2) (by show (1 : ℕ) + 1 ≤ 2 ∨ (2 : ℕ) + 1 ≤ 1; omega)).trans ?_
  refine (cov_hit (S := S8x2816) (off := ![1, 0]) (size := S1x2816.size) arg19.view inb_S8x2816_S1x2816_1_0 _ _).trans ?_
  rw [b1_eq, m3_eq (ht := ht), da3_eq (hc1 := hc1) (ht := ht)]
  rfl

theorem s22_eq (ht : t.val = 0) : (runA.sl.v240 (grid0.coords t) arg1 harg1 arg2 harg2 arg3 harg3 arg8 harg8 arg9 harg9 arg10 harg10 arg16 harg16 arg19 hc1 x1 x2 x3 x8 x9 x10 x16) = cacc ((tin t x2 x3 x4 x8 x9 x10 x16).a3) (tin t x2 x3 x4 x8 x9 x10 x16).da3 (rowOf 2 k0_pay2) := by
  unfold runA.sl.v240 runA.sl.H19_6 runA.sl.H19_5 runA.sl.H19_4 runA.sl.r_13
  refine (cov_skip (S := S8x2816) (off := ![1, 0]) (size := S1x2816.size) (off' := ![2, 0]) (size' := S1x2816.size) arg19.view inb_S8x2816_S1x2816_1_0 inb_S8x2816_S1x2816_2_0 _ _ (0 : Fin 2) (by show (2 : ℕ) + 1 ≤ 1 ∨ (1 : ℕ) + 1 ≤ 2; omega)).trans ?_
  refine (cov_skip (S := S8x2816) (off := ![0, 0]) (size := S1x2816.size) (off' := ![2, 0]) (size' := S1x2816.size) arg19.view inb_S8x2816_S1x2816_0_0 inb_S8x2816_S1x2816_2_0 _ _ (0 : Fin 2) (by show (2 : ℕ) + 1 ≤ 0 ∨ (0 : ℕ) + 1 ≤ 2; omega)).trans ?_
  refine (cov_hit (S := S8x2816) (off := ![2, 0]) (size := S1x2816.size) arg19.view inb_S8x2816_S1x2816_2_0 _ _).trans ?_
  rw [b2_eq, a3_eq (ht := ht), da3_eq (hc1 := hc1) (ht := ht)]
  rfl

theorem s01_eq (ht : t.val = 0) : (runA.sl.v340 (grid0.coords t) arg1 harg1 arg2 harg2 arg3 harg3 arg8 harg8 arg9 harg9 arg10 harg10 arg16 harg16 arg19 hc1 x1 x2 x3 x8 x9 x10 x16) = cacc (am2 (tin t x2 x3 x4 x8 x9 x10 x16).a2 (tin t x2 x3 x4 x8 x9 x10 x16).p2) (tin t x2 x3 x4 x8 x9 x10 x16).da2 (cacc (am2 (tin t x2 x3 x4 x8 x9 x10 x16).a3 (tin t x2 x3 x4 x8 x9 x10 x16).p3) (tin t x2 x3 x4 x8 x9 x10 x16).da3 (rowOf 0 k0_pay2)) := by
  unfold runA.sl.v340 runA.sl.H19_7 runA.sl.H19_6 runA.sl.H19_5
  refine (cov_skip (S := S8x2816) (off := ![2, 0]) (size := S1x2816.size) (off' := ![0, 0]) (size' := S1x2816.size) arg19.view inb_S8x2816_S1x2816_2_0 inb_S8x2816_S1x2816_0_0 _ _ (0 : Fin 2) (by show (0 : ℕ) + 1 ≤ 2 ∨ (2 : ℕ) + 1 ≤ 0; omega)).trans ?_
  refine (cov_skip (S := S8x2816) (off := ![1, 0]) (size := S1x2816.size) (off' := ![0, 0]) (size' := S1x2816.size) arg19.view inb_S8x2816_S1x2816_1_0 inb_S8x2816_S1x2816_0_0 _ _ (0 : Fin 2) (by show (0 : ℕ) + 1 ≤ 1 ∨ (1 : ℕ) + 1 ≤ 0; omega)).trans ?_
  refine (cov_hit (S := S8x2816) (off := ![0, 0]) (size := S1x2816.size) arg19.view inb_S8x2816_S1x2816_0_0 _ _).trans ?_
  rw [s02_eq (hc1 := hc1) (ht := ht), n2_eq (ht := ht), da2_eq (hc1 := hc1) (ht := ht)]
  rfl

theorem s11_eq (ht : t.val = 0) : (runA.sl.v348 (grid0.coords t) arg1 harg1 arg2 harg2 arg3 harg3 arg8 harg8 arg9 harg9 arg10 harg10 arg16 harg16 arg19 hc1 x1 x2 x3 x8 x9 x10 x16) = cacc (am1 (tin t x2 x3 x4 x8 x9 x10 x16).a2 (tin t x2 x3 x4 x8 x9 x10 x16).p2) (tin t x2 x3 x4 x8 x9 x10 x16).da2 (cacc (am1 (tin t x2 x3 x4 x8 x9 x10 x16).a3 (tin t x2 x3 x4 x8 x9 x10 x16).p3) (tin t x2 x3 x4 x8 x9 x10 x16).da3 (rowOf 1 k0_pay2)) := by
  unfold runA.sl.v348 runA.sl.H19_8 runA.sl.H19_7 runA.sl.H19_6 runA.sl.r_24
  refine (cov_skip (S := S8x2816) (off := ![0, 0]) (size := S1x2816.size) (off' := ![1, 0]) (size' := S1x2816.size) arg19.view inb_S8x2816_S1x2816_0_0 inb_S8x2816_S1x2816_1_0 _ _ (0 : Fin 2) (by show (1 : ℕ) + 1 ≤ 0 ∨ (0 : ℕ) + 1 ≤ 1; omega)).trans ?_
  refine (cov_skip (S := S8x2816) (off := ![2, 0]) (size := S1x2816.size) (off' := ![1, 0]) (size' := S1x2816.size) arg19.view inb_S8x2816_S1x2816_2_0 inb_S8x2816_S1x2816_1_0 _ _ (0 : Fin 2) (by show (1 : ℕ) + 1 ≤ 2 ∨ (2 : ℕ) + 1 ≤ 1; omega)).trans ?_
  refine (cov_hit (S := S8x2816) (off := ![1, 0]) (size := S1x2816.size) arg19.view inb_S8x2816_S1x2816_1_0 _ _).trans ?_
  rw [s12_eq (hc1 := hc1) (ht := ht), m2_eq (ht := ht), da2_eq (hc1 := hc1) (ht := ht)]
  rfl

theorem s21_eq (ht : t.val = 0) : (runA.sl.v356 (grid0.coords t) arg1 harg1 arg2 harg2 arg3 harg3 arg8 harg8 arg9 harg9 arg10 harg10 arg16 harg16 arg19 hc1 x1 x2 x3 x8 x9 x10 x16) = cacc ((tin t x2 x3 x4 x8 x9 x10 x16).a2) (tin t x2 x3 x4 x8 x9 x10 x16).da2 (cacc ((tin t x2 x3 x4 x8 x9 x10 x16).a3) (tin t x2 x3 x4 x8 x9 x10 x16).da3 (rowOf 2 k0_pay2)) := by
  unfold runA.sl.v356 runA.sl.H19_9 runA.sl.H19_8 runA.sl.H19_7
  refine (cov_skip (S := S8x2816) (off := ![1, 0]) (size := S1x2816.size) (off' := ![2, 0]) (size' := S1x2816.size) arg19.view inb_S8x2816_S1x2816_1_0 inb_S8x2816_S1x2816_2_0 _ _ (0 : Fin 2) (by show (2 : ℕ) + 1 ≤ 1 ∨ (1 : ℕ) + 1 ≤ 2; omega)).trans ?_
  refine (cov_skip (S := S8x2816) (off := ![0, 0]) (size := S1x2816.size) (off' := ![2, 0]) (size' := S1x2816.size) arg19.view inb_S8x2816_S1x2816_0_0 inb_S8x2816_S1x2816_2_0 _ _ (0 : Fin 2) (by show (2 : ℕ) + 1 ≤ 0 ∨ (0 : ℕ) + 1 ≤ 2; omega)).trans ?_
  refine (cov_hit (S := S8x2816) (off := ![2, 0]) (size := S1x2816.size) arg19.view inb_S8x2816_S1x2816_2_0 _ _).trans ?_
  rw [s22_eq (hc1 := hc1) (ht := ht), a2_eq (ht := ht), da2_eq (hc1 := hc1) (ht := ht)]
  rfl

theorem s00_eq (ht : t.val = 0) : (runA.sl.v459 (grid0.coords t) arg1 harg1 arg2 harg2 arg3 harg3 arg8 harg8 arg9 harg9 arg10 harg10 arg16 harg16 arg19 hc1 x1 x2 x3 x8 x9 x10 x16) = cacc (am2 (tin t x2 x3 x4 x8 x9 x10 x16).a1 (tin t x2 x3 x4 x8 x9 x10 x16).p1) (tin t x2 x3 x4 x8 x9 x10 x16).da1 (cacc (am2 (tin t x2 x3 x4 x8 x9 x10 x16).a2 (tin t x2 x3 x4 x8 x9 x10 x16).p2) (tin t x2 x3 x4 x8 x9 x10 x16).da2 (cacc (am2 (tin t x2 x3 x4 x8 x9 x10 x16).a3 (tin t x2 x3 x4 x8 x9 x10 x16).p3) (tin t x2 x3 x4 x8 x9 x10 x16).da3 (rowOf 0 k0_pay2))) := by
  unfold runA.sl.v459 runA.sl.H19_10 runA.sl.H19_9 runA.sl.H19_8
  refine (cov_skip (S := S8x2816) (off := ![2, 0]) (size := S1x2816.size) (off' := ![0, 0]) (size' := S1x2816.size) arg19.view inb_S8x2816_S1x2816_2_0 inb_S8x2816_S1x2816_0_0 _ _ (0 : Fin 2) (by show (0 : ℕ) + 1 ≤ 2 ∨ (2 : ℕ) + 1 ≤ 0; omega)).trans ?_
  refine (cov_skip (S := S8x2816) (off := ![1, 0]) (size := S1x2816.size) (off' := ![0, 0]) (size' := S1x2816.size) arg19.view inb_S8x2816_S1x2816_1_0 inb_S8x2816_S1x2816_0_0 _ _ (0 : Fin 2) (by show (0 : ℕ) + 1 ≤ 1 ∨ (1 : ℕ) + 1 ≤ 0; omega)).trans ?_
  refine (cov_hit (S := S8x2816) (off := ![0, 0]) (size := S1x2816.size) arg19.view inb_S8x2816_S1x2816_0_0 _ _).trans ?_
  rw [s01_eq (hc1 := hc1) (ht := ht), n1_eq (ht := ht), da1_eq (hc1 := hc1) (ht := ht)]
  rfl

theorem s10_eq (ht : t.val = 0) : (runA.sl.v467 (grid0.coords t) arg1 harg1 arg2 harg2 arg3 harg3 arg4 harg4 arg8 harg8 arg9 harg9 arg10 harg10 arg16 harg16 arg19 hc1 x1 x2 x3 x4 x8 x9 x10 x16) = cacc (am1 (tin t x2 x3 x4 x8 x9 x10 x16).a1 (tin t x2 x3 x4 x8 x9 x10 x16).p1) (tin t x2 x3 x4 x8 x9 x10 x16).da1 (cacc (am1 (tin t x2 x3 x4 x8 x9 x10 x16).a2 (tin t x2 x3 x4 x8 x9 x10 x16).p2) (tin t x2 x3 x4 x8 x9 x10 x16).da2 (cacc (am1 (tin t x2 x3 x4 x8 x9 x10 x16).a3 (tin t x2 x3 x4 x8 x9 x10 x16).p3) (tin t x2 x3 x4 x8 x9 x10 x16).da3 (rowOf 1 k0_pay2))) := by
  unfold runA.sl.v467 runA.sl.H19_11 runA.sl.H19_10 runA.sl.H19_9 runA.sl.r_35
  refine (cov_skip (S := S8x2816) (off := ![0, 0]) (size := S1x2816.size) (off' := ![1, 0]) (size' := S1x2816.size) arg19.view inb_S8x2816_S1x2816_0_0 inb_S8x2816_S1x2816_1_0 _ _ (0 : Fin 2) (by show (1 : ℕ) + 1 ≤ 0 ∨ (0 : ℕ) + 1 ≤ 1; omega)).trans ?_
  refine (cov_skip (S := S8x2816) (off := ![2, 0]) (size := S1x2816.size) (off' := ![1, 0]) (size' := S1x2816.size) arg19.view inb_S8x2816_S1x2816_2_0 inb_S8x2816_S1x2816_1_0 _ _ (0 : Fin 2) (by show (1 : ℕ) + 1 ≤ 2 ∨ (2 : ℕ) + 1 ≤ 1; omega)).trans ?_
  refine (cov_hit (S := S8x2816) (off := ![1, 0]) (size := S1x2816.size) arg19.view inb_S8x2816_S1x2816_1_0 _ _).trans ?_
  rw [s11_eq (hc1 := hc1) (ht := ht), m1_eq (ht := ht), da1_eq (hc1 := hc1) (ht := ht)]
  rfl

theorem s20_eq (ht : t.val = 0) : (runA.sl.v475 (grid0.coords t) arg1 harg1 arg2 harg2 arg3 harg3 arg4 harg4 arg8 harg8 arg9 harg9 arg10 harg10 arg16 harg16 arg19 hc1 x1 x2 x3 x4 x8 x9 x10 x16) = cacc ((tin t x2 x3 x4 x8 x9 x10 x16).a1) (tin t x2 x3 x4 x8 x9 x10 x16).da1 (cacc ((tin t x2 x3 x4 x8 x9 x10 x16).a2) (tin t x2 x3 x4 x8 x9 x10 x16).da2 (cacc ((tin t x2 x3 x4 x8 x9 x10 x16).a3) (tin t x2 x3 x4 x8 x9 x10 x16).da3 (rowOf 2 k0_pay2))) := by
  unfold runA.sl.v475 runA.sl.H19_12 runA.sl.H19_11 runA.sl.H19_10
  refine (cov_skip (S := S8x2816) (off := ![1, 0]) (size := S1x2816.size) (off' := ![2, 0]) (size' := S1x2816.size) arg19.view inb_S8x2816_S1x2816_1_0 inb_S8x2816_S1x2816_2_0 _ _ (0 : Fin 2) (by show (2 : ℕ) + 1 ≤ 1 ∨ (1 : ℕ) + 1 ≤ 2; omega)).trans ?_
  refine (cov_skip (S := S8x2816) (off := ![0, 0]) (size := S1x2816.size) (off' := ![2, 0]) (size' := S1x2816.size) arg19.view inb_S8x2816_S1x2816_0_0 inb_S8x2816_S1x2816_2_0 _ _ (0 : Fin 2) (by show (2 : ℕ) + 1 ≤ 0 ∨ (0 : ℕ) + 1 ≤ 2; omega)).trans ?_
  refine (cov_hit (S := S8x2816) (off := ![2, 0]) (size := S1x2816.size) arg19.view inb_S8x2816_S1x2816_2_0 _ _).trans ?_
  rw [s21_eq (hc1 := hc1) (ht := ht), a1_eq (ht := ht), da1_eq (hc1 := hc1) (ht := ht)]
  rfl

theorem bb_eq : (runA.sl.v126 (F := F) arg20) = k0_pay3 := by
  unfold runA.sl.v126 runA.sl.H20_1
  exact (cov_hit (S := S1x2816) (off := ![0, 0]) (size := S1x2816.size) arg20.view inb_S1x2816_S1x2816_0_0 _ _)

theorem sb2_eq (ht : t.val = 0) : (runA.sl.v248 (grid0.coords t) arg2 harg2 arg3 harg3 arg8 harg8 arg9 harg9 arg10 harg10 arg16 harg16 arg20 hc1 x2 x3 x8 x9 x10 x16) = k0_pay54 (tin t x2 x3 x4 x8 x9 x10 x16).da3 k0_pay3 := by
  unfold runA.sl.v248 runA.sl.H20_2
  refine (cov_hit (S := S1x2816) (off := ![0, 0]) (size := S1x2816.size) arg20.view inb_S1x2816_S1x2816_0_0 _ _).trans ?_
  rw [bb_eq, da3_eq (hc1 := hc1) (ht := ht)]
  rfl

theorem sb1_eq (ht : t.val = 0) : (runA.sl.v364 (grid0.coords t) arg1 harg1 arg2 harg2 arg3 harg3 arg8 harg8 arg9 harg9 arg10 harg10 arg16 harg16 arg20 hc1 x1 x2 x3 x8 x9 x10 x16) = k0_pay54 (tin t x2 x3 x4 x8 x9 x10 x16).da2 (k0_pay54 (tin t x2 x3 x4 x8 x9 x10 x16).da3 k0_pay3) := by
  unfold runA.sl.v364 runA.sl.H20_3
  refine (cov_hit (S := S1x2816) (off := ![0, 0]) (size := S1x2816.size) arg20.view inb_S1x2816_S1x2816_0_0 _ _).trans ?_
  rw [sb2_eq (hc1 := hc1) (ht := ht), da2_eq (hc1 := hc1) (ht := ht)]

theorem sb0_eq (ht : t.val = 0) : (runA.sl.v483 (grid0.coords t) arg1 harg1 arg2 harg2 arg3 harg3 arg8 harg8 arg9 harg9 arg10 harg10 arg16 harg16 arg20 hc1 x1 x2 x3 x8 x9 x10 x16) = k0_pay54 (tin t x2 x3 x4 x8 x9 x10 x16).da1 (k0_pay54 (tin t x2 x3 x4 x8 x9 x10 x16).da2 (k0_pay54 (tin t x2 x3 x4 x8 x9 x10 x16).da3 k0_pay3)) := by
  unfold runA.sl.v483 runA.sl.H20_4
  refine (cov_hit (S := S1x2816) (off := ![0, 0]) (size := S1x2816.size) arg20.view inb_S1x2816_S1x2816_0_0 _ _).trans ?_
  rw [sb1_eq (hc1 := hc1) (ht := ht), da1_eq (hc1 := hc1) (ht := ht)]
  rfl

theorem q0_eq (ht : t.val = 0) : arg17.view.readAt (Elt F) (Rect.unit (s := S2x256x5632) (k0_off5 (grid0.coords t)) S1x256x2816.size (k0_off5_inb (grid0.coords t) hc1)).toLoadRect (arg17.view.writes (Elt F) (harg17.unread x17) (runA.sl.H17_3 (grid0.coords t) arg2 harg2 arg3 harg3 arg8 harg8 arg9 harg9 arg10 harg10 arg16 harg16 arg18 hc1 x2 x3 x8 x9 x10 x16)) = duH (otherOf t) 0 (resetDup x17) := by
  refine dup_read arg17.view _ (resetDup x17) (otherOf t) 0 _ (o5 t) ?_
  intro y hy
  have hs : (y 0).val = 1 - t.val % 2 := hy
  unfold runA.sl.H17_3
  refine (View.read_writes_cons_unit_of_not_mem (s := S2x256x5632) arg17.view _ (off := k0_off3 (grid0.coords t)) (off' := ![t.val % 2, 192, 2816]) (size := S1x64x2816.size) (k0_off3_inb (grid0.coords t) hc1) _ _ y (o3 t) (0 : Fin 3) (by show (y 0).val < t.val % 2 ∨ t.val % 2 + 1 ≤ (y 0).val; omega)).trans ?_
  refine (View.read_writes_cons_unit_of_not_mem (s := S2x256x5632) arg17.view _ (off := k0_off2 (grid0.coords t)) (off' := ![t.val % 2, 192, 0]) (size := S1x64x2816.size) (k0_off2_inb (grid0.coords t) hc1) _ _ y (o2 t) (0 : Fin 3) (by show (y 0).val < t.val % 2 ∨ t.val % 2 + 1 ≤ (y 0).val; omega)).trans ?_
  refine (View.read_writes_cons_unit_of_mem (s := S2x256x5632) arg17.view _ (off := ![1, 0, 0]) (off' := ![1, 0, 0]) (size := S1x256x5632.size) inb_S2x256x5632_S1x256x5632_1_0_0 _ _ y (ix3 (n0 := 1) (n1 := 256) (n2 := 5632) 0 (y 1) (y 2)) rfl (fun a => ?_)).trans ?_
  · match a with
    | ⟨0, _⟩ => show (y 0).val = 1 + 0; omega
    | ⟨1, _⟩ => show (y 1).val = 0 + (y 1).val; omega
    | ⟨2, _⟩ => show (y 2).val = 0 + (y 2).val; omega
  · unfold resetDup
    rw [if_pos (by omega)]

theorem q1_eq (ht : t.val = 0) : arg17.view.readAt (Elt F) (Rect.unit (s := S2x256x5632) (k0_off14 (grid0.coords t)) S1x256x2816.size (k0_off14_inb (grid0.coords t) hc1)).toLoadRect (arg17.view.writes (Elt F) (harg17.unread x17) (runA.sl.H17_7 (grid0.coords t) arg1 harg1 arg2 harg2 arg3 harg3 arg8 harg8 arg9 harg9 arg10 harg10 arg16 harg16 arg18 hc1 x1 x2 x3 x8 x9 x10 x16)) = duH (otherOf t) 1 (resetDup x17) := by
  refine dup_read arg17.view _ (resetDup x17) (otherOf t) 1 _ (o14 t) ?_
  intro y hy
  have hs : (y 0).val = 1 - t.val % 2 := hy
  unfold runA.sl.H17_7 runA.sl.H17_3
  refine (View.read_writes_cons_unit_of_not_mem (s := S2x256x5632) arg17.view _ (off := k0_off12 (grid0.coords t)) (off' := ![t.val % 2, 64, 2816]) (size := S1x64x2816.size) (k0_off12_inb (grid0.coords t) hc1) _ _ y (o12 t) (0 : Fin 3) (by show (y 0).val < t.val % 2 ∨ t.val % 2 + 1 ≤ (y 0).val; omega)).trans ?_
  refine (View.read_writes_cons_unit_of_not_mem (s := S2x256x5632) arg17.view _ (off := k0_off11 (grid0.coords t)) (off' := ![t.val % 2, 64, 0]) (size := S1x64x2816.size) (k0_off11_inb (grid0.coords t) hc1) _ _ y (o11 t) (0 : Fin 3) (by show (y 0).val < t.val % 2 ∨ t.val % 2 + 1 ≤ (y 0).val; omega)).trans ?_
  refine (View.read_writes_cons_unit_of_not_mem (s := S2x256x5632) arg17.view _ (off := k0_off8 (grid0.coords t)) (off' := ![t.val % 2, 128, 2816]) (size := S1x64x2816.size) (k0_off8_inb (grid0.coords t) hc1) _ _ y (o8 t) (0 : Fin 3) (by show (y 0).val < t.val % 2 ∨ t.val % 2 + 1 ≤ (y 0).val; omega)).trans ?_
  refine (View.read_writes_cons_unit_of_not_mem (s := S2x256x5632) arg17.view _ (off := k0_off7 (grid0.coords t)) (off' := ![t.val % 2, 128, 0]) (size := S1x64x2816.size) (k0_off7_inb (grid0.coords t) hc1) _ _ y (o7 t) (0 : Fin 3) (by show (y 0).val < t.val % 2 ∨ t.val % 2 + 1 ≤ (y 0).val; omega)).trans ?_
  refine (View.read_writes_cons_unit_of_not_mem (s := S2x256x5632) arg17.view _ (off := k0_off3 (grid0.coords t)) (off' := ![t.val % 2, 192, 2816]) (size := S1x64x2816.size) (k0_off3_inb (grid0.coords t) hc1) _ _ y (o3 t) (0 : Fin 3) (by show (y 0).val < t.val % 2 ∨ t.val % 2 + 1 ≤ (y 0).val; omega)).trans ?_
  refine (View.read_writes_cons_unit_of_not_mem (s := S2x256x5632) arg17.view _ (off := k0_off2 (grid0.coords t)) (off' := ![t.val % 2, 192, 0]) (size := S1x64x2816.size) (k0_off2_inb (grid0.coords t) hc1) _ _ y (o2 t) (0 : Fin 3) (by show (y 0).val < t.val % 2 ∨ t.val % 2 + 1 ≤ (y 0).val; omega)).trans ?_
  refine (View.read_writes_cons_unit_of_mem (s := S2x256x5632) arg17.view _ (off := ![1, 0, 0]) (off' := ![1, 0, 0]) (size := S1x256x5632.size) inb_S2x256x5632_S1x256x5632_1_0_0 _ _ y (ix3 (n0 := 1) (n1 := 256) (n2 := 5632) 0 (y 1) (y 2)) rfl (fun a => ?_)).trans ?_
  · match a with
    | ⟨0, _⟩ => show (y 0).val = 1 + 0; omega
    | ⟨1, _⟩ => show (y 1).val = 0 + (y 1).val; omega
    | ⟨2, _⟩ => show (y 2).val = 0 + (y 2).val; omega
  · unfold resetDup
    rw [if_pos (by omega)]

theorem u_eq (ht : t.val = 0) : (runA.sl.r_36 (grid0.coords t) arg1 harg1 arg2 harg2 arg3 harg3 arg7 harg7 arg8 harg8 arg9 harg9 arg10 harg10 arg16 harg16 arg17 harg17 arg18 hc1 x1 x2 x3 x7 x8 x9 x10 x16 x17) = k0_pay79 (k0_pay33 (duH (otherOf t) 0 (resetDup x17)) (View.ld x7 (Rect.unit ![0, 0, 0] S1x1024x2816.size inb_S2x1024x2816_S1x1024x2816_0_0_0))) (duH (otherOf t) 1 (resetDup x17)) (View.ld x7 (Rect.unit ![1, 0, 0] S1x1024x2816.size inb_S2x1024x2816_S1x1024x2816_1_0_0)) := by
  unfold runA.sl.r_36 runA.sl.r_14
  rw [q0_eq (hc1 := hc1) (ht := ht), q1_eq (hc1 := hc1) (ht := ht)]
  simp only [View.readAt_eq_ld, Memref.IsWhole.read_unread]

theorem n_eq : (runA.sl.v525 (F := F) arg21) = (k0_pay4 : FVec F S1x1024 .f32) := by
  unfold runA.sl.v525 runA.sl.H21_1
  exact cov_hit (S := S1x1024) (off := ![0, 0]) (size := S1x1024.size) arg21.view inb_S1x1024_S1x1024_0_0 _ _

end Cert.KernelIdeal.Ffn.A

end
-- ==== Proof.Ffn.ChunksB.lean ====
module

public import proofs.«01_k».proof.Proof.Ffn.Read

/-! What the run of a point of kind B stores, in terms of the tile's chunks. -/

@[expose] public section

set_option maxRecDepth 16384

noncomputable section

namespace Cert.KernelIdeal.Ffn.B

open Cert.KernelIdeal Cert.KernelIdeal.Gen Cert.KernelIdeal.Ffn
open Idealize.ShloMosaic Idealize.ShloMosaic.TcCoe Idealize.ShloMosaic.Tactic Idealize.SL.Sem

variable {F : FTy → Type} [FloatOps F]
variable (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S16x2816 .bf16) (harg4 : arg4.IsWhole) (arg5 : Memref sig .tc .vmem S256x1024 .f32) (harg5 : arg5.IsWhole) (arg6 : Memref sig .tc .vmem S1x1024 .f32) (harg6 : arg6.IsWhole) (arg7 : Memref sig .tc .vmem S2x1024x2816 .bf16) (harg7 : arg7.IsWhole) (arg8 : Memref sig .tc .vmem S3x2816 .f32) (harg8 : arg8.IsWhole) (arg9 : Memref sig .tc .vmem S1x2816 .f32) (harg9 : arg9.IsWhole) (arg10 : Memref sig .tc .vmem S2816x1024 .bf16) (harg10 : arg10.IsWhole) (arg11 : Memref sig .tc .vmem S256x5632 .bf16) (harg11 : arg11.IsWhole) (arg12 : Memref sig .tc .vmem S256x1024 .f32) (harg12 : arg12.IsWhole) (arg13 : Memref sig .tc .vmem S3x2816 .f32) (harg13 : arg13.IsWhole) (arg14 : Memref sig .tc .vmem S1x2816 .f32) (harg14 : arg14.IsWhole) (arg15 : Memref sig .tc .vmem S1x1024 .f32) (harg15 : arg15.IsWhole) (arg16 : Memref sig .tc .vmem S2x256x2816 .f32) (harg16 : arg16.IsWhole) (arg17 : Memref sig .tc .vmem S2x256x5632 .bf16) (harg17 : arg17.IsWhole) (arg18 : Memref sig .tc .vmem S8x2816 .f32) (harg18 : arg18.IsWhole) (arg19 : Memref sig .tc .vmem S8x2816 .f32) (harg19 : arg19.IsWhole) (arg20 : Memref sig .tc .vmem S1x2816 .f32) (harg20 : arg20.IsWhole) (arg21 : Memref sig .tc .vmem S1x1024 .f32) (harg21 : arg21.IsWhole)
variable (t : Fin cfg0.N) (hc1 : k0_cond2 (grid0.coords t) = 1#1)
variable (x1 : Vec F S256x1024 .f32) (x2 : Vec F S256x1024 .f32) (x3 : Vec F S256x5632 .bf16) (x4 : Vec F S16x2816 .bf16) (x5 : Vec F S256x1024 .f32) (x6 : Vec F S1x1024 .f32) (x7 : Vec F S2x1024x2816 .bf16) (x8 : Vec F S3x2816 .f32) (x9 : Vec F S1x2816 .f32) (x10 : Vec F S2816x1024 .bf16) (x16 : Vec F S2x256x2816 .f32) (x17 : Vec F S2x256x5632 .bf16) (x18 : Vec F S8x2816 .f32) (x19 : Vec F S8x2816 .f32) (x20 : Vec F S1x2816 .f32) (x21 : Vec F S1x1024 .f32)

/-- What the tile is computed from. -/
def tin (x3 : Vec F S256x5632 .bf16) (x4 : Vec F S16x2816 .bf16) (x8 : Vec F S3x2816 .f32) (x9 : Vec F S1x2816 .f32) (x16 : Vec F S2x256x2816 .f32) (x18 : Vec F S8x2816 .f32) : Tin F :=
  ⟨x3, x4, x8, x9, BitVec.ofNat 32 (grid0.coords t 0).val, slotOf t, x16, x18⟩

theorem ring3 : arg16.view.readAt (Elt F) (Rect.unit (s := S2x256x2816) (k0_off1 (grid0.coords t)) S1x64x2816.size (k0_off1_inb (grid0.coords t) hc1)).toLoadRect (harg16.unread x16) = chD (slotOf t) 3 x16 := by
  refine ring_read arg16.view _ x16 (slotOf t) 3 _ (o1 t) ?_
  intro y hy
  have hs : (y 0).val = t.val % 2 := hy
  exact congrFun (harg16.read_unread x16) y

theorem ring2 : arg16.view.readAt (Elt F) (Rect.unit (s := S2x256x2816) (k0_off6 (grid0.coords t)) S1x64x2816.size (k0_off6_inb (grid0.coords t) hc1)).toLoadRect (arg16.view.writes (Elt F) (harg16.unread x16) (runB.sl.H16_1 (grid0.coords t) arg1 harg1 arg10 harg10 hc1 x1 x10)) = chD (slotOf t) 2 x16 := by
  refine ring_read arg16.view _ x16 (slotOf t) 2 _ (o6 t) ?_
  intro y hy
  have hs : (y 0).val = t.val % 2 := hy
  refine (View.read_writes_cons_unit_of_not_mem (s := S2x256x2816) arg16.view _ (off := k0_off4 (grid0.coords t)) (off' := ![1 - t.val % 2, 0, 0]) (size := S1x256x768.size) (k0_off4_inb (grid0.coords t) hc1) _ _ y (o4 t) (0 : Fin 3) (by show (y 0).val < 1 - t.val % 2 ∨ 1 - t.val % 2 + 1 ≤ (y 0).val; omega)).trans ?_
  exact congrFun (harg16.read_unread x16) y

theorem ring1 : arg16.view.readAt (Elt F) (Rect.unit (s := S2x256x2816) (k0_off10 (grid0.coords t)) S1x64x2816.size (k0_off10_inb (grid0.coords t) hc1)).toLoadRect (arg16.view.writes (Elt F) (harg16.unread x16) (runB.sl.H16_2 (grid0.coords t) arg1 harg1 arg10 harg10 hc1 x1 x10)) = chD (slotOf t) 1 x16 := by
  refine ring_read arg16.view _ x16 (slotOf t) 1 _ (o10 t) ?_
  intro y hy
  have hs : (y 0).val = t.val % 2 := hy
  refine (View.read_writes_cons_unit_of_not_mem (s := S2x256x2816) arg16.view _ (off := k0_off9 (grid0.coords t)) (off' := ![1 - t.val % 2, 0, 768]) (size := S1x256x768.size) (k0_off9_inb (grid0.coords t) hc1) _ _ y (o9 t) (0 : Fin 3) (by show (y 0).val < 1 - t.val % 2 ∨ 1 - t.val % 2 + 1 ≤ (y 0).val; omega)).trans ?_
  refine (View.read_writes_cons_unit_of_not_mem (s := S2x256x2816) arg16.view _ (off := k0_off4 (grid0.coords t)) (off' := ![1 - t.val % 2, 0, 0]) (size := S1x256x768.size) (k0_off4_inb (grid0.coords t) hc1) _ _ y (o4 t) (0 : Fin 3) (by show (y 0).val < 1 - t.val % 2 ∨ 1 - t.val % 2 + 1 ≤ (y 0).val; omega)).trans ?_
  exact congrFun (harg16.read_unread x16) y

theorem ring0 : arg16.view.readAt (Elt F) (Rect.unit (s := S2x256x2816) (k0_off15 (grid0.coords t)) S1x64x2816.size (k0_off15_inb (grid0.coords t) hc1)).toLoadRect (arg16.view.writes (Elt F) (harg16.unread x16) (runB.sl.H16_3 (grid0.coords t) arg1 harg1 arg10 harg10 hc1 x1 x10)) = chD (slotOf t) 0 x16 := by
  refine ring_read arg16.view _ x16 (slotOf t) 0 _ (o15 t) ?_
  intro y hy
  have hs : (y 0).val = t.val % 2 := hy
  refine (View.read_writes_cons_unit_of_not_mem (s := S2x256x2816) arg16.view _ (off := k0_off13 (grid0.coords t)) (off' := ![1 - t.val % 2, 0, 1536]) (size := S1x256x768.size) (k0_off13_inb (grid0.coords t) hc1) _ _ y (o13 t) (0 : Fin 3) (by show (y 0).val < 1 - t.val % 2 ∨ 1 - t.val % 2 + 1 ≤ (y 0).val; omega)).trans ?_
  refine (View.read_writes_cons_unit_of_not_mem (s := S2x256x2816) arg16.view _ (off := k0_off9 (grid0.coords t)) (off' := ![1 - t.val % 2, 0, 768]) (size := S1x256x768.size) (k0_off9_inb (grid0.coords t) hc1) _ _ y (o9 t) (0 : Fin 3) (by show (y 0).val < 1 - t.val % 2 ∨ 1 - t.val % 2 + 1 ≤ (y 0).val; omega)).trans ?_
  refine (View.read_writes_cons_unit_of_not_mem (s := S2x256x2816) arg16.view _ (off := k0_off4 (grid0.coords t)) (off' := ![1 - t.val % 2, 0, 0]) (size := S1x256x768.size) (k0_off4_inb (grid0.coords t) hc1) _ _ y (o4 t) (0 : Fin 3) (by show (y 0).val < 1 - t.val % 2 ∨ 1 - t.val % 2 + 1 ≤ (y 0).val; omega)).trans ?_
  exact congrFun (harg16.read_unread x16) y

theorem w0_eq : (runB.sl.r arg8 harg8 x8) = (tin t x3 x4 x8 x9 x16 x18).w0 := by
  unfold runB.sl.r
  simp only [View.readAt_eq_ld, Memref.IsWhole.read_unread]
  rfl

theorem w1_eq : (runB.sl.r_1 arg8 harg8 x8) = (tin t x3 x4 x8 x9 x16 x18).w1 := by
  unfold runB.sl.r_1
  simp only [View.readAt_eq_ld, Memref.IsWhole.read_unread]
  rfl

theorem w2_eq : (runB.sl.r_2 arg8 harg8 x8) = (tin t x3 x4 x8 x9 x16 x18).w2 := by
  unfold runB.sl.r_2
  simp only [View.readAt_eq_ld, Memref.IsWhole.read_unread]
  rfl

theorem pb_eq : (runB.sl.r_3 (grid0.coords t) arg4 harg4 x4) = (tin t x3 x4 x8 x9 x16 x18).pb := by
  unfold runB.sl.r_3
  simp only [View.readAt_eq_ld, Memref.IsWhole.read_unread]
  rfl

theorem a3_eq : (runB.sl.r_5 arg3 harg3 x3) = (tin t x3 x4 x8 x9 x16 x18).a3 := by
  unfold runB.sl.r_5
  simp only [View.readAt_eq_ld, Memref.IsWhole.read_unread]
  rfl

theorem m3_eq : (runB.sl.r_7 arg3 harg3 x3) = am1 (tin t x3 x4 x8 x9 x16 x18).a3 (tin t x3 x4 x8 x9 x16 x18).p3 := by
  unfold runB.sl.r_7
  simp only [View.readAt_eq_ld, Memref.IsWhole.read_unread]
  rfl

theorem n3_eq : (runB.sl.r_8 arg3 harg3 x3) = am2 (tin t x3 x4 x8 x9 x16 x18).a3 (tin t x3 x4 x8 x9 x16 x18).p3 := by
  unfold runB.sl.r_8
  simp only [View.readAt_eq_ld, Memref.IsWhole.read_unread]
  rfl

theorem da3_eq : (runB.sl.r_10 (grid0.coords t) arg3 harg3 arg8 harg8 arg9 harg9 arg16 harg16 hc1 x3 x8 x9 x16) = (tin t x3 x4 x8 x9 x16 x18).da3 := by
  unfold runB.sl.r_10 runB.sl.r_6 runB.sl.r_9
  rw [ring3 (hc1 := hc1)]
  simp only [View.readAt_eq_ld, Memref.IsWhole.read_unread]
  rfl

theorem dv3_eq : (runB.sl.r_11 (grid0.coords t) arg3 harg3 arg8 harg8 arg9 harg9 arg16 harg16 hc1 x3 x8 x9 x16) = (tin t x3 x4 x8 x9 x16 x18).dv3 := by
  unfold runB.sl.r_11 runB.sl.r_9
  rw [ring3 (hc1 := hc1)]
  simp only [View.readAt_eq_ld, Memref.IsWhole.read_unread]
  rfl

theorem carry_ld : View.ld x18 (Rect.unit ![0, 0] S8x2816.size inb_S8x2816_S8x2816_0_0) = x18 :=
  View.ld_unit_zero (S := S8x2816) (funext fun a => by fin_cases a <;> rfl) _ _

theorem dp3_eq : (runB.sl.r_12 (grid0.coords t) arg3 harg3 arg8 harg8 arg9 harg9 arg16 harg16 arg18 harg18 hc1 x3 x8 x9 x16 x18) = (tin t x3 x4 x8 x9 x16 x18).dp3 := by
  unfold runB.sl.r_12 runB.sl.r_6 runB.sl.r_9 runB.sl.r runB.sl.r_1 runB.sl.r_2
  rw [ring3 (hc1 := hc1)]
  simp only [View.readAt_eq_ld, Memref.IsWhole.read_unread]
  rw [carry_ld]
  rfl

theorem a2_eq : (runB.sl.r_15 arg3 harg3 x3) = (tin t x3 x4 x8 x9 x16 x18).a2 := by
  unfold runB.sl.r_15
  simp only [View.readAt_eq_ld, Memref.IsWhole.read_unread]
  rfl

theorem m2_eq : (runB.sl.r_18 arg3 harg3 x3) = am1 (tin t x3 x4 x8 x9 x16 x18).a2 (tin t x3 x4 x8 x9 x16 x18).p2 := by
  unfold runB.sl.r_18
  simp only [View.readAt_eq_ld, Memref.IsWhole.read_unread]
  rfl

theorem n2_eq : (runB.sl.r_19 arg3 harg3 x3) = am2 (tin t x3 x4 x8 x9 x16 x18).a2 (tin t x3 x4 x8 x9 x16 x18).p2 := by
  unfold runB.sl.r_19 runB.sl.r_15 runB.sl.r_17
  simp only [View.readAt_eq_ld, Memref.IsWhole.read_unread]
  rfl

theorem da2_eq : (runB.sl.r_20 (grid0.coords t) arg1 harg1 arg3 harg3 arg8 harg8 arg9 harg9 arg10 harg10 arg16 harg16 hc1 x1 x3 x8 x9 x10 x16) = (tin t x3 x4 x8 x9 x16 x18).da2 := by
  unfold runB.sl.r_20 runB.sl.r runB.sl.r_1 runB.sl.r_2 runB.sl.r_15 runB.sl.r_16 runB.sl.r_17 runB.sl.r_18
  rw [ring2 (hc1 := hc1)]
  simp only [View.readAt_eq_ld, Memref.IsWhole.read_unread]
  rfl

theorem dv2_eq : (runB.sl.r_21 (grid0.coords t) arg1 harg1 arg3 harg3 arg8 harg8 arg9 harg9 arg10 harg10 arg16 harg16 hc1 x1 x3 x8 x9 x10 x16) = (tin t x3 x4 x8 x9 x16 x18).dv2 := by
  unfold runB.sl.r_21 runB.sl.r runB.sl.r_1 runB.sl.r_2 runB.sl.r_15 runB.sl.r_17 runB.sl.r_18
  rw [ring2 (hc1 := hc1)]
  simp only [View.readAt_eq_ld, Memref.IsWhole.read_unread]
  rfl

theorem k2_eq : (runB.sl.v194 (grid0.coords t) arg3 harg3 arg8 harg8 arg9 harg9 arg16 harg16 arg18 hc1 x3 x8 x9 x16) = (tin t x3 x4 x8 x9 x16 x18).k2 := by
  unfold runB.sl.v194 runB.sl.H18_1
  refine (cov_hit _ _ _ _).trans ?_
  rw [ring3 (hc1 := hc1)]
  unfold runB.sl.r_6 runB.sl.r_9
  simp only [View.readAt_eq_ld, Memref.IsWhole.read_unread]
  rfl

theorem dp2_eq : k0_pay46 (runB.sl.r arg8 harg8 x8) (runB.sl.r_22 (grid0.coords t) arg1 harg1 arg3 harg3 arg8 harg8 arg9 harg9 arg10 harg10 arg16 harg16 arg18 hc1 x1 x3 x8 x9 x10 x16) (runB.sl.r_23 (grid0.coords t) arg1 harg1 arg3 harg3 arg8 harg8 arg9 harg9 arg10 harg10 arg16 harg16 arg18 hc1 x1 x3 x8 x9 x10 x16) = (tin t x3 x4 x8 x9 x16 x18).dp2 := by
  unfold runB.sl.r_22 runB.sl.r_23
  rw [ring2 (hc1 := hc1)]
  rw [k2_eq (hc1 := hc1)]
  unfold runB.sl.r runB.sl.r_1 runB.sl.r_2 runB.sl.r_15 runB.sl.r_16 runB.sl.r_17 runB.sl.r_18
  simp only [View.readAt_eq_ld, Memref.IsWhole.read_unread]
  rfl

theorem a1_eq : (runB.sl.r_25 arg3 harg3 x3) = (tin t x3 x4 x8 x9 x16 x18).a1 := by
  unfold runB.sl.r_25
  simp only [View.readAt_eq_ld, Memref.IsWhole.read_unread]
  rfl

theorem m1_eq : (runB.sl.r_29 arg3 harg3 x3) = am1 (tin t x3 x4 x8 x9 x16 x18).a1 (tin t x3 x4 x8 x9 x16 x18).p1 := by
  unfold runB.sl.r_29 runB.sl.r_28
  simp only [View.readAt_eq_ld, Memref.IsWhole.read_unread]
  rfl

theorem n1_eq : (runB.sl.r_30 arg3 harg3 x3) = am2 (tin t x3 x4 x8 x9 x16 x18).a1 (tin t x3 x4 x8 x9 x16 x18).p1 := by
  unfold runB.sl.r_30 runB.sl.r_25 runB.sl.r_27
  simp only [View.readAt_eq_ld, Memref.IsWhole.read_unread]
  rfl

theorem da1_eq : (runB.sl.r_31 (grid0.coords t) arg1 harg1 arg3 harg3 arg8 harg8 arg9 harg9 arg10 harg10 arg16 harg16 hc1 x1 x3 x8 x9 x10 x16) = (tin t x3 x4 x8 x9 x16 x18).da1 := by
  unfold runB.sl.r_31 runB.sl.r runB.sl.r_1 runB.sl.r_2 runB.sl.r_25 runB.sl.r_26 runB.sl.r_27 runB.sl.r_28
  rw [ring1 (hc1 := hc1)]
  simp only [View.readAt_eq_ld, Memref.IsWhole.read_unread]
  rfl

theorem dv1_eq : (runB.sl.r_32 (grid0.coords t) arg1 harg1 arg3 harg3 arg8 harg8 arg9 harg9 arg10 harg10 arg16 harg16 hc1 x1 x3 x8 x9 x10 x16) = (tin t x3 x4 x8 x9 x16 x18).dv1 := by
  unfold runB.sl.r_32 runB.sl.r runB.sl.r_1 runB.sl.r_2 runB.sl.r_25 runB.sl.r_27 runB.sl.r_28
  rw [ring1 (hc1 := hc1)]
  simp only [View.readAt_eq_ld, Memref.IsWhole.read_unread]
  rfl

theorem k1_eq : (runB.sl.v310 (grid0.coords t) arg1 harg1 arg3 harg3 arg8 harg8 arg9 harg9 arg10 harg10 arg16 harg16 arg18 hc1 x1 x3 x8 x9 x10 x16) = (tin t x3 x4 x8 x9 x16 x18).k1 := by
  unfold runB.sl.v310 runB.sl.H18_2
  refine (cov_hit _ _ _ _).trans ?_
  rw [da2_eq (hc1 := hc1)]
  rfl

theorem dp1_eq : k0_pay69 (runB.sl.r arg8 harg8 x8) (runB.sl.r_33 (grid0.coords t) arg1 harg1 arg3 harg3 arg8 harg8 arg9 harg9 arg10 harg10 arg16 harg16 arg18 hc1 x1 x3 x8 x9 x10 x16) (runB.sl.r_34 (grid0.coords t) arg1 harg1 arg3 harg3 arg8 harg8 arg9 harg9 arg10 harg10 arg16 harg16 arg18 hc1 x1 x3 x8 x9 x10 x16) = (tin t x3 x4 x8 x9 x16 x18).dp1 := by
  unfold runB.sl.r_33 runB.sl.r_34
  rw [ring1 (hc1 := hc1)]
  rw [k1_eq (hc1 := hc1)]
  unfold runB.sl.r runB.sl.r_1 runB.sl.r_2 runB.sl.r_25 runB.sl.r_26 runB.sl.r_27 runB.sl.r_28
  simp only [View.readAt_eq_ld, Memref.IsWhole.read_unread]
  rfl

theorem a0_eq : (runB.sl.r_38 arg3 harg3 x3) = (tin t x3 x4 x8 x9 x16 x18).a0 := by
  unfold runB.sl.r_38 runB.sl.r_37
  simp only [View.readAt_eq_ld, Memref.IsWhole.read_unread]
  rfl

theorem m0_eq : (runB.sl.r_39 (grid0.coords t) arg3 harg3 arg4 harg4 x3 x4) = am1 (tin t x3 x4 x8 x9 x16 x18).a0 (tin t x3 x4 x8 x9 x16 x18).p0 := by
  unfold runB.sl.r_39 runB.sl.r_3 runB.sl.r_37
  simp only [View.readAt_eq_ld, Memref.IsWhole.read_unread]
  rfl

theorem n0_eq : (runB.sl.r_40 (grid0.coords t) arg3 harg3 arg4 harg4 x3 x4) = am2 (tin t x3 x4 x8 x9 x16 x18).a0 (tin t x3 x4 x8 x9 x16 x18).p0 := by
  unfold runB.sl.r_40 runB.sl.r_3 runB.sl.r_37
  simp only [View.readAt_eq_ld, Memref.IsWhole.read_unread]
  rfl

theorem da0_eq : (runB.sl.r_41 (grid0.coords t) arg1 harg1 arg3 harg3 arg4 harg4 arg8 harg8 arg9 harg9 arg10 harg10 arg16 harg16 hc1 x1 x3 x4 x8 x9 x10 x16) = (tin t x3 x4 x8 x9 x16 x18).da0 := by
  unfold runB.sl.r_41 runB.sl.r runB.sl.r_1 runB.sl.r_2 runB.sl.r_3 runB.sl.r_37
  rw [ring0 (hc1 := hc1)]
  simp only [View.readAt_eq_ld, Memref.IsWhole.read_unread]
  rfl

theorem dv0_eq : (runB.sl.r_42 (grid0.coords t) arg1 harg1 arg3 harg3 arg4 harg4 arg8 harg8 arg9 harg9 arg10 harg10 arg16 harg16 hc1 x1 x3 x4 x8 x9 x10 x16) = (tin t x3 x4 x8 x9 x16 x18).dv0 := by
  unfold runB.sl.r_42 runB.sl.r runB.sl.r_1 runB.sl.r_2 runB.sl.r_3 runB.sl.r_37
  rw [ring0 (hc1 := hc1)]
  simp only [View.readAt_eq_ld, Memref.IsWhole.read_unread]
  rfl

theorem k0_eq : (runB.sl.v429 (grid0.coords t) arg1 harg1 arg3 harg3 arg8 harg8 arg9 harg9 arg10 harg10 arg16 harg16 arg18 hc1 x1 x3 x8 x9 x10 x16) = (tin t x3 x4 x8 x9 x16 x18).k0 := by
  unfold runB.sl.v429 runB.sl.H18_3
  refine (cov_hit _ _ _ _).trans ?_
  rw [da1_eq (hc1 := hc1)]
  rfl

theorem dp0_eq : k0_pay89 (runB.sl.r arg8 harg8 x8) (runB.sl.r_1 arg8 harg8 x8) (runB.sl.r_41 (grid0.coords t) arg1 harg1 arg3 harg3 arg4 harg4 arg8 harg8 arg9 harg9 arg10 harg10 arg16 harg16 hc1 x1 x3 x4 x8 x9 x10 x16) (runB.sl.v429 (grid0.coords t) arg1 harg1 arg3 harg3 arg8 harg8 arg9 harg9 arg10 harg10 arg16 harg16 arg18 hc1 x1 x3 x8 x9 x10 x16) (runB.sl.r_43 arg8 harg8 x8) = (tin t x3 x4 x8 x9 x16 x18).dp0 := by
  rw [k0_eq (hc1 := hc1), da0_eq (hc1 := hc1)]
  unfold runB.sl.r_43 runB.sl.r runB.sl.r_1 runB.sl.r_2
  simp only [View.readAt_eq_ld, Memref.IsWhole.read_unread]
  rfl

end Cert.KernelIdeal.Ffn.B

end
-- ==== Proof.Ffn.RowsB.lean ====
module

public import proofs.«01_k».proof.Proof.Ffn.ChunksB
public import proofs.«01_k».proof.Proof.Ffn.Cells

/-! The rows of the convolution's accumulators as a point of kind B adds to them, and the two products of the projection's gradient. -/

@[expose] public section

set_option maxRecDepth 16384

noncomputable section

namespace Cert.KernelIdeal.Ffn.B

open Cert.KernelIdeal Cert.KernelIdeal.Gen Cert.KernelIdeal.Ffn
open Idealize.ShloMosaic Idealize.ShloMosaic.TcCoe Idealize.ShloMosaic.Tactic Idealize.SL.Sem

variable {F : FTy → Type} [FloatOps F]
variable (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S16x2816 .bf16) (harg4 : arg4.IsWhole) (arg5 : Memref sig .tc .vmem S256x1024 .f32) (harg5 : arg5.IsWhole) (arg6 : Memref sig .tc .vmem S1x1024 .f32) (harg6 : arg6.IsWhole) (arg7 : Memref sig .tc .vmem S2x1024x2816 .bf16) (harg7 : arg7.IsWhole) (arg8 : Memref sig .tc .vmem S3x2816 .f32) (harg8 : arg8.IsWhole) (arg9 : Memref sig .tc .vmem S1x2816 .f32) (harg9 : arg9.IsWhole) (arg10 : Memref sig .tc .vmem S2816x1024 .bf16) (harg10 : arg10.IsWhole) (arg11 : Memref sig .tc .vmem S256x5632 .bf16) (harg11 : arg11.IsWhole) (arg12 : Memref sig .tc .vmem S256x1024 .f32) (harg12 : arg12.IsWhole) (arg13 : Memref sig .tc .vmem S3x2816 .f32) (harg13 : arg13.IsWhole) (arg14 : Memref sig .tc .vmem S1x2816 .f32) (harg14 : arg14.IsWhole) (arg15 : Memref sig .tc .vmem S1x1024 .f32) (harg15 : arg15.IsWhole) (arg16 : Memref sig .tc .vmem S2x256x2816 .f32) (harg16 : arg16.IsWhole) (arg17 : Memref sig .tc .vmem S2x256x5632 .bf16) (harg17 : arg17.IsWhole) (arg18 : Memref sig .tc .vmem S8x2816 .f32) (harg18 : arg18.IsWhole) (arg19 : Memref sig .tc .vmem S8x2816 .f32) (harg19 : arg19.IsWhole) (arg20 : Memref sig .tc .vmem S1x2816 .f32) (harg20 : arg20.IsWhole) (arg21 : Memref sig .tc .vmem S1x1024 .f32) (harg21 : arg21.IsWhole)
variable (t : Fin cfg0.N) (hc1 : k0_cond2 (grid0.coords t) = 1#1)
variable (x1 : Vec F S256x1024 .f32) (x2 : Vec F S256x1024 .f32) (x3 : Vec F S256x5632 .bf16) (x4 : Vec F S16x2816 .bf16) (x5 : Vec F S256x1024 .f32) (x6 : Vec F S1x1024 .f32) (x7 : Vec F S2x1024x2816 .bf16) (x8 : Vec F S3x2816 .f32) (x9 : Vec F S1x2816 .f32) (x10 : Vec F S2816x1024 .bf16) (x16 : Vec F S2x256x2816 .f32) (x17 : Vec F S2x256x5632 .bf16) (x18 : Vec F S8x2816 .f32) (x19 : Vec F S8x2816 .f32) (x20 : Vec F S1x2816 .f32) (x21 : Vec F S1x1024 .f32)

theorem b0_eq : arg19.view.readAt (Elt F) (Rect.unit (s := S8x2816) ![0, 0] S1x2816.size inb_S8x2816_S1x2816_0_0).toLoadRect (harg19.unread x19) = rowOf 0 x19 := by
  rw [View.readAt_eq_ld, harg19.read_unread]
  exact ld_row x19 (k := 0) inb_S8x2816_S1x2816_0_0

theorem b1_eq : arg19.view.readAt (Elt F) (Rect.unit (s := S8x2816) ![1, 0] S1x2816.size inb_S8x2816_S1x2816_1_0).toLoadRect (harg19.unread x19) = rowOf 1 x19 := by
  rw [View.readAt_eq_ld, harg19.read_unread]
  exact ld_row x19 (k := 1) inb_S8x2816_S1x2816_1_0

theorem b2_eq : arg19.view.readAt (Elt F) (Rect.unit (s := S8x2816) ![2, 0] S1x2816.size inb_S8x2816_S1x2816_2_0).toLoadRect (harg19.unread x19) = rowOf 2 x19 := by
  rw [View.readAt_eq_ld, harg19.read_unread]
  exact ld_row x19 (k := 2) inb_S8x2816_S1x2816_2_0

theorem s02_eq : (runB.sl.v224 (grid0.coords t) arg3 harg3 arg8 harg8 arg9 harg9 arg16 harg16 arg19 harg19 hc1 x3 x8 x9 x16 x19) = cacc (am2 (tin t x3 x4 x8 x9 x16 x18).a3 (tin t x3 x4 x8 x9 x16 x18).p3) (tin t x3 x4 x8 x9 x16 x18).da3 (rowOf 0 x19) := by
  unfold runB.sl.v224 runB.sl.H19_3
  refine (cov_skip (S := S8x2816) (off := ![2, 0]) (size := S1x2816.size) (off' := ![0, 0]) (size' := S1x2816.size) arg19.view inb_S8x2816_S1x2816_2_0 inb_S8x2816_S1x2816_0_0 _ _ (0 : Fin 2) (by show (0 : ℕ) + 1 ≤ 2 ∨ (2 : ℕ) + 1 ≤ 0; omega)).trans ?_
  refine (cov_skip (S := S8x2816) (off := ![1, 0]) (size := S1x2816.size) (off' := ![0, 0]) (size' := S1x2816.size) arg19.view inb_S8x2816_S1x2816_1_0 inb_S8x2816_S1x2816_0_0 _ _ (0 : Fin 2) (by show (0 : ℕ) + 1 ≤ 1 ∨ (1 : ℕ) + 1 ≤ 0; omega)).trans ?_
  refine (cov_hit (S := S8x2816) (off := ![0, 0]) (size := S1x2816.size) arg19.view inb_S8x2816_S1x2816_0_0 _ _).trans ?_
  rw [b0_eq, n3_eq, da3_eq (hc1 := hc1)]
  rfl

theorem s12_eq : (runB.sl.v232 (grid0.coords t) arg1 harg1 arg3 harg3 arg8 harg8 arg9 harg9 arg10 harg10 arg16 harg16 arg19 harg19 hc1 x1 x3 x8 x9 x10 x16 x19) = cacc (am1 (tin t x3 x4 x8 x9 x16 x18).a3 (tin t x3 x4 x8 x9 x16 x18).p3) (tin t x3 x4 x8 x9 x16 x18).da3 (rowOf 1 x19) := by
  unfold runB.sl.v232 runB.sl.H19_4 runB.sl.H19_3
  refine (cov_skip (S := S8x2816) (off := ![0, 0]) (size := S1x2816.size) (off' := ![1, 0]) (size' := S1x2816.size) arg19.view inb_S8x2816_S1x2816_0_0 inb_S8x2816_S1x2816_1_0 _ _ (0 : Fin 2) (by show (1 : ℕ) + 1 ≤ 0 ∨ (0 : ℕ) + 1 ≤ 1; omega)).trans ?_
  refine (cov_skip (S := S8x2816) (off := ![2, 0]) (size := S1x2816.size) (off' := ![1, 0]) (size' := S1x2816.size) arg19.view inb_S8x2816_S1x2816_2_0 inb_S8x2816_S1x2816_1_0 _ _ (0 : Fin 2) (by show (1 : ℕ) + 1 ≤ 2 ∨ (2 : ℕ) + 1 ≤ 1; omega)).trans ?_
  refine (cov_hit (S := S8x2816) (off := ![1, 0]) (size := S1x2816.size) arg19.view inb_S8x2816_S1x2816_1_0 _ _).trans ?_
  unfold runB.sl.v110
  rw [b1_eq, m3_eq, da3_eq (hc1 := hc1)]
  rfl

theorem s22_eq : (runB.sl.v240 (grid0.coords t) arg1 harg1 arg3 harg3 arg8 harg8 arg9 harg9 arg10 harg10 arg16 harg16 arg19 harg19 hc1 x1 x3 x8 x9 x10 x16 x19) = cacc ((tin t x3 x4 x8 x9 x16 x18).a3) (tin t x3 x4 x8 x9 x16 x18).da3 (rowOf 2 x19) := by
  unfold runB.sl.v240 runB.sl.H19_5 runB.sl.H19_4 runB.sl.H19_3 runB.sl.r_13
  refine (cov_skip (S := S8x2816) (off := ![1, 0]) (size := S1x2816.size) (off' := ![2, 0]) (size' := S1x2816.size) arg19.view inb_S8x2816_S1x2816_1_0 inb_S8x2816_S1x2816_2_0 _ _ (0 : Fin 2) (by show (2 : ℕ) + 1 ≤ 1 ∨ (1 : ℕ) + 1 ≤ 2; omega)).trans ?_
  refine (cov_skip (S := S8x2816) (off := ![0, 0]) (size := S1x2816.size) (off' := ![2, 0]) (size' := S1x2816.size) arg19.view inb_S8x2816_S1x2816_0_0 inb_S8x2816_S1x2816_2_0 _ _ (0 : Fin 2) (by show (2 : ℕ) + 1 ≤ 0 ∨ (0 : ℕ) + 1 ≤ 2; omega)).trans ?_
  refine (cov_hit (S := S8x2816) (off := ![2, 0]) (size := S1x2816.size) arg19.view inb_S8x2816_S1x2816_2_0 _ _).trans ?_
  unfold runB.sl.v118
  rw [b2_eq, a3_eq, da3_eq (hc1 := hc1)]
  rfl

theorem s01_eq : (runB.sl.v340 (grid0.coords t) arg1 harg1 arg3 harg3 arg8 harg8 arg9 harg9 arg10 harg10 arg16 harg16 arg19 harg19 hc1 x1 x3 x8 x9 x10 x16 x19) = cacc (am2 (tin t x3 x4 x8 x9 x16 x18).a2 (tin t x3 x4 x8 x9 x16 x18).p2) (tin t x3 x4 x8 x9 x16 x18).da2 (cacc (am2 (tin t x3 x4 x8 x9 x16 x18).a3 (tin t x3 x4 x8 x9 x16 x18).p3) (tin t x3 x4 x8 x9 x16 x18).da3 (rowOf 0 x19)) := by
  unfold runB.sl.v340 runB.sl.H19_6 runB.sl.H19_5 runB.sl.H19_4
  refine (cov_skip (S := S8x2816) (off := ![2, 0]) (size := S1x2816.size) (off' := ![0, 0]) (size' := S1x2816.size) arg19.view inb_S8x2816_S1x2816_2_0 inb_S8x2816_S1x2816_0_0 _ _ (0 : Fin 2) (by show (0 : ℕ) + 1 ≤ 2 ∨ (2 : ℕ) + 1 ≤ 0; omega)).trans ?_
  refine (cov_skip (S := S8x2816) (off := ![1, 0]) (size := S1x2816.size) (off' := ![0, 0]) (size' := S1x2816.size) arg19.view inb_S8x2816_S1x2816_1_0 inb_S8x2816_S1x2816_0_0 _ _ (0 : Fin 2) (by show (0 : ℕ) + 1 ≤ 1 ∨ (1 : ℕ) + 1 ≤ 0; omega)).trans ?_
  refine (cov_hit (S := S8x2816) (off := ![0, 0]) (size := S1x2816.size) arg19.view inb_S8x2816_S1x2816_0_0 _ _).trans ?_
  rw [s02_eq (hc1 := hc1), n2_eq, da2_eq (hc1 := hc1)]
  rfl

theorem s11_eq : (runB.sl.v348 (grid0.coords t) arg1 harg1 arg3 harg3 arg8 harg8 arg9 harg9 arg10 harg10 arg16 harg16 arg19 harg19 hc1 x1 x3 x8 x9 x10 x16 x19) = cacc (am1 (tin t x3 x4 x8 x9 x16 x18).a2 (tin t x3 x4 x8 x9 x16 x18).p2) (tin t x3 x4 x8 x9 x16 x18).da2 (cacc (am1 (tin t x3 x4 x8 x9 x16 x18).a3 (tin t x3 x4 x8 x9 x16 x18).p3) (tin t x3 x4 x8 x9 x16 x18).da3 (rowOf 1 x19)) := by
  unfold runB.sl.v348 runB.sl.H19_7 runB.sl.H19_6 runB.sl.H19_5 runB.sl.r_24
  refine (cov_skip (S := S8x2816) (off := ![0, 0]) (size := S1x2816.size) (off' := ![1, 0]) (size' := S1x2816.size) arg19.view inb_S8x2816_S1x2816_0_0 inb_S8x2816_S1x2816_1_0 _ _ (0 : Fin 2) (by show (1 : ℕ) + 1 ≤ 0 ∨ (0 : ℕ) + 1 ≤ 1; omega)).trans ?_
  refine (cov_skip (S := S8x2816) (off := ![2, 0]) (size := S1x2816.size) (off' := ![1, 0]) (size' := S1x2816.size) arg19.view inb_S8x2816_S1x2816_2_0 inb_S8x2816_S1x2816_1_0 _ _ (0 : Fin 2) (by show (1 : ℕ) + 1 ≤ 2 ∨ (2 : ℕ) + 1 ≤ 1; omega)).trans ?_
  refine (cov_hit (S := S8x2816) (off := ![1, 0]) (size := S1x2816.size) arg19.view inb_S8x2816_S1x2816_1_0 _ _).trans ?_
  rw [s12_eq (hc1 := hc1), m2_eq, da2_eq (hc1 := hc1)]
  rfl

theorem s21_eq : (runB.sl.v356 (grid0.coords t) arg1 harg1 arg3 harg3 arg8 harg8 arg9 harg9 arg10 harg10 arg16 harg16 arg19 harg19 hc1 x1 x3 x8 x9 x10 x16 x19) = cacc ((tin t x3 x4 x8 x9 x16 x18).a2) (tin t x3 x4 x8 x9 x16 x18).da2 (cacc ((tin t x3 x4 x8 x9 x16 x18).a3) (tin t x3 x4 x8 x9 x16 x18).da3 (rowOf 2 x19)) := by
  unfold runB.sl.v356 runB.sl.H19_8 runB.sl.H19_7 runB.sl.H19_6
  refine (cov_skip (S := S8x2816) (off := ![1, 0]) (size := S1x2816.size) (off' := ![2, 0]) (size' := S1x2816.size) arg19.view inb_S8x2816_S1x2816_1_0 inb_S8x2816_S1x2816_2_0 _ _ (0 : Fin 2) (by show (2 : ℕ) + 1 ≤ 1 ∨ (1 : ℕ) + 1 ≤ 2; omega)).trans ?_
  refine (cov_skip (S := S8x2816) (off := ![0, 0]) (size := S1x2816.size) (off' := ![2, 0]) (size' := S1x2816.size) arg19.view inb_S8x2816_S1x2816_0_0 inb_S8x2816_S1x2816_2_0 _ _ (0 : Fin 2) (by show (2 : ℕ) + 1 ≤ 0 ∨ (0 : ℕ) + 1 ≤ 2; omega)).trans ?_
  refine (cov_hit (S := S8x2816) (off := ![2, 0]) (size := S1x2816.size) arg19.view inb_S8x2816_S1x2816_2_0 _ _).trans ?_
  rw [s22_eq (hc1 := hc1), a2_eq, da2_eq (hc1 := hc1)]
  rfl

theorem s00_eq : (runB.sl.v459 (grid0.coords t) arg1 harg1 arg3 harg3 arg8 harg8 arg9 harg9 arg10 harg10 arg16 harg16 arg19 harg19 hc1 x1 x3 x8 x9 x10 x16 x19) = cacc (am2 (tin t x3 x4 x8 x9 x16 x18).a1 (tin t x3 x4 x8 x9 x16 x18).p1) (tin t x3 x4 x8 x9 x16 x18).da1 (cacc (am2 (tin t x3 x4 x8 x9 x16 x18).a2 (tin t x3 x4 x8 x9 x16 x18).p2) (tin t x3 x4 x8 x9 x16 x18).da2 (cacc (am2 (tin t x3 x4 x8 x9 x16 x18).a3 (tin t x3 x4 x8 x9 x16 x18).p3) (tin t x3 x4 x8 x9 x16 x18).da3 (rowOf 0 x19))) := by
  unfold runB.sl.v459 runB.sl.H19_9 runB.sl.H19_8 runB.sl.H19_7
  refine (cov_skip (S := S8x2816) (off := ![2, 0]) (size := S1x2816.size) (off' := ![0, 0]) (size' := S1x2816.size) arg19.view inb_S8x2816_S1x2816_2_0 inb_S8x2816_S1x2816_0_0 _ _ (0 : Fin 2) (by show (0 : ℕ) + 1 ≤ 2 ∨ (2 : ℕ) + 1 ≤ 0; omega)).trans ?_
  refine (cov_skip (S := S8x2816) (off := ![1, 0]) (size := S1x2816.size) (off' := ![0, 0]) (size' := S1x2816.size) arg19.view inb_S8x2816_S1x2816_1_0 inb_S8x2816_S1x2816_0_0 _ _ (0 : Fin 2) (by show (0 : ℕ) + 1 ≤ 1 ∨ (1 : ℕ) + 1 ≤ 0; omega)).trans ?_
  refine (cov_hit (S := S8x2816) (off := ![0, 0]) (size := S1x2816.size) arg19.view inb_S8x2816_S1x2816_0_0 _ _).trans ?_
  rw [s01_eq (hc1 := hc1), n1_eq, da1_eq (hc1 := hc1)]
  rfl

theorem s10_eq : (runB.sl.v467 (grid0.coords t) arg1 harg1 arg3 harg3 arg4 harg4 arg8 harg8 arg9 harg9 arg10 harg10 arg16 harg16 arg19 harg19 hc1 x1 x3 x4 x8 x9 x10 x16 x19) = cacc (am1 (tin t x3 x4 x8 x9 x16 x18).a1 (tin t x3 x4 x8 x9 x16 x18).p1) (tin t x3 x4 x8 x9 x16 x18).da1 (cacc (am1 (tin t x3 x4 x8 x9 x16 x18).a2 (tin t x3 x4 x8 x9 x16 x18).p2) (tin t x3 x4 x8 x9 x16 x18).da2 (cacc (am1 (tin t x3 x4 x8 x9 x16 x18).a3 (tin t x3 x4 x8 x9 x16 x18).p3) (tin t x3 x4 x8 x9 x16 x18).da3 (rowOf 1 x19))) := by
  unfold runB.sl.v467 runB.sl.H19_10 runB.sl.H19_9 runB.sl.H19_8 runB.sl.r_35
  refine (cov_skip (S := S8x2816) (off := ![0, 0]) (size := S1x2816.size) (off' := ![1, 0]) (size' := S1x2816.size) arg19.view inb_S8x2816_S1x2816_0_0 inb_S8x2816_S1x2816_1_0 _ _ (0 : Fin 2) (by show (1 : ℕ) + 1 ≤ 0 ∨ (0 : ℕ) + 1 ≤ 1; omega)).trans ?_
  refine (cov_skip (S := S8x2816) (off := ![2, 0]) (size := S1x2816.size) (off' := ![1, 0]) (size' := S1x2816.size) arg19.view inb_S8x2816_S1x2816_2_0 inb_S8x2816_S1x2816_1_0 _ _ (0 : Fin 2) (by show (1 : ℕ) + 1 ≤ 2 ∨ (2 : ℕ) + 1 ≤ 1; omega)).trans ?_
  refine (cov_hit (S := S8x2816) (off := ![1, 0]) (size := S1x2816.size) arg19.view inb_S8x2816_S1x2816_1_0 _ _).trans ?_
  rw [s11_eq (hc1 := hc1), m1_eq, da1_eq (hc1 := hc1)]
  rfl

theorem s20_eq : (runB.sl.v475 (grid0.coords t) arg1 harg1 arg3 harg3 arg4 harg4 arg8 harg8 arg9 harg9 arg10 harg10 arg16 harg16 arg19 harg19 hc1 x1 x3 x4 x8 x9 x10 x16 x19) = cacc ((tin t x3 x4 x8 x9 x16 x18).a1) (tin t x3 x4 x8 x9 x16 x18).da1 (cacc ((tin t x3 x4 x8 x9 x16 x18).a2) (tin t x3 x4 x8 x9 x16 x18).da2 (cacc ((tin t x3 x4 x8 x9 x16 x18).a3) (tin t x3 x4 x8 x9 x16 x18).da3 (rowOf 2 x19))) := by
  unfold runB.sl.v475 runB.sl.H19_11 runB.sl.H19_10 runB.sl.H19_9
  refine (cov_skip (S := S8x2816) (off := ![1, 0]) (size := S1x2816.size) (off' := ![2, 0]) (size' := S1x2816.size) arg19.view inb_S8x2816_S1x2816_1_0 inb_S8x2816_S1x2816_2_0 _ _ (0 : Fin 2) (by show (2 : ℕ) + 1 ≤ 1 ∨ (1 : ℕ) + 1 ≤ 2; omega)).trans ?_
  refine (cov_skip (S := S8x2816) (off := ![0, 0]) (size := S1x2816.size) (off' := ![2, 0]) (size' := S1x2816.size) arg19.view inb_S8x2816_S1x2816_0_0 inb_S8x2816_S1x2816_2_0 _ _ (0 : Fin 2) (by show (2 : ℕ) + 1 ≤ 0 ∨ (0 : ℕ) + 1 ≤ 2; omega)).trans ?_
  refine (cov_hit (S := S8x2816) (off := ![2, 0]) (size := S1x2816.size) arg19.view inb_S8x2816_S1x2816_2_0 _ _).trans ?_
  rw [s21_eq (hc1 := hc1), a1_eq, da1_eq (hc1 := hc1)]
  rfl

theorem bb_eq : arg20.view.readAt (Elt F) (Rect.unit (s := S1x2816) ![0, 0] S1x2816.size inb_S1x2816_S1x2816_0_0).toLoadRect (harg20.unread x20) = x20 := by
  rw [View.readAt_eq_ld, harg20.read_unread]
  exact View.ld_unit_zero (S := S1x2816) (funext fun a => by fin_cases a <;> rfl) _ _

theorem sb2_eq : (runB.sl.v248 (grid0.coords t) arg3 harg3 arg8 harg8 arg9 harg9 arg16 harg16 arg20 harg20 hc1 x3 x8 x9 x16 x20) = k0_pay54 (tin t x3 x4 x8 x9 x16 x18).da3 x20 := by
  unfold runB.sl.v248 runB.sl.H20_1
  refine (cov_hit (S := S1x2816) (off := ![0, 0]) (size := S1x2816.size) arg20.view inb_S1x2816_S1x2816_0_0 _ _).trans ?_
  rw [bb_eq, da3_eq (hc1 := hc1)]
  rfl

theorem sb1_eq : (runB.sl.v364 (grid0.coords t) arg1 harg1 arg3 harg3 arg8 harg8 arg9 harg9 arg10 harg10 arg16 harg16 arg20 harg20 hc1 x1 x3 x8 x9 x10 x16 x20) = k0_pay54 (tin t x3 x4 x8 x9 x16 x18).da2 (k0_pay54 (tin t x3 x4 x8 x9 x16 x18).da3 x20) := by
  unfold runB.sl.v364 runB.sl.H20_2
  refine (cov_hit (S := S1x2816) (off := ![0, 0]) (size := S1x2816.size) arg20.view inb_S1x2816_S1x2816_0_0 _ _).trans ?_
  rw [sb2_eq (hc1 := hc1), da2_eq (hc1 := hc1)]

theorem sb0_eq : (runB.sl.v483 (grid0.coords t) arg1 harg1 arg3 harg3 arg8 harg8 arg9 harg9 arg10 harg10 arg16 harg16 arg20 harg20 hc1 x1 x3 x8 x9 x10 x16 x20) = k0_pay54 (tin t x3 x4 x8 x9 x16 x18).da1 (k0_pay54 (tin t x3 x4 x8 x9 x16 x18).da2 (k0_pay54 (tin t x3 x4 x8 x9 x16 x18).da3 x20)) := by
  unfold runB.sl.v483 runB.sl.H20_3
  refine (cov_hit (S := S1x2816) (off := ![0, 0]) (size := S1x2816.size) arg20.view inb_S1x2816_S1x2816_0_0 _ _).trans ?_
  rw [sb1_eq (hc1 := hc1), da1_eq (hc1 := hc1)]
  rfl

theorem q0_eq : arg17.view.readAt (Elt F) (Rect.unit (s := S2x256x5632) (k0_off5 (grid0.coords t)) S1x256x2816.size (k0_off5_inb (grid0.coords t) hc1)).toLoadRect (arg17.view.writes (Elt F) (harg17.unread x17) (runB.sl.H17_2 (grid0.coords t) arg3 harg3 arg8 harg8 arg9 harg9 arg16 harg16 arg18 harg18 hc1 x3 x8 x9 x16 x18)) = duH (otherOf t) 0 x17 := by
  refine dup_read arg17.view _ x17 (otherOf t) 0 _ (o5 t) ?_
  intro y hy
  have hs : (y 0).val = 1 - t.val % 2 := hy
  unfold runB.sl.H17_2
  refine (View.read_writes_cons_unit_of_not_mem (s := S2x256x5632) arg17.view _ (off := k0_off3 (grid0.coords t)) (off' := ![t.val % 2, 192, 2816]) (size := S1x64x2816.size) (k0_off3_inb (grid0.coords t) hc1) _ _ y (o3 t) (0 : Fin 3) (by show (y 0).val < t.val % 2 ∨ t.val % 2 + 1 ≤ (y 0).val; omega)).trans ?_
  refine (View.read_writes_cons_unit_of_not_mem (s := S2x256x5632) arg17.view _ (off := k0_off2 (grid0.coords t)) (off' := ![t.val % 2, 192, 0]) (size := S1x64x2816.size) (k0_off2_inb (grid0.coords t) hc1) _ _ y (o2 t) (0 : Fin 3) (by show (y 0).val < t.val % 2 ∨ t.val % 2 + 1 ≤ (y 0).val; omega)).trans ?_
  exact congrFun (harg17.read_unread x17) y

theorem q1_eq : arg17.view.readAt (Elt F) (Rect.unit (s := S2x256x5632) (k0_off14 (grid0.coords t)) S1x256x2816.size (k0_off14_inb (grid0.coords t) hc1)).toLoadRect (arg17.view.writes (Elt F) (harg17.unread x17) (runB.sl.H17_6 (grid0.coords t) arg1 harg1 arg3 harg3 arg8 harg8 arg9 harg9 arg10 harg10 arg16 harg16 arg18 harg18 hc1 x1 x3 x8 x9 x10 x16 x18)) = duH (otherOf t) 1 x17 := by
  refine dup_read arg17.view _ x17 (otherOf t) 1 _ (o14 t) ?_
  intro y hy
  have hs : (y 0).val = 1 - t.val % 2 := hy
  unfold runB.sl.H17_6 runB.sl.H17_2
  refine (View.read_writes_cons_unit_of_not_mem (s := S2x256x5632) arg17.view _ (off := k0_off12 (grid0.coords t)) (off' := ![t.val % 2, 64, 2816]) (size := S1x64x2816.size) (k0_off12_inb (grid0.coords t) hc1) _ _ y (o12 t) (0 : Fin 3) (by show (y 0).val < t.val % 2 ∨ t.val % 2 + 1 ≤ (y 0).val; omega)).trans ?_
  refine (View.read_writes_cons_unit_of_not_mem (s := S2x256x5632) arg17.view _ (off := k0_off11 (grid0.coords t)) (off' := ![t.val % 2, 64, 0]) (size := S1x64x2816.size) (k0_off11_inb (grid0.coords t) hc1) _ _ y (o11 t) (0 : Fin 3) (by show (y 0).val < t.val % 2 ∨ t.val % 2 + 1 ≤ (y 0).val; omega)).trans ?_
  refine (View.read_writes_cons_unit_of_not_mem (s := S2x256x5632) arg17.view _ (off := k0_off8 (grid0.coords t)) (off' := ![t.val % 2, 128, 2816]) (size := S1x64x2816.size) (k0_off8_inb (grid0.coords t) hc1) _ _ y (o8 t) (0 : Fin 3) (by show (y 0).val < t.val % 2 ∨ t.val % 2 + 1 ≤ (y 0).val; omega)).trans ?_
  refine (View.read_writes_cons_unit_of_not_mem (s := S2x256x5632) arg17.view _ (off := k0_off7 (grid0.coords t)) (off' := ![t.val % 2, 128, 0]) (size := S1x64x2816.size) (k0_off7_inb (grid0.coords t) hc1) _ _ y (o7 t) (0 : Fin 3) (by show (y 0).val < t.val % 2 ∨ t.val % 2 + 1 ≤ (y 0).val; omega)).trans ?_
  refine (View.read_writes_cons_unit_of_not_mem (s := S2x256x5632) arg17.view _ (off := k0_off3 (grid0.coords t)) (off' := ![t.val % 2, 192, 2816]) (size := S1x64x2816.size) (k0_off3_inb (grid0.coords t) hc1) _ _ y (o3 t) (0 : Fin 3) (by show (y 0).val < t.val % 2 ∨ t.val % 2 + 1 ≤ (y 0).val; omega)).trans ?_
  refine (View.read_writes_cons_unit_of_not_mem (s := S2x256x5632) arg17.view _ (off := k0_off2 (grid0.coords t)) (off' := ![t.val % 2, 192, 0]) (size := S1x64x2816.size) (k0_off2_inb (grid0.coords t) hc1) _ _ y (o2 t) (0 : Fin 3) (by show (y 0).val < t.val % 2 ∨ t.val % 2 + 1 ≤ (y 0).val; omega)).trans ?_
  exact congrFun (harg17.read_unread x17) y

theorem u_eq : (runB.sl.r_36 (grid0.coords t) arg1 harg1 arg3 harg3 arg7 harg7 arg8 harg8 arg9 harg9 arg10 harg10 arg16 harg16 arg17 harg17 arg18 harg18 hc1 x1 x3 x7 x8 x9 x10 x16 x17 x18) = k0_pay79 (k0_pay33 (duH (otherOf t) 0 x17) (View.ld x7 (Rect.unit ![0, 0, 0] S1x1024x2816.size inb_S2x1024x2816_S1x1024x2816_0_0_0))) (duH (otherOf t) 1 x17) (View.ld x7 (Rect.unit ![1, 0, 0] S1x1024x2816.size inb_S2x1024x2816_S1x1024x2816_1_0_0)) := by
  unfold runB.sl.r_36 runB.sl.r_14
  rw [q0_eq (hc1 := hc1), q1_eq (hc1 := hc1)]
  simp only [View.readAt_eq_ld, Memref.IsWhole.read_unread]

end Cert.KernelIdeal.Ffn.B

end
-- ==== Proof.Dw.Sums.lean ====
module

public import Mathlib.Algebra.BigOperators.Fin
public import Mathlib.Logic.Equiv.Fin.Basic
public import Mathlib.Algebra.BigOperators.Group.Finset.Sigma

/-! A sum over consecutive numbers, taken a block at a time. -/

@[expose] public section

namespace Cert.Sums

/-- The number of place `k` in block `b`, blocks being `n` long. -/
theorem place_lt {B n : ℕ} (b : Fin B) (k : Fin n) {N : ℕ} (hN : B * n = N) : n * b.val + k.val < N := by
  have hb := b.isLt
  have hk := k.isLt
  calc n * b.val + k.val < n * b.val + n := by omega
    _ = n * (b.val + 1) := (Nat.mul_succ n b.val).symm
    _ ≤ n * B := Nat.mul_le_mul_left _ hb
    _ = N := by rw [Nat.mul_comm]; exact hN

/-- A sum over `B * n` places is the sum over the blocks of the sums within a block. -/
theorem sum_blocks {M : Type*} [AddCommMonoid M] (B n N : ℕ) (hN : B * n = N) (f : Fin N → M) :
    ∑ K, f K = ∑ b : Fin B, ∑ k : Fin n, f ⟨n * b.val + k.val, place_lt b k hN⟩ := by
  subst hN
  rw [← Finset.sum_product', Finset.univ_product_univ]
  refine (Fintype.sum_equiv finProdFinEquiv _ _ fun p => ?_).symm
  congr 1
  apply Fin.ext
  show n * p.1.val + p.2.val = p.2.val + n * p.1.val
  omega

end Cert.Sums
-- ==== Proof.Ffn.Spec.lean ====
module

public import proofs.«01_k».proof.Proof.Ffn.RowsA
public import proofs.«01_k».proof.Proof.Ffn.RowsB
public import proofs.«01_k».proof.Proof.Dw.Sums
public import Idealize.ShloMosaic.Lib.VecWindow

/-! What one point leaves, over the reals: the tile's gradients, the next tile's gate gradient, the accumulators and the residual's gradient. -/

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic Idealize.SL.Sem

/-- The gradient of the projection's output at row `R`, column `q` of the tile. -/
def dupv (p : Tin Ideal) (R q : ℕ) : EReal :=
  if h : q < 2816 then p.gP R ⟨q, h⟩ else if h : q - 2816 < 2816 then p.gW R ⟨q - 2816, h⟩ else 0

theorem dupv_P (p : Tin Ideal) (R : ℕ) (j : Fin 2816) : dupv p R (0 + j.val) = p.gP R j := by
  unfold dupv
  rw [dif_pos (by omega)]
  congr 1
  exact Fin.ext (Nat.zero_add _)

theorem dupv_W (p : Tin Ideal) (R : ℕ) (j : Fin 2816) : dupv p R (2816 + j.val) = p.gW R j := by
  unfold dupv
  rw [dif_neg (by omega), dif_pos (by omega)]
  congr 1
  exact Fin.ext (by show 2816 + j.val - 2816 = j.val; omega)

/-- A sum over the tile's rows, from its four chunks last to first. -/
theorem sum_chunks (f : ℕ → EReal) (g : EReal) :
    g + ∑ r : Fin 64, f (192 + r.val) + ∑ r : Fin 64, f (128 + r.val) + ∑ r : Fin 64, f (64 + r.val) + ∑ r : Fin 64, f (0 + r.val)
      = g + ∑ r : Fin 256, f r.val := by
  have h := Cert.Sums.sum_blocks 4 64 256 (by norm_num) (fun r => f r.val)
  rw [h, Fin.sum_univ_four]
  have e0 : ∀ r : Fin 64, f (0 + r.val) = f (64 * (0 : Fin 4).val + r.val) := fun r => by congr 1
  have e1 : ∀ r : Fin 64, f (64 + r.val) = f (64 * (1 : Fin 4).val + r.val) := fun r => by congr 1
  have e2 : ∀ r : Fin 64, f (128 + r.val) = f (64 * (2 : Fin 4).val + r.val) := fun r => by congr 1
  have e3 : ∀ r : Fin 64, f (192 + r.val) = f (64 * (3 : Fin 4).val + r.val) := fun r => by congr 1
  simp only [e0, e1, e2, e3]
  abel

theorem pay1_zero (i : S8x2816.Idx) : (k0_pay1 : FVec Ideal S8x2816 .f32) i = 0 := by
  unfold k0_pay1; pointwise
theorem pay2_zero (i : S8x2816.Idx) : (k0_pay2 : FVec Ideal S8x2816 .f32) i = 0 := by
  unfold k0_pay2; pointwise
theorem pay3_zero (i : S1x2816.Idx) : (k0_pay3 : FVec Ideal S1x2816 .f32) i = 0 := by
  unfold k0_pay3; pointwise
theorem pay4_zero (i : S1x1024.Idx) : (k0_pay4 : FVec Ideal S1x1024 .f32) i = 0 := by
  unfold k0_pay4; pointwise
theorem pay5_zero (r : Fin 256) (q : Fin 5632) : (k0_pay5 : FVec Ideal S1x256x5632 .bf16) (ix3 0 r q) = 0 := by
  unfold k0_pay5; pointwise

variable (m : (ℓ : Loc nD τ sig) → Buf (Elt Ideal) ℓ)

/-! The blocks of a point. -/

abbrev b0 (c : Dev nD) (t : Fin cfg0.N) : Vec Ideal S256x1024 .f32 := iblk m c 0 t
abbrev b1 (c : Dev nD) (t : Fin cfg0.N) : Vec Ideal S256x1024 .f32 := iblk m c 1 t
abbrev b2 (c : Dev nD) (t : Fin cfg0.N) : Vec Ideal S256x5632 .bf16 := iblk m c 2 t
abbrev b3 (c : Dev nD) (t : Fin cfg0.N) : Vec Ideal S16x2816 .bf16 := iblk m c 3 t
abbrev b4 (c : Dev nD) (t : Fin cfg0.N) : Vec Ideal S256x1024 .f32 := iblk m c 4 t
abbrev b5 (c : Dev nD) (t : Fin cfg0.N) : Vec Ideal S1x1024 .f32 := iblk m c 5 t
abbrev b6 (c : Dev nD) (t : Fin cfg0.N) : Vec Ideal S2x1024x2816 .bf16 := iblk m c 6 t
abbrev b7 (c : Dev nD) (t : Fin cfg0.N) : Vec Ideal S3x2816 .f32 := iblk m c 7 t
abbrev b8 (c : Dev nD) (t : Fin cfg0.N) : Vec Ideal S1x2816 .f32 := iblk m c 8 t
abbrev b9 (c : Dev nD) (t : Fin cfg0.N) : Vec Ideal S2816x1024 .bf16 := iblk m c 9 t

/-- What a point's tile is computed from, with the scratch `R` (after a reset, if any). -/
def tinAt (c : Dev nD) (t : Fin cfg0.N) (R : Scr Ideal) : Tin Ideal :=
  ⟨b2 m c t, b3 m c t, b7 m c t, b8 m c t, BitVec.ofNat 32 (grid0.coords t 0).val, slotOf t, R.dgg, R.carry⟩

/-- The scratch after the first point's resets. -/
def resetScr (c : Dev nD) (t : Fin cfg0.N) (g : Scr Ideal) : Scr Ideal :=
  ⟨resetRing (b1 m c t) (b9 m c t) g.dgg, resetDup g.dup, (k0_pay1 : FVec Ideal S8x2816 .f32), (k0_pay2 : FVec Ideal S8x2816 .f32), (k0_pay3 : FVec Ideal S1x2816 .f32), (k0_pay4 : FVec Ideal S1x1024 .f32)⟩

/-- The gradient of the normalised input at a row of the tile before. -/
def du2 (x7 : Vec Ideal S2x1024x2816 .bf16) (D : Fin 5632 → EReal) (d : Fin 1024) : EReal :=
  ∑ k : Fin 2816, D ⟨0 + k.val, by omega⟩ * x7 (ix3 0 d k) + ∑ k : Fin 2816, D ⟨2816 + k.val, by omega⟩ * x7 (ix3 1 d k)

def du2At (c : Dev nD) (t : Fin cfg0.N) (R : Scr Ideal) (r : Fin 256) (d : Fin 1024) : EReal :=
  du2 (b6 m c t) (fun q => R.dup (ix3 (n0 := 2) (n1 := 256) (n2 := 5632) (otherOf t) r q)) d

theorem ld2_full {a b : ℕ} {e : EltTy} (X : Vec Ideal ⟨2, ![a, b]⟩ e) (inb : ∀ x, (![0, 0] : Fin 2 → ℕ) x + (![a, b] : Fin 2 → ℕ) x ≤ (⟨2, ![a, b]⟩ : Shape).size x) :
    View.ld X (Rect.unit (s := ⟨2, ![a, b]⟩) ![0, 0] ![a, b] inb) = X :=
  View.ld_unit_zero (S := ⟨2, ![a, b]⟩) (funext fun a => by fin_cases a <;> rfl) _ _

theorem u_apply (x7 : Vec Ideal S2x1024x2816 .bf16) (o : Fin 2) (D : Vec Ideal S2x256x5632 .bf16) (r : Fin 256) (d : Fin 1024) :
    k0_pay79 (k0_pay33 (duH o 0 D) (View.ld x7 (Rect.unit ![0, 0, 0] S1x1024x2816.size inb_S2x1024x2816_S1x1024x2816_0_0_0)))
      (duH o 1 D) (View.ld x7 (Rect.unit ![1, 0, 0] S1x1024x2816.size inb_S2x1024x2816_S1x1024x2816_1_0_0)) (ix2 r d)
      = du2 x7 (fun q => D (ix3 (n0 := 2) (n1 := 256) (n2 := 5632) o r q)) d := by
  rw [pay79_apply, pay33_apply]
  refine congrArg₂ (· + ·) (Finset.sum_congr rfl fun k _ => congrArg₂ (· * ·) ?_ ?_) (Finset.sum_congr rfl fun k _ => congrArg₂ (· * ·) ?_ ?_)
  · rfl
  · refine Cert.Canon.ld_at (S := S2x1024x2816) (off := ![0, 0, 0]) (size := S1x1024x2816.size) x7 _ _ (ix3 0 d k) fun a => ?_
    match a with
    | ⟨0, _⟩ => rfl
    | ⟨1, _⟩ => show d.val = 0 + d.val; omega
    | ⟨2, _⟩ => show k.val = 0 + k.val; omega
  · rfl
  · refine Cert.Canon.ld_at (S := S2x1024x2816) (off := ![1, 0, 0]) (size := S1x1024x2816.size) x7 _ _ (ix3 1 d k) fun a => ?_
    match a with
    | ⟨0, _⟩ => rfl
    | ⟨1, _⟩ => show d.val = 0 + d.val; omega
    | ⟨2, _⟩ => show k.val = 0 + k.val; omega

/-- The product of the projection's gradient of the tile before with the projection's weights. -/
def duP (x7 : Vec Ideal S2x1024x2816 .bf16) (o : Fin 2) (D : Vec Ideal S2x256x5632 .bf16) : FVec Ideal S256x1024 .f32 :=
  k0_pay79 (k0_pay33 (duH o 0 D) (View.ld x7 (Rect.unit ![0, 0, 0] S1x1024x2816.size inb_S2x1024x2816_S1x1024x2816_0_0_0)))
      (duH o 1 D) (View.ld x7 (Rect.unit ![1, 0, 0] S1x1024x2816.size inb_S2x1024x2816_S1x1024x2816_1_0_0))

theorem out11_val (x7 : Vec Ideal S2x1024x2816 .bf16) (o : Fin 2) (D : Vec Ideal S2x256x5632 .bf16) (x c : Vec Ideal S256x1024 .f32) (w : Vec Ideal S1x1024 .f32) (r : Fin 256) (d : Fin 1024) :
    k0_pay100 (duP x7 o D) (View.ld x (Rect.unit ![0, 0] S256x1024.size inb_S256x1024_S256x1024_0_0)) (View.ld c (Rect.unit ![0, 0] S256x1024.size inb_S256x1024_S256x1024_0_0)) (View.ld w (Rect.unit ![0, 0] S1x1024.size inb_S1x1024_S1x1024_0_0)) (ix2 r d)
      = gH (du2 x7 (fun q => D (ix3 (n0 := 2) (n1 := 256) (n2 := 5632) o r q))) (fun e => x (ix2 r e)) (fun e => c (ix2 r e)) (fun e => w (ix2 0 e)) d := by
  have e1 : ∀ x : Vec Ideal S256x1024 .f32, View.ld x (Rect.unit ![0, 0] S256x1024.size inb_S256x1024_S256x1024_0_0) = x := fun x => ld2_full (a := 256) (b := 1024) x _
  have e2 : View.ld w (Rect.unit ![0, 0] S1x1024.size inb_S1x1024_S1x1024_0_0) = w := ld2_full (a := 1) (b := 1024) w _
  rw [e1, e1, e2, pay100_apply]
  congr 1
  funext e
  exact u_apply x7 o D r e

theorem accN_val (x7 : Vec Ideal S2x1024x2816 .bf16) (o : Fin 2) (D : Vec Ideal S2x256x5632 .bf16) (x : Vec Ideal S256x1024 .f32) (g : Vec Ideal S1x1024 .f32) (d : Fin 1024) :
    k0_pay7 (k0_pay101 (duP x7 o D) 1#1 (View.ld x (Rect.unit ![0, 0] S256x1024.size inb_S256x1024_S256x1024_0_0)) (View.ld g (Rect.unit ![0, 0] S1x1024.size inb_S1x1024_S1x1024_0_0))) (ix2 0 d)
      = g (ix2 0 d) + ∑ r : Fin 256, du2 x7 (fun q => D (ix3 (n0 := 2) (n1 := 256) (n2 := 5632) o r q)) d * (x (ix2 r d) * gR (fun e => x (ix2 r e))) := by
  have e1 : View.ld x (Rect.unit ![0, 0] S256x1024.size inb_S256x1024_S256x1024_0_0) = x := ld2_full (a := 256) (b := 1024) x _
  have e2 : View.ld g (Rect.unit ![0, 0] S1x1024.size inb_S1x1024_S1x1024_0_0) = g := ld2_full (a := 1) (b := 1024) g _
  rw [e1, e2, pay7_apply, pay101_one]
  refine congrArg (_ + ·) (Finset.sum_congr rfl fun r _ => congrArg (· * _) (u_apply x7 o D r d))

theorem gate_apply (o n : ℕ) (ho : o + n ≤ 2816) (x1 : Vec Ideal S256x1024 .f32) (x10 : Vec Ideal S2816x1024 .bf16) (r : Fin 256) (j : Fin 2816) (x2 : Fin n) (hq : j.val = o + x2.val)
    (inb : ∀ a, (![o, 0] : Fin 2 → ℕ) a + (![n, 1024] : Fin 2 → ℕ) a ≤ S2816x1024.size a) :
    ∑ d : Fin 1024, k0_pay11 (View.ld x1 (Rect.unit ![0, 0] S256x1024.size inb_S256x1024_S256x1024_0_0)) (ix2 r d) * (View.ld x10 (Rect.unit (s := S2816x1024) ![o, 0] ![n, 1024] inb) : Vec Ideal ⟨2, ![n, 1024]⟩ .bf16) (ix2 x2 d)
      = ∑ d : Fin 1024, x1 (ix2 r d) * x10 (ix2 j d) := by
  refine Finset.sum_congr rfl fun d _ => congrArg₂ (· * ·) ?_ ?_
  · rw [pay11_apply]
    exact congrFun (ld2_full (a := 256) (b := 1024) x1 _) _
  · refine Cert.Canon.ld_at (S := S2816x1024) (off := ![o, 0]) (size := ![n, 1024]) x10 _ _ (ix2 j d) fun a => ?_
    match a with
    | ⟨0, _⟩ => exact hq
    | ⟨1, _⟩ => show d.val = 0 + d.val; omega

theorem row_sum (p : Tin Ideal) (k : ℕ) (X0 X1 X2 X3 : FVec Ideal S64x2816 .f32) (g : Vec Ideal S1x2816 .f32) (j : Fin 2816)
    (h0 : ∀ r : Fin 64, X0 (ix2 r j) = p.gE (0 + r.val + k) j) (h1 : ∀ r : Fin 64, X1 (ix2 r j) = p.gE (64 + r.val + k) j)
    (h2 : ∀ r : Fin 64, X2 (ix2 r j) = p.gE (128 + r.val + k) j) (h3 : ∀ r : Fin 64, X3 (ix2 r j) = p.gE (192 + r.val + k) j) :
    cacc X0 p.da0 (cacc X1 p.da1 (cacc X2 p.da2 (cacc X3 p.da3 g))) (ix2 0 j) = g (ix2 0 j) + ∑ r : Fin 256, p.gA r.val j * p.gE (r.val + k) j := by
  rw [cacc_apply, cacc_apply, cacc_apply, cacc_apply]
  simp only [h0, h1, h2, h3, p.da0_apply, p.da1_apply, p.da2_apply, p.da3_apply]
  exact sum_chunks (fun R => p.gA R j * p.gE (R + k) j) _

theorem bias_sum (p : Tin Ideal) (g : Vec Ideal S1x2816 .f32) (j : Fin 2816) :
    k0_pay54 p.da0 (k0_pay54 p.da1 (k0_pay54 p.da2 (k0_pay54 p.da3 g))) (ix2 0 j) = g (ix2 0 j) + ∑ r : Fin 256, p.gA r.val j := by
  rw [pay54_apply, pay54_apply, pay54_apply, pay54_apply]
  simp only [p.da0_apply, p.da1_apply, p.da2_apply, p.da3_apply]
  exact sum_chunks (fun R => p.gA R j) _

/-- What a point before the last leaves, from the scratch `R` it starts on. -/
structure PointSpec (c : Dev nD) (t : Fin cfg0.N) (R g' : Scr Ideal) (X10 : Vec Ideal S256x5632 .bf16) (X11 : Vec Ideal S256x1024 .f32) : Prop where
  carry : ∀ (q : Fin 8) (j : Fin 2816), g'.carry (ix2 q j) = (tinAt m c t R).gA q.val j
  dgg : ∀ (r : Fin 256) (j : Fin 2816), g'.dgg (ix3 (n0 := 2) (n1 := 256) (n2 := 2816) (otherOf t) r j) = ∑ d : Fin 1024, b0 m c t (ix2 r d) * b9 m c t (ix2 j d)
  dup : ∀ (r : Fin 256) (q : Fin 5632), g'.dup (ix3 (n0 := 2) (n1 := 256) (n2 := 5632) (slotOf t) r q) = dupv (tinAt m c t R) r.val q.val
  out10 : ∀ (r : Fin 256) (q : Fin 5632), X10 (ix2 r q) = dupv (tinAt m c t R) r.val q.val
  accW : ∀ (k : Fin 3) (j : Fin 2816), g'.accW (ix2 (n0 := 8) (n1 := 2816) ⟨k.val, by omega⟩ j) = R.accW (ix2 (n0 := 8) (n1 := 2816) ⟨k.val, by omega⟩ j) + ∑ r : Fin 256, (tinAt m c t R).gA r.val j * (tinAt m c t R).gE (r.val + (6 + k.val)) j
  accB : ∀ (j : Fin 2816), g'.accB (ix2 0 j) = R.accB (ix2 0 j) + ∑ r : Fin 256, (tinAt m c t R).gA r.val j
  out11 : ∀ (r : Fin 256) (d : Fin 1024), X11 (ix2 r d) = gH (du2At m c t R r) (fun e => b4 m c t (ix2 r e)) (fun e => b1 m c t (ix2 r e)) (fun e => b5 m c t (ix2 0 e)) d
  accN : ∀ (d : Fin 1024), g'.accN (ix2 0 d) = R.accN (ix2 0 d) + (if 0 < t.val then ∑ r : Fin 256, du2At m c t R r d * (b4 m c t (ix2 r d) * gR (fun e => b4 m c t (ix2 r e))) else 0)

end Cert.KernelIdeal.Ffn

end
-- ==== Proof.Ffn.Data.lean ====
module

public import proofs.«01_k».proof.Proof.Ffn.Chunk

/-! The feed-forward block's gradients as functions of a row of the whole array, in the kernel's spelling. -/

@[expose] public section

noncomputable section

namespace Cert.KernelIdeal.Ffn

open Cert.KernelIdeal Cert.KernelIdeal.Gen
open Idealize.ShloMosaic Idealize.ShloMosaic.TcCoe Idealize.SL.Sem

/-- The operands by row: the incoming gradient, the residual stream, the projection's output, and the weights. -/
structure Data where
  ct : ℕ → Fin 1024 → EReal
  h : ℕ → Fin 1024 → EReal
  up : ℕ → Fin 5632 → EReal
  wn : Fin 1024 → EReal
  wu : Fin 1024 → Fin 5632 → EReal
  cw : Fin 3 → Fin 2816 → EReal
  cb : Fin 2816 → EReal
  wd : Fin 2816 → Fin 1024 → EReal

variable (D : Data)

/-- The gate's input with two rows of zeros before it. -/
def Data.eA (N : ℕ) (j : Fin 2816) : EReal := if N < 2 then 0 else D.up (N - 2) ⟨j.val, by omega⟩
/-- The convolution. -/
def Data.conv (N : ℕ) (j : Fin 2816) : EReal := gConv (D.cw 0 j) (D.cw 1 j) (D.cw 2 j) (D.cb j) (D.eA N j) (D.eA (N + 1) j) (D.eA (N + 2) j)
/-- The gradient of the gated product. -/
def Data.dg (N : ℕ) (j : Fin 2816) : EReal := ∑ d : Fin 1024, D.ct N d * D.wd j d
/-- The convolution's gradient, no row past the last. -/
def Data.da (N : ℕ) (j : Fin 2816) : EReal := if N < 8448 then gDa (D.dg N j) (D.up N ⟨2816 + j.val, by omega⟩) (D.conv N j) else 0
/-- The gated half's gradient. -/
def Data.dv (N : ℕ) (j : Fin 2816) : EReal := gDv (D.dg N j) (D.conv N j)
/-- The gate input's gradient. -/
def Data.dp (N : ℕ) (j : Fin 2816) : EReal := D.cw 2 j * D.da N j + D.cw 1 j * D.da (N + 1) j + D.cw 0 j * D.da (N + 2) j
/-- The gradient of the projection's output. -/
def Data.dup (N : ℕ) (q : Fin 5632) : EReal := if h : q.val < 2816 then D.dp N ⟨q.val, h⟩ else D.dv N ⟨q.val - 2816, by omega⟩
/-- The gradient of the normalised rows. -/
def Data.du (N : ℕ) (d : Fin 1024) : EReal :=
  ∑ k : Fin 2816, D.dup N ⟨0 + k.val, by omega⟩ * D.wu d ⟨0 + k.val, by omega⟩ + ∑ k : Fin 2816, D.dup N ⟨2816 + k.val, by omega⟩ * D.wu d ⟨2816 + k.val, by omega⟩
/-- The residual stream's gradient. -/
def Data.dh (N : ℕ) (d : Fin 1024) : EReal := gH (D.du N) (D.h N) (D.ct N) D.wn d
/-- A row's part of a convolution weight's gradient. -/
def Data.tw (k : Fin 3) (j : Fin 2816) (N : ℕ) : EReal := D.da N j * D.eA (N + k.val) j
/-- A row's part of the norm weight's gradient. -/
def Data.tn (d : Fin 1024) (N : ℕ) : EReal := D.du N d * (D.h N d * gR (D.h N))

end Cert.KernelIdeal.Ffn

end
-- ==== Proof.Ffn.Blocks.lean ====
module

public import proofs.«01_k».proof.Proof.Ffn.Spec
public import proofs.«01_k».proof.Proof.Ffn.Data
public import Idealize.ShloMosaic.Lib.StableHlo.Run
public import Idealize.ShloMosaic.Lib.IdealHost
public import Idealize.ShloMosaic.Lib.Pointwise

/-! The blocks of a grid point, read off the arrays as the host leaves them. -/

@[expose] public section

set_option maxRecDepth 16384

noncomputable section

namespace Cert.KernelIdeal.Ffn

open Cert.KernelIdeal Cert.KernelIdeal.Gen
open Idealize.ShloMosaic Idealize.ShloMosaic.TcCoe Idealize.SL.Sem Idealize.ShloMosaic.StableHlo

/-- The projection's output, as the host computes it. -/
def upF {F : FTy → Type} [FloatOps F] (h : FVec F S8448x1024 .f32) (w : FVec F S1x1024 .f32) (wu : FVec F S1024x5632 .f32) : FVec F S8448x5632 .f32 :=
  Host.dotGeneral dot_S8448x1024_S1024x5632_S8448x5632_1_0_0_1_n_n none
    (mulf (mulf h (broadcastInDim S8448x1024 ![0, 1] bcast_S8448x1_S8448x1024_0_1 (Host.rsqrt (addf (Host.divf (broadcastInDim S8448x1 ![0] bcast_S8448_S8448x1_0 (Host.reduceAdd (mulf h h) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32))))))
      (broadcastInDim S8448x1024 ![0, 1] bcast_S1x1024_S8448x1024_0_1 w)) wu

section V
variable {F : FTy → Type} [FloatOps F]
variable (m : (ℓ : Loc nD τ sig) → Buf (Elt F) ℓ)

theorem V_v13 (c : Dev nD) : V m c main_v13
    = truncf .bf16 (upF (m ((c : Thread nD τ).loc main_arg1)) (m ((c : Thread nD τ).loc main_arg2)) (m ((c : Thread nD τ).loc main_arg3))) bitsLt_bf16_f32 := by
  unfold V
  after_results <;> rfl

theorem V_v16 (c : Dev nD) : V m c main_v16
    = truncf .bf16 (transpose S2x1024x2816 [1, 0, 2] (shapeCast S1024x2x2816 (m ((c : Thread nD τ).loc main_arg3)) shapeCasts_S1024x5632_S1024x2x2816) transposes_S1024x2x2816_S2x1024x2816_1_0_2) bitsLt_bf16_f32 := by
  unfold V
  after_results <;> rfl

theorem V_v17 (c : Dev nD) : V m c main_v17 = truncf .bf16 (m ((c : Thread nD τ).loc main_arg6)) bitsLt_bf16_f32 := by
  unfold V
  after_results <;> rfl
end V

/-! Index maps, decided over the grid. -/
theorem idx0 : ∀ t : Fin cfg0.N, win0_0.index t (0 : Fin 2) = 31 - t.val ∧ win0_0.index t (1 : Fin 2) = 0 :=
  (by decide +kernel : ∀ t : Fin grid0.N, _)
theorem idx1 : ∀ t : Fin cfg0.N, win0_1.index t (0 : Fin 2) = min (33 - t.val) 32 ∧ win0_1.index t (1 : Fin 2) = 0 :=
  (by decide +kernel : ∀ t : Fin grid0.N, _)
theorem idx2 : ∀ t : Fin cfg0.N, win0_2.index t (0 : Fin 2) = 32 - t.val ∧ win0_2.index t (1 : Fin 2) = 0 :=
  (by decide +kernel : ∀ t : Fin grid0.N, _)
theorem idx3 : ∀ t : Fin cfg0.N, win0_3.index t (0 : Fin 2) = 16 * (32 - t.val) - 1 ∧ win0_3.index t (1 : Fin 2) = 0 :=
  (by decide +kernel : ∀ t : Fin grid0.N, _)
theorem idx4 : ∀ t : Fin cfg0.N, win0_4.index t (0 : Fin 2) = min (33 - t.val) 32 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)

/-- A row of an array, zero past its end. -/
def rowN {n : ℕ} (X : Vec Ideal ⟨2, ![8448, n]⟩ .f32) (N : ℕ) (d : Fin n) : EReal := if h : N < 8448 then X (ix2 ⟨N, h⟩ d) else 0

theorem rowN_eq {n : ℕ} (X : Vec Ideal ⟨2, ![8448, n]⟩ .f32) (N : ℕ) (d : Fin n) (h : N < 8448) : rowN X N d = X (ix2 ⟨N, h⟩ d) := dif_pos h

variable (m : (ℓ : Loc nD τ sig) → Buf (Elt Ideal) ℓ)

/-- The operands of device `c`. -/
def data (c : Dev nD) : Data where
  ct := rowN (m ((c : Thread nD τ).loc main_arg0) : Vec Ideal S8448x1024 .f32)
  h := rowN (m ((c : Thread nD τ).loc main_arg1) : Vec Ideal S8448x1024 .f32)
  up := rowN (upF (F := Ideal) (m ((c : Thread nD τ).loc main_arg1)) (m ((c : Thread nD τ).loc main_arg2)) (m ((c : Thread nD τ).loc main_arg3)))
  wn := fun d => (m ((c : Thread nD τ).loc main_arg2) : Vec Ideal S1x1024 .f32) (ix2 0 d)
  wu := fun d q => (m ((c : Thread nD τ).loc main_arg3) : Vec Ideal S1024x5632 .f32) (ix2 d q)
  cw := fun k j => (m ((c : Thread nD τ).loc main_arg4) : Vec Ideal S3x2816 .f32) (ix2 k j)
  cb := fun j => (m ((c : Thread nD τ).loc main_arg5) : Vec Ideal S1x2816 .f32) (ix2 0 j)
  wd := fun j d => (m ((c : Thread nD τ).loc main_arg6) : Vec Ideal S2816x1024 .f32) (ix2 j d)

/-- The projection's weights, cut in two halves of columns. -/
theorem wt_apply (W : Vec Ideal S1024x5632 .f32) (s : Fin 2) (d : Fin 1024) (k : Fin 2816) :
    (truncf .bf16 (transpose S2x1024x2816 [1, 0, 2] (shapeCast S1024x2x2816 W shapeCasts_S1024x5632_S1024x2x2816) transposes_S1024x2x2816_S2x1024x2816_1_0_2) bitsLt_bf16_f32 : FVec Ideal S2x1024x2816 .bf16) (ix3 s d k)
      = W (ix2 d ⟨2816 * s.val + k.val, by omega⟩) := by
  pointwise
  congr 1
  funext a
  apply Fin.ext
  match a with
  | ⟨0, _⟩ => dsimp
  | ⟨1, _⟩ => dsimp; omega

section Blocks
variable (c : Dev nD) (t : Fin cfg0.N)

theorem t_lt : t.val < 34 := Nat.lt_of_lt_of_eq t.isLt N_0

theorem blk0 (r : Fin 256) (d : Fin 1024) : b0 m c t (ix2 r d) = (data m c).ct (256 * (31 - t.val) + r.val) d := by
  have hi := idx0 t
  show _ = rowN _ _ _
  rw [rowN_eq _ _ _ (by omega)]
  unfold b0 iblk
  rw [View.read_apply]
  show V m c main_arg0 _ = _
  rw [V_main_arg0]
  congr 1
  funext a
  apply Fin.ext
  match a with
  | ⟨0, _⟩ => show win0_0.index t 0 * 256 + 1 * r.val = 256 * (31 - t.val) + r.val; rw [hi.1]; omega
  | ⟨1, _⟩ => show win0_0.index t 1 * 1024 + 1 * d.val = d.val; rw [hi.2]; omega

theorem blk1 (r : Fin 256) (d : Fin 1024) : b1 m c t (ix2 r d) = (data m c).ct (256 * min (33 - t.val) 32 + r.val) d := by
  have hi := idx1 t
  show _ = rowN _ _ _
  rw [rowN_eq _ _ _ (by omega)]
  unfold b1 iblk
  rw [View.read_apply]
  show V m c main_arg0 _ = _
  rw [V_main_arg0]
  congr 1
  funext a
  apply Fin.ext
  match a with
  | ⟨0, _⟩ => show win0_1.index t 0 * 256 + 1 * r.val = 256 * min (33 - t.val) 32 + r.val; rw [hi.1]; omega
  | ⟨1, _⟩ => show win0_1.index t 1 * 1024 + 1 * d.val = d.val; rw [hi.2]; omega

theorem blk2 (r : Fin 256) (q : Fin 5632) : b2 m c t (ix2 r q) = (data m c).up (256 * (32 - t.val) + r.val) q := by
  have hi := idx2 t
  show _ = rowN _ _ _
  rw [rowN_eq _ _ _ (by omega)]
  unfold b2 iblk
  rw [View.read_apply]
  show V m c main_v13 _ = _
  rw [V_v13]
  show upF (F := Ideal) _ _ _ _ = _
  congr 1
  funext a
  apply Fin.ext
  match a with
  | ⟨0, _⟩ => show win0_2.index t 0 * 256 + 1 * r.val = 256 * (32 - t.val) + r.val; rw [hi.1]; omega
  | ⟨1, _⟩ => show win0_2.index t 1 * 5632 + 1 * q.val = q.val; rw [hi.2]; omega

theorem blk3 (ht : t.val < 32) (r : Fin 16) (j : Fin 2816) : b3 m c t (ix2 r j) = (data m c).up (256 * (32 - t.val) - 16 + r.val) ⟨j.val, by omega⟩ := by
  have hi := idx3 t
  show _ = rowN _ _ _
  rw [rowN_eq _ _ _ (by omega)]
  unfold b3 iblk
  rw [View.read_apply]
  show V m c main_v13 _ = _
  rw [V_v13]
  show upF (F := Ideal) _ _ _ _ = _
  congr 1
  funext a
  apply Fin.ext
  match a with
  | ⟨0, _⟩ => show win0_3.index t 0 * 16 + 1 * r.val = 256 * (32 - t.val) - 16 + r.val; rw [hi.1]; omega
  | ⟨1, _⟩ => show win0_3.index t 1 * 2816 + 1 * j.val = j.val; rw [hi.2]; omega

theorem blk4 (r : Fin 256) (d : Fin 1024) : b4 m c t (ix2 r d) = (data m c).h (256 * min (33 - t.val) 32 + r.val) d := by
  have hi := idx4 t
  show _ = rowN _ _ _
  rw [rowN_eq _ _ _ (by omega)]
  unfold b4 iblk
  rw [View.read_apply]
  show V m c main_arg1 _ = _
  rw [V_main_arg1]
  congr 1
  funext a
  apply Fin.ext
  match a with
  | ⟨0, _⟩ => show win0_4.index t 0 * 256 + 1 * r.val = 256 * min (33 - t.val) 32 + r.val; rw [hi.1]; omega
  | ⟨1, _⟩ => show win0_4.index t 1 * 1024 + 1 * d.val = d.val; rw [hi.2]; omega

theorem blk5 (d : Fin 1024) : b5 m c t (ix2 0 d) = (data m c).wn d := by
  have hi := idx5 t
  unfold b5 iblk
  rw [View.read_apply]
  show V m c main_arg2 _ = _
  rw [V_main_arg2]
  unfold data
  congr 1
  funext a
  apply Fin.ext
  match a with
  | ⟨0, _⟩ => show win0_5.index t 0 * 1 + 1 * 0 = 0; rw [hi.1]
  | ⟨1, _⟩ => show win0_5.index t 1 * 1024 + 1 * d.val = d.val; rw [hi.2]; omega

theorem blk6 (s : Fin 2) (d : Fin 1024) (k : Fin 2816) : b6 m c t (ix3 s d k) = (data m c).wu d ⟨2816 * s.val + k.val, by omega⟩ := by
  have hi := idx6 t
  unfold b6 iblk
  rw [View.read_apply]
  show V m c main_v16 _ = _
  rw [V_v16]
  refine (congrArg _ ?_).trans (wt_apply (m ((c : Thread nD τ).loc main_arg3)) s d k)
  funext a
  apply Fin.ext
  match a with
  | ⟨0, _⟩ => show win0_6.index t 0 * 2 + 1 * s.val = s.val; rw [hi.1]; omega
  | ⟨1, _⟩ => show win0_6.index t 1 * 1024 + 1 * d.val = d.val; rw [hi.2.1]; omega
  | ⟨2, _⟩ => show win0_6.index t 2 * 2816 + 1 * k.val = k.val; rw [hi.2.2]; omega

theorem blk7 (k : Fin 3) (j : Fin 2816) : b7 m c t (ix2 k j) = (data m c).cw k j := by
  have hi := idx7 t
  unfold b7 iblk
  rw [View.read_apply]
  show V m c main_arg4 _ = _
  rw [V_main_arg4]
  unfold data
  congr 1
  funext a
  apply Fin.ext
  match a with
  | ⟨0, _⟩ => show win0_7.index t 0 * 3 + 1 * k.val = k.val; rw [hi.1]; omega
  | ⟨1, _⟩ => show win0_7.index t 1 * 2816 + 1 * j.val = j.val; rw [hi.2]; omega

theorem blk8 (j : Fin 2816) : b8 m c t (ix2 0 j) = (data m c).cb j := by
  have hi := idx8 t
  unfold b8 iblk
  rw [View.read_apply]
  show V m c main_arg5 _ = _
  rw [V_main_arg5]
  unfold data
  congr 1
  funext a
  apply Fin.ext
  match a with
  | ⟨0, _⟩ => show win0_8.index t 0 * 1 + 1 * 0 = 0; rw [hi.1]
  | ⟨1, _⟩ => show win0_8.index t 1 * 2816 + 1 * j.val = j.val; rw [hi.2]; omega

theorem blk9 (j : Fin 2816) (d : Fin 1024) : b9 m c t (ix2 j d) = (data m c).wd j d := by
  have hi := idx9 t
  unfold b9 iblk
  rw [View.read_apply]
  show V m c main_v17 _ = _
  rw [V_v17]
  show (m ((c : Thread nD τ).loc main_arg6) : Vec Ideal S2816x1024 .f32) _ = _
  unfold data
  congr 1
  funext a
  apply Fin.ext
  match a with
  | ⟨0, _⟩ => show win0_9.index t 0 * 2816 + 1 * j.val = j.val; rw [hi.1]; omega
  | ⟨1, _⟩ => show win0_9.index t 1 * 1024 + 1 * d.val = d.val; rw [hi.2]; omega

end Blocks

end Cert.KernelIdeal.Ffn

end
-- ==== Proof.Ffn.Inv.lean ====
module

public import proofs.«01_k».proof.Proof.Ffn.Blocks

/-! The invariant of the sweep over the tiles, last to first, and that a point keeps it. -/

@[expose] public section

set_option maxRecDepth 16384

noncomputable section

namespace Cert.KernelIdeal.Ffn

open Cert.KernelIdeal Cert.KernelIdeal.Gen
open Idealize.ShloMosaic Idealize.ShloMosaic.TcCoe Idealize.SL.Sem

/-- The first conditional's word: whether the tile has rows before it. -/
theorem before_word (n : ℕ) (hn : n < 34) : Scalar.cmpi .sgt (Scalar.subi 32#32 (BitVec.ofNat 32 n)) 0#32 = if n < 32 then 1#1 else 0#1 := by
  revert n
  decide +kernel

theorem pay10_apply (n : ℕ) (hn : n < 34) (x : Vec Ideal S16x2816 .bf16) (q : Fin 8) (j : Fin 2816) :
    k0_pay10 (BitVec.ofNat 32 n) x (ix2 q j) = if n < 32 then x (ix2 ⟨8 + q.val, by omega⟩ j) else 0 := by
  unfold k0_pay10
  rw [before_word n hn]
  split
  · rw [Scalar.select, if_pos (by decide)]
    pointwise
  · rw [Scalar.select, if_neg (by decide)]
    pointwise

variable (m : (ℓ : Loc nD τ sig) → Buf (Elt Ideal) ℓ)

/-- The invariant before point `s`: what the six scratch buffers hold. -/
structure Inv (c : Dev nD) (s : ℕ) (R : Scr Ideal) : Prop where
  dgg : s < 33 → ∀ (r : Fin 256) (j : Fin 2816), R.dgg (ix3 (n0 := 2) (n1 := 256) (n2 := 2816) ⟨s % 2, by omega⟩ r j) = (data m c).dg (256 * (32 - s) + r.val) j
  dup : ∀ (r : Fin 256) (q : Fin 5632), 0 < s → R.dup (ix3 (n0 := 2) (n1 := 256) (n2 := 5632) ⟨1 - s % 2, by omega⟩ r q) = (data m c).dup (256 * (33 - s) + r.val) q
  carry : ∀ (q : Fin 8) (j : Fin 2816), R.carry (ix2 q j) = (data m c).da (256 * (33 - s) + q.val) j
  accW : ∀ (k : Fin 3) (j : Fin 2816), R.accW (ix2 (n0 := 8) (n1 := 2816) ⟨k.val, by omega⟩ j) = ∑ i ∈ Finset.range (256 * s), (data m c).tw k j (256 * (33 - s) + i)
  accB : ∀ (j : Fin 2816), R.accB (ix2 0 j) = ∑ i ∈ Finset.range (256 * s), (data m c).da (256 * (33 - s) + i) j
  accN : ∀ (d : Fin 1024), R.accN (ix2 0 d) = ∑ i ∈ Finset.range (256 * (s - 1)), (data m c).tn d (256 * (33 - (s - 1)) + i)

section Tile
variable (c : Dev nD) (t : Fin cfg0.N) (ht : t.val < 33) (R : Scr Ideal) (hI : Inv m c t.val R)
include ht hI

theorem gE_eq (ρ : ℕ) (h6 : 6 ≤ ρ) (hρ : ρ < 264) (j : Fin 2816) : (tinAt m c t R).gE ρ j = (data m c).eA (256 * (32 - t.val) + (ρ - 6)) j := by
  unfold Tin.gE Data.eA
  by_cases h : ρ < 8
  · rw [dif_pos h]
    show k0_pay10 (BitVec.ofNat 32 (grid0.coords t 0).val) (View.ld (b3 m c t) (Rect.unit ![0, 0] S16x2816.size inb_S16x2816_S16x2816_0_0)) (ix2 ⟨ρ, h⟩ j) = _
    rw [coords0, pay10_apply _ (t_lt t), ld2_full (a := 16) (b := 2816) (b3 m c t)]
    by_cases h2 : t.val < 32
    · rw [if_pos h2, blk3 m c t h2, if_neg (by omega)]
      congr 1
      show 256 * (32 - t.val) - 16 + (8 + ρ) = _
      omega
    · rw [if_neg h2, if_pos (by omega)]
  · rw [dif_neg h, dif_pos (by omega), if_neg (by omega)]
    refine (blk2 m c t _ _).trans ?_
    congr 1
    show 256 * (32 - t.val) + (ρ - 8) = _
    omega

theorem gC_eq (r : ℕ) (hr : r < 256) (j : Fin 2816) : (tinAt m c t R).gC r j = (data m c).conv (256 * (32 - t.val) + r) j := by
  unfold Tin.gC Data.conv
  rw [gE_eq m c t ht R hI (r + 6) (by omega) (by omega), gE_eq m c t ht R hI (r + 7) (by omega) (by omega), gE_eq m c t ht R hI (r + 8) (by omega) (by omega)]
  rw [show r + 6 - 6 = r by omega, show r + 7 - 6 = r + 1 by omega, show r + 8 - 6 = r + 2 by omega]
  show gConv (b7 m c t (ix2 0 j)) (b7 m c t (ix2 1 j)) (b7 m c t (ix2 2 j)) (b8 m c t (ix2 0 j)) _ _ _ = _
  rw [blk7, blk7, blk7, blk8]
  rfl

theorem gD_eq (r : ℕ) (hr : r < 256) (j : Fin 2816) : (tinAt m c t R).gD r j = (data m c).dg (256 * (32 - t.val) + r) j := by
  unfold Tin.gD
  rw [dif_pos hr]
  exact hI.dgg ht ⟨r, hr⟩ j

theorem gV_eq (r : ℕ) (hr : r < 256) (j : Fin 2816) : (tinAt m c t R).gV r j = (data m c).up (256 * (32 - t.val) + r) ⟨2816 + j.val, by omega⟩ := by
  unfold Tin.gV
  rw [dif_pos hr]
  exact blk2 m c t _ _

theorem gA_eq (r : ℕ) (hr : r < 256) (j : Fin 2816) : (tinAt m c t R).gA r j = (data m c).da (256 * (32 - t.val) + r) j := by
  unfold Tin.gA Data.da
  rw [gD_eq m c t ht R hI r hr, gV_eq m c t ht R hI r hr, gC_eq m c t ht R hI r hr, if_pos (by omega)]

theorem gAE_eq (r : ℕ) (hr : r < 264) (j : Fin 2816) : (tinAt m c t R).gAE r j = (data m c).da (256 * (32 - t.val) + r) j := by
  unfold Tin.gAE
  by_cases h : r < 256
  · rw [if_pos h, gA_eq m c t ht R hI r h]
  · rw [if_neg h, dif_pos (by omega)]
    refine (hI.carry _ j).trans ?_
    congr 1
    show 256 * (33 - t.val) + (r - 256) = _
    omega

theorem dup_eq (r : Fin 256) (q : Fin 5632) : dupv (tinAt m c t R) r.val q.val = (data m c).dup (256 * (32 - t.val) + r.val) q := by
  have hr := r.isLt
  unfold dupv Data.dup
  by_cases h : q.val < 2816
  · rw [dif_pos h, dif_pos h]
    unfold Tin.gP Data.dp
    rw [gAE_eq m c t ht R hI _ (by omega), gAE_eq m c t ht R hI _ (by omega), gAE_eq m c t ht R hI _ (by omega)]
    show b7 m c t _ * _ + b7 m c t _ * _ + b7 m c t _ * _ = _
    rw [blk7, blk7, blk7]
    rfl
  · rw [dif_neg h, dif_neg h, dif_pos (by omega)]
    unfold Tin.gW Data.dv
    rw [gD_eq m c t ht R hI _ hr, gC_eq m c t ht R hI _ hr]

end Tile

/-- The normalised rows' gradient of the tile before. -/
theorem du_eq (c : Dev nD) (t : Fin cfg0.N) (h0 : 0 < t.val) (R : Scr Ideal) (hI : Inv m c t.val R) (r : Fin 256) (d : Fin 1024) :
    du2At m c t R r d = (data m c).du (256 * (33 - t.val) + r.val) d := by
  unfold du2At du2 Data.du
  refine congrArg₂ (· + ·) (Finset.sum_congr rfl fun k _ => congrArg₂ (· * ·) ?_ ?_) (Finset.sum_congr rfl fun k _ => congrArg₂ (· * ·) ?_ ?_)
  · exact hI.dup r _ h0
  · exact blk6 m c t 0 d k
  · exact hI.dup r _ h0
  · exact blk6 m c t 1 d k

theorem h_eq (c : Dev nD) (t : Fin cfg0.N) (h0 : 0 < t.val) (r : Fin 256) : (fun e => b4 m c t (ix2 r e)) = (data m c).h (256 * (33 - t.val) + r.val) := by
  funext e
  rw [blk4]
  congr 1
  omega

theorem norm_eq (c : Dev nD) (t : Fin cfg0.N) (h0 : 0 < t.val) (R : Scr Ideal) (hI : Inv m c t.val R) (r : Fin 256) (d : Fin 1024) :
    gH (du2At m c t R r) (fun e => b4 m c t (ix2 r e)) (fun e => b1 m c t (ix2 r e)) (fun e => b5 m c t (ix2 0 e)) d = (data m c).dh (256 * (33 - t.val) + r.val) d := by
  unfold Data.dh
  rw [h_eq m c t h0]
  congr 1
  · funext e
    exact du_eq m c t h0 R hI r e
  · funext e
    rw [blk1]
    congr 1
    omega
  · funext e
    exact blk5 m c t e

theorem tn_eq (c : Dev nD) (t : Fin cfg0.N) (h0 : 0 < t.val) (R : Scr Ideal) (hI : Inv m c t.val R) (d : Fin 1024) :
    ∑ r : Fin 256, du2At m c t R r d * (b4 m c t (ix2 r d) * gR (fun e => b4 m c t (ix2 r e))) = ∑ i ∈ Finset.range 256, (data m c).tn d (256 * (33 - t.val) + i) := by
  rw [Finset.sum_range]
  refine Finset.sum_congr rfl fun r _ => ?_
  unfold Data.tn
  rw [du_eq m c t h0 R hI, h_eq m c t h0, ← h_eq m c t h0 r]

/-- A sum over one more tile. -/
theorem sum_tile (f : ℕ → EReal) (n a b : ℕ) (hb : b = a + 256) :
    (∑ i ∈ Finset.range (256 * n), f (b + i)) + ∑ i ∈ Finset.range 256, f (a + i) = ∑ i ∈ Finset.range (256 * (n + 1)), f (a + i) := by
  rw [show 256 * (n + 1) = 256 + 256 * n by ring, Finset.sum_range_add, add_comm]
  congr 1
  refine Finset.sum_congr rfl fun i _ => ?_
  congr 1
  omega

/-- A point before the last keeps the invariant. -/
theorem Inv.next (c : Dev nD) (t : Fin cfg0.N) (ht : t.val < 33) (R g' : Scr Ideal) (hI : Inv m c t.val R) {X10 : Vec Ideal S256x5632 .bf16} {X11 : Vec Ideal S256x1024 .f32}
    (P : PointSpec m c t R g' X10 X11) : Inv m c (t.val + 1) g' where
  dgg := fun h r j => by
    have e : (⟨(t.val + 1) % 2, by omega⟩ : Fin 2) = otherOf t := Fin.ext (by show (t.val + 1) % 2 = 1 - t.val % 2; omega)
    rw [e, P.dgg]
    unfold Data.dg
    refine Finset.sum_congr rfl fun d _ => ?_
    rw [blk0, blk9]
    congr 2
    omega
  dup := fun r q _ => by
    have e : (⟨1 - (t.val + 1) % 2, by omega⟩ : Fin 2) = slotOf t := Fin.ext (by show 1 - (t.val + 1) % 2 = t.val % 2; omega)
    rw [e, P.dup, dup_eq m c t ht R hI]
    congr 1
    omega
  carry := fun q j => by
    rw [P.carry, gA_eq m c t ht R hI _ (by omega)]
    congr 1
    omega
  accW := fun k j => by
    rw [P.accW, hI.accW, ← sum_tile _ t.val (256 * (33 - (t.val + 1))) (256 * (33 - t.val)) (by omega)]
    congr 1
    rw [Finset.sum_range]
    refine Finset.sum_congr rfl fun r _ => ?_
    have hr := r.isLt
    have hk := k.isLt
    rw [gA_eq m c t ht R hI _ hr, gE_eq m c t ht R hI _ (by omega) (by omega)]
    unfold Data.tw
    rw [show 33 - (t.val + 1) = 32 - t.val by omega]
    congr 2
    omega
  accB := fun j => by
    rw [P.accB, hI.accB, ← sum_tile (fun N => (data m c).da N j) t.val (256 * (33 - (t.val + 1))) (256 * (33 - t.val)) (by omega)]
    congr 1
    rw [Finset.sum_range]
    refine Finset.sum_congr rfl fun r _ => ?_
    rw [gA_eq m c t ht R hI _ r.isLt, show 33 - (t.val + 1) = 32 - t.val by omega]
  accN := fun d => by
    rw [P.accN, hI.accN]
    by_cases h0 : 0 < t.val
    · rw [if_pos h0, tn_eq m c t h0 R hI, show t.val + 1 - 1 = t.val - 1 + 1 by omega,
        ← sum_tile _ (t.val - 1) (256 * (33 - (t.val - 1 + 1))) (256 * (33 - (t.val - 1))) (by omega), show t.val - 1 + 1 = t.val by omega]
    · rw [if_neg h0, show t.val - 1 = 0 by omega, show t.val + 1 - 1 = 0 by omega]
      simp

end Cert.KernelIdeal.Ffn

end
-- ==== Proof.Ffn.StepA.lean ====
module

public import proofs.«01_k».proof.Proof.Ffn.Spec

/-! A point of kind A meets its specification. -/

@[expose] public section

set_option maxRecDepth 16384

noncomputable section

namespace Cert.KernelIdeal.Ffn.A

open Cert.KernelIdeal Cert.KernelIdeal.Gen Cert.KernelIdeal.Ffn
open Idealize.ShloMosaic Idealize.ShloMosaic.TcCoe Idealize.ShloMosaic.Tactic Idealize.SL.Sem

variable (m : (ℓ : Loc nD τ sig) → Buf (Elt Ideal) ℓ)

theorem carry_step (c : Dev nD) (t : Fin cfg0.N) (h0 : t.val = 0) (g : Scr Ideal) (q : Fin 8) (j : Fin 2816) : (stepA m c t h0 g).carry (ix2 q j) = (tinAt m c t (resetScr m c t g)).gA q.val j := by
  have hc1 : k0_cond2 (grid0.coords t) = 1#1 := (hcond1 t).mpr (by omega)
  unfold stepA atA runA
  dsimp only
  refine (congrFun (View.read_writes_full (s := S8x2816) _ _ inb_S8x2816_S8x2816_0_0 _ _) (ix2 q j)).trans ?_
  rw [da0_eq (hc1 := hc1) (ht := h0) (x3 := b2 m c t) (x4 := b3 m c t) (x8 := b7 m c t) (x9 := b8 m c t) (x16 := g.dgg) (x2 := b1 m c t) (x10 := b9 m c t)]
  refine (pay47_apply _ q j).trans ((Tin.da0_apply _ ⟨q.val, by omega⟩ j).trans ?_)
  show Tin.gA _ (0 + q.val) j = _
  rw [Nat.zero_add]
  rfl

theorem dgg_step (c : Dev nD) (t : Fin cfg0.N) (h0 : t.val = 0) (g : Scr Ideal) (r : Fin 256) (j : Fin 2816) :
    (stepA m c t h0 g).dgg (ix3 (n0 := 2) (n1 := 256) (n2 := 2816) (otherOf t) r j) = ∑ d : Fin 1024, b0 m c t (ix2 r d) * b9 m c t (ix2 j d) := by
  have hc1 : k0_cond2 (grid0.coords t) = 1#1 := (hcond1 t).mpr (by omega)
  unfold stepA atA runA
  dsimp only
  unfold runA.sl.H16_4 runA.sl.H16_3 runA.sl.H16_2 runA.sl.r_4
  simp only [View.readAt_eq_ld, Memref.IsWhole.read_unread]
  refine agree3 (n1 := 256) (n2 := 512) (a := 1 - t.val % 2) (b := 0) (c := 2304) _ _ _ _ _ (otherOf t) r j _ (o18 t) rfl
    (fun x1 x2 h1 h2 => by
      have e : x1 = r := Fin.ext (by omega)
      subst e
      exact (pay97_apply _ _ _ _).trans (gate_apply 2304 512 (by omega) (b0 m c t) (b9 m c t) _ j x2 h2 _)) fun hn18 => ?_
  refine agree3 (n1 := 256) (n2 := 768) (a := 1 - t.val % 2) (b := 0) (c := 1536) _ _ _ _ _ (otherOf t) r j _ (o13 t) rfl
    (fun x1 x2 h1 h2 => by
      have e : x1 = r := Fin.ext (by omega)
      subst e
      exact (pay55_apply _ _ _ _).trans (gate_apply 1536 768 (by omega) (b0 m c t) (b9 m c t) _ j x2 h2 _)) fun hn13 => ?_
  refine agree3 (n1 := 256) (n2 := 768) (a := 1 - t.val % 2) (b := 0) (c := 768) _ _ _ _ _ (otherOf t) r j _ (o9 t) rfl
    (fun x1 x2 h1 h2 => by
      have e : x1 = r := Fin.ext (by omega)
      subst e
      exact (pay55_apply _ _ _ _).trans (gate_apply 768 768 (by omega) (b0 m c t) (b9 m c t) _ j x2 h2 _)) fun hn9 => ?_
  refine agree3 (n1 := 256) (n2 := 768) (a := 1 - t.val % 2) (b := 0) (c := 0) _ _ _ _ _ (otherOf t) r j _ (o4 t) rfl
    (fun x1 x2 h1 h2 => by
      have e : x1 = r := Fin.ext (by omega)
      subst e
      exact (pay55_apply _ _ _ _).trans (gate_apply 0 768 (by omega) (b0 m c t) (b9 m c t) _ j x2 h2 _)) fun hn4 => ?_
  omega

theorem dup_step (c : Dev nD) (t : Fin cfg0.N) (h0 : t.val = 0) (g : Scr Ideal) (r : Fin 256) (q : Fin 5632) :
    (stepA m c t h0 g).dup (ix3 (n0 := 2) (n1 := 256) (n2 := 5632) (slotOf t) r q) = dupv (tinAt m c t (resetScr m c t g)) r.val q.val := by
  have hc1 : k0_cond2 (grid0.coords t) = 1#1 := (hcond1 t).mpr (by omega)
  unfold stepA atA runA
  dsimp only
  unfold runA.sl.H17_7 runA.sl.H17_3
  refine agree3 (n1 := 64) (n2 := 2816) (a := t.val % 2) (b := 0) (c := 2816) _ _ _ _ _ (slotOf t) r q _ (o17 t) rfl
    (fun x1 x2 h1 h2 => by
      refine Eq.trans (b := k0_pay49 (Tin.dv0 (tinAt m c t (resetScr m c t g))) (ix3 0 x1 x2)) (congrArg (fun X : FVec Ideal S64x2816 .bf16 => k0_pay49 X (ix3 (n0 := 1) (n1 := 64) (n2 := 2816) 0 x1 x2)) ?_) ?_
      · rw [dv0_eq (hc1 := hc1) (ht := h0) (x3 := b2 m c t) (x4 := b3 m c t) (x8 := b7 m c t) (x9 := b8 m c t) (x16 := g.dgg) (x2 := b1 m c t) (x10 := b9 m c t)]
        rfl
      · rw [pay49_apply, Tin.dv0_apply, h1, h2]
        exact (dupv_W _ _ _).symm) fun hn17 => ?_
  refine agree3 (n1 := 64) (n2 := 2816) (a := t.val % 2) (b := 0) (c := 0) _ _ _ _ _ (slotOf t) r q _ (o16 t) rfl
    (fun x1 x2 h1 h2 => by
      refine Eq.trans (b := k0_pay49 (Tin.dp0 (tinAt m c t (resetScr m c t g))) (ix3 0 x1 x2)) (congrArg (fun X : FVec Ideal S64x2816 .bf16 => k0_pay49 X (ix3 (n0 := 1) (n1 := 64) (n2 := 2816) 0 x1 x2)) ?_) ?_
      · rw [dp0_eq (hc1 := hc1) (ht := h0) (x3 := b2 m c t) (x4 := b3 m c t) (x8 := b7 m c t) (x9 := b8 m c t) (x16 := g.dgg) (x2 := b1 m c t) (x10 := b9 m c t)]
        rfl
      · rw [pay49_apply, Tin.dp0_apply, h1, h2]
        exact (dupv_P _ _ _).symm) fun hn16 => ?_
  refine agree3 (n1 := 64) (n2 := 2816) (a := t.val % 2) (b := 64) (c := 2816) _ _ _ _ _ (slotOf t) r q _ (o12 t) rfl
    (fun x1 x2 h1 h2 => by
      refine Eq.trans (b := k0_pay49 (Tin.dv1 (tinAt m c t (resetScr m c t g))) (ix3 0 x1 x2)) (congrArg (fun X : FVec Ideal S64x2816 .bf16 => k0_pay49 X (ix3 (n0 := 1) (n1 := 64) (n2 := 2816) 0 x1 x2)) ?_) ?_
      · rw [dv1_eq (hc1 := hc1) (ht := h0) (x3 := b2 m c t) (x4 := b3 m c t) (x8 := b7 m c t) (x9 := b8 m c t) (x16 := g.dgg) (x2 := b1 m c t) (x10 := b9 m c t)]
        rfl
      · rw [pay49_apply, Tin.dv1_apply, h1, h2]
        exact (dupv_W _ _ _).symm) fun hn12 => ?_
  refine agree3 (n1 := 64) (n2 := 2816) (a := t.val % 2) (b := 64) (c := 0) _ _ _ _ _ (slotOf t) r q _ (o11 t) rfl
    (fun x1 x2 h1 h2 => by
      refine Eq.trans (b := k0_pay49 (Tin.dp1 (tinAt m c t (resetScr m c t g))) (ix3 0 x1 x2)) (congrArg (fun X : FVec Ideal S64x2816 .bf16 => k0_pay49 X (ix3 (n0 := 1) (n1 := 64) (n2 := 2816) 0 x1 x2)) ?_) ?_
      · rw [dp1_eq (hc1 := hc1) (ht := h0) (x3 := b2 m c t) (x4 := b3 m c t) (x8 := b7 m c t) (x9 := b8 m c t) (x16 := g.dgg) (x2 := b1 m c t) (x10 := b9 m c t)]
        rfl
      · rw [pay49_apply, Tin.dp1_apply, h1, h2]
        exact (dupv_P _ _ _).symm) fun hn11 => ?_
  refine agree3 (n1 := 64) (n2 := 2816) (a := t.val % 2) (b := 128) (c := 2816) _ _ _ _ _ (slotOf t) r q _ (o8 t) rfl
    (fun x1 x2 h1 h2 => by
      refine Eq.trans (b := k0_pay49 (Tin.dv2 (tinAt m c t (resetScr m c t g))) (ix3 0 x1 x2)) (congrArg (fun X : FVec Ideal S64x2816 .bf16 => k0_pay49 X (ix3 (n0 := 1) (n1 := 64) (n2 := 2816) 0 x1 x2)) ?_) ?_
      · rw [dv2_eq (hc1 := hc1) (ht := h0) (x3 := b2 m c t) (x4 := b3 m c t) (x8 := b7 m c t) (x9 := b8 m c t) (x16 := g.dgg) (x2 := b1 m c t) (x10 := b9 m c t)]
        rfl
      · rw [pay49_apply, Tin.dv2_apply, h1, h2]
        exact (dupv_W _ _ _).symm) fun hn8 => ?_
  refine agree3 (n1 := 64) (n2 := 2816) (a := t.val % 2) (b := 128) (c := 0) _ _ _ _ _ (slotOf t) r q _ (o7 t) rfl
    (fun x1 x2 h1 h2 => by
      refine Eq.trans (b := k0_pay49 (Tin.dp2 (tinAt m c t (resetScr m c t g))) (ix3 0 x1 x2)) (congrArg (fun X : FVec Ideal S64x2816 .bf16 => k0_pay49 X (ix3 (n0 := 1) (n1 := 64) (n2 := 2816) 0 x1 x2)) ?_) ?_
      · rw [dp2_eq (hc1 := hc1) (ht := h0) (x3 := b2 m c t) (x4 := b3 m c t) (x8 := b7 m c t) (x9 := b8 m c t) (x16 := g.dgg) (x2 := b1 m c t) (x10 := b9 m c t)]
        rfl
      · rw [pay49_apply, Tin.dp2_apply, h1, h2]
        exact (dupv_P _ _ _).symm) fun hn7 => ?_
  refine agree3 (n1 := 64) (n2 := 2816) (a := t.val % 2) (b := 192) (c := 2816) _ _ _ _ _ (slotOf t) r q _ (o3 t) rfl
    (fun x1 x2 h1 h2 => by
      refine Eq.trans (b := k0_pay49 (Tin.dv3 (tinAt m c t (resetScr m c t g))) (ix3 0 x1 x2)) (congrArg (fun X : FVec Ideal S64x2816 .bf16 => k0_pay49 X (ix3 (n0 := 1) (n1 := 64) (n2 := 2816) 0 x1 x2)) ?_) ?_
      · rw [dv3_eq (hc1 := hc1) (ht := h0) (x3 := b2 m c t) (x4 := b3 m c t) (x8 := b7 m c t) (x9 := b8 m c t) (x16 := g.dgg) (x2 := b1 m c t) (x10 := b9 m c t)]
        rfl
      · rw [pay49_apply, Tin.dv3_apply, h1, h2]
        exact (dupv_W _ _ _).symm) fun hn3 => ?_
  refine agree3 (n1 := 64) (n2 := 2816) (a := t.val % 2) (b := 192) (c := 0) _ _ _ _ _ (slotOf t) r q _ (o2 t) rfl
    (fun x1 x2 h1 h2 => by
      refine Eq.trans (b := k0_pay49 (Tin.dp3 (tinAt m c t (resetScr m c t g))) (ix3 0 x1 x2)) (congrArg (fun X : FVec Ideal S64x2816 .bf16 => k0_pay49 X (ix3 (n0 := 1) (n1 := 64) (n2 := 2816) 0 x1 x2)) ?_) ?_
      · rw [dp3_eq (hc1 := hc1) (ht := h0) (x3 := b2 m c t) (x4 := b3 m c t) (x8 := b7 m c t) (x9 := b8 m c t) (x16 := g.dgg) (x2 := b1 m c t) (x10 := b9 m c t)]
        rfl
      · rw [pay49_apply, Tin.dp3_apply, h1, h2]
        exact (dupv_P _ _ _).symm) fun hn2 => ?_
  omega

theorem out10_step (c : Dev nD) (t : Fin cfg0.N) (h0 : t.val = 0) (g : Scr Ideal) (Y : Vec Ideal S256x5632 .bf16) (r : Fin 256) (q : Fin 5632) :
    out10 m c t g Y (ix2 r q) = dupv (tinAt m c t (resetScr m c t g)) r.val q.val := by
  have hc1 : k0_cond2 (grid0.coords t) = 1#1 := (hcond1 t).mpr (by omega)
  unfold out10
  rw [dif_pos h0]
  unfold atA runA
  dsimp only
  refine agree2 (n0 := 64) (n1 := 2816) _ _ 0 2816 _ _ _ r q _
    (fun x1 x2 h1 h2 => by
      rw [dv0_eq (hc1 := hc1) (ht := h0) (x3 := b2 m c t) (x4 := b3 m c t) (x8 := b7 m c t) (x9 := b8 m c t) (x16 := g.dgg) (x2 := b1 m c t) (x10 := b9 m c t), h1, h2]
      exact (Tin.dv0_apply _ _ _).trans (dupv_W _ _ _).symm) fun hn0_2816 => ?_
  refine agree2 (n0 := 64) (n1 := 2816) _ _ 0 0 _ _ _ r q _
    (fun x1 x2 h1 h2 => by
      rw [dp0_eq (hc1 := hc1) (ht := h0) (x3 := b2 m c t) (x4 := b3 m c t) (x8 := b7 m c t) (x9 := b8 m c t) (x16 := g.dgg) (x2 := b1 m c t) (x10 := b9 m c t), h1, h2]
      exact (Tin.dp0_apply _ _ _).trans (dupv_P _ _ _).symm) fun hn0_0 => ?_
  refine agree2 (n0 := 64) (n1 := 2816) _ _ 64 2816 _ _ _ r q _
    (fun x1 x2 h1 h2 => by
      rw [dv1_eq (hc1 := hc1) (ht := h0) (x3 := b2 m c t) (x4 := b3 m c t) (x8 := b7 m c t) (x9 := b8 m c t) (x16 := g.dgg) (x2 := b1 m c t) (x10 := b9 m c t), h1, h2]
      exact (Tin.dv1_apply _ _ _).trans (dupv_W _ _ _).symm) fun hn64_2816 => ?_
  refine agree2 (n0 := 64) (n1 := 2816) _ _ 64 0 _ _ _ r q _
    (fun x1 x2 h1 h2 => by
      rw [dp1_eq (hc1 := hc1) (ht := h0) (x3 := b2 m c t) (x4 := b3 m c t) (x8 := b7 m c t) (x9 := b8 m c t) (x16 := g.dgg) (x2 := b1 m c t) (x10 := b9 m c t), h1, h2]
      exact (Tin.dp1_apply _ _ _).trans (dupv_P _ _ _).symm) fun hn64_0 => ?_
  refine agree2 (n0 := 64) (n1 := 2816) _ _ 128 2816 _ _ _ r q _
    (fun x1 x2 h1 h2 => by
      rw [dv2_eq (hc1 := hc1) (ht := h0) (x3 := b2 m c t) (x4 := b3 m c t) (x8 := b7 m c t) (x9 := b8 m c t) (x16 := g.dgg) (x2 := b1 m c t) (x10 := b9 m c t), h1, h2]
      exact (Tin.dv2_apply _ _ _).trans (dupv_W _ _ _).symm) fun hn128_2816 => ?_
  refine agree2 (n0 := 64) (n1 := 2816) _ _ 128 0 _ _ _ r q _
    (fun x1 x2 h1 h2 => by
      rw [dp2_eq (hc1 := hc1) (ht := h0) (x3 := b2 m c t) (x4 := b3 m c t) (x8 := b7 m c t) (x9 := b8 m c t) (x16 := g.dgg) (x2 := b1 m c t) (x10 := b9 m c t), h1, h2]
      exact (Tin.dp2_apply _ _ _).trans (dupv_P _ _ _).symm) fun hn128_0 => ?_
  refine agree2 (n0 := 64) (n1 := 2816) _ _ 192 2816 _ _ _ r q _
    (fun x1 x2 h1 h2 => by
      rw [dv3_eq (hc1 := hc1) (ht := h0) (x3 := b2 m c t) (x4 := b3 m c t) (x8 := b7 m c t) (x9 := b8 m c t) (x16 := g.dgg) (x2 := b1 m c t) (x10 := b9 m c t), h1, h2]
      exact (Tin.dv3_apply _ _ _).trans (dupv_W _ _ _).symm) fun hn192_2816 => ?_
  refine agree2 (n0 := 64) (n1 := 2816) _ _ 192 0 _ _ _ r q _
    (fun x1 x2 h1 h2 => by
      rw [dp3_eq (hc1 := hc1) (ht := h0) (x3 := b2 m c t) (x4 := b3 m c t) (x8 := b7 m c t) (x9 := b8 m c t) (x16 := g.dgg) (x2 := b1 m c t) (x10 := b9 m c t), h1, h2]
      exact (Tin.dp3_apply _ _ _).trans (dupv_P _ _ _).symm) fun hn192_0 => ?_
  omega

theorem accW_step (c : Dev nD) (t : Fin cfg0.N) (h0 : t.val = 0) (g : Scr Ideal) (k : Fin 3) (j : Fin 2816) :
    (stepA m c t h0 g).accW (ix2 (n0 := 8) (n1 := 2816) ⟨k.val, by omega⟩ j) = (resetScr m c t g).accW (ix2 (n0 := 8) (n1 := 2816) ⟨k.val, by omega⟩ j)
      + ∑ r : Fin 256, (tinAt m c t (resetScr m c t g)).gA r.val j * (tinAt m c t (resetScr m c t g)).gE (r.val + (6 + k.val)) j := by
  have hc1 : k0_cond2 (grid0.coords t) = 1#1 := (hcond1 t).mpr (by omega)
  unfold stepA atA runA
  dsimp only
  unfold runA.sl.H19_12 runA.sl.H19_11
  match k with
  | ⟨0, _⟩ =>
    refine (View.read_writes_cons_unit_of_not_mem (s := S8x2816) _ _ (off := ![2, 0]) (off' := ![2, 0]) (size := S1x2816.size) inb_S8x2816_S1x2816_2_0 _ _ _ rfl (0 : Fin 2) (by show (0 : ℕ) < 2 ∨ 2 + 1 ≤ 0; omega)).trans ?_
    refine (View.read_writes_cons_unit_of_not_mem (s := S8x2816) _ _ (off := ![1, 0]) (off' := ![1, 0]) (size := S1x2816.size) inb_S8x2816_S1x2816_1_0 _ _ _ rfl (0 : Fin 2) (by show (0 : ℕ) < 1 ∨ 1 + 1 ≤ 0; omega)).trans ?_
    refine (View.read_writes_cons_unit_of_mem (s := S8x2816) _ _ (off := ![0, 0]) (off' := ![0, 0]) (size := S1x2816.size) inb_S8x2816_S1x2816_0_0 _ _ _ (ix2 (n0 := 1) (n1 := 2816) 0 j) rfl (fun a => by
      match a with
      | ⟨0, _⟩ => rfl
      | ⟨1, _⟩ => show j.val = 0 + j.val; omega)).trans ?_
    rw [s00_eq (hc1 := hc1) (ht := h0) (x3 := b2 m c t) (x4 := b3 m c t) (x8 := b7 m c t) (x9 := b8 m c t) (x16 := g.dgg) (x2 := b1 m c t) (x10 := b9 m c t), n0_eq (ht := h0) (x3 := b2 m c t) (x4 := b3 m c t) (x8 := b7 m c t) (x9 := b8 m c t) (x16 := g.dgg) (x2 := b1 m c t) (x10 := b9 m c t), da0_eq (hc1 := hc1) (ht := h0) (x3 := b2 m c t) (x4 := b3 m c t) (x8 := b7 m c t) (x9 := b8 m c t) (x16 := g.dgg) (x2 := b1 m c t) (x10 := b9 m c t)]
    refine (row_sum (tinAt m c t (resetScr m c t g)) 6 _ _ _ _ _ j (fun r => ?_) (fun r => ?_) (fun r => ?_) (fun r => ?_)).trans ?_
    · exact Tin.am20_apply (tinAt m c t (resetScr m c t g)) r j
    · exact Tin.am21_apply (tinAt m c t (resetScr m c t g)) r j
    · exact Tin.am22_apply (tinAt m c t (resetScr m c t g)) r j
    · exact Tin.am23_apply (tinAt m c t (resetScr m c t g)) r j
    · rfl
  | ⟨1, _⟩ =>
    refine (View.read_writes_cons_unit_of_not_mem (s := S8x2816) _ _ (off := ![2, 0]) (off' := ![2, 0]) (size := S1x2816.size) inb_S8x2816_S1x2816_2_0 _ _ _ rfl (0 : Fin 2) (by show (1 : ℕ) < 2 ∨ 2 + 1 ≤ 1; omega)).trans ?_
    refine (View.read_writes_cons_unit_of_mem (s := S8x2816) _ _ (off := ![1, 0]) (off' := ![1, 0]) (size := S1x2816.size) inb_S8x2816_S1x2816_1_0 _ _ _ (ix2 (n0 := 1) (n1 := 2816) 0 j) rfl (fun a => by
      match a with
      | ⟨0, _⟩ => rfl
      | ⟨1, _⟩ => show j.val = 0 + j.val; omega)).trans ?_
    rw [s10_eq (hc1 := hc1) (ht := h0) (x3 := b2 m c t) (x4 := b3 m c t) (x8 := b7 m c t) (x9 := b8 m c t) (x16 := g.dgg) (x2 := b1 m c t) (x10 := b9 m c t), m0_eq (ht := h0) (x3 := b2 m c t) (x4 := b3 m c t) (x8 := b7 m c t) (x9 := b8 m c t) (x16 := g.dgg) (x2 := b1 m c t) (x10 := b9 m c t), da0_eq (hc1 := hc1) (ht := h0) (x3 := b2 m c t) (x4 := b3 m c t) (x8 := b7 m c t) (x9 := b8 m c t) (x16 := g.dgg) (x2 := b1 m c t) (x10 := b9 m c t)]
    refine (row_sum (tinAt m c t (resetScr m c t g)) 7 _ _ _ _ _ j (fun r => ?_) (fun r => ?_) (fun r => ?_) (fun r => ?_)).trans ?_
    · exact Tin.am10_apply (tinAt m c t (resetScr m c t g)) r j
    · exact Tin.am11_apply (tinAt m c t (resetScr m c t g)) r j
    · exact Tin.am12_apply (tinAt m c t (resetScr m c t g)) r j
    · exact Tin.am13_apply (tinAt m c t (resetScr m c t g)) r j
    · rfl
  | ⟨2, _⟩ =>
    refine (View.read_writes_cons_unit_of_mem (s := S8x2816) _ _ (off := ![2, 0]) (off' := ![2, 0]) (size := S1x2816.size) inb_S8x2816_S1x2816_2_0 _ _ _ (ix2 (n0 := 1) (n1 := 2816) 0 j) rfl (fun a => by
      match a with
      | ⟨0, _⟩ => rfl
      | ⟨1, _⟩ => show j.val = 0 + j.val; omega)).trans ?_
    rw [s20_eq (hc1 := hc1) (ht := h0) (x3 := b2 m c t) (x4 := b3 m c t) (x8 := b7 m c t) (x9 := b8 m c t) (x16 := g.dgg) (x2 := b1 m c t) (x10 := b9 m c t), a0_eq (ht := h0) (x3 := b2 m c t) (x4 := b3 m c t) (x8 := b7 m c t) (x9 := b8 m c t) (x16 := g.dgg) (x2 := b1 m c t) (x10 := b9 m c t), da0_eq (hc1 := hc1) (ht := h0) (x3 := b2 m c t) (x4 := b3 m c t) (x8 := b7 m c t) (x9 := b8 m c t) (x16 := g.dgg) (x2 := b1 m c t) (x10 := b9 m c t)]
    refine (row_sum (tinAt m c t (resetScr m c t g)) 8 _ _ _ _ _ j (fun r => ?_) (fun r => ?_) (fun r => ?_) (fun r => ?_)).trans ?_
    · exact (Tin.a0_apply (tinAt m c t (resetScr m c t g)) r j).trans (by rw [Nat.add_comm])
    · exact (Tin.a1_apply (tinAt m c t (resetScr m c t g)) r j).trans (by rw [Nat.add_comm])
    · exact (Tin.a2_apply (tinAt m c t (resetScr m c t g)) r j).trans (by rw [Nat.add_comm])
    · exact (Tin.a3_apply (tinAt m c t (resetScr m c t g)) r j).trans (by rw [Nat.add_comm])
    · rfl

theorem accB_step (c : Dev nD) (t : Fin cfg0.N) (h0 : t.val = 0) (g : Scr Ideal) (j : Fin 2816) :
    (stepA m c t h0 g).accB (ix2 0 j) = (resetScr m c t g).accB (ix2 0 j) + ∑ r : Fin 256, (tinAt m c t (resetScr m c t g)).gA r.val j := by
  have hc1 : k0_cond2 (grid0.coords t) = 1#1 := (hcond1 t).mpr (by omega)
  unfold stepA atA runA
  dsimp only
  refine (congrFun (View.read_writes_full (s := S1x2816) _ _ inb_S1x2816_S1x2816_0_0 _ _) (ix2 0 j)).trans ?_
  rw [sb0_eq (hc1 := hc1) (ht := h0) (x3 := b2 m c t) (x4 := b3 m c t) (x8 := b7 m c t) (x9 := b8 m c t) (x16 := g.dgg) (x2 := b1 m c t) (x10 := b9 m c t), da0_eq (hc1 := hc1) (ht := h0) (x3 := b2 m c t) (x4 := b3 m c t) (x8 := b7 m c t) (x9 := b8 m c t) (x16 := g.dgg) (x2 := b1 m c t) (x10 := b9 m c t)]
  exact bias_sum (tinAt m c t (resetScr m c t g)) _ j

theorem out11_step (c : Dev nD) (t : Fin cfg0.N) (h0 : t.val = 0) (g : Scr Ideal) (Y : Vec Ideal S256x1024 .f32) (r : Fin 256) (d : Fin 1024) :
    out11 m c t g Y (ix2 r d) = gH (du2At m c t (resetScr m c t g) r) (fun e => b4 m c t (ix2 r e)) (fun e => b1 m c t (ix2 r e)) (fun e => b5 m c t (ix2 0 e)) d := by
  have hc1 : k0_cond2 (grid0.coords t) = 1#1 := (hcond1 t).mpr (by omega)
  unfold out11
  rw [dif_pos h0]
  unfold atA runA
  dsimp only
  refine (congrFun (View.read_writes_full (s := S256x1024) _ _ inb_S256x1024_S256x1024_0_0 _ _) (ix2 r d)).trans ?_
  rw [u_eq (hc1 := hc1) (ht := h0)]
  unfold runA.sl.r_44
  simp only [View.readAt_eq_ld, Memref.IsWhole.read_unread]
  exact out11_val (b6 m c t) (otherOf t) _ (b4 m c t) (b1 m c t) (b5 m c t) r d

theorem accN_step (c : Dev nD) (t : Fin cfg0.N) (h0 : t.val = 0) (g : Scr Ideal) (d : Fin 1024) :
    (stepA m c t h0 g).accN (ix2 0 d) = (resetScr m c t g).accN (ix2 0 d) + (if 0 < t.val then ∑ r : Fin 256, du2At m c t (resetScr m c t g) r d * (b4 m c t (ix2 r d) * gR (fun e => b4 m c t (ix2 r e))) else 0) := by
  have hc1 : k0_cond2 (grid0.coords t) = 1#1 := (hcond1 t).mpr (by omega)
  unfold stepA atA runA
  dsimp only
  refine (congrFun (View.read_writes_full (s := S1x1024) _ _ inb_S1x1024_S1x1024_0_0 _ _) (ix2 0 d)).trans ?_
  unfold runA.sl.r_45
  have hv : runA.sl.v497 (grid0.coords t) = 0#1 := by
    have e : t = ⟨0, by decide +kernel⟩ := Fin.ext h0
    subst e
    decide +kernel
  rw [pay7_apply, hv, pay101_zero, n_eq, if_neg (by omega), add_zero]
  rfl

theorem point (c : Dev nD) (t : Fin cfg0.N) (h0 : t.val = 0) (g : Scr Ideal) (Y10 : Vec Ideal S256x5632 .bf16) (Y11 : Vec Ideal S256x1024 .f32) :
    PointSpec m c t (resetScr m c t g) (stepA m c t h0 g) (out10 m c t g Y10) (out11 m c t g Y11) where
  carry := carry_step m c t h0 g
  dgg := dgg_step m c t h0 g
  dup := dup_step m c t h0 g
  out10 := out10_step m c t h0 g Y10
  accW := accW_step m c t h0 g
  accB := accB_step m c t h0 g
  out11 := out11_step m c t h0 g Y11
  accN := accN_step m c t h0 g

end Cert.KernelIdeal.Ffn.A

end
-- ==== Proof.Ffn.StepB.lean ====
module

public import proofs.«01_k».proof.Proof.Ffn.Spec

/-! A point of kind B meets its specification. -/

@[expose] public section

set_option maxRecDepth 16384

noncomputable section

namespace Cert.KernelIdeal.Ffn.B

open Cert.KernelIdeal Cert.KernelIdeal.Gen Cert.KernelIdeal.Ffn
open Idealize.ShloMosaic Idealize.ShloMosaic.TcCoe Idealize.ShloMosaic.Tactic Idealize.SL.Sem

variable (m : (ℓ : Loc nD τ sig) → Buf (Elt Ideal) ℓ)

theorem carry_step (c : Dev nD) (t : Fin cfg0.N) (h0 : ¬t.val = 0) (h1 : t.val < 33) (g : Scr Ideal) (q : Fin 8) (j : Fin 2816) : (stepB m c t h0 h1 g).carry (ix2 q j) = (tinAt m c t g).gA q.val j := by
  have hc1 : k0_cond2 (grid0.coords t) = 1#1 := (hcond1 t).mpr (by omega)
  unfold stepB atB runB
  dsimp only
  refine (congrFun (View.read_writes_full (s := S8x2816) _ _ inb_S8x2816_S8x2816_0_0 _ _) (ix2 q j)).trans ?_
  rw [da0_eq (hc1 := hc1) (x3 := b2 m c t) (x4 := b3 m c t) (x8 := b7 m c t) (x9 := b8 m c t) (x16 := g.dgg) (x18 := g.carry)]
  refine (pay47_apply _ q j).trans ((Tin.da0_apply _ ⟨q.val, by omega⟩ j).trans ?_)
  show Tin.gA _ (0 + q.val) j = _
  rw [Nat.zero_add]
  rfl

theorem dgg_step (c : Dev nD) (t : Fin cfg0.N) (h0 : ¬t.val = 0) (h1 : t.val < 33) (g : Scr Ideal) (r : Fin 256) (j : Fin 2816) :
    (stepB m c t h0 h1 g).dgg (ix3 (n0 := 2) (n1 := 256) (n2 := 2816) (otherOf t) r j) = ∑ d : Fin 1024, b0 m c t (ix2 r d) * b9 m c t (ix2 j d) := by
  have hc1 : k0_cond2 (grid0.coords t) = 1#1 := (hcond1 t).mpr (by omega)
  unfold stepB atB runB
  dsimp only
  unfold runB.sl.H16_3 runB.sl.H16_2 runB.sl.H16_1 runB.sl.r_4
  simp only [View.readAt_eq_ld, Memref.IsWhole.read_unread]
  refine agree3 (n1 := 256) (n2 := 512) (a := 1 - t.val % 2) (b := 0) (c := 2304) _ _ _ _ _ (otherOf t) r j _ (o18 t) rfl
    (fun x1 x2 h1 h2 => by
      have e : x1 = r := Fin.ext (by omega)
      subst e
      exact (pay97_apply _ _ _ _).trans (gate_apply 2304 512 (by omega) (b0 m c t) (b9 m c t) _ j x2 h2 _)) fun hn18 => ?_
  refine agree3 (n1 := 256) (n2 := 768) (a := 1 - t.val % 2) (b := 0) (c := 1536) _ _ _ _ _ (otherOf t) r j _ (o13 t) rfl
    (fun x1 x2 h1 h2 => by
      have e : x1 = r := Fin.ext (by omega)
      subst e
      exact (pay55_apply _ _ _ _).trans (gate_apply 1536 768 (by omega) (b0 m c t) (b9 m c t) _ j x2 h2 _)) fun hn13 => ?_
  refine agree3 (n1 := 256) (n2 := 768) (a := 1 - t.val % 2) (b := 0) (c := 768) _ _ _ _ _ (otherOf t) r j _ (o9 t) rfl
    (fun x1 x2 h1 h2 => by
      have e : x1 = r := Fin.ext (by omega)
      subst e
      exact (pay55_apply _ _ _ _).trans (gate_apply 768 768 (by omega) (b0 m c t) (b9 m c t) _ j x2 h2 _)) fun hn9 => ?_
  refine agree3 (n1 := 256) (n2 := 768) (a := 1 - t.val % 2) (b := 0) (c := 0) _ _ _ _ _ (otherOf t) r j _ (o4 t) rfl
    (fun x1 x2 h1 h2 => by
      have e : x1 = r := Fin.ext (by omega)
      subst e
      exact (pay55_apply _ _ _ _).trans (gate_apply 0 768 (by omega) (b0 m c t) (b9 m c t) _ j x2 h2 _)) fun hn4 => ?_
  omega

theorem dup_step (c : Dev nD) (t : Fin cfg0.N) (h0 : ¬t.val = 0) (h1 : t.val < 33) (g : Scr Ideal) (r : Fin 256) (q : Fin 5632) :
    (stepB m c t h0 h1 g).dup (ix3 (n0 := 2) (n1 := 256) (n2 := 5632) (slotOf t) r q) = dupv (tinAt m c t g) r.val q.val := by
  have hc1 : k0_cond2 (grid0.coords t) = 1#1 := (hcond1 t).mpr (by omega)
  unfold stepB atB runB
  dsimp only
  unfold runB.sl.H17_6 runB.sl.H17_2
  refine agree3 (n1 := 64) (n2 := 2816) (a := t.val % 2) (b := 0) (c := 2816) _ _ _ _ _ (slotOf t) r q _ (o17 t) rfl
    (fun x1 x2 h1 h2 => by
      refine Eq.trans (b := k0_pay49 (Tin.dv0 (tinAt m c t g)) (ix3 0 x1 x2)) (congrArg (fun X : FVec Ideal S64x2816 .bf16 => k0_pay49 X (ix3 (n0 := 1) (n1 := 64) (n2 := 2816) 0 x1 x2)) ?_) ?_
      · rw [dv0_eq (hc1 := hc1) (x3 := b2 m c t) (x4 := b3 m c t) (x8 := b7 m c t) (x9 := b8 m c t) (x16 := g.dgg) (x18 := g.carry)]
        rfl
      · rw [pay49_apply, Tin.dv0_apply, h1, h2]
        exact (dupv_W _ _ _).symm) fun hn17 => ?_
  refine agree3 (n1 := 64) (n2 := 2816) (a := t.val % 2) (b := 0) (c := 0) _ _ _ _ _ (slotOf t) r q _ (o16 t) rfl
    (fun x1 x2 h1 h2 => by
      refine Eq.trans (b := k0_pay49 (Tin.dp0 (tinAt m c t g)) (ix3 0 x1 x2)) (congrArg (fun X : FVec Ideal S64x2816 .bf16 => k0_pay49 X (ix3 (n0 := 1) (n1 := 64) (n2 := 2816) 0 x1 x2)) ?_) ?_
      · rw [dp0_eq (hc1 := hc1) (x3 := b2 m c t) (x4 := b3 m c t) (x8 := b7 m c t) (x9 := b8 m c t) (x16 := g.dgg) (x18 := g.carry)]
        rfl
      · rw [pay49_apply, Tin.dp0_apply, h1, h2]
        exact (dupv_P _ _ _).symm) fun hn16 => ?_
  refine agree3 (n1 := 64) (n2 := 2816) (a := t.val % 2) (b := 64) (c := 2816) _ _ _ _ _ (slotOf t) r q _ (o12 t) rfl
    (fun x1 x2 h1 h2 => by
      refine Eq.trans (b := k0_pay49 (Tin.dv1 (tinAt m c t g)) (ix3 0 x1 x2)) (congrArg (fun X : FVec Ideal S64x2816 .bf16 => k0_pay49 X (ix3 (n0 := 1) (n1 := 64) (n2 := 2816) 0 x1 x2)) ?_) ?_
      · rw [dv1_eq (hc1 := hc1) (x3 := b2 m c t) (x4 := b3 m c t) (x8 := b7 m c t) (x9 := b8 m c t) (x16 := g.dgg) (x18 := g.carry)]
        rfl
      · rw [pay49_apply, Tin.dv1_apply, h1, h2]
        exact (dupv_W _ _ _).symm) fun hn12 => ?_
  refine agree3 (n1 := 64) (n2 := 2816) (a := t.val % 2) (b := 64) (c := 0) _ _ _ _ _ (slotOf t) r q _ (o11 t) rfl
    (fun x1 x2 h1 h2 => by
      refine Eq.trans (b := k0_pay49 (Tin.dp1 (tinAt m c t g)) (ix3 0 x1 x2)) (congrArg (fun X : FVec Ideal S64x2816 .bf16 => k0_pay49 X (ix3 (n0 := 1) (n1 := 64) (n2 := 2816) 0 x1 x2)) ?_) ?_
      · rw [dp1_eq (hc1 := hc1) (x3 := b2 m c t) (x4 := b3 m c t) (x8 := b7 m c t) (x9 := b8 m c t) (x16 := g.dgg) (x18 := g.carry)]
        rfl
      · rw [pay49_apply, Tin.dp1_apply, h1, h2]
        exact (dupv_P _ _ _).symm) fun hn11 => ?_
  refine agree3 (n1 := 64) (n2 := 2816) (a := t.val % 2) (b := 128) (c := 2816) _ _ _ _ _ (slotOf t) r q _ (o8 t) rfl
    (fun x1 x2 h1 h2 => by
      refine Eq.trans (b := k0_pay49 (Tin.dv2 (tinAt m c t g)) (ix3 0 x1 x2)) (congrArg (fun X : FVec Ideal S64x2816 .bf16 => k0_pay49 X (ix3 (n0 := 1) (n1 := 64) (n2 := 2816) 0 x1 x2)) ?_) ?_
      · rw [dv2_eq (hc1 := hc1) (x3 := b2 m c t) (x4 := b3 m c t) (x8 := b7 m c t) (x9 := b8 m c t) (x16 := g.dgg) (x18 := g.carry)]
        rfl
      · rw [pay49_apply, Tin.dv2_apply, h1, h2]
        exact (dupv_W _ _ _).symm) fun hn8 => ?_
  refine agree3 (n1 := 64) (n2 := 2816) (a := t.val % 2) (b := 128) (c := 0) _ _ _ _ _ (slotOf t) r q _ (o7 t) rfl
    (fun x1 x2 h1 h2 => by
      refine Eq.trans (b := k0_pay49 (Tin.dp2 (tinAt m c t g)) (ix3 0 x1 x2)) (congrArg (fun X : FVec Ideal S64x2816 .bf16 => k0_pay49 X (ix3 (n0 := 1) (n1 := 64) (n2 := 2816) 0 x1 x2)) ?_) ?_
      · rw [dp2_eq (hc1 := hc1) (x3 := b2 m c t) (x4 := b3 m c t) (x8 := b7 m c t) (x9 := b8 m c t) (x16 := g.dgg) (x18 := g.carry)]
        rfl
      · rw [pay49_apply, Tin.dp2_apply, h1, h2]
        exact (dupv_P _ _ _).symm) fun hn7 => ?_
  refine agree3 (n1 := 64) (n2 := 2816) (a := t.val % 2) (b := 192) (c := 2816) _ _ _ _ _ (slotOf t) r q _ (o3 t) rfl
    (fun x1 x2 h1 h2 => by
      refine Eq.trans (b := k0_pay49 (Tin.dv3 (tinAt m c t g)) (ix3 0 x1 x2)) (congrArg (fun X : FVec Ideal S64x2816 .bf16 => k0_pay49 X (ix3 (n0 := 1) (n1 := 64) (n2 := 2816) 0 x1 x2)) ?_) ?_
      · rw [dv3_eq (hc1 := hc1) (x3 := b2 m c t) (x4 := b3 m c t) (x8 := b7 m c t) (x9 := b8 m c t) (x16 := g.dgg) (x18 := g.carry)]
        rfl
      · rw [pay49_apply, Tin.dv3_apply, h1, h2]
        exact (dupv_W _ _ _).symm) fun hn3 => ?_
  refine agree3 (n1 := 64) (n2 := 2816) (a := t.val % 2) (b := 192) (c := 0) _ _ _ _ _ (slotOf t) r q _ (o2 t) rfl
    (fun x1 x2 h1 h2 => by
      refine Eq.trans (b := k0_pay49 (Tin.dp3 (tinAt m c t g)) (ix3 0 x1 x2)) (congrArg (fun X : FVec Ideal S64x2816 .bf16 => k0_pay49 X (ix3 (n0 := 1) (n1 := 64) (n2 := 2816) 0 x1 x2)) ?_) ?_
      · rw [dp3_eq (hc1 := hc1) (x3 := b2 m c t) (x4 := b3 m c t) (x8 := b7 m c t) (x9 := b8 m c t) (x16 := g.dgg) (x18 := g.carry)]
        rfl
      · rw [pay49_apply, Tin.dp3_apply, h1, h2]
        exact (dupv_P _ _ _).symm) fun hn2 => ?_
  omega

theorem out10_step (c : Dev nD) (t : Fin cfg0.N) (h0 : ¬t.val = 0) (h1 : t.val < 33) (g : Scr Ideal) (Y : Vec Ideal S256x5632 .bf16) (r : Fin 256) (q : Fin 5632) :
    out10 m c t g Y (ix2 r q) = dupv (tinAt m c t g) r.val q.val := by
  have hc1 : k0_cond2 (grid0.coords t) = 1#1 := (hcond1 t).mpr (by omega)
  unfold out10
  rw [dif_neg h0, dif_pos h1]
  unfold atB runB
  dsimp only
  refine agree2 (n0 := 64) (n1 := 2816) _ _ 0 2816 _ _ _ r q _
    (fun x1 x2 h1 h2 => by
      rw [dv0_eq (hc1 := hc1) (x3 := b2 m c t) (x4 := b3 m c t) (x8 := b7 m c t) (x9 := b8 m c t) (x16 := g.dgg) (x18 := g.carry), h1, h2]
      exact (Tin.dv0_apply _ _ _).trans (dupv_W _ _ _).symm) fun hn0_2816 => ?_
  refine agree2 (n0 := 64) (n1 := 2816) _ _ 0 0 _ _ _ r q _
    (fun x1 x2 h1 h2 => by
      rw [dp0_eq (hc1 := hc1) (x3 := b2 m c t) (x4 := b3 m c t) (x8 := b7 m c t) (x9 := b8 m c t) (x16 := g.dgg) (x18 := g.carry), h1, h2]
      exact (Tin.dp0_apply _ _ _).trans (dupv_P _ _ _).symm) fun hn0_0 => ?_
  refine agree2 (n0 := 64) (n1 := 2816) _ _ 64 2816 _ _ _ r q _
    (fun x1 x2 h1 h2 => by
      rw [dv1_eq (hc1 := hc1) (x3 := b2 m c t) (x4 := b3 m c t) (x8 := b7 m c t) (x9 := b8 m c t) (x16 := g.dgg) (x18 := g.carry), h1, h2]
      exact (Tin.dv1_apply _ _ _).trans (dupv_W _ _ _).symm) fun hn64_2816 => ?_
  refine agree2 (n0 := 64) (n1 := 2816) _ _ 64 0 _ _ _ r q _
    (fun x1 x2 h1 h2 => by
      rw [dp1_eq (hc1 := hc1) (x3 := b2 m c t) (x4 := b3 m c t) (x8 := b7 m c t) (x9 := b8 m c t) (x16 := g.dgg) (x18 := g.carry), h1, h2]
      exact (Tin.dp1_apply _ _ _).trans (dupv_P _ _ _).symm) fun hn64_0 => ?_
  refine agree2 (n0 := 64) (n1 := 2816) _ _ 128 2816 _ _ _ r q _
    (fun x1 x2 h1 h2 => by
      rw [dv2_eq (hc1 := hc1) (x3 := b2 m c t) (x4 := b3 m c t) (x8 := b7 m c t) (x9 := b8 m c t) (x16 := g.dgg) (x18 := g.carry), h1, h2]
      exact (Tin.dv2_apply _ _ _).trans (dupv_W _ _ _).symm) fun hn128_2816 => ?_
  refine agree2 (n0 := 64) (n1 := 2816) _ _ 128 0 _ _ _ r q _
    (fun x1 x2 h1 h2 => by
      rw [dp2_eq (hc1 := hc1) (x3 := b2 m c t) (x4 := b3 m c t) (x8 := b7 m c t) (x9 := b8 m c t) (x16 := g.dgg) (x18 := g.carry), h1, h2]
      exact (Tin.dp2_apply _ _ _).trans (dupv_P _ _ _).symm) fun hn128_0 => ?_
  refine agree2 (n0 := 64) (n1 := 2816) _ _ 192 2816 _ _ _ r q _
    (fun x1 x2 h1 h2 => by
      rw [dv3_eq (hc1 := hc1) (x3 := b2 m c t) (x4 := b3 m c t) (x8 := b7 m c t) (x9 := b8 m c t) (x16 := g.dgg) (x18 := g.carry), h1, h2]
      exact (Tin.dv3_apply _ _ _).trans (dupv_W _ _ _).symm) fun hn192_2816 => ?_
  refine agree2 (n0 := 64) (n1 := 2816) _ _ 192 0 _ _ _ r q _
    (fun x1 x2 h1 h2 => by
      rw [dp3_eq (hc1 := hc1) (x3 := b2 m c t) (x4 := b3 m c t) (x8 := b7 m c t) (x9 := b8 m c t) (x16 := g.dgg) (x18 := g.carry), h1, h2]
      exact (Tin.dp3_apply _ _ _).trans (dupv_P _ _ _).symm) fun hn192_0 => ?_
  omega

theorem accW_step (c : Dev nD) (t : Fin cfg0.N) (h0 : ¬t.val = 0) (h1 : t.val < 33) (g : Scr Ideal) (k : Fin 3) (j : Fin 2816) :
    (stepB m c t h0 h1 g).accW (ix2 (n0 := 8) (n1 := 2816) ⟨k.val, by omega⟩ j) = g.accW (ix2 (n0 := 8) (n1 := 2816) ⟨k.val, by omega⟩ j)
      + ∑ r : Fin 256, (tinAt m c t g).gA r.val j * (tinAt m c t g).gE (r.val + (6 + k.val)) j := by
  have hc1 : k0_cond2 (grid0.coords t) = 1#1 := (hcond1 t).mpr (by omega)
  unfold stepB atB runB
  dsimp only
  unfold runB.sl.H19_11 runB.sl.H19_10
  match k with
  | ⟨0, _⟩ =>
    refine (View.read_writes_cons_unit_of_not_mem (s := S8x2816) _ _ (off := ![2, 0]) (off' := ![2, 0]) (size := S1x2816.size) inb_S8x2816_S1x2816_2_0 _ _ _ rfl (0 : Fin 2) (by show (0 : ℕ) < 2 ∨ 2 + 1 ≤ 0; omega)).trans ?_
    refine (View.read_writes_cons_unit_of_not_mem (s := S8x2816) _ _ (off := ![1, 0]) (off' := ![1, 0]) (size := S1x2816.size) inb_S8x2816_S1x2816_1_0 _ _ _ rfl (0 : Fin 2) (by show (0 : ℕ) < 1 ∨ 1 + 1 ≤ 0; omega)).trans ?_
    refine (View.read_writes_cons_unit_of_mem (s := S8x2816) _ _ (off := ![0, 0]) (off' := ![0, 0]) (size := S1x2816.size) inb_S8x2816_S1x2816_0_0 _ _ _ (ix2 (n0 := 1) (n1 := 2816) 0 j) rfl (fun a => by
      match a with
      | ⟨0, _⟩ => rfl
      | ⟨1, _⟩ => show j.val = 0 + j.val; omega)).trans ?_
    rw [s00_eq (hc1 := hc1) (x3 := b2 m c t) (x4 := b3 m c t) (x8 := b7 m c t) (x9 := b8 m c t) (x16 := g.dgg) (x18 := g.carry), n0_eq (x3 := b2 m c t) (x4 := b3 m c t) (x8 := b7 m c t) (x9 := b8 m c t) (x16 := g.dgg) (x18 := g.carry), da0_eq (hc1 := hc1) (x3 := b2 m c t) (x4 := b3 m c t) (x8 := b7 m c t) (x9 := b8 m c t) (x16 := g.dgg) (x18 := g.carry)]
    refine (row_sum (tinAt m c t g) 6 _ _ _ _ _ j (fun r => ?_) (fun r => ?_) (fun r => ?_) (fun r => ?_)).trans ?_
    · exact Tin.am20_apply (tinAt m c t g) r j
    · exact Tin.am21_apply (tinAt m c t g) r j
    · exact Tin.am22_apply (tinAt m c t g) r j
    · exact Tin.am23_apply (tinAt m c t g) r j
    · rfl
  | ⟨1, _⟩ =>
    refine (View.read_writes_cons_unit_of_not_mem (s := S8x2816) _ _ (off := ![2, 0]) (off' := ![2, 0]) (size := S1x2816.size) inb_S8x2816_S1x2816_2_0 _ _ _ rfl (0 : Fin 2) (by show (1 : ℕ) < 2 ∨ 2 + 1 ≤ 1; omega)).trans ?_
    refine (View.read_writes_cons_unit_of_mem (s := S8x2816) _ _ (off := ![1, 0]) (off' := ![1, 0]) (size := S1x2816.size) inb_S8x2816_S1x2816_1_0 _ _ _ (ix2 (n0 := 1) (n1 := 2816) 0 j) rfl (fun a => by
      match a with
      | ⟨0, _⟩ => rfl
      | ⟨1, _⟩ => show j.val = 0 + j.val; omega)).trans ?_
    rw [s10_eq (hc1 := hc1) (x3 := b2 m c t) (x4 := b3 m c t) (x8 := b7 m c t) (x9 := b8 m c t) (x16 := g.dgg) (x18 := g.carry), m0_eq (x3 := b2 m c t) (x4 := b3 m c t) (x8 := b7 m c t) (x9 := b8 m c t) (x16 := g.dgg) (x18 := g.carry), da0_eq (hc1 := hc1) (x3 := b2 m c t) (x4 := b3 m c t) (x8 := b7 m c t) (x9 := b8 m c t) (x16 := g.dgg) (x18 := g.carry)]
    refine (row_sum (tinAt m c t g) 7 _ _ _ _ _ j (fun r => ?_) (fun r => ?_) (fun r => ?_) (fun r => ?_)).trans ?_
    · exact Tin.am10_apply (tinAt m c t g) r j
    · exact Tin.am11_apply (tinAt m c t g) r j
    · exact Tin.am12_apply (tinAt m c t g) r j
    · exact Tin.am13_apply (tinAt m c t g) r j
    · rfl
  | ⟨2, _⟩ =>
    refine (View.read_writes_cons_unit_of_mem (s := S8x2816) _ _ (off := ![2, 0]) (off' := ![2, 0]) (size := S1x2816.size) inb_S8x2816_S1x2816_2_0 _ _ _ (ix2 (n0 := 1) (n1 := 2816) 0 j) rfl (fun a => by
      match a with
      | ⟨0, _⟩ => rfl
      | ⟨1, _⟩ => show j.val = 0 + j.val; omega)).trans ?_
    rw [s20_eq (hc1 := hc1) (x3 := b2 m c t) (x4 := b3 m c t) (x8 := b7 m c t) (x9 := b8 m c t) (x16 := g.dgg) (x18 := g.carry), a0_eq (x3 := b2 m c t) (x4 := b3 m c t) (x8 := b7 m c t) (x9 := b8 m c t) (x16 := g.dgg) (x18 := g.carry), da0_eq (hc1 := hc1) (x3 := b2 m c t) (x4 := b3 m c t) (x8 := b7 m c t) (x9 := b8 m c t) (x16 := g.dgg) (x18 := g.carry)]
    refine (row_sum (tinAt m c t g) 8 _ _ _ _ _ j (fun r => ?_) (fun r => ?_) (fun r => ?_) (fun r => ?_)).trans ?_
    · exact (Tin.a0_apply (tinAt m c t g) r j).trans (by rw [Nat.add_comm])
    · exact (Tin.a1_apply (tinAt m c t g) r j).trans (by rw [Nat.add_comm])
    · exact (Tin.a2_apply (tinAt m c t g) r j).trans (by rw [Nat.add_comm])
    · exact (Tin.a3_apply (tinAt m c t g) r j).trans (by rw [Nat.add_comm])
    · rfl

theorem accB_step (c : Dev nD) (t : Fin cfg0.N) (h0 : ¬t.val = 0) (h1 : t.val < 33) (g : Scr Ideal) (j : Fin 2816) :
    (stepB m c t h0 h1 g).accB (ix2 0 j) = g.accB (ix2 0 j) + ∑ r : Fin 256, (tinAt m c t g).gA r.val j := by
  have hc1 : k0_cond2 (grid0.coords t) = 1#1 := (hcond1 t).mpr (by omega)
  unfold stepB atB runB
  dsimp only
  refine (congrFun (View.read_writes_full (s := S1x2816) _ _ inb_S1x2816_S1x2816_0_0 _ _) (ix2 0 j)).trans ?_
  rw [sb0_eq (hc1 := hc1) (x3 := b2 m c t) (x4 := b3 m c t) (x8 := b7 m c t) (x9 := b8 m c t) (x16 := g.dgg) (x18 := g.carry), da0_eq (hc1 := hc1) (x3 := b2 m c t) (x4 := b3 m c t) (x8 := b7 m c t) (x9 := b8 m c t) (x16 := g.dgg) (x18 := g.carry)]
  exact bias_sum (tinAt m c t g) _ j

theorem out11_step (c : Dev nD) (t : Fin cfg0.N) (h0 : ¬t.val = 0) (h1 : t.val < 33) (g : Scr Ideal) (Y : Vec Ideal S256x1024 .f32) (r : Fin 256) (d : Fin 1024) :
    out11 m c t g Y (ix2 r d) = gH (du2At m c t g r) (fun e => b4 m c t (ix2 r e)) (fun e => b1 m c t (ix2 r e)) (fun e => b5 m c t (ix2 0 e)) d := by
  have hc1 : k0_cond2 (grid0.coords t) = 1#1 := (hcond1 t).mpr (by omega)
  unfold out11
  rw [dif_neg h0, dif_pos h1]
  unfold atB runB
  dsimp only
  refine (congrFun (View.read_writes_full (s := S256x1024) _ _ inb_S256x1024_S256x1024_0_0 _ _) (ix2 r d)).trans ?_
  rw [u_eq (hc1 := hc1)]
  unfold runB.sl.r_44
  simp only [View.readAt_eq_ld, Memref.IsWhole.read_unread]
  exact out11_val (b6 m c t) (otherOf t) _ (b4 m c t) (b1 m c t) (b5 m c t) r d

theorem accN_step (c : Dev nD) (t : Fin cfg0.N) (h0 : ¬t.val = 0) (h1 : t.val < 33) (g : Scr Ideal) (d : Fin 1024) :
    (stepB m c t h0 h1 g).accN (ix2 0 d) = g.accN (ix2 0 d) + (if 0 < t.val then ∑ r : Fin 256, du2At m c t g r d * (b4 m c t (ix2 r d) * gR (fun e => b4 m c t (ix2 r e))) else 0) := by
  have hc1 : k0_cond2 (grid0.coords t) = 1#1 := (hcond1 t).mpr (by omega)
  unfold stepB atB runB
  dsimp only
  refine (congrFun (View.read_writes_full (s := S1x1024) _ _ inb_S1x1024_S1x1024_0_0 _ _) (ix2 0 d)).trans ?_
  unfold runB.sl.r_45
  have hv : runB.sl.v497 (grid0.coords t) = 1#1 := by
    have h : ∀ t : Fin cfg0.N, t.val ≠ 0 → runB.sl.v497 (grid0.coords t) = 1#1 := by decide +kernel
    exact h t h0
  have hg : View.read (Elt Ideal) (sc5).view ((hsc5).unread g.accN) = g.accN := (hsc5).read_unread g.accN
  rw [hv, u_eq (hc1 := hc1), if_pos (by omega)]
  unfold runB.sl.r_44
  simp only [View.readAt_eq_ld, hg, Memref.IsWhole.read_unread]
  exact accN_val (b6 m c t) (otherOf t) g.dup (b4 m c t) g.accN d

theorem point (c : Dev nD) (t : Fin cfg0.N) (h0 : ¬t.val = 0) (h1 : t.val < 33) (g : Scr Ideal) (Y10 : Vec Ideal S256x5632 .bf16) (Y11 : Vec Ideal S256x1024 .f32) :
    PointSpec m c t g (stepB m c t h0 h1 g) (out10 m c t g Y10) (out11 m c t g Y11) where
  carry := carry_step m c t h0 h1 g
  dgg := dgg_step m c t h0 h1 g
  dup := dup_step m c t h0 h1 g
  out10 := out10_step m c t h0 h1 g Y10
  accW := accW_step m c t h0 h1 g
  accB := accB_step m c t h0 h1 g
  out11 := out11_step m c t h0 h1 g Y11
  accN := accN_step m c t h0 h1 g

end Cert.KernelIdeal.Ffn.B

end
-- ==== Proof.Ffn.StepC.lean ====
module

public import proofs.«01_k».proof.Proof.Ffn.Spec

/-! What the last point leaves, over the reals: the first tile's residual gradient and the three small results. -/

@[expose] public section

set_option maxRecDepth 16384

noncomputable section

namespace Cert.KernelIdeal.Ffn.C

open Cert.KernelIdeal Cert.KernelIdeal.Gen Cert.KernelIdeal.Ffn
open Idealize.ShloMosaic Idealize.ShloMosaic.TcCoe Idealize.ShloMosaic.Tactic Idealize.SL.Sem

theorem prod_eq (a b : Vec Ideal S1x256x2816 .bf16) (v w : Vec Ideal S1x1024x2816 .bf16) : k0_pay102 a v b w = k0_pay79 (k0_pay33 a v) b w := rfl

theorem norm_eq (a b : Vec Ideal S1x256x2816 .bf16) (v w : Vec Ideal S1x1024x2816 .bf16) (x c : Vec Ideal S256x1024 .f32) (n : Vec Ideal S1x1024 .f32) :
    k0_pay8 c (k0_pay105 a v b w x n) (k0_pay106 x) = k0_pay100 (k0_pay79 (k0_pay33 a v) b w) x c n := rfl

theorem sum_eq (u : FVec Ideal S256x1024 .f32) (x : Vec Ideal S256x1024 .f32) (g : Vec Ideal S1x1024 .f32) :
    k0_pay9 u (k0_pay104 x) g = k0_pay7 (k0_pay101 u 1#1 x g) := rfl

variable (m : (ℓ : Loc nD τ sig) → Buf (Elt Ideal) ℓ)

theorem half (D : Vec Ideal S2x256x5632 .bf16) (t : Fin cfg0.N) (b : Fin 2) {off : Fin 3 → ℕ} (inb : ∀ a, off a + S1x256x2816.size a ≤ S2x256x5632.size a)
    (ho : off = ![1 - t.val % 2, 0, 2816 * b.val]) :
    View.readAt (Elt Ideal) sc1.view (Rect.unit (s := S2x256x5632) off S1x256x2816.size inb).toLoadRect (hsc1.unread D) = duH (otherOf t) b D :=
  dup_read sc1.view _ D (otherOf t) b inb ho fun y _ => congrFun (hsc1.read_unread D) y

theorem out11_last (c : Dev nD) (t : Fin cfg0.N) (h1 : ¬t.val < 33) (g : Scr Ideal) (Y : Vec Ideal S256x1024 .f32) (r : Fin 256) (d : Fin 1024) :
    out11 m c t g Y (ix2 r d) = gH (du2At m c t g r) (fun e => b4 m c t (ix2 r e)) (fun e => b1 m c t (ix2 r e)) (fun e => b5 m c t (ix2 0 e)) d := by
  have h0 : ¬t.val = 0 := by omega
  unfold out11
  rw [dif_neg h0, dif_neg h1]
  unfold atC runC
  dsimp only
  refine (congrFun (View.read_writes_full (s := S256x1024) _ _ inb_S256x1024_S256x1024_0_0 _ _) (ix2 r d)).trans ?_
  unfold runC.sl.r_1 runC.sl.r_3 runC.sl.r_4
  rw [half g.dup t 0 _ (o19 t), half g.dup t 1 _ (o20 t)]
  simp only [View.readAt_eq_ld, Memref.IsWhole.read_unread]
  rw [norm_eq]
  exact out11_val (b6 m c t) (otherOf t) g.dup (b4 m c t) (b1 m c t) (b5 m c t) r d

theorem out12_last (c : Dev nD) (t : Fin cfg0.N) (h1 : ¬t.val < 33) (g : Scr Ideal) (Y : Vec Ideal S3x2816 .f32) (k : Fin 3) (j : Fin 2816) :
    out12 m c t g Y (ix2 k j) = g.accW (ix2 (n0 := 8) (n1 := 2816) ⟨k.val, by omega⟩ j) := by
  have h0 : ¬t.val = 0 := by omega
  unfold out12
  rw [dif_neg h0, dif_neg h1]
  unfold atC runC
  dsimp only
  refine (congrFun (View.read_writes_full (s := S3x2816) _ _ inb_S3x2816_S3x2816_0_0 _ _) (ix2 k j)).trans ?_
  rw [View.readAt_eq_ld]
  refine (Cert.Canon.ld_at (S := S8x2816) (off := ![0, 0]) (size := ![3, 2816]) _ _ _ (ix2 (n0 := 8) (n1 := 2816) ⟨k.val, by omega⟩ j) fun a => ?_).trans
    (congrFun (hsc3.read_unread g.accW) _)
  match a with
  | ⟨0, _⟩ => show k.val = 0 + k.val; omega
  | ⟨1, _⟩ => show j.val = 0 + j.val; omega

theorem out13_last (c : Dev nD) (t : Fin cfg0.N) (h1 : ¬t.val < 33) (g : Scr Ideal) (Y : Vec Ideal S1x2816 .f32) :
    out13 m c t g Y = g.accB := by
  have h0 : ¬t.val = 0 := by omega
  unfold out13
  rw [dif_neg h0, dif_neg h1]
  unfold atC runC
  dsimp only
  refine (View.read_writes_full (s := S1x2816) _ _ inb_S1x2816_S1x2816_0_0 _ _).trans ?_
  rw [View.readAt_eq_ld]
  exact (ld2_full (a := 1) (b := 2816) _ _).trans (hsc4.read_unread g.accB)

theorem out14_last (c : Dev nD) (t : Fin cfg0.N) (h1 : ¬t.val < 33) (g : Scr Ideal) (Y : Vec Ideal S1x1024 .f32) (d : Fin 1024) :
    out14 m c t g Y (ix2 0 d) = g.accN (ix2 0 d) + ∑ r : Fin 256, du2At m c t g r d * (b4 m c t (ix2 r d) * gR (fun e => b4 m c t (ix2 r e))) := by
  have h0 : ¬t.val = 0 := by omega
  unfold out14
  rw [dif_neg h0, dif_neg h1]
  unfold atC runC
  dsimp only
  refine (congrFun (View.read_writes_full (s := S1x1024) _ _ inb_S1x1024_S1x1024_0_0 _ _) (ix2 0 d)).trans ?_
  unfold runC.sl.v65 runC.sl.H21_1 runC.sl.r runC.sl.r_2
  refine (congrFun (cov_hit sc5.view inb_S1x1024_S1x1024_0_0 _ _) (ix2 0 d)).trans ?_
  rw [half g.dup t 0 _ (o19 t), half g.dup t 1 _ (o20 t)]
  have hg : View.read (Elt Ideal) sc5.view (hsc5.unread g.accN) = g.accN := hsc5.read_unread g.accN
  simp only [View.readAt_eq_ld, hg, Memref.IsWhole.read_unread]
  rw [prod_eq, sum_eq]
  exact accN_val (b6 m c t) (otherOf t) g.dup (b4 m c t) g.accN d

end Cert.KernelIdeal.Ffn.C

end
-- ==== Proof.Ffn.Sweep.lean ====
module

public import proofs.«01_k».proof.Proof.Ffn.Inv
public import proofs.«01_k».proof.Proof.Ffn.StepA
public import proofs.«01_k».proof.Proof.Ffn.StepB
public import proofs.«01_k».proof.Proof.Ffn.StepC

/-! The invariant at every point, and what the output buffers hold there. -/

@[expose] public section

set_option maxRecDepth 16384

noncomputable section

namespace Cert.KernelIdeal.Ffn

open Cert.KernelIdeal Cert.KernelIdeal.Gen
open Idealize.ShloMosaic Idealize.ShloMosaic.TcCoe Idealize.SL.Sem

variable (m : (ℓ : Loc nD τ sig) → Buf (Elt Ideal) ℓ)

theorem da_past (D : Data) (N : ℕ) (h : 8448 ≤ N) (j : Fin 2816) : D.da N j = 0 := by
  unfold Data.da
  rw [if_neg (by omega)]

/-- The invariant after the first point's resets. -/
theorem Inv.first (c : Dev nD) (t : Fin cfg0.N) (h0 : t.val = 0) (g : Scr Ideal) : Inv m c t.val (resetScr m c t g) where
  dgg := fun _ r j => by
    have e : (⟨t.val % 2, by omega⟩ : Fin 2) = 0 := Fin.ext (by show t.val % 2 = 0; omega)
    rw [e]
    unfold resetScr resetRing
    dsimp only
    rw [if_pos (by rfl)]
    refine (pay6_apply _ _ r j).trans ?_
    rw [ld2_full (a := 256) (b := 1024) (b1 m c t), ld2_full (a := 2816) (b := 1024) (b9 m c t)]
    unfold Data.dg
    refine Finset.sum_congr rfl fun d _ => ?_
    rw [blk1, blk9]
    congr 2
    omega
  dup := fun r q h => absurd h (by omega)
  carry := fun q j => by
    rw [da_past _ _ (by omega)]
    exact pay1_zero (ix2 q j)
  accW := fun k j => by
    rw [h0, Finset.sum_range_zero]
    exact pay2_zero (ix2 ⟨k.val, by omega⟩ j)
  accB := fun j => by
    rw [h0, Finset.sum_range_zero]
    exact pay3_zero (ix2 0 j)
  accN := fun d => by
    rw [h0, Nat.zero_sub, Finset.sum_range_zero]
    exact pay4_zero (ix2 0 d)

/-- A point before the last: the contents it works on keep the invariant, and what it leaves is as specified. -/
theorem point_any (c : Dev nD) (t : Fin cfg0.N) (ht : t.val < 33) (g : Scr Ideal) (hg : 0 < t.val → Inv m c t.val g) (Y10 : Vec Ideal S256x5632 .bf16) (Y11 : Vec Ideal S256x1024 .f32) :
    ∃ R, Inv m c t.val R ∧ PointSpec m c t R (step m c t g) (out10 m c t g Y10) (out11 m c t g Y11) := by
  unfold step
  by_cases h0 : t.val = 0
  · rw [dif_pos h0]
    exact ⟨_, Inv.first m c t h0 g, A.point m c t h0 g Y10 Y11⟩
  · rw [dif_neg h0, dif_pos ht]
    exact ⟨_, hg (by omega), B.point m c t h0 ht g Y10 Y11⟩

/-- The invariant before every point but the first. -/
theorem state_inv (c : Dev nD) (g : Scr Ideal) : ∀ n, 0 < n → n ≤ 33 → Inv m c n (state m c g n)
  | 0, h, _ => absurd h (by omega)
  | n + 1, _, hn => by
    have hN : n < cfg0.N := by rw [show cfg0.N = 34 from N_0]; omega
    obtain ⟨R, hI, P⟩ := point_any m c ⟨n, hN⟩ (by show n < 33; omega) (state m c g n) (fun h => state_inv c g n h (by omega)) (fun _ => 0) (fun _ => 0)
    have := Inv.next m c ⟨n, hN⟩ (by show n < 33; omega) R _ hI P
    rw [show state m c g (n + 1) = step m c ⟨n, hN⟩ (state m c g n) from state_succ m c g ⟨n, hN⟩]
    exact this

section Outs
variable (c : Dev nD) (t : Fin cfg0.N) (g : Scr Ideal)

theorem out10_eq (ht : t.val < 33) (Y : Vec Ideal S256x5632 .bf16) (r : Fin 256) (q : Fin 5632) :
    out10 m c t (state m c g t.val) Y (ix2 r q) = (data m c).dup (256 * (32 - t.val) + r.val) q := by
  obtain ⟨R, hI, P⟩ := point_any m c t ht (state m c g t.val) (fun h => state_inv m c g _ h (by omega)) Y (fun _ => 0)
  rw [P.out10, dup_eq m c t ht R hI]

theorem out10_last (ht : ¬t.val < 33) (Y : Vec Ideal S256x5632 .bf16) : out10 m c t (state m c g t.val) Y = Y := by
  unfold out10
  rw [dif_neg (by omega), dif_neg ht]

theorem out11_eq (h0 : 0 < t.val) (Y : Vec Ideal S256x1024 .f32) (r : Fin 256) (d : Fin 1024) :
    out11 m c t (state m c g t.val) Y (ix2 r d) = (data m c).dh (256 * (33 - t.val) + r.val) d := by
  have hI := state_inv m c g t.val h0 (by have := t_lt t; omega)
  by_cases ht : t.val < 33
  · rw [(B.point m c t (by omega) ht (state m c g t.val) (fun _ => 0) Y).out11, norm_eq m c t h0 _ hI]
  · rw [C.out11_last m c t ht, norm_eq m c t h0 _ hI]

theorem out12_eq (ht : ¬t.val < 33) (Y : Vec Ideal S3x2816 .f32) (k : Fin 3) (j : Fin 2816) :
    out12 m c t (state m c g t.val) Y (ix2 k j) = ∑ i ∈ Finset.range 8448, (data m c).tw k j i := by
  have e : t.val = 33 := by have := t_lt t; omega
  have hI := state_inv m c g t.val (by omega) (by omega)
  rw [C.out12_last m c t ht, hI.accW, e]
  exact Finset.sum_congr rfl fun i _ => by rw [show 256 * (33 - 33) + i = i by omega]

theorem out13_eq (ht : ¬t.val < 33) (Y : Vec Ideal S1x2816 .f32) (j : Fin 2816) :
    out13 m c t (state m c g t.val) Y (ix2 0 j) = ∑ i ∈ Finset.range 8448, (data m c).da i j := by
  have e : t.val = 33 := by have := t_lt t; omega
  have hI := state_inv m c g t.val (by omega) (by omega)
  rw [C.out13_last m c t ht, hI.accB, e]
  exact Finset.sum_congr rfl fun i _ => by rw [show 256 * (33 - 33) + i = i by omega]

theorem out14_eq (ht : ¬t.val < 33) (Y : Vec Ideal S1x1024 .f32) (d : Fin 1024) :
    out14 m c t (state m c g t.val) Y (ix2 0 d) = ∑ i ∈ Finset.range 8448, (data m c).tn d i := by
  have e : t.val = 33 := by have := t_lt t; omega
  have hI := state_inv m c g t.val (by omega) (by omega)
  rw [C.out14_last m c t ht, hI.accN, tn_eq m c t (by omega) _ hI, e]
  refine (sum_tile ((data m c).tn d) 32 (256 * (33 - 33)) (256 * (33 - (33 - 1))) (by omega)).trans ?_
  exact Finset.sum_congr rfl fun i _ => by rw [show 256 * (33 - 33) + i = i by omega]

end Outs

end Cert.KernelIdeal.Ffn

end
-- ==== Proof.Ffn.Arrays.lean ====
module

public import proofs.«01_k».proof.Proof.Ffn.Sweep
public import proofs.«01_k».proof.Proof.Ffn.Run
public import Idealize.ShloMosaic.Lib.Pipeline.ArrRel
public import Idealize.ShloMosaic.Lib.Pipeline.ValueKit.Geometry

/-! The kernel's five result arrays. -/

@[expose] public section

set_option maxRecDepth 16384

noncomputable section

namespace Cert.KernelIdeal.Ffn

open Cert.KernelIdeal Cert.KernelIdeal.Gen
open Idealize.ShloMosaic Idealize.ShloMosaic.TcCoe Idealize.SL.Sem
open Idealize.ShloMosaic.Pipeline (Dat RDat Cfg Window)

theorem idx10 : ∀ t : Fin cfg0.N, win0_10.index t (0 : Fin 2) = 32 - t.val ∧ win0_10.index t (1 : Fin 2) = 0 :=
  (by decide +kernel : ∀ t : Fin grid0.N, _)
theorem idx11 : ∀ t : Fin cfg0.N, win0_11.index t (0 : Fin 2) = min (33 - t.val) 32 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)

/-! When each output's buffer is written back, decided over the grid. -/
theorem flush10 : ∀ t : Fin cfg0.N, win0_10.flush t = decide (t.val ≠ 32) := (by decide +kernel : ∀ t : Fin grid0.N, _)
theorem fetch10 : ∀ t : Fin cfg0.N, win0_10.fetch t = false := (by decide +kernel : ∀ t : Fin grid0.N, _)
theorem flush11 : ∀ t : Fin cfg0.N, win0_11.flush t = decide (t.val ≠ 0) := (by decide +kernel : ∀ t : Fin grid0.N, _)
theorem flush12 : ∀ t : Fin cfg0.N, win0_12.flush t = decide (t.val = 33) := (by decide +kernel : ∀ t : Fin grid0.N, _)
theorem flush13 : ∀ t : Fin cfg0.N, win0_13.flush t = decide (t.val = 33) := (by decide +kernel : ∀ t : Fin grid0.N, _)
theorem flush14 : ∀ t : Fin cfg0.N, win0_14.flush t = decide (t.val = 33) := (by decide +kernel : ∀ t : Fin grid0.N, _)

variable (m : (ℓ : Loc nD τ sig) → Buf (Elt Ideal) ℓ)

/-- The five results of device `c`, index by index. -/
def R10 (c : Dev nD) : Vec Ideal S8448x5632 .bf16 := fun i => (data m c).dup (i 0).val (i 1)
def R11 (c : Dev nD) : Vec Ideal S8448x1024 .f32 := fun i => (data m c).dh (i 0).val (i 1)
def R12 (c : Dev nD) : Vec Ideal S3x2816 .f32 := fun i => ∑ N ∈ Finset.range 8448, (data m c).tw (i 0) (i 1) N
def R13 (c : Dev nD) : Vec Ideal S1x2816 .f32 := fun i => ∑ N ∈ Finset.range 8448, (data m c).da N (i 1)
def R14 (c : Dev nD) : Vec Ideal S1x1024 .f32 := fun i => ∑ N ∈ Finset.range 8448, (data m c).tn (i 1) N

theorem eq_row {n : ℕ} (y : (⟨2, ![1, n]⟩ : Shape).Idx) : y = ix2 0 (y 1) := by
  funext a
  match a with
  | ⟨0, _⟩ => exact Subsingleton.elim (α := Fin 1) _ _
  | ⟨1, _⟩ => rfl

section Leaves
variable (c : Dev nD) (t : Fin cfg0.N)

theorem leaves10 (hf : win0_10.flush t = true) (X : Vec Ideal S256x5632 .bf16) (h : (rdat m c).Leaves 10 t X) (r : Fin 256) (q : Fin 5632) :
    X (ix2 r q) = (data m c).dup (256 * (32 - t.val) + r.val) q := by
  have hlt := t_lt t
  have hv : t.val ≠ 32 := by rw [flush10] at hf; exact of_decide_eq_true hf
  obtain ⟨Y, hY, g, rfl⟩ := h
  by_cases ht : t.val < 33
  · exact out10_eq m c t g ht Y r q
  · rw [out10_last m c t g ht]
    have e : t.val = 33 := by omega
    rcases ((rdat m c).finds_of_pos (w := 10) (fetch10 t) (by omega) Y).mp hY with h | h
    · have := (flush10 _).symm.trans h
      exact absurd (of_decide_eq_true this) (by show ¬(t.val - 1 ≠ 32); omega)
    · obtain ⟨Z, _, g', rfl⟩ := h
      refine (out10_eq m c ⟨t.val - 1, _⟩ g' (by show t.val - 1 < 33; omega) Z r q).trans ?_
      congr 1
      show 256 * (32 - (t.val - 1)) + r.val = _
      omega

theorem leaves11 (hf : win0_11.flush t = true) (X : Vec Ideal S256x1024 .f32) (h : (rdat m c).Leaves 11 t X) (r : Fin 256) (d : Fin 1024) :
    X (ix2 r d) = (data m c).dh (256 * min (33 - t.val) 32 + r.val) d := by
  have hv : t.val ≠ 0 := by rw [flush11] at hf; exact of_decide_eq_true hf
  obtain ⟨Y, _, g, rfl⟩ := h
  refine (out11_eq m c t g (by omega) Y r d).trans ?_
  congr 1
  omega

theorem leaves12 (hf : win0_12.flush t = true) (X : Vec Ideal S3x2816 .f32) (h : (rdat m c).Leaves 12 t X) (k : Fin 3) (j : Fin 2816) :
    X (ix2 k j) = ∑ N ∈ Finset.range 8448, (data m c).tw k j N := by
  have hv : t.val = 33 := by rw [flush12] at hf; exact of_decide_eq_true hf
  obtain ⟨Y, _, g, rfl⟩ := h
  exact out12_eq m c t g (by omega) Y k j

theorem leaves13 (hf : win0_13.flush t = true) (X : Vec Ideal S1x2816 .f32) (h : (rdat m c).Leaves 13 t X) (j : Fin 2816) :
    X (ix2 0 j) = ∑ N ∈ Finset.range 8448, (data m c).da N j := by
  have hv : t.val = 33 := by rw [flush13] at hf; exact of_decide_eq_true hf
  obtain ⟨Y, _, g, rfl⟩ := h
  exact out13_eq m c t g (by omega) Y j

theorem leaves14 (hf : win0_14.flush t = true) (X : Vec Ideal S1x1024 .f32) (h : (rdat m c).Leaves 14 t X) (d : Fin 1024) :
    X (ix2 0 d) = ∑ N ∈ Finset.range 8448, (data m c).tn d N := by
  have hv : t.val = 33 := by rw [flush14] at hf; exact of_decide_eq_true hf
  obtain ⟨Y, _, g, rfl⟩ := h
  exact out14_eq m c t g (by omega) Y d

end Leaves

section Arr
variable (c : Dev nD) (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))
include hL

theorem arr10 : ((rdat m c).withAfter after).arrAt 10 cfg0.N = R10 m c := by
  refine Dat.arrAt_eq_of_covers _ 10 _ (by decide +kernel) fun t hf y => ?_
  have h := leaves10 m c t hf _ (hL 10 t hf) (y 0) (y 1)
  refine Eq.trans (b := after 10 t (ix2 (y 0) (y 1))) (congrArg (after 10 t) (eq_ix2 (n0 := 256) (n1 := 5632) y)) (h.trans ?_)
  have hi := idx10 t
  show _ = (data m c).dup ((win0_10.blk t).view.emb y 0).val ((win0_10.blk t).view.emb y 1)
  congr 1
  · show _ = win0_10.index t 0 * 256 + 1 * (y 0).val
    rw [hi.1]; omega
  · apply Fin.ext
    show _ = win0_10.index t 1 * 5632 + 1 * (y 1).val
    rw [hi.2]; omega

theorem arr11 : ((rdat m c).withAfter after).arrAt 11 cfg0.N = R11 m c := by
  refine Dat.arrAt_eq_of_covers _ 11 _ (by decide +kernel) fun t hf y => ?_
  have h := leaves11 m c t hf _ (hL 11 t hf) (y 0) (y 1)
  refine Eq.trans (b := after 11 t (ix2 (y 0) (y 1))) (congrArg (after 11 t) (eq_ix2 (n0 := 256) (n1 := 1024) y)) (h.trans ?_)
  have hi := idx11 t
  show _ = (data m c).dh ((win0_11.blk t).view.emb y 0).val ((win0_11.blk t).view.emb y 1)
  congr 1
  · show _ = win0_11.index t 0 * 256 + 1 * (y 0).val
    rw [hi.1]; omega
  · apply Fin.ext
    show _ = win0_11.index t 1 * 1024 + 1 * (y 1).val
    rw [hi.2]; omega

theorem arr12 : ((rdat m c).withAfter after).arrAt 12 cfg0.N = R12 m c := by
  refine Dat.arrAt_eq_of_covers _ 12 _ (by decide +kernel) fun t hf y => ?_
  have h := leaves12 m c t hf _ (hL 12 t hf) (y 0) (y 1)
  refine Eq.trans (b := after 12 t (ix2 (y 0) (y 1))) (congrArg (after 12 t) (eq_ix2 (n0 := 3) (n1 := 2816) y)) (h.trans ?_)
  have hi := idx12 t
  have e0 : (win0_12.blk t).view.emb y 0 = y 0 := Fin.ext (by show win0_12.index t 0 * 3 + 1 * (y 0).val = (y 0).val; rw [hi.1]; omega)
  have e1 : (win0_12.blk t).view.emb y 1 = y 1 := Fin.ext (by show win0_12.index t 1 * 2816 + 1 * (y 1).val = (y 1).val; rw [hi.2]; omega)
  show _ = ∑ N ∈ Finset.range 8448, (data m c).tw ((win0_12.blk t).view.emb y 0) ((win0_12.blk t).view.emb y 1) N
  rw [e0, e1]

theorem arr13 : ((rdat m c).withAfter after).arrAt 13 cfg0.N = R13 m c := by
  refine Dat.arrAt_eq_of_covers _ 13 _ (by decide +kernel) fun t hf y => ?_
  have h := leaves13 m c t hf _ (hL 13 t hf) (y 1)
  have e : y = ix2 (n0 := 1) (n1 := 2816) 0 (y 1) := (eq_row (n := 2816) y)
  refine Eq.trans (b := after 13 t (ix2 0 (y 1))) (congrArg (after 13 t) e) (h.trans ?_)
  have hi := idx13 t
  have e1 : (win0_13.blk t).view.emb y 1 = y 1 := Fin.ext (by show win0_13.index t 1 * 2816 + 1 * (y 1).val = (y 1).val; rw [hi.2]; omega)
  show _ = ∑ N ∈ Finset.range 8448, (data m c).da N ((win0_13.blk t).view.emb y 1)
  rw [e1]

theorem arr14 : ((rdat m c).withAfter after).arrAt 14 cfg0.N = R14 m c := by
  refine Dat.arrAt_eq_of_covers _ 14 _ (by decide +kernel) fun t hf y => ?_
  have h := leaves14 m c t hf _ (hL 14 t hf) (y 1)
  have e : y = ix2 (n0 := 1) (n1 := 1024) 0 (y 1) := (eq_row (n := 1024) y)
  refine Eq.trans (b := after 14 t (ix2 0 (y 1))) (congrArg (after 14 t) e) (h.trans ?_)
  have hi := idx14 t
  have e1 : (win0_14.blk t).view.emb y 1 = y 1 := Fin.ext (by show win0_14.index t 1 * 1024 + 1 * (y 1).val = (y 1).val; rw [hi.2]; omega)
  show _ = ∑ N ∈ Finset.range 8448, (data m c).tn ((win0_14.blk t).view.emb y 1) N
  rw [e1]

end Arr

end Cert.KernelIdeal.Ffn

end
-- ==== Proof.Ffn.Ref.lean ====
module

public import proofs.«01_k».proof.Proof.Gen.ReferenceIdeal.Run
public import proofs.«01_k».proof.Proof.Ffn.Data
public import Idealize.ShloMosaic.Lib.IdealHost
public import Idealize.ShloMosaic.Lib.Pointwise

/-! The reference's results, index by index. -/

@[expose] public section

set_option maxRecDepth 16384

noncomputable section

namespace Cert.ReferenceIdeal.Ffn

open Cert.ReferenceIdeal Cert.ReferenceIdeal.Gen Cert.ReferenceIdeal.Value
open Idealize.ShloMosaic Idealize.ShloMosaic.TcCoe Idealize.SL.Sem Idealize.ShloMosaic.StableHlo
open Cert.KernelIdeal.Ffn (Data gConv gR)

/-- A row of an array, zero past its end. -/
def rowR {n : ℕ} (X : Vec Ideal ⟨2, ![8448, n]⟩ .f32) (N : ℕ) (d : Fin n) : EReal := if h : N < 8448 then X (ix2 ⟨N, h⟩ d) else 0

theorem rowR_eq {n : ℕ} (X : Vec Ideal ⟨2, ![8448, n]⟩ .f32) (N : Fin 8448) (d : Fin n) : rowR X N.val d = X (ix2 N d) := dif_pos N.isLt

variable (V0 : Valuation τ sig (Elt Ideal))

abbrev aCt : Vec Ideal S8448x1024 .f32 := V0 (Proc.devRef .tc main_arg0)
abbrev aH : Vec Ideal S8448x1024 .f32 := V0 (Proc.devRef .tc main_arg1)
abbrev aWn : Vec Ideal S1x1024 .f32 := V0 (Proc.devRef .tc main_arg2)
abbrev aWu : Vec Ideal S1024x5632 .f32 := V0 (Proc.devRef .tc main_arg3)
abbrev aCw : Vec Ideal S3x2816 .f32 := V0 (Proc.devRef .tc main_arg4)
abbrev aCb : Vec Ideal S1x2816 .f32 := V0 (Proc.devRef .tc main_arg5)
abbrev aWd : Vec Ideal S2816x1024 .f32 := V0 (Proc.devRef .tc main_arg6)

/-- The reference's operands. -/
def rdata : Data where
  ct := rowR (aCt V0)
  h := rowR (aH V0)
  up := rowR (res_main_v15 V0)
  wn := fun d => aWn V0 (ix2 0 d)
  wu := fun d q => aWu V0 (ix2 d q)
  cw := fun k j => aCw V0 (ix2 k j)
  cb := fun j => aCb V0 (ix2 0 j)
  wd := fun j d => aWd V0 (ix2 j d)

/-- The logistic, as the reference spells it. -/
def rSig (x : EReal) : EReal := Ideal.div (Ideal.ofBits FTy.f32 1065353216#32) (Ideal.ofBits FTy.f32 1065353216#32 + Ideal.exp (-x))

/-- The activation's gradient, as the reference spells it. -/
def rDa (d v x : EReal) : EReal :=
  d * v * rSig x + x * (d * v) * (rSig x * (Ideal.ofBits FTy.f32 1065353216#32 - rSig x))

/-- The mean square of a row, with the constant added. -/
def rV (x : Fin 1024 → EReal) : EReal := Ideal.div (∑ d, x d * x d) (Ideal.ofBits FTy.f32 1149239296#32) + Ideal.ofBits FTy.f32 897988541#32

/-- The reference's gradients by row. -/
def rda (D : Data) (N : ℕ) (j : Fin 2816) : EReal := rDa (D.dg N j) (D.up N ⟨2816 + j.val, by omega⟩) (D.conv N j)
def rdp (D : Data) (N : ℕ) (j : Fin 2816) : EReal :=
  (D.cw 2 j * rda D N j + (if N + 1 < 8448 then D.cw 1 j * rda D (N + 1) j else 0)) + (if N + 2 < 8448 then D.cw 0 j * rda D (N + 2) j else 0)
def rdv (D : Data) (N : ℕ) (j : Fin 2816) : EReal := D.conv N j * rSig (D.conv N j) * D.dg N j
def rdup (D : Data) (N : ℕ) (q : Fin 5632) : EReal := if h : q.val < 2816 then rdp D N ⟨q.val, h⟩ else rdv D N ⟨q.val - 2816, by omega⟩
def rdu (D : Data) (N : ℕ) (d : Fin 1024) : EReal := ∑ q, rdup D N q * D.wu d q

theorem v19_apply (M : Fin 8450) (j : Fin 2816) : (res_main_v19 V0 : Vec Ideal S8450x2816 .f32) (ix2 M j) = (rdata V0).eA M.val j := by
  have hM := M.isLt
  unfold res_main_v19 Data.eA rdata
  dsimp only
  generalize res_main_v15 V0 = X
  pointwise
  by_cases h : M.val < 2
  · rw [dif_pos h, if_pos h]
  · rw [dif_neg h, if_neg h]
    exact (rowR_eq (n := 5632) X ⟨M.val - 2, by omega⟩ _).symm

theorem v23_apply (N : Fin 8448) (j : Fin 2816) : (res_main_v23 V0 : Vec Ideal S8448x2816 .f32) (ix2 N j) = (rdata V0).eA N.val j := by
  have e := v19_apply V0 ⟨N.val, by omega⟩ j
  unfold res_main_v23
  generalize res_main_v19 V0 = X at *
  pointwise
  exact e

theorem v29_apply (N : Fin 8448) (j : Fin 2816) : (res_main_v29 V0 : Vec Ideal S8448x2816 .f32) (ix2 N j) = (rdata V0).eA (N.val + 1) j := by
  have e := v19_apply V0 ⟨N.val + 1, by omega⟩ j
  unfold res_main_v29
  generalize res_main_v19 V0 = X at *
  pointwise
  rw [← e]
  congr 1
  simp only [add_comm]

theorem v36_apply (N : Fin 8448) (j : Fin 2816) : (res_main_v36 V0 : Vec Ideal S8448x2816 .f32) (ix2 N j) = (rdata V0).eA (N.val + 2) j := by
  have e := v19_apply V0 ⟨N.val + 2, by omega⟩ j
  unfold res_main_v36
  generalize res_main_v19 V0 = X at *
  pointwise
  rw [← e]
  congr 1
  simp only [add_comm]

theorem v42_apply (N : Fin 8448) (j : Fin 2816) : (res_main_v42 V0 : Vec Ideal S8448x2816 .f32) (ix2 N j) = (rdata V0).conv N.val j := by
  have e0 := v23_apply V0 N j
  have e1 := v29_apply V0 N j
  have e2 := v36_apply V0 N j
  unfold res_main_v42 Data.conv gConv
  unfold res_main_v24 res_main_v30 res_main_v37
  rw [← e0, ← e1, ← e2]
  pointwise
  rfl

theorem v17_apply (N : Fin 8448) (j : Fin 2816) : (res_main_v17 V0 : Vec Ideal S8448x2816 .f32) (ix2 N j) = (rdata V0).up N.val ⟨2816 + j.val, by omega⟩ := by
  unfold res_main_v17 rdata
  dsimp only
  rw [rowR_eq]
  generalize res_main_v15 V0 = X
  pointwise

theorem v43_2_apply (N : Fin 8448) (j : Fin 2816) : (res_main_v43_2 V0 : Vec Ideal S8448x2816 .f32) (ix2 N j) = rSig ((rdata V0).conv N.val j) := by
  rw [← v42_apply V0 N j]
  unfold res_main_v43_2 rSig
  generalize res_main_v42 V0 = X
  pointwise

theorem v48_apply (N : Fin 8448) (j : Fin 2816) : (res_main_v48 V0 : Vec Ideal S8448x2816 .f32) (ix2 N j) = (rdata V0).dg N.val j := by
  show _ = ∑ d : Fin 1024, rowR (aCt V0) N.val d * aWd V0 (ix2 j d)
  simp only [rowR_eq]
  unfold res_main_v48
  pointwise

theorem v51_apply (N : Fin 8448) (j : Fin 2816) : (res_main_v51 V0 : Vec Ideal S8448x2816 .f32) (ix2 N j) = rda (rdata V0) N.val j := by
  unfold rda rDa
  rw [← v42_apply V0 N j, ← v48_apply V0 N j, ← v17_apply V0 N j, v42_apply V0 N j, ← v43_2_apply V0 N j, ← v42_apply V0 N j]
  unfold res_main_v51 res_main_v50
  generalize res_main_v42 V0 = X
  generalize res_main_v43_2 V0 = X
  generalize res_main_v48 V0 = X
  generalize res_main_v17 V0 = X
  pointwise

theorem v81_apply (N : Fin 8448) (j : Fin 2816) : (res_main_v81 V0 : Vec Ideal S8450x2816 .f32) (ix2 ⟨N.val + 2, by omega⟩ j) = rdp (rdata V0) N.val j := by
  have e : ∀ N j, (res_main_v51 V0 : Vec Ideal S8448x2816 .f32) (ix2 N j) = rda (rdata V0) N.val j := v51_apply V0
  have hN := N.isLt
  unfold res_main_v81 res_main_v24 res_main_v30 res_main_v37 rdp
  generalize res_main_v51 V0 = X at *
  pointwise
  rw [dif_pos (by omega), e ⟨N.val + 2 - 2, by omega⟩]
  refine congrArg₂ (· + ·) (congrArg₂ (· + ·) rfl ?_) ?_
  · by_cases h : N.val + 1 < 8448
    · rw [dif_pos (by omega), if_pos h, e ⟨N.val + 2 - 1, by omega⟩]
      rfl
    · rw [dif_neg (by omega), if_neg h]
  · by_cases h : N.val + 2 < 8448
    · rw [dif_pos h, if_pos h, e ⟨N.val + 2, h⟩]
      rfl
    · rw [dif_neg h, if_neg h]

theorem halves_apply (A : FVec Ideal S8448x2816 .f32) (X : FVec Ideal S8450x2816 .f32) (N : Fin 8448) (q : Fin 5632) :
    (addf (pad S8448x5632 ![0, 2816] ![0, 0] ![0, 0] A (constant S_ .f32 0x00000000#32) pads_S8448x2816_S8448x5632_000_281600 h_S_) (pad S8448x5632 ![0, 0] ![0, 2816] ![0, 0] (extractStridedSlice S8448x2816 ![2, 0] X slices_S8450x2816_S8448x2816_2_0) (constant S_ .f32 0x00000000#32) pads_S8448x2816_S8448x5632_000_028160 h_S_) : FVec Ideal S8448x5632 .f32) (ix2 N q)
      = if h : q.val < 2816 then X (ix2 ⟨N.val + 2, by omega⟩ ⟨q.val, h⟩) else A (ix2 N ⟨q.val - 2816, by omega⟩) := by
  have hq := q.isLt
  pointwise
  by_cases h : q.val < 2816
  · rw [dif_pos h, dif_pos h, dif_neg (by omega), zero_add]
    congr 2
    simp only [add_comm]
  · rw [dif_neg h, dif_neg h, dif_pos (by omega), add_zero]

theorem v89_apply (N : Fin 8448) (q : Fin 5632) : (res_main_v89 V0 : Vec Ideal S8448x5632 .f32) (ix2 N q) = rdup (rdata V0) N.val q := by
  have e := fun j => v81_apply V0 N j
  have e2 := fun j => v42_apply V0 N j
  have e3 := fun j => v43_2_apply V0 N j
  have e4 := fun j => v48_apply V0 N j
  unfold res_main_v89 res_main_v43_0
  refine (halves_apply _ _ N q).trans ?_
  unfold rdup
  by_cases h : q.val < 2816
  · rw [dif_pos h, dif_pos h]
    exact e _
  · rw [dif_neg h, dif_neg h]
    unfold rdv
    rw [← e3, ← e2, ← e4]
    rfl

theorem v90_apply (N : Fin 8448) (d : Fin 1024) : (res_main_v90 V0 : Vec Ideal S8448x1024 .f32) (ix2 N d) = rdu (rdata V0) N.val d := by
  show _ = ∑ q : Fin 5632, rdup (rdata V0) N.val q * aWu V0 (ix2 d q)
  simp only [← v89_apply V0 N]
  unfold res_main_v90
  generalize res_main_v89 V0 = X
  pointwise

theorem v7_apply (N : Fin 8448) : (res_main_v7 V0 : Vec Ideal S8448x1 .f32) (ix2 N 0) = gR ((rdata V0).h N.val) := by
  rw [show (rdata V0).h N.val = fun e => aH V0 (ix2 N e) from funext fun e => rowR_eq (aH V0) N e]
  unfold res_main_v7 res_main_v6 gR
  pointwise

theorem v6_apply (N : Fin 8448) : (res_main_v6 V0 : Vec Ideal S8448x1 .f32) (ix2 N 0) = rV ((rdata V0).h N.val) := by
  rw [show (rdata V0).h N.val = fun e => aH V0 (ix2 N e) from funext fun e => rowR_eq (aH V0) N e]
  unfold res_main_v6 rV
  pointwise

/-- The correction to the norm's gradient, on a row. -/
def rMu (D : Data) (N : ℕ) : EReal :=
  Ideal.div ((∑ e, D.h N e * (rdu D N e * D.wn e)) * (Ideal.ofBits FTy.f32 3204448256#32 * Ideal.div (gR (D.h N)) (rV (D.h N)))) (Ideal.ofBits FTy.f32 1149239296#32)

theorem v95_apply (N : Fin 8448) (d : Fin 1024) : (res_main_v95 V0 : Vec Ideal S8448x1024 .f32) (ix2 N d) = rdu (rdata V0) N.val d * (rdata V0).wn d := by
  rw [← v90_apply V0 N d]
  unfold res_main_v95 rdata
  generalize res_main_v90 V0 = X
  pointwise

theorem v105_apply (N : Fin 8448) (d : Fin 1024) : (res_main_v105 V0 : Vec Ideal S8448x1024 .f32) (ix2 N d) = rMu (rdata V0) N.val := by
  unfold rMu
  rw [← v6_apply, ← v7_apply]
  simp only [← v95_apply]
  rw [show (rdata V0).h N.val = fun e => aH V0 (ix2 N e) from funext fun e => rowR_eq (aH V0) N e]
  unfold res_main_v105
  generalize res_main_v95 V0 = X
  generalize res_main_v6 V0 = X
  generalize res_main_v7 V0 = X
  pointwise
  exact Fin.sum_univ_one (M := EReal) _

/-- The residual stream's gradient, as the reference spells it. -/
def rdh (D : Data) (N : ℕ) (d : Fin 1024) : EReal :=
  D.ct N d + ((rdu D N d * D.wn d * gR (D.h N) + D.h N d * rMu D N) + rMu D N * D.h N d)

theorem r111_apply (N : Fin 8448) (d : Fin 1024) :
    (addf (V0 (Proc.devRef .tc main_arg0)) (addf (addf (mulf (res_main_v95 V0) (broadcastInDim S8448x1024 ![0, 1] bcast_S8448x1_S8448x1024_0_1 (res_main_v7 V0))) (mulf (V0 (Proc.devRef .tc main_arg1)) (res_main_v105 V0))) (mulf (res_main_v105 V0) (V0 (Proc.devRef .tc main_arg1)))) : FVec Ideal S8448x1024 .f32) (ix2 N d)
      = rdh (rdata V0) N.val d := by
  unfold rdh
  rw [← v95_apply, ← v7_apply, ← v105_apply V0 N d, show (rdata V0).h N.val d = aH V0 (ix2 N d) from rowR_eq (aH V0) N d, show (rdata V0).ct N.val d = aCt V0 (ix2 N d) from rowR_eq (aCt V0) N d]
  generalize res_main_v95 V0 = X
  generalize res_main_v7 V0 = X
  generalize res_main_v105 V0 = X
  pointwise

theorem colsum_apply (X : FVec Ideal S8448x2816 .f32) (j : Fin 2816) : (shapeCast S1x2816 (Host.reduceAdd X (constant S_ .f32 0x00000000#32) reducesTo_S8448x2816_S2816_d0 h_S_) shapeCasts_S2816_S1x2816 : FVec Ideal S1x2816 .f32) (ix2 0 j) = ∑ N : Fin 8448, X (ix2 N j) := by
  pointwise

theorem r93_apply (d : Fin 1024) : (shapeCast S1x1024 (Host.reduceAdd (mulf (res_main_v12 V0) (res_main_v90 V0)) (constant S_ .f32 0x00000000#32) reducesTo_S8448x1024_S1024_d0 h_S_) shapeCasts_S1024_S1x1024 : FVec Ideal S1x1024 .f32) (ix2 0 d)
    = ∑ N : Fin 8448, (rdata V0).h N.val d * gR ((rdata V0).h N.val) * rdu (rdata V0) N.val d := by
  simp only [← v90_apply, ← v7_apply, show ∀ N : Fin 8448, (rdata V0).h N.val d = aH V0 (ix2 N d) from fun N => rowR_eq (aH V0) N d]
  unfold res_main_v12
  generalize res_main_v90 V0 = X
  generalize res_main_v7 V0 = X
  pointwise

theorem r84_apply (X Y0 Y1 Y2 : Vec Ideal S8448x2816 .f32) (k : Fin 3) (j : Fin 2816) : (addf (addf (pad S3x2816 ![2, 0] ![0, 0] ![0, 0] (broadcastInDim S1x2816 ![1] bcast_S2816_S1x2816_1 (Host.reduceAdd (shapeCast _ (Host.reduceAdd (mulf X Y2) (constant S_ .f32 0x00000000#32) reducesTo_S8448x2816_S2816_d0 h_S_) shapeCasts_S2816_S1x2816) (constant S_ .f32 0x00000000#32) reducesTo_S1x2816_S2816_d0 h_S_)) (constant S_ .f32 0x00000000#32) pads_S1x2816_S3x2816_200_000 h_S_) (pad S3x2816 ![1, 0] ![1, 0] ![0, 0] (broadcastInDim S1x2816 ![1] bcast_S2816_S1x2816_1 (Host.reduceAdd (shapeCast _ (Host.reduceAdd (mulf X Y1) (constant S_ .f32 0x00000000#32) reducesTo_S8448x2816_S2816_d0 h_S_) shapeCasts_S2816_S1x2816) (constant S_ .f32 0x00000000#32) reducesTo_S1x2816_S2816_d0 h_S_)) (constant S_ .f32 0x00000000#32) pads_S1x2816_S3x2816_110_000 h_S_)) (pad S3x2816 ![0, 0] ![2, 0] ![0, 0] (broadcastInDim S1x2816 ![1] bcast_S2816_S1x2816_1 (Host.reduceAdd (shapeCast _ (Host.reduceAdd (mulf X Y0) (constant S_ .f32 0x00000000#32) reducesTo_S8448x2816_S2816_d0 h_S_) shapeCasts_S2816_S1x2816) (constant S_ .f32 0x00000000#32) reducesTo_S1x2816_S2816_d0 h_S_)) (constant S_ .f32 0x00000000#32) pads_S1x2816_S3x2816_020_000 h_S_) : FVec Ideal S3x2816 .f32) (ix2 k j)
    = ∑ N : Fin 8448, X (ix2 N j) * (if k.val = 0 then Y0 (ix2 N j) else if k.val = 1 then Y1 (ix2 N j) else Y2 (ix2 N j)) := by
  have hk := k.isLt
  pointwise
  simp only [Fin.sum_univ_one]
  match k with
  | ⟨0, _⟩ => simp
  | ⟨1, _⟩ => simp
  | ⟨2, _⟩ => simp

end Cert.ReferenceIdeal.Ffn

end
-- ==== Proof.Ffn.Algebra.lean ====
module

public import proofs.«01_k».proof.Proof.Ffn.Ref
public import proofs.«01_k».proof.Proof.Dw.Sums
public import Mathlib.Analysis.SpecialFunctions.Trigonometric.DerivHyp
public import Mathlib.Analysis.SpecialFunctions.Pow.Real

/-! At real operands the kernel's spelling and the reference's of the feed-forward block's gradients have equal values. -/

@[expose] public section

set_option maxRecDepth 16384

noncomputable section

namespace Cert.ReferenceIdeal.Ffn

open Idealize.ShloMosaic
open Cert.KernelIdeal.Ffn (Data gConv gR gSig gDa gDv gH)

/-- An extended real that is a real. -/
def Re (x : EReal) : Prop := ∃ r : ℝ, x = r

theorem Re.coe (r : ℝ) : Re (r : EReal) := ⟨r, rfl⟩
theorem Re.zero : Re 0 := ⟨0, rfl⟩
theorem Re.add {x y : EReal} : Re x → Re y → Re (x + y)
  | ⟨a, ha⟩, ⟨b, hb⟩ => ⟨a + b, by rw [ha, hb, EReal.coe_add]⟩
theorem Re.mul {x y : EReal} : Re x → Re y → Re (x * y)
  | ⟨a, ha⟩, ⟨b, hb⟩ => ⟨a * b, by rw [ha, hb, EReal.coe_mul]⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Re.sum {ι : Type} (s : Finset ι) (f : ι → EReal) (h : ∀ i, Re (f i)) : Re (∑ i ∈ s, f i) := by
  choose g hg using h
  exact ⟨∑ i ∈ s, g i, by rw [coe_sum]; exact Finset.sum_congr rfl fun i _ => hg i⟩

theorem half_eq : Ideal.ofBits FTy.f32 1056964608#32 = ((1 / 2 : ℝ) : EReal) := by
  simp [Ideal.ofBits, Ideal.ieee, -EReal.coe_mul]; norm_num
theorem one_eq : Ideal.ofBits FTy.f32 1065353216#32 = ((1 : ℝ) : EReal) := by
  simp [Ideal.ofBits, Ideal.ieee, -EReal.coe_mul]; norm_num
theorem width_eq : Ideal.ofBits FTy.f32 1149239296#32 = ((1024 : ℝ) : EReal) := by
  simp [Ideal.ofBits, Ideal.ieee, -EReal.coe_mul]; norm_num
theorem neg_half_eq : Ideal.ofBits FTy.f32 3204448256#32 = ((-(1 / 2) : ℝ) : EReal) := by
  simp [Ideal.ofBits, Ideal.ieee, -EReal.coe_mul, -EReal.coe_neg]; norm_num
theorem eps_eq : ∃ e : ℝ, 0 < e ∧ Ideal.ofBits FTy.f32 897988541#32 = (e : EReal) := by
  refine ⟨8796093 * 2 ^ (-43 : ℤ), by positivity, ?_⟩
  simp [Ideal.ofBits, Ideal.ieee, -EReal.coe_mul]

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem rsqrt_coe (x : ℝ) (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (by linarith), if_neg hx.ne']

theorem tanh_half (x : ℝ) : 1 / 2 * Real.tanh (1 / 2 * x) + 1 / 2 = 1 / (1 + Real.exp (-x)) := by
  have ha := Real.exp_pos (1 / 2 * x)
  have e : Real.exp (-x) = (Real.exp (1 / 2 * x))⁻¹ * (Real.exp (1 / 2 * x))⁻¹ := by
    rw [← Real.exp_neg, ← Real.exp_add]; congr 1; ring
  rw [Real.tanh_eq_sinh_div_cosh, Real.sinh_eq, Real.cosh_eq, e, Real.exp_neg]
  generalize Real.exp (1 / 2 * x) = a at *
  field_simp
  ring

theorem gSig_coe (x : ℝ) : gSig (x : EReal) = ((1 / (1 + Real.exp (-x)) : ℝ) : EReal) := by
  unfold gSig
  rw [half_eq, ← EReal.coe_mul]
  show ((1 / 2 : ℝ) : EReal) * ((Real.tanh (1 / 2 * x) : ℝ) : EReal) + _ = _
  rw [← EReal.coe_mul, ← EReal.coe_add, tanh_half]

theorem rSig_coe (x : ℝ) : rSig (x : EReal) = ((1 / (1 + Real.exp (-x)) : ℝ) : EReal) := by
  unfold rSig
  rw [one_eq, ← EReal.coe_neg]
  show Ideal.div _ (((1 : ℝ) : EReal) + ((Real.exp (-x) : ℝ) : EReal)) = _
  rw [← EReal.coe_add, div_coe _ _ (by positivity)]

theorem rDa_eq (d v x : EReal) (hd : Re d) (hv : Re v) (hx : Re x) : rDa d v x = gDa d v x := by
  obtain ⟨d, rfl⟩ := hd
  obtain ⟨v, rfl⟩ := hv
  obtain ⟨x, rfl⟩ := hx
  unfold rDa gDa
  rw [gSig_coe, rSig_coe, one_eq]
  simp only [← EReal.coe_mul, ← EReal.coe_sub, ← EReal.coe_add]
  congr 1
  ring

theorem rDv_eq (d x : EReal) (hx : Re x) : x * rSig x * d = gDv d x := by
  obtain ⟨x, rfl⟩ := hx
  unfold gDv
  rw [gSig_coe, rSig_coe, mul_comm]

theorem Re.gDa {d v x : EReal} (hd : Re d) (hv : Re v) (hx : Re x) : Re (gDa d v x) := by
  obtain ⟨d, rfl⟩ := hd
  obtain ⟨v, rfl⟩ := hv
  obtain ⟨x, rfl⟩ := hx
  unfold Cert.KernelIdeal.Ffn.gDa
  rw [gSig_coe, one_eq]
  simp only [← EReal.coe_mul, ← EReal.coe_sub, ← EReal.coe_add]
  exact Re.coe _

theorem Re.gDv {d x : EReal} (hd : Re d) (hx : Re x) : Re (gDv d x) := by
  obtain ⟨d, rfl⟩ := hd
  obtain ⟨x, rfl⟩ := hx
  unfold Cert.KernelIdeal.Ffn.gDv
  rw [gSig_coe]
  simp only [← EReal.coe_mul]
  exact Re.coe _

/-- A row's mean square with the constant, and its reciprocal root, at reals. -/
theorem norm_coe (x : Fin 1024 → ℝ) : ∃ v : ℝ, 0 < v ∧ rV (fun e => (x e : EReal)) = (v : EReal) ∧ gR (fun e => (x e : EReal)) = (((Real.sqrt v)⁻¹ : ℝ) : EReal) := by
  obtain ⟨ε, hε, he⟩ := eps_eq
  have hS : (0 : ℝ) ≤ (∑ e, x e * x e) / 1024 := div_nonneg (Finset.sum_nonneg fun e _ => mul_self_nonneg _) (by norm_num)
  have e : rV (fun e => (x e : EReal)) = (((∑ e, x e * x e) / 1024 + ε : ℝ) : EReal) := by
    unfold rV
    simp only [← EReal.coe_mul]
    rw [← coe_sum, width_eq, div_coe _ _ (by norm_num), he, ← EReal.coe_add]
  refine ⟨_, by linarith, e, ?_⟩
  unfold gR
  rw [← rsqrt_coe _ (by linarith), ← e]
  rfl

theorem Re.gR {x : Fin 1024 → EReal} (hx : ∀ e, Re (x e)) : Re (gR x) := by
  choose y hy using hx
  obtain ⟨v, -, -, h⟩ := norm_coe y
  rw [show x = fun e => (y e : EReal) from funext hy, h]
  exact Re.coe _

/-- The norm's backward on a row: the two spellings. -/
theorem norm_back (u x w : Fin 1024 → EReal) (ct : EReal) (hu : ∀ e, Re (u e)) (hx : ∀ e, Re (x e)) (hw : ∀ e, Re (w e)) (hc : Re ct) (d : Fin 1024) (μ : EReal)
    (hμ : μ = Ideal.div ((∑ e, x e * (u e * w e)) * (Ideal.ofBits FTy.f32 3204448256#32 * Ideal.div (gR x) (rV x))) (Ideal.ofBits FTy.f32 1149239296#32)) :
    ct + ((u d * w d * gR x + x d * μ) + μ * x d)
      = ct + gR x * (u d * w d - x d * gR x * Ideal.div (∑ e, u e * w e * (x e * gR x)) (Ideal.ofBits FTy.f32 1149239296#32)) := by
  subst hμ
  choose u' hu using hu
  choose x' hx using hx
  choose w' hw using hw
  obtain ⟨c, rfl⟩ := hc
  obtain rfl : u = fun e => (u' e : EReal) := funext hu
  obtain rfl : x = fun e => (x' e : EReal) := funext hx
  obtain rfl : w = fun e => (w' e : EReal) := funext hw
  obtain ⟨v, hv, e1, e2⟩ := norm_coe x'
  rw [e1, e2, neg_half_eq, width_eq, div_coe _ _ hv.ne']
  simp only [← EReal.coe_mul, ← coe_sum]
  rw [div_coe _ _ (by norm_num), div_coe _ _ (by norm_num)]
  simp only [← EReal.coe_mul, ← EReal.coe_sub, ← EReal.coe_add]
  congr 1
  have hs := Real.sqrt_pos.mpr hv
  have e3 : ∑ e, u' e * w' e * (x' e * (Real.sqrt v)⁻¹) = (∑ e, x' e * (u' e * w' e)) * (Real.sqrt v)⁻¹ := by
    rw [Finset.sum_mul]
    exact Finset.sum_congr rfl fun e _ => by ring
  rw [e3]
  generalize ∑ e, x' e * (u' e * w' e) = S
  have e4 : v = Real.sqrt v * Real.sqrt v := (Real.mul_self_sqrt hv.le).symm
  generalize Real.sqrt v = s at *
  subst e4
  field_simp
  ring

/-- All of a step's operands are real. -/
structure AllRe (D : Data) : Prop where
  ct : ∀ N d, Re (D.ct N d)
  h : ∀ N d, Re (D.h N d)
  up : ∀ N q, Re (D.up N q)
  wn : ∀ d, Re (D.wn d)
  wu : ∀ d q, Re (D.wu d q)
  cw : ∀ k j, Re (D.cw k j)
  cb : ∀ j, Re (D.cb j)
  wd : ∀ j d, Re (D.wd j d)

section D
variable {D : Data} (R : AllRe D)
include R

theorem re_eA (N : ℕ) (j : Fin 2816) : Re (D.eA N j) := by
  unfold Data.eA
  split
  · exact Re.zero
  · exact R.up _ _

theorem re_conv (N : ℕ) (j : Fin 2816) : Re (D.conv N j) :=
  (((R.cw 0 j).mul (re_eA R N j)).add ((R.cw 1 j).mul (re_eA R (N + 1) j))).add ((R.cw 2 j).mul (re_eA R (N + 2) j)) |>.add (R.cb j)

theorem re_dg (N : ℕ) (j : Fin 2816) : Re (D.dg N j) := Re.sum _ _ fun d => (R.ct N d).mul (R.wd j d)

theorem re_da (N : ℕ) (j : Fin 2816) : Re (D.da N j) := by
  unfold Data.da
  split
  · exact Re.gDa (re_dg R N j) (R.up _ _) (re_conv R N j)
  · exact Re.zero

theorem re_dp (N : ℕ) (j : Fin 2816) : Re (D.dp N j) :=
  (((R.cw 2 j).mul (re_da R N j)).add ((R.cw 1 j).mul (re_da R (N + 1) j))).add ((R.cw 0 j).mul (re_da R (N + 2) j))

theorem re_dup (N : ℕ) (q : Fin 5632) : Re (D.dup N q) := by
  unfold Data.dup
  split
  · exact re_dp R _ _
  · exact Re.gDv (re_dg R _ _) (re_conv R _ _)

theorem re_du (N : ℕ) (d : Fin 1024) : Re (D.du N d) :=
  (Re.sum _ _ fun k => (re_dup R N _).mul (R.wu d _)).add (Re.sum _ _ fun k => (re_dup R N _).mul (R.wu d _))

theorem rda_eq (N : ℕ) (hN : N < 8448) (j : Fin 2816) : rda D N j = D.da N j := by
  unfold rda Data.da
  rw [if_pos hN, rDa_eq _ _ _ (re_dg R N j) (R.up _ _) (re_conv R N j)]

theorem rdp_eq (N : ℕ) (hN : N < 8448) (j : Fin 2816) : rdp D N j = D.dp N j := by
  have e : ∀ (w : EReal) (M : ℕ), (if M < 8448 then w * rda D M j else 0) = w * D.da M j := by
    intro w M
    by_cases h : M < 8448
    · rw [if_pos h, rda_eq R M h]
    · rw [if_neg h]
      unfold Data.da
      rw [if_neg h, mul_zero]
  unfold rdp Data.dp
  rw [e, e, rda_eq R N hN]

theorem rdup_eq (N : ℕ) (hN : N < 8448) (q : Fin 5632) : rdup D N q = D.dup N q := by
  unfold rdup Data.dup
  by_cases h : q.val < 2816
  · rw [dif_pos h, dif_pos h, rdp_eq R N hN]
  · rw [dif_neg h, dif_neg h]
    exact rDv_eq _ _ (re_conv R _ _)

theorem rdu_eq (N : ℕ) (hN : N < 8448) (d : Fin 1024) : rdu D N d = D.du N d := by
  unfold rdu Data.du
  simp only [rdup_eq R N hN]
  have := Cert.Sums.sum_blocks 2 2816 5632 rfl (fun q => D.dup N q * D.wu d q)
  rw [Fin.sum_univ_two] at this
  refine this.trans ?_
  rfl

theorem rdh_eq (N : ℕ) (hN : N < 8448) (d : Fin 1024) : rdh D N d = D.dh N d := by
  unfold rdh Data.dh gH
  have e : rdu D N = D.du N := funext (rdu_eq R N hN)
  rw [e]
  exact norm_back _ _ _ _ (re_du R N) (R.h N) R.wn (R.ct N d) d _ (by unfold rMu; rw [e])

end D

end Cert.ReferenceIdeal.Ffn

end
-- ==== Proof.Ffn.Finite.lean ====
module

public import proofs.«01_k».proof.Defs
public import proofs.«01_k».proof.Proof.Gen.Pre_finite
public import proofs.«01_k».proof.Proof.Ffn.Algebra
public import Idealize.ShloMosaic.Lib.ReduceAll
public import Idealize.ShloMosaic.Lib.Affine
public import Idealize.ShloMosaic.Lib.IdealHost
public import Idealize.ShloMosaic.Lib.Pointwise

/-! The precondition read: every element of the feed-forward backward call's arguments is a real. -/

@[expose] public section

set_option maxRecDepth 16384

noncomputable section

namespace Cert.Pre_finite.Read

open Cert.Pre_finite Cert.Pre_finite.Gen
open Idealize.ShloMosaic
open Cert.ReferenceIdeal.Ffn (Re)

theorem inf_eq : Ideal.ofBits FTy.f32 0x7F800000#32 = ⊤ := by
  simp [Ideal.ofBits, Ideal.ieee]

/-- An extended real whose absolute value is below infinity is a real. -/
theorem re_of_lt {x : EReal} (h : Ideal.cmp .olt (max x (-x)) (Ideal.ofBits FTy.f32 0x7F800000#32) = 1#1) : Re x := by
  rw [inf_eq] at h
  have hlt : max x (-x) < ⊤ := by
    by_contra hc
    simp [Ideal.cmp, hc] at h
  obtain ⟨h1, h2⟩ := max_lt_iff.mp hlt
  induction x using EReal.rec with
  | bot => exact absurd h2 (by simp)
  | coe r => exact Re.coe r
  | top => exact absurd h1 (by simp)

/-- One argument's conjunct: a conjunction over all its elements. -/
theorem re_of_all {S : Shape} (a : FVec Ideal S .f32) (hb : S_.BroadcastsInDim S (![] : Fin 0 → Fin S.rank)) {axes : List (Fin S.rank)} (hr : S.ReducesTo axes S_) (j : S_.Idx)
    (h : Host.reduce IntOp.andi (cmpf .olt (Host.absf a) (broadcastInDim S ![] hb (constant S_ .f32 0x7F800000#32))) (constantI S_ 1 1#1) hr h_S_ j = 1#1) (i : S.Idx) : Re (a i) :=
  haveI : Subsingleton S_.Idx := ⟨fun a b => funext fun k => k.elim0⟩
  re_of_lt (Host.reduce_andi_all _ _ hr h_S_ j h i)

theorem all_re (a0 a1 : FVec Ideal S8448x1024 .f32) (a2 : FVec Ideal S1x1024 .f32) (a3 : FVec Ideal S1024x5632 .f32) (a4 : FVec Ideal S3x2816 .f32) (a5 : FVec Ideal S1x2816 .f32) (a6 : FVec Ideal S2816x1024 .f32)
    (h : fn (F := Ideal) a0 a1 a2 a3 a4 a5 a6 = fun _ => 1#1) :
    (∀ i, Re (a0 i)) ∧ (∀ i, Re (a1 i)) ∧ (∀ i, Re (a2 i)) ∧ (∀ i, Re (a3 i)) ∧ (∀ i, Re (a4 i)) ∧ (∀ i, Re (a5 i)) ∧ (∀ i, Re (a6 i)) := by
  have h0 := congrFun h (Shape.Idx.first h_S_)
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨re_of_all a0 _ _ (Shape.Idx.first h_S_) h0, re_of_all a1 _ _ (Shape.Idx.first h_S_) h1, re_of_all a2 _ _ (Shape.Idx.first h_S_) h2, re_of_all a3 _ _ (Shape.Idx.first h_S_) h3, re_of_all a4 _ _ (Shape.Idx.first h_S_) h4, re_of_all a5 _ _ (Shape.Idx.first h_S_) h5, re_of_all a6 _ _ (Shape.Idx.first h_S_) h6⟩

end Cert.Pre_finite.Read

end
-- ==== Proof.Ffn.Claim.lean ====
module

public import proofs.«01_k».proof.Proof.Ffn.Arrays
public import proofs.«01_k».proof.Proof.Ffn.Finite

/-! The feed-forward backward kernel ends with the reference's values. -/

@[expose] public section

set_option maxRecDepth 16384

noncomputable section

namespace Cert.ReferenceIdeal.Ffn

open Cert.ReferenceIdeal Cert.ReferenceIdeal.Gen Cert.ReferenceIdeal.Value
open Idealize.ShloMosaic Idealize.ShloMosaic.TcCoe Idealize.SL.Sem Idealize.ShloMosaic.StableHlo
open Cert.KernelIdeal.Ffn (Data gConv gR R10 R11 R12 R13 R14 data)

variable (V0 : Valuation τ sig (Elt Ideal))

/-- The projection's output, an entry. -/
theorem v15_apply (N : Fin 8448) (q : Fin 5632) : (res_main_v15 V0 : Vec Ideal S8448x5632 .f32) (ix2 N q)
    = ∑ e : Fin 1024, aH V0 (ix2 N e) * gR ((rdata V0).h N.val) * aWn V0 (ix2 0 e) * aWu V0 (ix2 e q) := by
  rw [← v7_apply V0 N]
  unfold res_main_v15 res_main_v12
  generalize res_main_v7 V0 = X
  pointwise

theorem re_rowR {n : ℕ} (X : Vec Ideal ⟨2, ![8448, n]⟩ .f32) (h : ∀ i, Re (X i)) (N : ℕ) (d : Fin n) : Re (rowR X N d) := by
  unfold rowR
  split
  · exact h _
  · exact Re.zero

/-- Real arguments make every operand real. -/
theorem allRe (h0 : ∀ i, Re (aCt V0 i)) (h1 : ∀ i, Re (aH V0 i)) (h2 : ∀ i, Re (aWn V0 i)) (h3 : ∀ i, Re (aWu V0 i)) (h4 : ∀ i, Re (aCw V0 i)) (h5 : ∀ i, Re (aCb V0 i)) (h6 : ∀ i, Re (aWd V0 i)) :
    AllRe (rdata V0) where
  ct := re_rowR _ h0
  h := re_rowR _ h1
  up := re_rowR _ fun i => by
    rw [eq_ix2 (n0 := 8448) (n1 := 5632) i]
    have hr : Re (gR ((rdata V0).h (i 0).val)) := Re.gR (re_rowR _ h1 _)
    refine (v15_apply V0 (i 0) (i 1)).symm ▸ Re.sum _ _ fun e => (((h1 _).mul hr).mul (h2 _)).mul (h3 _)
  wn := fun _ => h2 _
  wu := fun _ _ => h3 _
  cw := fun _ _ => h4 _
  cb := fun _ => h5 _
  wd := fun _ _ => h6 _

section Results
variable {V0} (R : AllRe (rdata V0))
include R

theorem res10 (N : Fin 8448) (q : Fin 5632) : (truncf .bf16 (res_main_v89 V0) bitsLt_bf16_f32 : FVec Ideal S8448x5632 .bf16) (ix2 N q) = (rdata V0).dup N.val q :=
  (v89_apply V0 N q).trans (rdup_eq R _ N.isLt q)

theorem res13 (j : Fin 2816) : (shapeCast S1x2816 (Host.reduceAdd (res_main_v51 V0) (constant S_ .f32 0x00000000#32) reducesTo_S8448x2816_S2816_d0 h_S_) shapeCasts_S2816_S1x2816 : FVec Ideal S1x2816 .f32) (ix2 0 j)
    = ∑ N ∈ Finset.range 8448, (rdata V0).da N j := by
  rw [Finset.sum_range]
  refine (colsum_apply _ j).trans (Finset.sum_congr rfl fun N _ => ?_)
  exact (v51_apply V0 N j).trans (rda_eq R _ N.isLt j)

theorem res14 (d : Fin 1024) : (shapeCast S1x1024 (Host.reduceAdd (mulf (res_main_v12 V0) (res_main_v90 V0)) (constant S_ .f32 0x00000000#32) reducesTo_S8448x1024_S1024_d0 h_S_) shapeCasts_S1024_S1x1024 : FVec Ideal S1x1024 .f32) (ix2 0 d)
    = ∑ N ∈ Finset.range 8448, (rdata V0).tn d N := by
  rw [Finset.sum_range]
  refine (r93_apply V0 d).trans (Finset.sum_congr rfl fun N _ => ?_)
  rw [rdu_eq R _ N.isLt d]
  exact mul_comm _ _

/-- The three shifted copies of the gate's input. -/
theorem shifts (k : Fin 3) (N : Fin 8448) (j : Fin 2816) :
    (if k.val = 0 then (res_main_v23 V0 : Vec Ideal S8448x2816 .f32) (ix2 N j) else if k.val = 1 then (res_main_v29 V0 : Vec Ideal S8448x2816 .f32) (ix2 N j) else (res_main_v36 V0 : Vec Ideal S8448x2816 .f32) (ix2 N j))
      = (rdata V0).eA (N.val + k.val) j := by
  match k with
  | ⟨0, _⟩ => exact v23_apply V0 N j
  | ⟨1, _⟩ => exact v29_apply V0 N j
  | ⟨2, _⟩ => exact v36_apply V0 N j

end Results

end Cert.ReferenceIdeal.Ffn

namespace Cert.Proof

open Cert.ReferenceIdeal Cert.ReferenceIdeal.Gen Cert.ReferenceIdeal.Value
open Idealize.ShloMosaic Idealize.ShloMosaic.TcCoe Idealize.SL.Sem Idealize.ShloMosaic.StableHlo
open Cert.KernelIdeal.Ffn (R10 R11 R12 R13 R14 data)
open Cert.ReferenceIdeal.Ffn

section Agree
variable (m : (ℓ : Loc KernelIdeal.nD KernelIdeal.τ KernelIdeal.sig) → Buf (Elt Ideal) ℓ) (m' : (ℓ : Loc nD τ sig) → Buf (Elt Ideal) ℓ) (c : Dev nD)
  (h0 : m' ((c.tc : Thread nD τ).loc main_arg0) = m ((c.tc : Thread KernelIdeal.nD KernelIdeal.τ).loc KernelIdeal.main_arg0))
  (h1 : m' ((c.tc : Thread nD τ).loc main_arg1) = m ((c.tc : Thread KernelIdeal.nD KernelIdeal.τ).loc KernelIdeal.main_arg1))
  (h2 : m' ((c.tc : Thread nD τ).loc main_arg2) = m ((c.tc : Thread KernelIdeal.nD KernelIdeal.τ).loc KernelIdeal.main_arg2))
  (h3 : m' ((c.tc : Thread nD τ).loc main_arg3) = m ((c.tc : Thread KernelIdeal.nD KernelIdeal.τ).loc KernelIdeal.main_arg3))
  (h4 : m' ((c.tc : Thread nD τ).loc main_arg4) = m ((c.tc : Thread KernelIdeal.nD KernelIdeal.τ).loc KernelIdeal.main_arg4))
  (h5 : m' ((c.tc : Thread nD τ).loc main_arg5) = m ((c.tc : Thread KernelIdeal.nD KernelIdeal.τ).loc KernelIdeal.main_arg5))
  (h6 : m' ((c.tc : Thread nD τ).loc main_arg6) = m ((c.tc : Thread KernelIdeal.nD KernelIdeal.τ).loc KernelIdeal.main_arg6))
include h0 h1 h2 h3 h4 h5 h6

/-- Equal arguments give both programs the same operands. -/
theorem data_eq : data m c = rdata (launchContents m' c) := by
  unfold data rdata
  rw [← h0, ← h1, ← h2, ← h3, ← h4, ← h5, ← h6]
  rfl

end Agree

/-- The kernel's run: its five results, and the arguments as they were. -/
theorem kernel_run (m : (ℓ : Loc KernelIdeal.nD KernelIdeal.τ KernelIdeal.sig) → Buf (Elt Ideal) ℓ) (ρ : Dev KernelIdeal.nD → PrngReg) :
    θ_run KernelIdeal.defs (onTc (τ := KernelIdeal.τ) (KernelIdeal.main (F := Ideal))) ⟨m, fun _ => 0, ρ⟩ fun r => ∀ c : Dev KernelIdeal.nD,
      r.2.mem ((c.tc : Thread KernelIdeal.nD KernelIdeal.τ).loc KernelIdeal.main_v18_0) = R10 m c
      ∧ r.2.mem ((c.tc : Thread KernelIdeal.nD KernelIdeal.τ).loc KernelIdeal.main_v18_1) = R11 m c
      ∧ r.2.mem ((c.tc : Thread KernelIdeal.nD KernelIdeal.τ).loc KernelIdeal.main_v18_2) = R12 m c
      ∧ r.2.mem ((c.tc : Thread KernelIdeal.nD KernelIdeal.τ).loc KernelIdeal.main_v18_3) = R13 m c
      ∧ r.2.mem ((c.tc : Thread KernelIdeal.nD KernelIdeal.τ).loc KernelIdeal.main_v18_4) = R14 m c
      ∧ Cert.KernelIdeal.Ffn.Kept m r.2.mem c :=
  (θ_run KernelIdeal.defs _ _).mono (fun r h c => by
    obtain ⟨after, hL, hA⟩ := h.1.exists_exact c
    exact ⟨(hA 10).trans (Cert.KernelIdeal.Ffn.arr10 m c after hL), (hA 11).trans (Cert.KernelIdeal.Ffn.arr11 m c after hL),
      (hA 12).trans (Cert.KernelIdeal.Ffn.arr12 m c after hL), (hA 13).trans (Cert.KernelIdeal.Ffn.arr13 m c after hL),
      (hA 14).trans (Cert.KernelIdeal.Ffn.arr14 m c after hL), Cert.KernelIdeal.Ffn.kept m r h.1 c⟩) (Cert.KernelIdeal.Ffn.run_main m ρ)

theorem algebraic_KernelIdeal_ReferenceIdeal : algebraic_KernelIdeal_ReferenceIdeal := by
  intro m ρ m' ρ' hpre hagree
  refine ⟨R10 m, R11 m, R12 m, R13 m, R14 m, kernel_run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  have hD := data_eq m m' c a0 a1 a2 a3 a4 a5 a6
  have hR : AllRe (rdata (launchContents m' c)) := by
    have hp := hpre c
    rw [← a0, ← a1, ← a2, ← a3, ← a4, ← a5, ← a6] at hp
    obtain ⟨r0, r1, r2, r3, r4, r5, r6⟩ := Cert.Pre_finite.Read.all_re _ _ _ _ _ _ _ hp
    exact allRe _ r0 r1 r2 r3 r4 r5 r6
  obtain ⟨e0, e1, e2, e3, e4, hk⟩ := h c
  refine ⟨e0.trans ?_, e1.trans ?_, e2.trans ?_, e3.trans ?_, e4.trans ?_, hk⟩
  · refine funext fun (i : S8448x5632.Idx) => ?_
    rw [eq_ix2 (n0 := 8448) (n1 := 5632) i]
    unfold R10
    rw [hD]
    exact res10 hR (i 0) (i 1)
  · refine funext fun (i : S8448x1024.Idx) => ?_
    rw [eq_ix2 (n0 := 8448) (n1 := 1024) i]
    unfold R11
    rw [hD]
    exact (r111_apply _ (i 0) (i 1)).trans (rdh_eq hR _ (i 0).isLt (i 1))
  · refine funext fun (i : S3x2816.Idx) => ?_
    rw [eq_ix2 (n0 := 3) (n1 := 2816) i]
    unfold R12
    rw [hD, Finset.sum_range]
    refine (r84_apply _ _ _ _ (i 0) (i 1)).trans (Finset.sum_congr rfl fun N _ => ?_)
    rw [shifts hR (i 0) N (i 1)]
    exact congrArg (· * (rdata (launchContents m' c)).eA (N.val + (i 0).val) (i 1)) ((v51_apply _ N (i 1)).trans (rda_eq hR _ N.isLt (i 1)))
  · refine funext fun (i : S1x2816.Idx) => ?_
    rw [Cert.KernelIdeal.Ffn.eq_row (n := 2816) i]
    unfold R13
    rw [hD]
    exact res13 hR (i 1)
  · refine funext fun (i : S1x1024.Idx) => ?_
    rw [Cert.KernelIdeal.Ffn.eq_row (n := 1024) i]
    unfold R14
    rw [hD]
    exact res14 hR (i 1)

end Cert.Proof

end
-- ==== Proof.Dw.DwInCases.lean ====
module

public import proofs.«01_k».proof.Proof.Gen.DwInIdeal.Value
public import Idealize.ShloMosaic.Lib.Pipeline.Value
public import Idealize.ShloMosaic.Lib.Tactic

/-! What the three kinds of grid points of the input-projection weight gradient leave behind: the first point of a column
    tile stores the zero block and adds its product, the others add theirs to what was there, and the last one also rounds
    the sum into the output block. -/

@[expose] public section

noncomputable section

namespace Cert.DwInIdeal.Acc

open Idealize.ShloMosaic Idealize.ShloMosaic.TcCoe Idealize.SL.Sem
open Cert.DwInIdeal Cert.DwInIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point adds its product to the accumulator. -/
theorem acc_B (c : Dev nD) (i : grid0.Coords) (a2 : Memref sig .tc .vmem S1024x2816 .bf16) (h2 : a2.IsWhole)
    (a3 : Memref sig .tc .vmem S2816x2304 .bf16) (h3 : a3.IsWhole) (a4 : Memref sig .tc .vmem S1x1024x2304 .bf16) (h4 : a4.IsWhole)
    (a5 : Memref sig .tc .vmem S1x1024x2304 .f32) (h5 : a5.IsWhole) (hc0 : ¬cond0_0 i) (hc1 : ¬cond0_1 i)
    (x0 : Vec F S1024x2816 .bf16) (x1 : Vec F S2816x2304 .bf16) (xs : Vec F S1x1024x2304 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz3]
  simp only [View.readAt_eq_ld, h2.read_unread, h3.read_unread, h5.read_unread, View.ld_unit_zero (S := S1024x2816) hz2,
    View.ld_unit_zero (S := S2816x2304) hz2, View.ld_unit_zero (S := S1x1024x2304) hz3]

/-- The first point of a column tile leaves its product added to zero. -/
theorem acc_A (c : Dev nD) (i : grid0.Coords) (a2 : Memref sig .tc .vmem S1024x2816 .bf16) (h2 : a2.IsWhole)
    (a3 : Memref sig .tc .vmem S2816x2304 .bf16) (h3 : a3.IsWhole) (a4 : Memref sig .tc .vmem S1x1024x2304 .bf16) (h4 : a4.IsWhole)
    (a5 : Memref sig .tc .vmem S1x1024x2304 .f32) (h5 : a5.IsWhole) (hc0 : cond0_0 i) (hc1 : ¬cond0_1 i)
    (x0 : Vec F S1024x2816 .bf16) (x1 : Vec F S2816x2304 .bf16) :
    sout0_A_0 c i a2 h2 a3 h3 a4 h4 a5 h5 hc0 hc1 x0 x1 = k0_pay2 x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1024x2304) hz3, View.readCov_unit_zero (S := S1x1024x2304) _ hz3]
  simp only [View.readAt_eq_ld, h2.read_unread, h3.read_unread, View.ld_unit_zero (S := S1024x2816) hz2,
    View.ld_unit_zero (S := S2816x2304) hz2]

/-- The last point of a column tile rounds the finished sum into the output block. -/
theorem out_C (c : Dev nD) (i : grid0.Coords) (a2 : Memref sig .tc .vmem S1024x2816 .bf16) (h2 : a2.IsWhole)
    (a3 : Memref sig .tc .vmem S2816x2304 .bf16) (h3 : a3.IsWhole) (a4 : Memref sig .tc .vmem S1x1024x2304 .bf16) (h4 : a4.IsWhole)
    (a5 : Memref sig .tc .vmem S1x1024x2304 .f32) (h5 : a5.IsWhole) (hc0 : ¬cond0_0 i) (hc1 : cond0_1 i)
    (x0 : Vec F S1024x2816 .bf16) (x1 : Vec F S2816x2304 .bf16) (xs : Vec F S1x1024x2304 .f32) :
    out0_C_2 c i a2 h2 a3 h3 a4 h4 a5 h5 hc0 hc1 x0 x1 xs = k0_pay3 (k0_pay2 x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz3, View.readCov_unit_zero (S := S1x1024x2304) _ hz3]
  simp only [View.readAt_eq_ld, h2.read_unread, h3.read_unread, h5.read_unread, View.ld_unit_zero (S := S1024x2816) hz2,
    View.ld_unit_zero (S := S2816x2304) hz2, View.ld_unit_zero (S := S1x1024x2304) hz3]

end Cert.DwInIdeal.Acc

end
-- ==== Proof.Dw.DwInV.lean ====
module

public import proofs.«01_k».proof.Proof.Gen.DwInIdeal.Value
public import Idealize.ShloMosaic.Lib.Pipeline.Value
public import Idealize.ShloMosaic.Lib.StableHlo.Run
public import Idealize.ShloMosaic.Lib.Tactic
public import Idealize.ShloMosaic.Lib.ValueIdx
public import Idealize.ShloMosaic.Lib.IdealHost
public import Idealize.ShloMosaic.Lib.Pointwise

/-! The two operand arrays of the input-projection weight gradient as the host leaves them, and their blocks at a grid point. -/

@[expose] public section

noncomputable section

namespace Cert.DwInIdeal.Acc

open Idealize.ShloMosaic Idealize.ShloMosaic.TcCoe Idealize.SL.Sem Idealize.ShloMosaic.StableHlo
open Cert.DwInIdeal Cert.DwInIdeal.Gen

/-- The normalized rows, as the host computes them. -/
def normed {F : FTy → Type} [FloatOps F] (h : FVec F S8448x1024 .f32) (w : FVec F S1x1024 .f32) : FVec F S8448x1024 .f32 :=
  mulf (mulf h (broadcastInDim S8448x1024 ![0, 1] bcast_S8448x1_S8448x1024_0_1 (Host.rsqrt (addf (Host.divf (broadcastInDim S8448x1 ![0] bcast_S8448_S8448x1_0 (Host.reduceAdd (mulf h h) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 w)

variable {F : FTy → Type} [FloatOps F]
variable (m : (ℓ : Loc nD τ sig) → Buf (Elt F) ℓ)

theorem V_v13 (c : Dev nD) : V m c main_v13
    = transpose S1024x8448 [1, 0] (truncf .bf16 (normed (m ((c : Thread nD τ).loc main_arg0)) (m ((c : Thread nD τ).loc main_arg1))) bitsLt_bf16_f32) transposes_S8448x1024_S1024x8448_1_0 := by
  unfold V
  after_results <;> rfl

theorem V_v14 (c : Dev nD) : V m c main_v14 = truncf .bf16 (m ((c : Thread nD τ).loc main_arg2)) bitsLt_bf16_f32 := by
  unfold V
  after_results <;> rfl

/-- Index maps, decided over the grid. -/
theorem idx0 : ∀ t : Fin cfg0.N, win0_0.index t (0 : Fin 2) = 0 ∧ win0_0.index t (1 : Fin 2) = t.val % 3 :=
  (by decide +kernel : ∀ t : Fin grid0.N, _)
theorem idx1 : ∀ t : Fin cfg0.N, win0_1.index t (0 : Fin 2) = t.val % 3 ∧ win0_1.index t (1 : Fin 2) = t.val / 3 :=
  (by decide +kernel : ∀ t : Fin grid0.N, _)

theorem blk0 (m : (ℓ : Loc nD τ sig) → Buf (Elt Ideal) ℓ) (c : Dev nD) (t : Fin cfg0.N) (r : Fin 1024) (k : Fin 2816) (R : Fin 8448) (hR : R.val = 2816 * (t.val % 3) + k.val) :
    (iblk m c 0 t : Vec Ideal S1024x2816 .bf16) (ix2 r k)
      = normed (F := Ideal) (m ((c : Thread nD τ).loc main_arg0)) (m ((c : Thread nD τ).loc main_arg1)) (ix2 R r) := by
  have hi := idx0 t
  unfold iblk
  rw [View.read_apply]
  show V m c main_v13 _ = _
  rw [V_v13]
  unfold transpose
  show normed (F := Ideal) _ _ _ = _
  congr 1
  funext a
  apply Fin.ext
  match a with
  | ⟨0, _⟩ => show win0_0.index t 1 * 2816 + 1 * k.val = R.val; rw [hi.2]; omega
  | ⟨1, _⟩ => show win0_0.index t 0 * 1024 + 1 * r.val = r.val; rw [hi.1]; omega

theorem blk1 (m : (ℓ : Loc nD τ sig) → Buf (Elt Ideal) ℓ) (c : Dev nD) (t : Fin cfg0.N) (k : Fin 2816) (j : Fin 2304) (R : Fin 8448) (C : Fin 9216)
    (hR : R.val = 2816 * (t.val % 3) + k.val) (hC : C.val = 2304 * (t.val / 3) + j.val) :
    (iblk m c 1 t : Vec Ideal S2816x2304 .bf16) (ix2 k j) = (m ((c : Thread nD τ).loc main_arg2) : Vec Ideal S8448x9216 .f32) (ix2 R C) := by
  have hi := idx1 t
  unfold iblk
  rw [View.read_apply]
  show V m c main_v14 _ = _
  rw [V_v14]
  show (m ((c : Thread nD τ).loc main_arg2) : Vec Ideal S8448x9216 .f32) _ = _
  congr 1
  funext a
  apply Fin.ext
  match a with
  | ⟨0, _⟩ => show win0_1.index t 0 * 2816 + 1 * k.val = R.val; rw [hi.1]; omega
  | ⟨1, _⟩ => show win0_1.index t 1 * 2304 + 1 * j.val = C.val; rw [hi.2]; omega

end Cert.DwInIdeal.Acc

end
-- ==== Proof.Dw.DwInPay.lean ====
module

public import proofs.«01_k».proof.Proof.Gen.DwInIdeal.Value
public import Idealize.ShloMosaic.Lib.Pipeline.Value
public import Idealize.ShloMosaic.Lib.StableHlo.Run
public import Idealize.ShloMosaic.Lib.Tactic
public import Idealize.ShloMosaic.Lib.ValueIdx
public import Idealize.ShloMosaic.Lib.IdealHost
public import Idealize.ShloMosaic.Lib.Pointwise

/-! The accumulating product at an index. -/

@[expose] public section

noncomputable section

namespace Cert.DwInIdeal.Acc

open Idealize.ShloMosaic Idealize.ShloMosaic.TcCoe Idealize.SL.Sem
open Cert.DwInIdeal Cert.DwInIdeal.Gen

theorem pay2_apply (x0 : Vec Ideal S1024x2816 .bf16) (x1 : Vec Ideal S2816x2304 .bf16) (a : Vec Ideal S1x1024x2304 .f32) (r : Fin 1024) (j : Fin 2304) :
    k0_pay2 x0 x1 a (ix3 0 r j) = a (ix3 0 r j) + ∑ k : Fin 2816, x0 (ix2 r k) * x1 (ix2 k j) := by
  unfold_payloads
  pointwise

theorem pay1_apply (i : S1x1024x2304.Idx) : k0_pay1 (F := Ideal) i = 0 := by
  unfold_payloads
  pointwise

end Cert.DwInIdeal.Acc

end
-- ==== Proof.Dw.DwIn.lean ====
module

public import proofs.«01_k».proof.Defs
public import proofs.«01_k».proof.Proof.Dw.DwInCases
public import proofs.«01_k».proof.Proof.Dw.DwInV
public import proofs.«01_k».proof.Proof.Dw.DwInPay
public import proofs.«01_k».proof.Proof.Dw.Sums
public import proofs.«01_k».proof.Proof.Gen.DwInRefIdeal.Run

/-! The input-projection weight gradient: each output element is the sum over all rows, and so is the reference's. -/

@[expose] public section

noncomputable section

namespace Cert.DwInIdeal.Acc

open Idealize.ShloMosaic Idealize.ShloMosaic.TcCoe Idealize.SL.Sem
open Cert.DwInIdeal Cert.DwInIdeal.Gen Cert.DwInIdeal.Value

variable (m : (ℓ : Loc nD τ sig) → Buf (Elt Ideal) ℓ)

/-- The addend of row `R` to the element of column `C` and feature `r`. -/
def term (c : Dev nD) (r : Fin 1024) (C : Fin 9216) (R : Fin 8448) : Ideal .f32 :=
  normed (F := Ideal) (m ((c : Thread nD τ).loc main_arg0)) (m ((c : Thread nD τ).loc main_arg1)) (ix2 R r)
    * (m ((c : Thread nD τ).loc main_arg2) : Vec Ideal S8448x9216 .f32) (ix2 R C)

/-- A point's product at an index. -/
theorem point_sum (c : Dev nD) (t : Fin cfg0.N) (b : Fin 3) (hb : t.val % 3 = b.val) (r : Fin 1024) (j : Fin 2304) (C : Fin 9216)
    (hC : C.val = 2304 * (t.val / 3) + j.val) (a : Vec Ideal S1x1024x2304 .f32) :
    k0_pay2 (iblk m c 0 t) (iblk m c 1 t) a (ix3 0 r j)
      = a (ix3 0 r j) + ∑ k : Fin 2816, term m c r C ⟨2816 * b.val + k.val, Cert.Sums.place_lt b k rfl⟩ := by
  rw [pay2_apply]
  congr 1
  refine Finset.sum_congr rfl fun k _ => ?_
  rw [blk0 m c t r k ⟨2816 * b.val + k.val, Cert.Sums.place_lt b k rfl⟩ (by rw [hb]),
    blk1 m c t k j ⟨2816 * b.val + k.val, Cert.Sums.place_lt b k rfl⟩ C (by rw [hb]) hC]
  rfl

/-- The output array at an index: the sum over all rows. -/
theorem G2_apply (c : Dev nD) (q : Fin 4) (r : Fin 1024) (j : Fin 2304) (C : Fin 9216) (hC : C.val = 2304 * q.val + j.val) :
    (G2 m c : Vec Ideal S4x1024x2304 .bf16) (ix3 q r j) = ∑ R : Fin 8448, term m c r C R := by
  have hq := q.isLt
  have hr := r.isLt
  have hj := j.isLt
  have hN : cfg0.N = 12 := N_0
  have hrun : run2Of (ix3 q r j) = q.val := by
    show 1 * (q.val / 1 - 0) + 1 * (r.val / 1024 - 0) + 1 * (j.val / 2304 - 0) = _
    omega
  have hpt : pt2Of (ix3 q r j) = 3 * q.val + 2 := by show 3 * run2Of (ix3 q r j) + 2 = _; rw [hrun]
  have hloc : loc2Of (ix3 q r j) = ix3 0 r j := by
    funext a
    apply Fin.ext
    match a with
    | ⟨0, _⟩ => show q.val % 1 = 0; omega
    | ⟨1, _⟩ => show r.val % 1024 = r.val; omega
    | ⟨2, _⟩ => show j.val % 2304 = j.val; omega
  have h2 : 3 * q.val + 2 < cfg0.N := by omega
  have h1 : 3 * q.val + 1 < cfg0.N := by omega
  have h0 : 3 * q.val < cfg0.N := by omega
  unfold G2
  rw [dif_pos (by rw [hpt]; exact h2), fold0_congr m c _ _ _ (by omega) hpt, ← outsAt0_sweep m c _ h2, hloc,
    outsAt0_C m c ⟨_, h2⟩ (by show ¬(3 * q.val + 2) % 3 = 0; omega) (by show (3 * q.val + 2) % 3 = 2; omega)]
  dsimp only
  rw [out_C]
  show k0_pay2 (iblk m c 0 ⟨_, h2⟩) (iblk m c 1 ⟨_, h2⟩) (outsAt0 m c (3 * q.val + 1) _).2 (ix3 0 r j) = _
  rw [point_sum m c ⟨_, h2⟩ 2 (by show (3 * q.val + 2) % 3 = 2; omega) r j C (by rw [hC]; show _ = 2304 * ((3 * q.val + 2) / 3) + j.val; omega),
    outsAt0_B m c ⟨_, h1⟩ (by show ¬(3 * q.val + 1) % 3 = 0; omega) (by show ¬(3 * q.val + 1) % 3 = 2; omega)]
  dsimp only
  rw [acc_B]
  show k0_pay2 (iblk m c 0 ⟨_, h1⟩) (iblk m c 1 ⟨_, h1⟩) (outsAt0 m c (3 * q.val) _).2 (ix3 0 r j) + _ = _
  rw [point_sum m c ⟨_, h1⟩ 1 (by show (3 * q.val + 1) % 3 = 1; omega) r j C (by rw [hC]; show _ = 2304 * ((3 * q.val + 1) / 3) + j.val; omega),
    outsAt0_A m c ⟨_, h0⟩ (by show (3 * q.val) % 3 = 0; omega) (by show ¬(3 * q.val) % 3 = 2; omega)]
  dsimp only
  rw [acc_A, point_sum m c ⟨_, h0⟩ 0 (by show (3 * q.val) % 3 = 0; omega) r j C (by rw [hC]; show _ = 2304 * ((3 * q.val) / 3) + j.val; omega),
    pay1_apply, zero_add, Cert.Sums.sum_blocks 3 2816 8448 rfl, Fin.sum_univ_three]

/-- The reference's array at an index: the same sum. -/
theorem ref_apply (h : FVec Ideal S8448x1024 .f32) (w : FVec Ideal S1x1024 .f32) (d : FVec Ideal S8448x9216 .f32) (q : Fin 4) (r : Fin 1024) (j : Fin 2304)
    (C : Fin 9216) (hC : C.val = 2304 * q.val + j.val) :
    Host.dotGeneral Cert.DwInRefIdeal.dot_S8448x9216_S8448x1024_S9216x1024_0_0_1_1_n_n none d (normed (F := Ideal) h w) (ix2 C r)
      = ∑ R : Fin 8448, normed (F := Ideal) h w (ix2 R r) * d (ix2 R C) := by
  generalize normed (F := Ideal) h w = u
  pointwise
  exact Finset.sum_congr rfl fun R _ => mul_comm _ _

/-- The reference's re-arrangement into column shards, at an index. -/
theorem layout_apply (D : FVec Ideal Cert.DwInRefIdeal.S9216x1024 .f32) (q : Fin 4) (r : Fin 1024) (j : Fin 2304)
    (C : Fin 9216) (hC : C.val = 2304 * q.val + j.val) :
    (truncf .bf16 (transpose Cert.DwInRefIdeal.S4x1024x2304 [1, 0, 2] (shapeCast Cert.DwInRefIdeal.S1024x4x2304 (transpose Cert.DwInRefIdeal.S1024x9216 [1, 0] D Cert.DwInRefIdeal.Gen.facts.transposes_S9216x1024_S1024x9216_1_0) Cert.DwInRefIdeal.Gen.facts.shapeCasts_S1024x9216_S1024x4x2304) Cert.DwInRefIdeal.Gen.facts.transposes_S1024x4x2304_S4x1024x2304_1_0_2) Cert.DwInRefIdeal.Gen.facts.bitsLt_bf16_f32 : FVec Ideal Cert.DwInRefIdeal.S4x1024x2304 .bf16) (ix3 q r j)
      = D (ix2 C r) := by
  pointwise
  congr 2
  apply Fin.ext
  show _ = C.val
  rw [hC]
  dsimp only
  omega

end Cert.DwInIdeal.Acc

namespace Cert.Proof

open Idealize.ShloMosaic Idealize.SL.Sem
open Cert.DwInIdeal.Acc

theorem algebraic_DwInIdeal_DwInRefIdeal : algebraic_DwInIdeal_DwInRefIdeal := by
  intro m ρ m' ρ' _ hagree
  refine ⟨_, Cert.DwInIdeal.Value.run (F := Ideal) m ρ, ?_⟩
  refine (θ_run Cert.DwInRefIdeal.defs _ _).mono (fun _ h c => ⟨?_, (h c).2⟩) (Cert.DwInRefIdeal.Value.run (F := Ideal) m' ρ')
  rw [(h c).1]
  simp only [hagree c]
  funext i
  obtain ⟨q, r, j, rfl⟩ : ∃ (q : Fin 4) (r : Fin 1024) (j : Fin 2304), i = ix3 q r j := ⟨i 0, i 1, i 2, eq_ix3 i⟩
  have hq := q.isLt
  have hj := j.isLt
  have hlt : 2304 * q.val + j.val < 9216 := by omega
  refine Eq.trans ?_ (G2_apply m c q r j ⟨2304 * q.val + j.val, hlt⟩ rfl).symm
  refine Eq.trans ?_ (ref_apply _ _ _ q r j ⟨2304 * q.val + j.val, hlt⟩ rfl)
  exact layout_apply _ q r j _ rfl

end Cert.Proof

end
-- ==== Proof.Dw.DwUpCases.lean ====
module

public import proofs.«01_k».proof.Proof.Gen.DwUpIdeal.Value
public import Idealize.ShloMosaic.Lib.Pipeline.Value
public import Idealize.ShloMosaic.Lib.Tactic
public import Idealize.ShloMosaic.Lib.Pointwise.Index
public import proofs.«01_k».proof.Proof.Dw.Canon

/-! What the three kinds of grid points of the up-projection weight gradient leave behind. A column tile is two shards
    wide, and the accumulator holds one plane per shard, so every point stores two planes. -/

@[expose] public section

noncomputable section

namespace Cert.DwUpIdeal.Acc

open Idealize.ShloMosaic Idealize.ShloMosaic.TcCoe Idealize.SL.Sem
open Cert.DwUpIdeal Cert.DwUpIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Plane `s` of a two-plane block, as a block of one plane. -/
def plane (s : Fin 2) (xs : Vec F S2x1024x1408 .f32) : Vec F S1x1024x1408 .f32 :=
  fun y => xs (ix3 (n0 := 2) (n1 := 1024) (n2 := 1408) s (y 1) (y 2))

/-- The two-plane block of two planes. -/
def planes (p q : Vec F S1x1024x1408 .f32) : Vec F S2x1024x1408 .f32 :=
  fun i => if (i 0).val = 0 then p (ix3 (n0 := 1) (n1 := 1024) (n2 := 1408) 0 (i 1) (i 2)) else q (ix3 (n0 := 1) (n1 := 1024) (n2 := 1408) 0 (i 1) (i 2))

/-- What a point leaves in the accumulator: each plane with its shard of the product added. -/
def step (x0 : Vec F S1024x1408 .bf16) (x1 : Vec F S1408x2816 .bf16) (xs : Vec F S2x1024x1408 .f32) : Vec F S2x1024x1408 .f32 :=
  planes (k0_pay3 x0 x1 (plane 0 xs)) (k0_pay4 x0 x1 (plane 1 xs))

/-- Two stored planes, newest first, are the block of the two. -/
theorem canon_planes (p q : Vec F S1x1024x1408 .f32) (L : List (View.Piece (Elt F) S2x1024x1408 .f32)) :
    View.canon ((⟨Rect.unit ![1, 0, 0] S1x1024x1408.size inb_S2x1024x1408_S1x1024x1408_1_0_0, q⟩ : View.Piece (Elt F) S2x1024x1408 .f32)
      :: ⟨Rect.unit ![0, 0, 0] S1x1024x1408.size inb_S2x1024x1408_S1x1024x1408_0_0_0, p⟩ :: L) = planes p q := by
  funext i
  have h2 : (i 0).val < 2 := (i 0).isLt
  unfold planes
  by_cases h0 : (i 0).val = 0
  · rw [if_pos h0]
    refine (Cert.Canon.canon_skip (S := S2x1024x1408) (off := ![1, 0, 0]) (size := S1x1024x1408.size) inb_S2x1024x1408_S1x1024x1408_1_0_0 q _ i (0 : Fin 3) (Or.inl (by show (i 0).val < 1; omega))).trans ?_
    refine Cert.Canon.canon_hit (S := S2x1024x1408) (off := ![0, 0, 0]) (size := S1x1024x1408.size) inb_S2x1024x1408_S1x1024x1408_0_0_0 p L i (ix3 (n0 := 1) (n1 := 1024) (n2 := 1408) 0 (i 1) (i 2)) fun a => ?_
    match a with
    | ⟨0, _⟩ => show (i 0).val = 0 + 0; omega
    | ⟨1, _⟩ => show (i 1).val = 0 + (i 1).val; omega
    | ⟨2, _⟩ => show (i 2).val = 0 + (i 2).val; omega
  · rw [if_neg h0]
    refine Cert.Canon.canon_hit (S := S2x1024x1408) (off := ![1, 0, 0]) (size := S1x1024x1408.size) inb_S2x1024x1408_S1x1024x1408_1_0_0 q _ i (ix3 (n0 := 1) (n1 := 1024) (n2 := 1408) 0 (i 1) (i 2)) fun a => ?_
    match a with
    | ⟨0, _⟩ => show (i 0).val = 1 + 0; omega
    | ⟨1, _⟩ => show (i 1).val = 0 + (i 1).val; omega
    | ⟨2, _⟩ => show (i 2).val = 0 + (i 2).val; omega

/-- A load of a plane reads it. -/
theorem ld_plane0 (xs : Vec F S2x1024x1408 .f32) :
    (View.ld (e' := .f32) (Val := Elt F) xs (Rect.unit (s := S2x1024x1408) ![0, 0, 0] S1x1024x1408.size inb_S2x1024x1408_S1x1024x1408_0_0_0) : Vec F S1x1024x1408 .f32) = plane 0 xs := by
  funext y
  refine Cert.Canon.ld_at (e := .f32) (Val := Elt F) xs inb_S2x1024x1408_S1x1024x1408_0_0_0 y (ix3 (n0 := 2) (n1 := 1024) (n2 := 1408) 0 (y 1) (y 2)) fun a => ?_
  have h0 : (y 0).val < 1 := (y 0).isLt
  match a with
  | ⟨0, _⟩ => show 0 = 0 + (y 0).val; omega
  | ⟨1, _⟩ => show (y 1).val = 0 + (y 1).val; omega
  | ⟨2, _⟩ => show (y 2).val = 0 + (y 2).val; omega

theorem ld_plane1 (xs : Vec F S2x1024x1408 .f32) :
    (View.ld (e' := .f32) (Val := Elt F) xs (Rect.unit (s := S2x1024x1408) ![1, 0, 0] S1x1024x1408.size inb_S2x1024x1408_S1x1024x1408_1_0_0) : Vec F S1x1024x1408 .f32) = plane 1 xs := by
  funext y
  refine Cert.Canon.ld_at (e := .f32) (Val := Elt F) xs inb_S2x1024x1408_S1x1024x1408_1_0_0 y (ix3 (n0 := 2) (n1 := 1024) (n2 := 1408) 1 (y 1) (y 2)) fun a => ?_
  have h0 : (y 0).val < 1 := (y 0).isLt
  match a with
  | ⟨0, _⟩ => show 1 = 1 + (y 0).val; omega
  | ⟨1, _⟩ => show (y 1).val = 0 + (y 1).val; omega
  | ⟨2, _⟩ => show (y 2).val = 0 + (y 2).val; omega

/-- A middle point adds its product to the accumulator. -/
theorem acc_B (c : Dev nD) (i : grid0.Coords) (a2 : Memref sig .tc .vmem S1024x1408 .bf16) (h2 : a2.IsWhole)
    (a3 : Memref sig .tc .vmem S1408x2816 .bf16) (h3 : a3.IsWhole) (a4 : Memref sig .tc .vmem S2x1024x1408 .bf16) (h4 : a4.IsWhole)
    (a5 : Memref sig .tc .vmem S2x1024x1408 .f32) (h5 : a5.IsWhole) (hc0 : ¬cond0_0 i) (hc1 : ¬cond0_1 i)
    (x0 : Vec F S1024x1408 .bf16) (x1 : Vec F S1408x2816 .bf16) (xs : Vec F S2x1024x1408 .f32) :
    sout0_B_0 c i a2 h2 a3 h3 a4 h4 a5 h5 hc0 hc1 x0 x1 xs = step x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  refine (canon_planes _ _ _).trans ?_
  simp only [View.readAt_eq_ld, h2.read_unread, h3.read_unread, h5.read_unread]
  unfold step
  congr 1
  · rw [View.ld_unit_zero (S := S1024x1408) hz2, View.ld_unit_zero (S := S1408x2816) hz2, ld_plane0]
  · rw [View.ld_unit_zero (S := S1024x1408) hz2, View.ld_unit_zero (S := S1408x2816) hz2, ld_plane1]

/-- The first point of a column tile leaves its product added to zero. -/
theorem acc_A (c : Dev nD) (i : grid0.Coords) (a2 : Memref sig .tc .vmem S1024x1408 .bf16) (h2 : a2.IsWhole)
    (a3 : Memref sig .tc .vmem S1408x2816 .bf16) (h3 : a3.IsWhole) (a4 : Memref sig .tc .vmem S2x1024x1408 .bf16) (h4 : a4.IsWhole)
    (a5 : Memref sig .tc .vmem S2x1024x1408 .f32) (h5 : a5.IsWhole) (hc0 : cond0_0 i) (hc1 : ¬cond0_1 i)
    (x0 : Vec F S1024x1408 .bf16) (x1 : Vec F S1408x2816 .bf16) :
    sout0_A_0 c i a2 h2 a3 h3 a4 h4 a5 h5 hc0 hc1 x0 x1 = step x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  refine (canon_planes _ _ _).trans ?_
  unfold step
  have e0 : ∀ (o : Nat) (ho : o < 2) (off : Fin 3 → Nat) (hoff : off = ![o, 0, 0]) (inb : ∀ a, off a + S1x1024x1408.size a ≤ S2x1024x1408.size a),
      a5.view.readCov [(⟨Rect.unit ![0, 0, 0] S2x1024x1408.size inb_S2x1024x1408_S2x1024x1408_0_0_0, k0_pay1⟩ : View.Piece (Elt F) S2x1024x1408 .f32)]
        (Rect.unit (s := S2x1024x1408) off S1x1024x1408.size inb).toLoadRect = plane ⟨o, ho⟩ k0_pay1 := by
    intro o ho off hoff inb
    subst hoff
    funext y
    have h0 : (y 0).val < 1 := (y 0).isLt
    refine (Cert.Canon.readCov_at (S := S2x1024x1408) (off := ![o, 0, 0]) (size := S1x1024x1408.size) _ _ inb y (ix3 (n0 := 2) (n1 := 1024) (n2 := 1408) ⟨o, ho⟩ (y 1) (y 2)) fun a => ?_).trans ?_
    · match a with
      | ⟨0, _⟩ => show o = o + (y 0).val; omega
      | ⟨1, _⟩ => show (y 1).val = 0 + (y 1).val; omega
      | ⟨2, _⟩ => show (y 2).val = 0 + (y 2).val; omega
    · exact congrFun (View.canon_unit_zero (S := S2x1024x1408) hz3 _ _) _
  have e1 : ∀ p : Vec F S1x1024x1408 .f32,
      a5.view.readCov [(⟨Rect.unit ![0, 0, 0] S1x1024x1408.size inb_S2x1024x1408_S1x1024x1408_0_0_0, p⟩ : View.Piece (Elt F) S2x1024x1408 .f32),
          ⟨Rect.unit ![0, 0, 0] S2x1024x1408.size inb_S2x1024x1408_S2x1024x1408_0_0_0, k0_pay1⟩]
        (Rect.unit (s := S2x1024x1408) ![1, 0, 0] S1x1024x1408.size inb_S2x1024x1408_S1x1024x1408_1_0_0).toLoadRect = plane 1 k0_pay1 := by
    intro p
    funext y
    have h0 : (y 0).val < 1 := (y 0).isLt
    refine (Cert.Canon.readCov_at (S := S2x1024x1408) (off := ![1, 0, 0]) (size := S1x1024x1408.size) _ _ inb_S2x1024x1408_S1x1024x1408_1_0_0 y (ix3 (n0 := 2) (n1 := 1024) (n2 := 1408) 1 (y 1) (y 2)) fun a => ?_).trans ?_
    · match a with
      | ⟨0, _⟩ => show 1 = 1 + (y 0).val; omega
      | ⟨1, _⟩ => show (y 1).val = 0 + (y 1).val; omega
      | ⟨2, _⟩ => show (y 2).val = 0 + (y 2).val; omega
    · refine (Cert.Canon.canon_skip (S := S2x1024x1408) (off := ![0, 0, 0]) (size := S1x1024x1408.size) inb_S2x1024x1408_S1x1024x1408_0_0_0 p _ _ (0 : Fin 3) (Or.inr (by show 0 + 1 ≤ 1; omega))).trans ?_
      exact congrFun (View.canon_unit_zero (S := S2x1024x1408) hz3 _ _) _
  simp only [View.readAt_eq_ld, h2.read_unread, h3.read_unread]
  congr 1
  · rw [View.ld_unit_zero (S := S1024x1408) hz2, View.ld_unit_zero (S := S1408x2816) hz2]
    exact congrArg _ (e0 0 (by decide) _ rfl _)
  · rw [View.ld_unit_zero (S := S1024x1408) hz2, View.ld_unit_zero (S := S1408x2816) hz2]
    exact congrArg _ (e1 _)

/-- The last point of a column tile rounds the finished sum into the output block. -/
theorem out_C (c : Dev nD) (i : grid0.Coords) (a2 : Memref sig .tc .vmem S1024x1408 .bf16) (h2 : a2.IsWhole)
    (a3 : Memref sig .tc .vmem S1408x2816 .bf16) (h3 : a3.IsWhole) (a4 : Memref sig .tc .vmem S2x1024x1408 .bf16) (h4 : a4.IsWhole)
    (a5 : Memref sig .tc .vmem S2x1024x1408 .f32) (h5 : a5.IsWhole) (hc0 : ¬cond0_0 i) (hc1 : cond0_1 i)
    (x0 : Vec F S1024x1408 .bf16) (x1 : Vec F S1408x2816 .bf16) (xs : Vec F S2x1024x1408 .f32) :
    out0_C_2 c i a2 h2 a3 h3 a4 h4 a5 h5 hc0 hc1 x0 x1 xs = k0_pay5 (step x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  refine (View.canon_unit_zero (S := S2x1024x1408) hz3 _ _).trans ?_
  congr 1
  rw [View.readCov_eq_canon', canon_planes]
  simp only [View.readAt_eq_ld, h2.read_unread, h3.read_unread, h5.read_unread]
  refine (View.ld_unit_zero (S := S2x1024x1408) (Val := Elt F) (e := .f32) hz3 _ _).trans ?_
  unfold step
  congr 1
  · rw [View.ld_unit_zero (S := S1024x1408) hz2, View.ld_unit_zero (S := S1408x2816) hz2, ld_plane0]
  · rw [View.ld_unit_zero (S := S1024x1408) hz2, View.ld_unit_zero (S := S1408x2816) hz2, ld_plane1]

end Cert.DwUpIdeal.Acc

end
-- ==== Proof.Dw.DwUpV.lean ====
module

public import proofs.«01_k».proof.Proof.Gen.DwUpIdeal.Value
public import Idealize.ShloMosaic.Lib.Pipeline.Value
public import Idealize.ShloMosaic.Lib.StableHlo.Run
public import Idealize.ShloMosaic.Lib.Tactic
public import Idealize.ShloMosaic.Lib.ValueIdx
public import Idealize.ShloMosaic.Lib.IdealHost
public import Idealize.ShloMosaic.Lib.Pointwise

/-! The two operand arrays of the up-projection weight gradient as the host leaves them, and their blocks at a grid point. -/

@[expose] public section

noncomputable section

namespace Cert.DwUpIdeal.Acc

open Idealize.ShloMosaic Idealize.ShloMosaic.TcCoe Idealize.SL.Sem Idealize.ShloMosaic.StableHlo
open Cert.DwUpIdeal Cert.DwUpIdeal.Gen

/-- The normalized rows, as the host computes them. -/
def normed {F : FTy → Type} [FloatOps F] (h : FVec F S8448x1024 .f32) (w : FVec F S1x1024 .f32) : FVec F S8448x1024 .f32 :=
  mulf (mulf h (broadcastInDim S8448x1024 ![0, 1] bcast_S8448x1_S8448x1024_0_1 (Host.rsqrt (addf (Host.divf (broadcastInDim S8448x1 ![0] bcast_S8448_S8448x1_0 (Host.reduceAdd (mulf h h) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 w)

variable {F : FTy → Type} [FloatOps F]
variable (m : (ℓ : Loc nD τ sig) → Buf (Elt F) ℓ)

theorem V_v13 (c : Dev nD) : V m c main_v13
    = transpose S1024x8448 [1, 0] (truncf .bf16 (normed (m ((c : Thread nD τ).loc main_arg0)) (m ((c : Thread nD τ).loc main_arg1))) bitsLt_bf16_f32) transposes_S8448x1024_S1024x8448_1_0 := by
  unfold V
  after_results <;> rfl

theorem V_v14 (c : Dev nD) : V m c main_v14 = truncf .bf16 (m ((c : Thread nD τ).loc main_arg2)) bitsLt_bf16_f32 := by
  unfold V
  after_results <;> rfl

/-- Index maps, decided over the grid. -/
theorem idx0 : ∀ t : Fin cfg0.N, win0_0.index t (0 : Fin 2) = 0 ∧ win0_0.index t (1 : Fin 2) = t.val % 6 :=
  (by decide +kernel : ∀ t : Fin grid0.N, _)
theorem idx1 : ∀ t : Fin cfg0.N, win0_1.index t (0 : Fin 2) = t.val % 6 ∧ win0_1.index t (1 : Fin 2) = t.val / 6 :=
  (by decide +kernel : ∀ t : Fin grid0.N, _)

theorem blk0 (m : (ℓ : Loc nD τ sig) → Buf (Elt Ideal) ℓ) (c : Dev nD) (t : Fin cfg0.N) (r : Fin 1024) (k : Fin 1408) (R : Fin 8448) (hR : R.val = 1408 * (t.val % 6) + k.val) :
    (iblk m c 0 t : Vec Ideal S1024x1408 .bf16) (ix2 r k)
      = normed (F := Ideal) (m ((c : Thread nD τ).loc main_arg0)) (m ((c : Thread nD τ).loc main_arg1)) (ix2 R r) := by
  have hi := idx0 t
  unfold iblk
  rw [View.read_apply]
  show V m c main_v13 _ = _
  rw [V_v13]
  unfold transpose
  show normed (F := Ideal) _ _ _ = _
  congr 1
  funext a
  apply Fin.ext
  match a with
  | ⟨0, _⟩ => show win0_0.index t 1 * 1408 + 1 * k.val = R.val; rw [hi.2]; omega
  | ⟨1, _⟩ => show win0_0.index t 0 * 1024 + 1 * r.val = r.val; rw [hi.1]; omega

theorem blk1 (m : (ℓ : Loc nD τ sig) → Buf (Elt Ideal) ℓ) (c : Dev nD) (t : Fin cfg0.N) (k : Fin 1408) (j : Fin 2816) (R : Fin 8448) (C : Fin 5632)
    (hR : R.val = 1408 * (t.val % 6) + k.val) (hC : C.val = 2816 * (t.val / 6) + j.val) :
    (iblk m c 1 t : Vec Ideal S1408x2816 .bf16) (ix2 k j) = (m ((c : Thread nD τ).loc main_arg2) : Vec Ideal S8448x5632 .f32) (ix2 R C) := by
  have hi := idx1 t
  unfold iblk
  rw [View.read_apply]
  show V m c main_v14 _ = _
  rw [V_v14]
  show (m ((c : Thread nD τ).loc main_arg2) : Vec Ideal S8448x5632 .f32) _ = _
  congr 1
  funext a
  apply Fin.ext
  match a with
  | ⟨0, _⟩ => show win0_1.index t 0 * 1408 + 1 * k.val = R.val; rw [hi.1]; omega
  | ⟨1, _⟩ => show win0_1.index t 1 * 2816 + 1 * j.val = C.val; rw [hi.2]; omega

end Cert.DwUpIdeal.Acc

end
-- ==== Proof.Dw.DwUpPay.lean ====
module

public import proofs.«01_k».proof.Proof.Gen.DwUpIdeal.Value
public import proofs.«01_k».proof.Proof.Dw.DwUpCases
public import Idealize.ShloMosaic.Lib.Pipeline.Value
public import Idealize.ShloMosaic.Lib.StableHlo.Run
public import Idealize.ShloMosaic.Lib.Tactic
public import Idealize.ShloMosaic.Lib.ValueIdx
public import Idealize.ShloMosaic.Lib.IdealHost
public import Idealize.ShloMosaic.Lib.Pointwise

/-! The accumulating product at an index. -/

@[expose] public section

noncomputable section

namespace Cert.DwUpIdeal.Acc

open Idealize.ShloMosaic Idealize.ShloMosaic.TcCoe Idealize.SL.Sem
open Cert.DwUpIdeal Cert.DwUpIdeal.Gen

theorem pay3_apply (x0 : Vec Ideal S1024x1408 .bf16) (x1 : Vec Ideal S1408x2816 .bf16) (a : Vec Ideal S1x1024x1408 .f32) (r : Fin 1024) (j : Fin 1408)
    (C : Fin 2816) (hC : C.val = j.val) :
    k0_pay3 x0 x1 a (ix3 0 r j) = a (ix3 0 r j) + ∑ k : Fin 1408, x0 (ix2 r k) * x1 (ix2 k C) := by
  have hj := j.isLt
  have hlt : j.val < 2816 := by omega
  have e : C = ⟨j.val, hlt⟩ := Fin.ext hC
  rw [e]
  unfold_payloads
  pointwise

theorem pay4_apply (x0 : Vec Ideal S1024x1408 .bf16) (x1 : Vec Ideal S1408x2816 .bf16) (a : Vec Ideal S1x1024x1408 .f32) (r : Fin 1024) (j : Fin 1408)
    (C : Fin 2816) (hC : C.val = 1408 + j.val) :
    k0_pay4 x0 x1 a (ix3 0 r j) = a (ix3 0 r j) + ∑ k : Fin 1408, x0 (ix2 r k) * x1 (ix2 k C) := by
  have hj := j.isLt
  have hlt : 1408 + j.val < 2816 := by omega
  have e : C = ⟨1408 + j.val, hlt⟩ := Fin.ext hC
  rw [e]
  unfold_payloads
  pointwise

theorem pay1_apply (i : S2x1024x1408.Idx) : k0_pay1 (F := Ideal) i = 0 := by
  unfold_payloads
  pointwise

theorem pay5_apply (a : Vec Ideal S2x1024x1408 .f32) (i : S2x1024x1408.Idx) : k0_pay5 (F := Ideal) a i = a i := by
  unfold_payloads
  pointwise

/-- A point adds its block of the product to each plane. -/
theorem step_apply (x0 : Vec Ideal S1024x1408 .bf16) (x1 : Vec Ideal S1408x2816 .bf16) (a : Vec Ideal S2x1024x1408 .f32) (s : Fin 2) (r : Fin 1024) (j : Fin 1408)
    (C : Fin 2816) (hC : C.val = 1408 * s.val + j.val) :
    step x0 x1 a (ix3 s r j) = a (ix3 s r j) + ∑ k : Fin 1408, x0 (ix2 r k) * x1 (ix2 k C) := by
  have hs := s.isLt
  unfold step planes
  by_cases h : s.val = 0
  · obtain rfl : s = 0 := Fin.ext h
    rw [if_pos (by exact h)]
    exact pay3_apply x0 x1 (plane 0 a) r j C (by rw [hC]; show 1408 * 0 + _ = _; omega)
  · obtain rfl : s = 1 := Fin.ext (by show s.val = 1; omega)
    rw [if_neg (by exact h)]
    exact pay4_apply x0 x1 (plane 1 a) r j C (by rw [hC]; show 1408 * 1 + _ = _; omega)

end Cert.DwUpIdeal.Acc

end
-- ==== Proof.Dw.DwUp.lean ====
module

public import proofs.«01_k».proof.Defs
public import proofs.«01_k».proof.Proof.Dw.DwUpCases
public import proofs.«01_k».proof.Proof.Dw.DwUpV
public import proofs.«01_k».proof.Proof.Dw.DwUpPay
public import proofs.«01_k».proof.Proof.Dw.Sums
public import proofs.«01_k».proof.Proof.Gen.DwUpRefIdeal.Run

/-! The up-projection weight gradient: each output element is the sum over all rows, and so is the reference's. -/

@[expose] public section

noncomputable section

namespace Cert.DwUpIdeal.Acc

open Idealize.ShloMosaic Idealize.ShloMosaic.TcCoe Idealize.SL.Sem
open Cert.DwUpIdeal Cert.DwUpIdeal.Gen Cert.DwUpIdeal.Value

variable (m : (ℓ : Loc nD τ sig) → Buf (Elt Ideal) ℓ)

/-- The addend of row `R` to the element of column `C` and feature `r`. -/
def term (c : Dev nD) (r : Fin 1024) (C : Fin 5632) (R : Fin 8448) : Ideal .f32 :=
  normed (F := Ideal) (m ((c : Thread nD τ).loc main_arg0)) (m ((c : Thread nD τ).loc main_arg1)) (ix2 R r)
    * (m ((c : Thread nD τ).loc main_arg2) : Vec Ideal S8448x5632 .f32) (ix2 R C)

/-- A point's product at an index. -/
theorem point_sum (c : Dev nD) (t : Fin cfg0.N) (b : Fin 6) (hb : t.val % 6 = b.val) (s : Fin 2) (r : Fin 1024) (j : Fin 1408) (C : Fin 5632)
    (hC : C.val = 2816 * (t.val / 6) + (1408 * s.val + j.val)) (a : Vec Ideal S2x1024x1408 .f32) :
    step (iblk m c 0 t) (iblk m c 1 t) a (ix3 s r j)
      = a (ix3 s r j) + ∑ k : Fin 1408, term m c r C ⟨1408 * b.val + k.val, Cert.Sums.place_lt b k rfl⟩ := by
  have hs := s.isLt
  have hj := j.isLt
  rw [step_apply _ _ _ s r j ⟨1408 * s.val + j.val, by omega⟩ rfl]
  congr 1
  refine Finset.sum_congr rfl fun k _ => ?_
  rw [blk0 m c t r k ⟨1408 * b.val + k.val, Cert.Sums.place_lt b k rfl⟩ (by rw [hb]),
    blk1 m c t k ⟨1408 * s.val + j.val, by omega⟩ ⟨1408 * b.val + k.val, Cert.Sums.place_lt b k rfl⟩ C (by rw [hb]) hC]
  rfl

/-- The accumulator after the first point of a column tile. -/
theorem acc_first (c : Dev nD) (n : Nat) (h : n < cfg0.N) (h0 : n % 6 = 0) (s : Fin 2) (r : Fin 1024) (j : Fin 1408) (C : Fin 5632)
    (hC : C.val = 2816 * (n / 6) + (1408 * s.val + j.val)) :
    (outsAt0 m c n h).2 (ix3 s r j) = ∑ k : Fin 1408, term m c r C ⟨1408 * (0 : Fin 6).val + k.val, Cert.Sums.place_lt 0 k rfl⟩ := by
  rw [outsAt0_A m c ⟨n, h⟩ h0 (by show ¬n % 6 = 5; omega)]
  dsimp only
  rw [acc_A, point_sum m c ⟨n, h⟩ 0 h0 s r j C hC, pay1_apply, zero_add]

/-- The accumulator after a later point but the last. -/
theorem acc_next (c : Dev nD) (n : Nat) (h : n + 1 < cfg0.N) (b : Fin 6) (hb : (n + 1) % 6 = b.val) (h0 : ¬(n + 1) % 6 = 0) (h5 : ¬(n + 1) % 6 = 5)
    (s : Fin 2) (r : Fin 1024) (j : Fin 1408) (C : Fin 5632) (hC : C.val = 2816 * ((n + 1) / 6) + (1408 * s.val + j.val)) :
    (outsAt0 m c (n + 1) h).2 (ix3 s r j) = (outsAt0 m c n (Nat.lt_of_succ_lt h)).2 (ix3 s r j)
      + ∑ k : Fin 1408, term m c r C ⟨1408 * b.val + k.val, Cert.Sums.place_lt b k rfl⟩ := by
  rw [outsAt0_B m c ⟨n + 1, h⟩ h0 h5]
  dsimp only
  rw [acc_B]
  exact point_sum m c ⟨n + 1, h⟩ b hb s r j C hC _

/-- The output block after the last point of a column tile. -/
theorem out_last (c : Dev nD) (n : Nat) (h : n + 1 < cfg0.N) (h5 : (n + 1) % 6 = 5)
    (s : Fin 2) (r : Fin 1024) (j : Fin 1408) (C : Fin 5632) (hC : C.val = 2816 * ((n + 1) / 6) + (1408 * s.val + j.val)) :
    (outsAt0 m c (n + 1) h).1 (ix3 s r j) = (outsAt0 m c n (Nat.lt_of_succ_lt h)).2 (ix3 s r j)
      + ∑ k : Fin 1408, term m c r C ⟨1408 * (5 : Fin 6).val + k.val, Cert.Sums.place_lt 5 k rfl⟩ := by
  rw [outsAt0_C m c ⟨n + 1, h⟩ (by show ¬(n + 1) % 6 = 0; omega) h5]
  dsimp only
  rw [out_C, pay5_apply]
  exact point_sum m c ⟨n + 1, h⟩ 5 h5 s r j C hC _

/-- The output array at an index: the sum over all rows. -/
theorem G2_apply (c : Dev nD) (q : Fin 4) (r : Fin 1024) (j : Fin 1408) (C : Fin 5632) (hC : C.val = 1408 * q.val + j.val) :
    (G2 m c : Vec Ideal S4x1024x1408 .bf16) (ix3 q r j) = ∑ R : Fin 8448, term m c r C R := by
  have hq := q.isLt
  have hr := r.isLt
  have hj := j.isLt
  have hN : cfg0.N = 12 := N_0
  have hrun : run2Of (ix3 q r j) = q.val / 2 := by
    show 1 * (q.val / 2 - 0) + 1 * (r.val / 1024 - 0) + 1 * (j.val / 1408 - 0) = _
    omega
  have hpt : pt2Of (ix3 q r j) = 6 * (q.val / 2) + 5 := by show 6 * run2Of (ix3 q r j) + 5 = _; rw [hrun]
  have hloc : loc2Of (ix3 q r j) = ix3 ⟨q.val % 2, Nat.mod_lt _ (by decide)⟩ r j := by
    funext a
    apply Fin.ext
    match a with
    | ⟨0, _⟩ => rfl
    | ⟨1, _⟩ => show r.val % 1024 = r.val; omega
    | ⟨2, _⟩ => show j.val % 1408 = j.val; omega
  have h5 : 6 * (q.val / 2) + 5 < cfg0.N := by omega
  have hc : ∀ b : Nat, b < 6 → C.val = 2816 * ((6 * (q.val / 2) + b) / 6) + (1408 * (q.val % 2) + j.val) := by
    intro b hb
    omega
  unfold G2
  rw [dif_pos (by rw [hpt]; exact h5), fold0_congr m c _ _ _ (by omega) hpt, ← outsAt0_sweep m c _ h5, hloc,
    out_last m c _ h5 (by omega) _ r j C (hc 5 (by omega)),
    acc_next m c (6 * (q.val / 2) + 3) (by omega) 4 (by show _ = 4; omega) (by omega) (by omega) _ r j C (hc 4 (by omega)),
    acc_next m c (6 * (q.val / 2) + 2) (by omega) 3 (by show _ = 3; omega) (by omega) (by omega) _ r j C (hc 3 (by omega)),
    acc_next m c (6 * (q.val / 2) + 1) (by omega) 2 (by show _ = 2; omega) (by omega) (by omega) _ r j C (hc 2 (by omega)),
    acc_next m c (6 * (q.val / 2) + 0) (by omega) 1 (by show _ = 1; omega) (by omega) (by omega) _ r j C (hc 1 (by omega)),
    acc_first m c (6 * (q.val / 2) + 0) (by omega) (by omega) _ r j C (hc 0 (by omega)),
    Cert.Sums.sum_blocks 6 1408 8448 rfl, Fin.sum_univ_six]

/-- The reference's array at an index: the same sum. -/
theorem ref_apply (h : FVec Ideal S8448x1024 .f32) (w : FVec Ideal S1x1024 .f32) (d : FVec Ideal S8448x5632 .f32) (q : Fin 4) (r : Fin 1024) (j : Fin 1408)
    (C : Fin 5632) (hC : C.val = 1408 * q.val + j.val) :
    Host.dotGeneral Cert.DwUpRefIdeal.dot_S8448x5632_S8448x1024_S5632x1024_0_0_1_1_n_n none d (normed (F := Ideal) h w) (ix2 C r)
      = ∑ R : Fin 8448, normed (F := Ideal) h w (ix2 R r) * d (ix2 R C) := by
  generalize normed (F := Ideal) h w = u
  pointwise
  exact Finset.sum_congr rfl fun R _ => mul_comm _ _

/-- The reference's re-arrangement into column shards, at an index. -/
theorem layout_apply (D : FVec Ideal Cert.DwUpRefIdeal.S5632x1024 .f32) (q : Fin 4) (r : Fin 1024) (j : Fin 1408)
    (C : Fin 5632) (hC : C.val = 1408 * q.val + j.val) :
    (truncf .bf16 (transpose Cert.DwUpRefIdeal.S4x1024x1408 [1, 0, 2] (shapeCast Cert.DwUpRefIdeal.S1024x4x1408 (transpose Cert.DwUpRefIdeal.S1024x5632 [1, 0] D Cert.DwUpRefIdeal.Gen.facts.transposes_S5632x1024_S1024x5632_1_0) Cert.DwUpRefIdeal.Gen.facts.shapeCasts_S1024x5632_S1024x4x1408) Cert.DwUpRefIdeal.Gen.facts.transposes_S1024x4x1408_S4x1024x1408_1_0_2) Cert.DwUpRefIdeal.Gen.facts.bitsLt_bf16_f32 : FVec Ideal Cert.DwUpRefIdeal.S4x1024x1408 .bf16) (ix3 q r j)
      = D (ix2 C r) := by
  pointwise
  congr 2
  apply Fin.ext
  show _ = C.val
  rw [hC]
  dsimp only
  omega

end Cert.DwUpIdeal.Acc

namespace Cert.Proof

open Idealize.ShloMosaic Idealize.SL.Sem
open Cert.DwUpIdeal.Acc

theorem algebraic_DwUpIdeal_DwUpRefIdeal : algebraic_DwUpIdeal_DwUpRefIdeal := by
  intro m ρ m' ρ' _ hagree
  refine ⟨_, Cert.DwUpIdeal.Value.run (F := Ideal) m ρ, ?_⟩
  refine (θ_run Cert.DwUpRefIdeal.defs _ _).mono (fun _ h c => ⟨?_, (h c).2⟩) (Cert.DwUpRefIdeal.Value.run (F := Ideal) m' ρ')
  rw [(h c).1]
  simp only [hagree c]
  funext i
  obtain ⟨q, r, j, rfl⟩ : ∃ (q : Fin 4) (r : Fin 1024) (j : Fin 1408), i = ix3 q r j := ⟨i 0, i 1, i 2, eq_ix3 i⟩
  have hq := q.isLt
  have hj := j.isLt
  have hlt : 1408 * q.val + j.val < 5632 := by omega
  refine Eq.trans ?_ (G2_apply m c q r j ⟨1408 * q.val + j.val, hlt⟩ rfl).symm
  refine Eq.trans ?_ (ref_apply _ _ _ q r j ⟨1408 * q.val + j.val, hlt⟩ rfl)
  exact layout_apply _ q r j _ rfl

end Cert.Proof

end
-- ==== Proof.Fwd.Point.lean ====
module

public import proofs.«01_k».proof.Proof.Gen.FfnFwdIdeal.Skeleton
public import Idealize.ShloMosaic.Lib.Pipeline.Value
public import Idealize.ShloMosaic.Lib.Tactic
public import Idealize.ShloMosaic.Lib.Pointwise.Index
public import proofs.«01_k».proof.Proof.Dw.Canon

/-! What a grid point of the feed-forward forward computes from its blocks, and how the pieces it stores into its
    scratch are read back. A point handles 256 rows; the gate runs over them in four chunks of 64 rows, each reading the
    last eight rows of the chunk before. -/

@[expose] public section

noncomputable section

namespace Cert.FfnFwdIdeal.Fwd

open Idealize.ShloMosaic Idealize.ShloMosaic.TcCoe Idealize.SL.Sem
open Cert.FfnFwdIdeal Cert.FfnFwdIdeal.Gen

variable {F : FTy → Type} [FloatOps F]

theorem hz2 : (![0, 0] : Fin 2 → Nat) = fun _ => 0 := funext fun a => by fin_cases a <;> rfl

/-- Plane `s` of the two halves of the up-projection's weights. -/
def plane (s : Fin 2) (w : Vec F S2x1024x2816 .bf16) : Vec F S1x1024x2816 .bf16 :=
  fun y => w (ix3 (n0 := 2) (n1 := 1024) (n2 := 2816) s (y 1) (y 2))

/-- Tap `s` of the convolution. -/
def tap (s : Fin 3) (w : Vec F S3x2816 .f32) : Vec F S1x2816 .f32 :=
  fun y => w (ix2 (n0 := 3) (n1 := 2816) s (y 1))

/-- Chunk `k` of 256 rows. -/
def rows (k : Fin 4) (X : Vec F S256x2816 .f32) : Vec F S64x2816 .f32 :=
  fun y => X (ix2 (n0 := 256) (n1 := 2816) ⟨64 * k.val + (y 0).val, by have h1 : (y 0).val < 64 := (y 0).isLt; have := k.isLt; omega⟩ (y 1))

/-- Four chunks as 256 rows. -/
def stack (c0 c1 c2 c3 : Vec F S64x2816 .f32) : Vec F S256x2816 .f32 :=
  fun i => (![c0, c1, c2, c3] ⟨(i 0).val / 64, by have h1 : (i 0).val < 256 := (i 0).isLt; omega⟩)
    (ix2 (n0 := 64) (n1 := 2816) ⟨(i 0).val % 64, by omega⟩ (i 1))

/-- Two halves side by side. -/
def beside {e : EltTy} (a b : Vec F S256x2816 e) : Vec F S256x5632 e :=
  fun i => if h : (i 1).val < 2816 then a (ix2 (n0 := 256) (n1 := 2816) (i 0) ⟨(i 1).val, h⟩)
    else b (ix2 (n0 := 256) (n1 := 2816) (i 0) ⟨(i 1).val - 2816, by have h1 : (i 1).val < 5632 := (i 1).isLt; omega⟩)

/-- The gate half of the up-projection. -/
def upA (x0 : Vec F S256x1024 .f32) (x2 : Vec F S1x1024 .f32) (x3 : Vec F S2x1024x2816 .bf16) : Vec F S256x2816 .f32 :=
  k0_pay13 x0 x2 (plane 0 x3)

/-- The gated half of the up-projection. -/
def upV (x0 : Vec F S256x1024 .f32) (x2 : Vec F S1x1024 .f32) (x3 : Vec F S2x1024x2816 .bf16) : Vec F S256x2816 .f32 :=
  k0_pay16 (k0_pay15 x0 x2 (plane 1 x3))

/-- The last eight rows of a chunk. -/
def tail8 (A : Vec F S64x2816 .f32) : Vec F S8x2816 .f32 := k0_pay19 A

/-- One chunk of the gate: rows `A` and `V` of the two halves, after the eight rows `P`. -/
def gate (x4 : Vec F S3x2816 .f32) (x5 : Vec F S1x2816 .f32) (A V : Vec F S64x2816 .f32) (P : Vec F S8x2816 .f32) : Vec F S64x2816 .f32 :=
  k0_pay20 V (k0_pay18 (tap 0 x4) (tap 1 x4) (tap 2 x4) A P x5)

/-- The gate over the 256 rows, after the eight rows `P`. -/
def gated (x4 : Vec F S3x2816 .f32) (x5 : Vec F S1x2816 .f32) (A V : Vec F S256x2816 .f32) (P : Vec F S8x2816 .f32) : Vec F S256x2816 .f32 :=
  stack (gate x4 x5 (rows 0 A) (rows 0 V) P) (gate x4 x5 (rows 1 A) (rows 1 V) (tail8 (rows 0 A)))
    (gate x4 x5 (rows 2 A) (rows 2 V) (tail8 (rows 1 A))) (gate x4 x5 (rows 3 A) (rows 3 V) (tail8 (rows 2 A)))

/-- The point is past the first: the printed comparison. -/
def past (i : grid0.Coords) : BitVec 1 := Scalar.cmpi .sgt (BitVec.ofNat 32 (i 0).val) 0#32

/-- Two stored halves are the two side by side. -/
theorem canon_beside {e : EltTy} (a b : Vec F S256x2816 e) (L : List (View.Piece (Elt F) S256x5632 e)) :
    View.canon ((⟨Rect.unit ![0, 2816] S256x2816.size inb_S256x5632_S256x2816_0_2816, b⟩ : View.Piece (Elt F) S256x5632 e)
      :: ⟨Rect.unit ![0, 0] S256x2816.size inb_S256x5632_S256x2816_0_0, a⟩ :: L) = beside a b := by
  funext i
  have h1 : (i 1).val < 5632 := (i 1).isLt
  unfold beside
  by_cases h0 : (i 1).val < 2816
  · rw [dif_pos h0]
    refine (Cert.Canon.canon_skip (S := S256x5632) (off := ![0, 2816]) (size := S256x2816.size) inb_S256x5632_S256x2816_0_2816 b _ i (1 : Fin 2) (Or.inl (by show (i 1).val < 2816; omega))).trans ?_
    refine Cert.Canon.canon_hit (S := S256x5632) (off := ![0, 0]) (size := S256x2816.size) inb_S256x5632_S256x2816_0_0 a L i (ix2 (n0 := 256) (n1 := 2816) (i 0) ⟨(i 1).val, h0⟩) fun x => ?_
    match x with
    | ⟨0, _⟩ => show (i 0).val = 0 + (i 0).val; omega
    | ⟨1, _⟩ => show (i 1).val = 0 + (i 1).val; omega
  · rw [dif_neg h0]
    refine Cert.Canon.canon_hit (S := S256x5632) (off := ![0, 2816]) (size := S256x2816.size) inb_S256x5632_S256x2816_0_2816 b _ i (ix2 (n0 := 256) (n1 := 2816) (i 0) ⟨(i 1).val - 2816, by omega⟩) fun x => ?_
    match x with
    | ⟨0, _⟩ => show (i 0).val = 0 + (i 0).val; omega
    | ⟨1, _⟩ => show (i 1).val = 2816 + ((i 1).val - 2816); omega

/-- A chunk of the gate half is read back from the two stored halves. -/
theorem read_rowsA (v : View sig .tc .vmem S256x5632 .f32) (a b : Vec F S256x2816 .f32) (k : Fin 4) {off : Fin 2 → Nat}
    (ho : off = ![64 * k.val, 0]) (inb : ∀ x, off x + S64x2816.size x ≤ S256x5632.size x) :
    (v.readCov [(⟨Rect.unit ![0, 2816] S256x2816.size inb_S256x5632_S256x2816_0_2816, b⟩ : View.Piece (Elt F) S256x5632 .f32),
      ⟨Rect.unit ![0, 0] S256x2816.size inb_S256x5632_S256x2816_0_0, a⟩]
      (Rect.unit (s := S256x5632) off S64x2816.size inb).toLoadRect : Vec F S64x2816 .f32) = rows k a := by
  subst ho
  funext y
  have h0 : (y 0).val < 64 := (y 0).isLt
  have h1 : (y 1).val < 2816 := (y 1).isLt
  have hk := k.isLt
  refine (Cert.Canon.readCov_at (S := S256x5632) (off := ![64 * k.val, 0]) (size := S64x2816.size) v _ inb y
    (ix2 (n0 := 256) (n1 := 5632) ⟨64 * k.val + (y 0).val, by omega⟩ ⟨(y 1).val, by omega⟩) fun x => ?_).trans ?_
  · match x with
    | ⟨0, _⟩ => rfl
    | ⟨1, _⟩ => show (y 1).val = 0 + (y 1).val; omega
  · rw [canon_beside]
    unfold beside rows
    exact dif_pos h1

/-- A chunk of the gated half is read back from the two stored halves. -/
theorem read_rowsV (v : View sig .tc .vmem S256x5632 .f32) (a b : Vec F S256x2816 .f32) (k : Fin 4) {off : Fin 2 → Nat}
    (ho : off = ![64 * k.val, 2816]) (inb : ∀ x, off x + S64x2816.size x ≤ S256x5632.size x) :
    (v.readCov [(⟨Rect.unit ![0, 2816] S256x2816.size inb_S256x5632_S256x2816_0_2816, b⟩ : View.Piece (Elt F) S256x5632 .f32),
      ⟨Rect.unit ![0, 0] S256x2816.size inb_S256x5632_S256x2816_0_0, a⟩]
      (Rect.unit (s := S256x5632) off S64x2816.size inb).toLoadRect : Vec F S64x2816 .f32) = rows k b := by
  subst ho
  funext y
  have h0 : (y 0).val < 64 := (y 0).isLt
  have h1 : (y 1).val < 2816 := (y 1).isLt
  have hk := k.isLt
  refine (Cert.Canon.readCov_at (S := S256x5632) (off := ![64 * k.val, 2816]) (size := S64x2816.size) v _ inb y
    (ix2 (n0 := 256) (n1 := 5632) ⟨64 * k.val + (y 0).val, by omega⟩ ⟨2816 + (y 1).val, by omega⟩) fun x => ?_).trans ?_
  · match x with
    | ⟨0, _⟩ => rfl
    | ⟨1, _⟩ => rfl
  · rw [canon_beside]
    unfold beside rows
    refine (dif_neg (by show ¬ 2816 + (y 1).val < 2816; omega)).trans ?_
    exact congrArg (fun z => b (ix2 (n0 := 256) (n1 := 2816) ⟨64 * k.val + (y 0).val, by omega⟩ z))
      (Fin.ext (Nat.add_sub_cancel_left _ _ : 2816 + (y 1).val - 2816 = (y 1).val))

/-- A buffer stored whole reads back what was stored last. -/
theorem read_whole8 (v : View sig .tc .vmem S8x2816 .f32) (p : Vec F S8x2816 .f32) (L : List (View.Piece (Elt F) S8x2816 .f32)) :
    (v.readCov ((⟨Rect.unit ![0, 0] S8x2816.size inb_S8x2816_S8x2816_0_0, p⟩ : View.Piece (Elt F) S8x2816 .f32) :: L)
      (Rect.unit (s := S8x2816) ![0, 0] S8x2816.size inb_S8x2816_S8x2816_0_0).toLoadRect : Vec F S8x2816 .f32) = p := by
  funext y
  refine (Cert.Canon.readCov_at (S := S8x2816) (off := ![0, 0]) (size := S8x2816.size) v _ inb_S8x2816_S8x2816_0_0 y y fun x => ?_).trans ?_
  · match x with
    | ⟨0, _⟩ => show (y 0).val = 0 + (y 0).val; omega
    | ⟨1, _⟩ => show (y 1).val = 0 + (y 1).val; omega
  · refine Cert.Canon.canon_hit (S := S8x2816) (off := ![0, 0]) (size := S8x2816.size) inb_S8x2816_S8x2816_0_0 p L y y fun x => ?_
    match x with
    | ⟨0, _⟩ => show (y 0).val = 0 + (y 0).val; omega
    | ⟨1, _⟩ => show (y 1).val = 0 + (y 1).val; omega

theorem read_whole1 (v : View sig .tc .vmem S1x1024 .f32) (p : Vec F S1x1024 .f32) (L : List (View.Piece (Elt F) S1x1024 .f32)) :
    (v.readCov ((⟨Rect.unit ![0, 0] S1x1024.size inb_S1x1024_S1x1024_0_0, p⟩ : View.Piece (Elt F) S1x1024 .f32) :: L)
      (Rect.unit (s := S1x1024) ![0, 0] S1x1024.size inb_S1x1024_S1x1024_0_0).toLoadRect : Vec F S1x1024 .f32) = p := by
  funext y
  refine (Cert.Canon.readCov_at (S := S1x1024) (off := ![0, 0]) (size := S1x1024.size) v _ inb_S1x1024_S1x1024_0_0 y y fun x => ?_).trans ?_
  · match x with
    | ⟨0, _⟩ => show (y 0).val = 0 + (y 0).val; omega
    | ⟨1, _⟩ => show (y 1).val = 0 + (y 1).val; omega
  · refine Cert.Canon.canon_hit (S := S1x1024) (off := ![0, 0]) (size := S1x1024.size) inb_S1x1024_S1x1024_0_0 p L y y fun x => ?_
    match x with
    | ⟨0, _⟩ => show (y 0).val = 0 + (y 0).val; omega
    | ⟨1, _⟩ => show (y 1).val = 0 + (y 1).val; omega

/-- Four stored chunks, newest first, are the four stacked. -/
theorem canon_stack (c0 c1 c2 c3 : Vec F S64x2816 .f32) {o0 o1 o2 o3 : Fin 2 → Nat}
    (e0 : o0 = ![0, 0]) (e1 : o1 = ![64, 0]) (e2 : o2 = ![128, 0]) (e3 : o3 = ![192, 0])
    (i0 : ∀ x, o0 x + S64x2816.size x ≤ S256x2816.size x) (i1 : ∀ x, o1 x + S64x2816.size x ≤ S256x2816.size x)
    (i2 : ∀ x, o2 x + S64x2816.size x ≤ S256x2816.size x) (i3 : ∀ x, o3 x + S64x2816.size x ≤ S256x2816.size x) :
    View.canon [(⟨Rect.unit o3 S64x2816.size i3, c3⟩ : View.Piece (Elt F) S256x2816 .f32), ⟨Rect.unit o2 S64x2816.size i2, c2⟩,
      ⟨Rect.unit o1 S64x2816.size i1, c1⟩, ⟨Rect.unit o0 S64x2816.size i0, c0⟩] = stack c0 c1 c2 c3 := by
  subst e0 e1 e2 e3
  funext i
  have h0 : (i 0).val < 256 := (i 0).isLt
  unfold stack
  by_cases h3 : 192 ≤ (i 0).val
  · refine (Cert.Canon.canon_hit (S := S256x2816) (off := ![192, 0]) (size := S64x2816.size) i3 c3 _ i
      (ix2 (n0 := 64) (n1 := 2816) ⟨(i 0).val % 64, by omega⟩ (i 1)) fun x => ?_).trans ?_
    · match x with
      | ⟨0, _⟩ => show (i 0).val = 192 + (i 0).val % 64; omega
      | ⟨1, _⟩ => show (i 1).val = 0 + (i 1).val; omega
    · have hq : (⟨(i 0).val / 64, by omega⟩ : Fin 4) = 3 := Fin.ext (by show (i 0).val / 64 = 3; omega)
      rw [hq]; rfl
  refine (Cert.Canon.canon_skip (S := S256x2816) (off := ![192, 0]) (size := S64x2816.size) i3 c3 _ i (0 : Fin 2) (Or.inl (by show (i 0).val < 192; omega))).trans ?_
  by_cases h2 : 128 ≤ (i 0).val
  · refine (Cert.Canon.canon_hit (S := S256x2816) (off := ![128, 0]) (size := S64x2816.size) i2 c2 _ i
      (ix2 (n0 := 64) (n1 := 2816) ⟨(i 0).val % 64, by omega⟩ (i 1)) fun x => ?_).trans ?_
    · match x with
      | ⟨0, _⟩ => show (i 0).val = 128 + (i 0).val % 64; omega
      | ⟨1, _⟩ => show (i 1).val = 0 + (i 1).val; omega
    · have hq : (⟨(i 0).val / 64, by omega⟩ : Fin 4) = 2 := Fin.ext (by show (i 0).val / 64 = 2; omega)
      rw [hq]; rfl
  refine (Cert.Canon.canon_skip (S := S256x2816) (off := ![128, 0]) (size := S64x2816.size) i2 c2 _ i (0 : Fin 2) (Or.inl (by show (i 0).val < 128; omega))).trans ?_
  by_cases h1 : 64 ≤ (i 0).val
  · refine (Cert.Canon.canon_hit (S := S256x2816) (off := ![64, 0]) (size := S64x2816.size) i1 c1 _ i
      (ix2 (n0 := 64) (n1 := 2816) ⟨(i 0).val % 64, by omega⟩ (i 1)) fun x => ?_).trans ?_
    · match x with
      | ⟨0, _⟩ => show (i 0).val = 64 + (i 0).val % 64; omega
      | ⟨1, _⟩ => show (i 1).val = 0 + (i 1).val; omega
    · have hq : (⟨(i 0).val / 64, by omega⟩ : Fin 4) = 1 := Fin.ext (by show (i 0).val / 64 = 1; omega)
      rw [hq]; rfl
  refine (Cert.Canon.canon_skip (S := S256x2816) (off := ![64, 0]) (size := S64x2816.size) i1 c1 _ i (0 : Fin 2) (Or.inl (by show (i 0).val < 64; omega))).trans ?_
  refine (Cert.Canon.canon_hit (S := S256x2816) (off := ![0, 0]) (size := S64x2816.size) i0 c0 _ i
      (ix2 (n0 := 64) (n1 := 2816) ⟨(i 0).val % 64, by omega⟩ (i 1)) fun x => ?_).trans ?_
  · match x with
    | ⟨0, _⟩ => show (i 0).val = 0 + (i 0).val % 64; omega
    | ⟨1, _⟩ => show (i 1).val = 0 + (i 1).val; omega
  · have hq : (⟨(i 0).val / 64, by omega⟩ : Fin 4) = 0 := Fin.ext (by show (i 0).val / 64 = 0; omega)
    rw [hq]; rfl

/-- The gate's scratch, stored in four chunks, reads back whole. -/
theorem read_stack (v : View sig .tc .vmem S256x2816 .f32) (c0 c1 c2 c3 : Vec F S64x2816 .f32) {o0 o1 o2 o3 : Fin 2 → Nat}
    (e0 : o0 = ![0, 0]) (e1 : o1 = ![64, 0]) (e2 : o2 = ![128, 0]) (e3 : o3 = ![192, 0])
    (i0 : ∀ x, o0 x + S64x2816.size x ≤ S256x2816.size x) (i1 : ∀ x, o1 x + S64x2816.size x ≤ S256x2816.size x)
    (i2 : ∀ x, o2 x + S64x2816.size x ≤ S256x2816.size x) (i3 : ∀ x, o3 x + S64x2816.size x ≤ S256x2816.size x) :
    (v.readCov [(⟨Rect.unit o3 S64x2816.size i3, c3⟩ : View.Piece (Elt F) S256x2816 .f32), ⟨Rect.unit o2 S64x2816.size i2, c2⟩,
      ⟨Rect.unit o1 S64x2816.size i1, c1⟩, ⟨Rect.unit o0 S64x2816.size i0, c0⟩]
      (Rect.unit (s := S256x2816) ![0, 0] S256x2816.size inb_S256x2816_S256x2816_0_0).toLoadRect : Vec F S256x2816 .f32) = stack c0 c1 c2 c3 := by
  rw [View.readCov_eq_canon', canon_stack c0 c1 c2 c3 e0 e1 e2 e3]
  exact View.ld_unit_zero (S := S256x2816) (Val := Elt F) (e := .f32) hz2 _ _

/-- A load of a plane of the weights. -/
theorem ld_plane (s : Fin 2) (w : Vec F S2x1024x2816 .bf16) {off : Fin 3 → Nat} (ho : off = ![s.val, 0, 0])
    (inb : ∀ a, off a + S1x1024x2816.size a ≤ S2x1024x2816.size a) :
    (View.ld (e' := .bf16) (Val := Elt F) w (Rect.unit (s := S2x1024x2816) off S1x1024x2816.size inb) : Vec F S1x1024x2816 .bf16) = plane s w := by
  subst ho
  funext y
  refine Cert.Canon.ld_at (e := .bf16) (Val := Elt F) w inb y (ix3 (n0 := 2) (n1 := 1024) (n2 := 2816) s (y 1) (y 2)) fun a => ?_
  have h0 : (y 0).val < 1 := (y 0).isLt
  match a with
  | ⟨0, _⟩ => show s.val = s.val + (y 0).val; omega
  | ⟨1, _⟩ => show (y 1).val = 0 + (y 1).val; omega
  | ⟨2, _⟩ => show (y 2).val = 0 + (y 2).val; omega

/-- A load of one tap. -/
theorem ld_tap (s : Fin 3) (w : Vec F S3x2816 .f32) {off : Fin 2 → Nat} (ho : off = ![s.val, 0])
    (inb : ∀ a, off a + S1x2816.size a ≤ S3x2816.size a) :
    (View.ld (e' := .f32) (Val := Elt F) w (Rect.unit (s := S3x2816) off S1x2816.size inb) : Vec F S1x2816 .f32) = tap s w := by
  subst ho
  funext y
  refine Cert.Canon.ld_at (e := .f32) (Val := Elt F) w inb y (ix2 (n0 := 3) (n1 := 2816) s (y 1)) fun a => ?_
  have h0 : (y 0).val < 1 := (y 0).isLt
  match a with
  | ⟨0, _⟩ => show s.val = s.val + (y 0).val; omega
  | ⟨1, _⟩ => show (y 1).val = 0 + (y 1).val; omega

theorem canon_whole1024_256 (p : Vec F S1024x256 .bf16) (L : List (View.Piece (Elt F) S1024x256 .bf16)) :
    View.canon ((⟨Rect.unit ![0, 0] S1024x256.size inb_S1024x256_S1024x256_0_0, p⟩ : View.Piece (Elt F) S1024x256 .bf16) :: L) = p := by
  funext y
  refine Cert.Canon.canon_hit (S := S1024x256) (off := ![0, 0]) (size := S1024x256.size) inb_S1024x256_S1024x256_0_0 p L y y fun x => ?_
  match x with
  | ⟨0, _⟩ => show (y 0).val = 0 + (y 0).val; omega
  | ⟨1, _⟩ => show (y 1).val = 0 + (y 1).val; omega

theorem canon_whole2816_256 (p : Vec F S2816x256 .bf16) (L : List (View.Piece (Elt F) S2816x256 .bf16)) :
    View.canon ((⟨Rect.unit ![0, 0] S2816x256.size inb_S2816x256_S2816x256_0_0, p⟩ : View.Piece (Elt F) S2816x256 .bf16) :: L) = p := by
  funext y
  refine Cert.Canon.canon_hit (S := S2816x256) (off := ![0, 0]) (size := S2816x256.size) inb_S2816x256_S2816x256_0_0 p L y y fun x => ?_
  match x with
  | ⟨0, _⟩ => show (y 0).val = 0 + (y 0).val; omega
  | ⟨1, _⟩ => show (y 1).val = 0 + (y 1).val; omega

theorem canon_whole256_1024 (p : Vec F S256x1024 .f32) (L : List (View.Piece (Elt F) S256x1024 .f32)) :
    View.canon ((⟨Rect.unit ![0, 0] S256x1024.size inb_S256x1024_S256x1024_0_0, p⟩ : View.Piece (Elt F) S256x1024 .f32) :: L) = p := by
  funext y
  refine Cert.Canon.canon_hit (S := S256x1024) (off := ![0, 0]) (size := S256x1024.size) inb_S256x1024_S256x1024_0_0 p L y y fun x => ?_
  match x with
  | ⟨0, _⟩ => show (y 0).val = 0 + (y 0).val; omega
  | ⟨1, _⟩ => show (y 1).val = 0 + (y 1).val; omega

theorem canon_whole1_1024 (p : Vec F S1x1024 .f32) (L : List (View.Piece (Elt F) S1x1024 .f32)) :
    View.canon ((⟨Rect.unit ![0, 0] S1x1024.size inb_S1x1024_S1x1024_0_0, p⟩ : View.Piece (Elt F) S1x1024 .f32) :: L) = p := by
  funext y
  refine Cert.Canon.canon_hit (S := S1x1024) (off := ![0, 0]) (size := S1x1024.size) inb_S1x1024_S1x1024_0_0 p L y y fun x => ?_
  match x with
  | ⟨0, _⟩ => show (y 0).val = 0 + (y 0).val; omega
  | ⟨1, _⟩ => show (y 1).val = 0 + (y 1).val; omega

theorem canon_whole8_2816 (p : Vec F S8x2816 .f32) (L : List (View.Piece (Elt F) S8x2816 .f32)) :
    View.canon ((⟨Rect.unit ![0, 0] S8x2816.size inb_S8x2816_S8x2816_0_0, p⟩ : View.Piece (Elt F) S8x2816 .f32) :: L) = p := by
  funext y
  refine Cert.Canon.canon_hit (S := S8x2816) (off := ![0, 0]) (size := S8x2816.size) inb_S8x2816_S8x2816_0_0 p L y y fun x => ?_
  match x with
  | ⟨0, _⟩ => show (y 0).val = 0 + (y 0).val; omega
  | ⟨1, _⟩ => show (y 1).val = 0 + (y 1).val; omega

theorem read_rowsA0 (v : View sig .tc .vmem S256x5632 .f32) (a b : Vec F S256x2816 .f32) (q0 q1 q2) :
    (v.readCov [(⟨Rect.unit ![0, 2816] ![256, 2816] q0, b⟩ : View.Piece (Elt F) S256x5632 .f32), ⟨Rect.unit ![0, 0] ![256, 2816] q1, a⟩]
      (Rect.unit (s := S256x5632) ![0, 0] ![64, 2816] q2).toLoadRect : Vec F S64x2816 .f32) = rows 0 a :=
  read_rowsA v a b 0 rfl _

theorem read_rowsA1 (v : View sig .tc .vmem S256x5632 .f32) (a b : Vec F S256x2816 .f32) (q0 q1 q2) :
    (v.readCov [(⟨Rect.unit ![0, 2816] ![256, 2816] q0, b⟩ : View.Piece (Elt F) S256x5632 .f32), ⟨Rect.unit ![0, 0] ![256, 2816] q1, a⟩]
      (Rect.unit (s := S256x5632) ![64, 0] ![64, 2816] q2).toLoadRect : Vec F S64x2816 .f32) = rows 1 a :=
  read_rowsA v a b 1 rfl _

theorem read_rowsA2 (v : View sig .tc .vmem S256x5632 .f32) (a b : Vec F S256x2816 .f32) (q0 q1 q2) :
    (v.readCov [(⟨Rect.unit ![0, 2816] ![256, 2816] q0, b⟩ : View.Piece (Elt F) S256x5632 .f32), ⟨Rect.unit ![0, 0] ![256, 2816] q1, a⟩]
      (Rect.unit (s := S256x5632) ![128, 0] ![64, 2816] q2).toLoadRect : Vec F S64x2816 .f32) = rows 2 a :=
  read_rowsA v a b 2 rfl _

theorem read_rowsA3 (v : View sig .tc .vmem S256x5632 .f32) (a b : Vec F S256x2816 .f32) (q0 q1 q2) :
    (v.readCov [(⟨Rect.unit ![0, 2816] ![256, 2816] q0, b⟩ : View.Piece (Elt F) S256x5632 .f32), ⟨Rect.unit ![0, 0] ![256, 2816] q1, a⟩]
      (Rect.unit (s := S256x5632) ![192, 0] ![64, 2816] q2).toLoadRect : Vec F S64x2816 .f32) = rows 3 a :=
  read_rowsA v a b 3 rfl _

theorem read_rowsV0 (v : View sig .tc .vmem S256x5632 .f32) (a b : Vec F S256x2816 .f32) (q0 q1 q2) :
    (v.readCov [(⟨Rect.unit ![0, 2816] ![256, 2816] q0, b⟩ : View.Piece (Elt F) S256x5632 .f32), ⟨Rect.unit ![0, 0] ![256, 2816] q1, a⟩]
      (Rect.unit (s := S256x5632) ![0, 2816] ![64, 2816] q2).toLoadRect : Vec F S64x2816 .f32) = rows 0 b :=
  read_rowsV v a b 0 rfl _

theorem read_rowsV1 (v : View sig .tc .vmem S256x5632 .f32) (a b : Vec F S256x2816 .f32) (q0 q1 q2) :
    (v.readCov [(⟨Rect.unit ![0, 2816] ![256, 2816] q0, b⟩ : View.Piece (Elt F) S256x5632 .f32), ⟨Rect.unit ![0, 0] ![256, 2816] q1, a⟩]
      (Rect.unit (s := S256x5632) ![64, 2816] ![64, 2816] q2).toLoadRect : Vec F S64x2816 .f32) = rows 1 b :=
  read_rowsV v a b 1 rfl _

theorem read_rowsV2 (v : View sig .tc .vmem S256x5632 .f32) (a b : Vec F S256x2816 .f32) (q0 q1 q2) :
    (v.readCov [(⟨Rect.unit ![0, 2816] ![256, 2816] q0, b⟩ : View.Piece (Elt F) S256x5632 .f32), ⟨Rect.unit ![0, 0] ![256, 2816] q1, a⟩]
      (Rect.unit (s := S256x5632) ![128, 2816] ![64, 2816] q2).toLoadRect : Vec F S64x2816 .f32) = rows 2 b :=
  read_rowsV v a b 2 rfl _

theorem read_rowsV3 (v : View sig .tc .vmem S256x5632 .f32) (a b : Vec F S256x2816 .f32) (q0 q1 q2) :
    (v.readCov [(⟨Rect.unit ![0, 2816] ![256, 2816] q0, b⟩ : View.Piece (Elt F) S256x5632 .f32), ⟨Rect.unit ![0, 0] ![256, 2816] q1, a⟩]
      (Rect.unit (s := S256x5632) ![192, 2816] ![64, 2816] q2).toLoadRect : Vec F S64x2816 .f32) = rows 3 b :=
  read_rowsV v a b 3 rfl _

theorem ld_plane0 (w : Vec F S2x1024x2816 .bf16) (q) :
    (View.ld (e' := .bf16) (Val := Elt F) w (Rect.unit (s := S2x1024x2816) ![0, 0, 0] ![1, 1024, 2816] q) : Vec F S1x1024x2816 .bf16) = plane 0 w :=
  ld_plane 0 w rfl _

theorem ld_plane1 (w : Vec F S2x1024x2816 .bf16) (q) :
    (View.ld (e' := .bf16) (Val := Elt F) w (Rect.unit (s := S2x1024x2816) ![1, 0, 0] ![1, 1024, 2816] q) : Vec F S1x1024x2816 .bf16) = plane 1 w :=
  ld_plane 1 w rfl _

theorem ld_tap0 (w : Vec F S3x2816 .f32) (q) :
    (View.ld (e' := .f32) (Val := Elt F) w (Rect.unit (s := S3x2816) ![0, 0] ![1, 2816] q) : Vec F S1x2816 .f32) = tap 0 w :=
  ld_tap 0 w rfl _

theorem ld_tap1 (w : Vec F S3x2816 .f32) (q) :
    (View.ld (e' := .f32) (Val := Elt F) w (Rect.unit (s := S3x2816) ![1, 0] ![1, 2816] q) : Vec F S1x2816 .f32) = tap 1 w :=
  ld_tap 1 w rfl _

theorem ld_tap2 (w : Vec F S3x2816 .f32) (q) :
    (View.ld (e' := .f32) (Val := Elt F) w (Rect.unit (s := S3x2816) ![2, 0] ![1, 2816] q) : Vec F S1x2816 .f32) = tap 2 w :=
  ld_tap 2 w rfl _

theorem ld_whole256_1024 (w : Vec F S256x1024 .f32) (q) :
    (View.ld (e' := .f32) (Val := Elt F) w (Rect.unit (s := S256x1024) ![0, 0] ![256, 1024] q) : Vec F S256x1024 .f32) = w :=
  View.ld_unit_zero (S := S256x1024) (Val := Elt F) (e := .f32) hz2 _ _

theorem ld_whole1_1024 (w : Vec F S1x1024 .f32) (q) :
    (View.ld (e' := .f32) (Val := Elt F) w (Rect.unit (s := S1x1024) ![0, 0] ![1, 1024] q) : Vec F S1x1024 .f32) = w :=
  View.ld_unit_zero (S := S1x1024) (Val := Elt F) (e := .f32) hz2 _ _

theorem ld_whole1_2816 (w : Vec F S1x2816 .f32) (q) :
    (View.ld (e' := .f32) (Val := Elt F) w (Rect.unit (s := S1x2816) ![0, 0] ![1, 2816] q) : Vec F S1x2816 .f32) = w :=
  View.ld_unit_zero (S := S1x2816) (Val := Elt F) (e := .f32) hz2 _ _

theorem ld_whole2816_1024 (w : Vec F S2816x1024 .bf16) (q) :
    (View.ld (e' := .bf16) (Val := Elt F) w (Rect.unit (s := S2816x1024) ![0, 0] ![2816, 1024] q) : Vec F S2816x1024 .bf16) = w :=
  View.ld_unit_zero (S := S2816x1024) (Val := Elt F) (e := .bf16) hz2 _ _

theorem ld_whole8_2816 (w : Vec F S8x2816 .f32) (q) :
    (View.ld (e' := .f32) (Val := Elt F) w (Rect.unit (s := S8x2816) ![0, 0] ![8, 2816] q) : Vec F S8x2816 .f32) = w :=
  View.ld_unit_zero (S := S8x2816) (Val := Elt F) (e := .f32) hz2 _ _

theorem read_whole8' (v : View sig .tc .vmem S8x2816 .f32) (p : Vec F S8x2816 .f32) (L : List (View.Piece (Elt F) S8x2816 .f32)) (q0 q1) :
    (v.readCov ((⟨Rect.unit ![0, 0] ![8, 2816] q0, p⟩ : View.Piece (Elt F) S8x2816 .f32) :: L)
      (Rect.unit (s := S8x2816) ![0, 0] ![8, 2816] q1).toLoadRect : Vec F S8x2816 .f32) = p := read_whole8 v p L

theorem read_whole1' (v : View sig .tc .vmem S1x1024 .f32) (p : Vec F S1x1024 .f32) (L : List (View.Piece (Elt F) S1x1024 .f32)) (q0 q1) :
    (v.readCov ((⟨Rect.unit ![0, 0] ![1, 1024] q0, p⟩ : View.Piece (Elt F) S1x1024 .f32) :: L)
      (Rect.unit (s := S1x1024) ![0, 0] ![1, 1024] q1).toLoadRect : Vec F S1x1024 .f32) = p := read_whole1 v p L

theorem read_stack0 (v : View sig .tc .vmem S256x2816 .f32) (c0 c1 c2 c3 : Vec F S64x2816 .f32) (q0 q1 q2 q3 q4) :
    (v.readCov [(⟨Rect.unit ![192, 0] ![64, 2816] q3, c3⟩ : View.Piece (Elt F) S256x2816 .f32),
      ⟨Rect.unit ![128, 0] ![64, 2816] q2, c2⟩, ⟨Rect.unit ![64, 0] ![64, 2816] q1, c1⟩, ⟨Rect.unit ![0, 0] ![64, 2816] q0, c0⟩]
      (Rect.unit (s := S256x2816) ![0, 0] ![256, 2816] q4).toLoadRect : Vec F S256x2816 .f32) = stack c0 c1 c2 c3 :=
  read_stack v c0 c1 c2 c3 rfl rfl rfl rfl _ _ _ _

end Cert.FfnFwdIdeal.Fwd

end
-- ==== Proof.Fwd.Elems.lean ====
module

public import proofs.«01_k».proof.Proof.Fwd.Point
public import proofs.«01_k».proof.Proof.Ffn.Chunk
public import Idealize.ShloMosaic.Lib.ValueIdx
public import Idealize.ShloMosaic.Lib.IdealHost
public import Idealize.ShloMosaic.Lib.Pointwise

/-! The elements a grid point of the feed-forward forward computes, over the reals. -/

@[expose] public section

noncomputable section

namespace Cert.FfnFwdIdeal.Fwd

open Idealize.ShloMosaic Idealize.ShloMosaic.TcCoe Idealize.SL.Sem
open Cert.FfnFwdIdeal Cert.FfnFwdIdeal.Gen
open Cert.KernelIdeal.Ffn (gConv gSig gR)

/-- The gated product, as the kernel spells it. -/
def gGate (x v : EReal) : EReal := x * gSig x * v

theorem pay9_apply (x : Vec Ideal S256x1024 .f32) (w : Vec Ideal S1x1024 .f32) (r : Fin 256) (d : Fin 1024) :
    k0_pay9 x w (ix2 r d) = x (ix2 r d) * gR (fun e => x (ix2 r e)) * w (ix2 0 d) := by
  unfold k0_pay9 gR
  pointwise

theorem pay11_apply (x : Vec Ideal S256x1024 .f32) (w : Vec Ideal S1x1024 .f32) (r : Fin 256) (d : Fin 1024) :
    k0_pay11 x w (ix2 d r) = k0_pay9 x w (ix2 r d) := by
  unfold k0_pay11
  generalize k0_pay9 x w = X
  pointwise

theorem pay12_apply (x : Vec Ideal S256x1024 .f32) (w : Vec Ideal S1x1024 .f32) (g : Vec Ideal S1x1024x2816 .bf16) (r : Fin 256) (j : Fin 2816) :
    k0_pay12 x w g (ix2 r j) = ∑ e : Fin 1024, k0_pay9 x w (ix2 r e) * g (ix3 0 e j) := by
  unfold k0_pay12 k0_pay10
  generalize k0_pay9 x w = X
  pointwise

theorem pay13_apply (x : Vec Ideal S256x1024 .f32) (w : Vec Ideal S1x1024 .f32) (g : Vec Ideal S1x1024x2816 .bf16) (r : Fin 256) (j : Fin 2816) :
    k0_pay13 x w g (ix2 r j) = ∑ e : Fin 1024, k0_pay9 x w (ix2 r e) * g (ix3 0 e j) := by
  rw [← pay12_apply]
  unfold k0_pay13
  generalize k0_pay12 x w g = X
  pointwise

theorem pay14_apply (x : Vec Ideal S256x1024 .f32) (w : Vec Ideal S1x1024 .f32) (g : Vec Ideal S1x1024x2816 .bf16) (r : Fin 256) (j : Fin 2816) :
    k0_pay14 x w g (ix2 r j) = ∑ e : Fin 1024, k0_pay9 x w (ix2 r e) * g (ix3 0 e j) := by
  rw [← pay12_apply]
  unfold k0_pay14
  generalize k0_pay12 x w g = X
  pointwise

theorem pay15_apply (x : Vec Ideal S256x1024 .f32) (w : Vec Ideal S1x1024 .f32) (g : Vec Ideal S1x1024x2816 .bf16) (r : Fin 256) (j : Fin 2816) :
    k0_pay15 x w g (ix2 r j) = ∑ e : Fin 1024, k0_pay9 x w (ix2 r e) * g (ix3 0 e j) := by
  unfold k0_pay15 k0_pay10
  generalize k0_pay9 x w = X
  pointwise

theorem pay16_apply (X : FVec Ideal S256x2816 .f32) (r : Fin 256) (j : Fin 2816) : k0_pay16 X (ix2 r j) = X (ix2 r j) := by
  unfold k0_pay16
  pointwise

theorem pay17_apply (X : FVec Ideal S256x2816 .f32) (r : Fin 256) (j : Fin 2816) : k0_pay17 X (ix2 r j) = X (ix2 r j) := by
  unfold k0_pay17
  pointwise

theorem pay18_apply (w0 w1 w2 b : Vec Ideal S1x2816 .f32) (A : Vec Ideal S64x2816 .f32) (P : Vec Ideal S8x2816 .f32) (E : ℕ → EReal) (r : Fin 64) (j : Fin 2816)
    (hP : ∀ q : Fin 8, P (ix2 q j) = E q.val) (hA : ∀ q : Fin 64, A (ix2 q j) = E (8 + q.val)) :
    k0_pay18 w0 w1 w2 A P b (ix2 r j)
      = gConv (w0 (ix2 0 j)) (w1 (ix2 0 j)) (w2 (ix2 0 j)) (b (ix2 0 j)) (E (6 + r.val)) (E (7 + r.val)) (E (8 + r.val)) := by
  have hr := r.isLt
  unfold k0_pay18 gConv
  pointwise
  have key : ∀ n : ℕ, ∀ h : n < 72,
      (if h' : n < 8 then P (ix2 ⟨n, h'⟩ j) else A (ix2 ⟨n - 8, by omega⟩ j)) = E n := by
    intro n h
    split
    · exact hP _
    · rw [hA]; show E (8 + (n - 8)) = _; congr 1; omega
  have e1 : (8 + r.val + 72 - 1) % 72 = 7 + r.val := by omega
  have e2 : (8 + r.val + 72 - 2) % 72 = 6 + r.val := by omega
  exact congrArg₂ (· + ·) (congrArg₂ (· + ·) (congrArg₂ (· + ·) (congrArg (w0 (ix2 0 j) * ·) ((key _ (by omega)).trans (congrArg E e2)))
    (congrArg (w1 (ix2 0 j) * ·) ((key _ (by omega)).trans (congrArg E e1))))
    (congrArg (w2 (ix2 0 j) * ·) (hA r))) rfl

theorem pay19_apply (A : Vec Ideal S64x2816 .f32) (q : Fin 8) (j : Fin 2816) : k0_pay19 A (ix2 q j) = A (ix2 ⟨56 + q.val, by omega⟩ j) := by
  unfold k0_pay19
  pointwise

theorem pay20_apply (V C : FVec Ideal S64x2816 .f32) (r : Fin 64) (j : Fin 2816) :
    k0_pay20 V C (ix2 r j) = gGate (C (ix2 r j)) (V (ix2 r j)) := by
  unfold k0_pay20 gGate gSig
  pointwise

theorem pay31_apply (G : FVec Ideal S256x2816 .f32) (r : Fin 256) (j : Fin 2816) : (k0_pay31 G : FVec Ideal S2816x256 .bf16) (ix2 j r) = G (ix2 r j) := by
  unfold k0_pay31
  pointwise

theorem pay32_apply (x : Vec Ideal S256x1024 .f32) (G : FVec Ideal S256x2816 .f32) (w : Vec Ideal S2816x1024 .bf16) (r : Fin 256) (d : Fin 1024) :
    k0_pay32 x G w (ix2 r d) = x (ix2 r d) + ∑ j : Fin 2816, G (ix2 r j) * w (ix2 j d) := by
  unfold k0_pay32
  pointwise

theorem pay33_apply (x : Vec Ideal S256x1024 .f32) (G : FVec Ideal S256x2816 .f32) (w : Vec Ideal S2816x1024 .bf16) (r : Fin 256) :
    k0_pay33 x G w (ix2 r 0) = gR (fun e => k0_pay32 x G w (ix2 r e)) := by
  unfold k0_pay33 gR
  generalize k0_pay32 x G w = X
  pointwise

theorem pay34_apply (x : Vec Ideal S256x1024 .f32) (G : FVec Ideal S256x2816 .f32) (w : Vec Ideal S2816x1024 .bf16) (r : Fin 256) (d : Fin 1024) :
    k0_pay34 x G w (ix2 r d) = k0_pay32 x G w (ix2 r d) * gR (fun e => k0_pay32 x G w (ix2 r e)) := by
  rw [← pay33_apply]
  unfold k0_pay34
  generalize k0_pay32 x G w = X
  generalize k0_pay33 x G w = X
  pointwise

theorem pay35_apply (x : Vec Ideal S256x1024 .f32) (G : FVec Ideal S256x2816 .f32) (w : Vec Ideal S2816x1024 .bf16) (wf : Vec Ideal S1x1024 .f32) (t : Vec Ideal S256x1024 .f32) (r : Fin 256) (d : Fin 1024) :
    k0_pay35 x G w wf t (ix2 r d) = k0_pay34 x G w (ix2 r d) * wf (ix2 0 d) - t (ix2 r d) := by
  unfold k0_pay35
  generalize k0_pay34 x G w = X
  pointwise

theorem pay1_one (a b : FVec Ideal S256x1024 .f32) : k0_pay1 1#1 a b = a := by
  unfold k0_pay1
  rfl

theorem pay1_zero (a b : FVec Ideal S256x1024 .f32) : k0_pay1 0#1 a b = b := by
  unfold k0_pay1
  rfl

theorem pay36_apply (r : Fin 256) (d : Fin 1024) : (k0_pay36 : FVec Ideal S256x1024 .f32) (ix2 r d) = 0 := by
  unfold k0_pay36
  pointwise

theorem pay3_apply (c : BitVec 1) (a b : FVec Ideal S256x1024 .f32) (r : Fin 256) (d : Fin 1024) :
    k0_pay3 c a b (ix2 r d) = k0_pay1 c a b (ix2 r d) * Ideal.ofBits FTy.f32 0x3A800000#32 := by
  unfold k0_pay3
  generalize k0_pay1 c a b = X
  pointwise

theorem pay2_apply (c : BitVec 1) (a b : FVec Ideal S256x1024 .f32) (L : Vec Ideal S1x1024 .f32) (d : Fin 1024) :
    k0_pay2 c a b L (ix2 0 d) = L (ix2 0 d) + (∑ r : Fin 256, k0_pay1 c a b (ix2 r d) * k0_pay1 c a b (ix2 r d)) * Ideal.ofBits FTy.f32 0x3A000000#32 := by
  unfold k0_pay2
  generalize k0_pay1 c a b = X
  pointwise

theorem pay4_apply (n : FVec Ideal S256x1024 .f32) (c : BitVec 1) (a b : FVec Ideal S256x1024 .f32) (W : Vec Ideal S1x1024 .f32) (d : Fin 1024) :
    k0_pay4 n c a b W (ix2 0 d) = W (ix2 0 d) + ∑ r : Fin 256, k0_pay3 c a b (ix2 r d) * n (ix2 r d) := by
  unfold k0_pay4
  generalize k0_pay3 c a b = X
  pointwise

theorem pay5_apply (s : FVec Ideal S256x1 .f32) (n : FVec Ideal S256x1024 .f32) (wf : Vec Ideal S1x1024 .f32) (c : BitVec 1) (a b : FVec Ideal S256x1024 .f32) (r : Fin 256) (d : Fin 1024) :
    k0_pay5 s n wf c a b (ix2 r d)
      = s (ix2 r 0) * (k0_pay3 c a b (ix2 r d) * wf (ix2 0 d)
        - n (ix2 r d) * Ideal.div (∑ e : Fin 1024, k0_pay3 c a b (ix2 r e) * wf (ix2 0 e) * n (ix2 r e)) (Ideal.ofBits FTy.f32 1149239296#32)) := by
  unfold k0_pay5
  generalize k0_pay3 c a b = X
  pointwise

theorem pay6_apply (q : Fin 8) (j : Fin 2816) : (k0_pay6 : FVec Ideal S8x2816 .f32) (ix2 q j) = 0 := by
  unfold k0_pay6
  pointwise

theorem pay7_apply (d : Fin 1024) : (k0_pay7 : FVec Ideal S1x1024 .f32) (ix2 0 d) = 0 := by
  unfold k0_pay7
  pointwise

theorem pay8_apply (d : Fin 1024) : (k0_pay8 : FVec Ideal S1x1024 .f32) (ix2 0 d) = 0 := by
  unfold k0_pay8
  pointwise

/-- The gate over the point's rows: `E` are the gate half's rows from the eight before the point on. -/
theorem gated_apply (x4 : Vec Ideal S3x2816 .f32) (x5 : Vec Ideal S1x2816 .f32) (A V : Vec Ideal S256x2816 .f32) (P : Vec Ideal S8x2816 .f32) (E : ℕ → EReal) (r : Fin 256) (j : Fin 2816)
    (hP : ∀ q : Fin 8, P (ix2 q j) = E q.val) (hA : ∀ q : Fin 256, A (ix2 q j) = E (8 + q.val)) :
    gated x4 x5 A V P (ix2 r j)
      = gGate (gConv (x4 (ix2 0 j)) (x4 (ix2 1 j)) (x4 (ix2 2 j)) (x5 (ix2 0 j)) (E (6 + r.val)) (E (7 + r.val)) (E (8 + r.val))) (V (ix2 r j)) := by
  have hr := r.isLt
  have hrow : ∀ (k : Fin 4) (q : Fin 64), rows k A (ix2 q j) = E (64 * k.val + (8 + q.val)) := fun k q =>
    (hA ⟨64 * k.val + q.val, by omega⟩).trans (congrArg E (by show 8 + (64 * k.val + q.val) = _; omega))
  have htail : ∀ (k : Fin 4) (q : Fin 8), tail8 (rows k A) (ix2 q j) = E (64 * k.val + 64 + q.val) := fun k q =>
    (pay19_apply (rows k A) q j).trans ((hrow k _).trans (congrArg E (by show 64 * k.val + (8 + (56 + q.val)) = _; omega)))
  have hg : ∀ (k : Fin 4) (Q : Vec Ideal S8x2816 .f32) (r' : Fin 64), (∀ q : Fin 8, Q (ix2 q j) = E (64 * k.val + q.val)) → r.val = 64 * k.val + r'.val →
      gate x4 x5 (rows k A) (rows k V) Q (ix2 r' j)
        = gGate (gConv (x4 (ix2 0 j)) (x4 (ix2 1 j)) (x4 (ix2 2 j)) (x5 (ix2 0 j)) (E (6 + r.val)) (E (7 + r.val)) (E (8 + r.val))) (V (ix2 r j)) := by
    intro k Q r' hQ e
    have e0 : r = ⟨64 * k.val + r'.val, by omega⟩ := Fin.ext e
    unfold gate
    rw [pay20_apply, pay18_apply (tap 0 x4) (tap 1 x4) (tap 2 x4) x5 (rows k A) Q (fun n => E (64 * k.val + n)) r' j hQ (hrow k)]
    rw [show 64 * k.val + (6 + r'.val) = 6 + r.val by omega, show 64 * k.val + (7 + r'.val) = 7 + r.val by omega, show 64 * k.val + (8 + r'.val) = 8 + r.val by omega]
    rw [e0]
    rfl
  unfold gated stack
  have hc : r.val / 64 = 0 ∨ r.val / 64 = 1 ∨ r.val / 64 = 2 ∨ r.val / 64 = 3 := by omega
  have hsel : ∀ (c0 c1 c2 c3 : Vec Ideal S64x2816 .f32) (k : Fin 4) (h : r.val / 64 = k.val) (h' : r.val / 64 < 4), (![c0, c1, c2, c3] : Fin 4 → Vec Ideal S64x2816 .f32) ⟨r.val / 64, h'⟩ = (![c0, c1, c2, c3] : Fin 4 → Vec Ideal S64x2816 .f32) k := by
    intro c0 c1 c2 c3 k h h'
    congr 1
    exact Fin.ext h
  rcases hc with h | h | h | h
  · refine (congrFun (hsel _ _ _ _ 0 h _) _).trans (hg 0 _ ⟨r.val % 64, by omega⟩ (fun q => (hP q).trans (congrArg E (by show q.val = 64 * 0 + q.val; omega))) (by show r.val = 64 * 0 + r.val % 64; omega))
  · refine (congrFun (hsel _ _ _ _ 1 h _) _).trans (hg 1 _ ⟨r.val % 64, by omega⟩ (fun q => (htail 0 q).trans (congrArg E (by show 64 * 0 + 64 + q.val = 64 * 1 + q.val; omega))) (by show r.val = 64 * 1 + r.val % 64; omega))
  · refine (congrFun (hsel _ _ _ _ 2 h _) _).trans (hg 2 _ ⟨r.val % 64, by omega⟩ (fun q => (htail 1 q).trans (congrArg E (by show 64 * 1 + 64 + q.val = 64 * 2 + q.val; omega))) (by show r.val = 64 * 2 + r.val % 64; omega))
  · refine (congrFun (hsel _ _ _ _ 3 h _) _).trans (hg 3 _ ⟨r.val % 64, by omega⟩ (fun q => (htail 2 q).trans (congrArg E (by show 64 * 2 + 64 + q.val = 64 * 3 + q.val; omega))) (by show r.val = 64 * 3 + r.val % 64; omega))

end Cert.FfnFwdIdeal.Fwd

end
-- ==== Proof.Fwd.Data.lean ====
module

public import proofs.«01_k».proof.Proof.Fwd.Elems

/-! The feed-forward block's forward, the loss and the final norm's gradients as functions of a row of the whole array,
    in the kernel's spelling. -/

@[expose] public section

noncomputable section

namespace Cert.FfnFwdIdeal.Fwd

open Idealize.ShloMosaic Idealize.ShloMosaic.TcCoe Idealize.SL.Sem
open Cert.KernelIdeal.Ffn (gConv gSig gR)

/-- The operands by row: the residual stream, the target, and the weights. -/
structure Data where
  h : ℕ → Fin 1024 → EReal
  tg : ℕ → Fin 1024 → EReal
  wn : Fin 1024 → EReal
  wu : Fin 1024 → Fin 5632 → EReal
  cw : Fin 3 → Fin 2816 → EReal
  cb : Fin 2816 → EReal
  wd : Fin 2816 → Fin 1024 → EReal
  wf : Fin 1024 → EReal

variable (D : Data)

/-- The normalised rows. -/
def Data.u (N : ℕ) (d : Fin 1024) : EReal := D.h N d * gR (D.h N) * D.wn d
/-- The projection's output. -/
def Data.up (N : ℕ) (q : Fin 5632) : EReal := ∑ e : Fin 1024, D.u N e * D.wu e q
/-- The gate half with eight rows of zeros before it. -/
def Data.eA (N : ℕ) (j : Fin 2816) : EReal := if N < 8 then 0 else D.up (N - 8) ⟨j.val, by omega⟩
/-- The convolution. -/
def Data.conv (N : ℕ) (j : Fin 2816) : EReal := gConv (D.cw 0 j) (D.cw 1 j) (D.cw 2 j) (D.cb j) (D.eA (N + 6) j) (D.eA (N + 7) j) (D.eA (N + 8) j)
/-- The gated product. -/
def Data.gg (N : ℕ) (j : Fin 2816) : EReal := gGate (D.conv N j) (D.up N ⟨2816 + j.val, by omega⟩)
/-- The residual stream after the block. -/
def Data.h2 (N : ℕ) (d : Fin 1024) : EReal := D.h N d + ∑ j : Fin 2816, D.gg N j * D.wd j d
/-- Its rows normalised, before the weight. -/
def Data.n3 (N : ℕ) (d : Fin 1024) : EReal := D.h2 N d * gR (D.h2 N)
/-- The difference from the target; the first 256 rows have none. -/
def Data.df (N : ℕ) (d : Fin 1024) : EReal := if N < 256 then 0 else D.n3 N d * D.wf d - D.tg (N - 256) d
/-- The loss's gradient at the output. -/
def Data.dy (N : ℕ) (d : Fin 1024) : EReal := D.df N d * Ideal.ofBits FTy.f32 0x3A800000#32
/-- The residual stream's gradient. -/
def Data.dh (N : ℕ) (d : Fin 1024) : EReal :=
  gR (D.h2 N) * (D.dy N d * D.wf d - D.n3 N d * Ideal.div (∑ e : Fin 1024, D.dy N e * D.wf e * D.n3 N e) (Ideal.ofBits FTy.f32 1149239296#32))
/-- A block of 256 rows' part of the loss, by column. -/
def Data.lossB (s : ℕ) (d : Fin 1024) : EReal := (∑ r : Fin 256, D.df (256 * s + r.val) d * D.df (256 * s + r.val) d) * Ideal.ofBits FTy.f32 0x3A000000#32
/-- A block's part of the final norm weight's gradient. -/
def Data.dwfB (s : ℕ) (d : Fin 1024) : EReal := ∑ r : Fin 256, D.dy (256 * s + r.val) d * D.n3 (256 * s + r.val) d

end Cert.FfnFwdIdeal.Fwd

end
-- ==== Proof.Fwd.Blocks.lean ====
module

public import proofs.«01_k».proof.Proof.Fwd.Data
public import proofs.«01_k».proof.Proof.Ffn.Blocks
public import proofs.«01_k».proof.Proof.Gen.FfnFwdIdeal.Frame
public import Idealize.ShloMosaic.Lib.StableHlo.Run
public import Idealize.ShloMosaic.Lib.IdealHost
public import Idealize.ShloMosaic.Lib.Pointwise

/-! The blocks of a grid point of the feed-forward forward, read off the arrays as the host leaves them. -/

@[expose] public section

set_option maxRecDepth 16384

noncomputable section

namespace Cert.FfnFwdIdeal.Fwd

open Cert.FfnFwdIdeal Cert.FfnFwdIdeal.Gen
open Idealize.ShloMosaic Idealize.ShloMosaic.TcCoe Idealize.SL.Sem Idealize.ShloMosaic.StableHlo
open Cert.KernelIdeal.Ffn (rowN rowN_eq)

section V
variable {F : FTy → Type} [FloatOps F]
variable (m : (ℓ : Loc nD τ sig) → Buf (Elt F) ℓ)

theorem V_v2 (c : Dev nD) : V m c main_v2
    = truncf .bf16 (transpose S2x1024x2816 [1, 0, 2] (shapeCast S1024x2x2816 (m ((c : Thread nD τ).loc main_arg3)) shapeCasts_S1024x5632_S1024x2x2816) transposes_S1024x2x2816_S2x1024x2816_1_0_2) bitsLt_bf16_f32 := by
  unfold V
  after_results <;> rfl

theorem V_v3 (c : Dev nD) : V m c main_v3 = truncf .bf16 (m ((c : Thread nD τ).loc main_arg6)) bitsLt_bf16_f32 := by
  unfold V
  after_results <;> rfl

/-! A point's blocks, by name. -/
def b0 (c : Dev nD) (t : Fin cfg0.N) : Vec F S256x1024 .f32 := iblk m c 0 t
def b1 (c : Dev nD) (t : Fin cfg0.N) : Vec F S256x1024 .f32 := iblk m c 1 t
def b2 (c : Dev nD) (t : Fin cfg0.N) : Vec F S1x1024 .f32 := iblk m c 2 t
def b3 (c : Dev nD) (t : Fin cfg0.N) : Vec F S2x1024x2816 .bf16 := iblk m c 3 t
def b4 (c : Dev nD) (t : Fin cfg0.N) : Vec F S3x2816 .f32 := iblk m c 4 t
def b5 (c : Dev nD) (t : Fin cfg0.N) : Vec F S1x2816 .f32 := iblk m c 5 t
def b6 (c : Dev nD) (t : Fin cfg0.N) : Vec F S2816x1024 .bf16 := iblk m c 6 t
def b7 (c : Dev nD) (t : Fin cfg0.N) : Vec F S1x1024 .f32 := iblk m c 7 t
end V

/-! Index maps, decided over the grid. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val - 1 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
/-- Whether a point is past the first. -/
theorem past_eq : ∀ t : Fin cfg0.N, past (grid0.coords t) = if t.val = 0 then 0#1 else 1#1 :=
  (by decide +kernel : ∀ t : Fin grid0.N, _)

/-- A row of the target, zero past its end. -/
def rowT (X : Vec Ideal S8192x1024 .f32) (N : ℕ) (d : Fin 1024) : EReal := if h : N < 8192 then X (ix2 (n0 := 8192) (n1 := 1024) ⟨N, h⟩ d) else 0

theorem rowT_eq (X : Vec Ideal S8192x1024 .f32) (N : ℕ) (d : Fin 1024) (h : N < 8192) : rowT X N d = X (ix2 (n0 := 8192) (n1 := 1024) ⟨N, h⟩ d) := dif_pos h

variable (m : (ℓ : Loc nD τ sig) → Buf (Elt Ideal) ℓ)

/-- The operands of device `c`. -/
def data (c : Dev nD) : Data where
  h := rowN (m ((c : Thread nD τ).loc main_arg0) : Vec Ideal S8448x1024 .f32)
  tg := rowT (m ((c : Thread nD τ).loc main_arg1) : Vec Ideal S8192x1024 .f32)
  wn := fun d => (m ((c : Thread nD τ).loc main_arg2) : Vec Ideal S1x1024 .f32) (ix2 0 d)
  wu := fun d q => (m ((c : Thread nD τ).loc main_arg3) : Vec Ideal S1024x5632 .f32) (ix2 d q)
  cw := fun k j => (m ((c : Thread nD τ).loc main_arg4) : Vec Ideal S3x2816 .f32) (ix2 k j)
  cb := fun j => (m ((c : Thread nD τ).loc main_arg5) : Vec Ideal S1x2816 .f32) (ix2 0 j)
  wd := fun j d => (m ((c : Thread nD τ).loc main_arg6) : Vec Ideal S2816x1024 .f32) (ix2 j d)
  wf := fun d => (m ((c : Thread nD τ).loc main_arg7) : Vec Ideal S1x1024 .f32) (ix2 0 d)

/-- The projection's weights, cut in two halves of columns. -/
theorem wt_apply (W : Vec Ideal S1024x5632 .f32) (s : Fin 2) (d : Fin 1024) (k : Fin 2816) :
    (truncf .bf16 (transpose S2x1024x2816 [1, 0, 2] (shapeCast S1024x2x2816 W shapeCasts_S1024x5632_S1024x2x2816) transposes_S1024x2x2816_S2x1024x2816_1_0_2) bitsLt_bf16_f32 : FVec Ideal S2x1024x2816 .bf16) (ix3 s d k)
      = W (ix2 d ⟨2816 * s.val + k.val, by omega⟩) := by
  pointwise
  congr 1
  funext a
  apply Fin.ext
  match a with
  | ⟨0, _⟩ => dsimp
  | ⟨1, _⟩ => dsimp; omega

section Blocks
variable (c : Dev nD) (t : Fin cfg0.N)

theorem t_lt : t.val < 33 := Nat.lt_of_lt_of_eq t.isLt N_0

theorem blk0 (r : Fin 256) (d : Fin 1024) : b0 m c t (ix2 r d) = (data m c).h (256 * t.val + r.val) d := by
  have hi := idx0 t
  have ht := t_lt t
  show _ = rowN _ _ _
  rw [rowN_eq _ _ _ (by omega)]
  unfold b0 iblk
  rw [View.read_apply]
  show V m c main_arg0 _ = _
  rw [V_main_arg0]
  congr 1
  funext a
  apply Fin.ext
  match a with
  | ⟨0, _⟩ => show win0_0.index t 0 * 256 + 1 * r.val = 256 * t.val + r.val; rw [hi.1]; omega
  | ⟨1, _⟩ => show win0_0.index t 1 * 1024 + 1 * d.val = d.val; rw [hi.2]; omega

theorem blk1 (h0 : t.val ≠ 0) (r : Fin 256) (d : Fin 1024) : b1 m c t (ix2 r d) = (data m c).tg (256 * t.val + r.val - 256) d := by
  have hi := idx1 t
  have ht := t_lt t
  show _ = rowT _ _ _
  rw [rowT_eq _ _ _ (by omega)]
  unfold b1 iblk
  rw [View.read_apply]
  show V m c main_arg1 _ = _
  rw [V_main_arg1]
  congr 1
  funext a
  apply Fin.ext
  match a with
  | ⟨0, _⟩ => show win0_1.index t 0 * 256 + 1 * r.val = 256 * t.val + r.val - 256; rw [hi.1]; omega
  | ⟨1, _⟩ => show win0_1.index t 1 * 1024 + 1 * d.val = d.val; rw [hi.2]; omega

theorem blk2 (d : Fin 1024) : b2 m c t (ix2 0 d) = (data m c).wn d := by
  have hi := idx2 t
  unfold b2 iblk
  rw [View.read_apply]
  show V m c main_arg2 _ = _
  rw [V_main_arg2]
  unfold data
  congr 1
  funext a
  apply Fin.ext
  match a with
  | ⟨0, _⟩ => show win0_2.index t 0 * 1 + 1 * 0 = 0; rw [hi.1]
  | ⟨1, _⟩ => show win0_2.index t 1 * 1024 + 1 * d.val = d.val; rw [hi.2]; omega

theorem blk3 (s : Fin 2) (d : Fin 1024) (k : Fin 2816) : b3 m c t (ix3 s d k) = (data m c).wu d ⟨2816 * s.val + k.val, by omega⟩ := by
  have hi := idx3 t
  unfold b3 iblk
  rw [View.read_apply]
  show V m c main_v2 _ = _
  rw [V_v2]
  refine (congrArg _ ?_).trans (wt_apply (m ((c : Thread nD τ).loc main_arg3)) s d k)
  funext a
  apply Fin.ext
  match a with
  | ⟨0, _⟩ => show win0_3.index t 0 * 2 + 1 * s.val = s.val; rw [hi.1]; omega
  | ⟨1, _⟩ => show win0_3.index t 1 * 1024 + 1 * d.val = d.val; rw [hi.2.1]; omega
  | ⟨2, _⟩ => show win0_3.index t 2 * 2816 + 1 * k.val = k.val; rw [hi.2.2]; omega

theorem blk4 (k : Fin 3) (j : Fin 2816) : b4 m c t (ix2 k j) = (data m c).cw k j := by
  have hi := idx4 t
  unfold b4 iblk
  rw [View.read_apply]
  show V m c main_arg4 _ = _
  rw [V_main_arg4]
  unfold data
  congr 1
  funext a
  apply Fin.ext
  match a with
  | ⟨0, _⟩ => show win0_4.index t 0 * 3 + 1 * k.val = k.val; rw [hi.1]; omega
  | ⟨1, _⟩ => show win0_4.index t 1 * 2816 + 1 * j.val = j.val; rw [hi.2]; omega

theorem blk5 (j : Fin 2816) : b5 m c t (ix2 0 j) = (data m c).cb j := by
  have hi := idx5 t
  unfold b5 iblk
  rw [View.read_apply]
  show V m c main_arg5 _ = _
  rw [V_main_arg5]
  unfold data
  congr 1
  funext a
  apply Fin.ext
  match a with
  | ⟨0, _⟩ => show win0_5.index t 0 * 1 + 1 * 0 = 0; rw [hi.1]
  | ⟨1, _⟩ => show win0_5.index t 1 * 2816 + 1 * j.val = j.val; rw [hi.2]; omega

theorem blk6 (j : Fin 2816) (d : Fin 1024) : b6 m c t (ix2 j d) = (data m c).wd j d := by
  have hi := idx6 t
  unfold b6 iblk
  rw [View.read_apply]
  show V m c main_v3 _ = _
  rw [V_v3]
  show (m ((c : Thread nD τ).loc main_arg6) : Vec Ideal S2816x1024 .f32) _ = _
  unfold data
  congr 1
  funext a
  apply Fin.ext
  match a with
  | ⟨0, _⟩ => show win0_6.index t 0 * 2816 + 1 * j.val = j.val; rw [hi.1]; omega
  | ⟨1, _⟩ => show win0_6.index t 1 * 1024 + 1 * d.val = d.val; rw [hi.2]; omega

theorem blk7 (d : Fin 1024) : b7 m c t (ix2 0 d) = (data m c).wf d := by
  have hi := idx7 t
  unfold b7 iblk
  rw [View.read_apply]
  show V m c main_arg7 _ = _
  rw [V_main_arg7]
  unfold data
  congr 1
  funext a
  apply Fin.ext
  match a with
  | ⟨0, _⟩ => show win0_7.index t 0 * 1 + 1 * 0 = 0; rw [hi.1]
  | ⟨1, _⟩ => show win0_7.index t 1 * 1024 + 1 * d.val = d.val; rw [hi.2]; omega

end Blocks

end Cert.FfnFwdIdeal.Fwd

end
-- ==== Proof.Fwd.CaseA.lean ====
module

public import proofs.«01_k».proof.Proof.Gen.FfnFwdIdeal.Frame
public import proofs.«01_k».proof.Proof.Fwd.Point

/-! What the first grid point of the feed-forward forward leaves in each result's block and in the carried rows. -/

@[expose] public section

set_option maxRecDepth 16384

noncomputable section

namespace Cert.FfnFwdIdeal.Fwd

open Idealize.ShloMosaic Idealize.ShloMosaic.TcCoe Idealize.ShloMosaic.Tactic Idealize.SL.Sem
open Cert.FfnFwdIdeal Cert.FfnFwdIdeal.Gen

variable {F : FTy → Type} [FloatOps F]

variable (c : Dev nD) (i : grid0.Coords)
  (a1 : Memref sig .tc .vmem S256x1024 .f32) (h1 : a1.IsWhole)  (a2 : Memref sig .tc .vmem S256x1024 .f32) (h2 : a2.IsWhole)
  (a3 : Memref sig .tc .vmem S1x1024 .f32) (h3 : a3.IsWhole)  (a4 : Memref sig .tc .vmem S2x1024x2816 .bf16) (h4 : a4.IsWhole)
  (a5 : Memref sig .tc .vmem S3x2816 .f32) (h5 : a5.IsWhole)  (a6 : Memref sig .tc .vmem S1x2816 .f32) (h6 : a6.IsWhole)
  (a7 : Memref sig .tc .vmem S2816x1024 .bf16) (h7 : a7.IsWhole)  (a8 : Memref sig .tc .vmem S1x1024 .f32) (h8 : a8.IsWhole)
  (a9 : Memref sig .tc .vmem S1024x256 .bf16) (h9 : a9.IsWhole)  (a10 : Memref sig .tc .vmem S256x5632 .bf16) (h10 : a10.IsWhole)
  (a11 : Memref sig .tc .vmem S2816x256 .bf16) (h11 : a11.IsWhole)  (a12 : Memref sig .tc .vmem S256x1024 .f32) (h12 : a12.IsWhole)
  (a13 : Memref sig .tc .vmem S1x1024 .f32) (h13 : a13.IsWhole)  (a14 : Memref sig .tc .vmem S1x1024 .f32) (h14 : a14.IsWhole)
  (a15 : Memref sig .tc .vmem S256x5632 .f32) (h15 : a15.IsWhole)  (a16 : Memref sig .tc .vmem S256x2816 .f32) (h16 : a16.IsWhole)
  (a17 : Memref sig .tc .vmem S8x2816 .f32) (h17 : a17.IsWhole)
  (hc0 : cond0_0 i)
  (x0 x1 : Vec F S256x1024 .f32) (x2 : Vec F S1x1024 .f32) (x3 : Vec F S2x1024x2816 .bf16)
  (x4 : Vec F S3x2816 .f32) (x5 : Vec F S1x2816 .f32) (x6 : Vec F S2816x1024 .bf16) (x7 : Vec F S1x1024 .f32)

theorem o8_A :
    out0_A_8 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7
      = k0_pay11 x0 x2 := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7)]
  unfold kernelRun0_A
  dsimp only
  sl_unfold_words
  refine (canon_whole1024_256 _ _).trans ?_
  simp only [View.readAt_eq_ld, h1.read_unread, h2.read_unread, h3.read_unread, h4.read_unread, h5.read_unread, h6.read_unread,
    h7.read_unread, h8.read_unread, h13.read_unread, h14.read_unread, h17.read_unread,
    ld_whole256_1024, ld_whole1_1024, ld_whole1_2816, ld_whole2816_1024, ld_whole8_2816,
    ld_plane0, ld_plane1, ld_tap0, ld_tap1, ld_tap2, read_whole8', read_whole1']

theorem o9_A :
    out0_A_9 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7
      = beside (k0_pay14 x0 x2 (plane 0 x3)) (k0_pay17 (k0_pay15 x0 x2 (plane 1 x3))) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7)]
  unfold kernelRun0_A
  dsimp only
  sl_unfold_words
  refine (canon_beside _ _ _).trans ?_
  simp only [View.readAt_eq_ld, h1.read_unread, h2.read_unread, h3.read_unread, h4.read_unread, h5.read_unread, h6.read_unread,
    h7.read_unread, h8.read_unread, h13.read_unread, h14.read_unread, h17.read_unread,
    ld_whole256_1024, ld_whole1_1024, ld_whole1_2816, ld_whole2816_1024, ld_whole8_2816,
    ld_plane0, ld_plane1, ld_tap0, ld_tap1, ld_tap2, read_whole8', read_whole1']

theorem o10_A :
    out0_A_10 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7
      = k0_pay31 (gated x4 x5 (upA x0 x2 x3) (upV x0 x2 x3) k0_pay6) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7)]
  unfold kernelRun0_A
  dsimp only
  sl_unfold_words
  refine (canon_whole2816_256 _ _).trans ?_
  simp only [View.readAt_eq_ld, h1.read_unread, h2.read_unread, h3.read_unread, h4.read_unread, h5.read_unread, h6.read_unread,
    h7.read_unread, h8.read_unread, h13.read_unread, h14.read_unread, h17.read_unread,
    ld_whole256_1024, ld_whole1_1024, ld_whole1_2816, ld_whole2816_1024, ld_whole8_2816,
    ld_plane0, ld_plane1, ld_tap0, ld_tap1, ld_tap2, read_whole8', read_whole1']
  rw [read_rowsA0 a15.view (k0_pay13 x0 x2 (plane 0 x3)) (k0_pay16 (k0_pay15 x0 x2 (plane 1 x3))) inb_S256x5632_S256x2816_0_2816 inb_S256x5632_S256x2816_0_0 (k0_off1_inb 0),
    read_rowsA1 a15.view (k0_pay13 x0 x2 (plane 0 x3)) (k0_pay16 (k0_pay15 x0 x2 (plane 1 x3))) inb_S256x5632_S256x2816_0_2816 inb_S256x5632_S256x2816_0_0 (k0_off1_inb 1),
    read_rowsA2 a15.view (k0_pay13 x0 x2 (plane 0 x3)) (k0_pay16 (k0_pay15 x0 x2 (plane 1 x3))) inb_S256x5632_S256x2816_0_2816 inb_S256x5632_S256x2816_0_0 (k0_off1_inb 2),
    read_rowsA3 a15.view (k0_pay13 x0 x2 (plane 0 x3)) (k0_pay16 (k0_pay15 x0 x2 (plane 1 x3))) inb_S256x5632_S256x2816_0_2816 inb_S256x5632_S256x2816_0_0 (k0_off1_inb 3),
    read_rowsV0 a15.view (k0_pay13 x0 x2 (plane 0 x3)) (k0_pay16 (k0_pay15 x0 x2 (plane 1 x3))) inb_S256x5632_S256x2816_0_2816 inb_S256x5632_S256x2816_0_0 (k0_off2_inb 0),
    read_rowsV1 a15.view (k0_pay13 x0 x2 (plane 0 x3)) (k0_pay16 (k0_pay15 x0 x2 (plane 1 x3))) inb_S256x5632_S256x2816_0_2816 inb_S256x5632_S256x2816_0_0 (k0_off2_inb 1),
    read_rowsV2 a15.view (k0_pay13 x0 x2 (plane 0 x3)) (k0_pay16 (k0_pay15 x0 x2 (plane 1 x3))) inb_S256x5632_S256x2816_0_2816 inb_S256x5632_S256x2816_0_0 (k0_off2_inb 2),
    read_rowsV3 a15.view (k0_pay13 x0 x2 (plane 0 x3)) (k0_pay16 (k0_pay15 x0 x2 (plane 1 x3))) inb_S256x5632_S256x2816_0_2816 inb_S256x5632_S256x2816_0_0 (k0_off2_inb 3),
    read_stack0 a16.view (k0_pay20 (rows 0 (k0_pay16 (k0_pay15 x0 x2 (plane 1 x3)))) (k0_pay18 (tap 0 x4) (tap 1 x4) (tap 2 x4) (rows 0 (k0_pay13 x0 x2 (plane 0 x3))) k0_pay6 x5))
      (k0_pay23 (rows 1 (k0_pay16 (k0_pay15 x0 x2 (plane 1 x3)))) (k0_pay21 (tap 0 x4) (tap 1 x4) (tap 2 x4) (rows 1 (k0_pay13 x0 x2 (plane 0 x3))) (k0_pay19 (rows 0 (k0_pay13 x0 x2 (plane 0 x3)))) x5))
      (k0_pay26 (rows 2 (k0_pay16 (k0_pay15 x0 x2 (plane 1 x3)))) (k0_pay24 (tap 0 x4) (tap 1 x4) (tap 2 x4) (rows 2 (k0_pay13 x0 x2 (plane 0 x3))) (k0_pay22 (rows 1 (k0_pay13 x0 x2 (plane 0 x3)))) x5) (FloatOps.ofBits FTy.f32 1056964608#32))
      (k0_pay30 (rows 3 (k0_pay16 (k0_pay15 x0 x2 (plane 1 x3)))) (k0_pay27 (tap 0 x4) (tap 1 x4) (tap 2 x4) (rows 3 (k0_pay13 x0 x2 (plane 0 x3))) (k0_pay25 (rows 2 (k0_pay13 x0 x2 (plane 0 x3)))) x5) k0_pay29)
      (k0_off3_inb 0) (k0_off3_inb 1) (k0_off3_inb 2) (k0_off3_inb 3) inb_S256x2816_S256x2816_0_0]
  rfl

theorem o11_A :
    out0_A_11 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7
      = k0_pay5 (k0_pay33 x0 (gated x4 x5 (upA x0 x2 x3) (upV x0 x2 x3) k0_pay6) x6) (k0_pay34 x0 (gated x4 x5 (upA x0 x2 x3) (upV x0 x2 x3) k0_pay6) x6) x7 (past i) (k0_pay35 x0 (gated x4 x5 (upA x0 x2 x3) (upV x0 x2 x3) k0_pay6) x6 x7 x1) k0_pay36 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7)]
  unfold kernelRun0_A
  dsimp only
  sl_unfold_words
  refine (canon_whole256_1024 _ _).trans ?_
  simp only [View.readAt_eq_ld, h1.read_unread, h2.read_unread, h3.read_unread, h4.read_unread, h5.read_unread, h6.read_unread,
    h7.read_unread, h8.read_unread, h13.read_unread, h14.read_unread, h17.read_unread,
    ld_whole256_1024, ld_whole1_1024, ld_whole1_2816, ld_whole2816_1024, ld_whole8_2816,
    ld_plane0, ld_plane1, ld_tap0, ld_tap1, ld_tap2, read_whole8', read_whole1']
  rw [read_rowsA0 a15.view (k0_pay13 x0 x2 (plane 0 x3)) (k0_pay16 (k0_pay15 x0 x2 (plane 1 x3))) inb_S256x5632_S256x2816_0_2816 inb_S256x5632_S256x2816_0_0 (k0_off1_inb 0),
    read_rowsA1 a15.view (k0_pay13 x0 x2 (plane 0 x3)) (k0_pay16 (k0_pay15 x0 x2 (plane 1 x3))) inb_S256x5632_S256x2816_0_2816 inb_S256x5632_S256x2816_0_0 (k0_off1_inb 1),
    read_rowsA2 a15.view (k0_pay13 x0 x2 (plane 0 x3)) (k0_pay16 (k0_pay15 x0 x2 (plane 1 x3))) inb_S256x5632_S256x2816_0_2816 inb_S256x5632_S256x2816_0_0 (k0_off1_inb 2),
    read_rowsA3 a15.view (k0_pay13 x0 x2 (plane 0 x3)) (k0_pay16 (k0_pay15 x0 x2 (plane 1 x3))) inb_S256x5632_S256x2816_0_2816 inb_S256x5632_S256x2816_0_0 (k0_off1_inb 3),
    read_rowsV0 a15.view (k0_pay13 x0 x2 (plane 0 x3)) (k0_pay16 (k0_pay15 x0 x2 (plane 1 x3))) inb_S256x5632_S256x2816_0_2816 inb_S256x5632_S256x2816_0_0 (k0_off2_inb 0),
    read_rowsV1 a15.view (k0_pay13 x0 x2 (plane 0 x3)) (k0_pay16 (k0_pay15 x0 x2 (plane 1 x3))) inb_S256x5632_S256x2816_0_2816 inb_S256x5632_S256x2816_0_0 (k0_off2_inb 1),
    read_rowsV2 a15.view (k0_pay13 x0 x2 (plane 0 x3)) (k0_pay16 (k0_pay15 x0 x2 (plane 1 x3))) inb_S256x5632_S256x2816_0_2816 inb_S256x5632_S256x2816_0_0 (k0_off2_inb 2),
    read_rowsV3 a15.view (k0_pay13 x0 x2 (plane 0 x3)) (k0_pay16 (k0_pay15 x0 x2 (plane 1 x3))) inb_S256x5632_S256x2816_0_2816 inb_S256x5632_S256x2816_0_0 (k0_off2_inb 3),
    read_stack0 a16.view (k0_pay20 (rows 0 (k0_pay16 (k0_pay15 x0 x2 (plane 1 x3)))) (k0_pay18 (tap 0 x4) (tap 1 x4) (tap 2 x4) (rows 0 (k0_pay13 x0 x2 (plane 0 x3))) k0_pay6 x5))
      (k0_pay23 (rows 1 (k0_pay16 (k0_pay15 x0 x2 (plane 1 x3)))) (k0_pay21 (tap 0 x4) (tap 1 x4) (tap 2 x4) (rows 1 (k0_pay13 x0 x2 (plane 0 x3))) (k0_pay19 (rows 0 (k0_pay13 x0 x2 (plane 0 x3)))) x5))
      (k0_pay26 (rows 2 (k0_pay16 (k0_pay15 x0 x2 (plane 1 x3)))) (k0_pay24 (tap 0 x4) (tap 1 x4) (tap 2 x4) (rows 2 (k0_pay13 x0 x2 (plane 0 x3))) (k0_pay22 (rows 1 (k0_pay13 x0 x2 (plane 0 x3)))) x5) (FloatOps.ofBits FTy.f32 1056964608#32))
      (k0_pay30 (rows 3 (k0_pay16 (k0_pay15 x0 x2 (plane 1 x3)))) (k0_pay27 (tap 0 x4) (tap 1 x4) (tap 2 x4) (rows 3 (k0_pay13 x0 x2 (plane 0 x3))) (k0_pay25 (rows 2 (k0_pay13 x0 x2 (plane 0 x3)))) x5) k0_pay29)
      (k0_off3_inb 0) (k0_off3_inb 1) (k0_off3_inb 2) (k0_off3_inb 3) inb_S256x2816_S256x2816_0_0]
  rfl

theorem o12_A :
    out0_A_12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7
      = k0_pay2 (past i) (k0_pay35 x0 (gated x4 x5 (upA x0 x2 x3) (upV x0 x2 x3) k0_pay6) x6 x7 x1) k0_pay36 k0_pay7 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7)]
  unfold kernelRun0_A
  dsimp only
  sl_unfold_words
  refine (canon_whole1_1024 _ _).trans ?_
  simp only [View.readAt_eq_ld, h1.read_unread, h2.read_unread, h3.read_unread, h4.read_unread, h5.read_unread, h6.read_unread,
    h7.read_unread, h8.read_unread, h13.read_unread, h14.read_unread, h17.read_unread,
    ld_whole256_1024, ld_whole1_1024, ld_whole1_2816, ld_whole2816_1024, ld_whole8_2816,
    ld_plane0, ld_plane1, ld_tap0, ld_tap1, ld_tap2, read_whole8', read_whole1']
  rw [read_rowsA0 a15.view (k0_pay13 x0 x2 (plane 0 x3)) (k0_pay16 (k0_pay15 x0 x2 (plane 1 x3))) inb_S256x5632_S256x2816_0_2816 inb_S256x5632_S256x2816_0_0 (k0_off1_inb 0),
    read_rowsA1 a15.view (k0_pay13 x0 x2 (plane 0 x3)) (k0_pay16 (k0_pay15 x0 x2 (plane 1 x3))) inb_S256x5632_S256x2816_0_2816 inb_S256x5632_S256x2816_0_0 (k0_off1_inb 1),
    read_rowsA2 a15.view (k0_pay13 x0 x2 (plane 0 x3)) (k0_pay16 (k0_pay15 x0 x2 (plane 1 x3))) inb_S256x5632_S256x2816_0_2816 inb_S256x5632_S256x2816_0_0 (k0_off1_inb 2),
    read_rowsA3 a15.view (k0_pay13 x0 x2 (plane 0 x3)) (k0_pay16 (k0_pay15 x0 x2 (plane 1 x3))) inb_S256x5632_S256x2816_0_2816 inb_S256x5632_S256x2816_0_0 (k0_off1_inb 3),
    read_rowsV0 a15.view (k0_pay13 x0 x2 (plane 0 x3)) (k0_pay16 (k0_pay15 x0 x2 (plane 1 x3))) inb_S256x5632_S256x2816_0_2816 inb_S256x5632_S256x2816_0_0 (k0_off2_inb 0),
    read_rowsV1 a15.view (k0_pay13 x0 x2 (plane 0 x3)) (k0_pay16 (k0_pay15 x0 x2 (plane 1 x3))) inb_S256x5632_S256x2816_0_2816 inb_S256x5632_S256x2816_0_0 (k0_off2_inb 1),
    read_rowsV2 a15.view (k0_pay13 x0 x2 (plane 0 x3)) (k0_pay16 (k0_pay15 x0 x2 (plane 1 x3))) inb_S256x5632_S256x2816_0_2816 inb_S256x5632_S256x2816_0_0 (k0_off2_inb 2),
    read_rowsV3 a15.view (k0_pay13 x0 x2 (plane 0 x3)) (k0_pay16 (k0_pay15 x0 x2 (plane 1 x3))) inb_S256x5632_S256x2816_0_2816 inb_S256x5632_S256x2816_0_0 (k0_off2_inb 3),
    read_stack0 a16.view (k0_pay20 (rows 0 (k0_pay16 (k0_pay15 x0 x2 (plane 1 x3)))) (k0_pay18 (tap 0 x4) (tap 1 x4) (tap 2 x4) (rows 0 (k0_pay13 x0 x2 (plane 0 x3))) k0_pay6 x5))
      (k0_pay23 (rows 1 (k0_pay16 (k0_pay15 x0 x2 (plane 1 x3)))) (k0_pay21 (tap 0 x4) (tap 1 x4) (tap 2 x4) (rows 1 (k0_pay13 x0 x2 (plane 0 x3))) (k0_pay19 (rows 0 (k0_pay13 x0 x2 (plane 0 x3)))) x5))
      (k0_pay26 (rows 2 (k0_pay16 (k0_pay15 x0 x2 (plane 1 x3)))) (k0_pay24 (tap 0 x4) (tap 1 x4) (tap 2 x4) (rows 2 (k0_pay13 x0 x2 (plane 0 x3))) (k0_pay22 (rows 1 (k0_pay13 x0 x2 (plane 0 x3)))) x5) (FloatOps.ofBits FTy.f32 1056964608#32))
      (k0_pay30 (rows 3 (k0_pay16 (k0_pay15 x0 x2 (plane 1 x3)))) (k0_pay27 (tap 0 x4) (tap 1 x4) (tap 2 x4) (rows 3 (k0_pay13 x0 x2 (plane 0 x3))) (k0_pay25 (rows 2 (k0_pay13 x0 x2 (plane 0 x3)))) x5) k0_pay29)
      (k0_off3_inb 0) (k0_off3_inb 1) (k0_off3_inb 2) (k0_off3_inb 3) inb_S256x2816_S256x2816_0_0]
  rfl

theorem o13_A :
    out0_A_13 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7
      = k0_pay4 (k0_pay34 x0 (gated x4 x5 (upA x0 x2 x3) (upV x0 x2 x3) k0_pay6) x6) (past i) (k0_pay35 x0 (gated x4 x5 (upA x0 x2 x3) (upV x0 x2 x3) k0_pay6) x6 x7 x1) k0_pay36 k0_pay8 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7)]
  unfold kernelRun0_A
  dsimp only
  sl_unfold_words
  refine (canon_whole1_1024 _ _).trans ?_
  simp only [View.readAt_eq_ld, h1.read_unread, h2.read_unread, h3.read_unread, h4.read_unread, h5.read_unread, h6.read_unread,
    h7.read_unread, h8.read_unread, h13.read_unread, h14.read_unread, h17.read_unread,
    ld_whole256_1024, ld_whole1_1024, ld_whole1_2816, ld_whole2816_1024, ld_whole8_2816,
    ld_plane0, ld_plane1, ld_tap0, ld_tap1, ld_tap2, read_whole8', read_whole1']
  rw [read_rowsA0 a15.view (k0_pay13 x0 x2 (plane 0 x3)) (k0_pay16 (k0_pay15 x0 x2 (plane 1 x3))) inb_S256x5632_S256x2816_0_2816 inb_S256x5632_S256x2816_0_0 (k0_off1_inb 0),
    read_rowsA1 a15.view (k0_pay13 x0 x2 (plane 0 x3)) (k0_pay16 (k0_pay15 x0 x2 (plane 1 x3))) inb_S256x5632_S256x2816_0_2816 inb_S256x5632_S256x2816_0_0 (k0_off1_inb 1),
    read_rowsA2 a15.view (k0_pay13 x0 x2 (plane 0 x3)) (k0_pay16 (k0_pay15 x0 x2 (plane 1 x3))) inb_S256x5632_S256x2816_0_2816 inb_S256x5632_S256x2816_0_0 (k0_off1_inb 2),
    read_rowsA3 a15.view (k0_pay13 x0 x2 (plane 0 x3)) (k0_pay16 (k0_pay15 x0 x2 (plane 1 x3))) inb_S256x5632_S256x2816_0_2816 inb_S256x5632_S256x2816_0_0 (k0_off1_inb 3),
    read_rowsV0 a15.view (k0_pay13 x0 x2 (plane 0 x3)) (k0_pay16 (k0_pay15 x0 x2 (plane 1 x3))) inb_S256x5632_S256x2816_0_2816 inb_S256x5632_S256x2816_0_0 (k0_off2_inb 0),
    read_rowsV1 a15.view (k0_pay13 x0 x2 (plane 0 x3)) (k0_pay16 (k0_pay15 x0 x2 (plane 1 x3))) inb_S256x5632_S256x2816_0_2816 inb_S256x5632_S256x2816_0_0 (k0_off2_inb 1),
    read_rowsV2 a15.view (k0_pay13 x0 x2 (plane 0 x3)) (k0_pay16 (k0_pay15 x0 x2 (plane 1 x3))) inb_S256x5632_S256x2816_0_2816 inb_S256x5632_S256x2816_0_0 (k0_off2_inb 2),
    read_rowsV3 a15.view (k0_pay13 x0 x2 (plane 0 x3)) (k0_pay16 (k0_pay15 x0 x2 (plane 1 x3))) inb_S256x5632_S256x2816_0_2816 inb_S256x5632_S256x2816_0_0 (k0_off2_inb 3),
    read_stack0 a16.view (k0_pay20 (rows 0 (k0_pay16 (k0_pay15 x0 x2 (plane 1 x3)))) (k0_pay18 (tap 0 x4) (tap 1 x4) (tap 2 x4) (rows 0 (k0_pay13 x0 x2 (plane 0 x3))) k0_pay6 x5))
      (k0_pay23 (rows 1 (k0_pay16 (k0_pay15 x0 x2 (plane 1 x3)))) (k0_pay21 (tap 0 x4) (tap 1 x4) (tap 2 x4) (rows 1 (k0_pay13 x0 x2 (plane 0 x3))) (k0_pay19 (rows 0 (k0_pay13 x0 x2 (plane 0 x3)))) x5))
      (k0_pay26 (rows 2 (k0_pay16 (k0_pay15 x0 x2 (plane 1 x3)))) (k0_pay24 (tap 0 x4) (tap 1 x4) (tap 2 x4) (rows 2 (k0_pay13 x0 x2 (plane 0 x3))) (k0_pay22 (rows 1 (k0_pay13 x0 x2 (plane 0 x3)))) x5) (FloatOps.ofBits FTy.f32 1056964608#32))
      (k0_pay30 (rows 3 (k0_pay16 (k0_pay15 x0 x2 (plane 1 x3)))) (k0_pay27 (tap 0 x4) (tap 1 x4) (tap 2 x4) (rows 3 (k0_pay13 x0 x2 (plane 0 x3))) (k0_pay25 (rows 2 (k0_pay13 x0 x2 (plane 0 x3)))) x5) k0_pay29)
      (k0_off3_inb 0) (k0_off3_inb 1) (k0_off3_inb 2) (k0_off3_inb 3) inb_S256x2816_S256x2816_0_0]
  rfl

theorem s2_A :
    sout0_A_2 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7
      = tail8 (rows 3 (upA x0 x2 x3)) := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7)]
  unfold kernelRun0_A
  dsimp only
  sl_unfold_words
  refine (canon_whole8_2816 _ _).trans ?_
  simp only [View.readAt_eq_ld, h1.read_unread, h2.read_unread, h3.read_unread, h4.read_unread, h5.read_unread, h6.read_unread,
    h7.read_unread, h8.read_unread, h13.read_unread, h14.read_unread, h17.read_unread,
    ld_whole256_1024, ld_whole1_1024, ld_whole1_2816, ld_whole2816_1024, ld_whole8_2816,
    ld_plane0, ld_plane1, ld_tap0, ld_tap1, ld_tap2, read_whole8', read_whole1']
  rw [read_rowsA3 a15.view (k0_pay13 x0 x2 (plane 0 x3)) (k0_pay16 (k0_pay15 x0 x2 (plane 1 x3))) inb_S256x5632_S256x2816_0_2816 inb_S256x5632_S256x2816_0_0 (k0_off1_inb 3)]
  rfl

end Cert.FfnFwdIdeal.Fwd

end
-- ==== Proof.Fwd.CaseB.lean ====
module

public import proofs.«01_k».proof.Proof.Gen.FfnFwdIdeal.Frame
public import proofs.«01_k».proof.Proof.Fwd.Point

/-! What a later grid point of the feed-forward forward leaves in each result's block and in the carried rows. -/

@[expose] public section

set_option maxRecDepth 16384

noncomputable section

namespace Cert.FfnFwdIdeal.Fwd

open Idealize.ShloMosaic Idealize.ShloMosaic.TcCoe Idealize.ShloMosaic.Tactic Idealize.SL.Sem
open Cert.FfnFwdIdeal Cert.FfnFwdIdeal.Gen

variable {F : FTy → Type} [FloatOps F]

variable (c : Dev nD) (i : grid0.Coords)
  (a1 : Memref sig .tc .vmem S256x1024 .f32) (h1 : a1.IsWhole)  (a2 : Memref sig .tc .vmem S256x1024 .f32) (h2 : a2.IsWhole)
  (a3 : Memref sig .tc .vmem S1x1024 .f32) (h3 : a3.IsWhole)  (a4 : Memref sig .tc .vmem S2x1024x2816 .bf16) (h4 : a4.IsWhole)
  (a5 : Memref sig .tc .vmem S3x2816 .f32) (h5 : a5.IsWhole)  (a6 : Memref sig .tc .vmem S1x2816 .f32) (h6 : a6.IsWhole)
  (a7 : Memref sig .tc .vmem S2816x1024 .bf16) (h7 : a7.IsWhole)  (a8 : Memref sig .tc .vmem S1x1024 .f32) (h8 : a8.IsWhole)
  (a9 : Memref sig .tc .vmem S1024x256 .bf16) (h9 : a9.IsWhole)  (a10 : Memref sig .tc .vmem S256x5632 .bf16) (h10 : a10.IsWhole)
  (a11 : Memref sig .tc .vmem S2816x256 .bf16) (h11 : a11.IsWhole)  (a12 : Memref sig .tc .vmem S256x1024 .f32) (h12 : a12.IsWhole)
  (a13 : Memref sig .tc .vmem S1x1024 .f32) (h13 : a13.IsWhole)  (a14 : Memref sig .tc .vmem S1x1024 .f32) (h14 : a14.IsWhole)
  (a15 : Memref sig .tc .vmem S256x5632 .f32) (h15 : a15.IsWhole)  (a16 : Memref sig .tc .vmem S256x2816 .f32) (h16 : a16.IsWhole)
  (a17 : Memref sig .tc .vmem S8x2816 .f32) (h17 : a17.IsWhole)
  (hc0 : ¬cond0_0 i)
  (x0 x1 : Vec F S256x1024 .f32) (x2 : Vec F S1x1024 .f32) (x3 : Vec F S2x1024x2816 .bf16)
  (x4 : Vec F S3x2816 .f32) (x5 : Vec F S1x2816 .f32) (x6 : Vec F S2816x1024 .bf16) (x7 : Vec F S1x1024 .f32)
  (xo4 xo5 : Vec F S1x1024 .f32) (xs2 : Vec F S8x2816 .f32)

theorem o8_B :
    out0_B_8 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo4 xo5 xs2
      = k0_pay11 x0 x2 := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo4 xo5 xs2)]
  unfold kernelRun0_B
  dsimp only
  sl_unfold_words
  refine (canon_whole1024_256 _ _).trans ?_
  simp only [View.readAt_eq_ld, h1.read_unread, h2.read_unread, h3.read_unread, h4.read_unread, h5.read_unread, h6.read_unread,
    h7.read_unread, h8.read_unread, h13.read_unread, h14.read_unread, h17.read_unread,
    ld_whole256_1024, ld_whole1_1024, ld_whole1_2816, ld_whole2816_1024, ld_whole8_2816,
    ld_plane0, ld_plane1, ld_tap0, ld_tap1, ld_tap2, read_whole8', read_whole1']

theorem o9_B :
    out0_B_9 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo4 xo5 xs2
      = beside (k0_pay14 x0 x2 (plane 0 x3)) (k0_pay17 (k0_pay15 x0 x2 (plane 1 x3))) := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo4 xo5 xs2)]
  unfold kernelRun0_B
  dsimp only
  sl_unfold_words
  refine (canon_beside _ _ _).trans ?_
  simp only [View.readAt_eq_ld, h1.read_unread, h2.read_unread, h3.read_unread, h4.read_unread, h5.read_unread, h6.read_unread,
    h7.read_unread, h8.read_unread, h13.read_unread, h14.read_unread, h17.read_unread,
    ld_whole256_1024, ld_whole1_1024, ld_whole1_2816, ld_whole2816_1024, ld_whole8_2816,
    ld_plane0, ld_plane1, ld_tap0, ld_tap1, ld_tap2, read_whole8', read_whole1']

theorem o10_B :
    out0_B_10 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo4 xo5 xs2
      = k0_pay31 (gated x4 x5 (upA x0 x2 x3) (upV x0 x2 x3) xs2) := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo4 xo5 xs2)]
  unfold kernelRun0_B
  dsimp only
  sl_unfold_words
  refine (canon_whole2816_256 _ _).trans ?_
  simp only [View.readAt_eq_ld, h1.read_unread, h2.read_unread, h3.read_unread, h4.read_unread, h5.read_unread, h6.read_unread,
    h7.read_unread, h8.read_unread, h13.read_unread, h14.read_unread, h17.read_unread,
    ld_whole256_1024, ld_whole1_1024, ld_whole1_2816, ld_whole2816_1024, ld_whole8_2816,
    ld_plane0, ld_plane1, ld_tap0, ld_tap1, ld_tap2, read_whole8', read_whole1']
  rw [read_rowsA0 a15.view (k0_pay13 x0 x2 (plane 0 x3)) (k0_pay16 (k0_pay15 x0 x2 (plane 1 x3))) inb_S256x5632_S256x2816_0_2816 inb_S256x5632_S256x2816_0_0 (k0_off1_inb 0),
    read_rowsA1 a15.view (k0_pay13 x0 x2 (plane 0 x3)) (k0_pay16 (k0_pay15 x0 x2 (plane 1 x3))) inb_S256x5632_S256x2816_0_2816 inb_S256x5632_S256x2816_0_0 (k0_off1_inb 1),
    read_rowsA2 a15.view (k0_pay13 x0 x2 (plane 0 x3)) (k0_pay16 (k0_pay15 x0 x2 (plane 1 x3))) inb_S256x5632_S256x2816_0_2816 inb_S256x5632_S256x2816_0_0 (k0_off1_inb 2),
    read_rowsA3 a15.view (k0_pay13 x0 x2 (plane 0 x3)) (k0_pay16 (k0_pay15 x0 x2 (plane 1 x3))) inb_S256x5632_S256x2816_0_2816 inb_S256x5632_S256x2816_0_0 (k0_off1_inb 3),
    read_rowsV0 a15.view (k0_pay13 x0 x2 (plane 0 x3)) (k0_pay16 (k0_pay15 x0 x2 (plane 1 x3))) inb_S256x5632_S256x2816_0_2816 inb_S256x5632_S256x2816_0_0 (k0_off2_inb 0),
    read_rowsV1 a15.view (k0_pay13 x0 x2 (plane 0 x3)) (k0_pay16 (k0_pay15 x0 x2 (plane 1 x3))) inb_S256x5632_S256x2816_0_2816 inb_S256x5632_S256x2816_0_0 (k0_off2_inb 1),
    read_rowsV2 a15.view (k0_pay13 x0 x2 (plane 0 x3)) (k0_pay16 (k0_pay15 x0 x2 (plane 1 x3))) inb_S256x5632_S256x2816_0_2816 inb_S256x5632_S256x2816_0_0 (k0_off2_inb 2),
    read_rowsV3 a15.view (k0_pay13 x0 x2 (plane 0 x3)) (k0_pay16 (k0_pay15 x0 x2 (plane 1 x3))) inb_S256x5632_S256x2816_0_2816 inb_S256x5632_S256x2816_0_0 (k0_off2_inb 3),
    read_stack0 a16.view (k0_pay20 (rows 0 (k0_pay16 (k0_pay15 x0 x2 (plane 1 x3)))) (k0_pay18 (tap 0 x4) (tap 1 x4) (tap 2 x4) (rows 0 (k0_pay13 x0 x2 (plane 0 x3))) xs2 x5))
      (k0_pay23 (rows 1 (k0_pay16 (k0_pay15 x0 x2 (plane 1 x3)))) (k0_pay21 (tap 0 x4) (tap 1 x4) (tap 2 x4) (rows 1 (k0_pay13 x0 x2 (plane 0 x3))) (k0_pay19 (rows 0 (k0_pay13 x0 x2 (plane 0 x3)))) x5))
      (k0_pay26 (rows 2 (k0_pay16 (k0_pay15 x0 x2 (plane 1 x3)))) (k0_pay24 (tap 0 x4) (tap 1 x4) (tap 2 x4) (rows 2 (k0_pay13 x0 x2 (plane 0 x3))) (k0_pay22 (rows 1 (k0_pay13 x0 x2 (plane 0 x3)))) x5) (FloatOps.ofBits FTy.f32 1056964608#32))
      (k0_pay30 (rows 3 (k0_pay16 (k0_pay15 x0 x2 (plane 1 x3)))) (k0_pay27 (tap 0 x4) (tap 1 x4) (tap 2 x4) (rows 3 (k0_pay13 x0 x2 (plane 0 x3))) (k0_pay25 (rows 2 (k0_pay13 x0 x2 (plane 0 x3)))) x5) k0_pay29)
      (k0_off3_inb 0) (k0_off3_inb 1) (k0_off3_inb 2) (k0_off3_inb 3) inb_S256x2816_S256x2816_0_0]
  rfl

theorem o11_B :
    out0_B_11 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo4 xo5 xs2
      = k0_pay5 (k0_pay33 x0 (gated x4 x5 (upA x0 x2 x3) (upV x0 x2 x3) xs2) x6) (k0_pay34 x0 (gated x4 x5 (upA x0 x2 x3) (upV x0 x2 x3) xs2) x6) x7 (past i) (k0_pay35 x0 (gated x4 x5 (upA x0 x2 x3) (upV x0 x2 x3) xs2) x6 x7 x1) k0_pay36 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo4 xo5 xs2)]
  unfold kernelRun0_B
  dsimp only
  sl_unfold_words
  refine (canon_whole256_1024 _ _).trans ?_
  simp only [View.readAt_eq_ld, h1.read_unread, h2.read_unread, h3.read_unread, h4.read_unread, h5.read_unread, h6.read_unread,
    h7.read_unread, h8.read_unread, h13.read_unread, h14.read_unread, h17.read_unread,
    ld_whole256_1024, ld_whole1_1024, ld_whole1_2816, ld_whole2816_1024, ld_whole8_2816,
    ld_plane0, ld_plane1, ld_tap0, ld_tap1, ld_tap2, read_whole8', read_whole1']
  rw [read_rowsA0 a15.view (k0_pay13 x0 x2 (plane 0 x3)) (k0_pay16 (k0_pay15 x0 x2 (plane 1 x3))) inb_S256x5632_S256x2816_0_2816 inb_S256x5632_S256x2816_0_0 (k0_off1_inb 0),
    read_rowsA1 a15.view (k0_pay13 x0 x2 (plane 0 x3)) (k0_pay16 (k0_pay15 x0 x2 (plane 1 x3))) inb_S256x5632_S256x2816_0_2816 inb_S256x5632_S256x2816_0_0 (k0_off1_inb 1),
    read_rowsA2 a15.view (k0_pay13 x0 x2 (plane 0 x3)) (k0_pay16 (k0_pay15 x0 x2 (plane 1 x3))) inb_S256x5632_S256x2816_0_2816 inb_S256x5632_S256x2816_0_0 (k0_off1_inb 2),
    read_rowsA3 a15.view (k0_pay13 x0 x2 (plane 0 x3)) (k0_pay16 (k0_pay15 x0 x2 (plane 1 x3))) inb_S256x5632_S256x2816_0_2816 inb_S256x5632_S256x2816_0_0 (k0_off1_inb 3),
    read_rowsV0 a15.view (k0_pay13 x0 x2 (plane 0 x3)) (k0_pay16 (k0_pay15 x0 x2 (plane 1 x3))) inb_S256x5632_S256x2816_0_2816 inb_S256x5632_S256x2816_0_0 (k0_off2_inb 0),
    read_rowsV1 a15.view (k0_pay13 x0 x2 (plane 0 x3)) (k0_pay16 (k0_pay15 x0 x2 (plane 1 x3))) inb_S256x5632_S256x2816_0_2816 inb_S256x5632_S256x2816_0_0 (k0_off2_inb 1),
    read_rowsV2 a15.view (k0_pay13 x0 x2 (plane 0 x3)) (k0_pay16 (k0_pay15 x0 x2 (plane 1 x3))) inb_S256x5632_S256x2816_0_2816 inb_S256x5632_S256x2816_0_0 (k0_off2_inb 2),
    read_rowsV3 a15.view (k0_pay13 x0 x2 (plane 0 x3)) (k0_pay16 (k0_pay15 x0 x2 (plane 1 x3))) inb_S256x5632_S256x2816_0_2816 inb_S256x5632_S256x2816_0_0 (k0_off2_inb 3),
    read_stack0 a16.view (k0_pay20 (rows 0 (k0_pay16 (k0_pay15 x0 x2 (plane 1 x3)))) (k0_pay18 (tap 0 x4) (tap 1 x4) (tap 2 x4) (rows 0 (k0_pay13 x0 x2 (plane 0 x3))) xs2 x5))
      (k0_pay23 (rows 1 (k0_pay16 (k0_pay15 x0 x2 (plane 1 x3)))) (k0_pay21 (tap 0 x4) (tap 1 x4) (tap 2 x4) (rows 1 (k0_pay13 x0 x2 (plane 0 x3))) (k0_pay19 (rows 0 (k0_pay13 x0 x2 (plane 0 x3)))) x5))
      (k0_pay26 (rows 2 (k0_pay16 (k0_pay15 x0 x2 (plane 1 x3)))) (k0_pay24 (tap 0 x4) (tap 1 x4) (tap 2 x4) (rows 2 (k0_pay13 x0 x2 (plane 0 x3))) (k0_pay22 (rows 1 (k0_pay13 x0 x2 (plane 0 x3)))) x5) (FloatOps.ofBits FTy.f32 1056964608#32))
      (k0_pay30 (rows 3 (k0_pay16 (k0_pay15 x0 x2 (plane 1 x3)))) (k0_pay27 (tap 0 x4) (tap 1 x4) (tap 2 x4) (rows 3 (k0_pay13 x0 x2 (plane 0 x3))) (k0_pay25 (rows 2 (k0_pay13 x0 x2 (plane 0 x3)))) x5) k0_pay29)
      (k0_off3_inb 0) (k0_off3_inb 1) (k0_off3_inb 2) (k0_off3_inb 3) inb_S256x2816_S256x2816_0_0]
  rfl

theorem o12_B :
    out0_B_12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo4 xo5 xs2
      = k0_pay2 (past i) (k0_pay35 x0 (gated x4 x5 (upA x0 x2 x3) (upV x0 x2 x3) xs2) x6 x7 x1) k0_pay36 xo4 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo4 xo5 xs2)]
  unfold kernelRun0_B
  dsimp only
  sl_unfold_words
  refine (canon_whole1_1024 _ _).trans ?_
  simp only [View.readAt_eq_ld, h1.read_unread, h2.read_unread, h3.read_unread, h4.read_unread, h5.read_unread, h6.read_unread,
    h7.read_unread, h8.read_unread, h13.read_unread, h14.read_unread, h17.read_unread,
    ld_whole256_1024, ld_whole1_1024, ld_whole1_2816, ld_whole2816_1024, ld_whole8_2816,
    ld_plane0, ld_plane1, ld_tap0, ld_tap1, ld_tap2, read_whole8', read_whole1']
  rw [read_rowsA0 a15.view (k0_pay13 x0 x2 (plane 0 x3)) (k0_pay16 (k0_pay15 x0 x2 (plane 1 x3))) inb_S256x5632_S256x2816_0_2816 inb_S256x5632_S256x2816_0_0 (k0_off1_inb 0),
    read_rowsA1 a15.view (k0_pay13 x0 x2 (plane 0 x3)) (k0_pay16 (k0_pay15 x0 x2 (plane 1 x3))) inb_S256x5632_S256x2816_0_2816 inb_S256x5632_S256x2816_0_0 (k0_off1_inb 1),
    read_rowsA2 a15.view (k0_pay13 x0 x2 (plane 0 x3)) (k0_pay16 (k0_pay15 x0 x2 (plane 1 x3))) inb_S256x5632_S256x2816_0_2816 inb_S256x5632_S256x2816_0_0 (k0_off1_inb 2),
    read_rowsA3 a15.view (k0_pay13 x0 x2 (plane 0 x3)) (k0_pay16 (k0_pay15 x0 x2 (plane 1 x3))) inb_S256x5632_S256x2816_0_2816 inb_S256x5632_S256x2816_0_0 (k0_off1_inb 3),
    read_rowsV0 a15.view (k0_pay13 x0 x2 (plane 0 x3)) (k0_pay16 (k0_pay15 x0 x2 (plane 1 x3))) inb_S256x5632_S256x2816_0_2816 inb_S256x5632_S256x2816_0_0 (k0_off2_inb 0),
    read_rowsV1 a15.view (k0_pay13 x0 x2 (plane 0 x3)) (k0_pay16 (k0_pay15 x0 x2 (plane 1 x3))) inb_S256x5632_S256x2816_0_2816 inb_S256x5632_S256x2816_0_0 (k0_off2_inb 1),
    read_rowsV2 a15.view (k0_pay13 x0 x2 (plane 0 x3)) (k0_pay16 (k0_pay15 x0 x2 (plane 1 x3))) inb_S256x5632_S256x2816_0_2816 inb_S256x5632_S256x2816_0_0 (k0_off2_inb 2),
    read_rowsV3 a15.view (k0_pay13 x0 x2 (plane 0 x3)) (k0_pay16 (k0_pay15 x0 x2 (plane 1 x3))) inb_S256x5632_S256x2816_0_2816 inb_S256x5632_S256x2816_0_0 (k0_off2_inb 3),
    read_stack0 a16.view (k0_pay20 (rows 0 (k0_pay16 (k0_pay15 x0 x2 (plane 1 x3)))) (k0_pay18 (tap 0 x4) (tap 1 x4) (tap 2 x4) (rows 0 (k0_pay13 x0 x2 (plane 0 x3))) xs2 x5))
      (k0_pay23 (rows 1 (k0_pay16 (k0_pay15 x0 x2 (plane 1 x3)))) (k0_pay21 (tap 0 x4) (tap 1 x4) (tap 2 x4) (rows 1 (k0_pay13 x0 x2 (plane 0 x3))) (k0_pay19 (rows 0 (k0_pay13 x0 x2 (plane 0 x3)))) x5))
      (k0_pay26 (rows 2 (k0_pay16 (k0_pay15 x0 x2 (plane 1 x3)))) (k0_pay24 (tap 0 x4) (tap 1 x4) (tap 2 x4) (rows 2 (k0_pay13 x0 x2 (plane 0 x3))) (k0_pay22 (rows 1 (k0_pay13 x0 x2 (plane 0 x3)))) x5) (FloatOps.ofBits FTy.f32 1056964608#32))
      (k0_pay30 (rows 3 (k0_pay16 (k0_pay15 x0 x2 (plane 1 x3)))) (k0_pay27 (tap 0 x4) (tap 1 x4) (tap 2 x4) (rows 3 (k0_pay13 x0 x2 (plane 0 x3))) (k0_pay25 (rows 2 (k0_pay13 x0 x2 (plane 0 x3)))) x5) k0_pay29)
      (k0_off3_inb 0) (k0_off3_inb 1) (k0_off3_inb 2) (k0_off3_inb 3) inb_S256x2816_S256x2816_0_0]
  rfl

theorem o13_B :
    out0_B_13 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo4 xo5 xs2
      = k0_pay4 (k0_pay34 x0 (gated x4 x5 (upA x0 x2 x3) (upV x0 x2 x3) xs2) x6) (past i) (k0_pay35 x0 (gated x4 x5 (upA x0 x2 x3) (upV x0 x2 x3) xs2) x6 x7 x1) k0_pay36 xo5 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo4 xo5 xs2)]
  unfold kernelRun0_B
  dsimp only
  sl_unfold_words
  refine (canon_whole1_1024 _ _).trans ?_
  simp only [View.readAt_eq_ld, h1.read_unread, h2.read_unread, h3.read_unread, h4.read_unread, h5.read_unread, h6.read_unread,
    h7.read_unread, h8.read_unread, h13.read_unread, h14.read_unread, h17.read_unread,
    ld_whole256_1024, ld_whole1_1024, ld_whole1_2816, ld_whole2816_1024, ld_whole8_2816,
    ld_plane0, ld_plane1, ld_tap0, ld_tap1, ld_tap2, read_whole8', read_whole1']
  rw [read_rowsA0 a15.view (k0_pay13 x0 x2 (plane 0 x3)) (k0_pay16 (k0_pay15 x0 x2 (plane 1 x3))) inb_S256x5632_S256x2816_0_2816 inb_S256x5632_S256x2816_0_0 (k0_off1_inb 0),
    read_rowsA1 a15.view (k0_pay13 x0 x2 (plane 0 x3)) (k0_pay16 (k0_pay15 x0 x2 (plane 1 x3))) inb_S256x5632_S256x2816_0_2816 inb_S256x5632_S256x2816_0_0 (k0_off1_inb 1),
    read_rowsA2 a15.view (k0_pay13 x0 x2 (plane 0 x3)) (k0_pay16 (k0_pay15 x0 x2 (plane 1 x3))) inb_S256x5632_S256x2816_0_2816 inb_S256x5632_S256x2816_0_0 (k0_off1_inb 2),
    read_rowsA3 a15.view (k0_pay13 x0 x2 (plane 0 x3)) (k0_pay16 (k0_pay15 x0 x2 (plane 1 x3))) inb_S256x5632_S256x2816_0_2816 inb_S256x5632_S256x2816_0_0 (k0_off1_inb 3),
    read_rowsV0 a15.view (k0_pay13 x0 x2 (plane 0 x3)) (k0_pay16 (k0_pay15 x0 x2 (plane 1 x3))) inb_S256x5632_S256x2816_0_2816 inb_S256x5632_S256x2816_0_0 (k0_off2_inb 0),
    read_rowsV1 a15.view (k0_pay13 x0 x2 (plane 0 x3)) (k0_pay16 (k0_pay15 x0 x2 (plane 1 x3))) inb_S256x5632_S256x2816_0_2816 inb_S256x5632_S256x2816_0_0 (k0_off2_inb 1),
    read_rowsV2 a15.view (k0_pay13 x0 x2 (plane 0 x3)) (k0_pay16 (k0_pay15 x0 x2 (plane 1 x3))) inb_S256x5632_S256x2816_0_2816 inb_S256x5632_S256x2816_0_0 (k0_off2_inb 2),
    read_rowsV3 a15.view (k0_pay13 x0 x2 (plane 0 x3)) (k0_pay16 (k0_pay15 x0 x2 (plane 1 x3))) inb_S256x5632_S256x2816_0_2816 inb_S256x5632_S256x2816_0_0 (k0_off2_inb 3),
    read_stack0 a16.view (k0_pay20 (rows 0 (k0_pay16 (k0_pay15 x0 x2 (plane 1 x3)))) (k0_pay18 (tap 0 x4) (tap 1 x4) (tap 2 x4) (rows 0 (k0_pay13 x0 x2 (plane 0 x3))) xs2 x5))
      (k0_pay23 (rows 1 (k0_pay16 (k0_pay15 x0 x2 (plane 1 x3)))) (k0_pay21 (tap 0 x4) (tap 1 x4) (tap 2 x4) (rows 1 (k0_pay13 x0 x2 (plane 0 x3))) (k0_pay19 (rows 0 (k0_pay13 x0 x2 (plane 0 x3)))) x5))
      (k0_pay26 (rows 2 (k0_pay16 (k0_pay15 x0 x2 (plane 1 x3)))) (k0_pay24 (tap 0 x4) (tap 1 x4) (tap 2 x4) (rows 2 (k0_pay13 x0 x2 (plane 0 x3))) (k0_pay22 (rows 1 (k0_pay13 x0 x2 (plane 0 x3)))) x5) (FloatOps.ofBits FTy.f32 1056964608#32))
      (k0_pay30 (rows 3 (k0_pay16 (k0_pay15 x0 x2 (plane 1 x3)))) (k0_pay27 (tap 0 x4) (tap 1 x4) (tap 2 x4) (rows 3 (k0_pay13 x0 x2 (plane 0 x3))) (k0_pay25 (rows 2 (k0_pay13 x0 x2 (plane 0 x3)))) x5) k0_pay29)
      (k0_off3_inb 0) (k0_off3_inb 1) (k0_off3_inb 2) (k0_off3_inb 3) inb_S256x2816_S256x2816_0_0]
  rfl

theorem s2_B :
    sout0_B_2 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo4 xo5 xs2
      = tail8 (rows 3 (upA x0 x2 x3)) := by
  unfold sout0_B_2
  rw [View.read_writes_eq_canon _ _ _ (scover0_B_2 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo4 xo5 xs2)]
  unfold kernelRun0_B
  dsimp only
  sl_unfold_words
  refine (canon_whole8_2816 _ _).trans ?_
  simp only [View.readAt_eq_ld, h1.read_unread, h2.read_unread, h3.read_unread, h4.read_unread, h5.read_unread, h6.read_unread,
    h7.read_unread, h8.read_unread, h13.read_unread, h14.read_unread, h17.read_unread,
    ld_whole256_1024, ld_whole1_1024, ld_whole1_2816, ld_whole2816_1024, ld_whole8_2816,
    ld_plane0, ld_plane1, ld_tap0, ld_tap1, ld_tap2, read_whole8', read_whole1']
  rw [read_rowsA3 a15.view (k0_pay13 x0 x2 (plane 0 x3)) (k0_pay16 (k0_pay15 x0 x2 (plane 1 x3))) inb_S256x5632_S256x2816_0_2816 inb_S256x5632_S256x2816_0_0 (k0_off1_inb 3)]
  rfl

end Cert.FfnFwdIdeal.Fwd

end
-- ==== Proof.Fwd.Sweep.lean ====
module

public import proofs.«01_k».proof.Proof.Fwd.Blocks
public import proofs.«01_k».proof.Proof.Fwd.CaseA
public import proofs.«01_k».proof.Proof.Fwd.CaseB
public import proofs.«01_k».proof.Proof.Gen.FfnFwdIdeal.Frame

/-! What the feed-forward forward's outputs and the rows it carries hold after each grid point. -/

@[expose] public section

set_option maxRecDepth 16384

noncomputable section

namespace Cert.FfnFwdIdeal.Fwd

open Cert.FfnFwdIdeal Cert.FfnFwdIdeal.Gen
open Idealize.ShloMosaic Idealize.ShloMosaic.TcCoe Idealize.SL.Sem
open Cert.KernelIdeal.Ffn (gConv gSig gR)

section Pt
variable {F : FTy → Type} [FloatOps F]

/-- The six outputs and the carried rows. -/
abbrev Outs (F : FTy → Type) : Type :=
  Vec F S1024x256 .bf16 × Vec F S256x5632 .bf16 × Vec F S2816x256 .bf16 × Vec F S256x1024 .f32 × Vec F S1x1024 .f32 × Vec F S1x1024 .f32 × Vec F S8x2816 .f32

/-- The gated product of a point's rows. -/
def ptG (x0 : Vec F S256x1024 .f32) (x2 : Vec F S1x1024 .f32) (x3 : Vec F S2x1024x2816 .bf16)
    (x4 : Vec F S3x2816 .f32) (x5 : Vec F S1x2816 .f32) (P : Vec F S8x2816 .f32) : Vec F S256x2816 .f32 :=
  gated x4 x5 (upA x0 x2 x3) (upV x0 x2 x3) P

/-- The two halves of the projection's output, side by side. -/
def ptUp (x0 : Vec F S256x1024 .f32) (x2 : Vec F S1x1024 .f32) (x3 : Vec F S2x1024x2816 .bf16) : Vec F S256x5632 .bf16 :=
  beside (k0_pay14 x0 x2 (plane 0 x3)) (k0_pay17 (k0_pay15 x0 x2 (plane 1 x3)))

/-- What a point leaves, of its blocks, the two sums and the carried rows it finds. -/
def pt (p : BitVec 1) (x0 x1 : Vec F S256x1024 .f32) (x2 : Vec F S1x1024 .f32) (x3 : Vec F S2x1024x2816 .bf16)
    (x4 : Vec F S3x2816 .f32) (x5 : Vec F S1x2816 .f32) (x6 : Vec F S2816x1024 .bf16) (x7 : Vec F S1x1024 .f32)
    (L W : Vec F S1x1024 .f32) (P : Vec F S8x2816 .f32) : Outs F :=
  (k0_pay11 x0 x2,
   ptUp x0 x2 x3,
   k0_pay31 (ptG x0 x2 x3 x4 x5 P),
   k0_pay5 (k0_pay33 x0 (ptG x0 x2 x3 x4 x5 P) x6) (k0_pay34 x0 (ptG x0 x2 x3 x4 x5 P) x6) x7 p (k0_pay35 x0 (ptG x0 x2 x3 x4 x5 P) x6 x7 x1) k0_pay36,
   k0_pay2 p (k0_pay35 x0 (ptG x0 x2 x3 x4 x5 P) x6 x7 x1) k0_pay36 L,
   k0_pay4 (k0_pay34 x0 (ptG x0 x2 x3 x4 x5 P) x6) p (k0_pay35 x0 (ptG x0 x2 x3 x4 x5 P) x6 x7 x1) k0_pay36 W,
   tail8 (rows 3 (upA x0 x2 x3)))

variable (m : (ℓ : Loc nD τ sig) → Buf (Elt F) ℓ)

/-- A point of device `c`. -/
def ptAt (c : Dev nD) (t : Fin cfg0.N) (L W : Vec F S1x1024 .f32) (P : Vec F S8x2816 .f32) : Outs F :=
  pt (past (grid0.coords t)) (b0 m c t) (b1 m c t) (b2 m c t) (b3 m c t) (b4 m c t) (b5 m c t) (b6 m c t) (b7 m c t) L W P

theorem outs_A (c : Dev nD) (t : Fin cfg0.N) (h0 : t.val % 33 = 0) :
    outsAt0 m c t.val t.isLt = ptAt m c t k0_pay7 k0_pay8 k0_pay6 :=
  (outsAt0_A m c t h0).trans (congrArg₂ Prod.mk (o8_A _ _ _ _ _ _ _ _ _ _ _ _ _ _ _ _ _ _ _ _ _ _ _ _ _ _ _ _ _ _ _ _ _ _ _ _ _ _ _ _ _ _ _ _ _)
    (congrArg₂ Prod.mk (o9_A _ _ _ _ _ _ _ _ _ _ _ _ _ _ _ _ _ _ _ _ _ _ _ _ _ _ _ _ _ _ _ _ _ _ _ _ _ _ _ _ _ _ _ _ _)
    (congrArg₂ Prod.mk (o10_A _ _ _ _ _ _ _ _ _ _ _ _ _ _ _ _ _ _ _ _ _ _ _ _ _ _ _ _ _ _ _ _ _ _ _ _ _ _ _ _ _ _ _ _ _)
    (congrArg₂ Prod.mk (o11_A _ _ _ _ _ _ _ _ _ _ _ _ _ _ _ _ _ _ _ _ _ _ _ _ _ _ _ _ _ _ _ _ _ _ _ _ _ _ _ _ _ _ _ _ _)
    (congrArg₂ Prod.mk (o12_A _ _ _ _ _ _ _ _ _ _ _ _ _ _ _ _ _ _ _ _ _ _ _ _ _ _ _ _ _ _ _ _ _ _ _ _ _ _ _ _ _ _ _ _ _)
    (congrArg₂ Prod.mk (o13_A _ _ _ _ _ _ _ _ _ _ _ _ _ _ _ _ _ _ _ _ _ _ _ _ _ _ _ _ _ _ _ _ _ _ _ _ _ _ _ _ _ _ _ _ _)
    (s2_A _ _ _ _ _ _ _ _ _ _ _ _ _ _ _ _ _ _ _ _ _ _ _ _ _ _ _ _ _ _ _ _ _ _ _ _ _ _ _ _ _ _ _ _ _)))))))

theorem outs_B (c : Dev nD) (t : Fin cfg0.N) (h0 : ¬t.val % 33 = 0) :
    outsAt0 m c t.val t.isLt = ptAt m c t (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.1
      (outsAt0 m c (t.val - 1) (Nat.lt_of_le_of_lt (Nat.sub_le _ _) t.isLt)).2.2.2.2.2.2 :=
  (outsAt0_B m c t h0).trans (congrArg₂ Prod.mk (o8_B _ _ _ _ _ _ _ _ _ _ _ _ _ _ _ _ _ _ _ _ _ _ _ _ _ _ _ _ _ _ _ _ _ _ _ _ _ _ _ _ _ _ _ _ _ _ _ _)
    (congrArg₂ Prod.mk (o9_B _ _ _ _ _ _ _ _ _ _ _ _ _ _ _ _ _ _ _ _ _ _ _ _ _ _ _ _ _ _ _ _ _ _ _ _ _ _ _ _ _ _ _ _ _ _ _ _)
    (congrArg₂ Prod.mk (o10_B _ _ _ _ _ _ _ _ _ _ _ _ _ _ _ _ _ _ _ _ _ _ _ _ _ _ _ _ _ _ _ _ _ _ _ _ _ _ _ _ _ _ _ _ _ _ _ _)
    (congrArg₂ Prod.mk (o11_B _ _ _ _ _ _ _ _ _ _ _ _ _ _ _ _ _ _ _ _ _ _ _ _ _ _ _ _ _ _ _ _ _ _ _ _ _ _ _ _ _ _ _ _ _ _ _ _)
    (congrArg₂ Prod.mk (o12_B _ _ _ _ _ _ _ _ _ _ _ _ _ _ _ _ _ _ _ _ _ _ _ _ _ _ _ _ _ _ _ _ _ _ _ _ _ _ _ _ _ _ _ _ _ _ _ _)
    (congrArg₂ Prod.mk (o13_B _ _ _ _ _ _ _ _ _ _ _ _ _ _ _ _ _ _ _ _ _ _ _ _ _ _ _ _ _ _ _ _ _ _ _ _ _ _ _ _ _ _ _ _ _ _ _ _)
    (s2_B _ _ _ _ _ _ _ _ _ _ _ _ _ _ _ _ _ _ _ _ _ _ _ _ _ _ _ _ _ _ _ _ _ _ _ _ _ _ _ _ _ _ _ _ _ _ _ _)))))))

end Pt

variable (m : (ℓ : Loc nD τ sig) → Buf (Elt Ideal) ℓ)

/-- What the outputs and the carried rows hold after point `n`. -/
structure After (D : Data) (n : ℕ) (S : Outs Ideal) : Prop where
  u : ∀ (d : Fin 1024) (r : Fin 256), S.1 (ix2 d r) = D.u (256 * n + r.val) d
  up : ∀ (r : Fin 256) (q : Fin 5632), S.2.1 (ix2 r q) = D.up (256 * n + r.val) q
  gg : ∀ (j : Fin 2816) (r : Fin 256), S.2.2.1 (ix2 j r) = D.gg (256 * n + r.val) j
  dh : ∀ (r : Fin 256) (d : Fin 1024), S.2.2.2.1 (ix2 r d) = D.dh (256 * n + r.val) d
  loss : ∀ d : Fin 1024, S.2.2.2.2.1 (ix2 0 d) = ∑ s ∈ Finset.range (n + 1), D.lossB s d
  dwf : ∀ d : Fin 1024, S.2.2.2.2.2.1 (ix2 0 d) = ∑ s ∈ Finset.range (n + 1), D.dwfB s d
  carry : ∀ (q : Fin 8) (j : Fin 2816), S.2.2.2.2.2.2 (ix2 q j) = D.eA (256 * (n + 1) + q.val) j

theorem After.of_eq {D : Data} {n : ℕ} {S S' : Outs Ideal} (e : S = S') (h : After D n S') : After D n S := e ▸ h

section Step
variable (c : Dev nD) (t : Fin cfg0.N)

theorem at_u (r : Fin 256) (d : Fin 1024) : k0_pay9 (b0 m c t) (b2 m c t) (ix2 r d) = (data m c).u (256 * t.val + r.val) d := by
  have e : (fun e => b0 m c t (ix2 r e)) = (data m c).h (256 * t.val + r.val) := funext fun e => blk0 m c t r e
  rw [pay9_apply, e, blk0, blk2]
  rfl

theorem at_upA (r : Fin 256) (j : Fin 2816) : upA (b0 m c t) (b2 m c t) (b3 m c t) (ix2 r j) = (data m c).up (256 * t.val + r.val) ⟨j.val, by omega⟩ := by
  unfold upA Data.up
  rw [pay13_apply]
  refine Finset.sum_congr rfl fun e _ => ?_
  rw [at_u]
  refine congrArg _ ((blk3 m c t 0 e j).trans (congrArg _ (Fin.ext ?_)))
  show 2816 * 0 + j.val = j.val
  omega

theorem at_up14 (r : Fin 256) (j : Fin 2816) : (k0_pay14 (b0 m c t) (b2 m c t) (plane 0 (b3 m c t)) : FVec Ideal S256x2816 .bf16) (ix2 r j) = (data m c).up (256 * t.val + r.val) ⟨j.val, by omega⟩ :=
  (pay14_apply _ _ _ r j).trans ((pay13_apply _ _ _ r j).symm.trans (at_upA m c t r j))

theorem at_up15 (r : Fin 256) (j : Fin 2816) : k0_pay15 (b0 m c t) (b2 m c t) (plane 1 (b3 m c t)) (ix2 r j) = (data m c).up (256 * t.val + r.val) ⟨2816 + j.val, by omega⟩ := by
  unfold Data.up
  rw [pay15_apply]
  refine Finset.sum_congr rfl fun e _ => ?_
  rw [at_u]
  refine congrArg _ ((blk3 m c t 1 e j).trans (congrArg _ (Fin.ext ?_)))
  show 2816 * 1 + j.val = 2816 + j.val
  omega

theorem at_upV (r : Fin 256) (j : Fin 2816) : upV (b0 m c t) (b2 m c t) (b3 m c t) (ix2 r j) = (data m c).up (256 * t.val + r.val) ⟨2816 + j.val, by omega⟩ :=
  (pay16_apply _ r j).trans (at_up15 m c t r j)

theorem at_upA_e (r : Fin 256) (j : Fin 2816) : upA (b0 m c t) (b2 m c t) (b3 m c t) (ix2 r j) = (data m c).eA (256 * t.val + (8 + r.val)) j := by
  rw [at_upA]
  unfold Data.eA
  rw [if_neg (by omega)]
  congr 1
  omega

variable (P : Vec Ideal S8x2816 .f32) (hP : ∀ (q : Fin 8) (j : Fin 2816), P (ix2 q j) = (data m c).eA (256 * t.val + q.val) j)

abbrev G0 : Vec Ideal S256x2816 .f32 := ptG (b0 m c t) (b2 m c t) (b3 m c t) (b4 m c t) (b5 m c t) P

include hP

theorem at_gg (r : Fin 256) (j : Fin 2816) : G0 m c t P (ix2 r j) = (data m c).gg (256 * t.val + r.val) j := by
  unfold G0 ptG
  rw [gated_apply _ _ _ _ _ (fun n => (data m c).eA (256 * t.val + n) j) r j (fun q => hP q j) (fun q => at_upA_e m c t q j), at_upV, blk4, blk4, blk4, blk5]
  unfold Data.gg Data.conv
  rw [show 256 * t.val + (6 + r.val) = 256 * t.val + r.val + 6 by omega, show 256 * t.val + (7 + r.val) = 256 * t.val + r.val + 7 by omega, show 256 * t.val + (8 + r.val) = 256 * t.val + r.val + 8 by omega]

theorem at_h2 (r : Fin 256) (d : Fin 1024) : k0_pay32 (b0 m c t) (G0 m c t P) (b6 m c t) (ix2 r d) = (data m c).h2 (256 * t.val + r.val) d := by
  rw [pay32_apply, blk0]
  unfold Data.h2
  refine congrArg _ (Finset.sum_congr rfl fun j _ => ?_)
  exact congrArg₂ (· * ·) (at_gg m c t P hP r j) (blk6 m c t j d)

theorem at_r3 (r : Fin 256) : k0_pay33 (b0 m c t) (G0 m c t P) (b6 m c t) (ix2 r 0) = gR ((data m c).h2 (256 * t.val + r.val)) := by
  rw [pay33_apply, show (fun e => k0_pay32 (b0 m c t) (G0 m c t P) (b6 m c t) (ix2 r e)) = (data m c).h2 (256 * t.val + r.val) from funext fun e => at_h2 m c t P hP r e]

theorem at_n3 (r : Fin 256) (d : Fin 1024) : k0_pay34 (b0 m c t) (G0 m c t P) (b6 m c t) (ix2 r d) = (data m c).n3 (256 * t.val + r.val) d := by
  rw [pay34_apply, ← pay33_apply, at_r3 m c t P hP, at_h2 m c t P hP]
  rfl

theorem at_df (r : Fin 256) (d : Fin 1024) :
    k0_pay1 (past (grid0.coords t)) (k0_pay35 (b0 m c t) (G0 m c t P) (b6 m c t) (b7 m c t) (b1 m c t)) k0_pay36 (ix2 r d) = (data m c).df (256 * t.val + r.val) d := by
  unfold Data.df
  rw [past_eq]
  have hr := r.isLt
  by_cases h0 : t.val = 0
  · rw [if_pos h0, if_pos (by omega), pay1_zero, pay36_apply]
  · rw [if_neg h0, if_neg (by omega), pay1_one, pay35_apply, at_n3 m c t P hP, blk7, blk1 m c t h0]

theorem at_dy (r : Fin 256) (d : Fin 1024) :
    k0_pay3 (past (grid0.coords t)) (k0_pay35 (b0 m c t) (G0 m c t P) (b6 m c t) (b7 m c t) (b1 m c t)) k0_pay36 (ix2 r d) = (data m c).dy (256 * t.val + r.val) d := by
  rw [pay3_apply, at_df m c t P hP]
  rfl

/-- A point's step: from the sums and carried rows before it to those after it. -/
theorem step (L W : Vec Ideal S1x1024 .f32)
    (hL : ∀ d : Fin 1024, L (ix2 0 d) = ∑ s ∈ Finset.range t.val, (data m c).lossB s d)
    (hW : ∀ d : Fin 1024, W (ix2 0 d) = ∑ s ∈ Finset.range t.val, (data m c).dwfB s d) :
    After (data m c) t.val (ptAt m c t L W P) where
  u := fun d r => (pay11_apply _ _ r d).trans (at_u m c t r d)
  up := fun r q => by
    show ptUp (b0 m c t) (b2 m c t) (b3 m c t) (ix2 r q) = _
    unfold ptUp beside
    by_cases h : q.val < 2816
    · rw [dif_pos (show (ix2 r q (1 : Fin 2)).val < 2816 from h)]
      exact at_up14 m c t r ⟨q.val, h⟩
    · rw [dif_neg (show ¬(ix2 r q (1 : Fin 2)).val < 2816 from h)]
      refine (pay17_apply _ r ⟨q.val - 2816, by omega⟩).trans ((at_up15 m c t r ⟨q.val - 2816, by omega⟩).trans (congrArg _ (Fin.ext ?_)))
      show 2816 + (q.val - 2816) = q.val
      omega
  gg := fun j r => (pay31_apply _ r j).trans (at_gg m c t P hP r j)
  dh := fun r d => by
    refine (pay5_apply _ _ _ _ _ _ r d).trans ?_
    have e1 := fun e => at_dy m c t P hP r e
    have e2 := fun e => at_n3 m c t P hP r e
    have e3 := fun e => blk7 m c t e
    unfold G0 at e1 e2
    simp only [e1, e2, e3]
    exact congrArg (· * _) (at_r3 m c t P hP r)
  loss := fun d => by
    refine (pay2_apply _ _ _ _ d).trans ?_
    rw [Finset.sum_range_succ, hL]
    refine congrArg _ (congrArg (· * _) (Finset.sum_congr rfl fun r _ => ?_))
    exact congrArg₂ (· * ·) (at_df m c t P hP r d) (at_df m c t P hP r d)
  dwf := fun d => by
    refine (pay4_apply _ _ _ _ _ d).trans ?_
    rw [Finset.sum_range_succ, hW]
    refine congrArg _ (Finset.sum_congr rfl fun r _ => ?_)
    exact congrArg₂ (· * ·) (at_dy m c t P hP r d) (at_n3 m c t P hP r d)
  carry := fun q j => by
    refine (pay19_apply (rows 3 (upA (b0 m c t) (b2 m c t) (b3 m c t))) q j).trans ((at_upA_e m c t ⟨64 * 3 + (56 + q.val), by omega⟩ j).trans ?_)
    congr 1
    show 256 * t.val + (8 + (64 * 3 + (56 + q.val))) = 256 * (t.val + 1) + q.val
    omega

end Step

theorem sum_none {n : ℕ} (f : ℕ → EReal) (h : n = 0) : ∑ s ∈ Finset.range n, f s = 0 := by
  subst h
  exact Finset.sum_range_zero f

theorem after_first (c : Dev nD) (t : Fin cfg0.N) (h0 : t.val = 0) : After (data m c) t.val (outsAt0 m c t.val t.isLt) := by
  have e := outs_A m c t (by rw [h0])
  have hP : ∀ (q : Fin 8) (j : Fin 2816), (k0_pay6 (F := Ideal)) (ix2 q j) = (data m c).eA (256 * t.val + q.val) j := by
    intro q j
    refine (pay6_apply q j).trans ?_
    unfold Data.eA
    exact (if_pos (by have := q.isLt; omega)).symm
  have hL : ∀ d : Fin 1024, (k0_pay7 (F := Ideal)) (ix2 0 d) = ∑ s ∈ Finset.range t.val, (data m c).lossB s d :=
    fun d => (pay7_apply d).trans (sum_none _ h0).symm
  have hW : ∀ d : Fin 1024, (k0_pay8 (F := Ideal)) (ix2 0 d) = ∑ s ∈ Finset.range t.val, (data m c).dwfB s d :=
    fun d => (pay8_apply d).trans (sum_none _ h0).symm
  have s := step m c t (k0_pay6 (F := Ideal)) hP (k0_pay7 (F := Ideal)) (k0_pay8 (F := Ideal)) hL hW
  exact After.of_eq e s

theorem after_next (c : Dev nD) (t : Fin cfg0.N) (h0 : t.val ≠ 0)
    (ih : After (data m c) (t.val - 1) (outsAt0 m c (t.val - 1) (Nat.lt_of_le_of_lt (Nat.sub_le _ _) t.isLt))) :
    After (data m c) t.val (outsAt0 m c t.val t.isLt) := by
  have ht : t.val < 33 := t_lt t
  have hs : t.val - 1 + 1 = t.val := by omega
  have e := outs_B m c t (by omega)
  refine After.of_eq e (step m c t _ (fun q j => ?_) _ _ (fun d => ?_) (fun d => ?_))
  · exact (ih.carry q j).trans (by rw [hs])
  · exact (ih.loss d).trans (by rw [hs])
  · exact (ih.dwf d).trans (by rw [hs])

/-- After every point. -/
theorem after (c : Dev nD) (n : ℕ) : ∀ hn : n < cfg0.N, After (data m c) n (outsAt0 m c n hn) := by
  induction n with
  | zero => exact fun hn => after_first m c ⟨0, hn⟩ rfl
  | succ n ih => exact fun hn => after_next m c ⟨n + 1, hn⟩ (Nat.succ_ne_zero n) (ih (Nat.lt_of_succ_lt hn))

end Cert.FfnFwdIdeal.Fwd

end
-- ==== Proof.Fwd.Arrays.lean ====
module

public import proofs.«01_k».proof.Proof.Fwd.Sweep
public import proofs.«01_k».proof.Proof.Gen.FfnFwdIdeal.Value

/-! The feed-forward forward's six result arrays, index by index. -/

@[expose] public section

set_option maxRecDepth 16384

noncomputable section

namespace Cert.FfnFwdIdeal.Fwd

open Cert.FfnFwdIdeal Cert.FfnFwdIdeal.Gen Cert.FfnFwdIdeal.Value
open Idealize.ShloMosaic Idealize.ShloMosaic.TcCoe Idealize.SL.Sem

variable (m : (ℓ : Loc nD τ sig) → Buf (Elt Ideal) ℓ)

/-- The six results of device `c`, index by index. -/
def R8 (c : Dev nD) : Vec Ideal S1024x8448 .bf16 := fun i => (data m c).u (i 1).val (i 0)
def R9 (c : Dev nD) : Vec Ideal S8448x5632 .bf16 := fun i => (data m c).up (i 0).val (i 1)
def R10 (c : Dev nD) : Vec Ideal S2816x8448 .bf16 := fun i => (data m c).gg (i 1).val (i 0)
def R11 (c : Dev nD) : Vec Ideal S8448x1024 .f32 := fun i => (data m c).dh (i 0).val (i 1)
def R12 (c : Dev nD) : Vec Ideal S1x1024 .f32 := fun i => ∑ s ∈ Finset.range 33, (data m c).lossB s (i 1)
def R13 (c : Dev nD) : Vec Ideal S1x1024 .f32 := fun i => ∑ s ∈ Finset.range 33, (data m c).dwfB s (i 1)

theorem eq_row {n : ℕ} (y : (⟨2, ![1, n]⟩ : Shape).Idx) : y = ix2 0 (y 1) := by
  funext a
  match a with
  | ⟨0, _⟩ => exact Subsingleton.elim (α := Fin 1) _ _
  | ⟨1, _⟩ => rfl

theorem arr8 (c : Dev nD) : G8 m c = R8 m c := by
  refine funext fun (i : S1024x8448.Idx) => ?_
  have h0 : (i 0).val < 1024 := (i 0).isLt
  have h1 : (i 1).val < 8448 := (i 1).isLt
  have hp : pt8Of i = (i 1).val / 256 := by
    show 33 * ((i 0).val / 1024 - 0) + 1 * ((i 1).val / 256 - 0) = _
    omega
  have h : pt8Of i < cfg0.N := lt_of_lt_of_eq (show pt8Of i < 33 by rw [hp]; omega) N_0.symm
  unfold G8
  rw [dif_pos h, ← outsAt0_sweep m c _ h]
  refine (congrArg _ (eq_ix2 (n0 := 1024) (n1 := 256) (loc8Of i))).trans (((after m c _ h).u _ _).trans (congrArg₂ (data m c).u ?_ (Fin.ext ?_)))
  · show 256 * pt8Of i + (i 1).val % 256 = (i 1).val
    rw [hp]; omega
  · exact Nat.mod_eq_of_lt h0

theorem arr9 (c : Dev nD) : G9 m c = R9 m c := by
  refine funext fun (i : S8448x5632.Idx) => ?_
  have h0 : (i 0).val < 8448 := (i 0).isLt
  have h1 : (i 1).val < 5632 := (i 1).isLt
  have hp : pt9Of i = (i 0).val / 256 := by
    show 1 * ((i 0).val / 256 - 0) + 1 * ((i 1).val / 5632 - 0) = _
    omega
  have h : pt9Of i < cfg0.N := lt_of_lt_of_eq (show pt9Of i < 33 by rw [hp]; omega) N_0.symm
  unfold G9
  rw [dif_pos h, ← outsAt0_sweep m c _ h]
  refine (congrArg _ (eq_ix2 (n0 := 256) (n1 := 5632) (loc9Of i))).trans (((after m c _ h).up _ _).trans (congrArg₂ (data m c).up ?_ (Fin.ext ?_)))
  · show 256 * pt9Of i + (i 0).val % 256 = (i 0).val
    rw [hp]; omega
  · exact Nat.mod_eq_of_lt h1

theorem arr10 (c : Dev nD) : G10 m c = R10 m c := by
  refine funext fun (i : S2816x8448.Idx) => ?_
  have h0 : (i 0).val < 2816 := (i 0).isLt
  have h1 : (i 1).val < 8448 := (i 1).isLt
  have hp : pt10Of i = (i 1).val / 256 := by
    show 33 * ((i 0).val / 2816 - 0) + 1 * ((i 1).val / 256 - 0) = _
    omega
  have h : pt10Of i < cfg0.N := lt_of_lt_of_eq (show pt10Of i < 33 by rw [hp]; omega) N_0.symm
  unfold G10
  rw [dif_pos h, ← outsAt0_sweep m c _ h]
  refine (congrArg _ (eq_ix2 (n0 := 2816) (n1 := 256) (loc10Of i))).trans (((after m c _ h).gg _ _).trans (congrArg₂ (data m c).gg ?_ (Fin.ext ?_)))
  · show 256 * pt10Of i + (i 1).val % 256 = (i 1).val
    rw [hp]; omega
  · exact Nat.mod_eq_of_lt h0

theorem arr11 (c : Dev nD) : G11 m c = R11 m c := by
  refine funext fun (i : S8448x1024.Idx) => ?_
  have h0 : (i 0).val < 8448 := (i 0).isLt
  have h1 : (i 1).val < 1024 := (i 1).isLt
  have hp : pt11Of i = (i 0).val / 256 := by
    show 1 * ((i 0).val / 256 - 0) + 1 * ((i 1).val / 1024 - 0) = _
    omega
  have h : pt11Of i < cfg0.N := lt_of_lt_of_eq (show pt11Of i < 33 by rw [hp]; omega) N_0.symm
  unfold G11
  rw [dif_pos h, ← outsAt0_sweep m c _ h]
  refine (congrArg _ (eq_ix2 (n0 := 256) (n1 := 1024) (loc11Of i))).trans (((after m c _ h).dh _ _).trans (congrArg₂ (data m c).dh ?_ (Fin.ext ?_)))
  · show 256 * pt11Of i + (i 0).val % 256 = (i 0).val
    rw [hp]; omega
  · exact Nat.mod_eq_of_lt h1

theorem lt32 : 32 < cfg0.N := lt_of_lt_of_eq (by decide) N_0.symm

theorem arr12 (c : Dev nD) : G12 m c = R12 m c := by
  rw [G12_last, ← outsAt0_sweep m c 32 lt32]
  refine funext fun (i : S1x1024.Idx) => ?_
  exact (congrArg _ (eq_row (n := 1024) i)).trans ((after m c 32 lt32).loss (i 1))

theorem arr13 (c : Dev nD) : G13 m c = R13 m c := by
  rw [G13_last, ← outsAt0_sweep m c 32 lt32]
  refine funext fun (i : S1x1024.Idx) => ?_
  exact (congrArg _ (eq_row (n := 1024) i)).trans ((after m c 32 lt32).dwf (i 1))

end Cert.FfnFwdIdeal.Fwd

end
-- ==== Proof.Fwd.Algebra.lean ====
module

public import proofs.«01_k».proof.Proof.Fwd.Data
public import proofs.«01_k».proof.Proof.Ffn.Algebra

/-! The feed-forward forward's values on real operands: the kernel's spelling against the reference's. -/

@[expose] public section

set_option maxRecDepth 16384

noncomputable section

namespace Cert.FfnFwdIdeal.Fwd

open Idealize.ShloMosaic
open Cert.KernelIdeal.Ffn (gConv gSig gR)
open Cert.ReferenceIdeal.Ffn (Re Re.zero Re.add Re.mul Re.sum Re.gR Re.coe rSig rV coe_sum half_eq one_eq width_eq div_coe gSig_coe rSig_coe norm_back)

theorem inv_width_eq : Ideal.ofBits FTy.f32 0x3A800000#32 = ((1 / 1024 : ℝ) : EReal) := by
  simp [Ideal.ofBits, Ideal.ieee, -EReal.coe_mul]; norm_num
theorem inv_twice_eq : Ideal.ofBits FTy.f32 0x3A000000#32 = ((1 / 2048 : ℝ) : EReal) := by
  simp [Ideal.ofBits, Ideal.ieee, -EReal.coe_mul]; norm_num
theorem two_eq : Ideal.ofBits FTy.f32 0x40000000#32 = ((2 : ℝ) : EReal) := by
  simp [Ideal.ofBits, Ideal.ieee, -EReal.coe_mul]; norm_num

theorem Re.sub {x y : EReal} : Re x → Re y → Re (x - y)
  | ⟨a, ha⟩, ⟨b, hb⟩ => ⟨a - b, by rw [ha, hb, EReal.coe_sub]⟩

theorem gate_eq (x v : EReal) (hx : Re x) : x * rSig x * v = gGate x v := by
  obtain ⟨x, rfl⟩ := hx
  unfold gGate
  rw [gSig_coe, rSig_coe]

theorem Re.gate {x v : EReal} (hx : Re x) (hv : Re v) : Re (gGate x v) := by
  obtain ⟨x, rfl⟩ := hx
  unfold gGate
  rw [gSig_coe]
  exact ((Re.coe _).mul (Re.coe _)).mul hv

/-- The loss's gradient: the two spellings of its constant. -/
theorem dy_eq (x : EReal) (hx : Re x) :
    Ideal.div (Ideal.ofBits FTy.f32 0x3F000000#32) (Ideal.ofBits FTy.f32 0x44800000#32) * (Ideal.ofBits FTy.f32 0x40000000#32 * x)
      = x * Ideal.ofBits FTy.f32 0x3A800000#32 := by
  obtain ⟨x, rfl⟩ := hx
  rw [half_eq, width_eq, two_eq, inv_width_eq, div_coe _ _ (by norm_num)]
  simp only [← EReal.coe_mul]
  congr 1
  ring

/-- A sum over blocks of rows is the sum over the rows. -/
theorem sum_rows {M : Type} [AddCommMonoid M] (n B : ℕ) (g : ℕ → M) :
    ∑ s ∈ Finset.range B, ∑ r : Fin n, g (n * s + r.val) = ∑ N ∈ Finset.range (n * B), g N := by
  induction B with
  | zero => simp
  | succ B ih =>
    rw [Finset.sum_range_succ, ih, Nat.mul_succ, Finset.sum_range_add, Fin.sum_univ_eq_sum_range (fun r => g (n * B + r))]

/-- All the operands are real. -/
structure AllRe (D : Data) : Prop where
  h : ∀ N d, Re (D.h N d)
  tg : ∀ N d, Re (D.tg N d)
  wn : ∀ d, Re (D.wn d)
  wu : ∀ d q, Re (D.wu d q)
  cw : ∀ k j, Re (D.cw k j)
  cb : ∀ j, Re (D.cb j)
  wd : ∀ j d, Re (D.wd j d)
  wf : ∀ d, Re (D.wf d)

variable {D : Data} (R : AllRe D)
include R

theorem re_u (N : ℕ) (d : Fin 1024) : Re (D.u N d) := ((R.h N d).mul (Re.gR (R.h N))).mul (R.wn d)
theorem re_up (N : ℕ) (q : Fin 5632) : Re (D.up N q) := Re.sum _ _ fun e => (re_u R N e).mul (R.wu e q)
theorem re_eA (N : ℕ) (j : Fin 2816) : Re (D.eA N j) := by
  unfold Data.eA
  split
  · exact Re.zero
  · exact re_up R _ _
theorem re_conv (N : ℕ) (j : Fin 2816) : Re (D.conv N j) :=
  (((R.cw 0 j).mul (re_eA R (N + 6) j)).add ((R.cw 1 j).mul (re_eA R (N + 7) j))).add ((R.cw 2 j).mul (re_eA R (N + 8) j)) |>.add (R.cb j)
theorem re_gg (N : ℕ) (j : Fin 2816) : Re (D.gg N j) := Re.gate (re_conv R N j) (re_up R N _)
theorem re_h2 (N : ℕ) (d : Fin 1024) : Re (D.h2 N d) := (R.h N d).add (Re.sum _ _ fun j => (re_gg R N j).mul (R.wd j d))
theorem re_n3 (N : ℕ) (d : Fin 1024) : Re (D.n3 N d) := (re_h2 R N d).mul (Re.gR (re_h2 R N))
theorem re_df (N : ℕ) (d : Fin 1024) : Re (D.df N d) := by
  unfold Data.df
  split
  · exact Re.zero
  · exact Re.sub ((re_n3 R N d).mul (R.wf d)) (R.tg _ d)
theorem re_dy (N : ℕ) (d : Fin 1024) : Re (D.dy N d) := (re_df R N d).mul (inv_width_eq ▸ Re.coe _)

/-- The residual stream's gradient, as the reference spells it. -/
theorem dh_eq (N : ℕ) (d : Fin 1024) (μ : EReal)
    (hμ : μ = Ideal.div ((∑ e, D.h2 N e * (D.dy N e * D.wf e)) * (Ideal.ofBits FTy.f32 3204448256#32 * Ideal.div (gR (D.h2 N)) (rV (D.h2 N)))) (Ideal.ofBits FTy.f32 1149239296#32)) :
    (D.dy N d * D.wf d * gR (D.h2 N) + D.h2 N d * μ) + μ * D.h2 N d = D.dh N d := by
  have e := norm_back (D.dy N) (D.h2 N) D.wf 0 (re_dy R N) (re_h2 R N) R.wf Re.zero d μ hμ
  rw [zero_add, zero_add] at e
  exact e

/-- The loss by column: the kernel's blocks against the reference's one sum. -/
theorem loss_eq (d : Fin 1024) :
    Ideal.ofBits FTy.f32 0x3F000000#32 * ∑ K : Fin 8192, Ideal.div (D.df (K.val + 256) d * D.df (K.val + 256) d) (Ideal.ofBits FTy.f32 0x44800000#32)
      = ∑ s ∈ Finset.range 33, D.lossB s d := by
  have hf := fun N => re_df R N d
  choose f hf using hf
  have hz : ∀ N, N < 256 → f N = 0 := by
    intro N hN
    have e := hf N
    unfold Data.df at e
    rw [if_pos hN] at e
    exact_mod_cast e.symm
  unfold Data.lossB
  simp only [hf]
  rw [half_eq, width_eq, inv_twice_eq]
  simp only [← EReal.coe_mul, ← coe_sum]
  simp only [div_coe _ _ (show (1024 : ℝ) ≠ 0 by norm_num)]
  simp only [← EReal.coe_mul, ← coe_sum]
  congr 1
  rw [← Finset.sum_mul, sum_rows 256 33 (fun N => f N * f N), show 256 * 33 = 256 + 8192 from rfl, Finset.sum_range_add,
    Finset.sum_eq_zero (s := Finset.range 256) (fun N hN => by rw [hz N (Finset.mem_range.mp hN), mul_zero]), zero_add,
    Fin.sum_univ_eq_sum_range (fun K => f (K + 256) * f (K + 256) / 1024) 8192, ← Finset.sum_div]
  simp only [add_comm 256]
  ring

omit R in
/-- The final norm weight's gradient: blocks against one sum. -/
theorem dwf_eq (d : Fin 1024) : ∑ N : Fin 8448, D.n3 N.val d * D.dy N.val d = ∑ s ∈ Finset.range 33, D.dwfB s d := by
  unfold Data.dwfB
  rw [sum_rows 256 33 (fun N => D.dy N d * D.n3 N d), Finset.sum_range]
  exact Finset.sum_congr rfl fun N _ => mul_comm _ _

end Cert.FfnFwdIdeal.Fwd

end
-- ==== Proof.Fwd.Ref.lean ====
module

public import proofs.«01_k».proof.Proof.Gen.FfnFwdRefIdeal.Run
public import proofs.«01_k».proof.Proof.Fwd.Algebra
public import Idealize.ShloMosaic.Lib.IdealHost
public import Idealize.ShloMosaic.Lib.Pointwise

/-! The reference's results of the feed-forward forward, index by index. -/

@[expose] public section

set_option maxRecDepth 16384

noncomputable section

namespace Cert.FfnFwdRefIdeal.Fwd

open Cert.FfnFwdRefIdeal Cert.FfnFwdRefIdeal.Gen Cert.FfnFwdRefIdeal.Value
open Idealize.ShloMosaic Idealize.ShloMosaic.TcCoe Idealize.SL.Sem Idealize.ShloMosaic.StableHlo
open Cert.KernelIdeal.Ffn (gConv gR)
open Cert.ReferenceIdeal.Ffn (Re rSig rV rowR rowR_eq)
open Cert.FfnFwdIdeal.Fwd (Data AllRe gGate gate_eq re_conv re_df dy_eq dh_eq loss_eq dwf_eq)

/-- A row of the target, zero past its end. -/
def rowS (X : Vec Ideal S8192x1024 .f32) (N : ℕ) (d : Fin 1024) : EReal := if h : N < 8192 then X (ix2 ⟨N, h⟩ d) else 0

theorem rowS_eq (X : Vec Ideal S8192x1024 .f32) (N : Fin 8192) (d : Fin 1024) : rowS X N.val d = X (ix2 N d) := dif_pos N.isLt

variable (V0 : Valuation τ sig (Elt Ideal))

abbrev aH : Vec Ideal S8448x1024 .f32 := V0 (Proc.devRef .tc main_arg0)
abbrev aTg : Vec Ideal S8192x1024 .f32 := V0 (Proc.devRef .tc main_arg1)
abbrev aWn : Vec Ideal S1x1024 .f32 := V0 (Proc.devRef .tc main_arg2)
abbrev aWu : Vec Ideal S1024x5632 .f32 := V0 (Proc.devRef .tc main_arg3)
abbrev aCw : Vec Ideal S3x2816 .f32 := V0 (Proc.devRef .tc main_arg4)
abbrev aCb : Vec Ideal S1x2816 .f32 := V0 (Proc.devRef .tc main_arg5)
abbrev aWd : Vec Ideal S2816x1024 .f32 := V0 (Proc.devRef .tc main_arg6)
abbrev aWf : Vec Ideal S1x1024 .f32 := V0 (Proc.devRef .tc main_arg7)

abbrev aN3 : Vec Ideal S8448x1024 .f32 := res_main_v55 V0

/-- The reference's operands. -/
def rdata : Data where
  h := rowR (aH V0)
  tg := rowS (aTg V0)
  wn := fun d => aWn V0 (ix2 0 d)
  wu := fun d q => aWu V0 (ix2 d q)
  cw := fun k j => aCw V0 (ix2 k j)
  cb := fun j => aCb V0 (ix2 0 j)
  wd := fun j d => aWd V0 (ix2 j d)
  wf := fun d => aWf V0 (ix2 0 d)

theorem v11_apply (N : Fin 8448) (d : Fin 1024) : (res_main_v11 V0 : Vec Ideal S8448x1024 .f32) (ix2 N d) = (rdata V0).u N.val d := by
  unfold Data.u
  rw [show (rdata V0).h N.val = fun e => aH V0 (ix2 N e) from funext fun e => rowR_eq (aH V0) N e]
  unfold res_main_v11 gR rdata
  pointwise

theorem v12_apply (N : Fin 8448) (q : Fin 5632) : (res_main_v12 V0 : Vec Ideal S8448x5632 .f32) (ix2 N q) = (rdata V0).up N.val q := by
  unfold Data.up
  simp only [← v11_apply V0 N]
  unfold res_main_v12 rdata
  generalize res_main_v11 V0 = X
  pointwise

theorem v15_apply (M : Fin 8450) (j : Fin 2816) : (res_main_v15 V0 : Vec Ideal S8450x2816 .f32) (ix2 M j) = (rdata V0).eA (M.val + 6) j := by
  have hM := M.isLt
  have e := fun N q => v12_apply V0 N q
  unfold res_main_v15 Data.eA
  generalize res_main_v12 V0 = X at *
  pointwise
  by_cases h : M.val < 2
  · rw [dif_pos h, if_pos (by omega)]
  · rw [dif_neg h]
    refine (e ⟨M.val - 2, by omega⟩ ⟨j.val, by omega⟩).trans (Eq.trans (congrArg₂ (rdata V0).up ?_ rfl) (if_neg (show ¬M.val + 6 < 8 by omega)).symm)
    show M.val - 2 = M.val + 6 - 8
    omega

theorem v37_apply (N : Fin 8448) (j : Fin 2816) : (res_main_v37 V0 : Vec Ideal S8448x2816 .f32) (ix2 N j) = (rdata V0).conv N.val j := by
  have e0 := v15_apply V0 ⟨N.val, by omega⟩ j
  have e1 := v15_apply V0 ⟨1 + N.val, by omega⟩ j
  have e2 := v15_apply V0 ⟨2 + N.val, by omega⟩ j
  unfold Data.conv gConv
  rw [show N.val + 7 = 1 + N.val + 6 by omega, show N.val + 8 = 2 + N.val + 6 by omega, ← e0, ← e1, ← e2]
  clear e0 e1 e2
  unfold res_main_v37 rdata
  generalize res_main_v15 V0 = X
  pointwise

section
variable {V0} (R : AllRe (rdata V0))
include R

theorem v40_apply (N : Fin 8448) (j : Fin 2816) : (res_main_v40 V0 : Vec Ideal S8448x2816 .f32) (ix2 N j) = (rdata V0).gg N.val j := by
  unfold Data.gg
  rw [← gate_eq _ _ (re_conv R N.val j), ← v37_apply V0 N j, ← v12_apply V0 N]
  unfold res_main_v40 rSig
  generalize res_main_v37 V0 = X
  generalize res_main_v12 V0 = Y
  pointwise

theorem v42_apply (N : Fin 8448) (d : Fin 1024) : (res_main_v42 V0 : Vec Ideal S8448x1024 .f32) (ix2 N d) = (rdata V0).h2 N.val d := by
  unfold Data.h2
  simp only [← v40_apply R N]
  rw [show (rdata V0).h N.val d = aH V0 (ix2 N d) from rowR_eq (aH V0) N d]
  unfold res_main_v42 rdata
  generalize res_main_v40 V0 = X
  pointwise

theorem h2_row (N : Fin 8448) : (rdata V0).h2 N.val = fun e => (res_main_v42 V0 : Vec Ideal S8448x1024 .f32) (ix2 N e) := funext fun e => (v42_apply R N e).symm

theorem v49_apply (N : Fin 8448) : (res_main_v49 V0 : Vec Ideal S8448x1 .f32) (ix2 N 0) = rV ((rdata V0).h2 N.val) := by
  rw [h2_row R N]
  unfold res_main_v49 rV
  generalize res_main_v42 V0 = X
  pointwise

theorem v50_apply (N : Fin 8448) : (res_main_v50 V0 : Vec Ideal S8448x1 .f32) (ix2 N 0) = gR ((rdata V0).h2 N.val) := by
  rw [h2_row R N]
  unfold res_main_v50 res_main_v49 gR
  generalize res_main_v42 V0 = X
  pointwise

theorem v55_apply (N : Fin 8448) (d : Fin 1024) : (res_main_v55 V0 : Vec Ideal S8448x1024 .f32) (ix2 N d) = (rdata V0).n3 N.val d := by
  unfold Data.n3
  rw [← v50_apply R N, ← v42_apply R N d]
  unfold res_main_v55
  generalize res_main_v42 V0 = X
  generalize res_main_v50 V0 = Y
  pointwise

theorem df_late (K : Fin 8192) (d : Fin 1024) : (rdata V0).df (K.val + 256) d
    = (aN3 V0 (ix2 ⟨256 + K.val, by omega⟩ d)) * aWf V0 (ix2 0 d) - aTg V0 (ix2 K d) := by
  unfold Data.df
  rw [if_neg (by omega), Nat.add_sub_cancel, show (rdata V0).tg K.val d = aTg V0 (ix2 K d) from rowS_eq (aTg V0) K d, Nat.add_comm K.val 256]
  exact congrArg (· * _ - _) (v55_apply R ⟨256 + K.val, by omega⟩ d).symm

theorem v59_apply (K : Fin 8192) (d : Fin 1024) : (res_main_v59 V0 : Vec Ideal S8192x1024 .f32) (ix2 K d) = (rdata V0).df (K.val + 256) d := by
  rw [df_late R]
  unfold res_main_v59
  unfold aN3
  generalize res_main_v55 V0 = X
  pointwise

theorem v107_apply (K : Fin 8192) (d : Fin 1024) : (res_main_v107 V0 : Vec Ideal S8192x1024 .f32) (ix2 K d) = (rdata V0).df (K.val + 256) d := by
  rw [← v59_apply R]
  rfl

theorem v74_apply (N : Fin 8448) (d : Fin 1024) : (res_main_v74 V0 : Vec Ideal S8448x1024 .f32) (ix2 N d) = (rdata V0).dy N.val d := by
  have hN := N.isLt
  have e := fun K => v59_apply R K d
  unfold res_main_v74 Data.dy
  generalize res_main_v59 V0 = X at *
  pointwise
  by_cases h : N.val < 256
  · rw [dif_neg (by omega)]
    unfold Data.df
    rw [if_pos h, zero_mul]
  · rw [dif_pos ⟨by omega, by omega⟩, e]
    rw [show (⟨N.val - 256, by omega⟩ : Fin 8192).val + 256 = N.val from Nat.sub_add_cancel (by omega)]
    exact dy_eq _ (re_df R N.val d)

theorem v79_apply (N : Fin 8448) (d : Fin 1024) : (res_main_v79 V0 : Vec Ideal S8448x1024 .f32) (ix2 N d) = (rdata V0).dy N.val d * (rdata V0).wf d := by
  rw [← v74_apply R N d]
  unfold res_main_v79 rdata
  generalize res_main_v74 V0 = X
  pointwise

/-- The correction to the norm's gradient, on a row. -/
def rMu (D : Data) (N : ℕ) : EReal :=
  Ideal.div ((∑ e, D.h2 N e * (D.dy N e * D.wf e)) * (Ideal.ofBits FTy.f32 3204448256#32 * Ideal.div (gR (D.h2 N)) (rV (D.h2 N)))) (Ideal.ofBits FTy.f32 1149239296#32)

theorem v89_apply (N : Fin 8448) (d : Fin 1024) : (res_main_v89 V0 : Vec Ideal S8448x1024 .f32) (ix2 N d) = rMu (rdata V0) N.val := by
  unfold rMu
  rw [← v49_apply R, ← v50_apply R]
  simp only [← v79_apply R, ← v42_apply R]
  unfold res_main_v89
  generalize res_main_v79 V0 = X
  generalize res_main_v42 V0 = X
  generalize res_main_v49 V0 = X
  generalize res_main_v50 V0 = X
  pointwise
  exact Fin.sum_univ_one (M := EReal) _

/-! The six results. -/

theorem r0_apply (d : Fin 1024) (N : Fin 8448) :
    (truncf .bf16 (transpose S1024x8448 [1, 0] (res_main_v11 V0) transposes_S8448x1024_S1024x8448_1_0) bitsLt_bf16_f32 : FVec Ideal S1024x8448 .bf16) (ix2 d N) = (rdata V0).u N.val d := by
  rw [← v11_apply]
  generalize res_main_v11 V0 = X
  pointwise

theorem r1_apply (N : Fin 8448) (q : Fin 5632) :
    (truncf .bf16 (res_main_v12 V0) bitsLt_bf16_f32 : FVec Ideal S8448x5632 .bf16) (ix2 N q) = (rdata V0).up N.val q := v12_apply V0 N q

theorem r2_apply (j : Fin 2816) (N : Fin 8448) :
    (truncf .bf16 (transpose S2816x8448 [1, 0] (res_main_v40 V0) transposes_S8448x2816_S2816x8448_1_0) bitsLt_bf16_f32 : FVec Ideal S2816x8448 .bf16) (ix2 j N) = (rdata V0).gg N.val j := by
  rw [← v40_apply R]
  generalize res_main_v40 V0 = X
  pointwise

theorem r3_apply (N : Fin 8448) (d : Fin 1024) :
    (addf (addf (mulf (res_main_v79 V0) (broadcastInDim S8448x1024 ![0, 1] bcast_S8448x1_S8448x1024_0_1 (res_main_v50 V0))) (mulf (res_main_v42 V0) (res_main_v89 V0))) (mulf (res_main_v89 V0) (res_main_v42 V0)) : FVec Ideal S8448x1024 .f32) (ix2 N d)
      = (rdata V0).dh N.val d := by
  rw [← dh_eq R N.val d (rMu (rdata V0) N.val) rfl, ← v79_apply R N d, ← v50_apply R N, ← v89_apply R N d, ← v42_apply R N d]
  generalize res_main_v79 V0 = X
  generalize res_main_v50 V0 = X
  generalize res_main_v42 V0 = X
  generalize res_main_v89 V0 = X
  pointwise

theorem r4_apply (d : Fin 1024) :
    (mulf (broadcastInDim S1x1024 ![] bcast_S_S1x1024 (constant S_ .f32 0x3F000000#32)) (broadcastInDim S1x1024 ![1] bcast_S1024_S1x1024_1 (Host.reduceAdd (Host.divf (mulf (res_main_v107 V0) (res_main_v107 V0)) (broadcastInDim S8192x1024 ![] bcast_S_S8192x1024 (constant S_ .f32 0x44800000#32))) (constant S_ .f32 0x00000000#32) reducesTo_S8192x1024_S1024_d0 h_S_)) : FVec Ideal S1x1024 .f32) (ix2 0 d)
      = ∑ s ∈ Finset.range 33, (rdata V0).lossB s d := by
  rw [← loss_eq R d]
  simp only [← v107_apply R]
  generalize res_main_v107 V0 = X
  pointwise

theorem r5_apply (d : Fin 1024) :
    (shapeCast S1x1024 (Host.reduceAdd (mulf (res_main_v55 V0) (res_main_v74 V0)) (constant S_ .f32 0x00000000#32) reducesTo_S8448x1024_S1024_d0 h_S_) shapeCasts_S1024_S1x1024 : FVec Ideal S1x1024 .f32) (ix2 0 d)
      = ∑ s ∈ Finset.range 33, (rdata V0).dwfB s d := by
  rw [← dwf_eq d]
  simp only [← v55_apply R, ← v74_apply R]
  generalize res_main_v55 V0 = X
  generalize res_main_v74 V0 = X
  pointwise

end

end Cert.FfnFwdRefIdeal.Fwd

end
-- ==== Proof.Fwd.Finite.lean ====
module

public import proofs.«01_k».proof.Defs
public import proofs.«01_k».proof.Proof.Ffn.Finite
public import Idealize.ShloMosaic.Lib.Decide

/-! The precondition of the feed-forward forward call read: every element of the call's arguments is a real. -/

@[expose] public section

set_option maxRecDepth 16384

noncomputable section

namespace Cert.Pre_finite_fwd.Read

open Cert.Pre_finite_fwd
open Idealize.ShloMosaic
open Cert.ReferenceIdeal.Ffn (Re)

theorem h_one : 0 < S_.numel := by decide

/-- The side conditions the condition's operations state. -/
instance facts : Facts where
  bcast_S_S8448x1024 := by decide
  reducesTo_S8448x1024_S_d0_1 := by decide
  h_S_ := h_one
  bcast_S_S8192x1024 := by decide
  reducesTo_S8192x1024_S_d0_1 := by decide
  bcast_S_S1x1024 := by decide
  reducesTo_S1x1024_S_d0_1 := by decide
  bcast_S_S1024x5632 := by decide
  reducesTo_S1024x5632_S_d0_1 := by decide
  bcast_S_S3x2816 := by decide
  reducesTo_S3x2816_S_d0_1 := by decide
  bcast_S_S1x2816 := by decide
  reducesTo_S1x2816_S_d0_1 := by decide
  bcast_S_S2816x1024 := by decide
  reducesTo_S2816x1024_S_d0_1 := by decide

/-- One argument's conjunct: a conjunction over all its elements. -/
theorem re_of_all {S : Shape} (a : FVec Ideal S .f32) (hb : S_.BroadcastsInDim S (![] : Fin 0 → Fin S.rank)) {axes : List (Fin S.rank)} (hr : S.ReducesTo axes S_) (h1 : 0 < S_.numel) (j : S_.Idx)
    (h : Host.reduce IntOp.andi (cmpf .olt (Host.absf a) (broadcastInDim S ![] hb (constant S_ .f32 0x7F800000#32))) (constantI S_ 1 1#1) hr h1 j = 1#1) (i : S.Idx) : Re (a i) :=
  haveI : Subsingleton S_.Idx := ⟨fun a b => funext fun k => k.elim0⟩
  Cert.Pre_finite.Read.re_of_lt (Host.reduce_andi_all _ _ hr h1 j h i)

theorem all_re (a0 : FVec Ideal S8448x1024 .f32) (a1 : FVec Ideal S8192x1024 .f32) (a2 : FVec Ideal S1x1024 .f32) (a3 : FVec Ideal S1024x5632 .f32) (a4 : FVec Ideal S3x2816 .f32) (a5 : FVec Ideal S1x2816 .f32) (a6 : FVec Ideal S2816x1024 .f32) (a7 : FVec Ideal S1x1024 .f32)
    (h : fn (F := Ideal) a0 a1 a2 a3 a4 a5 a6 a7 = fun _ => 1#1) :
    (∀ i, Re (a0 i)) ∧ (∀ i, Re (a1 i)) ∧ (∀ i, Re (a2 i)) ∧ (∀ i, Re (a3 i)) ∧ (∀ i, Re (a4 i)) ∧ (∀ i, Re (a5 i)) ∧ (∀ i, Re (a6 i)) ∧ (∀ i, Re (a7 i)) := by
  have h0 := congrFun h (Shape.Idx.first h_one)
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨re_of_all a0 _ _ _ (Shape.Idx.first h_one) h0, re_of_all a1 _ _ _ (Shape.Idx.first h_one) h1, re_of_all a2 _ _ _ (Shape.Idx.first h_one) h2, re_of_all a3 _ _ _ (Shape.Idx.first h_one) h3,
    re_of_all a4 _ _ _ (Shape.Idx.first h_one) h4, re_of_all a5 _ _ _ (Shape.Idx.first h_one) h5, re_of_all a6 _ _ _ (Shape.Idx.first h_one) h6, re_of_all a7 _ _ _ (Shape.Idx.first h_one) h7⟩

end Cert.Pre_finite_fwd.Read

end
-- ==== Proof.Fwd.Claim.lean ====
module

public import proofs.«01_k».proof.Proof.Fwd.Arrays
public import proofs.«01_k».proof.Proof.Fwd.Ref
public import proofs.«01_k».proof.Proof.Fwd.Finite

/-! The feed-forward forward kernel ends with the reference's values. -/

@[expose] public section

set_option maxRecDepth 16384

noncomputable section

namespace Cert.FfnFwdRefIdeal.Fwd

open Cert.FfnFwdRefIdeal Cert.FfnFwdRefIdeal.Gen Cert.FfnFwdRefIdeal.Value
open Idealize.ShloMosaic Idealize.ShloMosaic.TcCoe Idealize.SL.Sem Idealize.ShloMosaic.StableHlo
open Cert.ReferenceIdeal.Ffn (Re rowR)
open Cert.FfnFwdIdeal.Fwd (Data AllRe)

variable (V0 : Valuation τ sig (Elt Ideal))

theorem re_rowR {n : ℕ} (X : Vec Ideal ⟨2, ![8448, n]⟩ .f32) (h : ∀ i, Re (X i)) (N : ℕ) (d : Fin n) : Re (rowR X N d) := by
  unfold rowR
  split
  · exact h _
  · exact Cert.ReferenceIdeal.Ffn.Re.zero

theorem re_rowS (X : Vec Ideal S8192x1024 .f32) (h : ∀ i, Re (X i)) (N : ℕ) (d : Fin 1024) : Re (rowS X N d) := by
  unfold rowS
  split
  · exact h _
  · exact Cert.ReferenceIdeal.Ffn.Re.zero

/-- Real arguments make every operand real. -/
theorem allRe (h0 : ∀ i, Re (aH V0 i)) (h1 : ∀ i, Re (aTg V0 i)) (h2 : ∀ i, Re (aWn V0 i)) (h3 : ∀ i, Re (aWu V0 i)) (h4 : ∀ i, Re (aCw V0 i)) (h5 : ∀ i, Re (aCb V0 i)) (h6 : ∀ i, Re (aWd V0 i)) (h7 : ∀ i, Re (aWf V0 i)) :
    AllRe (rdata V0) where
  h := re_rowR _ h0
  tg := re_rowS _ h1
  wn := fun _ => h2 _
  wu := fun _ _ => h3 _
  cw := fun _ _ => h4 _
  cb := fun _ => h5 _
  wd := fun _ _ => h6 _
  wf := fun _ => h7 _

end Cert.FfnFwdRefIdeal.Fwd

namespace Cert.Proof

open Cert.FfnFwdRefIdeal Cert.FfnFwdRefIdeal.Gen Cert.FfnFwdRefIdeal.Value
open Idealize.ShloMosaic Idealize.ShloMosaic.TcCoe Idealize.SL.Sem Idealize.ShloMosaic.StableHlo
open Cert.FfnFwdIdeal.Fwd (Data AllRe R8 R9 R10 R11 R12 R13 data eq_row)
open Cert.FfnFwdRefIdeal.Fwd

section Agree
variable (m : (ℓ : Loc FfnFwdIdeal.nD FfnFwdIdeal.τ FfnFwdIdeal.sig) → Buf (Elt Ideal) ℓ) (m' : (ℓ : Loc nD τ sig) → Buf (Elt Ideal) ℓ) (c : Dev nD)
  (h0 : m' ((c.tc : Thread nD τ).loc main_arg0) = m ((c.tc : Thread FfnFwdIdeal.nD FfnFwdIdeal.τ).loc FfnFwdIdeal.main_arg0))
  (h1 : m' ((c.tc : Thread nD τ).loc main_arg1) = m ((c.tc : Thread FfnFwdIdeal.nD FfnFwdIdeal.τ).loc FfnFwdIdeal.main_arg1))
  (h2 : m' ((c.tc : Thread nD τ).loc main_arg2) = m ((c.tc : Thread FfnFwdIdeal.nD FfnFwdIdeal.τ).loc FfnFwdIdeal.main_arg2))
  (h3 : m' ((c.tc : Thread nD τ).loc main_arg3) = m ((c.tc : Thread FfnFwdIdeal.nD FfnFwdIdeal.τ).loc FfnFwdIdeal.main_arg3))
  (h4 : m' ((c.tc : Thread nD τ).loc main_arg4) = m ((c.tc : Thread FfnFwdIdeal.nD FfnFwdIdeal.τ).loc FfnFwdIdeal.main_arg4))
  (h5 : m' ((c.tc : Thread nD τ).loc main_arg5) = m ((c.tc : Thread FfnFwdIdeal.nD FfnFwdIdeal.τ).loc FfnFwdIdeal.main_arg5))
  (h6 : m' ((c.tc : Thread nD τ).loc main_arg6) = m ((c.tc : Thread FfnFwdIdeal.nD FfnFwdIdeal.τ).loc FfnFwdIdeal.main_arg6))
  (h7 : m' ((c.tc : Thread nD τ).loc main_arg7) = m ((c.tc : Thread FfnFwdIdeal.nD FfnFwdIdeal.τ).loc FfnFwdIdeal.main_arg7))
include h0 h1 h2 h3 h4 h5 h6 h7

/-- Equal arguments give both programs the same operands. -/
theorem fwd_data_eq : data m c = rdata (launchContents m' c) := by
  unfold data rdata
  rw [← h0, ← h1, ← h2, ← h3, ← h4, ← h5, ← h6, ← h7]
  rfl

end Agree

theorem algebraic_FfnFwdIdeal_FfnFwdRefIdeal : algebraic_FfnFwdIdeal_FfnFwdRefIdeal := by
  intro m ρ m' ρ' hpre hagree
  refine ⟨R8 m, R9 m, R10 m, R11 m, R12 m, R13 m, ?_, ?_⟩
  · refine (θ_run Cert.FfnFwdIdeal.defs _ _).mono (fun _ h c => ?_) (Cert.FfnFwdIdeal.Value.run (F := Ideal) m ρ)
    obtain ⟨e0, e1, e2, e3, e4, e5, hk⟩ := h c
    exact ⟨e0.trans (Cert.FfnFwdIdeal.Fwd.arr8 m c), e1.trans (Cert.FfnFwdIdeal.Fwd.arr9 m c), e2.trans (Cert.FfnFwdIdeal.Fwd.arr10 m c),
      e3.trans (Cert.FfnFwdIdeal.Fwd.arr11 m c), e4.trans (Cert.FfnFwdIdeal.Fwd.arr12 m c), e5.trans (Cert.FfnFwdIdeal.Fwd.arr13 m c), hk⟩
  refine (θ_run Cert.FfnFwdRefIdeal.defs _ _).mono (fun _ h c => ?_) (Cert.FfnFwdRefIdeal.Value.run (F := Ideal) m' ρ')
  obtain ⟨a0, a1, a2, a3, a4, a5, a6, a7⟩ := hagree c
  have hD := fwd_data_eq m m' c a0 a1 a2 a3 a4 a5 a6 a7
  have hR : AllRe (rdata (launchContents m' c)) := by
    have hp := hpre c
    rw [← a0, ← a1, ← a2, ← a3, ← a4, ← a5, ← a6, ← a7] at hp
    obtain ⟨r0, r1, r2, r3, r4, r5, r6, r7⟩ := Cert.Pre_finite_fwd.Read.all_re _ _ _ _ _ _ _ _ hp
    exact allRe _ r0 r1 r2 r3 r4 r5 r6 r7
  obtain ⟨e0, e1, e2, e3, e4, e5, hk⟩ := h c
  refine ⟨e0.trans ?_, e1.trans ?_, e2.trans ?_, e3.trans ?_, e4.trans ?_, e5.trans ?_, hk⟩
  · refine funext fun (i : S1024x8448.Idx) => ?_
    rw [eq_ix2 (n0 := 1024) (n1 := 8448) i]
    unfold R8
    rw [hD]
    exact r0_apply hR (i 0) (i 1)
  · refine funext fun (i : S8448x5632.Idx) => ?_
    rw [eq_ix2 (n0 := 8448) (n1 := 5632) i]
    unfold R9
    rw [hD]
    exact r1_apply hR (i 0) (i 1)
  · refine funext fun (i : S2816x8448.Idx) => ?_
    rw [eq_ix2 (n0 := 2816) (n1 := 8448) i]
    unfold R10
    rw [hD]
    exact r2_apply hR (i 0) (i 1)
  · refine funext fun (i : S8448x1024.Idx) => ?_
    rw [eq_ix2 (n0 := 8448) (n1 := 1024) i]
    unfold R11
    rw [hD]
    exact r3_apply hR (i 0) (i 1)
  · refine funext fun (i : S1x1024.Idx) => ?_
    rw [eq_row (n := 1024) i]
    unfold R12
    rw [hD]
    exact r4_apply hR (i 1)
  · refine funext fun (i : S1x1024.Idx) => ?_
    rw [eq_row (n := 1024) i]
    unfold R13
    rw [hD]
    exact r5_apply hR (i 1)

end Cert.Proof

end
-- ==== Proof.Adam.Step.lean ====
module

public import Idealize.ShloMosaic.PureOps.Ideal
public import Idealize.ShloMosaic.Lib.Pipeline.Value

/-! One step of AdamW at one element, over the extended reals: the two moments and the update. -/

@[expose] public section

noncomputable section

namespace Cert.Adam

open Idealize.ShloMosaic

/-- The value of a literal. -/
abbrev lit (b : BitVec 32) : Ideal .f32 := Scalar.ofBits (F := Ideal) .f32 b

/-- The new first moment: 0.9 of the old one and 0.1 of the gradient. -/
def newM (g m : Ideal .f32) : Ideal .f32 := lit 0x3F666666#32 * m + lit 0x3DCCCCCD#32 * g

/-- The new second moment: 0.999 of the old one and 0.001 of the gradient's square. -/
def newV (g v : Ideal .f32) : Ideal .f32 := lit 0x3F7FBE77#32 * v + lit 0x3A83126F#32 * (g * g)

/-- The update: minus the rate times the corrected first moment over the root of the corrected second one, with the weight's decay. -/
def delta (w g m v : Ideal .f32) : Ideal .f32 :=
  lit 0xBA83126F#32 * (Ideal.div (Ideal.div (newM g m) (lit 0x3F26BD02#32))
    (Ideal.sqrt (Ideal.div (newV g v) (lit 0x3C231ACC#32)) + lit 0x322BCC77#32) + lit 0x3C23D70A#32 * w)

/-- A rectangle's corner at the origin, in two coordinates. -/
theorem corner : (![0, 0] : Fin 2 → Nat) = fun _ => 0 := funext fun a => by fin_cases a <;> rfl

end Cert.Adam

end
-- ==== Proof.Adam.In.lean ====
module

public import proofs.«01_k».proof.Defs
public import proofs.«01_k».proof.Proof.Adam.Step
public import proofs.«01_k».proof.Proof.Gen.AdamInIdeal.Value
public import proofs.«01_k».proof.Proof.Gen.AdamInRefIdeal.Run

/-! The optimiser's call on the input projection's shard: its four arrays are the gradient and one AdamW step of every element. -/

@[expose] public section

noncomputable section

namespace Cert.AdamInIdeal.Step

open Idealize.ShloMosaic Idealize.ShloMosaic.TcCoe Idealize.SL.Sem
open Cert.AdamInIdeal Cert.AdamInIdeal.Gen Cert.AdamInIdeal.Value Cert.Adam

variable (m : (ℓ : Loc nD τ sig) → Buf (Elt Ideal) ℓ)

/-- The body's three payloads at an index: the new moments and the update there. -/
theorem pay1_apply (g a : Vec Ideal S256x2304 .f32) (i : S256x2304.Idx) : k0_pay1 g a i = newM (g i) (a i) := rfl

theorem pay2_apply (g a : Vec Ideal S256x2304 .f32) (i : S256x2304.Idx) : k0_pay2 g a i = newV (g i) (a i) := rfl

theorem pay3_apply (w g a b : Vec Ideal S256x2304 .f32) (i : S256x2304.Idx) : k0_pay3 w g a b i = delta (w i) (g i) (a i) (b i) := rfl

/-- The first array: the gradient. -/
abbrev G4 (c : Dev nD) : Vec Ideal S1024x2304 .f32 := V m c main_arg1
/-- The second array: the update of every element. -/
abbrev G5 (c : Dev nD) : Vec Ideal S1024x2304 .f32 := fun i => delta (V m c main_arg0 i) (V m c main_arg1 i) (V m c main_arg2 i) (V m c main_arg3 i)
/-- The third array: the new first moment. -/
abbrev G6 (c : Dev nD) : Vec Ideal S1024x2304 .f32 := fun i => newM (V m c main_arg1 i) (V m c main_arg2 i)
/-- The fourth array: the new second moment. -/
abbrev G7 (c : Dev nD) : Vec Ideal S1024x2304 .f32 := fun i => newV (V m c main_arg1 i) (V m c main_arg3 i)

/-- What a point writes back is its block of the whole arrays' step. -/
theorem flushed4_eq (c : Dev nD) (t : Fin cfg0.N) : (dats m 0 c).flushed 4 t = ((cfg0.win 4).blk t).view.read (Elt Ideal) (G4 m c) := by
  rw [flushed4]
  unfold out0_4
  rw [View.canon_unit_zero corner, View.ld_unit_zero corner]
  rfl

theorem flushed6_eq (c : Dev nD) (t : Fin cfg0.N) : (dats m 0 c).flushed 6 t = ((cfg0.win 6).blk t).view.read (Elt Ideal) (G6 m c) := by
  rw [flushed6]
  unfold out0_6
  rw [View.canon_unit_zero corner, View.ld_unit_zero corner, View.ld_unit_zero corner]
  rfl

theorem flushed5_eq (c : Dev nD) (t : Fin cfg0.N) : (dats m 0 c).flushed 5 t = ((cfg0.win 5).blk t).view.read (Elt Ideal) (G5 m c) := by
  rw [flushed5]
  unfold out0_5
  rw [View.canon_unit_zero corner, View.ld_unit_zero corner, View.ld_unit_zero corner, View.ld_unit_zero corner, View.ld_unit_zero corner]
  rfl

theorem flushed7_eq (c : Dev nD) (t : Fin cfg0.N) : (dats m 0 c).flushed 7 t = ((cfg0.win 7).blk t).view.read (Elt Ideal) (G7 m c) := by
  rw [flushed7]
  unfold out0_7
  rw [View.canon_unit_zero corner, View.ld_unit_zero corner, View.ld_unit_zero corner]
  rfl

/-- A point's block is a run of 256 rows. -/
theorem rows (t : Fin cfg0.N) : win0_4.index t 0 * win0_4.size 0 = 256 * t.val ∧ win0_4.xsize (grid0.coords t) 0 = 256
    ∧ win0_4.index t 1 * win0_4.size 1 = 0 ∧ win0_4.xsize (grid0.coords t) 1 = 2304 :=
  (by decide +kernel : ∀ t : Fin grid0.N, win0_4.index t 0 * win0_4.size 0 = 256 * t.val ∧ win0_4.xsize (grid0.coords t) 0 = 256
    ∧ win0_4.index t 1 * win0_4.size 1 = 0 ∧ win0_4.xsize (grid0.coords t) 1 = 2304) t

/-- Every index of the array is in a point's block. -/
theorem covered (i : S1024x2304.Idx) : ∃ t : Fin cfg0.N, i ∈ ((cfg0.win 4).blk t).view.set := by
  have h0 : (i 0 : Nat) < 1024 := (i 0).isLt
  have h1 : (i 1 : Nat) < 2304 := (i 1).isLt
  have hN : cfg0.N = 4 := N_0
  have ht : (i 0 : Nat) / 256 < cfg0.N := by omega
  refine ⟨⟨_, ht⟩, ?_⟩
  show i ∈ ((View.whole main_v0_0).slice (win0_4.rect (⟨(i 0 : Nat) / 256, ht⟩ : Fin cfg0.N))).set
  rw [View.set_slice_whole, Rect.mem_set_unit]
  obtain ⟨e0, e1, e2, e3⟩ := rows ⟨_, ht⟩
  intro a
  match a with
  | ⟨0, _⟩ => show win0_4.index _ 0 * win0_4.size 0 ≤ (i 0 : Nat) ∧ (i 0 : Nat) < win0_4.index _ 0 * win0_4.size 0 + win0_4.xsize _ 0
              rw [e0, e1]; dsimp only; omega
  | ⟨1, _⟩ => show win0_4.index _ 1 * win0_4.size 1 ≤ (i 1 : Nat) ∧ (i 1 : Nat) < win0_4.index _ 1 * win0_4.size 1 + win0_4.xsize _ 1
              rw [e2, e3]; omega

/-- So each array ends as the whole arrays' step. -/
theorem final4 (c : Dev nD) : (dats m 0 c).arrAt 4 cfg0.N = G4 m c :=
  (dats m 0 c).arrAt_eq_of_cover 4 (G4 m c) (fun t _ => flushed4_eq m c t) fun i => (covered i).imp fun t h => ⟨flush0_4 t, h⟩
theorem final5 (c : Dev nD) : (dats m 0 c).arrAt 5 cfg0.N = G5 m c :=
  (dats m 0 c).arrAt_eq_of_cover 5 (G5 m c) (fun t _ => flushed5_eq m c t) fun i => (covered i).imp fun t h => ⟨flush0_5 t, h⟩
theorem final6 (c : Dev nD) : (dats m 0 c).arrAt 6 cfg0.N = G6 m c :=
  (dats m 0 c).arrAt_eq_of_cover 6 (G6 m c) (fun t _ => flushed6_eq m c t) fun i => (covered i).imp fun t h => ⟨flush0_6 t, h⟩
theorem final7 (c : Dev nD) : (dats m 0 c).arrAt 7 cfg0.N = G7 m c :=
  (dats m 0 c).arrAt_eq_of_cover 7 (G7 m c) (fun t _ => flushed7_eq m c t) fun i => (covered i).imp fun t h => ⟨flush0_7 t, h⟩

end Cert.AdamInIdeal.Step

namespace Cert.Proof

open Idealize.ShloMosaic Idealize.SL.Sem
open Cert.AdamInIdeal.Step

/-- Kernel and reference compute the same four arrays, for any arguments. -/
theorem algebraic_AdamInIdeal_AdamInRefIdeal : algebraic_AdamInIdeal_AdamInRefIdeal := by
  intro m ρ m' ρ' _ hagree
  refine ⟨_, _, _, _, Cert.AdamInIdeal.Value.run_blocks (F := Ideal) m ρ, ?_⟩
  refine (θ_run Cert.AdamInRefIdeal.defs _ _).mono (fun _ h c => ?_) (Cert.AdamInRefIdeal.Value.run (F := Ideal) m' ρ')
  obtain ⟨r1, r2, r3, r4, h5⟩ := h c
  rw [final4, final5, final6, final7]
  refine ⟨r1.trans ?_, r2.trans ?_, r3.trans ?_, r4.trans ?_, h5⟩
  all_goals simp only [hagree c]
  all_goals rfl

end Cert.Proof

end
-- ==== Proof.Adam.Out.lean ====
module

public import proofs.«01_k».proof.Defs
public import proofs.«01_k».proof.Proof.Adam.Step
public import proofs.«01_k».proof.Proof.Gen.AdamOutIdeal.Value
public import proofs.«01_k».proof.Proof.Gen.AdamOutRefIdeal.Run

/-! The optimiser's call on the output projection's shard: its four arrays are the gradient and one AdamW step of every element. -/

@[expose] public section

noncomputable section

namespace Cert.AdamOutIdeal.Step

open Idealize.ShloMosaic Idealize.ShloMosaic.TcCoe Idealize.SL.Sem
open Cert.AdamOutIdeal Cert.AdamOutIdeal.Gen Cert.AdamOutIdeal.Value Cert.Adam

variable (m : (ℓ : Loc nD τ sig) → Buf (Elt Ideal) ℓ)

/-- The body's three payloads at an index: the new moments and the update there. -/
theorem pay1_apply (g a : Vec Ideal S128x1024 .f32) (i : S128x1024.Idx) : k0_pay1 g a i = newM (g i) (a i) := rfl

theorem pay2_apply (g a : Vec Ideal S128x1024 .f32) (i : S128x1024.Idx) : k0_pay2 g a i = newV (g i) (a i) := rfl

theorem pay3_apply (w g a b : Vec Ideal S128x1024 .f32) (i : S128x1024.Idx) : k0_pay3 w g a b i = delta (w i) (g i) (a i) (b i) := rfl

/-- The first array: the gradient. -/
abbrev G4 (c : Dev nD) : Vec Ideal S256x1024 .f32 := V m c main_arg1
/-- The second array: the update of every element. -/
abbrev G5 (c : Dev nD) : Vec Ideal S256x1024 .f32 := fun i => delta (V m c main_arg0 i) (V m c main_arg1 i) (V m c main_arg2 i) (V m c main_arg3 i)
/-- The third array: the new first moment. -/
abbrev G6 (c : Dev nD) : Vec Ideal S256x1024 .f32 := fun i => newM (V m c main_arg1 i) (V m c main_arg2 i)
/-- The fourth array: the new second moment. -/
abbrev G7 (c : Dev nD) : Vec Ideal S256x1024 .f32 := fun i => newV (V m c main_arg1 i) (V m c main_arg3 i)

/-- What a point writes back is its block of the whole arrays' step. -/
theorem flushed4_eq (c : Dev nD) (t : Fin cfg0.N) : (dats m 0 c).flushed 4 t = ((cfg0.win 4).blk t).view.read (Elt Ideal) (G4 m c) := by
  rw [flushed4]
  unfold out0_4
  rw [View.canon_unit_zero corner, View.ld_unit_zero corner]
  rfl

theorem flushed6_eq (c : Dev nD) (t : Fin cfg0.N) : (dats m 0 c).flushed 6 t = ((cfg0.win 6).blk t).view.read (Elt Ideal) (G6 m c) := by
  rw [flushed6]
  unfold out0_6
  rw [View.canon_unit_zero corner, View.ld_unit_zero corner, View.ld_unit_zero corner]
  rfl

theorem flushed5_eq (c : Dev nD) (t : Fin cfg0.N) : (dats m 0 c).flushed 5 t = ((cfg0.win 5).blk t).view.read (Elt Ideal) (G5 m c) := by
  rw [flushed5]
  unfold out0_5
  rw [View.canon_unit_zero corner, View.ld_unit_zero corner, View.ld_unit_zero corner, View.ld_unit_zero corner, View.ld_unit_zero corner]
  rfl

theorem flushed7_eq (c : Dev nD) (t : Fin cfg0.N) : (dats m 0 c).flushed 7 t = ((cfg0.win 7).blk t).view.read (Elt Ideal) (G7 m c) := by
  rw [flushed7]
  unfold out0_7
  rw [View.canon_unit_zero corner, View.ld_unit_zero corner, View.ld_unit_zero corner]
  rfl

/-- A point's block is a run of 128 rows. -/
theorem rows (t : Fin cfg0.N) : win0_4.index t 0 * win0_4.size 0 = 128 * t.val ∧ win0_4.xsize (grid0.coords t) 0 = 128
    ∧ win0_4.index t 1 * win0_4.size 1 = 0 ∧ win0_4.xsize (grid0.coords t) 1 = 1024 :=
  (by decide +kernel : ∀ t : Fin grid0.N, win0_4.index t 0 * win0_4.size 0 = 128 * t.val ∧ win0_4.xsize (grid0.coords t) 0 = 128
    ∧ win0_4.index t 1 * win0_4.size 1 = 0 ∧ win0_4.xsize (grid0.coords t) 1 = 1024) t

/-- Every index of the array is in a point's block. -/
theorem covered (i : S256x1024.Idx) : ∃ t : Fin cfg0.N, i ∈ ((cfg0.win 4).blk t).view.set := by
  have h0 : (i 0 : Nat) < 256 := (i 0).isLt
  have h1 : (i 1 : Nat) < 1024 := (i 1).isLt
  have hN : cfg0.N = 2 := N_0
  have ht : (i 0 : Nat) / 128 < cfg0.N := by omega
  refine ⟨⟨_, ht⟩, ?_⟩
  show i ∈ ((View.whole main_v0_0).slice (win0_4.rect (⟨(i 0 : Nat) / 128, ht⟩ : Fin cfg0.N))).set
  rw [View.set_slice_whole, Rect.mem_set_unit]
  obtain ⟨e0, e1, e2, e3⟩ := rows ⟨_, ht⟩
  intro a
  match a with
  | ⟨0, _⟩ => show win0_4.index _ 0 * win0_4.size 0 ≤ (i 0 : Nat) ∧ (i 0 : Nat) < win0_4.index _ 0 * win0_4.size 0 + win0_4.xsize _ 0
              rw [e0, e1]; dsimp only; omega
  | ⟨1, _⟩ => show win0_4.index _ 1 * win0_4.size 1 ≤ (i 1 : Nat) ∧ (i 1 : Nat) < win0_4.index _ 1 * win0_4.size 1 + win0_4.xsize _ 1
              rw [e2, e3]; omega

/-- So each array ends as the whole arrays' step. -/
theorem final4 (c : Dev nD) : (dats m 0 c).arrAt 4 cfg0.N = G4 m c :=
  (dats m 0 c).arrAt_eq_of_cover 4 (G4 m c) (fun t _ => flushed4_eq m c t) fun i => (covered i).imp fun t h => ⟨flush0_4 t, h⟩
theorem final5 (c : Dev nD) : (dats m 0 c).arrAt 5 cfg0.N = G5 m c :=
  (dats m 0 c).arrAt_eq_of_cover 5 (G5 m c) (fun t _ => flushed5_eq m c t) fun i => (covered i).imp fun t h => ⟨flush0_5 t, h⟩
theorem final6 (c : Dev nD) : (dats m 0 c).arrAt 6 cfg0.N = G6 m c :=
  (dats m 0 c).arrAt_eq_of_cover 6 (G6 m c) (fun t _ => flushed6_eq m c t) fun i => (covered i).imp fun t h => ⟨flush0_6 t, h⟩
theorem final7 (c : Dev nD) : (dats m 0 c).arrAt 7 cfg0.N = G7 m c :=
  (dats m 0 c).arrAt_eq_of_cover 7 (G7 m c) (fun t _ => flushed7_eq m c t) fun i => (covered i).imp fun t h => ⟨flush0_7 t, h⟩

end Cert.AdamOutIdeal.Step

namespace Cert.Proof

open Idealize.ShloMosaic Idealize.SL.Sem
open Cert.AdamOutIdeal.Step

/-- Kernel and reference compute the same four arrays, for any arguments. -/
theorem algebraic_AdamOutIdeal_AdamOutRefIdeal : algebraic_AdamOutIdeal_AdamOutRefIdeal := by
  intro m ρ m' ρ' _ hagree
  refine ⟨_, _, _, _, Cert.AdamOutIdeal.Value.run_blocks (F := Ideal) m ρ, ?_⟩
  refine (θ_run Cert.AdamOutRefIdeal.defs _ _).mono (fun _ h c => ?_) (Cert.AdamOutRefIdeal.Value.run (F := Ideal) m' ρ')
  obtain ⟨r1, r2, r3, r4, h5⟩ := h c
  rw [final4, final5, final6, final7]
  refine ⟨r1.trans ?_, r2.trans ?_, r3.trans ?_, r4.trans ?_, h5⟩
  all_goals simp only [hagree c]
  all_goals rfl

end Cert.Proof

end
-- ==== Proof.Adam.Up.lean ====
module

public import proofs.«01_k».proof.Defs
public import proofs.«01_k».proof.Proof.Adam.Step
public import proofs.«01_k».proof.Proof.Gen.AdamUpIdeal.Value
public import proofs.«01_k».proof.Proof.Gen.AdamUpRefIdeal.Run

/-! The optimiser's call on the up projection's shard: its four arrays are the gradient and one AdamW step of every element. -/

@[expose] public section

noncomputable section

namespace Cert.AdamUpIdeal.Step

open Idealize.ShloMosaic Idealize.ShloMosaic.TcCoe Idealize.SL.Sem
open Cert.AdamUpIdeal Cert.AdamUpIdeal.Gen Cert.AdamUpIdeal.Value Cert.Adam

variable (m : (ℓ : Loc nD τ sig) → Buf (Elt Ideal) ℓ)

/-- The body's three payloads at an index: the new moments and the update there. -/
theorem pay1_apply (g a : Vec Ideal S256x1408 .f32) (i : S256x1408.Idx) : k0_pay1 g a i = newM (g i) (a i) := rfl

theorem pay2_apply (g a : Vec Ideal S256x1408 .f32) (i : S256x1408.Idx) : k0_pay2 g a i = newV (g i) (a i) := rfl

theorem pay3_apply (w g a b : Vec Ideal S256x1408 .f32) (i : S256x1408.Idx) : k0_pay3 w g a b i = delta (w i) (g i) (a i) (b i) := rfl

/-- The first array: the gradient. -/
abbrev G4 (c : Dev nD) : Vec Ideal S1024x1408 .f32 := V m c main_arg1
/-- The second array: the update of every element. -/
abbrev G5 (c : Dev nD) : Vec Ideal S1024x1408 .f32 := fun i => delta (V m c main_arg0 i) (V m c main_arg1 i) (V m c main_arg2 i) (V m c main_arg3 i)
/-- The third array: the new first moment. -/
abbrev G6 (c : Dev nD) : Vec Ideal S1024x1408 .f32 := fun i => newM (V m c main_arg1 i) (V m c main_arg2 i)
/-- The fourth array: the new second moment. -/
abbrev G7 (c : Dev nD) : Vec Ideal S1024x1408 .f32 := fun i => newV (V m c main_arg1 i) (V m c main_arg3 i)

/-- What a point writes back is its block of the whole arrays' step. -/
theorem flushed4_eq (c : Dev nD) (t : Fin cfg0.N) : (dats m 0 c).flushed 4 t = ((cfg0.win 4).blk t).view.read (Elt Ideal) (G4 m c) := by
  rw [flushed4]
  unfold out0_4
  rw [View.canon_unit_zero corner, View.ld_unit_zero corner]
  rfl

theorem flushed6_eq (c : Dev nD) (t : Fin cfg0.N) : (dats m 0 c).flushed 6 t = ((cfg0.win 6).blk t).view.read (Elt Ideal) (G6 m c) := by
  rw [flushed6]
  unfold out0_6
  rw [View.canon_unit_zero corner, View.ld_unit_zero corner, View.ld_unit_zero corner]
  rfl

theorem flushed5_eq (c : Dev nD) (t : Fin cfg0.N) : (dats m 0 c).flushed 5 t = ((cfg0.win 5).blk t).view.read (Elt Ideal) (G5 m c) := by
  rw [flushed5]
  unfold out0_5
  rw [View.canon_unit_zero corner, View.ld_unit_zero corner, View.ld_unit_zero corner, View.ld_unit_zero corner, View.ld_unit_zero corner]
  rfl

theorem flushed7_eq (c : Dev nD) (t : Fin cfg0.N) : (dats m 0 c).flushed 7 t = ((cfg0.win 7).blk t).view.read (Elt Ideal) (G7 m c) := by
  rw [flushed7]
  unfold out0_7
  rw [View.canon_unit_zero corner, View.ld_unit_zero corner, View.ld_unit_zero corner]
  rfl

/-- A point's block is a run of 256 rows. -/
theorem rows (t : Fin cfg0.N) : win0_4.index t 0 * win0_4.size 0 = 256 * t.val ∧ win0_4.xsize (grid0.coords t) 0 = 256
    ∧ win0_4.index t 1 * win0_4.size 1 = 0 ∧ win0_4.xsize (grid0.coords t) 1 = 1408 :=
  (by decide +kernel : ∀ t : Fin grid0.N, win0_4.index t 0 * win0_4.size 0 = 256 * t.val ∧ win0_4.xsize (grid0.coords t) 0 = 256
    ∧ win0_4.index t 1 * win0_4.size 1 = 0 ∧ win0_4.xsize (grid0.coords t) 1 = 1408) t

/-- Every index of the array is in a point's block. -/
theorem covered (i : S1024x1408.Idx) : ∃ t : Fin cfg0.N, i ∈ ((cfg0.win 4).blk t).view.set := by
  have h0 : (i 0 : Nat) < 1024 := (i 0).isLt
  have h1 : (i 1 : Nat) < 1408 := (i 1).isLt
  have hN : cfg0.N = 4 := N_0
  have ht : (i 0 : Nat) / 256 < cfg0.N := by omega
  refine ⟨⟨_, ht⟩, ?_⟩
  show i ∈ ((View.whole main_v0_0).slice (win0_4.rect (⟨(i 0 : Nat) / 256, ht⟩ : Fin cfg0.N))).set
  rw [View.set_slice_whole, Rect.mem_set_unit]
  obtain ⟨e0, e1, e2, e3⟩ := rows ⟨_, ht⟩
  intro a
  match a with
  | ⟨0, _⟩ => show win0_4.index _ 0 * win0_4.size 0 ≤ (i 0 : Nat) ∧ (i 0 : Nat) < win0_4.index _ 0 * win0_4.size 0 + win0_4.xsize _ 0
              rw [e0, e1]; dsimp only; omega
  | ⟨1, _⟩ => show win0_4.index _ 1 * win0_4.size 1 ≤ (i 1 : Nat) ∧ (i 1 : Nat) < win0_4.index _ 1 * win0_4.size 1 + win0_4.xsize _ 1
              rw [e2, e3]; omega

/-- So each array ends as the whole arrays' step. -/
theorem final4 (c : Dev nD) : (dats m 0 c).arrAt 4 cfg0.N = G4 m c :=
  (dats m 0 c).arrAt_eq_of_cover 4 (G4 m c) (fun t _ => flushed4_eq m c t) fun i => (covered i).imp fun t h => ⟨flush0_4 t, h⟩
theorem final5 (c : Dev nD) : (dats m 0 c).arrAt 5 cfg0.N = G5 m c :=
  (dats m 0 c).arrAt_eq_of_cover 5 (G5 m c) (fun t _ => flushed5_eq m c t) fun i => (covered i).imp fun t h => ⟨flush0_5 t, h⟩
theorem final6 (c : Dev nD) : (dats m 0 c).arrAt 6 cfg0.N = G6 m c :=
  (dats m 0 c).arrAt_eq_of_cover 6 (G6 m c) (fun t _ => flushed6_eq m c t) fun i => (covered i).imp fun t h => ⟨flush0_6 t, h⟩
theorem final7 (c : Dev nD) : (dats m 0 c).arrAt 7 cfg0.N = G7 m c :=
  (dats m 0 c).arrAt_eq_of_cover 7 (G7 m c) (fun t _ => flushed7_eq m c t) fun i => (covered i).imp fun t h => ⟨flush0_7 t, h⟩

end Cert.AdamUpIdeal.Step

namespace Cert.Proof

open Idealize.ShloMosaic Idealize.SL.Sem
open Cert.AdamUpIdeal.Step

/-- Kernel and reference compute the same four arrays, for any arguments. -/
theorem algebraic_AdamUpIdeal_AdamUpRefIdeal : algebraic_AdamUpIdeal_AdamUpRefIdeal := by
  intro m ρ m' ρ' _ hagree
  refine ⟨_, _, _, _, Cert.AdamUpIdeal.Value.run_blocks (F := Ideal) m ρ, ?_⟩
  refine (θ_run Cert.AdamUpRefIdeal.defs _ _).mono (fun _ h c => ?_) (Cert.AdamUpRefIdeal.Value.run (F := Ideal) m' ρ')
  obtain ⟨r1, r2, r3, r4, h5⟩ := h c
  rw [final4, final5, final6, final7]
  refine ⟨r1.trans ?_, r2.trans ?_, r3.trans ?_, r4.trans ?_, h5⟩
  all_goals simp only [hagree c]
  all_goals rfl

end Cert.Proof

end
-- ==== Proof.Adam.Down.lean ====
module

public import proofs.«01_k».proof.Defs
public import proofs.«01_k».proof.Proof.Adam.Step
public import proofs.«01_k».proof.Proof.Gen.AdamDownIdeal.Value
public import proofs.«01_k».proof.Proof.Gen.AdamDownRefIdeal.Run

/-! The optimiser's call on the down projection's shard: its four arrays are the gradient and one AdamW step of every element. -/

@[expose] public section

noncomputable section

namespace Cert.AdamDownIdeal.Step

open Idealize.ShloMosaic Idealize.ShloMosaic.TcCoe Idealize.SL.Sem
open Cert.AdamDownIdeal Cert.AdamDownIdeal.Gen Cert.AdamDownIdeal.Value Cert.Adam

variable (m : (ℓ : Loc nD τ sig) → Buf (Elt Ideal) ℓ)

/-- The body's three payloads at an index: the new moments and the update there. -/
theorem pay1_apply (g a : Vec Ideal S176x1024 .f32) (i : S176x1024.Idx) : k0_pay1 g a i = newM (g i) (a i) := rfl

theorem pay2_apply (g a : Vec Ideal S176x1024 .f32) (i : S176x1024.Idx) : k0_pay2 g a i = newV (g i) (a i) := rfl

theorem pay3_apply (w g a b : Vec Ideal S176x1024 .f32) (i : S176x1024.Idx) : k0_pay3 w g a b i = delta (w i) (g i) (a i) (b i) := rfl

/-- The first array: the gradient. -/
abbrev G4 (c : Dev nD) : Vec Ideal S704x1024 .f32 := V m c main_arg1
/-- The second array: the update of every element. -/
abbrev G5 (c : Dev nD) : Vec Ideal S704x1024 .f32 := fun i => delta (V m c main_arg0 i) (V m c main_arg1 i) (V m c main_arg2 i) (V m c main_arg3 i)
/-- The third array: the new first moment. -/
abbrev G6 (c : Dev nD) : Vec Ideal S704x1024 .f32 := fun i => newM (V m c main_arg1 i) (V m c main_arg2 i)
/-- The fourth array: the new second moment. -/
abbrev G7 (c : Dev nD) : Vec Ideal S704x1024 .f32 := fun i => newV (V m c main_arg1 i) (V m c main_arg3 i)

/-- What a point writes back is its block of the whole arrays' step. -/
theorem flushed4_eq (c : Dev nD) (t : Fin cfg0.N) : (dats m 0 c).flushed 4 t = ((cfg0.win 4).blk t).view.read (Elt Ideal) (G4 m c) := by
  rw [flushed4]
  unfold out0_4
  rw [View.canon_unit_zero corner, View.ld_unit_zero corner]
  rfl

theorem flushed6_eq (c : Dev nD) (t : Fin cfg0.N) : (dats m 0 c).flushed 6 t = ((cfg0.win 6).blk t).view.read (Elt Ideal) (G6 m c) := by
  rw [flushed6]
  unfold out0_6
  rw [View.canon_unit_zero corner, View.ld_unit_zero corner, View.ld_unit_zero corner]
  rfl

theorem flushed5_eq (c : Dev nD) (t : Fin cfg0.N) : (dats m 0 c).flushed 5 t = ((cfg0.win 5).blk t).view.read (Elt Ideal) (G5 m c) := by
  rw [flushed5]
  unfold out0_5
  rw [View.canon_unit_zero corner, View.ld_unit_zero corner, View.ld_unit_zero corner, View.ld_unit_zero corner, View.ld_unit_zero corner]
  rfl

theorem flushed7_eq (c : Dev nD) (t : Fin cfg0.N) : (dats m 0 c).flushed 7 t = ((cfg0.win 7).blk t).view.read (Elt Ideal) (G7 m c) := by
  rw [flushed7]
  unfold out0_7
  rw [View.canon_unit_zero corner, View.ld_unit_zero corner, View.ld_unit_zero corner]
  rfl

/-- A point's block is a run of 176 rows. -/
theorem rows (t : Fin cfg0.N) : win0_4.index t 0 * win0_4.size 0 = 176 * t.val ∧ win0_4.xsize (grid0.coords t) 0 = 176
    ∧ win0_4.index t 1 * win0_4.size 1 = 0 ∧ win0_4.xsize (grid0.coords t) 1 = 1024 :=
  (by decide +kernel : ∀ t : Fin grid0.N, win0_4.index t 0 * win0_4.size 0 = 176 * t.val ∧ win0_4.xsize (grid0.coords t) 0 = 176
    ∧ win0_4.index t 1 * win0_4.size 1 = 0 ∧ win0_4.xsize (grid0.coords t) 1 = 1024) t

/-- Every index of the array is in a point's block. -/
theorem covered (i : S704x1024.Idx) : ∃ t : Fin cfg0.N, i ∈ ((cfg0.win 4).blk t).view.set := by
  have h0 : (i 0 : Nat) < 704 := (i 0).isLt
  have h1 : (i 1 : Nat) < 1024 := (i 1).isLt
  have hN : cfg0.N = 4 := N_0
  have ht : (i 0 : Nat) / 176 < cfg0.N := by omega
  refine ⟨⟨_, ht⟩, ?_⟩
  show i ∈ ((View.whole main_v0_0).slice (win0_4.rect (⟨(i 0 : Nat) / 176, ht⟩ : Fin cfg0.N))).set
  rw [View.set_slice_whole, Rect.mem_set_unit]
  obtain ⟨e0, e1, e2, e3⟩ := rows ⟨_, ht⟩
  intro a
  match a with
  | ⟨0, _⟩ => show win0_4.index _ 0 * win0_4.size 0 ≤ (i 0 : Nat) ∧ (i 0 : Nat) < win0_4.index _ 0 * win0_4.size 0 + win0_4.xsize _ 0
              rw [e0, e1]; dsimp only; omega
  | ⟨1, _⟩ => show win0_4.index _ 1 * win0_4.size 1 ≤ (i 1 : Nat) ∧ (i 1 : Nat) < win0_4.index _ 1 * win0_4.size 1 + win0_4.xsize _ 1
              rw [e2, e3]; omega

/-- So each array ends as the whole arrays' step. -/
theorem final4 (c : Dev nD) : (dats m 0 c).arrAt 4 cfg0.N = G4 m c :=
  (dats m 0 c).arrAt_eq_of_cover 4 (G4 m c) (fun t _ => flushed4_eq m c t) fun i => (covered i).imp fun t h => ⟨flush0_4 t, h⟩
theorem final5 (c : Dev nD) : (dats m 0 c).arrAt 5 cfg0.N = G5 m c :=
  (dats m 0 c).arrAt_eq_of_cover 5 (G5 m c) (fun t _ => flushed5_eq m c t) fun i => (covered i).imp fun t h => ⟨flush0_5 t, h⟩
theorem final6 (c : Dev nD) : (dats m 0 c).arrAt 6 cfg0.N = G6 m c :=
  (dats m 0 c).arrAt_eq_of_cover 6 (G6 m c) (fun t _ => flushed6_eq m c t) fun i => (covered i).imp fun t h => ⟨flush0_6 t, h⟩
theorem final7 (c : Dev nD) : (dats m 0 c).arrAt 7 cfg0.N = G7 m c :=
  (dats m 0 c).arrAt_eq_of_cover 7 (G7 m c) (fun t _ => flushed7_eq m c t) fun i => (covered i).imp fun t h => ⟨flush0_7 t, h⟩

end Cert.AdamDownIdeal.Step

namespace Cert.Proof

open Idealize.ShloMosaic Idealize.SL.Sem
open Cert.AdamDownIdeal.Step

/-- Kernel and reference compute the same four arrays, for any arguments. -/
theorem algebraic_AdamDownIdeal_AdamDownRefIdeal : algebraic_AdamDownIdeal_AdamDownRefIdeal := by
  intro m ρ m' ρ' _ hagree
  refine ⟨_, _, _, _, Cert.AdamDownIdeal.Value.run_blocks (F := Ideal) m ρ, ?_⟩
  refine (θ_run Cert.AdamDownRefIdeal.defs _ _).mono (fun _ h c => ?_) (Cert.AdamDownRefIdeal.Value.run (F := Ideal) m' ρ')
  obtain ⟨r1, r2, r3, r4, h5⟩ := h c
  rw [final4, final5, final6, final7]
  refine ⟨r1.trans ?_, r2.trans ?_, r3.trans ?_, r4.trans ?_, h5⟩
  all_goals simp only [hagree c]
  all_goals rfl

end Cert.Proof

end
-- ==== Proof.Adam.SmallBody.lean ====
module

public import proofs.«01_k».proof.Proof.Adam.Step
public import proofs.«01_k».proof.Proof.Gen.AdamSmallIdeal.Launch
public import proofs.«01_k».proof.Proof.Gen.AdamSmallIdeal.Skeleton
public import proofs.«01_k».proof.Proof.Gen.AdamSmallIdeal.Points
public import Idealize.ShloMosaic.Lib.Pipeline.FrameBody
public import Idealize.ShloMosaic.Lib.Pipeline.Value
public import Idealize.ShloMosaic.Lib.Tactic

/-! The optimiser's body on the nine small parameters: four buffers in and three out for each, and what it leaves in the 27 outputs. -/

@[expose] public section

set_option maxRecDepth 16384

noncomputable section

namespace Cert.AdamSmallIdeal.Small

open Cert.AdamSmallIdeal Cert.AdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The new first moment of a block, as the body computes it. -/
def stepM {S : Shape} (g a : Vec F S .f32) : Vec F S .f32 :=
  addf (mulf (broadcast S (Scalar.ofBits .f32 0x3F666666#32)) a) (mulf (broadcast S (Scalar.ofBits .f32 0x3DCCCCCD#32)) g)

/-- The new second moment of a block. -/
def stepV {S : Shape} (g b : Vec F S .f32) : Vec F S .f32 :=
  addf (mulf (broadcast S (Scalar.ofBits .f32 0x3F7FBE77#32)) b) (mulf (broadcast S (Scalar.ofBits .f32 0x3A83126F#32)) (mulf g g))

/-- The update of a block. -/
def stepD {S : Shape} (w g a b : Vec F S .f32) : Vec F S .f32 :=
  mulf (broadcast S (Scalar.ofBits .f32 0xBA83126F#32))
    (addf (divf (divf (stepM g a) (broadcast S (Scalar.ofBits .f32 0x3F26BD02#32)))
        (addf (sqrt (divf (stepV g b) (broadcast S (Scalar.ofBits .f32 0x3C231ACC#32)))) (broadcast S (Scalar.ofBits .f32 0x322BCC77#32))))
      (mulf (broadcast S (Scalar.ofBits .f32 0x3C23D70A#32)) w))

/-- A store through the whole rectangle leaves its payload. -/
theorem left_of {κ : Kind} {sp : Space} {S : Shape} (v : View sig κ sp S .f32) (f : v.ty.Contents (Elt F)) {off : Fin S.rank → Nat}
    (h : off = fun _ => 0) (inb : ∀ a, off a + S.size a ≤ S.size a) (p : S.Idx → Elt F .f32) :
    v.read (Elt F) (v.writes (Elt F) f [⟨Rect.unit off S.size inb, p⟩]) = p := by
  refine (View.read_writes_eq_canon v f _ fun y => ⟨_, List.mem_singleton_self _, ?_⟩).trans (View.canon_unit_zero h inb p)
  subst h
  show y ∈ (Rect.whole S).set
  rw [Rect.set_whole]; exact Finset.mem_univ y

/-- The update, stored from whole loads of the four blocks. -/
theorem left_D {κ : Kind} {sp : Space} {S : Shape} (v : View sig κ sp S .f32) (f : v.ty.Contents (Elt F)) {off : Fin S.rank → Nat}
    (h : off = fun _ => 0) (inb : ∀ a, off a + S.size a ≤ S.size a) (p w g a b : Vec F S .f32)
    (hp : p = stepD (View.ld w (Rect.unit off S.size inb)) (View.ld g (Rect.unit off S.size inb)) (View.ld a (Rect.unit off S.size inb))
      (View.ld b (Rect.unit off S.size inb))) :
    v.read (Elt F) (v.writes (Elt F) f [⟨Rect.unit off S.size inb, p⟩]) = stepD w g a b := by
  rw [left_of v f h inb p, hp, View.ld_unit_zero h, View.ld_unit_zero h, View.ld_unit_zero h, View.ld_unit_zero h]

/-- The first moment, stored from whole loads. -/
theorem left_M {κ : Kind} {sp : Space} {S : Shape} (v : View sig κ sp S .f32) (f : v.ty.Contents (Elt F)) {off : Fin S.rank → Nat}
    (h : off = fun _ => 0) (inb : ∀ a, off a + S.size a ≤ S.size a) (p g a : Vec F S .f32)
    (hp : p = stepM (View.ld g (Rect.unit off S.size inb)) (View.ld a (Rect.unit off S.size inb))) :
    v.read (Elt F) (v.writes (Elt F) f [⟨Rect.unit off S.size inb, p⟩]) = stepM g a := by
  rw [left_of v f h inb p, hp, View.ld_unit_zero h, View.ld_unit_zero h]

/-- The second moment, stored from whole loads. -/
theorem left_V {κ : Kind} {sp : Space} {S : Shape} (v : View sig κ sp S .f32) (f : v.ty.Contents (Elt F)) {off : Fin S.rank → Nat}
    (h : off = fun _ => 0) (inb : ∀ a, off a + S.size a ≤ S.size a) (p g b : Vec F S .f32)
    (hp : p = stepV (View.ld g (Rect.unit off S.size inb)) (View.ld b (Rect.unit off S.size inb))) :
    v.read (Elt F) (v.writes (Elt F) f [⟨Rect.unit off S.size inb, p⟩]) = stepV g b := by
  rw [left_of v f h inb p, hp, View.ld_unit_zero h, View.ld_unit_zero h]

/-- A buffer of a window, whole, at contents `x`. -/
abbrev ow {S : Shape} (c : Dev nD) (a : Memref sig .tc .vmem S .f32) (x : Vec F S .f32) : sProp 𝕄 := owns (c : Thread nD τ) a fullShare x

set_option maxHeartbeats 4000000 in
/-- The body's triple: the inputs are left as found, each output holds its step of the parameter's four blocks. -/
theorem sound_kernel (c : Dev nD) (E : Set ℕ)
    (a0 : Memref sig .tc .vmem S16x256 .f32) (h0 : a0.IsWhole) (a1 : Memref sig .tc .vmem S16x256 .f32) (h1 : a1.IsWhole)
    (a2 : Memref sig .tc .vmem S16x256 .f32) (h2 : a2.IsWhole) (a3 : Memref sig .tc .vmem S16x256 .f32) (h3 : a3.IsWhole)
    (a4 : Memref sig .tc .vmem S2x1024 .f32) (h4 : a4.IsWhole) (a5 : Memref sig .tc .vmem S2x1024 .f32) (h5 : a5.IsWhole)
    (a6 : Memref sig .tc .vmem S2x1024 .f32) (h6 : a6.IsWhole) (a7 : Memref sig .tc .vmem S2x1024 .f32) (h7 : a7.IsWhole)
    (a8 : Memref sig .tc .vmem S1x1024 .f32) (h8 : a8.IsWhole) (a9 : Memref sig .tc .vmem S1x1024 .f32) (h9 : a9.IsWhole)
    (a10 : Memref sig .tc .vmem S1x1024 .f32) (h10 : a10.IsWhole) (a11 : Memref sig .tc .vmem S1x1024 .f32) (h11 : a11.IsWhole)
    (a12 : Memref sig .tc .vmem S1x128 .f32) (h12 : a12.IsWhole) (a13 : Memref sig .tc .vmem S1x128 .f32) (h13 : a13.IsWhole)
    (a14 : Memref sig .tc .vmem S1x128 .f32) (h14 : a14.IsWhole) (a15 : Memref sig .tc .vmem S1x128 .f32) (h15 : a15.IsWhole)
    (a16 : Memref sig .tc .vmem S3x256 .f32) (h16 : a16.IsWhole) (a17 : Memref sig .tc .vmem S3x256 .f32) (h17 : a17.IsWhole)
    (a18 : Memref sig .tc .vmem S3x256 .f32) (h18 : a18.IsWhole) (a19 : Memref sig .tc .vmem S3x256 .f32) (h19 : a19.IsWhole)
    (a20 : Memref sig .tc .vmem S1x1024 .f32) (h20 : a20.IsWhole) (a21 : Memref sig .tc .vmem S1x1024 .f32) (h21 : a21.IsWhole)
    (a22 : Memref sig .tc .vmem S1x1024 .f32) (h22 : a22.IsWhole) (a23 : Memref sig .tc .vmem S1x1024 .f32) (h23 : a23.IsWhole)
    (a24 : Memref sig .tc .vmem S3x704 .f32) (h24 : a24.IsWhole) (a25 : Memref sig .tc .vmem S3x704 .f32) (h25 : a25.IsWhole)
    (a26 : Memref sig .tc .vmem S3x704 .f32) (h26 : a26.IsWhole) (a27 : Memref sig .tc .vmem S3x704 .f32) (h27 : a27.IsWhole)
    (a28 : Memref sig .tc .vmem S1x2816 .f32) (h28 : a28.IsWhole) (a29 : Memref sig .tc .vmem S1x2816 .f32) (h29 : a29.IsWhole)
    (a30 : Memref sig .tc .vmem S1x2816 .f32) (h30 : a30.IsWhole) (a31 : Memref sig .tc .vmem S1x2816 .f32) (h31 : a31.IsWhole)
    (a32 : Memref sig .tc .vmem S1x1024 .f32) (h32 : a32.IsWhole) (a33 : Memref sig .tc .vmem S1x1024 .f32) (h33 : a33.IsWhole)
    (a34 : Memref sig .tc .vmem S1x1024 .f32) (h34 : a34.IsWhole) (a35 : Memref sig .tc .vmem S1x1024 .f32) (h35 : a35.IsWhole)
    (a36 : Memref sig .tc .vmem S16x256 .f32) (h36 : a36.IsWhole) (a37 : Memref sig .tc .vmem S16x256 .f32) (h37 : a37.IsWhole)
    (a38 : Memref sig .tc .vmem S16x256 .f32) (h38 : a38.IsWhole) (a39 : Memref sig .tc .vmem S2x1024 .f32) (h39 : a39.IsWhole)
    (a40 : Memref sig .tc .vmem S2x1024 .f32) (h40 : a40.IsWhole) (a41 : Memref sig .tc .vmem S2x1024 .f32) (h41 : a41.IsWhole)
    (a42 : Memref sig .tc .vmem S1x1024 .f32) (h42 : a42.IsWhole) (a43 : Memref sig .tc .vmem S1x1024 .f32) (h43 : a43.IsWhole)
    (a44 : Memref sig .tc .vmem S1x1024 .f32) (h44 : a44.IsWhole) (a45 : Memref sig .tc .vmem S1x128 .f32) (h45 : a45.IsWhole)
    (a46 : Memref sig .tc .vmem S1x128 .f32) (h46 : a46.IsWhole) (a47 : Memref sig .tc .vmem S1x128 .f32) (h47 : a47.IsWhole)
    (a48 : Memref sig .tc .vmem S3x256 .f32) (h48 : a48.IsWhole) (a49 : Memref sig .tc .vmem S3x256 .f32) (h49 : a49.IsWhole)
    (a50 : Memref sig .tc .vmem S3x256 .f32) (h50 : a50.IsWhole) (a51 : Memref sig .tc .vmem S1x1024 .f32) (h51 : a51.IsWhole)
    (a52 : Memref sig .tc .vmem S1x1024 .f32) (h52 : a52.IsWhole) (a53 : Memref sig .tc .vmem S1x1024 .f32) (h53 : a53.IsWhole)
    (a54 : Memref sig .tc .vmem S3x704 .f32) (h54 : a54.IsWhole) (a55 : Memref sig .tc .vmem S3x704 .f32) (h55 : a55.IsWhole)
    (a56 : Memref sig .tc .vmem S3x704 .f32) (h56 : a56.IsWhole) (a57 : Memref sig .tc .vmem S1x2816 .f32) (h57 : a57.IsWhole)
    (a58 : Memref sig .tc .vmem S1x2816 .f32) (h58 : a58.IsWhole) (a59 : Memref sig .tc .vmem S1x2816 .f32) (h59 : a59.IsWhole)
    (a60 : Memref sig .tc .vmem S1x1024 .f32) (h60 : a60.IsWhole) (a61 : Memref sig .tc .vmem S1x1024 .f32) (h61 : a61.IsWhole)
    (a62 : Memref sig .tc .vmem S1x1024 .f32) (h62 : a62.IsWhole)
    (x0 x1 x2 x3 : Vec F S16x256 .f32) (x4 x5 x6 x7 : Vec F S2x1024 .f32) (x8 x9 x10 x11 : Vec F S1x1024 .f32) (x12 x13 x14 x15 : Vec F S1x128 .f32)
    (x16 x17 x18 x19 : Vec F S3x256 .f32) (x20 x21 x22 x23 : Vec F S1x1024 .f32) (x24 x25 x26 x27 : Vec F S3x704 .f32)
    (x28 x29 x30 x31 : Vec F S1x2816 .f32) (x32 x33 x34 x35 : Vec F S1x1024 .f32) (K : PUnit → sProp 𝕄) :
    iprop(ow c a0 x0 ∗ ow c a1 x1 ∗ ow c a2 x2 ∗ ow c a3 x3 ∗ ow c a4 x4 ∗ ow c a5 x5 ∗ ow c a6 x6 ∗ ow c a7 x7 ∗ ow c a8 x8 ∗ ow c a9 x9 ∗ ow c a10 x10
      ∗ ow c a11 x11 ∗ ow c a12 x12 ∗ ow c a13 x13 ∗ ow c a14 x14 ∗ ow c a15 x15 ∗ ow c a16 x16 ∗ ow c a17 x17 ∗ ow c a18 x18 ∗ ow c a19 x19 ∗ ow c a20 x20
      ∗ ow c a21 x21 ∗ ow c a22 x22 ∗ ow c a23 x23 ∗ ow c a24 x24 ∗ ow c a25 x25 ∗ ow c a26 x26 ∗ ow c a27 x27 ∗ ow c a28 x28 ∗ ow c a29 x29 ∗ ow c a30 x30
      ∗ ow c a31 x31 ∗ ow c a32 x32 ∗ ow c a33 x33 ∗ ow c a34 x34 ∗ ow c a35 x35 ∗ (∃ d, ow c a36 d) ∗ (∃ d, ow c a37 d) ∗ (∃ d, ow c a38 d)
      ∗ (∃ d, ow c a39 d) ∗ (∃ d, ow c a40 d) ∗ (∃ d, ow c a41 d) ∗ (∃ d, ow c a42 d) ∗ (∃ d, ow c a43 d) ∗ (∃ d, ow c a44 d) ∗ (∃ d, ow c a45 d)
      ∗ (∃ d, ow c a46 d) ∗ (∃ d, ow c a47 d) ∗ (∃ d, ow c a48 d) ∗ (∃ d, ow c a49 d) ∗ (∃ d, ow c a50 d) ∗ (∃ d, ow c a51 d) ∗ (∃ d, ow c a52 d)
      ∗ (∃ d, ow c a53 d) ∗ (∃ d, ow c a54 d) ∗ (∃ d, ow c a55 d) ∗ (∃ d, ow c a56 d) ∗ (∃ d, ow c a57 d) ∗ (∃ d, ow c a58 d) ∗ (∃ d, ow c a59 d)
      ∗ (∃ d, ow c a60 d) ∗ (∃ d, ow c a61 d) ∗ (∃ d, ow c a62 d)
      ∗ (iprop(ow c a0 x0 ∗ ow c a1 x1 ∗ ow c a2 x2 ∗ ow c a3 x3 ∗ ow c a4 x4 ∗ ow c a5 x5 ∗ ow c a6 x6 ∗ ow c a7 x7 ∗ ow c a8 x8 ∗ ow c a9 x9 ∗ ow c a10 x10
        ∗ ow c a11 x11 ∗ ow c a12 x12 ∗ ow c a13 x13 ∗ ow c a14 x14 ∗ ow c a15 x15 ∗ ow c a16 x16 ∗ ow c a17 x17 ∗ ow c a18 x18 ∗ ow c a19 x19 ∗ ow c a20 x20
        ∗ ow c a21 x21 ∗ ow c a22 x22 ∗ ow c a23 x23 ∗ ow c a24 x24 ∗ ow c a25 x25 ∗ ow c a26 x26 ∗ ow c a27 x27 ∗ ow c a28 x28 ∗ ow c a29 x29 ∗ ow c a30 x30
        ∗ ow c a31 x31 ∗ ow c a32 x32 ∗ ow c a33 x33 ∗ ow c a34 x34 ∗ ow c a35 x35 ∗ ow c a36 (stepD x0 x1 x2 x3) ∗ ow c a37 (stepM x1 x2)
        ∗ ow c a38 (stepV x1 x3) ∗ ow c a39 (stepD x4 x5 x6 x7) ∗ ow c a40 (stepM x5 x6) ∗ ow c a41 (stepV x5 x7) ∗ ow c a42 (stepD x8 x9 x10 x11)
        ∗ ow c a43 (stepM x9 x10) ∗ ow c a44 (stepV x9 x11) ∗ ow c a45 (stepD x12 x13 x14 x15) ∗ ow c a46 (stepM x13 x14) ∗ ow c a47 (stepV x13 x15)
        ∗ ow c a48 (stepD x16 x17 x18 x19) ∗ ow c a49 (stepM x17 x18) ∗ ow c a50 (stepV x17 x19) ∗ ow c a51 (stepD x20 x21 x22 x23) ∗ ow c a52 (stepM x21 x22)
        ∗ ow c a53 (stepV x21 x23) ∗ ow c a54 (stepD x24 x25 x26 x27) ∗ ow c a55 (stepM x25 x26) ∗ ow c a56 (stepV x25 x27) ∗ ow c a57 (stepD x28 x29 x30 x31)
        ∗ ow c a58 (stepM x29 x30) ∗ ow c a59 (stepV x29 x31) ∗ ow c a60 (stepD x32 x33 x34 x35) ∗ ow c a61 (stepM x33 x34) ∗ ow c a62 (stepV x33 x35)) -∗ K ⟨⟩))
    ⊢ wp frame (wpE (defs₀ (F := F)) Variants.none c none) E (cc0_adamw_small a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20
      a21 h21 a22 h22 a23 h23 a24 h24 a25 h25 a26 h26 a27 h27 a28 h28 a29 h29 a30 h30 a31 h31 a32 h32 a33 h33 a34 h34 a35 h35 a36 h36 a37 h37 a38 h38 a39
      h39 a40 h40 a41 h41 a42 h42 a43 h43 a44 h44 a45 h45 a46 h46 a47 h47 a48 h48 a49 h49 a50 h50 a51 h51 a52 h52 a53 h53 a54 h54 a55 h55 a56 h56 a57 h57
      a58 h58 a59 h59 a60 h60 a61 h61 a62 h62) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold ow owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩,
    ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩,
    ⟨%f25, %e25, H25⟩, ⟨%f26, %e26, H26⟩, ⟨%f27, %e27, H27⟩, ⟨%f28, %e28, H28⟩, ⟨%f29, %e29, H29⟩, ⟨%f30, %e30, H30⟩, ⟨%f31, %e31, H31⟩, ⟨%f32, %e32, H32⟩,
    ⟨%f33, %e33, H33⟩, ⟨%f34, %e34, H34⟩, ⟨%f35, %e35, H35⟩, ⟨%d36, %f36, -, H36⟩, ⟨%d37, %f37, -, H37⟩, ⟨%d38, %f38, -, H38⟩, ⟨%d39, %f39, -, H39⟩,
    ⟨%d40, %f40, -, H40⟩, ⟨%d41, %f41, -, H41⟩, ⟨%d42, %f42, -, H42⟩, ⟨%d43, %f43, -, H43⟩, ⟨%d44, %f44, -, H44⟩, ⟨%d45, %f45, -, H45⟩,
    ⟨%d46, %f46, -, H46⟩, ⟨%d47, %f47, -, H47⟩, ⟨%d48, %f48, -, H48⟩, ⟨%d49, %f49, -, H49⟩, ⟨%d50, %f50, -, H50⟩, ⟨%d51, %f51, -, H51⟩,
    ⟨%d52, %f52, -, H52⟩, ⟨%d53, %f53, -, H53⟩, ⟨%d54, %f54, -, H54⟩, ⟨%d55, %f55, -, H55⟩, ⟨%d56, %f56, -, H56⟩, ⟨%d57, %f57, -, H57⟩,
    ⟨%d58, %f58, -, H58⟩, ⟨%d59, %f59, -, H59⟩, ⟨%d60, %f60, -, H60⟩, ⟨%d61, %f61, -, H61⟩, ⟨%d62, %f62, -, H62⟩, Hk⟩
  subst e0 e1 e2 e3 e4 e5 e6 e7 e8 e9 e10 e11 e12 e13 e14 e15 e16 e17 e18 e19 e20 e21 e22 e23 e24 e25 e26 e27 e28 e29 e30 e31 e32 e33 e34 e35
  sl_exec
  sl_step
  iapply Hk
  isplitl [H0]; · (iexists f0; isplitr; (· ipureintro; rfl); iexact H0)
  isplitl [H1]; · (iexists f1; isplitr; (· ipureintro; rfl); iexact H1)
  isplitl [H2]; · (iexists f2; isplitr; (· ipureintro; rfl); iexact H2)
  isplitl [H3]; · (iexists f3; isplitr; (· ipureintro; rfl); iexact H3)
  isplitl [H4]; · (iexists f4; isplitr; (· ipureintro; rfl); iexact H4)
  isplitl [H5]; · (iexists f5; isplitr; (· ipureintro; rfl); iexact H5)
  isplitl [H6]; · (iexists f6; isplitr; (· ipureintro; rfl); iexact H6)
  isplitl [H7]; · (iexists f7; isplitr; (· ipureintro; rfl); iexact H7)
  isplitl [H8]; · (iexists f8; isplitr; (· ipureintro; rfl); iexact H8)
  isplitl [H9]; · (iexists f9; isplitr; (· ipureintro; rfl); iexact H9)
  isplitl [H10]; · (iexists f10; isplitr; (· ipureintro; rfl); iexact H10)
  isplitl [H11]; · (iexists f11; isplitr; (· ipureintro; rfl); iexact H11)
  isplitl [H12]; · (iexists f12; isplitr; (· ipureintro; rfl); iexact H12)
  isplitl [H13]; · (iexists f13; isplitr; (· ipureintro; rfl); iexact H13)
  isplitl [H14]; · (iexists f14; isplitr; (· ipureintro; rfl); iexact H14)
  isplitl [H15]; · (iexists f15; isplitr; (· ipureintro; rfl); iexact H15)
  isplitl [H16]; · (iexists f16; isplitr; (· ipureintro; rfl); iexact H16)
  isplitl [H17]; · (iexists f17; isplitr; (· ipureintro; rfl); iexact H17)
  isplitl [H18]; · (iexists f18; isplitr; (· ipureintro; rfl); iexact H18)
  isplitl [H19]; · (iexists f19; isplitr; (· ipureintro; rfl); iexact H19)
  isplitl [H20]; · (iexists f20; isplitr; (· ipureintro; rfl); iexact H20)
  isplitl [H21]; · (iexists f21; isplitr; (· ipureintro; rfl); iexact H21)
  isplitl [H22]; · (iexists f22; isplitr; (· ipureintro; rfl); iexact H22)
  isplitl [H23]; · (iexists f23; isplitr; (· ipureintro; rfl); iexact H23)
  isplitl [H24]; · (iexists f24; isplitr; (· ipureintro; rfl); iexact H24)
  isplitl [H25]; · (iexists f25; isplitr; (· ipureintro; rfl); iexact H25)
  isplitl [H26]; · (iexists f26; isplitr; (· ipureintro; rfl); iexact H26)
  isplitl [H27]; · (iexists f27; isplitr; (· ipureintro; rfl); iexact H27)
  isplitl [H28]; · (iexists f28; isplitr; (· ipureintro; rfl); iexact H28)
  isplitl [H29]; · (iexists f29; isplitr; (· ipureintro; rfl); iexact H29)
  isplitl [H30]; · (iexists f30; isplitr; (· ipureintro; rfl); iexact H30)
  isplitl [H31]; · (iexists f31; isplitr; (· ipureintro; rfl); iexact H31)
  isplitl [H32]; · (iexists f32; isplitr; (· ipureintro; rfl); iexact H32)
  isplitl [H33]; · (iexists f33; isplitr; (· ipureintro; rfl); iexact H33)
  isplitl [H34]; · (iexists f34; isplitr; (· ipureintro; rfl); iexact H34)
  isplitl [H35]; · (iexists f35; isplitr; (· ipureintro; rfl); iexact H35)
  isplitl [H36]; · (iexists _; isplitr; swap; (· iexact H36); ipureintro; exact left_D _ _ Adam.corner inb_S16x256_S16x256_0_0 _ _ _ _ _ rfl)
  isplitl [H37]; · (iexists _; isplitr; swap; (· iexact H37); ipureintro; exact left_M _ _ Adam.corner inb_S16x256_S16x256_0_0 _ _ _ rfl)
  isplitl [H38]; · (iexists _; isplitr; swap; (· iexact H38); ipureintro; exact left_V _ _ Adam.corner inb_S16x256_S16x256_0_0 _ _ _ rfl)
  isplitl [H39]; · (iexists _; isplitr; swap; (· iexact H39); ipureintro; exact left_D _ _ Adam.corner inb_S2x1024_S2x1024_0_0 _ _ _ _ _ rfl)
  isplitl [H40]; · (iexists _; isplitr; swap; (· iexact H40); ipureintro; exact left_M _ _ Adam.corner inb_S2x1024_S2x1024_0_0 _ _ _ rfl)
  isplitl [H41]; · (iexists _; isplitr; swap; (· iexact H41); ipureintro; exact left_V _ _ Adam.corner inb_S2x1024_S2x1024_0_0 _ _ _ rfl)
  isplitl [H42]; · (iexists _; isplitr; swap; (· iexact H42); ipureintro; exact left_D _ _ Adam.corner inb_S1x1024_S1x1024_0_0 _ _ _ _ _ rfl)
  isplitl [H43]; · (iexists _; isplitr; swap; (· iexact H43); ipureintro; exact left_M _ _ Adam.corner inb_S1x1024_S1x1024_0_0 _ _ _ rfl)
  isplitl [H44]; · (iexists _; isplitr; swap; (· iexact H44); ipureintro; exact left_V _ _ Adam.corner inb_S1x1024_S1x1024_0_0 _ _ _ rfl)
  isplitl [H45]; · (iexists _; isplitr; swap; (· iexact H45); ipureintro; exact left_D _ _ Adam.corner inb_S1x128_S1x128_0_0 _ _ _ _ _ rfl)
  isplitl [H46]; · (iexists _; isplitr; swap; (· iexact H46); ipureintro; exact left_M _ _ Adam.corner inb_S1x128_S1x128_0_0 _ _ _ rfl)
  isplitl [H47]; · (iexists _; isplitr; swap; (· iexact H47); ipureintro; exact left_V _ _ Adam.corner inb_S1x128_S1x128_0_0 _ _ _ rfl)
  isplitl [H48]; · (iexists _; isplitr; swap; (· iexact H48); ipureintro; exact left_D _ _ Adam.corner inb_S3x256_S3x256_0_0 _ _ _ _ _ rfl)
  isplitl [H49]; · (iexists _; isplitr; swap; (· iexact H49); ipureintro; exact left_M _ _ Adam.corner inb_S3x256_S3x256_0_0 _ _ _ rfl)
  isplitl [H50]; · (iexists _; isplitr; swap; (· iexact H50); ipureintro; exact left_V _ _ Adam.corner inb_S3x256_S3x256_0_0 _ _ _ rfl)
  isplitl [H51]; · (iexists _; isplitr; swap; (· iexact H51); ipureintro; exact left_D _ _ Adam.corner inb_S1x1024_S1x1024_0_0 _ _ _ _ _ rfl)
  isplitl [H52]; · (iexists _; isplitr; swap; (· iexact H52); ipureintro; exact left_M _ _ Adam.corner inb_S1x1024_S1x1024_0_0 _ _ _ rfl)
  isplitl [H53]; · (iexists _; isplitr; swap; (· iexact H53); ipureintro; exact left_V _ _ Adam.corner inb_S1x1024_S1x1024_0_0 _ _ _ rfl)
  isplitl [H54]; · (iexists _; isplitr; swap; (· iexact H54); ipureintro; exact left_D _ _ Adam.corner inb_S3x704_S3x704_0_0 _ _ _ _ _ rfl)
  isplitl [H55]; · (iexists _; isplitr; swap; (· iexact H55); ipureintro; exact left_M _ _ Adam.corner inb_S3x704_S3x704_0_0 _ _ _ rfl)
  isplitl [H56]; · (iexists _; isplitr; swap; (· iexact H56); ipureintro; exact left_V _ _ Adam.corner inb_S3x704_S3x704_0_0 _ _ _ rfl)
  isplitl [H57]; · (iexists _; isplitr; swap; (· iexact H57); ipureintro; exact left_D _ _ Adam.corner inb_S1x2816_S1x2816_0_0 _ _ _ _ _ rfl)
  isplitl [H58]; · (iexists _; isplitr; swap; (· iexact H58); ipureintro; exact left_M _ _ Adam.corner inb_S1x2816_S1x2816_0_0 _ _ _ rfl)
  isplitl [H59]; · (iexists _; isplitr; swap; (· iexact H59); ipureintro; exact left_V _ _ Adam.corner inb_S1x2816_S1x2816_0_0 _ _ _ rfl)
  isplitl [H60]; · (iexists _; isplitr; swap; (· iexact H60); ipureintro; exact left_D _ _ Adam.corner inb_S1x1024_S1x1024_0_0 _ _ _ _ _ rfl)
  isplitl [H61]; · (iexists _; isplitr; swap; (· iexact H61); ipureintro; exact left_M _ _ Adam.corner inb_S1x1024_S1x1024_0_0 _ _ _ rfl)
  iexists _; isplitr; swap; · iexact H62
  ipureintro; exact left_V _ _ Adam.corner inb_S1x1024_S1x1024_0_0 _ _ _ rfl

end Cert.AdamSmallIdeal.Small

end
-- ==== Proof.Adam.SmallRun.lean ====
module

public import proofs.«01_k».proof.Proof.Adam.SmallBody
public import Idealize.ShloMosaic.Lib.Claim

/-! The run of the optimiser's call on the nine small parameters: every point's proof data, the body's obligation, and the arrays it ends with. -/

@[expose] public section

set_option maxRecDepth 16384

noncomputable section

namespace Cert.AdamSmallIdeal.Small

open Cert.AdamSmallIdeal Cert.AdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the call begins: as launched. -/
abbrev V (c : Dev nD) (b : Ref sig .tc) : Buf (Elt F) ((c : Thread nD τ).loc b) := m ((c : Thread nD τ).loc b)

/-- The program up to the call: the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the body leaves in window `w`'s buffer: an input's block, an output's step. -/
def left (c : Dev nD) (w : Fin cfg0.W) (t : Fin cfg0.N) : (cfg0.win w).block.Idx → Elt F (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => iblk m c 6 t
  | ⟨7, _⟩ => iblk m c 7 t
  | ⟨8, _⟩ => iblk m c 8 t
  | ⟨9, _⟩ => iblk m c 9 t
  | ⟨10, _⟩ => iblk m c 10 t
  | ⟨11, _⟩ => iblk m c 11 t
  | ⟨12, _⟩ => iblk m c 12 t
  | ⟨13, _⟩ => iblk m c 13 t
  | ⟨14, _⟩ => iblk m c 14 t
  | ⟨15, _⟩ => iblk m c 15 t
  | ⟨16, _⟩ => iblk m c 16 t
  | ⟨17, _⟩ => iblk m c 17 t
  | ⟨18, _⟩ => iblk m c 18 t
  | ⟨19, _⟩ => iblk m c 19 t
  | ⟨20, _⟩ => iblk m c 20 t
  | ⟨21, _⟩ => iblk m c 21 t
  | ⟨22, _⟩ => iblk m c 22 t
  | ⟨23, _⟩ => iblk m c 23 t
  | ⟨24, _⟩ => iblk m c 24 t
  | ⟨25, _⟩ => iblk m c 25 t
  | ⟨26, _⟩ => iblk m c 26 t
  | ⟨27, _⟩ => iblk m c 27 t
  | ⟨28, _⟩ => iblk m c 28 t
  | ⟨29, _⟩ => iblk m c 29 t
  | ⟨30, _⟩ => iblk m c 30 t
  | ⟨31, _⟩ => iblk m c 31 t
  | ⟨32, _⟩ => iblk m c 32 t
  | ⟨33, _⟩ => iblk m c 33 t
  | ⟨34, _⟩ => iblk m c 34 t
  | ⟨35, _⟩ => iblk m c 35 t
  | ⟨36, _⟩ => stepD (iblk m c 0 t) (iblk m c 1 t) (iblk m c 2 t) (iblk m c 3 t)
  | ⟨37, _⟩ => stepM (iblk m c 1 t) (iblk m c 2 t)
  | ⟨38, _⟩ => stepV (iblk m c 1 t) (iblk m c 3 t)
  | ⟨39, _⟩ => stepD (iblk m c 4 t) (iblk m c 5 t) (iblk m c 6 t) (iblk m c 7 t)
  | ⟨40, _⟩ => stepM (iblk m c 5 t) (iblk m c 6 t)
  | ⟨41, _⟩ => stepV (iblk m c 5 t) (iblk m c 7 t)
  | ⟨42, _⟩ => stepD (iblk m c 8 t) (iblk m c 9 t) (iblk m c 10 t) (iblk m c 11 t)
  | ⟨43, _⟩ => stepM (iblk m c 9 t) (iblk m c 10 t)
  | ⟨44, _⟩ => stepV (iblk m c 9 t) (iblk m c 11 t)
  | ⟨45, _⟩ => stepD (iblk m c 12 t) (iblk m c 13 t) (iblk m c 14 t) (iblk m c 15 t)
  | ⟨46, _⟩ => stepM (iblk m c 13 t) (iblk m c 14 t)
  | ⟨47, _⟩ => stepV (iblk m c 13 t) (iblk m c 15 t)
  | ⟨48, _⟩ => stepD (iblk m c 16 t) (iblk m c 17 t) (iblk m c 18 t) (iblk m c 19 t)
  | ⟨49, _⟩ => stepM (iblk m c 17 t) (iblk m c 18 t)
  | ⟨50, _⟩ => stepV (iblk m c 17 t) (iblk m c 19 t)
  | ⟨51, _⟩ => stepD (iblk m c 20 t) (iblk m c 21 t) (iblk m c 22 t) (iblk m c 23 t)
  | ⟨52, _⟩ => stepM (iblk m c 21 t) (iblk m c 22 t)
  | ⟨53, _⟩ => stepV (iblk m c 21 t) (iblk m c 23 t)
  | ⟨54, _⟩ => stepD (iblk m c 24 t) (iblk m c 25 t) (iblk m c 26 t) (iblk m c 27 t)
  | ⟨55, _⟩ => stepM (iblk m c 25 t) (iblk m c 26 t)
  | ⟨56, _⟩ => stepV (iblk m c 25 t) (iblk m c 27 t)
  | ⟨57, _⟩ => stepD (iblk m c 28 t) (iblk m c 29 t) (iblk m c 30 t) (iblk m c 31 t)
  | ⟨58, _⟩ => stepM (iblk m c 29 t) (iblk m c 30 t)
  | ⟨59, _⟩ => stepV (iblk m c 29 t) (iblk m c 31 t)
  | ⟨60, _⟩ => stepD (iblk m c 32 t) (iblk m c 33 t) (iblk m c 34 t) (iblk m c 35 t)
  | ⟨61, _⟩ => stepM (iblk m c 33 t) (iblk m c 34 t)
  | ⟨62, _⟩ => stepV (iblk m c 33 t) (iblk m c 35 t)
  | ⟨_ + 63, h⟩ => absurd h (Nat.not_lt.2 (Nat.le_add_left _ _))

/-- The proof data. -/
def dats (_ : Fin 1) (c : Dev nD) : Dat τ (Elt F) Unit ℕ (UR sig nD τ) ℕ cfg0 c where
  A w := V m c (Pipeline.arrRef spec0 w)
  after w t := left m c w t
  Φ _ := Pipeline.ΦA spec0 c
  q _ := fullShare
  owed _ := 0

theorem A_eq (c : Dev nD) (w : Fin cfg0.W) : (dats m 0 c).A w = V m c (Pipeline.arrRef spec0 w) := rfl

theorem after_eq (c : Dev nD) (w : Fin cfg0.W) (t : Fin cfg0.N) : (dats m 0 c).after w t = left m c w t := rfl

/-- A fetched input holds its block before the body. -/
theorem before_in (c : Dev nD) (w : Fin cfg0.W) (t : Fin cfg0.N) (hf : (cfg0.win w).fetch t = true)
    (h : ∀ d, (dats m 0 c).fetched w t d = left m c w t) (d) : (dats m 0 c).before w t d = left m c w t :=
  ((dats m 0 c).before_fetched w t hf d).trans (h d)

set_option maxHeartbeats 8000000 in
/-- The body at the point, over all windows at once. -/
theorem sound_body (c : Dev nD) (t : Fin cfg0.N) :
    iprop((dats m 0 c).Φ t.castSucc ∗ (dats m 0 c).owesAt () t.castSucc
      ∗ bigSep Finset.univ fun w : Fin 63 => iprop(∃ d, owns (c : Thread nD τ) ((cfg0.win w).stage (cfg0.slots t w)) fullShare ((dats m 0 c).before w t d)))
    ⊢ wp frame (wpE (defs₀ (F := F)) Variants.none c none) Set.univ (bodyAt0 t) fun _ =>
      iprop((dats m 0 c).Φ t.succ ∗ (dats m 0 c).owesAt () t.succ
        ∗ bigSep Finset.univ fun w : Fin 63 => owns (c : Thread nD τ) ((cfg0.win w).stage (cfg0.slots t w)) fullShare ((dats m 0 c).after w t)) := by
  rw [bigSep_W0, bigSep_W0]
  beta_reduce
  rw [show (dats m 0 c).Φ t.succ = (dats m 0 c).Φ t.castSucc from rfl,
    show (dats m 0 c).owesAt () t.succ = (dats m 0 c).owesAt () t.castSucc from rfl]
  simp only [after_eq, before_in m c 0 t (fetch0_0 t) (fun _ => rfl), before_in m c 1 t (fetch0_1 t) (fun _ => rfl), before_in m c 2 t (fetch0_2 t) (fun _ => rfl),
    before_in m c 3 t (fetch0_3 t) (fun _ => rfl), before_in m c 4 t (fetch0_4 t) (fun _ => rfl), before_in m c 5 t (fetch0_5 t) (fun _ => rfl),
    before_in m c 6 t (fetch0_6 t) (fun _ => rfl), before_in m c 7 t (fetch0_7 t) (fun _ => rfl), before_in m c 8 t (fetch0_8 t) (fun _ => rfl),
    before_in m c 9 t (fetch0_9 t) (fun _ => rfl), before_in m c 10 t (fetch0_10 t) (fun _ => rfl), before_in m c 11 t (fetch0_11 t) (fun _ => rfl),
    before_in m c 12 t (fetch0_12 t) (fun _ => rfl), before_in m c 13 t (fetch0_13 t) (fun _ => rfl), before_in m c 14 t (fetch0_14 t) (fun _ => rfl),
    before_in m c 15 t (fetch0_15 t) (fun _ => rfl), before_in m c 16 t (fetch0_16 t) (fun _ => rfl), before_in m c 17 t (fetch0_17 t) (fun _ => rfl),
    before_in m c 18 t (fetch0_18 t) (fun _ => rfl), before_in m c 19 t (fetch0_19 t) (fun _ => rfl), before_in m c 20 t (fetch0_20 t) (fun _ => rfl),
    before_in m c 21 t (fetch0_21 t) (fun _ => rfl), before_in m c 22 t (fetch0_22 t) (fun _ => rfl), before_in m c 23 t (fetch0_23 t) (fun _ => rfl),
    before_in m c 24 t (fetch0_24 t) (fun _ => rfl), before_in m c 25 t (fetch0_25 t) (fun _ => rfl), before_in m c 26 t (fetch0_26 t) (fun _ => rfl),
    before_in m c 27 t (fetch0_27 t) (fun _ => rfl), before_in m c 28 t (fetch0_28 t) (fun _ => rfl), before_in m c 29 t (fetch0_29 t) (fun _ => rfl),
    before_in m c 30 t (fetch0_30 t) (fun _ => rfl), before_in m c 31 t (fetch0_31 t) (fun _ => rfl), before_in m c 32 t (fetch0_32 t) (fun _ => rfl),
    before_in m c 33 t (fetch0_33 t) (fun _ => rfl), before_in m c 34 t (fetch0_34 t) (fun _ => rfl), before_in m c 35 t (fetch0_35 t) (fun _ => rfl)]
  dsimp only [left]
  unfold bodyAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩,
    ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩,
    ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩,
    ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩,
    ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩,
    ⟨%d57, H57⟩, ⟨%d58, H58⟩, ⟨%d59, H59⟩, ⟨%d60, H60⟩, ⟨%d61, H61⟩, ⟨%d62, H62⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t)
    (iblk m c 3 t) (iblk m c 4 t) (iblk m c 5 t) (iblk m c 6 t) (iblk m c 7 t) (iblk m c 8 t) (iblk m c 9 t) (iblk m c 10 t) (iblk m c 11 t)
    (iblk m c 12 t) (iblk m c 13 t) (iblk m c 14 t) (iblk m c 15 t) (iblk m c 16 t) (iblk m c 17 t) (iblk m c 18 t) (iblk m c 19 t) (iblk m c 20 t)
    (iblk m c 21 t) (iblk m c 22 t) (iblk m c 23 t) (iblk m c 24 t) (iblk m c 25 t) (iblk m c 26 t) (iblk m c 27 t) (iblk m c 28 t) (iblk m c 29 t)
    (iblk m c 30 t) (iblk m c 31 t) (iblk m c 32 t) (iblk m c 33 t) (iblk m c 34 t) (iblk m c 35 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · (iexists _; iexact H36)
  isplitl [H37]; · (iexists _; iexact H37)
  isplitl [H38]; · (iexists _; iexact H38)
  isplitl [H39]; · (iexists _; iexact H39)
  isplitl [H40]; · (iexists _; iexact H40)
  isplitl [H41]; · (iexists _; iexact H41)
  isplitl [H42]; · (iexists _; iexact H42)
  isplitl [H43]; · (iexists _; iexact H43)
  isplitl [H44]; · (iexists _; iexact H44)
  isplitl [H45]; · (iexists _; iexact H45)
  isplitl [H46]; · (iexists _; iexact H46)
  isplitl [H47]; · (iexists _; iexact H47)
  isplitl [H48]; · (iexists _; iexact H48)
  isplitl [H49]; · (iexists _; iexact H49)
  isplitl [H50]; · (iexists _; iexact H50)
  isplitl [H51]; · (iexists _; iexact H51)
  isplitl [H52]; · (iexists _; iexact H52)
  isplitl [H53]; · (iexists _; iexact H53)
  isplitl [H54]; · (iexists _; iexact H54)
  isplitl [H55]; · (iexists _; iexact H55)
  isplitl [H56]; · (iexists _; iexact H56)
  isplitl [H57]; · (iexists _; iexact H57)
  isplitl [H58]; · (iexists _; iexact H58)
  isplitl [H59]; · (iexists _; iexact H59)
  isplitl [H60]; · (iexists _; iexact H60)
  isplitl [H61]; · (iexists _; iexact H61)
  isplitl [H62]; · (iexists _; iexact H62)
  iintro ⟨H0, H1, H2, H3, H4, H5, H6, H7, H8, H9, H10, H11, H12, H13, H14, H15, H16, H17, H18, H19, H20, H21, H22, H23, H24, H25, H26, H27, H28, H29, H30, H31,
    H32, H33, H34, H35, H36, H37, H38, H39, H40, H41, H42, H43, H44, H45, H46, H47, H48, H49, H50, H51, H52, H53, H54, H55, H56, H57, H58, H59, H60, H61,
    H62⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  iexact H62

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body's obligation. -/
theorem body_obligation (c : Dev nD) : BodyObligation (dats (F := F) m 0 c) (defs₀ (F := F)) Variants.none () Set.univ := fun t => by
  rw [defs₀_row]
  exact sound_body m c t

set_option backward.isDefEq.respectTransparency.types false in
set_option maxHeartbeats 4000000 in
/-- The launch: every array ends at what the proof data compute, every counter at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.AdamSmallIdeal.Small

end
-- ==== Proof.Adam.Small.lean ====
module

public import proofs.«01_k».proof.Defs
public import proofs.«01_k».proof.Proof.Adam.SmallRun
public import proofs.«01_k».proof.Proof.Gen.AdamSmallRefIdeal.Run
public import Idealize.ShloMosaic.Lib.Pipeline.ValueKit

/-! The optimiser's call on the nine small parameters: each of its 27 arrays is one AdamW step of every element, as in the reference. -/

@[expose] public section

set_option maxRecDepth 16384

noncomputable section

namespace Cert.AdamSmallIdeal.Small

open Cert.AdamSmallIdeal Cert.AdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every output's one block is its whole array. -/
theorem covers (w : Fin cfg0.W) (hw : 36 ≤ w.val) : (cfg0.win w).Covers :=
  (by decide +kernel : ∀ w : Fin 63, 36 ≤ w.val → (win0 w).Covers) w hw

/-- So an output's array ends at `G` if what the body leaves in its buffer is `G`. -/
theorem out_eq {r : PUnit × MemSt nD τ sig (Elt F)} (h : Pipeline.FramePost cfgs (dats m) 0 (V m) r) (c : Dev nD) (w : Fin cfg0.W) (hw : 36 ≤ w.val)
    (G : Buf (Elt F) ((cfg0.win w).arr.view.loc (c.tc : Thread nD τ)))
    (hG : ∀ (t : Fin cfg0.N) (y : ((cfg0.win w).xblock (cfg0.grid.coords t)).Idx),
      _root_.cast (congrArg (Elt F) ((cfg0.win w).blk t).view.elt_eq.symm) (left m c w t ((cfg0.win w).xinj (cfg0.grid.coords t) y))
        = G (((cfg0.win w).blk t).view.emb y)) :
    r.2.mem (((cfg0).spec w).arr.view.loc (c.tc : Thread nD τ)) = G :=
  (h.out_eq c w).trans ((dats m 0 c).arrAt_eq_of_covers w G (covers w hw) (fun t _ y => hG t y) (arr_whole0 w))

/-- A step's element depends on the arguments' elements alone. -/
theorem stepM_at {S S' : Shape} {g a : Vec F S .f32} {g' a' : Vec F S' .f32} {i : S.Idx} {j : S'.Idx} (hg : g i = g' j) (ha : a i = a' j) :
    stepM g a i = stepM g' a' j := by
  show stepM (fun _ => g i) (fun _ => a i) i = stepM (fun _ => g' j) (fun _ => a' j) j
  rw [hg, ha]; rfl
theorem stepV_at {S S' : Shape} {g b : Vec F S .f32} {g' b' : Vec F S' .f32} {i : S.Idx} {j : S'.Idx} (hg : g i = g' j) (hb : b i = b' j) :
    stepV g b i = stepV g' b' j := by
  show stepV (fun _ => g i) (fun _ => b i) i = stepV (fun _ => g' j) (fun _ => b' j) j
  rw [hg, hb]; rfl
theorem stepD_at {S S' : Shape} {w g a b : Vec F S .f32} {w' g' a' b' : Vec F S' .f32} {i : S.Idx} {j : S'.Idx} (hw : w i = w' j) (hg : g i = g' j)
    (ha : a i = a' j) (hb : b i = b' j) : stepD w g a b i = stepD w' g' a' b' j := by
  show stepD (fun _ => w i) (fun _ => g i) (fun _ => a i) (fun _ => b i) i = stepD (fun _ => w' j) (fun _ => g' j) (fun _ => a' j) (fun _ => b' j) j
  rw [hw, hg, ha, hb]; rfl

/-- The arguments are unchanged on core `c`. -/
abbrev Kept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27)
    ∧ r.2.mem ((c.tc : Thread nD τ).loc main_arg28) = m ((c.tc : Thread nD τ).loc main_arg28)
    ∧ r.2.mem ((c.tc : Thread nD τ).loc main_arg29) = m ((c.tc : Thread nD τ).loc main_arg29)
    ∧ r.2.mem ((c.tc : Thread nD τ).loc main_arg30) = m ((c.tc : Thread nD τ).loc main_arg30)
    ∧ r.2.mem ((c.tc : Thread nD τ).loc main_arg31) = m ((c.tc : Thread nD τ).loc main_arg31)
    ∧ r.2.mem ((c.tc : Thread nD τ).loc main_arg32) = m ((c.tc : Thread nD τ).loc main_arg32)
    ∧ r.2.mem ((c.tc : Thread nD τ).loc main_arg33) = m ((c.tc : Thread nD τ).loc main_arg33)
    ∧ r.2.mem ((c.tc : Thread nD τ).loc main_arg34) = m ((c.tc : Thread nD τ).loc main_arg34)
    ∧ r.2.mem ((c.tc : Thread nD τ).loc main_arg35) = m ((c.tc : Thread nD τ).loc main_arg35)

set_option maxHeartbeats 4000000 in
theorem kept {r : PUnit × MemSt nD τ sig (Elt F)} (h : Pipeline.FramePost cfgs (dats m) 0 (V m) r) (c : Dev nD) : Kept m r c :=
  ⟨h.in_eq c 0 rfl, h.in_eq c 1 rfl, h.in_eq c 2 rfl, h.in_eq c 3 rfl, h.in_eq c 4 rfl, h.in_eq c 5 rfl, h.in_eq c 6 rfl, h.in_eq c 7 rfl,
    h.in_eq c 8 rfl, h.in_eq c 9 rfl, h.in_eq c 10 rfl, h.in_eq c 11 rfl, h.in_eq c 12 rfl, h.in_eq c 13 rfl, h.in_eq c 14 rfl, h.in_eq c 15 rfl,
    h.in_eq c 16 rfl, h.in_eq c 17 rfl, h.in_eq c 18 rfl, h.in_eq c 19 rfl, h.in_eq c 20 rfl, h.in_eq c 21 rfl, h.in_eq c 22 rfl, h.in_eq c 23 rfl,
    h.in_eq c 24 rfl, h.in_eq c 25 rfl, h.in_eq c 26 rfl, h.in_eq c 27 rfl, h.in_eq c 28 rfl, h.in_eq c 29 rfl, h.in_eq c 30 rfl, h.in_eq c 31 rfl,
    h.in_eq c 32 rfl, h.in_eq c 33 rfl, h.in_eq c 34 rfl, h.in_eq c 35 rfl⟩

/-- The run leaves the arguments unchanged and every counter at zero, at any element semantics. -/
theorem frame_any : θ_run defs (onTc (τ := τ) (main (F := F))) ⟨m, fun _ => 0, ρ⟩ (fun r => (∀ c : Dev nD, Kept m r c) ∧ r.2.sem = fun _ => 0) :=
  (θ_run defs _ _).mono (fun _ h => ⟨kept m h.1, h.2⟩) (run_all m ρ)

set_option maxHeartbeats 16000000 in
/-- The arrays the run ends with, as operations of the arguments. -/
theorem run : θ_run defs (onTc (τ := τ) (main (F := F))) ⟨m, fun _ => 0, ρ⟩ fun r => ∀ c : Dev nD,
      r.2.mem ((c : Thread nD τ).loc main_v0_0) = stepD (S := S16x256) (V m c main_arg0) (V m c main_arg1) (V m c main_arg2) (V m c main_arg3)
      ∧ r.2.mem ((c : Thread nD τ).loc main_v0_1) = stepM (S := S16x256) (V m c main_arg1) (V m c main_arg2)
      ∧ r.2.mem ((c : Thread nD τ).loc main_v0_2) = stepV (S := S16x256) (V m c main_arg1) (V m c main_arg3)
      ∧ r.2.mem ((c : Thread nD τ).loc main_v0_3) = stepD (S := S2x1024) (V m c main_arg4) (V m c main_arg5) (V m c main_arg6) (V m c main_arg7)
      ∧ r.2.mem ((c : Thread nD τ).loc main_v0_4) = stepM (S := S2x1024) (V m c main_arg5) (V m c main_arg6)
      ∧ r.2.mem ((c : Thread nD τ).loc main_v0_5) = stepV (S := S2x1024) (V m c main_arg5) (V m c main_arg7)
      ∧ r.2.mem ((c : Thread nD τ).loc main_v0_6) = stepD (S := S1x1024) (V m c main_arg8) (V m c main_arg9) (V m c main_arg10) (V m c main_arg11)
      ∧ r.2.mem ((c : Thread nD τ).loc main_v0_7) = stepM (S := S1x1024) (V m c main_arg9) (V m c main_arg10)
      ∧ r.2.mem ((c : Thread nD τ).loc main_v0_8) = stepV (S := S1x1024) (V m c main_arg9) (V m c main_arg11)
      ∧ r.2.mem ((c : Thread nD τ).loc main_v0_9) = stepD (S := S1x128) (V m c main_arg12) (V m c main_arg13) (V m c main_arg14) (V m c main_arg15)
      ∧ r.2.mem ((c : Thread nD τ).loc main_v0_10) = stepM (S := S1x128) (V m c main_arg13) (V m c main_arg14)
      ∧ r.2.mem ((c : Thread nD τ).loc main_v0_11) = stepV (S := S1x128) (V m c main_arg13) (V m c main_arg15)
      ∧ r.2.mem ((c : Thread nD τ).loc main_v0_12) = stepD (S := S3x256) (V m c main_arg16) (V m c main_arg17) (V m c main_arg18) (V m c main_arg19)
      ∧ r.2.mem ((c : Thread nD τ).loc main_v0_13) = stepM (S := S3x256) (V m c main_arg17) (V m c main_arg18)
      ∧ r.2.mem ((c : Thread nD τ).loc main_v0_14) = stepV (S := S3x256) (V m c main_arg17) (V m c main_arg19)
      ∧ r.2.mem ((c : Thread nD τ).loc main_v0_15) = stepD (S := S1x1024) (V m c main_arg20) (V m c main_arg21) (V m c main_arg22) (V m c main_arg23)
      ∧ r.2.mem ((c : Thread nD τ).loc main_v0_16) = stepM (S := S1x1024) (V m c main_arg21) (V m c main_arg22)
      ∧ r.2.mem ((c : Thread nD τ).loc main_v0_17) = stepV (S := S1x1024) (V m c main_arg21) (V m c main_arg23)
      ∧ r.2.mem ((c : Thread nD τ).loc main_v0_18) = stepD (S := S3x704) (V m c main_arg24) (V m c main_arg25) (V m c main_arg26) (V m c main_arg27)
      ∧ r.2.mem ((c : Thread nD τ).loc main_v0_19) = stepM (S := S3x704) (V m c main_arg25) (V m c main_arg26)
      ∧ r.2.mem ((c : Thread nD τ).loc main_v0_20) = stepV (S := S3x704) (V m c main_arg25) (V m c main_arg27)
      ∧ r.2.mem ((c : Thread nD τ).loc main_v0_21) = stepD (S := S1x2816) (V m c main_arg28) (V m c main_arg29) (V m c main_arg30) (V m c main_arg31)
      ∧ r.2.mem ((c : Thread nD τ).loc main_v0_22) = stepM (S := S1x2816) (V m c main_arg29) (V m c main_arg30)
      ∧ r.2.mem ((c : Thread nD τ).loc main_v0_23) = stepV (S := S1x2816) (V m c main_arg29) (V m c main_arg31)
      ∧ r.2.mem ((c : Thread nD τ).loc main_v0_24) = stepD (S := S1x1024) (V m c main_arg32) (V m c main_arg33) (V m c main_arg34) (V m c main_arg35)
      ∧ r.2.mem ((c : Thread nD τ).loc main_v0_25) = stepM (S := S1x1024) (V m c main_arg33) (V m c main_arg34)
      ∧ r.2.mem ((c : Thread nD τ).loc main_v0_26) = stepV (S := S1x1024) (V m c main_arg33) (V m c main_arg35)
      ∧ Kept m r c := by
  refine (θ_run defs _ _).mono (fun r h c => ?_) (run_all m ρ)
  replace h := h.1
  refine ⟨?_, ?_, ?_, ?_, ?_, ?_, ?_, ?_, ?_, ?_, ?_, ?_, ?_, ?_, ?_, ?_, ?_, ?_, ?_, ?_, ?_, ?_, ?_, ?_, ?_, ?_, ?_, kept m h c⟩
  · exact out_eq m h c 36 (by decide) _ fun _ _ => stepD_at rfl rfl rfl rfl
  · exact out_eq m h c 37 (by decide) _ fun _ _ => stepM_at rfl rfl
  · exact out_eq m h c 38 (by decide) _ fun _ _ => stepV_at rfl rfl
  · exact out_eq m h c 39 (by decide) _ fun _ _ => stepD_at rfl rfl rfl rfl
  · exact out_eq m h c 40 (by decide) _ fun _ _ => stepM_at rfl rfl
  · exact out_eq m h c 41 (by decide) _ fun _ _ => stepV_at rfl rfl
  · exact out_eq m h c 42 (by decide) _ fun _ _ => stepD_at rfl rfl rfl rfl
  · exact out_eq m h c 43 (by decide) _ fun _ _ => stepM_at rfl rfl
  · exact out_eq m h c 44 (by decide) _ fun _ _ => stepV_at rfl rfl
  · exact out_eq m h c 45 (by decide) _ fun _ _ => stepD_at rfl rfl rfl rfl
  · exact out_eq m h c 46 (by decide) _ fun _ _ => stepM_at rfl rfl
  · exact out_eq m h c 47 (by decide) _ fun _ _ => stepV_at rfl rfl
  · exact out_eq m h c 48 (by decide) _ fun _ _ => stepD_at rfl rfl rfl rfl
  · exact out_eq m h c 49 (by decide) _ fun _ _ => stepM_at rfl rfl
  · exact out_eq m h c 50 (by decide) _ fun _ _ => stepV_at rfl rfl
  · exact out_eq m h c 51 (by decide) _ fun _ _ => stepD_at rfl rfl rfl rfl
  · exact out_eq m h c 52 (by decide) _ fun _ _ => stepM_at rfl rfl
  · exact out_eq m h c 53 (by decide) _ fun _ _ => stepV_at rfl rfl
  · exact out_eq m h c 54 (by decide) _ fun _ _ => stepD_at rfl rfl rfl rfl
  · exact out_eq m h c 55 (by decide) _ fun _ _ => stepM_at rfl rfl
  · exact out_eq m h c 56 (by decide) _ fun _ _ => stepV_at rfl rfl
  · exact out_eq m h c 57 (by decide) _ fun _ _ => stepD_at rfl rfl rfl rfl
  · exact out_eq m h c 58 (by decide) _ fun _ _ => stepM_at rfl rfl
  · exact out_eq m h c 59 (by decide) _ fun _ _ => stepV_at rfl rfl
  · exact out_eq m h c 60 (by decide) _ fun _ _ => stepD_at rfl rfl rfl rfl
  · exact out_eq m h c 61 (by decide) _ fun _ _ => stepM_at rfl rfl
  · exact out_eq m h c 62 (by decide) _ fun _ _ => stepV_at rfl rfl

end Cert.AdamSmallIdeal.Small

namespace Cert.Proof

open Idealize.ShloMosaic Idealize.SL.Sem

set_option maxHeartbeats 4000000 in
/-- Kernel and reference compute the same 27 arrays, for any arguments. -/
theorem algebraic_AdamSmallIdeal_AdamSmallRefIdeal : algebraic_AdamSmallIdeal_AdamSmallRefIdeal := by
  intro m ρ m' ρ' _ hagree
  refine ⟨_, _, _, _, _, _, _, _, _, _, _, _, _, _, _, _, _, _, _, _, _, _, _, _, _, _, _, Cert.AdamSmallIdeal.Small.run (F := Ideal) m ρ, ?_⟩
  refine (θ_run Cert.AdamSmallRefIdeal.defs _ _).mono (fun _ h c => ?_) (Cert.AdamSmallRefIdeal.Value.run (F := Ideal) m' ρ')
  obtain ⟨r1, r2, r3, r4, r5, r6, r7, r8, r9, r10, r11, r12, r13, r14, r15, r16, r17, r18, r19, r20, r21, r22, r23, r24, r25, r26, r27, h⟩ := h c
  refine ⟨r1.trans ?_, r2.trans ?_, r3.trans ?_, r4.trans ?_, r5.trans ?_, r6.trans ?_, r7.trans ?_, r8.trans ?_, r9.trans ?_, r10.trans ?_, r11.trans ?_,
    r12.trans ?_, r13.trans ?_, r14.trans ?_, r15.trans ?_, r16.trans ?_, r17.trans ?_, r18.trans ?_, r19.trans ?_, r20.trans ?_, r21.trans ?_,
    r22.trans ?_, r23.trans ?_, r24.trans ?_, r25.trans ?_, r26.trans ?_, r27.trans ?_, h⟩
  all_goals simp only [hagree c]
  all_goals rfl

end Cert.Proof

end
-- ==== Proof.Adam.SmallTwin.lean ====
module

public import proofs.«01_k».proof.Defs
public import proofs.«01_k».proof.Proof.Adam.Small
public import proofs.«01_k».proof.Proof.Gen.AdamSmall

/-! The program on the nine small parameters and its idealized reading have the same text, so the frame of the first is that of the second
    at machine floats. -/

@[expose] public section

noncomputable section

namespace Cert.AdamSmallIdeal.Small

open Idealize.ShloMosaic Idealize.SL.Sem

set_option maxHeartbeats 16000000 in
theorem body_eq : Cert.AdamSmall.cc0_adamw_small (F := Bits) = Cert.AdamSmallIdeal.cc0_adamw_small (F := Bits) := rfl

set_option maxHeartbeats 4000000 in
theorem defs0_eq : Cert.AdamSmall.defs₀ (F := Bits) = Cert.AdamSmallIdeal.defs₀ (F := Bits) := by
  unfold Cert.AdamSmall.defs₀ Cert.AdamSmallIdeal.defs₀
  rw [body_eq]
  refine congrArg Defs.onTc ?_
  funext l a
  match l, a with
  | ⟨0, _⟩, (t, s) => rfl

set_option maxHeartbeats 16000000 in
theorem defs_eq : Cert.AdamSmall.defs (F := Bits) = Cert.AdamSmallIdeal.defs (F := Bits) := by
  unfold Cert.AdamSmall.defs Cert.AdamSmallIdeal.defs
  exact congrArg (Pipeline.defs Cert.AdamSmallIdeal.pcfgs) defs0_eq

set_option maxHeartbeats 4000000 in
/-- The frame of the program at machine floats. -/
theorem frame_kernel : Cert.quiescent_AdamSmall := by
  intro m ρ _
  have h := frame_any (F := Bits) m ρ
  rw [← defs_eq] at h
  exact h

end Cert.AdamSmallIdeal.Small

end
-- ==== Proof.lean ====
module

public import proofs.«01_k».proof.Defs
public import proofs.«01_k».proof.Proof.Ffn.Twin
public import proofs.«01_k».proof.Proof.Ffn.Claim
public import proofs.«01_k».proof.Proof.Dw.DwIn
public import proofs.«01_k».proof.Proof.Dw.DwUp
public import proofs.«01_k».proof.Proof.Fwd.Claim
public import proofs.«01_k».proof.Proof.Adam.In
public import proofs.«01_k».proof.Proof.Adam.Out
public import proofs.«01_k».proof.Proof.Adam.Up
public import proofs.«01_k».proof.Proof.Adam.Down
public import proofs.«01_k».proof.Proof.Adam.SmallTwin
public import proofs.«01_k».proof.Proof.Gen.AdamSmallRefIdeal.Run
public import proofs.«01_k».proof.Proof.Gen.AdamSmall
public import proofs.«01_k».proof.Proof.Gen.Kernel
public import proofs.«01_k».proof.Proof.Gen.ReferenceIdeal.Run
public import proofs.«01_k».proof.Proof.Gen.Pre_finite
public import proofs.«01_k».proof.Proof.Gen.DwIn.Frame
public import proofs.«01_k».proof.Proof.Gen.DwInIdeal.Value
public import proofs.«01_k».proof.Proof.Gen.DwInRefIdeal.Run
public import proofs.«01_k».proof.Proof.Gen.DwUp.Frame
public import proofs.«01_k».proof.Proof.Gen.DwUpIdeal.Value
public import proofs.«01_k».proof.Proof.Gen.DwUpRefIdeal.Run
public import proofs.«01_k».proof.Proof.Gen.FfnFwd.Frame
public import proofs.«01_k».proof.Proof.Gen.FfnFwdIdeal.Value
public import proofs.«01_k».proof.Proof.Gen.FfnFwdRefIdeal.Run
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamUp.Frame
public import proofs.«01_k».proof.Proof.Gen.AdamUpIdeal.Value
public import proofs.«01_k».proof.Proof.Gen.AdamUpRefIdeal.Run
public import proofs.«01_k».proof.Proof.Gen.AdamDown.Frame
public import proofs.«01_k».proof.Proof.Gen.AdamDownIdeal.Value
public import proofs.«01_k».proof.Proof.Gen.AdamDownRefIdeal.Run
public import Idealize.ShloMosaic.Adequacy
public import Idealize.ShloMosaic.Init
public import Idealize.ShloMosaic.Lib.Quiescent

@[expose] public section

noncomputable section

namespace Cert.Proof

open Idealize.ShloMosaic Idealize.SL.Sem

theorem quiescent_Kernel : quiescent_Kernel := Cert.KernelIdeal.Ffn.frame_kernel

theorem quiescent_KernelIdeal : quiescent_KernelIdeal := fun m ρ _ => Cert.KernelIdeal.Ffn.frame_any (F := Ideal) m ρ

theorem quiescent_KernelIdeal_pre_none : quiescent_KernelIdeal_pre_none := fun m ρ _ => Cert.KernelIdeal.Ffn.frame_any (F := Ideal) m ρ

theorem quiescent_ReferenceIdeal : quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem quiescent_DwInRefIdeal : quiescent_DwInRefIdeal := fun m ρ _ =>
  (θ_run Cert.DwInRefIdeal.defs _ _).mono (fun r h => ⟨fun c => (h c).2, sem_eq_zero_of_no_sems (by decide) r.2⟩)
    (Cert.DwInRefIdeal.Value.run (F := Ideal) m ρ)

theorem quiescent_DwUpRefIdeal : quiescent_DwUpRefIdeal := fun m ρ _ =>
  (θ_run Cert.DwUpRefIdeal.defs _ _).mono (fun r h => ⟨fun c => (h c).2, sem_eq_zero_of_no_sems (by decide) r.2⟩)
    (Cert.DwUpRefIdeal.Value.run (F := Ideal) m ρ)

theorem quiescent_FfnFwdRefIdeal : quiescent_FfnFwdRefIdeal := fun m ρ _ =>
  (θ_run Cert.FfnFwdRefIdeal.defs _ _).mono (fun r h => ⟨fun c => (h c).2.2.2.2.2.2, sem_eq_zero_of_no_sems (by decide) r.2⟩)
    (Cert.FfnFwdRefIdeal.Value.run (F := Ideal) m ρ)

theorem quiescent_AdamInRefIdeal : quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

theorem quiescent_AdamOutRefIdeal : quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run (F := Ideal) m ρ)

theorem quiescent_AdamUpRefIdeal : quiescent_AdamUpRefIdeal := fun m ρ _ =>
  (θ_run Cert.AdamUpRefIdeal.defs _ _).mono (fun r h => ⟨fun c => (h c).2.2.2.2, sem_eq_zero_of_no_sems (by decide) r.2⟩)
    (Cert.AdamUpRefIdeal.Value.run (F := Ideal) m ρ)

theorem quiescent_AdamDownRefIdeal : quiescent_AdamDownRefIdeal := fun m ρ _ =>
  (θ_run Cert.AdamDownRefIdeal.defs _ _).mono (fun r h => ⟨fun c => (h c).2.2.2.2, sem_eq_zero_of_no_sems (by decide) r.2⟩)
    (Cert.AdamDownRefIdeal.Value.run (F := Ideal) m ρ)

theorem quiescent_AdamSmallRefIdeal : quiescent_AdamSmallRefIdeal := fun m ρ _ =>
  (θ_run Cert.AdamSmallRefIdeal.defs _ _).mono (fun r h => ⟨fun c => (h c).2.2.2.2.2.2.2.2.2.2.2.2.2.2.2.2.2.2.2.2.2.2.2.2.2.2.2, sem_eq_zero_of_no_sems (by decide) r.2⟩)
    (Cert.AdamSmallRefIdeal.Value.run (F := Ideal) m ρ)

theorem claim : Cert.Claim := by
  refine ⟨Cert.Kernel.Gen.facts, Cert.KernelIdeal.Gen.facts, Cert.ReferenceIdeal.Gen.facts, Cert.DwIn.Gen.facts, Cert.DwInIdeal.Gen.facts, Cert.DwInRefIdeal.Gen.facts,
    Cert.DwUp.Gen.facts, Cert.DwUpIdeal.Gen.facts, Cert.DwUpRefIdeal.Gen.facts, Cert.FfnFwd.Gen.facts, Cert.FfnFwdIdeal.Gen.facts, Cert.FfnFwdRefIdeal.Gen.facts,
    Cert.AdamIn.Gen.facts, Cert.AdamInIdeal.Gen.facts, Cert.AdamInRefIdeal.Gen.facts,
    Cert.AdamOut.Gen.facts, Cert.AdamOutIdeal.Gen.facts, Cert.AdamOutRefIdeal.Gen.facts,
    Cert.AdamUp.Gen.facts, Cert.AdamUpIdeal.Gen.facts, Cert.AdamUpRefIdeal.Gen.facts,
    Cert.AdamDown.Gen.facts, Cert.AdamDownIdeal.Gen.facts, Cert.AdamDownRefIdeal.Gen.facts,
    Cert.AdamSmall.Gen.facts, Cert.AdamSmallIdeal.Gen.facts, Cert.AdamSmallRefIdeal.Gen.facts,
    Cert.Pre_finite.Gen.facts, Cert.Pre_finite_fwd.Read.facts, ?_⟩
  exact ⟨quiescent_Kernel, quiescent_KernelIdeal, quiescent_KernelIdeal_pre_none, quiescent_ReferenceIdeal, fun m ρ _ => Cert.DwIn.Gen.frame m ρ, fun m ρ _ => Cert.DwInIdeal.Gen.frame m ρ, quiescent_DwInRefIdeal,
    fun m ρ _ => Cert.DwUp.Gen.frame m ρ, fun m ρ _ => Cert.DwUpIdeal.Gen.frame m ρ, quiescent_DwUpRefIdeal,
    fun m ρ _ => Cert.FfnFwd.Gen.frame m ρ, fun m ρ _ => Cert.FfnFwdIdeal.Gen.frame m ρ, fun m ρ _ => Cert.FfnFwdIdeal.Gen.frame m ρ, quiescent_FfnFwdRefIdeal,
    fun m ρ _ => Cert.AdamIn.Gen.frame m ρ, fun m ρ _ => Cert.AdamInIdeal.Gen.frame m ρ, quiescent_AdamInRefIdeal,
    fun m ρ _ => Cert.AdamOut.Gen.frame m ρ, fun m ρ _ => Cert.AdamOutIdeal.Gen.frame m ρ, quiescent_AdamOutRefIdeal,
    fun m ρ _ => Cert.AdamUp.Gen.frame m ρ, fun m ρ _ => Cert.AdamUpIdeal.Gen.frame m ρ, quiescent_AdamUpRefIdeal,
    fun m ρ _ => Cert.AdamDown.Gen.frame m ρ, fun m ρ _ => Cert.AdamDownIdeal.Gen.frame m ρ, quiescent_AdamDownRefIdeal,
    Cert.AdamSmallIdeal.Small.frame_kernel, fun m ρ _ => Cert.AdamSmallIdeal.Small.frame_any (F := Ideal) m ρ, quiescent_AdamSmallRefIdeal,
    (trivial : preserves_Kernel_KernelIdeal), algebraic_KernelIdeal_ReferenceIdeal, (trivial : preserves_DwIn_DwInIdeal),
    algebraic_DwInIdeal_DwInRefIdeal, (trivial : preserves_DwUp_DwUpIdeal), algebraic_DwUpIdeal_DwUpRefIdeal,
    (trivial : preserves_FfnFwd_FfnFwdIdeal), algebraic_FfnFwdIdeal_FfnFwdRefIdeal,
    (trivial : preserves_AdamIn_AdamInIdeal), algebraic_AdamInIdeal_AdamInRefIdeal,
    (trivial : preserves_AdamOut_AdamOutIdeal), algebraic_AdamOutIdeal_AdamOutRefIdeal,
    (trivial : preserves_AdamUp_AdamUpIdeal), algebraic_AdamUpIdeal_AdamUpRefIdeal,
    (trivial : preserves_AdamDown_AdamDownIdeal), algebraic_AdamDownIdeal_AdamDownRefIdeal,
    (trivial : preserves_AdamSmall_AdamSmallIdeal), algebraic_AdamSmallIdeal_AdamSmallRefIdeal⟩

end Cert.Proof

end
